-- ==== Defs.lean ====
def Pre_SumChips (m : (ℓ : Loc Cert.SumChips.nD Cert.SumChips.τ Cert.SumChips.sig) → Buf (Elt Bits) ℓ) : Prop :=
  True

def Pre_SumChipsIdeal (m : (ℓ : Loc Cert.SumChipsIdeal.nD Cert.SumChipsIdeal.τ Cert.SumChipsIdeal.sig) → Buf (Elt Ideal) ℓ) : Prop :=
  True

def Pre_SumChipsReferenceIdeal (m : (ℓ : Loc Cert.SumChipsReferenceIdeal.nD Cert.SumChipsReferenceIdeal.τ Cert.SumChipsReferenceIdeal.sig) → Buf (Elt Ideal) ℓ) : Prop :=
  True

def Pre_SumChipsReference (m : (ℓ : Loc Cert.SumChipsReference.nD Cert.SumChipsReference.τ Cert.SumChipsReference.sig) → Buf (Elt Bits) ℓ) : Prop :=
  True

def Pre_SumCores (m : (ℓ : Loc Cert.SumCores.nD Cert.SumCores.τ Cert.SumCores.sig) → Buf (Elt Bits) ℓ) : Prop :=
  True

def Pre_SumCoresIdeal (m : (ℓ : Loc Cert.SumCoresIdeal.nD Cert.SumCoresIdeal.τ Cert.SumCoresIdeal.sig) → Buf (Elt Ideal) ℓ) : Prop :=
  True

def Pre_SumCoresReferenceIdeal (m : (ℓ : Loc Cert.SumCoresReferenceIdeal.nD Cert.SumCoresReferenceIdeal.τ Cert.SumCoresReferenceIdeal.sig) → Buf (Elt Ideal) ℓ) : Prop :=
  True

def Pre_SumCoresReference (m : (ℓ : Loc Cert.SumCoresReference.nD Cert.SumCoresReference.τ Cert.SumCoresReference.sig) → Buf (Elt Bits) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallReferenceIdeal (m : (ℓ : Loc Cert.SumSmallReferenceIdeal.nD Cert.SumSmallReferenceIdeal.τ Cert.SumSmallReferenceIdeal.sig) → Buf (Elt Ideal) ℓ) : Prop :=
  True

def Pre_SumSmallReference (m : (ℓ : Loc Cert.SumSmallReference.nD Cert.SumSmallReference.τ Cert.SumSmallReference.sig) → Buf (Elt Bits) ℓ) : Prop :=
  True

def Pre_GatherBig (m : (ℓ : Loc Cert.GatherBig.nD Cert.GatherBig.τ Cert.GatherBig.sig) → Buf (Elt Bits) ℓ) : Prop :=
  True

def Pre_GatherBigIdeal (m : (ℓ : Loc Cert.GatherBigIdeal.nD Cert.GatherBigIdeal.τ Cert.GatherBigIdeal.sig) → Buf (Elt Ideal) ℓ) : Prop :=
  True

def Pre_GatherBigReferenceIdeal (m : (ℓ : Loc Cert.GatherBigReferenceIdeal.nD Cert.GatherBigReferenceIdeal.τ Cert.GatherBigReferenceIdeal.sig) → Buf (Elt Ideal) ℓ) : Prop :=
  True

def Pre_GatherBigReference (m : (ℓ : Loc Cert.GatherBigReference.nD Cert.GatherBigReference.τ Cert.GatherBigReference.sig) → Buf (Elt Bits) ℓ) : Prop :=
  True

def Pre_GatherSmall (m : (ℓ : Loc Cert.GatherSmall.nD Cert.GatherSmall.τ Cert.GatherSmall.sig) → Buf (Elt Bits) ℓ) : Prop :=
  True

def Pre_GatherSmallIdeal (m : (ℓ : Loc Cert.GatherSmallIdeal.nD Cert.GatherSmallIdeal.τ Cert.GatherSmallIdeal.sig) → Buf (Elt Ideal) ℓ) : Prop :=
  True

def Pre_GatherSmallReferenceIdeal (m : (ℓ : Loc Cert.GatherSmallReferenceIdeal.nD Cert.GatherSmallReferenceIdeal.τ Cert.GatherSmallReferenceIdeal.sig) → Buf (Elt Ideal) ℓ) : Prop :=
  True

def Pre_GatherSmallReference (m : (ℓ : Loc Cert.GatherSmallReference.nD Cert.GatherSmallReference.τ Cert.GatherSmallReference.sig) → Buf (Elt Bits) ℓ) : Prop :=
  True

def Pre_GatherC (m : (ℓ : Loc Cert.GatherC.nD Cert.GatherC.τ Cert.GatherC.sig) → Buf (Elt Bits) ℓ) : Prop :=
  True

def Pre_GatherCIdeal (m : (ℓ : Loc Cert.GatherCIdeal.nD Cert.GatherCIdeal.τ Cert.GatherCIdeal.sig) → Buf (Elt Ideal) ℓ) : Prop :=
  True

def Pre_GatherCReferenceIdeal (m : (ℓ : Loc Cert.GatherCReferenceIdeal.nD Cert.GatherCReferenceIdeal.τ Cert.GatherCReferenceIdeal.sig) → Buf (Elt Ideal) ℓ) : Prop :=
  True

def Pre_GatherCReference (m : (ℓ : Loc Cert.GatherCReference.nD Cert.GatherCReference.τ Cert.GatherCReference.sig) → Buf (Elt Bits) ℓ) : Prop :=
  True

def Pre_AdamwAdaW (m : (ℓ : Loc Cert.AdamwAdaW.nD Cert.AdamwAdaW.τ Cert.AdamwAdaW.sig) → Buf (Elt Bits) ℓ) : Prop :=
  True

def Pre_AdamwAdaWIdeal (m : (ℓ : Loc Cert.AdamwAdaWIdeal.nD Cert.AdamwAdaWIdeal.τ Cert.AdamwAdaWIdeal.sig) → Buf (Elt Ideal) ℓ) : Prop :=
  True

def Pre_AdamwAdaWReferenceIdeal (m : (ℓ : Loc Cert.AdamwAdaWReferenceIdeal.nD Cert.AdamwAdaWReferenceIdeal.τ Cert.AdamwAdaWReferenceIdeal.sig) → Buf (Elt Ideal) ℓ) : Prop :=
  True

def Pre_AdamwAdaB (m : (ℓ : Loc Cert.AdamwAdaB.nD Cert.AdamwAdaB.τ Cert.AdamwAdaB.sig) → Buf (Elt Bits) ℓ) : Prop :=
  True

def Pre_AdamwAdaBIdeal (m : (ℓ : Loc Cert.AdamwAdaBIdeal.nD Cert.AdamwAdaBIdeal.τ Cert.AdamwAdaBIdeal.sig) → Buf (Elt Ideal) ℓ) : Prop :=
  True

def Pre_AdamwAdaBReferenceIdeal (m : (ℓ : Loc Cert.AdamwAdaBReferenceIdeal.nD Cert.AdamwAdaBReferenceIdeal.τ Cert.AdamwAdaBReferenceIdeal.sig) → Buf (Elt Ideal) ℓ) : Prop :=
  True

def Pre_AdamwLnG (m : (ℓ : Loc Cert.AdamwLnG.nD Cert.AdamwLnG.τ Cert.AdamwLnG.sig) → Buf (Elt Bits) ℓ) : Prop :=
  True

def Pre_AdamwLnGIdeal (m : (ℓ : Loc Cert.AdamwLnGIdeal.nD Cert.AdamwLnGIdeal.τ Cert.AdamwLnGIdeal.sig) → Buf (Elt Ideal) ℓ) : Prop :=
  True

def Pre_AdamwLnGReferenceIdeal (m : (ℓ : Loc Cert.AdamwLnGReferenceIdeal.nD Cert.AdamwLnGReferenceIdeal.τ Cert.AdamwLnGReferenceIdeal.sig) → Buf (Elt Ideal) ℓ) : Prop :=
  True

def Pre_AdamwAbWIn (m : (ℓ : Loc Cert.AdamwAbWIn.nD Cert.AdamwAbWIn.τ Cert.AdamwAbWIn.sig) → Buf (Elt Bits) ℓ) : Prop :=
  True

def Pre_AdamwAbWInIdeal (m : (ℓ : Loc Cert.AdamwAbWInIdeal.nD Cert.AdamwAbWInIdeal.τ Cert.AdamwAbWInIdeal.sig) → Buf (Elt Ideal) ℓ) : Prop :=
  True

def Pre_AdamwAbWInReferenceIdeal (m : (ℓ : Loc Cert.AdamwAbWInReferenceIdeal.nD Cert.AdamwAbWInReferenceIdeal.τ Cert.AdamwAbWInReferenceIdeal.sig) → Buf (Elt Ideal) ℓ) : Prop :=
  True

def Pre_AdamwRwMu (m : (ℓ : Loc Cert.AdamwRwMu.nD Cert.AdamwRwMu.τ Cert.AdamwRwMu.sig) → Buf (Elt Bits) ℓ) : Prop :=
  True

def Pre_AdamwRwMuIdeal (m : (ℓ : Loc Cert.AdamwRwMuIdeal.nD Cert.AdamwRwMuIdeal.τ Cert.AdamwRwMuIdeal.sig) → Buf (Elt Ideal) ℓ) : Prop :=
  True

def Pre_AdamwRwMuReferenceIdeal (m : (ℓ : Loc Cert.AdamwRwMuReferenceIdeal.nD Cert.AdamwRwMuReferenceIdeal.τ Cert.AdamwRwMuReferenceIdeal.sig) → Buf (Elt Ideal) ℓ) : Prop :=
  True

def Pre_AdamwRwW0 (m : (ℓ : Loc Cert.AdamwRwW0.nD Cert.AdamwRwW0.τ Cert.AdamwRwW0.sig) → Buf (Elt Bits) ℓ) : Prop :=
  True

def Pre_AdamwRwW0Ideal (m : (ℓ : Loc Cert.AdamwRwW0Ideal.nD Cert.AdamwRwW0Ideal.τ Cert.AdamwRwW0Ideal.sig) → Buf (Elt Ideal) ℓ) : Prop :=
  True

def Pre_AdamwRwW0ReferenceIdeal (m : (ℓ : Loc Cert.AdamwRwW0ReferenceIdeal.nD Cert.AdamwRwW0ReferenceIdeal.τ Cert.AdamwRwW0ReferenceIdeal.sig) → Buf (Elt Ideal) ℓ) : Prop :=
  True

def Pre_AdamwRwWUp (m : (ℓ : Loc Cert.AdamwRwWUp.nD Cert.AdamwRwWUp.τ Cert.AdamwRwWUp.sig) → Buf (Elt Bits) ℓ) : Prop :=
  True

def Pre_AdamwRwWUpIdeal (m : (ℓ : Loc Cert.AdamwRwWUpIdeal.nD Cert.AdamwRwWUpIdeal.τ Cert.AdamwRwWUpIdeal.sig) → Buf (Elt Ideal) ℓ) : Prop :=
  True

def Pre_AdamwRwWUpReferenceIdeal (m : (ℓ : Loc Cert.AdamwRwWUpReferenceIdeal.nD Cert.AdamwRwWUpReferenceIdeal.τ Cert.AdamwRwWUpReferenceIdeal.sig) → Buf (Elt Ideal) ℓ) : Prop :=
  True

def Pre_AdamwRwGUp (m : (ℓ : Loc Cert.AdamwRwGUp.nD Cert.AdamwRwGUp.τ Cert.AdamwRwGUp.sig) → Buf (Elt Bits) ℓ) : Prop :=
  True

def Pre_AdamwRwGUpIdeal (m : (ℓ : Loc Cert.AdamwRwGUpIdeal.nD Cert.AdamwRwGUpIdeal.τ Cert.AdamwRwGUpIdeal.sig) → Buf (Elt Ideal) ℓ) : Prop :=
  True

def Pre_AdamwRwGUpReferenceIdeal (m : (ℓ : Loc Cert.AdamwRwGUpReferenceIdeal.nD Cert.AdamwRwGUpReferenceIdeal.τ Cert.AdamwRwGUpReferenceIdeal.sig) → Buf (Elt Ideal) ℓ) : Prop :=
  True

def Pre_AdamwRwRK (m : (ℓ : Loc Cert.AdamwRwRK.nD Cert.AdamwRwRK.τ Cert.AdamwRwRK.sig) → Buf (Elt Bits) ℓ) : Prop :=
  True

def Pre_AdamwRwRKIdeal (m : (ℓ : Loc Cert.AdamwRwRKIdeal.nD Cert.AdamwRwRKIdeal.τ Cert.AdamwRwRKIdeal.sig) → Buf (Elt Ideal) ℓ) : Prop :=
  True

def Pre_AdamwRwRKReferenceIdeal (m : (ℓ : Loc Cert.AdamwRwRKReferenceIdeal.nD Cert.AdamwRwRKReferenceIdeal.τ Cert.AdamwRwRKReferenceIdeal.sig) → Buf (Elt Ideal) ℓ) : Prop :=
  True

def Pre_AdamwScConvW (m : (ℓ : Loc Cert.AdamwScConvW.nD Cert.AdamwScConvW.τ Cert.AdamwScConvW.sig) → Buf (Elt Bits) ℓ) : Prop :=
  True

def Pre_AdamwScConvWIdeal (m : (ℓ : Loc Cert.AdamwScConvWIdeal.nD Cert.AdamwScConvWIdeal.τ Cert.AdamwScConvWIdeal.sig) → Buf (Elt Ideal) ℓ) : Prop :=
  True

def Pre_AdamwScConvWReferenceIdeal (m : (ℓ : Loc Cert.AdamwScConvWReferenceIdeal.nD Cert.AdamwScConvWReferenceIdeal.τ Cert.AdamwScConvWReferenceIdeal.sig) → Buf (Elt Ideal) ℓ) : Prop :=
  True

def Pre_AdamwAbWOut (m : (ℓ : Loc Cert.AdamwAbWOut.nD Cert.AdamwAbWOut.τ Cert.AdamwAbWOut.sig) → Buf (Elt Bits) ℓ) : Prop :=
  True

def Pre_AdamwAbWOutIdeal (m : (ℓ : Loc Cert.AdamwAbWOutIdeal.nD Cert.AdamwAbWOutIdeal.τ Cert.AdamwAbWOutIdeal.sig) → Buf (Elt Ideal) ℓ) : Prop :=
  True

def Pre_AdamwAbWOutReferenceIdeal (m : (ℓ : Loc Cert.AdamwAbWOutReferenceIdeal.nD Cert.AdamwAbWOutReferenceIdeal.τ Cert.AdamwAbWOutReferenceIdeal.sig) → Buf (Elt Ideal) ℓ) : Prop :=
  True

def Pre_AdamwDilWQkv (m : (ℓ : Loc Cert.AdamwDilWQkv.nD Cert.AdamwDilWQkv.τ Cert.AdamwDilWQkv.sig) → Buf (Elt Bits) ℓ) : Prop :=
  True

def Pre_AdamwDilWQkvIdeal (m : (ℓ : Loc Cert.AdamwDilWQkvIdeal.nD Cert.AdamwDilWQkvIdeal.τ Cert.AdamwDilWQkvIdeal.sig) → Buf (Elt Ideal) ℓ) : Prop :=
  True

def Pre_AdamwDilWQkvReferenceIdeal (m : (ℓ : Loc Cert.AdamwDilWQkvReferenceIdeal.nD Cert.AdamwDilWQkvReferenceIdeal.τ Cert.AdamwDilWQkvReferenceIdeal.sig) → Buf (Elt Ideal) ℓ) : Prop :=
  True

def Pre_AdamwDilWOut (m : (ℓ : Loc Cert.AdamwDilWOut.nD Cert.AdamwDilWOut.τ Cert.AdamwDilWOut.sig) → Buf (Elt Bits) ℓ) : Prop :=
  True

def Pre_AdamwDilWOutIdeal (m : (ℓ : Loc Cert.AdamwDilWOutIdeal.nD Cert.AdamwDilWOutIdeal.τ Cert.AdamwDilWOutIdeal.sig) → Buf (Elt Ideal) ℓ) : Prop :=
  True

def Pre_AdamwDilWOutReferenceIdeal (m : (ℓ : Loc Cert.AdamwDilWOutReferenceIdeal.nD Cert.AdamwDilWOutReferenceIdeal.τ Cert.AdamwDilWOutReferenceIdeal.sig) → Buf (Elt Ideal) ℓ) : Prop :=
  True

def Pre_AdamwRelBias (m : (ℓ : Loc Cert.AdamwRelBias.nD Cert.AdamwRelBias.τ Cert.AdamwRelBias.sig) → Buf (Elt Bits) ℓ) : Prop :=
  True

def Pre_AdamwRelBiasIdeal (m : (ℓ : Loc Cert.AdamwRelBiasIdeal.nD Cert.AdamwRelBiasIdeal.τ Cert.AdamwRelBiasIdeal.sig) → Buf (Elt Ideal) ℓ) : Prop :=
  True

def Pre_AdamwRelBiasReferenceIdeal (m : (ℓ : Loc Cert.AdamwRelBiasReferenceIdeal.nD Cert.AdamwRelBiasReferenceIdeal.τ Cert.AdamwRelBiasReferenceIdeal.sig) → Buf (Elt Ideal) ℓ) : Prop :=
  True

def Pre_AdamwMlpW1 (m : (ℓ : Loc Cert.AdamwMlpW1.nD Cert.AdamwMlpW1.τ Cert.AdamwMlpW1.sig) → Buf (Elt Bits) ℓ) : Prop :=
  True

def Pre_AdamwMlpW1Ideal (m : (ℓ : Loc Cert.AdamwMlpW1Ideal.nD Cert.AdamwMlpW1Ideal.τ Cert.AdamwMlpW1Ideal.sig) → Buf (Elt Ideal) ℓ) : Prop :=
  True

def Pre_AdamwMlpW1ReferenceIdeal (m : (ℓ : Loc Cert.AdamwMlpW1ReferenceIdeal.nD Cert.AdamwMlpW1ReferenceIdeal.τ Cert.AdamwMlpW1ReferenceIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdReferenceIdeal (m : (ℓ : Loc Cert.AdaFwdReferenceIdeal.nD Cert.AdaFwdReferenceIdeal.τ Cert.AdaFwdReferenceIdeal.sig) → Buf (Elt Ideal) ℓ) : Prop :=
  True

def Pre_AdaGrad (m : (ℓ : Loc Cert.AdaGrad.nD Cert.AdaGrad.τ Cert.AdaGrad.sig) → Buf (Elt Bits) ℓ) : Prop :=
  True

def Pre_AdaGradIdeal (m : (ℓ : Loc Cert.AdaGradIdeal.nD Cert.AdaGradIdeal.τ Cert.AdaGradIdeal.sig) → Buf (Elt Ideal) ℓ) : Prop :=
  True

def Pre_AdaGradReferenceIdeal (m : (ℓ : Loc Cert.AdaGradReferenceIdeal.nD Cert.AdaGradReferenceIdeal.τ Cert.AdaGradReferenceIdeal.sig) → Buf (Elt Ideal) ℓ) : Prop :=
  True

def Pre_ModIn (m : (ℓ : Loc Cert.ModIn.nD Cert.ModIn.τ Cert.ModIn.sig) → Buf (Elt Bits) ℓ) : Prop :=
  True

def Pre_ModInIdeal (m : (ℓ : Loc Cert.ModInIdeal.nD Cert.ModInIdeal.τ Cert.ModInIdeal.sig) → Buf (Elt Ideal) ℓ) : Prop :=
  True

def Pre_ModInReferenceIdeal (m : (ℓ : Loc Cert.ModInReferenceIdeal.nD Cert.ModInReferenceIdeal.τ Cert.ModInReferenceIdeal.sig) → Buf (Elt Ideal) ℓ) : Prop :=
  True

def Pre_LnMix (m : (ℓ : Loc Cert.LnMix.nD Cert.LnMix.τ Cert.LnMix.sig) → Buf (Elt Bits) ℓ) : Prop :=
  True

def Pre_LnMixIdeal (m : (ℓ : Loc Cert.LnMixIdeal.nD Cert.LnMixIdeal.τ Cert.LnMixIdeal.sig) → Buf (Elt Ideal) ℓ) : Prop :=
  True

def Pre_LnMixReferenceIdeal (m : (ℓ : Loc Cert.LnMixReferenceIdeal.nD Cert.LnMixReferenceIdeal.τ Cert.LnMixReferenceIdeal.sig) → Buf (Elt Ideal) ℓ) : Prop :=
  True

def Pre_MlpAct (m : (ℓ : Loc Cert.MlpAct.nD Cert.MlpAct.τ Cert.MlpAct.sig) → Buf (Elt Bits) ℓ) : Prop :=
  True

def Pre_MlpActIdeal (m : (ℓ : Loc Cert.MlpActIdeal.nD Cert.MlpActIdeal.τ Cert.MlpActIdeal.sig) → Buf (Elt Ideal) ℓ) : Prop :=
  True

def Pre_MlpActReferenceIdeal (m : (ℓ : Loc Cert.MlpActReferenceIdeal.nD Cert.MlpActReferenceIdeal.τ Cert.MlpActReferenceIdeal.sig) → Buf (Elt Ideal) ℓ) : Prop :=
  True

def Pre_MlpW1 (m : (ℓ : Loc Cert.MlpW1.nD Cert.MlpW1.τ Cert.MlpW1.sig) → Buf (Elt Bits) ℓ) : Prop :=
  True

def Pre_MlpW1Ideal (m : (ℓ : Loc Cert.MlpW1Ideal.nD Cert.MlpW1Ideal.τ Cert.MlpW1Ideal.sig) → Buf (Elt Ideal) ℓ) : Prop :=
  True

def Pre_MlpW1ReferenceIdeal (m : (ℓ : Loc Cert.MlpW1ReferenceIdeal.nD Cert.MlpW1ReferenceIdeal.τ Cert.MlpW1ReferenceIdeal.sig) → Buf (Elt Ideal) ℓ) : Prop :=
  True

def Pre_MlpW1Dx (m : (ℓ : Loc Cert.MlpW1Dx.nD Cert.MlpW1Dx.τ Cert.MlpW1Dx.sig) → Buf (Elt Bits) ℓ) : Prop :=
  True

def Pre_MlpW1DxIdeal (m : (ℓ : Loc Cert.MlpW1DxIdeal.nD Cert.MlpW1DxIdeal.τ Cert.MlpW1DxIdeal.sig) → Buf (Elt Ideal) ℓ) : Prop :=
  True

def Pre_MlpW1DxReferenceIdeal (m : (ℓ : Loc Cert.MlpW1DxReferenceIdeal.nD Cert.MlpW1DxReferenceIdeal.τ Cert.MlpW1DxReferenceIdeal.sig) → Buf (Elt Ideal) ℓ) : Prop :=
  True

def Pre_MlpW1Dw (m : (ℓ : Loc Cert.MlpW1Dw.nD Cert.MlpW1Dw.τ Cert.MlpW1Dw.sig) → Buf (Elt Bits) ℓ) : Prop :=
  True

def Pre_MlpW1DwIdeal (m : (ℓ : Loc Cert.MlpW1DwIdeal.nD Cert.MlpW1DwIdeal.τ Cert.MlpW1DwIdeal.sig) → Buf (Elt Ideal) ℓ) : Prop :=
  True

def Pre_MlpW1DwReferenceIdeal (m : (ℓ : Loc Cert.MlpW1DwReferenceIdeal.nD Cert.MlpW1DwReferenceIdeal.τ Cert.MlpW1DwReferenceIdeal.sig) → Buf (Elt Ideal) ℓ) : Prop :=
  True

def Pre_MlpW2 (m : (ℓ : Loc Cert.MlpW2.nD Cert.MlpW2.τ Cert.MlpW2.sig) → Buf (Elt Bits) ℓ) : Prop :=
  True

def Pre_MlpW2Ideal (m : (ℓ : Loc Cert.MlpW2Ideal.nD Cert.MlpW2Ideal.τ Cert.MlpW2Ideal.sig) → Buf (Elt Ideal) ℓ) : Prop :=
  True

def Pre_MlpW2ReferenceIdeal (m : (ℓ : Loc Cert.MlpW2ReferenceIdeal.nD Cert.MlpW2ReferenceIdeal.τ Cert.MlpW2ReferenceIdeal.sig) → Buf (Elt Ideal) ℓ) : Prop :=
  True

def Pre_MlpW2Dx (m : (ℓ : Loc Cert.MlpW2Dx.nD Cert.MlpW2Dx.τ Cert.MlpW2Dx.sig) → Buf (Elt Bits) ℓ) : Prop :=
  True

def Pre_MlpW2DxIdeal (m : (ℓ : Loc Cert.MlpW2DxIdeal.nD Cert.MlpW2DxIdeal.τ Cert.MlpW2DxIdeal.sig) → Buf (Elt Ideal) ℓ) : Prop :=
  True

def Pre_MlpW2DxReferenceIdeal (m : (ℓ : Loc Cert.MlpW2DxReferenceIdeal.nD Cert.MlpW2DxReferenceIdeal.τ Cert.MlpW2DxReferenceIdeal.sig) → Buf (Elt Ideal) ℓ) : Prop :=
  True

def Pre_MlpW2Dw (m : (ℓ : Loc Cert.MlpW2Dw.nD Cert.MlpW2Dw.τ Cert.MlpW2Dw.sig) → Buf (Elt Bits) ℓ) : Prop :=
  True

def Pre_MlpW2DwIdeal (m : (ℓ : Loc Cert.MlpW2DwIdeal.nD Cert.MlpW2DwIdeal.τ Cert.MlpW2DwIdeal.sig) → Buf (Elt Ideal) ℓ) : Prop :=
  True

def Pre_MlpW2DwReferenceIdeal (m : (ℓ : Loc Cert.MlpW2DwReferenceIdeal.nD Cert.MlpW2DwReferenceIdeal.τ Cert.MlpW2DwReferenceIdeal.sig) → Buf (Elt Ideal) ℓ) : Prop :=
  True

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInReferenceIdeal (m : (ℓ : Loc Cert.AbInReferenceIdeal.nD Cert.AbInReferenceIdeal.τ Cert.AbInReferenceIdeal.sig) → Buf (Elt Ideal) ℓ) : Prop :=
  True

def Pre_AbInDx (m : (ℓ : Loc Cert.AbInDx.nD Cert.AbInDx.τ Cert.AbInDx.sig) → Buf (Elt Bits) ℓ) : Prop :=
  True

def Pre_AbInDxIdeal (m : (ℓ : Loc Cert.AbInDxIdeal.nD Cert.AbInDxIdeal.τ Cert.AbInDxIdeal.sig) → Buf (Elt Ideal) ℓ) : Prop :=
  True

def Pre_AbInDxReferenceIdeal (m : (ℓ : Loc Cert.AbInDxReferenceIdeal.nD Cert.AbInDxReferenceIdeal.τ Cert.AbInDxReferenceIdeal.sig) → Buf (Elt Ideal) ℓ) : Prop :=
  True

def Pre_AbInDw (m : (ℓ : Loc Cert.AbInDw.nD Cert.AbInDw.τ Cert.AbInDw.sig) → Buf (Elt Bits) ℓ) : Prop :=
  True

def Pre_AbInDwIdeal (m : (ℓ : Loc Cert.AbInDwIdeal.nD Cert.AbInDwIdeal.τ Cert.AbInDwIdeal.sig) → Buf (Elt Ideal) ℓ) : Prop :=
  True

def Pre_AbInDwReferenceIdeal (m : (ℓ : Loc Cert.AbInDwReferenceIdeal.nD Cert.AbInDwReferenceIdeal.τ Cert.AbInDwReferenceIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutReferenceIdeal (m : (ℓ : Loc Cert.AbOutReferenceIdeal.nD Cert.AbOutReferenceIdeal.τ Cert.AbOutReferenceIdeal.sig) → Buf (Elt Ideal) ℓ) : Prop :=
  True

def Pre_AbOutDx (m : (ℓ : Loc Cert.AbOutDx.nD Cert.AbOutDx.τ Cert.AbOutDx.sig) → Buf (Elt Bits) ℓ) : Prop :=
  True

def Pre_AbOutDxIdeal (m : (ℓ : Loc Cert.AbOutDxIdeal.nD Cert.AbOutDxIdeal.τ Cert.AbOutDxIdeal.sig) → Buf (Elt Ideal) ℓ) : Prop :=
  True

def Pre_AbOutDxReferenceIdeal (m : (ℓ : Loc Cert.AbOutDxReferenceIdeal.nD Cert.AbOutDxReferenceIdeal.τ Cert.AbOutDxReferenceIdeal.sig) → Buf (Elt Ideal) ℓ) : Prop :=
  True

def Pre_AbOutDw (m : (ℓ : Loc Cert.AbOutDw.nD Cert.AbOutDw.τ Cert.AbOutDw.sig) → Buf (Elt Bits) ℓ) : Prop :=
  True

def Pre_AbOutDwIdeal (m : (ℓ : Loc Cert.AbOutDwIdeal.nD Cert.AbOutDwIdeal.τ Cert.AbOutDwIdeal.sig) → Buf (Elt Ideal) ℓ) : Prop :=
  True

def Pre_AbOutDwReferenceIdeal (m : (ℓ : Loc Cert.AbOutDwReferenceIdeal.nD Cert.AbOutDwReferenceIdeal.τ Cert.AbOutDwReferenceIdeal.sig) → Buf (Elt Ideal) ℓ) : Prop :=
  True

def Pre_DilQkv (m : (ℓ : Loc Cert.DilQkv.nD Cert.DilQkv.τ Cert.DilQkv.sig) → Buf (Elt Bits) ℓ) : Prop :=
  True

def Pre_DilQkvIdeal (m : (ℓ : Loc Cert.DilQkvIdeal.nD Cert.DilQkvIdeal.τ Cert.DilQkvIdeal.sig) → Buf (Elt Ideal) ℓ) : Prop :=
  True

def Pre_DilQkvReferenceIdeal (m : (ℓ : Loc Cert.DilQkvReferenceIdeal.nD Cert.DilQkvReferenceIdeal.τ Cert.DilQkvReferenceIdeal.sig) → Buf (Elt Ideal) ℓ) : Prop :=
  True

def Pre_DilQkvDx (m : (ℓ : Loc Cert.DilQkvDx.nD Cert.DilQkvDx.τ Cert.DilQkvDx.sig) → Buf (Elt Bits) ℓ) : Prop :=
  True

def Pre_DilQkvDxIdeal (m : (ℓ : Loc Cert.DilQkvDxIdeal.nD Cert.DilQkvDxIdeal.τ Cert.DilQkvDxIdeal.sig) → Buf (Elt Ideal) ℓ) : Prop :=
  True

def Pre_DilQkvDxReferenceIdeal (m : (ℓ : Loc Cert.DilQkvDxReferenceIdeal.nD Cert.DilQkvDxReferenceIdeal.τ Cert.DilQkvDxReferenceIdeal.sig) → Buf (Elt Ideal) ℓ) : Prop :=
  True

def Pre_DilQkvDw (m : (ℓ : Loc Cert.DilQkvDw.nD Cert.DilQkvDw.τ Cert.DilQkvDw.sig) → Buf (Elt Bits) ℓ) : Prop :=
  True

def Pre_DilQkvDwIdeal (m : (ℓ : Loc Cert.DilQkvDwIdeal.nD Cert.DilQkvDwIdeal.τ Cert.DilQkvDwIdeal.sig) → Buf (Elt Ideal) ℓ) : Prop :=
  True

def Pre_DilQkvDwReferenceIdeal (m : (ℓ : Loc Cert.DilQkvDwReferenceIdeal.nD Cert.DilQkvDwReferenceIdeal.τ Cert.DilQkvDwReferenceIdeal.sig) → Buf (Elt Ideal) ℓ) : Prop :=
  True

def Pre_DilOut (m : (ℓ : Loc Cert.DilOut.nD Cert.DilOut.τ Cert.DilOut.sig) → Buf (Elt Bits) ℓ) : Prop :=
  True

def Pre_DilOutIdeal (m : (ℓ : Loc Cert.DilOutIdeal.nD Cert.DilOutIdeal.τ Cert.DilOutIdeal.sig) → Buf (Elt Ideal) ℓ) : Prop :=
  True

def Pre_DilOutReferenceIdeal (m : (ℓ : Loc Cert.DilOutReferenceIdeal.nD Cert.DilOutReferenceIdeal.τ Cert.DilOutReferenceIdeal.sig) → Buf (Elt Ideal) ℓ) : Prop :=
  True

def Pre_DilOutDx (m : (ℓ : Loc Cert.DilOutDx.nD Cert.DilOutDx.τ Cert.DilOutDx.sig) → Buf (Elt Bits) ℓ) : Prop :=
  True

def Pre_DilOutDxIdeal (m : (ℓ : Loc Cert.DilOutDxIdeal.nD Cert.DilOutDxIdeal.τ Cert.DilOutDxIdeal.sig) → Buf (Elt Ideal) ℓ) : Prop :=
  True

def Pre_DilOutDxReferenceIdeal (m : (ℓ : Loc Cert.DilOutDxReferenceIdeal.nD Cert.DilOutDxReferenceIdeal.τ Cert.DilOutDxReferenceIdeal.sig) → Buf (Elt Ideal) ℓ) : Prop :=
  True

def Pre_DilOutDw (m : (ℓ : Loc Cert.DilOutDw.nD Cert.DilOutDw.τ Cert.DilOutDw.sig) → Buf (Elt Bits) ℓ) : Prop :=
  True

def Pre_DilOutDwIdeal (m : (ℓ : Loc Cert.DilOutDwIdeal.nD Cert.DilOutDwIdeal.τ Cert.DilOutDwIdeal.sig) → Buf (Elt Ideal) ℓ) : Prop :=
  True

def Pre_DilOutDwReferenceIdeal (m : (ℓ : Loc Cert.DilOutDwReferenceIdeal.nD Cert.DilOutDwReferenceIdeal.τ Cert.DilOutDwReferenceIdeal.sig) → Buf (Elt Ideal) ℓ) : Prop :=
  True

def Pre_LnLoss (m : (ℓ : Loc Cert.LnLoss.nD Cert.LnLoss.τ Cert.LnLoss.sig) → Buf (Elt Bits) ℓ) : Prop :=
  True

def Pre_LnLossIdeal (m : (ℓ : Loc Cert.LnLossIdeal.nD Cert.LnLossIdeal.τ Cert.LnLossIdeal.sig) → Buf (Elt Ideal) ℓ) : Prop :=
  True

def Pre_LnLossReferenceIdeal (m : (ℓ : Loc Cert.LnLossReferenceIdeal.nD Cert.LnLossReferenceIdeal.τ Cert.LnLossReferenceIdeal.sig) → Buf (Elt Ideal) ℓ) : Prop :=
  True

def Pre_Attention0 (m : (ℓ : Loc Cert.Attention0.nD Cert.Attention0.τ Cert.Attention0.sig) → Buf (Elt Bits) ℓ) : Prop :=
  True

def Pre_Attention0Ideal (m : (ℓ : Loc Cert.Attention0Ideal.nD Cert.Attention0Ideal.τ Cert.Attention0Ideal.sig) → Buf (Elt Ideal) ℓ) : Prop :=
  True

def Pre_Attention0ReferenceIdeal (m : (ℓ : Loc Cert.Attention0ReferenceIdeal.nD Cert.Attention0ReferenceIdeal.τ Cert.Attention0ReferenceIdeal.sig) → Buf (Elt Ideal) ℓ) : Prop :=
  True

def quiescent_SumChips [hSumChips : Cert.SumChips.Facts] : Prop :=
  ∀ (m : (ℓ : Loc Cert.SumChips.nD Cert.SumChips.τ Cert.SumChips.sig) → Buf (Elt Bits) ℓ) (g : Dev Cert.SumChips.nD → PrngReg), Pre_SumChips m →
    θ_run (Cert.SumChips.defs (F := Bits)) (onTc (τ := Cert.SumChips.τ) (Cert.SumChips.main (F := Bits))) ⟨m, fun _ => 0, g⟩ (fun r => (∀ c : Dev Cert.SumChips.nD,
      r.2.mem ((c.tc : Thread Cert.SumChips.nD Cert.SumChips.τ).loc Cert.SumChips.main_arg0) = m ((c.tc : Thread Cert.SumChips.nD Cert.SumChips.τ).loc Cert.SumChips.main_arg0))
      ∧ r.2.sem = fun _ => 0)

def quiescent_SumChipsIdeal [hSumChipsIdeal : Cert.SumChipsIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg), Pre_SumChipsIdeal m →
    θ_run (Cert.SumChipsIdeal.defs (F := Ideal)) (onTc (τ := Cert.SumChipsIdeal.τ) (Cert.SumChipsIdeal.main (F := Ideal))) ⟨m, fun _ => 0, g⟩ (fun r => (∀ c : Dev Cert.SumChipsIdeal.nD,
      r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ r.2.sem = fun _ => 0)

def quiescent_SumChipsReferenceIdeal [hSumChipsReferenceIdeal : Cert.SumChipsReferenceIdeal.Facts] : Prop :=
  ∀ (m : (ℓ : Loc Cert.SumChipsReferenceIdeal.nD Cert.SumChipsReferenceIdeal.τ Cert.SumChipsReferenceIdeal.sig) → Buf (Elt Ideal) ℓ) (g : Dev Cert.SumChipsReferenceIdeal.nD → PrngReg), Pre_SumChipsReferenceIdeal m →
    θ_run (Cert.SumChipsReferenceIdeal.defs (F := Ideal)) (onTc (τ := Cert.SumChipsReferenceIdeal.τ) (Cert.SumChipsReferenceIdeal.main (F := Ideal))) ⟨m, fun _ => 0, g⟩ (fun r => (∀ c : Dev Cert.SumChipsReferenceIdeal.nD,
      r.2.mem ((c.tc : Thread Cert.SumChipsReferenceIdeal.nD Cert.SumChipsReferenceIdeal.τ).loc Cert.SumChipsReferenceIdeal.main_arg0) = m ((c.tc : Thread Cert.SumChipsReferenceIdeal.nD Cert.SumChipsReferenceIdeal.τ).loc Cert.SumChipsReferenceIdeal.main_arg0))
      ∧ r.2.sem = fun _ => 0)

def quiescent_SumChipsReference [hSumChipsReference : Cert.SumChipsReference.Facts] : Prop :=
  ∀ (m : (ℓ : Loc Cert.SumChipsReference.nD Cert.SumChipsReference.τ Cert.SumChipsReference.sig) → Buf (Elt Bits) ℓ) (g : Dev Cert.SumChipsReference.nD → PrngReg), Pre_SumChipsReference m →
    θ_run (Cert.SumChipsReference.defs (F := Bits)) (onTc (τ := Cert.SumChipsReference.τ) (Cert.SumChipsReference.main (F := Bits))) ⟨m, fun _ => 0, g⟩ (fun r => (∀ c : Dev Cert.SumChipsReference.nD,
      r.2.mem ((c.tc : Thread Cert.SumChipsReference.nD Cert.SumChipsReference.τ).loc Cert.SumChipsReference.main_arg0) = m ((c.tc : Thread Cert.SumChipsReference.nD Cert.SumChipsReference.τ).loc Cert.SumChipsReference.main_arg0))
      ∧ r.2.sem = fun _ => 0)

def quiescent_SumCores [hSumCores : Cert.SumCores.Facts] : Prop :=
  ∀ (m : (ℓ : Loc Cert.SumCores.nD Cert.SumCores.τ Cert.SumCores.sig) → Buf (Elt Bits) ℓ) (g : Dev Cert.SumCores.nD → PrngReg), Pre_SumCores m →
    θ_run (Cert.SumCores.defs (F := Bits)) (onTc (τ := Cert.SumCores.τ) (Cert.SumCores.main (F := Bits))) ⟨m, fun _ => 0, g⟩ (fun r => (∀ c : Dev Cert.SumCores.nD,
      r.2.mem ((c.tc : Thread Cert.SumCores.nD Cert.SumCores.τ).loc Cert.SumCores.main_arg0) = m ((c.tc : Thread Cert.SumCores.nD Cert.SumCores.τ).loc Cert.SumCores.main_arg0))
      ∧ r.2.sem = fun _ => 0)

def quiescent_SumCoresIdeal [hSumCoresIdeal : Cert.SumCoresIdeal.Facts] : Prop :=
  ∀ (m : (ℓ : Loc Cert.SumCoresIdeal.nD Cert.SumCoresIdeal.τ Cert.SumCoresIdeal.sig) → Buf (Elt Ideal) ℓ) (g : Dev Cert.SumCoresIdeal.nD → PrngReg), Pre_SumCoresIdeal m →
    θ_run (Cert.SumCoresIdeal.defs (F := Ideal)) (onTc (τ := Cert.SumCoresIdeal.τ) (Cert.SumCoresIdeal.main (F := Ideal))) ⟨m, fun _ => 0, g⟩ (fun r => (∀ c : Dev Cert.SumCoresIdeal.nD,
      r.2.mem ((c.tc : Thread Cert.SumCoresIdeal.nD Cert.SumCoresIdeal.τ).loc Cert.SumCoresIdeal.main_arg0) = m ((c.tc : Thread Cert.SumCoresIdeal.nD Cert.SumCoresIdeal.τ).loc Cert.SumCoresIdeal.main_arg0))
      ∧ r.2.sem = fun _ => 0)

def quiescent_SumCoresReferenceIdeal [hSumCoresReferenceIdeal : Cert.SumCoresReferenceIdeal.Facts] : Prop :=
  ∀ (m : (ℓ : Loc Cert.SumCoresReferenceIdeal.nD Cert.SumCoresReferenceIdeal.τ Cert.SumCoresReferenceIdeal.sig) → Buf (Elt Ideal) ℓ) (g : Dev Cert.SumCoresReferenceIdeal.nD → PrngReg), Pre_SumCoresReferenceIdeal m →
    θ_run (Cert.SumCoresReferenceIdeal.defs (F := Ideal)) (onTc (τ := Cert.SumCoresReferenceIdeal.τ) (Cert.SumCoresReferenceIdeal.main (F := Ideal))) ⟨m, fun _ => 0, g⟩ (fun r => (∀ c : Dev Cert.SumCoresReferenceIdeal.nD,
      r.2.mem ((c.tc : Thread Cert.SumCoresReferenceIdeal.nD Cert.SumCoresReferenceIdeal.τ).loc Cert.SumCoresReferenceIdeal.main_arg0) = m ((c.tc : Thread Cert.SumCoresReferenceIdeal.nD Cert.SumCoresReferenceIdeal.τ).loc Cert.SumCoresReferenceIdeal.main_arg0))
      ∧ r.2.sem = fun _ => 0)

def quiescent_SumCoresReference [hSumCoresReference : Cert.SumCoresReference.Facts] : Prop :=
  ∀ (m : (ℓ : Loc Cert.SumCoresReference.nD Cert.SumCoresReference.τ Cert.SumCoresReference.sig) → Buf (Elt Bits) ℓ) (g : Dev Cert.SumCoresReference.nD → PrngReg), Pre_SumCoresReference m →
    θ_run (Cert.SumCoresReference.defs (F := Bits)) (onTc (τ := Cert.SumCoresReference.τ) (Cert.SumCoresReference.main (F := Bits))) ⟨m, fun _ => 0, g⟩ (fun r => (∀ c : Dev Cert.SumCoresReference.nD,
      r.2.mem ((c.tc : Thread Cert.SumCoresReference.nD Cert.SumCoresReference.τ).loc Cert.SumCoresReference.main_arg0) = m ((c.tc : Thread Cert.SumCoresReference.nD Cert.SumCoresReference.τ).loc Cert.SumCoresReference.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallReferenceIdeal [hSumSmallReferenceIdeal : Cert.SumSmallReferenceIdeal.Facts] : Prop :=
  ∀ (m : (ℓ : Loc Cert.SumSmallReferenceIdeal.nD Cert.SumSmallReferenceIdeal.τ Cert.SumSmallReferenceIdeal.sig) → Buf (Elt Ideal) ℓ) (g : Dev Cert.SumSmallReferenceIdeal.nD → PrngReg), Pre_SumSmallReferenceIdeal m →
    θ_run (Cert.SumSmallReferenceIdeal.defs (F := Ideal)) (onTc (τ := Cert.SumSmallReferenceIdeal.τ) (Cert.SumSmallReferenceIdeal.main (F := Ideal))) ⟨m, fun _ => 0, g⟩ (fun r => (∀ c : Dev Cert.SumSmallReferenceIdeal.nD,
      r.2.mem ((c.tc : Thread Cert.SumSmallReferenceIdeal.nD Cert.SumSmallReferenceIdeal.τ).loc Cert.SumSmallReferenceIdeal.main_arg0) = m ((c.tc : Thread Cert.SumSmallReferenceIdeal.nD Cert.SumSmallReferenceIdeal.τ).loc Cert.SumSmallReferenceIdeal.main_arg0))
      ∧ r.2.sem = fun _ => 0)

def quiescent_SumSmallReference [hSumSmallReference : Cert.SumSmallReference.Facts] : Prop :=
  ∀ (m : (ℓ : Loc Cert.SumSmallReference.nD Cert.SumSmallReference.τ Cert.SumSmallReference.sig) → Buf (Elt Bits) ℓ) (g : Dev Cert.SumSmallReference.nD → PrngReg), Pre_SumSmallReference m →
    θ_run (Cert.SumSmallReference.defs (F := Bits)) (onTc (τ := Cert.SumSmallReference.τ) (Cert.SumSmallReference.main (F := Bits))) ⟨m, fun _ => 0, g⟩ (fun r => (∀ c : Dev Cert.SumSmallReference.nD,
      r.2.mem ((c.tc : Thread Cert.SumSmallReference.nD Cert.SumSmallReference.τ).loc Cert.SumSmallReference.main_arg0) = m ((c.tc : Thread Cert.SumSmallReference.nD Cert.SumSmallReference.τ).loc Cert.SumSmallReference.main_arg0))
      ∧ r.2.sem = fun _ => 0)

def quiescent_GatherBig [hGatherBig : Cert.GatherBig.Facts] : Prop :=
  ∀ (m : (ℓ : Loc Cert.GatherBig.nD Cert.GatherBig.τ Cert.GatherBig.sig) → Buf (Elt Bits) ℓ) (g : Dev Cert.GatherBig.nD → PrngReg), Pre_GatherBig m →
    θ_run (Cert.GatherBig.defs (F := Bits)) (onTc (τ := Cert.GatherBig.τ) (Cert.GatherBig.main (F := Bits))) ⟨m, fun _ => 0, g⟩ (fun r => (∀ c : Dev Cert.GatherBig.nD,
      r.2.mem ((c.tc : Thread Cert.GatherBig.nD Cert.GatherBig.τ).loc Cert.GatherBig.main_arg0) = m ((c.tc : Thread Cert.GatherBig.nD Cert.GatherBig.τ).loc Cert.GatherBig.main_arg0))
      ∧ r.2.sem = fun _ => 0)

def quiescent_GatherBigIdeal [hGatherBigIdeal : Cert.GatherBigIdeal.Facts] : Prop :=
  ∀ (m : (ℓ : Loc Cert.GatherBigIdeal.nD Cert.GatherBigIdeal.τ Cert.GatherBigIdeal.sig) → Buf (Elt Ideal) ℓ) (g : Dev Cert.GatherBigIdeal.nD → PrngReg), Pre_GatherBigIdeal m →
    θ_run (Cert.GatherBigIdeal.defs (F := Ideal)) (onTc (τ := Cert.GatherBigIdeal.τ) (Cert.GatherBigIdeal.main (F := Ideal))) ⟨m, fun _ => 0, g⟩ (fun r => (∀ c : Dev Cert.GatherBigIdeal.nD,
      r.2.mem ((c.tc : Thread Cert.GatherBigIdeal.nD Cert.GatherBigIdeal.τ).loc Cert.GatherBigIdeal.main_arg0) = m ((c.tc : Thread Cert.GatherBigIdeal.nD Cert.GatherBigIdeal.τ).loc Cert.GatherBigIdeal.main_arg0))
      ∧ r.2.sem = fun _ => 0)

def quiescent_GatherBigReferenceIdeal [hGatherBigReferenceIdeal : Cert.GatherBigReferenceIdeal.Facts] : Prop :=
  ∀ (m : (ℓ : Loc Cert.GatherBigReferenceIdeal.nD Cert.GatherBigReferenceIdeal.τ Cert.GatherBigReferenceIdeal.sig) → Buf (Elt Ideal) ℓ) (g : Dev Cert.GatherBigReferenceIdeal.nD → PrngReg), Pre_GatherBigReferenceIdeal m →
    θ_run (Cert.GatherBigReferenceIdeal.defs (F := Ideal)) (onTc (τ := Cert.GatherBigReferenceIdeal.τ) (Cert.GatherBigReferenceIdeal.main (F := Ideal))) ⟨m, fun _ => 0, g⟩ (fun r => (∀ c : Dev Cert.GatherBigReferenceIdeal.nD,
      r.2.mem ((c.tc : Thread Cert.GatherBigReferenceIdeal.nD Cert.GatherBigReferenceIdeal.τ).loc Cert.GatherBigReferenceIdeal.main_arg0) = m ((c.tc : Thread Cert.GatherBigReferenceIdeal.nD Cert.GatherBigReferenceIdeal.τ).loc Cert.GatherBigReferenceIdeal.main_arg0))
      ∧ r.2.sem = fun _ => 0)

def quiescent_GatherBigReference [hGatherBigReference : Cert.GatherBigReference.Facts] : Prop :=
  ∀ (m : (ℓ : Loc Cert.GatherBigReference.nD Cert.GatherBigReference.τ Cert.GatherBigReference.sig) → Buf (Elt Bits) ℓ) (g : Dev Cert.GatherBigReference.nD → PrngReg), Pre_GatherBigReference m →
    θ_run (Cert.GatherBigReference.defs (F := Bits)) (onTc (τ := Cert.GatherBigReference.τ) (Cert.GatherBigReference.main (F := Bits))) ⟨m, fun _ => 0, g⟩ (fun r => (∀ c : Dev Cert.GatherBigReference.nD,
      r.2.mem ((c.tc : Thread Cert.GatherBigReference.nD Cert.GatherBigReference.τ).loc Cert.GatherBigReference.main_arg0) = m ((c.tc : Thread Cert.GatherBigReference.nD Cert.GatherBigReference.τ).loc Cert.GatherBigReference.main_arg0))
      ∧ r.2.sem = fun _ => 0)

def quiescent_GatherSmall [hGatherSmall : Cert.GatherSmall.Facts] : Prop :=
  ∀ (m : (ℓ : Loc Cert.GatherSmall.nD Cert.GatherSmall.τ Cert.GatherSmall.sig) → Buf (Elt Bits) ℓ) (g : Dev Cert.GatherSmall.nD → PrngReg), Pre_GatherSmall m →
    θ_run (Cert.GatherSmall.defs (F := Bits)) (onTc (τ := Cert.GatherSmall.τ) (Cert.GatherSmall.main (F := Bits))) ⟨m, fun _ => 0, g⟩ (fun r => (∀ c : Dev Cert.GatherSmall.nD,
      r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ r.2.sem = fun _ => 0)

def quiescent_GatherSmallIdeal [hGatherSmallIdeal : Cert.GatherSmallIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg), Pre_GatherSmallIdeal m →
    θ_run (Cert.GatherSmallIdeal.defs (F := Ideal)) (onTc (τ := Cert.GatherSmallIdeal.τ) (Cert.GatherSmallIdeal.main (F := Ideal))) ⟨m, fun _ => 0, g⟩ (fun r => (∀ c : Dev Cert.GatherSmallIdeal.nD,
      r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ r.2.sem = fun _ => 0)

def quiescent_GatherSmallReferenceIdeal [hGatherSmallReferenceIdeal : Cert.GatherSmallReferenceIdeal.Facts] : Prop :=
  ∀ (m : (ℓ : Loc Cert.GatherSmallReferenceIdeal.nD Cert.GatherSmallReferenceIdeal.τ Cert.GatherSmallReferenceIdeal.sig) → Buf (Elt Ideal) ℓ) (g : Dev Cert.GatherSmallReferenceIdeal.nD → PrngReg), Pre_GatherSmallReferenceIdeal m →
    θ_run (Cert.GatherSmallReferenceIdeal.defs (F := Ideal)) (onTc (τ := Cert.GatherSmallReferenceIdeal.τ) (Cert.GatherSmallReferenceIdeal.main (F := Ideal))) ⟨m, fun _ => 0, g⟩ (fun r => (∀ c : Dev Cert.GatherSmallReferenceIdeal.nD,
      r.2.mem ((c.tc : Thread Cert.GatherSmallReferenceIdeal.nD Cert.GatherSmallReferenceIdeal.τ).loc Cert.GatherSmallReferenceIdeal.main_arg0) = m ((c.tc : Thread Cert.GatherSmallReferenceIdeal.nD Cert.GatherSmallReferenceIdeal.τ).loc Cert.GatherSmallReferenceIdeal.main_arg0))
      ∧ r.2.sem = fun _ => 0)

def quiescent_GatherSmallReference [hGatherSmallReference : Cert.GatherSmallReference.Facts] : Prop :=
  ∀ (m : (ℓ : Loc Cert.GatherSmallReference.nD Cert.GatherSmallReference.τ Cert.GatherSmallReference.sig) → Buf (Elt Bits) ℓ) (g : Dev Cert.GatherSmallReference.nD → PrngReg), Pre_GatherSmallReference m →
    θ_run (Cert.GatherSmallReference.defs (F := Bits)) (onTc (τ := Cert.GatherSmallReference.τ) (Cert.GatherSmallReference.main (F := Bits))) ⟨m, fun _ => 0, g⟩ (fun r => (∀ c : Dev Cert.GatherSmallReference.nD,
      r.2.mem ((c.tc : Thread Cert.GatherSmallReference.nD Cert.GatherSmallReference.τ).loc Cert.GatherSmallReference.main_arg0) = m ((c.tc : Thread Cert.GatherSmallReference.nD Cert.GatherSmallReference.τ).loc Cert.GatherSmallReference.main_arg0))
      ∧ r.2.sem = fun _ => 0)

def quiescent_GatherC [hGatherC : Cert.GatherC.Facts] : Prop :=
  ∀ (m : (ℓ : Loc Cert.GatherC.nD Cert.GatherC.τ Cert.GatherC.sig) → Buf (Elt Bits) ℓ) (g : Dev Cert.GatherC.nD → PrngReg), Pre_GatherC m →
    θ_run (Cert.GatherC.defs (F := Bits)) (onTc (τ := Cert.GatherC.τ) (Cert.GatherC.main (F := Bits))) ⟨m, fun _ => 0, g⟩ (fun r => (∀ c : Dev Cert.GatherC.nD,
      r.2.mem ((c.tc : Thread Cert.GatherC.nD Cert.GatherC.τ).loc Cert.GatherC.main_arg0) = m ((c.tc : Thread Cert.GatherC.nD Cert.GatherC.τ).loc Cert.GatherC.main_arg0))
      ∧ r.2.sem = fun _ => 0)

def quiescent_GatherCIdeal [hGatherCIdeal : Cert.GatherCIdeal.Facts] : Prop :=
  ∀ (m : (ℓ : Loc Cert.GatherCIdeal.nD Cert.GatherCIdeal.τ Cert.GatherCIdeal.sig) → Buf (Elt Ideal) ℓ) (g : Dev Cert.GatherCIdeal.nD → PrngReg), Pre_GatherCIdeal m →
    θ_run (Cert.GatherCIdeal.defs (F := Ideal)) (onTc (τ := Cert.GatherCIdeal.τ) (Cert.GatherCIdeal.main (F := Ideal))) ⟨m, fun _ => 0, g⟩ (fun r => (∀ c : Dev Cert.GatherCIdeal.nD,
      r.2.mem ((c.tc : Thread Cert.GatherCIdeal.nD Cert.GatherCIdeal.τ).loc Cert.GatherCIdeal.main_arg0) = m ((c.tc : Thread Cert.GatherCIdeal.nD Cert.GatherCIdeal.τ).loc Cert.GatherCIdeal.main_arg0))
      ∧ r.2.sem = fun _ => 0)

def quiescent_GatherCReferenceIdeal [hGatherCReferenceIdeal : Cert.GatherCReferenceIdeal.Facts] : Prop :=
  ∀ (m : (ℓ : Loc Cert.GatherCReferenceIdeal.nD Cert.GatherCReferenceIdeal.τ Cert.GatherCReferenceIdeal.sig) → Buf (Elt Ideal) ℓ) (g : Dev Cert.GatherCReferenceIdeal.nD → PrngReg), Pre_GatherCReferenceIdeal m →
    θ_run (Cert.GatherCReferenceIdeal.defs (F := Ideal)) (onTc (τ := Cert.GatherCReferenceIdeal.τ) (Cert.GatherCReferenceIdeal.main (F := Ideal))) ⟨m, fun _ => 0, g⟩ (fun r => (∀ c : Dev Cert.GatherCReferenceIdeal.nD,
      r.2.mem ((c.tc : Thread Cert.GatherCReferenceIdeal.nD Cert.GatherCReferenceIdeal.τ).loc Cert.GatherCReferenceIdeal.main_arg0) = m ((c.tc : Thread Cert.GatherCReferenceIdeal.nD Cert.GatherCReferenceIdeal.τ).loc Cert.GatherCReferenceIdeal.main_arg0))
      ∧ r.2.sem = fun _ => 0)

def quiescent_GatherCReference [hGatherCReference : Cert.GatherCReference.Facts] : Prop :=
  ∀ (m : (ℓ : Loc Cert.GatherCReference.nD Cert.GatherCReference.τ Cert.GatherCReference.sig) → Buf (Elt Bits) ℓ) (g : Dev Cert.GatherCReference.nD → PrngReg), Pre_GatherCReference m →
    θ_run (Cert.GatherCReference.defs (F := Bits)) (onTc (τ := Cert.GatherCReference.τ) (Cert.GatherCReference.main (F := Bits))) ⟨m, fun _ => 0, g⟩ (fun r => (∀ c : Dev Cert.GatherCReference.nD,
      r.2.mem ((c.tc : Thread Cert.GatherCReference.nD Cert.GatherCReference.τ).loc Cert.GatherCReference.main_arg0) = m ((c.tc : Thread Cert.GatherCReference.nD Cert.GatherCReference.τ).loc Cert.GatherCReference.main_arg0))
      ∧ r.2.sem = fun _ => 0)

def quiescent_AdamwAdaW [hAdamwAdaW : Cert.AdamwAdaW.Facts] : Prop :=
  ∀ (m : (ℓ : Loc Cert.AdamwAdaW.nD Cert.AdamwAdaW.τ Cert.AdamwAdaW.sig) → Buf (Elt Bits) ℓ) (g : Dev Cert.AdamwAdaW.nD → PrngReg), Pre_AdamwAdaW m →
    θ_run (Cert.AdamwAdaW.defs (F := Bits)) (onTc (τ := Cert.AdamwAdaW.τ) (Cert.AdamwAdaW.main (F := Bits))) ⟨m, fun _ => 0, g⟩ (fun r => (∀ c : Dev Cert.AdamwAdaW.nD,
      r.2.mem ((c.tc : Thread Cert.AdamwAdaW.nD Cert.AdamwAdaW.τ).loc Cert.AdamwAdaW.main_arg0) = m ((c.tc : Thread Cert.AdamwAdaW.nD Cert.AdamwAdaW.τ).loc Cert.AdamwAdaW.main_arg0)
      ∧ r.2.mem ((c.tc : Thread Cert.AdamwAdaW.nD Cert.AdamwAdaW.τ).loc Cert.AdamwAdaW.main_arg1) = m ((c.tc : Thread Cert.AdamwAdaW.nD Cert.AdamwAdaW.τ).loc Cert.AdamwAdaW.main_arg1)
      ∧ r.2.mem ((c.tc : Thread Cert.AdamwAdaW.nD Cert.AdamwAdaW.τ).loc Cert.AdamwAdaW.main_arg2) = m ((c.tc : Thread Cert.AdamwAdaW.nD Cert.AdamwAdaW.τ).loc Cert.AdamwAdaW.main_arg2)
      ∧ r.2.mem ((c.tc : Thread Cert.AdamwAdaW.nD Cert.AdamwAdaW.τ).loc Cert.AdamwAdaW.main_arg3) = m ((c.tc : Thread Cert.AdamwAdaW.nD Cert.AdamwAdaW.τ).loc Cert.AdamwAdaW.main_arg3))
      ∧ r.2.sem = fun _ => 0)

def quiescent_AdamwAdaWIdeal [hAdamwAdaWIdeal : Cert.AdamwAdaWIdeal.Facts] : Prop :=
  ∀ (m : (ℓ : Loc Cert.AdamwAdaWIdeal.nD Cert.AdamwAdaWIdeal.τ Cert.AdamwAdaWIdeal.sig) → Buf (Elt Ideal) ℓ) (g : Dev Cert.AdamwAdaWIdeal.nD → PrngReg), Pre_AdamwAdaWIdeal m →
    θ_run (Cert.AdamwAdaWIdeal.defs (F := Ideal)) (onTc (τ := Cert.AdamwAdaWIdeal.τ) (Cert.AdamwAdaWIdeal.main (F := Ideal))) ⟨m, fun _ => 0, g⟩ (fun r => (∀ c : Dev Cert.AdamwAdaWIdeal.nD,
      r.2.mem ((c.tc : Thread Cert.AdamwAdaWIdeal.nD Cert.AdamwAdaWIdeal.τ).loc Cert.AdamwAdaWIdeal.main_arg0) = m ((c.tc : Thread Cert.AdamwAdaWIdeal.nD Cert.AdamwAdaWIdeal.τ).loc Cert.AdamwAdaWIdeal.main_arg0)
      ∧ r.2.mem ((c.tc : Thread Cert.AdamwAdaWIdeal.nD Cert.AdamwAdaWIdeal.τ).loc Cert.AdamwAdaWIdeal.main_arg1) = m ((c.tc : Thread Cert.AdamwAdaWIdeal.nD Cert.AdamwAdaWIdeal.τ).loc Cert.AdamwAdaWIdeal.main_arg1)
      ∧ r.2.mem ((c.tc : Thread Cert.AdamwAdaWIdeal.nD Cert.AdamwAdaWIdeal.τ).loc Cert.AdamwAdaWIdeal.main_arg2) = m ((c.tc : Thread Cert.AdamwAdaWIdeal.nD Cert.AdamwAdaWIdeal.τ).loc Cert.AdamwAdaWIdeal.main_arg2)
      ∧ r.2.mem ((c.tc : Thread Cert.AdamwAdaWIdeal.nD Cert.AdamwAdaWIdeal.τ).loc Cert.AdamwAdaWIdeal.main_arg3) = m ((c.tc : Thread Cert.AdamwAdaWIdeal.nD Cert.AdamwAdaWIdeal.τ).loc Cert.AdamwAdaWIdeal.main_arg3))
      ∧ r.2.sem = fun _ => 0)

def quiescent_AdamwAdaWReferenceIdeal [hAdamwAdaWReferenceIdeal : Cert.AdamwAdaWReferenceIdeal.Facts] : Prop :=
  ∀ (m : (ℓ : Loc Cert.AdamwAdaWReferenceIdeal.nD Cert.AdamwAdaWReferenceIdeal.τ Cert.AdamwAdaWReferenceIdeal.sig) → Buf (Elt Ideal) ℓ) (g : Dev Cert.AdamwAdaWReferenceIdeal.nD → PrngReg), Pre_AdamwAdaWReferenceIdeal m →
    θ_run (Cert.AdamwAdaWReferenceIdeal.defs (F := Ideal)) (onTc (τ := Cert.AdamwAdaWReferenceIdeal.τ) (Cert.AdamwAdaWReferenceIdeal.main (F := Ideal))) ⟨m, fun _ => 0, g⟩ (fun r => (∀ c : Dev Cert.AdamwAdaWReferenceIdeal.nD,
      r.2.mem ((c.tc : Thread Cert.AdamwAdaWReferenceIdeal.nD Cert.AdamwAdaWReferenceIdeal.τ).loc Cert.AdamwAdaWReferenceIdeal.main_arg0) = m ((c.tc : Thread Cert.AdamwAdaWReferenceIdeal.nD Cert.AdamwAdaWReferenceIdeal.τ).loc Cert.AdamwAdaWReferenceIdeal.main_arg0)
      ∧ r.2.mem ((c.tc : Thread Cert.AdamwAdaWReferenceIdeal.nD Cert.AdamwAdaWReferenceIdeal.τ).loc Cert.AdamwAdaWReferenceIdeal.main_arg1) = m ((c.tc : Thread Cert.AdamwAdaWReferenceIdeal.nD Cert.AdamwAdaWReferenceIdeal.τ).loc Cert.AdamwAdaWReferenceIdeal.main_arg1)
      ∧ r.2.mem ((c.tc : Thread Cert.AdamwAdaWReferenceIdeal.nD Cert.AdamwAdaWReferenceIdeal.τ).loc Cert.AdamwAdaWReferenceIdeal.main_arg2) = m ((c.tc : Thread Cert.AdamwAdaWReferenceIdeal.nD Cert.AdamwAdaWReferenceIdeal.τ).loc Cert.AdamwAdaWReferenceIdeal.main_arg2)
      ∧ r.2.mem ((c.tc : Thread Cert.AdamwAdaWReferenceIdeal.nD Cert.AdamwAdaWReferenceIdeal.τ).loc Cert.AdamwAdaWReferenceIdeal.main_arg3) = m ((c.tc : Thread Cert.AdamwAdaWReferenceIdeal.nD Cert.AdamwAdaWReferenceIdeal.τ).loc Cert.AdamwAdaWReferenceIdeal.main_arg3))
      ∧ r.2.sem = fun _ => 0)

def quiescent_AdamwAdaB [hAdamwAdaB : Cert.AdamwAdaB.Facts] : Prop :=
  ∀ (m : (ℓ : Loc Cert.AdamwAdaB.nD Cert.AdamwAdaB.τ Cert.AdamwAdaB.sig) → Buf (Elt Bits) ℓ) (g : Dev Cert.AdamwAdaB.nD → PrngReg), Pre_AdamwAdaB m →
    θ_run (Cert.AdamwAdaB.defs (F := Bits)) (onTc (τ := Cert.AdamwAdaB.τ) (Cert.AdamwAdaB.main (F := Bits))) ⟨m, fun _ => 0, g⟩ (fun r => (∀ c : Dev Cert.AdamwAdaB.nD,
      r.2.mem ((c.tc : Thread Cert.AdamwAdaB.nD Cert.AdamwAdaB.τ).loc Cert.AdamwAdaB.main_arg0) = m ((c.tc : Thread Cert.AdamwAdaB.nD Cert.AdamwAdaB.τ).loc Cert.AdamwAdaB.main_arg0)
      ∧ r.2.mem ((c.tc : Thread Cert.AdamwAdaB.nD Cert.AdamwAdaB.τ).loc Cert.AdamwAdaB.main_arg1) = m ((c.tc : Thread Cert.AdamwAdaB.nD Cert.AdamwAdaB.τ).loc Cert.AdamwAdaB.main_arg1)
      ∧ r.2.mem ((c.tc : Thread Cert.AdamwAdaB.nD Cert.AdamwAdaB.τ).loc Cert.AdamwAdaB.main_arg2) = m ((c.tc : Thread Cert.AdamwAdaB.nD Cert.AdamwAdaB.τ).loc Cert.AdamwAdaB.main_arg2)
      ∧ r.2.mem ((c.tc : Thread Cert.AdamwAdaB.nD Cert.AdamwAdaB.τ).loc Cert.AdamwAdaB.main_arg3) = m ((c.tc : Thread Cert.AdamwAdaB.nD Cert.AdamwAdaB.τ).loc Cert.AdamwAdaB.main_arg3))
      ∧ r.2.sem = fun _ => 0)

def quiescent_AdamwAdaBIdeal [hAdamwAdaBIdeal : Cert.AdamwAdaBIdeal.Facts] : Prop :=
  ∀ (m : (ℓ : Loc Cert.AdamwAdaBIdeal.nD Cert.AdamwAdaBIdeal.τ Cert.AdamwAdaBIdeal.sig) → Buf (Elt Ideal) ℓ) (g : Dev Cert.AdamwAdaBIdeal.nD → PrngReg), Pre_AdamwAdaBIdeal m →
    θ_run (Cert.AdamwAdaBIdeal.defs (F := Ideal)) (onTc (τ := Cert.AdamwAdaBIdeal.τ) (Cert.AdamwAdaBIdeal.main (F := Ideal))) ⟨m, fun _ => 0, g⟩ (fun r => (∀ c : Dev Cert.AdamwAdaBIdeal.nD,
      r.2.mem ((c.tc : Thread Cert.AdamwAdaBIdeal.nD Cert.AdamwAdaBIdeal.τ).loc Cert.AdamwAdaBIdeal.main_arg0) = m ((c.tc : Thread Cert.AdamwAdaBIdeal.nD Cert.AdamwAdaBIdeal.τ).loc Cert.AdamwAdaBIdeal.main_arg0)
      ∧ r.2.mem ((c.tc : Thread Cert.AdamwAdaBIdeal.nD Cert.AdamwAdaBIdeal.τ).loc Cert.AdamwAdaBIdeal.main_arg1) = m ((c.tc : Thread Cert.AdamwAdaBIdeal.nD Cert.AdamwAdaBIdeal.τ).loc Cert.AdamwAdaBIdeal.main_arg1)
      ∧ r.2.mem ((c.tc : Thread Cert.AdamwAdaBIdeal.nD Cert.AdamwAdaBIdeal.τ).loc Cert.AdamwAdaBIdeal.main_arg2) = m ((c.tc : Thread Cert.AdamwAdaBIdeal.nD Cert.AdamwAdaBIdeal.τ).loc Cert.AdamwAdaBIdeal.main_arg2)
      ∧ r.2.mem ((c.tc : Thread Cert.AdamwAdaBIdeal.nD Cert.AdamwAdaBIdeal.τ).loc Cert.AdamwAdaBIdeal.main_arg3) = m ((c.tc : Thread Cert.AdamwAdaBIdeal.nD Cert.AdamwAdaBIdeal.τ).loc Cert.AdamwAdaBIdeal.main_arg3))
      ∧ r.2.sem = fun _ => 0)

def quiescent_AdamwAdaBReferenceIdeal [hAdamwAdaBReferenceIdeal : Cert.AdamwAdaBReferenceIdeal.Facts] : Prop :=
  ∀ (m : (ℓ : Loc Cert.AdamwAdaBReferenceIdeal.nD Cert.AdamwAdaBReferenceIdeal.τ Cert.AdamwAdaBReferenceIdeal.sig) → Buf (Elt Ideal) ℓ) (g : Dev Cert.AdamwAdaBReferenceIdeal.nD → PrngReg), Pre_AdamwAdaBReferenceIdeal m →
    θ_run (Cert.AdamwAdaBReferenceIdeal.defs (F := Ideal)) (onTc (τ := Cert.AdamwAdaBReferenceIdeal.τ) (Cert.AdamwAdaBReferenceIdeal.main (F := Ideal))) ⟨m, fun _ => 0, g⟩ (fun r => (∀ c : Dev Cert.AdamwAdaBReferenceIdeal.nD,
      r.2.mem ((c.tc : Thread Cert.AdamwAdaBReferenceIdeal.nD Cert.AdamwAdaBReferenceIdeal.τ).loc Cert.AdamwAdaBReferenceIdeal.main_arg0) = m ((c.tc : Thread Cert.AdamwAdaBReferenceIdeal.nD Cert.AdamwAdaBReferenceIdeal.τ).loc Cert.AdamwAdaBReferenceIdeal.main_arg0)
      ∧ r.2.mem ((c.tc : Thread Cert.AdamwAdaBReferenceIdeal.nD Cert.AdamwAdaBReferenceIdeal.τ).loc Cert.AdamwAdaBReferenceIdeal.main_arg1) = m ((c.tc : Thread Cert.AdamwAdaBReferenceIdeal.nD Cert.AdamwAdaBReferenceIdeal.τ).loc Cert.AdamwAdaBReferenceIdeal.main_arg1)
      ∧ r.2.mem ((c.tc : Thread Cert.AdamwAdaBReferenceIdeal.nD Cert.AdamwAdaBReferenceIdeal.τ).loc Cert.AdamwAdaBReferenceIdeal.main_arg2) = m ((c.tc : Thread Cert.AdamwAdaBReferenceIdeal.nD Cert.AdamwAdaBReferenceIdeal.τ).loc Cert.AdamwAdaBReferenceIdeal.main_arg2)
      ∧ r.2.mem ((c.tc : Thread Cert.AdamwAdaBReferenceIdeal.nD Cert.AdamwAdaBReferenceIdeal.τ).loc Cert.AdamwAdaBReferenceIdeal.main_arg3) = m ((c.tc : Thread Cert.AdamwAdaBReferenceIdeal.nD Cert.AdamwAdaBReferenceIdeal.τ).loc Cert.AdamwAdaBReferenceIdeal.main_arg3))
      ∧ r.2.sem = fun _ => 0)

def quiescent_AdamwLnG [hAdamwLnG : Cert.AdamwLnG.Facts] : Prop :=
  ∀ (m : (ℓ : Loc Cert.AdamwLnG.nD Cert.AdamwLnG.τ Cert.AdamwLnG.sig) → Buf (Elt Bits) ℓ) (g : Dev Cert.AdamwLnG.nD → PrngReg), Pre_AdamwLnG m →
    θ_run (Cert.AdamwLnG.defs (F := Bits)) (onTc (τ := Cert.AdamwLnG.τ) (Cert.AdamwLnG.main (F := Bits))) ⟨m, fun _ => 0, g⟩ (fun r => (∀ c : Dev Cert.AdamwLnG.nD,
      r.2.mem ((c.tc : Thread Cert.AdamwLnG.nD Cert.AdamwLnG.τ).loc Cert.AdamwLnG.main_arg0) = m ((c.tc : Thread Cert.AdamwLnG.nD Cert.AdamwLnG.τ).loc Cert.AdamwLnG.main_arg0)
      ∧ r.2.mem ((c.tc : Thread Cert.AdamwLnG.nD Cert.AdamwLnG.τ).loc Cert.AdamwLnG.main_arg1) = m ((c.tc : Thread Cert.AdamwLnG.nD Cert.AdamwLnG.τ).loc Cert.AdamwLnG.main_arg1)
      ∧ r.2.mem ((c.tc : Thread Cert.AdamwLnG.nD Cert.AdamwLnG.τ).loc Cert.AdamwLnG.main_arg2) = m ((c.tc : Thread Cert.AdamwLnG.nD Cert.AdamwLnG.τ).loc Cert.AdamwLnG.main_arg2)
      ∧ r.2.mem ((c.tc : Thread Cert.AdamwLnG.nD Cert.AdamwLnG.τ).loc Cert.AdamwLnG.main_arg3) = m ((c.tc : Thread Cert.AdamwLnG.nD Cert.AdamwLnG.τ).loc Cert.AdamwLnG.main_arg3))
      ∧ r.2.sem = fun _ => 0)

def quiescent_AdamwLnGIdeal [hAdamwLnGIdeal : Cert.AdamwLnGIdeal.Facts] : Prop :=
  ∀ (m : (ℓ : Loc Cert.AdamwLnGIdeal.nD Cert.AdamwLnGIdeal.τ Cert.AdamwLnGIdeal.sig) → Buf (Elt Ideal) ℓ) (g : Dev Cert.AdamwLnGIdeal.nD → PrngReg), Pre_AdamwLnGIdeal m →
    θ_run (Cert.AdamwLnGIdeal.defs (F := Ideal)) (onTc (τ := Cert.AdamwLnGIdeal.τ) (Cert.AdamwLnGIdeal.main (F := Ideal))) ⟨m, fun _ => 0, g⟩ (fun r => (∀ c : Dev Cert.AdamwLnGIdeal.nD,
      r.2.mem ((c.tc : Thread Cert.AdamwLnGIdeal.nD Cert.AdamwLnGIdeal.τ).loc Cert.AdamwLnGIdeal.main_arg0) = m ((c.tc : Thread Cert.AdamwLnGIdeal.nD Cert.AdamwLnGIdeal.τ).loc Cert.AdamwLnGIdeal.main_arg0)
      ∧ r.2.mem ((c.tc : Thread Cert.AdamwLnGIdeal.nD Cert.AdamwLnGIdeal.τ).loc Cert.AdamwLnGIdeal.main_arg1) = m ((c.tc : Thread Cert.AdamwLnGIdeal.nD Cert.AdamwLnGIdeal.τ).loc Cert.AdamwLnGIdeal.main_arg1)
      ∧ r.2.mem ((c.tc : Thread Cert.AdamwLnGIdeal.nD Cert.AdamwLnGIdeal.τ).loc Cert.AdamwLnGIdeal.main_arg2) = m ((c.tc : Thread Cert.AdamwLnGIdeal.nD Cert.AdamwLnGIdeal.τ).loc Cert.AdamwLnGIdeal.main_arg2)
      ∧ r.2.mem ((c.tc : Thread Cert.AdamwLnGIdeal.nD Cert.AdamwLnGIdeal.τ).loc Cert.AdamwLnGIdeal.main_arg3) = m ((c.tc : Thread Cert.AdamwLnGIdeal.nD Cert.AdamwLnGIdeal.τ).loc Cert.AdamwLnGIdeal.main_arg3))
      ∧ r.2.sem = fun _ => 0)

def quiescent_AdamwLnGReferenceIdeal [hAdamwLnGReferenceIdeal : Cert.AdamwLnGReferenceIdeal.Facts] : Prop :=
  ∀ (m : (ℓ : Loc Cert.AdamwLnGReferenceIdeal.nD Cert.AdamwLnGReferenceIdeal.τ Cert.AdamwLnGReferenceIdeal.sig) → Buf (Elt Ideal) ℓ) (g : Dev Cert.AdamwLnGReferenceIdeal.nD → PrngReg), Pre_AdamwLnGReferenceIdeal m →
    θ_run (Cert.AdamwLnGReferenceIdeal.defs (F := Ideal)) (onTc (τ := Cert.AdamwLnGReferenceIdeal.τ) (Cert.AdamwLnGReferenceIdeal.main (F := Ideal))) ⟨m, fun _ => 0, g⟩ (fun r => (∀ c : Dev Cert.AdamwLnGReferenceIdeal.nD,
      r.2.mem ((c.tc : Thread Cert.AdamwLnGReferenceIdeal.nD Cert.AdamwLnGReferenceIdeal.τ).loc Cert.AdamwLnGReferenceIdeal.main_arg0) = m ((c.tc : Thread Cert.AdamwLnGReferenceIdeal.nD Cert.AdamwLnGReferenceIdeal.τ).loc Cert.AdamwLnGReferenceIdeal.main_arg0)
      ∧ r.2.mem ((c.tc : Thread Cert.AdamwLnGReferenceIdeal.nD Cert.AdamwLnGReferenceIdeal.τ).loc Cert.AdamwLnGReferenceIdeal.main_arg1) = m ((c.tc : Thread Cert.AdamwLnGReferenceIdeal.nD Cert.AdamwLnGReferenceIdeal.τ).loc Cert.AdamwLnGReferenceIdeal.main_arg1)
      ∧ r.2.mem ((c.tc : Thread Cert.AdamwLnGReferenceIdeal.nD Cert.AdamwLnGReferenceIdeal.τ).loc Cert.AdamwLnGReferenceIdeal.main_arg2) = m ((c.tc : Thread Cert.AdamwLnGReferenceIdeal.nD Cert.AdamwLnGReferenceIdeal.τ).loc Cert.AdamwLnGReferenceIdeal.main_arg2)
      ∧ r.2.mem ((c.tc : Thread Cert.AdamwLnGReferenceIdeal.nD Cert.AdamwLnGReferenceIdeal.τ).loc Cert.AdamwLnGReferenceIdeal.main_arg3) = m ((c.tc : Thread Cert.AdamwLnGReferenceIdeal.nD Cert.AdamwLnGReferenceIdeal.τ).loc Cert.AdamwLnGReferenceIdeal.main_arg3))
      ∧ r.2.sem = fun _ => 0)

def quiescent_AdamwAbWIn [hAdamwAbWIn : Cert.AdamwAbWIn.Facts] : Prop :=
  ∀ (m : (ℓ : Loc Cert.AdamwAbWIn.nD Cert.AdamwAbWIn.τ Cert.AdamwAbWIn.sig) → Buf (Elt Bits) ℓ) (g : Dev Cert.AdamwAbWIn.nD → PrngReg), Pre_AdamwAbWIn m →
    θ_run (Cert.AdamwAbWIn.defs (F := Bits)) (onTc (τ := Cert.AdamwAbWIn.τ) (Cert.AdamwAbWIn.main (F := Bits))) ⟨m, fun _ => 0, g⟩ (fun r => (∀ c : Dev Cert.AdamwAbWIn.nD,
      r.2.mem ((c.tc : Thread Cert.AdamwAbWIn.nD Cert.AdamwAbWIn.τ).loc Cert.AdamwAbWIn.main_arg0) = m ((c.tc : Thread Cert.AdamwAbWIn.nD Cert.AdamwAbWIn.τ).loc Cert.AdamwAbWIn.main_arg0)
      ∧ r.2.mem ((c.tc : Thread Cert.AdamwAbWIn.nD Cert.AdamwAbWIn.τ).loc Cert.AdamwAbWIn.main_arg1) = m ((c.tc : Thread Cert.AdamwAbWIn.nD Cert.AdamwAbWIn.τ).loc Cert.AdamwAbWIn.main_arg1)
      ∧ r.2.mem ((c.tc : Thread Cert.AdamwAbWIn.nD Cert.AdamwAbWIn.τ).loc Cert.AdamwAbWIn.main_arg2) = m ((c.tc : Thread Cert.AdamwAbWIn.nD Cert.AdamwAbWIn.τ).loc Cert.AdamwAbWIn.main_arg2)
      ∧ r.2.mem ((c.tc : Thread Cert.AdamwAbWIn.nD Cert.AdamwAbWIn.τ).loc Cert.AdamwAbWIn.main_arg3) = m ((c.tc : Thread Cert.AdamwAbWIn.nD Cert.AdamwAbWIn.τ).loc Cert.AdamwAbWIn.main_arg3))
      ∧ r.2.sem = fun _ => 0)

def quiescent_AdamwAbWInIdeal [hAdamwAbWInIdeal : Cert.AdamwAbWInIdeal.Facts] : Prop :=
  ∀ (m : (ℓ : Loc Cert.AdamwAbWInIdeal.nD Cert.AdamwAbWInIdeal.τ Cert.AdamwAbWInIdeal.sig) → Buf (Elt Ideal) ℓ) (g : Dev Cert.AdamwAbWInIdeal.nD → PrngReg), Pre_AdamwAbWInIdeal m →
    θ_run (Cert.AdamwAbWInIdeal.defs (F := Ideal)) (onTc (τ := Cert.AdamwAbWInIdeal.τ) (Cert.AdamwAbWInIdeal.main (F := Ideal))) ⟨m, fun _ => 0, g⟩ (fun r => (∀ c : Dev Cert.AdamwAbWInIdeal.nD,
      r.2.mem ((c.tc : Thread Cert.AdamwAbWInIdeal.nD Cert.AdamwAbWInIdeal.τ).loc Cert.AdamwAbWInIdeal.main_arg0) = m ((c.tc : Thread Cert.AdamwAbWInIdeal.nD Cert.AdamwAbWInIdeal.τ).loc Cert.AdamwAbWInIdeal.main_arg0)
      ∧ r.2.mem ((c.tc : Thread Cert.AdamwAbWInIdeal.nD Cert.AdamwAbWInIdeal.τ).loc Cert.AdamwAbWInIdeal.main_arg1) = m ((c.tc : Thread Cert.AdamwAbWInIdeal.nD Cert.AdamwAbWInIdeal.τ).loc Cert.AdamwAbWInIdeal.main_arg1)
      ∧ r.2.mem ((c.tc : Thread Cert.AdamwAbWInIdeal.nD Cert.AdamwAbWInIdeal.τ).loc Cert.AdamwAbWInIdeal.main_arg2) = m ((c.tc : Thread Cert.AdamwAbWInIdeal.nD Cert.AdamwAbWInIdeal.τ).loc Cert.AdamwAbWInIdeal.main_arg2)
      ∧ r.2.mem ((c.tc : Thread Cert.AdamwAbWInIdeal.nD Cert.AdamwAbWInIdeal.τ).loc Cert.AdamwAbWInIdeal.main_arg3) = m ((c.tc : Thread Cert.AdamwAbWInIdeal.nD Cert.AdamwAbWInIdeal.τ).loc Cert.AdamwAbWInIdeal.main_arg3))
      ∧ r.2.sem = fun _ => 0)

def quiescent_AdamwAbWInReferenceIdeal [hAdamwAbWInReferenceIdeal : Cert.AdamwAbWInReferenceIdeal.Facts] : Prop :=
  ∀ (m : (ℓ : Loc Cert.AdamwAbWInReferenceIdeal.nD Cert.AdamwAbWInReferenceIdeal.τ Cert.AdamwAbWInReferenceIdeal.sig) → Buf (Elt Ideal) ℓ) (g : Dev Cert.AdamwAbWInReferenceIdeal.nD → PrngReg), Pre_AdamwAbWInReferenceIdeal m →
    θ_run (Cert.AdamwAbWInReferenceIdeal.defs (F := Ideal)) (onTc (τ := Cert.AdamwAbWInReferenceIdeal.τ) (Cert.AdamwAbWInReferenceIdeal.main (F := Ideal))) ⟨m, fun _ => 0, g⟩ (fun r => (∀ c : Dev Cert.AdamwAbWInReferenceIdeal.nD,
      r.2.mem ((c.tc : Thread Cert.AdamwAbWInReferenceIdeal.nD Cert.AdamwAbWInReferenceIdeal.τ).loc Cert.AdamwAbWInReferenceIdeal.main_arg0) = m ((c.tc : Thread Cert.AdamwAbWInReferenceIdeal.nD Cert.AdamwAbWInReferenceIdeal.τ).loc Cert.AdamwAbWInReferenceIdeal.main_arg0)
      ∧ r.2.mem ((c.tc : Thread Cert.AdamwAbWInReferenceIdeal.nD Cert.AdamwAbWInReferenceIdeal.τ).loc Cert.AdamwAbWInReferenceIdeal.main_arg1) = m ((c.tc : Thread Cert.AdamwAbWInReferenceIdeal.nD Cert.AdamwAbWInReferenceIdeal.τ).loc Cert.AdamwAbWInReferenceIdeal.main_arg1)
      ∧ r.2.mem ((c.tc : Thread Cert.AdamwAbWInReferenceIdeal.nD Cert.AdamwAbWInReferenceIdeal.τ).loc Cert.AdamwAbWInReferenceIdeal.main_arg2) = m ((c.tc : Thread Cert.AdamwAbWInReferenceIdeal.nD Cert.AdamwAbWInReferenceIdeal.τ).loc Cert.AdamwAbWInReferenceIdeal.main_arg2)
      ∧ r.2.mem ((c.tc : Thread Cert.AdamwAbWInReferenceIdeal.nD Cert.AdamwAbWInReferenceIdeal.τ).loc Cert.AdamwAbWInReferenceIdeal.main_arg3) = m ((c.tc : Thread Cert.AdamwAbWInReferenceIdeal.nD Cert.AdamwAbWInReferenceIdeal.τ).loc Cert.AdamwAbWInReferenceIdeal.main_arg3))
      ∧ r.2.sem = fun _ => 0)

def quiescent_AdamwRwMu [hAdamwRwMu : Cert.AdamwRwMu.Facts] : Prop :=
  ∀ (m : (ℓ : Loc Cert.AdamwRwMu.nD Cert.AdamwRwMu.τ Cert.AdamwRwMu.sig) → Buf (Elt Bits) ℓ) (g : Dev Cert.AdamwRwMu.nD → PrngReg), Pre_AdamwRwMu m →
    θ_run (Cert.AdamwRwMu.defs (F := Bits)) (onTc (τ := Cert.AdamwRwMu.τ) (Cert.AdamwRwMu.main (F := Bits))) ⟨m, fun _ => 0, g⟩ (fun r => (∀ c : Dev Cert.AdamwRwMu.nD,
      r.2.mem ((c.tc : Thread Cert.AdamwRwMu.nD Cert.AdamwRwMu.τ).loc Cert.AdamwRwMu.main_arg0) = m ((c.tc : Thread Cert.AdamwRwMu.nD Cert.AdamwRwMu.τ).loc Cert.AdamwRwMu.main_arg0)
      ∧ r.2.mem ((c.tc : Thread Cert.AdamwRwMu.nD Cert.AdamwRwMu.τ).loc Cert.AdamwRwMu.main_arg1) = m ((c.tc : Thread Cert.AdamwRwMu.nD Cert.AdamwRwMu.τ).loc Cert.AdamwRwMu.main_arg1)
      ∧ r.2.mem ((c.tc : Thread Cert.AdamwRwMu.nD Cert.AdamwRwMu.τ).loc Cert.AdamwRwMu.main_arg2) = m ((c.tc : Thread Cert.AdamwRwMu.nD Cert.AdamwRwMu.τ).loc Cert.AdamwRwMu.main_arg2)
      ∧ r.2.mem ((c.tc : Thread Cert.AdamwRwMu.nD Cert.AdamwRwMu.τ).loc Cert.AdamwRwMu.main_arg3) = m ((c.tc : Thread Cert.AdamwRwMu.nD Cert.AdamwRwMu.τ).loc Cert.AdamwRwMu.main_arg3))
      ∧ r.2.sem = fun _ => 0)

def quiescent_AdamwRwMuIdeal [hAdamwRwMuIdeal : Cert.AdamwRwMuIdeal.Facts] : Prop :=
  ∀ (m : (ℓ : Loc Cert.AdamwRwMuIdeal.nD Cert.AdamwRwMuIdeal.τ Cert.AdamwRwMuIdeal.sig) → Buf (Elt Ideal) ℓ) (g : Dev Cert.AdamwRwMuIdeal.nD → PrngReg), Pre_AdamwRwMuIdeal m →
    θ_run (Cert.AdamwRwMuIdeal.defs (F := Ideal)) (onTc (τ := Cert.AdamwRwMuIdeal.τ) (Cert.AdamwRwMuIdeal.main (F := Ideal))) ⟨m, fun _ => 0, g⟩ (fun r => (∀ c : Dev Cert.AdamwRwMuIdeal.nD,
      r.2.mem ((c.tc : Thread Cert.AdamwRwMuIdeal.nD Cert.AdamwRwMuIdeal.τ).loc Cert.AdamwRwMuIdeal.main_arg0) = m ((c.tc : Thread Cert.AdamwRwMuIdeal.nD Cert.AdamwRwMuIdeal.τ).loc Cert.AdamwRwMuIdeal.main_arg0)
      ∧ r.2.mem ((c.tc : Thread Cert.AdamwRwMuIdeal.nD Cert.AdamwRwMuIdeal.τ).loc Cert.AdamwRwMuIdeal.main_arg1) = m ((c.tc : Thread Cert.AdamwRwMuIdeal.nD Cert.AdamwRwMuIdeal.τ).loc Cert.AdamwRwMuIdeal.main_arg1)
      ∧ r.2.mem ((c.tc : Thread Cert.AdamwRwMuIdeal.nD Cert.AdamwRwMuIdeal.τ).loc Cert.AdamwRwMuIdeal.main_arg2) = m ((c.tc : Thread Cert.AdamwRwMuIdeal.nD Cert.AdamwRwMuIdeal.τ).loc Cert.AdamwRwMuIdeal.main_arg2)
      ∧ r.2.mem ((c.tc : Thread Cert.AdamwRwMuIdeal.nD Cert.AdamwRwMuIdeal.τ).loc Cert.AdamwRwMuIdeal.main_arg3) = m ((c.tc : Thread Cert.AdamwRwMuIdeal.nD Cert.AdamwRwMuIdeal.τ).loc Cert.AdamwRwMuIdeal.main_arg3))
      ∧ r.2.sem = fun _ => 0)

def quiescent_AdamwRwMuReferenceIdeal [hAdamwRwMuReferenceIdeal : Cert.AdamwRwMuReferenceIdeal.Facts] : Prop :=
  ∀ (m : (ℓ : Loc Cert.AdamwRwMuReferenceIdeal.nD Cert.AdamwRwMuReferenceIdeal.τ Cert.AdamwRwMuReferenceIdeal.sig) → Buf (Elt Ideal) ℓ) (g : Dev Cert.AdamwRwMuReferenceIdeal.nD → PrngReg), Pre_AdamwRwMuReferenceIdeal m →
    θ_run (Cert.AdamwRwMuReferenceIdeal.defs (F := Ideal)) (onTc (τ := Cert.AdamwRwMuReferenceIdeal.τ) (Cert.AdamwRwMuReferenceIdeal.main (F := Ideal))) ⟨m, fun _ => 0, g⟩ (fun r => (∀ c : Dev Cert.AdamwRwMuReferenceIdeal.nD,
      r.2.mem ((c.tc : Thread Cert.AdamwRwMuReferenceIdeal.nD Cert.AdamwRwMuReferenceIdeal.τ).loc Cert.AdamwRwMuReferenceIdeal.main_arg0) = m ((c.tc : Thread Cert.AdamwRwMuReferenceIdeal.nD Cert.AdamwRwMuReferenceIdeal.τ).loc Cert.AdamwRwMuReferenceIdeal.main_arg0)
      ∧ r.2.mem ((c.tc : Thread Cert.AdamwRwMuReferenceIdeal.nD Cert.AdamwRwMuReferenceIdeal.τ).loc Cert.AdamwRwMuReferenceIdeal.main_arg1) = m ((c.tc : Thread Cert.AdamwRwMuReferenceIdeal.nD Cert.AdamwRwMuReferenceIdeal.τ).loc Cert.AdamwRwMuReferenceIdeal.main_arg1)
      ∧ r.2.mem ((c.tc : Thread Cert.AdamwRwMuReferenceIdeal.nD Cert.AdamwRwMuReferenceIdeal.τ).loc Cert.AdamwRwMuReferenceIdeal.main_arg2) = m ((c.tc : Thread Cert.AdamwRwMuReferenceIdeal.nD Cert.AdamwRwMuReferenceIdeal.τ).loc Cert.AdamwRwMuReferenceIdeal.main_arg2)
      ∧ r.2.mem ((c.tc : Thread Cert.AdamwRwMuReferenceIdeal.nD Cert.AdamwRwMuReferenceIdeal.τ).loc Cert.AdamwRwMuReferenceIdeal.main_arg3) = m ((c.tc : Thread Cert.AdamwRwMuReferenceIdeal.nD Cert.AdamwRwMuReferenceIdeal.τ).loc Cert.AdamwRwMuReferenceIdeal.main_arg3))
      ∧ r.2.sem = fun _ => 0)

def quiescent_AdamwRwW0 [hAdamwRwW0 : Cert.AdamwRwW0.Facts] : Prop :=
  ∀ (m : (ℓ : Loc Cert.AdamwRwW0.nD Cert.AdamwRwW0.τ Cert.AdamwRwW0.sig) → Buf (Elt Bits) ℓ) (g : Dev Cert.AdamwRwW0.nD → PrngReg), Pre_AdamwRwW0 m →
    θ_run (Cert.AdamwRwW0.defs (F := Bits)) (onTc (τ := Cert.AdamwRwW0.τ) (Cert.AdamwRwW0.main (F := Bits))) ⟨m, fun _ => 0, g⟩ (fun r => (∀ c : Dev Cert.AdamwRwW0.nD,
      r.2.mem ((c.tc : Thread Cert.AdamwRwW0.nD Cert.AdamwRwW0.τ).loc Cert.AdamwRwW0.main_arg0) = m ((c.tc : Thread Cert.AdamwRwW0.nD Cert.AdamwRwW0.τ).loc Cert.AdamwRwW0.main_arg0)
      ∧ r.2.mem ((c.tc : Thread Cert.AdamwRwW0.nD Cert.AdamwRwW0.τ).loc Cert.AdamwRwW0.main_arg1) = m ((c.tc : Thread Cert.AdamwRwW0.nD Cert.AdamwRwW0.τ).loc Cert.AdamwRwW0.main_arg1)
      ∧ r.2.mem ((c.tc : Thread Cert.AdamwRwW0.nD Cert.AdamwRwW0.τ).loc Cert.AdamwRwW0.main_arg2) = m ((c.tc : Thread Cert.AdamwRwW0.nD Cert.AdamwRwW0.τ).loc Cert.AdamwRwW0.main_arg2)
      ∧ r.2.mem ((c.tc : Thread Cert.AdamwRwW0.nD Cert.AdamwRwW0.τ).loc Cert.AdamwRwW0.main_arg3) = m ((c.tc : Thread Cert.AdamwRwW0.nD Cert.AdamwRwW0.τ).loc Cert.AdamwRwW0.main_arg3))
      ∧ r.2.sem = fun _ => 0)

def quiescent_AdamwRwW0Ideal [hAdamwRwW0Ideal : Cert.AdamwRwW0Ideal.Facts] : Prop :=
  ∀ (m : (ℓ : Loc Cert.AdamwRwW0Ideal.nD Cert.AdamwRwW0Ideal.τ Cert.AdamwRwW0Ideal.sig) → Buf (Elt Ideal) ℓ) (g : Dev Cert.AdamwRwW0Ideal.nD → PrngReg), Pre_AdamwRwW0Ideal m →
    θ_run (Cert.AdamwRwW0Ideal.defs (F := Ideal)) (onTc (τ := Cert.AdamwRwW0Ideal.τ) (Cert.AdamwRwW0Ideal.main (F := Ideal))) ⟨m, fun _ => 0, g⟩ (fun r => (∀ c : Dev Cert.AdamwRwW0Ideal.nD,
      r.2.mem ((c.tc : Thread Cert.AdamwRwW0Ideal.nD Cert.AdamwRwW0Ideal.τ).loc Cert.AdamwRwW0Ideal.main_arg0) = m ((c.tc : Thread Cert.AdamwRwW0Ideal.nD Cert.AdamwRwW0Ideal.τ).loc Cert.AdamwRwW0Ideal.main_arg0)
      ∧ r.2.mem ((c.tc : Thread Cert.AdamwRwW0Ideal.nD Cert.AdamwRwW0Ideal.τ).loc Cert.AdamwRwW0Ideal.main_arg1) = m ((c.tc : Thread Cert.AdamwRwW0Ideal.nD Cert.AdamwRwW0Ideal.τ).loc Cert.AdamwRwW0Ideal.main_arg1)
      ∧ r.2.mem ((c.tc : Thread Cert.AdamwRwW0Ideal.nD Cert.AdamwRwW0Ideal.τ).loc Cert.AdamwRwW0Ideal.main_arg2) = m ((c.tc : Thread Cert.AdamwRwW0Ideal.nD Cert.AdamwRwW0Ideal.τ).loc Cert.AdamwRwW0Ideal.main_arg2)
      ∧ r.2.mem ((c.tc : Thread Cert.AdamwRwW0Ideal.nD Cert.AdamwRwW0Ideal.τ).loc Cert.AdamwRwW0Ideal.main_arg3) = m ((c.tc : Thread Cert.AdamwRwW0Ideal.nD Cert.AdamwRwW0Ideal.τ).loc Cert.AdamwRwW0Ideal.main_arg3))
      ∧ r.2.sem = fun _ => 0)

def quiescent_AdamwRwW0ReferenceIdeal [hAdamwRwW0ReferenceIdeal : Cert.AdamwRwW0ReferenceIdeal.Facts] : Prop :=
  ∀ (m : (ℓ : Loc Cert.AdamwRwW0ReferenceIdeal.nD Cert.AdamwRwW0ReferenceIdeal.τ Cert.AdamwRwW0ReferenceIdeal.sig) → Buf (Elt Ideal) ℓ) (g : Dev Cert.AdamwRwW0ReferenceIdeal.nD → PrngReg), Pre_AdamwRwW0ReferenceIdeal m →
    θ_run (Cert.AdamwRwW0ReferenceIdeal.defs (F := Ideal)) (onTc (τ := Cert.AdamwRwW0ReferenceIdeal.τ) (Cert.AdamwRwW0ReferenceIdeal.main (F := Ideal))) ⟨m, fun _ => 0, g⟩ (fun r => (∀ c : Dev Cert.AdamwRwW0ReferenceIdeal.nD,
      r.2.mem ((c.tc : Thread Cert.AdamwRwW0ReferenceIdeal.nD Cert.AdamwRwW0ReferenceIdeal.τ).loc Cert.AdamwRwW0ReferenceIdeal.main_arg0) = m ((c.tc : Thread Cert.AdamwRwW0ReferenceIdeal.nD Cert.AdamwRwW0ReferenceIdeal.τ).loc Cert.AdamwRwW0ReferenceIdeal.main_arg0)
      ∧ r.2.mem ((c.tc : Thread Cert.AdamwRwW0ReferenceIdeal.nD Cert.AdamwRwW0ReferenceIdeal.τ).loc Cert.AdamwRwW0ReferenceIdeal.main_arg1) = m ((c.tc : Thread Cert.AdamwRwW0ReferenceIdeal.nD Cert.AdamwRwW0ReferenceIdeal.τ).loc Cert.AdamwRwW0ReferenceIdeal.main_arg1)
      ∧ r.2.mem ((c.tc : Thread Cert.AdamwRwW0ReferenceIdeal.nD Cert.AdamwRwW0ReferenceIdeal.τ).loc Cert.AdamwRwW0ReferenceIdeal.main_arg2) = m ((c.tc : Thread Cert.AdamwRwW0ReferenceIdeal.nD Cert.AdamwRwW0ReferenceIdeal.τ).loc Cert.AdamwRwW0ReferenceIdeal.main_arg2)
      ∧ r.2.mem ((c.tc : Thread Cert.AdamwRwW0ReferenceIdeal.nD Cert.AdamwRwW0ReferenceIdeal.τ).loc Cert.AdamwRwW0ReferenceIdeal.main_arg3) = m ((c.tc : Thread Cert.AdamwRwW0ReferenceIdeal.nD Cert.AdamwRwW0ReferenceIdeal.τ).loc Cert.AdamwRwW0ReferenceIdeal.main_arg3))
      ∧ r.2.sem = fun _ => 0)

def quiescent_AdamwRwWUp [hAdamwRwWUp : Cert.AdamwRwWUp.Facts] : Prop :=
  ∀ (m : (ℓ : Loc Cert.AdamwRwWUp.nD Cert.AdamwRwWUp.τ Cert.AdamwRwWUp.sig) → Buf (Elt Bits) ℓ) (g : Dev Cert.AdamwRwWUp.nD → PrngReg), Pre_AdamwRwWUp m →
    θ_run (Cert.AdamwRwWUp.defs (F := Bits)) (onTc (τ := Cert.AdamwRwWUp.τ) (Cert.AdamwRwWUp.main (F := Bits))) ⟨m, fun _ => 0, g⟩ (fun r => (∀ c : Dev Cert.AdamwRwWUp.nD,
      r.2.mem ((c.tc : Thread Cert.AdamwRwWUp.nD Cert.AdamwRwWUp.τ).loc Cert.AdamwRwWUp.main_arg0) = m ((c.tc : Thread Cert.AdamwRwWUp.nD Cert.AdamwRwWUp.τ).loc Cert.AdamwRwWUp.main_arg0)
      ∧ r.2.mem ((c.tc : Thread Cert.AdamwRwWUp.nD Cert.AdamwRwWUp.τ).loc Cert.AdamwRwWUp.main_arg1) = m ((c.tc : Thread Cert.AdamwRwWUp.nD Cert.AdamwRwWUp.τ).loc Cert.AdamwRwWUp.main_arg1)
      ∧ r.2.mem ((c.tc : Thread Cert.AdamwRwWUp.nD Cert.AdamwRwWUp.τ).loc Cert.AdamwRwWUp.main_arg2) = m ((c.tc : Thread Cert.AdamwRwWUp.nD Cert.AdamwRwWUp.τ).loc Cert.AdamwRwWUp.main_arg2)
      ∧ r.2.mem ((c.tc : Thread Cert.AdamwRwWUp.nD Cert.AdamwRwWUp.τ).loc Cert.AdamwRwWUp.main_arg3) = m ((c.tc : Thread Cert.AdamwRwWUp.nD Cert.AdamwRwWUp.τ).loc Cert.AdamwRwWUp.main_arg3))
      ∧ r.2.sem = fun _ => 0)

def quiescent_AdamwRwWUpIdeal [hAdamwRwWUpIdeal : Cert.AdamwRwWUpIdeal.Facts] : Prop :=
  ∀ (m : (ℓ : Loc Cert.AdamwRwWUpIdeal.nD Cert.AdamwRwWUpIdeal.τ Cert.AdamwRwWUpIdeal.sig) → Buf (Elt Ideal) ℓ) (g : Dev Cert.AdamwRwWUpIdeal.nD → PrngReg), Pre_AdamwRwWUpIdeal m →
    θ_run (Cert.AdamwRwWUpIdeal.defs (F := Ideal)) (onTc (τ := Cert.AdamwRwWUpIdeal.τ) (Cert.AdamwRwWUpIdeal.main (F := Ideal))) ⟨m, fun _ => 0, g⟩ (fun r => (∀ c : Dev Cert.AdamwRwWUpIdeal.nD,
      r.2.mem ((c.tc : Thread Cert.AdamwRwWUpIdeal.nD Cert.AdamwRwWUpIdeal.τ).loc Cert.AdamwRwWUpIdeal.main_arg0) = m ((c.tc : Thread Cert.AdamwRwWUpIdeal.nD Cert.AdamwRwWUpIdeal.τ).loc Cert.AdamwRwWUpIdeal.main_arg0)
      ∧ r.2.mem ((c.tc : Thread Cert.AdamwRwWUpIdeal.nD Cert.AdamwRwWUpIdeal.τ).loc Cert.AdamwRwWUpIdeal.main_arg1) = m ((c.tc : Thread Cert.AdamwRwWUpIdeal.nD Cert.AdamwRwWUpIdeal.τ).loc Cert.AdamwRwWUpIdeal.main_arg1)
      ∧ r.2.mem ((c.tc : Thread Cert.AdamwRwWUpIdeal.nD Cert.AdamwRwWUpIdeal.τ).loc Cert.AdamwRwWUpIdeal.main_arg2) = m ((c.tc : Thread Cert.AdamwRwWUpIdeal.nD Cert.AdamwRwWUpIdeal.τ).loc Cert.AdamwRwWUpIdeal.main_arg2)
      ∧ r.2.mem ((c.tc : Thread Cert.AdamwRwWUpIdeal.nD Cert.AdamwRwWUpIdeal.τ).loc Cert.AdamwRwWUpIdeal.main_arg3) = m ((c.tc : Thread Cert.AdamwRwWUpIdeal.nD Cert.AdamwRwWUpIdeal.τ).loc Cert.AdamwRwWUpIdeal.main_arg3))
      ∧ r.2.sem = fun _ => 0)

def quiescent_AdamwRwWUpReferenceIdeal [hAdamwRwWUpReferenceIdeal : Cert.AdamwRwWUpReferenceIdeal.Facts] : Prop :=
  ∀ (m : (ℓ : Loc Cert.AdamwRwWUpReferenceIdeal.nD Cert.AdamwRwWUpReferenceIdeal.τ Cert.AdamwRwWUpReferenceIdeal.sig) → Buf (Elt Ideal) ℓ) (g : Dev Cert.AdamwRwWUpReferenceIdeal.nD → PrngReg), Pre_AdamwRwWUpReferenceIdeal m →
    θ_run (Cert.AdamwRwWUpReferenceIdeal.defs (F := Ideal)) (onTc (τ := Cert.AdamwRwWUpReferenceIdeal.τ) (Cert.AdamwRwWUpReferenceIdeal.main (F := Ideal))) ⟨m, fun _ => 0, g⟩ (fun r => (∀ c : Dev Cert.AdamwRwWUpReferenceIdeal.nD,
      r.2.mem ((c.tc : Thread Cert.AdamwRwWUpReferenceIdeal.nD Cert.AdamwRwWUpReferenceIdeal.τ).loc Cert.AdamwRwWUpReferenceIdeal.main_arg0) = m ((c.tc : Thread Cert.AdamwRwWUpReferenceIdeal.nD Cert.AdamwRwWUpReferenceIdeal.τ).loc Cert.AdamwRwWUpReferenceIdeal.main_arg0)
      ∧ r.2.mem ((c.tc : Thread Cert.AdamwRwWUpReferenceIdeal.nD Cert.AdamwRwWUpReferenceIdeal.τ).loc Cert.AdamwRwWUpReferenceIdeal.main_arg1) = m ((c.tc : Thread Cert.AdamwRwWUpReferenceIdeal.nD Cert.AdamwRwWUpReferenceIdeal.τ).loc Cert.AdamwRwWUpReferenceIdeal.main_arg1)
      ∧ r.2.mem ((c.tc : Thread Cert.AdamwRwWUpReferenceIdeal.nD Cert.AdamwRwWUpReferenceIdeal.τ).loc Cert.AdamwRwWUpReferenceIdeal.main_arg2) = m ((c.tc : Thread Cert.AdamwRwWUpReferenceIdeal.nD Cert.AdamwRwWUpReferenceIdeal.τ).loc Cert.AdamwRwWUpReferenceIdeal.main_arg2)
      ∧ r.2.mem ((c.tc : Thread Cert.AdamwRwWUpReferenceIdeal.nD Cert.AdamwRwWUpReferenceIdeal.τ).loc Cert.AdamwRwWUpReferenceIdeal.main_arg3) = m ((c.tc : Thread Cert.AdamwRwWUpReferenceIdeal.nD Cert.AdamwRwWUpReferenceIdeal.τ).loc Cert.AdamwRwWUpReferenceIdeal.main_arg3))
      ∧ r.2.sem = fun _ => 0)

def quiescent_AdamwRwGUp [hAdamwRwGUp : Cert.AdamwRwGUp.Facts] : Prop :=
  ∀ (m : (ℓ : Loc Cert.AdamwRwGUp.nD Cert.AdamwRwGUp.τ Cert.AdamwRwGUp.sig) → Buf (Elt Bits) ℓ) (g : Dev Cert.AdamwRwGUp.nD → PrngReg), Pre_AdamwRwGUp m →
    θ_run (Cert.AdamwRwGUp.defs (F := Bits)) (onTc (τ := Cert.AdamwRwGUp.τ) (Cert.AdamwRwGUp.main (F := Bits))) ⟨m, fun _ => 0, g⟩ (fun r => (∀ c : Dev Cert.AdamwRwGUp.nD,
      r.2.mem ((c.tc : Thread Cert.AdamwRwGUp.nD Cert.AdamwRwGUp.τ).loc Cert.AdamwRwGUp.main_arg0) = m ((c.tc : Thread Cert.AdamwRwGUp.nD Cert.AdamwRwGUp.τ).loc Cert.AdamwRwGUp.main_arg0)
      ∧ r.2.mem ((c.tc : Thread Cert.AdamwRwGUp.nD Cert.AdamwRwGUp.τ).loc Cert.AdamwRwGUp.main_arg1) = m ((c.tc : Thread Cert.AdamwRwGUp.nD Cert.AdamwRwGUp.τ).loc Cert.AdamwRwGUp.main_arg1)
      ∧ r.2.mem ((c.tc : Thread Cert.AdamwRwGUp.nD Cert.AdamwRwGUp.τ).loc Cert.AdamwRwGUp.main_arg2) = m ((c.tc : Thread Cert.AdamwRwGUp.nD Cert.AdamwRwGUp.τ).loc Cert.AdamwRwGUp.main_arg2)
      ∧ r.2.mem ((c.tc : Thread Cert.AdamwRwGUp.nD Cert.AdamwRwGUp.τ).loc Cert.AdamwRwGUp.main_arg3) = m ((c.tc : Thread Cert.AdamwRwGUp.nD Cert.AdamwRwGUp.τ).loc Cert.AdamwRwGUp.main_arg3))
      ∧ r.2.sem = fun _ => 0)

def quiescent_AdamwRwGUpIdeal [hAdamwRwGUpIdeal : Cert.AdamwRwGUpIdeal.Facts] : Prop :=
  ∀ (m : (ℓ : Loc Cert.AdamwRwGUpIdeal.nD Cert.AdamwRwGUpIdeal.τ Cert.AdamwRwGUpIdeal.sig) → Buf (Elt Ideal) ℓ) (g : Dev Cert.AdamwRwGUpIdeal.nD → PrngReg), Pre_AdamwRwGUpIdeal m →
    θ_run (Cert.AdamwRwGUpIdeal.defs (F := Ideal)) (onTc (τ := Cert.AdamwRwGUpIdeal.τ) (Cert.AdamwRwGUpIdeal.main (F := Ideal))) ⟨m, fun _ => 0, g⟩ (fun r => (∀ c : Dev Cert.AdamwRwGUpIdeal.nD,
      r.2.mem ((c.tc : Thread Cert.AdamwRwGUpIdeal.nD Cert.AdamwRwGUpIdeal.τ).loc Cert.AdamwRwGUpIdeal.main_arg0) = m ((c.tc : Thread Cert.AdamwRwGUpIdeal.nD Cert.AdamwRwGUpIdeal.τ).loc Cert.AdamwRwGUpIdeal.main_arg0)
      ∧ r.2.mem ((c.tc : Thread Cert.AdamwRwGUpIdeal.nD Cert.AdamwRwGUpIdeal.τ).loc Cert.AdamwRwGUpIdeal.main_arg1) = m ((c.tc : Thread Cert.AdamwRwGUpIdeal.nD Cert.AdamwRwGUpIdeal.τ).loc Cert.AdamwRwGUpIdeal.main_arg1)
      ∧ r.2.mem ((c.tc : Thread Cert.AdamwRwGUpIdeal.nD Cert.AdamwRwGUpIdeal.τ).loc Cert.AdamwRwGUpIdeal.main_arg2) = m ((c.tc : Thread Cert.AdamwRwGUpIdeal.nD Cert.AdamwRwGUpIdeal.τ).loc Cert.AdamwRwGUpIdeal.main_arg2)
      ∧ r.2.mem ((c.tc : Thread Cert.AdamwRwGUpIdeal.nD Cert.AdamwRwGUpIdeal.τ).loc Cert.AdamwRwGUpIdeal.main_arg3) = m ((c.tc : Thread Cert.AdamwRwGUpIdeal.nD Cert.AdamwRwGUpIdeal.τ).loc Cert.AdamwRwGUpIdeal.main_arg3))
      ∧ r.2.sem = fun _ => 0)

def quiescent_AdamwRwGUpReferenceIdeal [hAdamwRwGUpReferenceIdeal : Cert.AdamwRwGUpReferenceIdeal.Facts] : Prop :=
  ∀ (m : (ℓ : Loc Cert.AdamwRwGUpReferenceIdeal.nD Cert.AdamwRwGUpReferenceIdeal.τ Cert.AdamwRwGUpReferenceIdeal.sig) → Buf (Elt Ideal) ℓ) (g : Dev Cert.AdamwRwGUpReferenceIdeal.nD → PrngReg), Pre_AdamwRwGUpReferenceIdeal m →
    θ_run (Cert.AdamwRwGUpReferenceIdeal.defs (F := Ideal)) (onTc (τ := Cert.AdamwRwGUpReferenceIdeal.τ) (Cert.AdamwRwGUpReferenceIdeal.main (F := Ideal))) ⟨m, fun _ => 0, g⟩ (fun r => (∀ c : Dev Cert.AdamwRwGUpReferenceIdeal.nD,
      r.2.mem ((c.tc : Thread Cert.AdamwRwGUpReferenceIdeal.nD Cert.AdamwRwGUpReferenceIdeal.τ).loc Cert.AdamwRwGUpReferenceIdeal.main_arg0) = m ((c.tc : Thread Cert.AdamwRwGUpReferenceIdeal.nD Cert.AdamwRwGUpReferenceIdeal.τ).loc Cert.AdamwRwGUpReferenceIdeal.main_arg0)
      ∧ r.2.mem ((c.tc : Thread Cert.AdamwRwGUpReferenceIdeal.nD Cert.AdamwRwGUpReferenceIdeal.τ).loc Cert.AdamwRwGUpReferenceIdeal.main_arg1) = m ((c.tc : Thread Cert.AdamwRwGUpReferenceIdeal.nD Cert.AdamwRwGUpReferenceIdeal.τ).loc Cert.AdamwRwGUpReferenceIdeal.main_arg1)
      ∧ r.2.mem ((c.tc : Thread Cert.AdamwRwGUpReferenceIdeal.nD Cert.AdamwRwGUpReferenceIdeal.τ).loc Cert.AdamwRwGUpReferenceIdeal.main_arg2) = m ((c.tc : Thread Cert.AdamwRwGUpReferenceIdeal.nD Cert.AdamwRwGUpReferenceIdeal.τ).loc Cert.AdamwRwGUpReferenceIdeal.main_arg2)
      ∧ r.2.mem ((c.tc : Thread Cert.AdamwRwGUpReferenceIdeal.nD Cert.AdamwRwGUpReferenceIdeal.τ).loc Cert.AdamwRwGUpReferenceIdeal.main_arg3) = m ((c.tc : Thread Cert.AdamwRwGUpReferenceIdeal.nD Cert.AdamwRwGUpReferenceIdeal.τ).loc Cert.AdamwRwGUpReferenceIdeal.main_arg3))
      ∧ r.2.sem = fun _ => 0)

def quiescent_AdamwRwRK [hAdamwRwRK : Cert.AdamwRwRK.Facts] : Prop :=
  ∀ (m : (ℓ : Loc Cert.AdamwRwRK.nD Cert.AdamwRwRK.τ Cert.AdamwRwRK.sig) → Buf (Elt Bits) ℓ) (g : Dev Cert.AdamwRwRK.nD → PrngReg), Pre_AdamwRwRK m →
    θ_run (Cert.AdamwRwRK.defs (F := Bits)) (onTc (τ := Cert.AdamwRwRK.τ) (Cert.AdamwRwRK.main (F := Bits))) ⟨m, fun _ => 0, g⟩ (fun r => (∀ c : Dev Cert.AdamwRwRK.nD,
      r.2.mem ((c.tc : Thread Cert.AdamwRwRK.nD Cert.AdamwRwRK.τ).loc Cert.AdamwRwRK.main_arg0) = m ((c.tc : Thread Cert.AdamwRwRK.nD Cert.AdamwRwRK.τ).loc Cert.AdamwRwRK.main_arg0)
      ∧ r.2.mem ((c.tc : Thread Cert.AdamwRwRK.nD Cert.AdamwRwRK.τ).loc Cert.AdamwRwRK.main_arg1) = m ((c.tc : Thread Cert.AdamwRwRK.nD Cert.AdamwRwRK.τ).loc Cert.AdamwRwRK.main_arg1)
      ∧ r.2.mem ((c.tc : Thread Cert.AdamwRwRK.nD Cert.AdamwRwRK.τ).loc Cert.AdamwRwRK.main_arg2) = m ((c.tc : Thread Cert.AdamwRwRK.nD Cert.AdamwRwRK.τ).loc Cert.AdamwRwRK.main_arg2)
      ∧ r.2.mem ((c.tc : Thread Cert.AdamwRwRK.nD Cert.AdamwRwRK.τ).loc Cert.AdamwRwRK.main_arg3) = m ((c.tc : Thread Cert.AdamwRwRK.nD Cert.AdamwRwRK.τ).loc Cert.AdamwRwRK.main_arg3))
      ∧ r.2.sem = fun _ => 0)

def quiescent_AdamwRwRKIdeal [hAdamwRwRKIdeal : Cert.AdamwRwRKIdeal.Facts] : Prop :=
  ∀ (m : (ℓ : Loc Cert.AdamwRwRKIdeal.nD Cert.AdamwRwRKIdeal.τ Cert.AdamwRwRKIdeal.sig) → Buf (Elt Ideal) ℓ) (g : Dev Cert.AdamwRwRKIdeal.nD → PrngReg), Pre_AdamwRwRKIdeal m →
    θ_run (Cert.AdamwRwRKIdeal.defs (F := Ideal)) (onTc (τ := Cert.AdamwRwRKIdeal.τ) (Cert.AdamwRwRKIdeal.main (F := Ideal))) ⟨m, fun _ => 0, g⟩ (fun r => (∀ c : Dev Cert.AdamwRwRKIdeal.nD,
      r.2.mem ((c.tc : Thread Cert.AdamwRwRKIdeal.nD Cert.AdamwRwRKIdeal.τ).loc Cert.AdamwRwRKIdeal.main_arg0) = m ((c.tc : Thread Cert.AdamwRwRKIdeal.nD Cert.AdamwRwRKIdeal.τ).loc Cert.AdamwRwRKIdeal.main_arg0)
      ∧ r.2.mem ((c.tc : Thread Cert.AdamwRwRKIdeal.nD Cert.AdamwRwRKIdeal.τ).loc Cert.AdamwRwRKIdeal.main_arg1) = m ((c.tc : Thread Cert.AdamwRwRKIdeal.nD Cert.AdamwRwRKIdeal.τ).loc Cert.AdamwRwRKIdeal.main_arg1)
      ∧ r.2.mem ((c.tc : Thread Cert.AdamwRwRKIdeal.nD Cert.AdamwRwRKIdeal.τ).loc Cert.AdamwRwRKIdeal.main_arg2) = m ((c.tc : Thread Cert.AdamwRwRKIdeal.nD Cert.AdamwRwRKIdeal.τ).loc Cert.AdamwRwRKIdeal.main_arg2)
      ∧ r.2.mem ((c.tc : Thread Cert.AdamwRwRKIdeal.nD Cert.AdamwRwRKIdeal.τ).loc Cert.AdamwRwRKIdeal.main_arg3) = m ((c.tc : Thread Cert.AdamwRwRKIdeal.nD Cert.AdamwRwRKIdeal.τ).loc Cert.AdamwRwRKIdeal.main_arg3))
      ∧ r.2.sem = fun _ => 0)

def quiescent_AdamwRwRKReferenceIdeal [hAdamwRwRKReferenceIdeal : Cert.AdamwRwRKReferenceIdeal.Facts] : Prop :=
  ∀ (m : (ℓ : Loc Cert.AdamwRwRKReferenceIdeal.nD Cert.AdamwRwRKReferenceIdeal.τ Cert.AdamwRwRKReferenceIdeal.sig) → Buf (Elt Ideal) ℓ) (g : Dev Cert.AdamwRwRKReferenceIdeal.nD → PrngReg), Pre_AdamwRwRKReferenceIdeal m →
    θ_run (Cert.AdamwRwRKReferenceIdeal.defs (F := Ideal)) (onTc (τ := Cert.AdamwRwRKReferenceIdeal.τ) (Cert.AdamwRwRKReferenceIdeal.main (F := Ideal))) ⟨m, fun _ => 0, g⟩ (fun r => (∀ c : Dev Cert.AdamwRwRKReferenceIdeal.nD,
      r.2.mem ((c.tc : Thread Cert.AdamwRwRKReferenceIdeal.nD Cert.AdamwRwRKReferenceIdeal.τ).loc Cert.AdamwRwRKReferenceIdeal.main_arg0) = m ((c.tc : Thread Cert.AdamwRwRKReferenceIdeal.nD Cert.AdamwRwRKReferenceIdeal.τ).loc Cert.AdamwRwRKReferenceIdeal.main_arg0)
      ∧ r.2.mem ((c.tc : Thread Cert.AdamwRwRKReferenceIdeal.nD Cert.AdamwRwRKReferenceIdeal.τ).loc Cert.AdamwRwRKReferenceIdeal.main_arg1) = m ((c.tc : Thread Cert.AdamwRwRKReferenceIdeal.nD Cert.AdamwRwRKReferenceIdeal.τ).loc Cert.AdamwRwRKReferenceIdeal.main_arg1)
      ∧ r.2.mem ((c.tc : Thread Cert.AdamwRwRKReferenceIdeal.nD Cert.AdamwRwRKReferenceIdeal.τ).loc Cert.AdamwRwRKReferenceIdeal.main_arg2) = m ((c.tc : Thread Cert.AdamwRwRKReferenceIdeal.nD Cert.AdamwRwRKReferenceIdeal.τ).loc Cert.AdamwRwRKReferenceIdeal.main_arg2)
      ∧ r.2.mem ((c.tc : Thread Cert.AdamwRwRKReferenceIdeal.nD Cert.AdamwRwRKReferenceIdeal.τ).loc Cert.AdamwRwRKReferenceIdeal.main_arg3) = m ((c.tc : Thread Cert.AdamwRwRKReferenceIdeal.nD Cert.AdamwRwRKReferenceIdeal.τ).loc Cert.AdamwRwRKReferenceIdeal.main_arg3))
      ∧ r.2.sem = fun _ => 0)

def quiescent_AdamwScConvW [hAdamwScConvW : Cert.AdamwScConvW.Facts] : Prop :=
  ∀ (m : (ℓ : Loc Cert.AdamwScConvW.nD Cert.AdamwScConvW.τ Cert.AdamwScConvW.sig) → Buf (Elt Bits) ℓ) (g : Dev Cert.AdamwScConvW.nD → PrngReg), Pre_AdamwScConvW m →
    θ_run (Cert.AdamwScConvW.defs (F := Bits)) (onTc (τ := Cert.AdamwScConvW.τ) (Cert.AdamwScConvW.main (F := Bits))) ⟨m, fun _ => 0, g⟩ (fun r => (∀ c : Dev Cert.AdamwScConvW.nD,
      r.2.mem ((c.tc : Thread Cert.AdamwScConvW.nD Cert.AdamwScConvW.τ).loc Cert.AdamwScConvW.main_arg0) = m ((c.tc : Thread Cert.AdamwScConvW.nD Cert.AdamwScConvW.τ).loc Cert.AdamwScConvW.main_arg0)
      ∧ r.2.mem ((c.tc : Thread Cert.AdamwScConvW.nD Cert.AdamwScConvW.τ).loc Cert.AdamwScConvW.main_arg1) = m ((c.tc : Thread Cert.AdamwScConvW.nD Cert.AdamwScConvW.τ).loc Cert.AdamwScConvW.main_arg1)
      ∧ r.2.mem ((c.tc : Thread Cert.AdamwScConvW.nD Cert.AdamwScConvW.τ).loc Cert.AdamwScConvW.main_arg2) = m ((c.tc : Thread Cert.AdamwScConvW.nD Cert.AdamwScConvW.τ).loc Cert.AdamwScConvW.main_arg2)
      ∧ r.2.mem ((c.tc : Thread Cert.AdamwScConvW.nD Cert.AdamwScConvW.τ).loc Cert.AdamwScConvW.main_arg3) = m ((c.tc : Thread Cert.AdamwScConvW.nD Cert.AdamwScConvW.τ).loc Cert.AdamwScConvW.main_arg3))
      ∧ r.2.sem = fun _ => 0)

def quiescent_AdamwScConvWIdeal [hAdamwScConvWIdeal : Cert.AdamwScConvWIdeal.Facts] : Prop :=
  ∀ (m : (ℓ : Loc Cert.AdamwScConvWIdeal.nD Cert.AdamwScConvWIdeal.τ Cert.AdamwScConvWIdeal.sig) → Buf (Elt Ideal) ℓ) (g : Dev Cert.AdamwScConvWIdeal.nD → PrngReg), Pre_AdamwScConvWIdeal m →
    θ_run (Cert.AdamwScConvWIdeal.defs (F := Ideal)) (onTc (τ := Cert.AdamwScConvWIdeal.τ) (Cert.AdamwScConvWIdeal.main (F := Ideal))) ⟨m, fun _ => 0, g⟩ (fun r => (∀ c : Dev Cert.AdamwScConvWIdeal.nD,
      r.2.mem ((c.tc : Thread Cert.AdamwScConvWIdeal.nD Cert.AdamwScConvWIdeal.τ).loc Cert.AdamwScConvWIdeal.main_arg0) = m ((c.tc : Thread Cert.AdamwScConvWIdeal.nD Cert.AdamwScConvWIdeal.τ).loc Cert.AdamwScConvWIdeal.main_arg0)
      ∧ r.2.mem ((c.tc : Thread Cert.AdamwScConvWIdeal.nD Cert.AdamwScConvWIdeal.τ).loc Cert.AdamwScConvWIdeal.main_arg1) = m ((c.tc : Thread Cert.AdamwScConvWIdeal.nD Cert.AdamwScConvWIdeal.τ).loc Cert.AdamwScConvWIdeal.main_arg1)
      ∧ r.2.mem ((c.tc : Thread Cert.AdamwScConvWIdeal.nD Cert.AdamwScConvWIdeal.τ).loc Cert.AdamwScConvWIdeal.main_arg2) = m ((c.tc : Thread Cert.AdamwScConvWIdeal.nD Cert.AdamwScConvWIdeal.τ).loc Cert.AdamwScConvWIdeal.main_arg2)
      ∧ r.2.mem ((c.tc : Thread Cert.AdamwScConvWIdeal.nD Cert.AdamwScConvWIdeal.τ).loc Cert.AdamwScConvWIdeal.main_arg3) = m ((c.tc : Thread Cert.AdamwScConvWIdeal.nD Cert.AdamwScConvWIdeal.τ).loc Cert.AdamwScConvWIdeal.main_arg3))
      ∧ r.2.sem = fun _ => 0)

def quiescent_AdamwScConvWReferenceIdeal [hAdamwScConvWReferenceIdeal : Cert.AdamwScConvWReferenceIdeal.Facts] : Prop :=
  ∀ (m : (ℓ : Loc Cert.AdamwScConvWReferenceIdeal.nD Cert.AdamwScConvWReferenceIdeal.τ Cert.AdamwScConvWReferenceIdeal.sig) → Buf (Elt Ideal) ℓ) (g : Dev Cert.AdamwScConvWReferenceIdeal.nD → PrngReg), Pre_AdamwScConvWReferenceIdeal m →
    θ_run (Cert.AdamwScConvWReferenceIdeal.defs (F := Ideal)) (onTc (τ := Cert.AdamwScConvWReferenceIdeal.τ) (Cert.AdamwScConvWReferenceIdeal.main (F := Ideal))) ⟨m, fun _ => 0, g⟩ (fun r => (∀ c : Dev Cert.AdamwScConvWReferenceIdeal.nD,
      r.2.mem ((c.tc : Thread Cert.AdamwScConvWReferenceIdeal.nD Cert.AdamwScConvWReferenceIdeal.τ).loc Cert.AdamwScConvWReferenceIdeal.main_arg0) = m ((c.tc : Thread Cert.AdamwScConvWReferenceIdeal.nD Cert.AdamwScConvWReferenceIdeal.τ).loc Cert.AdamwScConvWReferenceIdeal.main_arg0)
      ∧ r.2.mem ((c.tc : Thread Cert.AdamwScConvWReferenceIdeal.nD Cert.AdamwScConvWReferenceIdeal.τ).loc Cert.AdamwScConvWReferenceIdeal.main_arg1) = m ((c.tc : Thread Cert.AdamwScConvWReferenceIdeal.nD Cert.AdamwScConvWReferenceIdeal.τ).loc Cert.AdamwScConvWReferenceIdeal.main_arg1)
      ∧ r.2.mem ((c.tc : Thread Cert.AdamwScConvWReferenceIdeal.nD Cert.AdamwScConvWReferenceIdeal.τ).loc Cert.AdamwScConvWReferenceIdeal.main_arg2) = m ((c.tc : Thread Cert.AdamwScConvWReferenceIdeal.nD Cert.AdamwScConvWReferenceIdeal.τ).loc Cert.AdamwScConvWReferenceIdeal.main_arg2)
      ∧ r.2.mem ((c.tc : Thread Cert.AdamwScConvWReferenceIdeal.nD Cert.AdamwScConvWReferenceIdeal.τ).loc Cert.AdamwScConvWReferenceIdeal.main_arg3) = m ((c.tc : Thread Cert.AdamwScConvWReferenceIdeal.nD Cert.AdamwScConvWReferenceIdeal.τ).loc Cert.AdamwScConvWReferenceIdeal.main_arg3))
      ∧ r.2.sem = fun _ => 0)

def quiescent_AdamwAbWOut [hAdamwAbWOut : Cert.AdamwAbWOut.Facts] : Prop :=
  ∀ (m : (ℓ : Loc Cert.AdamwAbWOut.nD Cert.AdamwAbWOut.τ Cert.AdamwAbWOut.sig) → Buf (Elt Bits) ℓ) (g : Dev Cert.AdamwAbWOut.nD → PrngReg), Pre_AdamwAbWOut m →
    θ_run (Cert.AdamwAbWOut.defs (F := Bits)) (onTc (τ := Cert.AdamwAbWOut.τ) (Cert.AdamwAbWOut.main (F := Bits))) ⟨m, fun _ => 0, g⟩ (fun r => (∀ c : Dev Cert.AdamwAbWOut.nD,
      r.2.mem ((c.tc : Thread Cert.AdamwAbWOut.nD Cert.AdamwAbWOut.τ).loc Cert.AdamwAbWOut.main_arg0) = m ((c.tc : Thread Cert.AdamwAbWOut.nD Cert.AdamwAbWOut.τ).loc Cert.AdamwAbWOut.main_arg0)
      ∧ r.2.mem ((c.tc : Thread Cert.AdamwAbWOut.nD Cert.AdamwAbWOut.τ).loc Cert.AdamwAbWOut.main_arg1) = m ((c.tc : Thread Cert.AdamwAbWOut.nD Cert.AdamwAbWOut.τ).loc Cert.AdamwAbWOut.main_arg1)
      ∧ r.2.mem ((c.tc : Thread Cert.AdamwAbWOut.nD Cert.AdamwAbWOut.τ).loc Cert.AdamwAbWOut.main_arg2) = m ((c.tc : Thread Cert.AdamwAbWOut.nD Cert.AdamwAbWOut.τ).loc Cert.AdamwAbWOut.main_arg2)
      ∧ r.2.mem ((c.tc : Thread Cert.AdamwAbWOut.nD Cert.AdamwAbWOut.τ).loc Cert.AdamwAbWOut.main_arg3) = m ((c.tc : Thread Cert.AdamwAbWOut.nD Cert.AdamwAbWOut.τ).loc Cert.AdamwAbWOut.main_arg3))
      ∧ r.2.sem = fun _ => 0)

def quiescent_AdamwAbWOutIdeal [hAdamwAbWOutIdeal : Cert.AdamwAbWOutIdeal.Facts] : Prop :=
  ∀ (m : (ℓ : Loc Cert.AdamwAbWOutIdeal.nD Cert.AdamwAbWOutIdeal.τ Cert.AdamwAbWOutIdeal.sig) → Buf (Elt Ideal) ℓ) (g : Dev Cert.AdamwAbWOutIdeal.nD → PrngReg), Pre_AdamwAbWOutIdeal m →
    θ_run (Cert.AdamwAbWOutIdeal.defs (F := Ideal)) (onTc (τ := Cert.AdamwAbWOutIdeal.τ) (Cert.AdamwAbWOutIdeal.main (F := Ideal))) ⟨m, fun _ => 0, g⟩ (fun r => (∀ c : Dev Cert.AdamwAbWOutIdeal.nD,
      r.2.mem ((c.tc : Thread Cert.AdamwAbWOutIdeal.nD Cert.AdamwAbWOutIdeal.τ).loc Cert.AdamwAbWOutIdeal.main_arg0) = m ((c.tc : Thread Cert.AdamwAbWOutIdeal.nD Cert.AdamwAbWOutIdeal.τ).loc Cert.AdamwAbWOutIdeal.main_arg0)
      ∧ r.2.mem ((c.tc : Thread Cert.AdamwAbWOutIdeal.nD Cert.AdamwAbWOutIdeal.τ).loc Cert.AdamwAbWOutIdeal.main_arg1) = m ((c.tc : Thread Cert.AdamwAbWOutIdeal.nD Cert.AdamwAbWOutIdeal.τ).loc Cert.AdamwAbWOutIdeal.main_arg1)
      ∧ r.2.mem ((c.tc : Thread Cert.AdamwAbWOutIdeal.nD Cert.AdamwAbWOutIdeal.τ).loc Cert.AdamwAbWOutIdeal.main_arg2) = m ((c.tc : Thread Cert.AdamwAbWOutIdeal.nD Cert.AdamwAbWOutIdeal.τ).loc Cert.AdamwAbWOutIdeal.main_arg2)
      ∧ r.2.mem ((c.tc : Thread Cert.AdamwAbWOutIdeal.nD Cert.AdamwAbWOutIdeal.τ).loc Cert.AdamwAbWOutIdeal.main_arg3) = m ((c.tc : Thread Cert.AdamwAbWOutIdeal.nD Cert.AdamwAbWOutIdeal.τ).loc Cert.AdamwAbWOutIdeal.main_arg3))
      ∧ r.2.sem = fun _ => 0)

def quiescent_AdamwAbWOutReferenceIdeal [hAdamwAbWOutReferenceIdeal : Cert.AdamwAbWOutReferenceIdeal.Facts] : Prop :=
  ∀ (m : (ℓ : Loc Cert.AdamwAbWOutReferenceIdeal.nD Cert.AdamwAbWOutReferenceIdeal.τ Cert.AdamwAbWOutReferenceIdeal.sig) → Buf (Elt Ideal) ℓ) (g : Dev Cert.AdamwAbWOutReferenceIdeal.nD → PrngReg), Pre_AdamwAbWOutReferenceIdeal m →
    θ_run (Cert.AdamwAbWOutReferenceIdeal.defs (F := Ideal)) (onTc (τ := Cert.AdamwAbWOutReferenceIdeal.τ) (Cert.AdamwAbWOutReferenceIdeal.main (F := Ideal))) ⟨m, fun _ => 0, g⟩ (fun r => (∀ c : Dev Cert.AdamwAbWOutReferenceIdeal.nD,
      r.2.mem ((c.tc : Thread Cert.AdamwAbWOutReferenceIdeal.nD Cert.AdamwAbWOutReferenceIdeal.τ).loc Cert.AdamwAbWOutReferenceIdeal.main_arg0) = m ((c.tc : Thread Cert.AdamwAbWOutReferenceIdeal.nD Cert.AdamwAbWOutReferenceIdeal.τ).loc Cert.AdamwAbWOutReferenceIdeal.main_arg0)
      ∧ r.2.mem ((c.tc : Thread Cert.AdamwAbWOutReferenceIdeal.nD Cert.AdamwAbWOutReferenceIdeal.τ).loc Cert.AdamwAbWOutReferenceIdeal.main_arg1) = m ((c.tc : Thread Cert.AdamwAbWOutReferenceIdeal.nD Cert.AdamwAbWOutReferenceIdeal.τ).loc Cert.AdamwAbWOutReferenceIdeal.main_arg1)
      ∧ r.2.mem ((c.tc : Thread Cert.AdamwAbWOutReferenceIdeal.nD Cert.AdamwAbWOutReferenceIdeal.τ).loc Cert.AdamwAbWOutReferenceIdeal.main_arg2) = m ((c.tc : Thread Cert.AdamwAbWOutReferenceIdeal.nD Cert.AdamwAbWOutReferenceIdeal.τ).loc Cert.AdamwAbWOutReferenceIdeal.main_arg2)
      ∧ r.2.mem ((c.tc : Thread Cert.AdamwAbWOutReferenceIdeal.nD Cert.AdamwAbWOutReferenceIdeal.τ).loc Cert.AdamwAbWOutReferenceIdeal.main_arg3) = m ((c.tc : Thread Cert.AdamwAbWOutReferenceIdeal.nD Cert.AdamwAbWOutReferenceIdeal.τ).loc Cert.AdamwAbWOutReferenceIdeal.main_arg3))
      ∧ r.2.sem = fun _ => 0)

def quiescent_AdamwDilWQkv [hAdamwDilWQkv : Cert.AdamwDilWQkv.Facts] : Prop :=
  ∀ (m : (ℓ : Loc Cert.AdamwDilWQkv.nD Cert.AdamwDilWQkv.τ Cert.AdamwDilWQkv.sig) → Buf (Elt Bits) ℓ) (g : Dev Cert.AdamwDilWQkv.nD → PrngReg), Pre_AdamwDilWQkv m →
    θ_run (Cert.AdamwDilWQkv.defs (F := Bits)) (onTc (τ := Cert.AdamwDilWQkv.τ) (Cert.AdamwDilWQkv.main (F := Bits))) ⟨m, fun _ => 0, g⟩ (fun r => (∀ c : Dev Cert.AdamwDilWQkv.nD,
      r.2.mem ((c.tc : Thread Cert.AdamwDilWQkv.nD Cert.AdamwDilWQkv.τ).loc Cert.AdamwDilWQkv.main_arg0) = m ((c.tc : Thread Cert.AdamwDilWQkv.nD Cert.AdamwDilWQkv.τ).loc Cert.AdamwDilWQkv.main_arg0)
      ∧ r.2.mem ((c.tc : Thread Cert.AdamwDilWQkv.nD Cert.AdamwDilWQkv.τ).loc Cert.AdamwDilWQkv.main_arg1) = m ((c.tc : Thread Cert.AdamwDilWQkv.nD Cert.AdamwDilWQkv.τ).loc Cert.AdamwDilWQkv.main_arg1)
      ∧ r.2.mem ((c.tc : Thread Cert.AdamwDilWQkv.nD Cert.AdamwDilWQkv.τ).loc Cert.AdamwDilWQkv.main_arg2) = m ((c.tc : Thread Cert.AdamwDilWQkv.nD Cert.AdamwDilWQkv.τ).loc Cert.AdamwDilWQkv.main_arg2)
      ∧ r.2.mem ((c.tc : Thread Cert.AdamwDilWQkv.nD Cert.AdamwDilWQkv.τ).loc Cert.AdamwDilWQkv.main_arg3) = m ((c.tc : Thread Cert.AdamwDilWQkv.nD Cert.AdamwDilWQkv.τ).loc Cert.AdamwDilWQkv.main_arg3))
      ∧ r.2.sem = fun _ => 0)

def quiescent_AdamwDilWQkvIdeal [hAdamwDilWQkvIdeal : Cert.AdamwDilWQkvIdeal.Facts] : Prop :=
  ∀ (m : (ℓ : Loc Cert.AdamwDilWQkvIdeal.nD Cert.AdamwDilWQkvIdeal.τ Cert.AdamwDilWQkvIdeal.sig) → Buf (Elt Ideal) ℓ) (g : Dev Cert.AdamwDilWQkvIdeal.nD → PrngReg), Pre_AdamwDilWQkvIdeal m →
    θ_run (Cert.AdamwDilWQkvIdeal.defs (F := Ideal)) (onTc (τ := Cert.AdamwDilWQkvIdeal.τ) (Cert.AdamwDilWQkvIdeal.main (F := Ideal))) ⟨m, fun _ => 0, g⟩ (fun r => (∀ c : Dev Cert.AdamwDilWQkvIdeal.nD,
      r.2.mem ((c.tc : Thread Cert.AdamwDilWQkvIdeal.nD Cert.AdamwDilWQkvIdeal.τ).loc Cert.AdamwDilWQkvIdeal.main_arg0) = m ((c.tc : Thread Cert.AdamwDilWQkvIdeal.nD Cert.AdamwDilWQkvIdeal.τ).loc Cert.AdamwDilWQkvIdeal.main_arg0)
      ∧ r.2.mem ((c.tc : Thread Cert.AdamwDilWQkvIdeal.nD Cert.AdamwDilWQkvIdeal.τ).loc Cert.AdamwDilWQkvIdeal.main_arg1) = m ((c.tc : Thread Cert.AdamwDilWQkvIdeal.nD Cert.AdamwDilWQkvIdeal.τ).loc Cert.AdamwDilWQkvIdeal.main_arg1)
      ∧ r.2.mem ((c.tc : Thread Cert.AdamwDilWQkvIdeal.nD Cert.AdamwDilWQkvIdeal.τ).loc Cert.AdamwDilWQkvIdeal.main_arg2) = m ((c.tc : Thread Cert.AdamwDilWQkvIdeal.nD Cert.AdamwDilWQkvIdeal.τ).loc Cert.AdamwDilWQkvIdeal.main_arg2)
      ∧ r.2.mem ((c.tc : Thread Cert.AdamwDilWQkvIdeal.nD Cert.AdamwDilWQkvIdeal.τ).loc Cert.AdamwDilWQkvIdeal.main_arg3) = m ((c.tc : Thread Cert.AdamwDilWQkvIdeal.nD Cert.AdamwDilWQkvIdeal.τ).loc Cert.AdamwDilWQkvIdeal.main_arg3))
      ∧ r.2.sem = fun _ => 0)

def quiescent_AdamwDilWQkvReferenceIdeal [hAdamwDilWQkvReferenceIdeal : Cert.AdamwDilWQkvReferenceIdeal.Facts] : Prop :=
  ∀ (m : (ℓ : Loc Cert.AdamwDilWQkvReferenceIdeal.nD Cert.AdamwDilWQkvReferenceIdeal.τ Cert.AdamwDilWQkvReferenceIdeal.sig) → Buf (Elt Ideal) ℓ) (g : Dev Cert.AdamwDilWQkvReferenceIdeal.nD → PrngReg), Pre_AdamwDilWQkvReferenceIdeal m →
    θ_run (Cert.AdamwDilWQkvReferenceIdeal.defs (F := Ideal)) (onTc (τ := Cert.AdamwDilWQkvReferenceIdeal.τ) (Cert.AdamwDilWQkvReferenceIdeal.main (F := Ideal))) ⟨m, fun _ => 0, g⟩ (fun r => (∀ c : Dev Cert.AdamwDilWQkvReferenceIdeal.nD,
      r.2.mem ((c.tc : Thread Cert.AdamwDilWQkvReferenceIdeal.nD Cert.AdamwDilWQkvReferenceIdeal.τ).loc Cert.AdamwDilWQkvReferenceIdeal.main_arg0) = m ((c.tc : Thread Cert.AdamwDilWQkvReferenceIdeal.nD Cert.AdamwDilWQkvReferenceIdeal.τ).loc Cert.AdamwDilWQkvReferenceIdeal.main_arg0)
      ∧ r.2.mem ((c.tc : Thread Cert.AdamwDilWQkvReferenceIdeal.nD Cert.AdamwDilWQkvReferenceIdeal.τ).loc Cert.AdamwDilWQkvReferenceIdeal.main_arg1) = m ((c.tc : Thread Cert.AdamwDilWQkvReferenceIdeal.nD Cert.AdamwDilWQkvReferenceIdeal.τ).loc Cert.AdamwDilWQkvReferenceIdeal.main_arg1)
      ∧ r.2.mem ((c.tc : Thread Cert.AdamwDilWQkvReferenceIdeal.nD Cert.AdamwDilWQkvReferenceIdeal.τ).loc Cert.AdamwDilWQkvReferenceIdeal.main_arg2) = m ((c.tc : Thread Cert.AdamwDilWQkvReferenceIdeal.nD Cert.AdamwDilWQkvReferenceIdeal.τ).loc Cert.AdamwDilWQkvReferenceIdeal.main_arg2)
      ∧ r.2.mem ((c.tc : Thread Cert.AdamwDilWQkvReferenceIdeal.nD Cert.AdamwDilWQkvReferenceIdeal.τ).loc Cert.AdamwDilWQkvReferenceIdeal.main_arg3) = m ((c.tc : Thread Cert.AdamwDilWQkvReferenceIdeal.nD Cert.AdamwDilWQkvReferenceIdeal.τ).loc Cert.AdamwDilWQkvReferenceIdeal.main_arg3))
      ∧ r.2.sem = fun _ => 0)

def quiescent_AdamwDilWOut [hAdamwDilWOut : Cert.AdamwDilWOut.Facts] : Prop :=
  ∀ (m : (ℓ : Loc Cert.AdamwDilWOut.nD Cert.AdamwDilWOut.τ Cert.AdamwDilWOut.sig) → Buf (Elt Bits) ℓ) (g : Dev Cert.AdamwDilWOut.nD → PrngReg), Pre_AdamwDilWOut m →
    θ_run (Cert.AdamwDilWOut.defs (F := Bits)) (onTc (τ := Cert.AdamwDilWOut.τ) (Cert.AdamwDilWOut.main (F := Bits))) ⟨m, fun _ => 0, g⟩ (fun r => (∀ c : Dev Cert.AdamwDilWOut.nD,
      r.2.mem ((c.tc : Thread Cert.AdamwDilWOut.nD Cert.AdamwDilWOut.τ).loc Cert.AdamwDilWOut.main_arg0) = m ((c.tc : Thread Cert.AdamwDilWOut.nD Cert.AdamwDilWOut.τ).loc Cert.AdamwDilWOut.main_arg0)
      ∧ r.2.mem ((c.tc : Thread Cert.AdamwDilWOut.nD Cert.AdamwDilWOut.τ).loc Cert.AdamwDilWOut.main_arg1) = m ((c.tc : Thread Cert.AdamwDilWOut.nD Cert.AdamwDilWOut.τ).loc Cert.AdamwDilWOut.main_arg1)
      ∧ r.2.mem ((c.tc : Thread Cert.AdamwDilWOut.nD Cert.AdamwDilWOut.τ).loc Cert.AdamwDilWOut.main_arg2) = m ((c.tc : Thread Cert.AdamwDilWOut.nD Cert.AdamwDilWOut.τ).loc Cert.AdamwDilWOut.main_arg2)
      ∧ r.2.mem ((c.tc : Thread Cert.AdamwDilWOut.nD Cert.AdamwDilWOut.τ).loc Cert.AdamwDilWOut.main_arg3) = m ((c.tc : Thread Cert.AdamwDilWOut.nD Cert.AdamwDilWOut.τ).loc Cert.AdamwDilWOut.main_arg3))
      ∧ r.2.sem = fun _ => 0)

def quiescent_AdamwDilWOutIdeal [hAdamwDilWOutIdeal : Cert.AdamwDilWOutIdeal.Facts] : Prop :=
  ∀ (m : (ℓ : Loc Cert.AdamwDilWOutIdeal.nD Cert.AdamwDilWOutIdeal.τ Cert.AdamwDilWOutIdeal.sig) → Buf (Elt Ideal) ℓ) (g : Dev Cert.AdamwDilWOutIdeal.nD → PrngReg), Pre_AdamwDilWOutIdeal m →
    θ_run (Cert.AdamwDilWOutIdeal.defs (F := Ideal)) (onTc (τ := Cert.AdamwDilWOutIdeal.τ) (Cert.AdamwDilWOutIdeal.main (F := Ideal))) ⟨m, fun _ => 0, g⟩ (fun r => (∀ c : Dev Cert.AdamwDilWOutIdeal.nD,
      r.2.mem ((c.tc : Thread Cert.AdamwDilWOutIdeal.nD Cert.AdamwDilWOutIdeal.τ).loc Cert.AdamwDilWOutIdeal.main_arg0) = m ((c.tc : Thread Cert.AdamwDilWOutIdeal.nD Cert.AdamwDilWOutIdeal.τ).loc Cert.AdamwDilWOutIdeal.main_arg0)
      ∧ r.2.mem ((c.tc : Thread Cert.AdamwDilWOutIdeal.nD Cert.AdamwDilWOutIdeal.τ).loc Cert.AdamwDilWOutIdeal.main_arg1) = m ((c.tc : Thread Cert.AdamwDilWOutIdeal.nD Cert.AdamwDilWOutIdeal.τ).loc Cert.AdamwDilWOutIdeal.main_arg1)
      ∧ r.2.mem ((c.tc : Thread Cert.AdamwDilWOutIdeal.nD Cert.AdamwDilWOutIdeal.τ).loc Cert.AdamwDilWOutIdeal.main_arg2) = m ((c.tc : Thread Cert.AdamwDilWOutIdeal.nD Cert.AdamwDilWOutIdeal.τ).loc Cert.AdamwDilWOutIdeal.main_arg2)
      ∧ r.2.mem ((c.tc : Thread Cert.AdamwDilWOutIdeal.nD Cert.AdamwDilWOutIdeal.τ).loc Cert.AdamwDilWOutIdeal.main_arg3) = m ((c.tc : Thread Cert.AdamwDilWOutIdeal.nD Cert.AdamwDilWOutIdeal.τ).loc Cert.AdamwDilWOutIdeal.main_arg3))
      ∧ r.2.sem = fun _ => 0)

def quiescent_AdamwDilWOutReferenceIdeal [hAdamwDilWOutReferenceIdeal : Cert.AdamwDilWOutReferenceIdeal.Facts] : Prop :=
  ∀ (m : (ℓ : Loc Cert.AdamwDilWOutReferenceIdeal.nD Cert.AdamwDilWOutReferenceIdeal.τ Cert.AdamwDilWOutReferenceIdeal.sig) → Buf (Elt Ideal) ℓ) (g : Dev Cert.AdamwDilWOutReferenceIdeal.nD → PrngReg), Pre_AdamwDilWOutReferenceIdeal m →
    θ_run (Cert.AdamwDilWOutReferenceIdeal.defs (F := Ideal)) (onTc (τ := Cert.AdamwDilWOutReferenceIdeal.τ) (Cert.AdamwDilWOutReferenceIdeal.main (F := Ideal))) ⟨m, fun _ => 0, g⟩ (fun r => (∀ c : Dev Cert.AdamwDilWOutReferenceIdeal.nD,
      r.2.mem ((c.tc : Thread Cert.AdamwDilWOutReferenceIdeal.nD Cert.AdamwDilWOutReferenceIdeal.τ).loc Cert.AdamwDilWOutReferenceIdeal.main_arg0) = m ((c.tc : Thread Cert.AdamwDilWOutReferenceIdeal.nD Cert.AdamwDilWOutReferenceIdeal.τ).loc Cert.AdamwDilWOutReferenceIdeal.main_arg0)
      ∧ r.2.mem ((c.tc : Thread Cert.AdamwDilWOutReferenceIdeal.nD Cert.AdamwDilWOutReferenceIdeal.τ).loc Cert.AdamwDilWOutReferenceIdeal.main_arg1) = m ((c.tc : Thread Cert.AdamwDilWOutReferenceIdeal.nD Cert.AdamwDilWOutReferenceIdeal.τ).loc Cert.AdamwDilWOutReferenceIdeal.main_arg1)
      ∧ r.2.mem ((c.tc : Thread Cert.AdamwDilWOutReferenceIdeal.nD Cert.AdamwDilWOutReferenceIdeal.τ).loc Cert.AdamwDilWOutReferenceIdeal.main_arg2) = m ((c.tc : Thread Cert.AdamwDilWOutReferenceIdeal.nD Cert.AdamwDilWOutReferenceIdeal.τ).loc Cert.AdamwDilWOutReferenceIdeal.main_arg2)
      ∧ r.2.mem ((c.tc : Thread Cert.AdamwDilWOutReferenceIdeal.nD Cert.AdamwDilWOutReferenceIdeal.τ).loc Cert.AdamwDilWOutReferenceIdeal.main_arg3) = m ((c.tc : Thread Cert.AdamwDilWOutReferenceIdeal.nD Cert.AdamwDilWOutReferenceIdeal.τ).loc Cert.AdamwDilWOutReferenceIdeal.main_arg3))
      ∧ r.2.sem = fun _ => 0)

def quiescent_AdamwRelBias [hAdamwRelBias : Cert.AdamwRelBias.Facts] : Prop :=
  ∀ (m : (ℓ : Loc Cert.AdamwRelBias.nD Cert.AdamwRelBias.τ Cert.AdamwRelBias.sig) → Buf (Elt Bits) ℓ) (g : Dev Cert.AdamwRelBias.nD → PrngReg), Pre_AdamwRelBias m →
    θ_run (Cert.AdamwRelBias.defs (F := Bits)) (onTc (τ := Cert.AdamwRelBias.τ) (Cert.AdamwRelBias.main (F := Bits))) ⟨m, fun _ => 0, g⟩ (fun r => (∀ c : Dev Cert.AdamwRelBias.nD,
      r.2.mem ((c.tc : Thread Cert.AdamwRelBias.nD Cert.AdamwRelBias.τ).loc Cert.AdamwRelBias.main_arg0) = m ((c.tc : Thread Cert.AdamwRelBias.nD Cert.AdamwRelBias.τ).loc Cert.AdamwRelBias.main_arg0)
      ∧ r.2.mem ((c.tc : Thread Cert.AdamwRelBias.nD Cert.AdamwRelBias.τ).loc Cert.AdamwRelBias.main_arg1) = m ((c.tc : Thread Cert.AdamwRelBias.nD Cert.AdamwRelBias.τ).loc Cert.AdamwRelBias.main_arg1)
      ∧ r.2.mem ((c.tc : Thread Cert.AdamwRelBias.nD Cert.AdamwRelBias.τ).loc Cert.AdamwRelBias.main_arg2) = m ((c.tc : Thread Cert.AdamwRelBias.nD Cert.AdamwRelBias.τ).loc Cert.AdamwRelBias.main_arg2)
      ∧ r.2.mem ((c.tc : Thread Cert.AdamwRelBias.nD Cert.AdamwRelBias.τ).loc Cert.AdamwRelBias.main_arg3) = m ((c.tc : Thread Cert.AdamwRelBias.nD Cert.AdamwRelBias.τ).loc Cert.AdamwRelBias.main_arg3))
      ∧ r.2.sem = fun _ => 0)

def quiescent_AdamwRelBiasIdeal [hAdamwRelBiasIdeal : Cert.AdamwRelBiasIdeal.Facts] : Prop :=
  ∀ (m : (ℓ : Loc Cert.AdamwRelBiasIdeal.nD Cert.AdamwRelBiasIdeal.τ Cert.AdamwRelBiasIdeal.sig) → Buf (Elt Ideal) ℓ) (g : Dev Cert.AdamwRelBiasIdeal.nD → PrngReg), Pre_AdamwRelBiasIdeal m →
    θ_run (Cert.AdamwRelBiasIdeal.defs (F := Ideal)) (onTc (τ := Cert.AdamwRelBiasIdeal.τ) (Cert.AdamwRelBiasIdeal.main (F := Ideal))) ⟨m, fun _ => 0, g⟩ (fun r => (∀ c : Dev Cert.AdamwRelBiasIdeal.nD,
      r.2.mem ((c.tc : Thread Cert.AdamwRelBiasIdeal.nD Cert.AdamwRelBiasIdeal.τ).loc Cert.AdamwRelBiasIdeal.main_arg0) = m ((c.tc : Thread Cert.AdamwRelBiasIdeal.nD Cert.AdamwRelBiasIdeal.τ).loc Cert.AdamwRelBiasIdeal.main_arg0)
      ∧ r.2.mem ((c.tc : Thread Cert.AdamwRelBiasIdeal.nD Cert.AdamwRelBiasIdeal.τ).loc Cert.AdamwRelBiasIdeal.main_arg1) = m ((c.tc : Thread Cert.AdamwRelBiasIdeal.nD Cert.AdamwRelBiasIdeal.τ).loc Cert.AdamwRelBiasIdeal.main_arg1)
      ∧ r.2.mem ((c.tc : Thread Cert.AdamwRelBiasIdeal.nD Cert.AdamwRelBiasIdeal.τ).loc Cert.AdamwRelBiasIdeal.main_arg2) = m ((c.tc : Thread Cert.AdamwRelBiasIdeal.nD Cert.AdamwRelBiasIdeal.τ).loc Cert.AdamwRelBiasIdeal.main_arg2)
      ∧ r.2.mem ((c.tc : Thread Cert.AdamwRelBiasIdeal.nD Cert.AdamwRelBiasIdeal.τ).loc Cert.AdamwRelBiasIdeal.main_arg3) = m ((c.tc : Thread Cert.AdamwRelBiasIdeal.nD Cert.AdamwRelBiasIdeal.τ).loc Cert.AdamwRelBiasIdeal.main_arg3))
      ∧ r.2.sem = fun _ => 0)

def quiescent_AdamwRelBiasReferenceIdeal [hAdamwRelBiasReferenceIdeal : Cert.AdamwRelBiasReferenceIdeal.Facts] : Prop :=
  ∀ (m : (ℓ : Loc Cert.AdamwRelBiasReferenceIdeal.nD Cert.AdamwRelBiasReferenceIdeal.τ Cert.AdamwRelBiasReferenceIdeal.sig) → Buf (Elt Ideal) ℓ) (g : Dev Cert.AdamwRelBiasReferenceIdeal.nD → PrngReg), Pre_AdamwRelBiasReferenceIdeal m →
    θ_run (Cert.AdamwRelBiasReferenceIdeal.defs (F := Ideal)) (onTc (τ := Cert.AdamwRelBiasReferenceIdeal.τ) (Cert.AdamwRelBiasReferenceIdeal.main (F := Ideal))) ⟨m, fun _ => 0, g⟩ (fun r => (∀ c : Dev Cert.AdamwRelBiasReferenceIdeal.nD,
      r.2.mem ((c.tc : Thread Cert.AdamwRelBiasReferenceIdeal.nD Cert.AdamwRelBiasReferenceIdeal.τ).loc Cert.AdamwRelBiasReferenceIdeal.main_arg0) = m ((c.tc : Thread Cert.AdamwRelBiasReferenceIdeal.nD Cert.AdamwRelBiasReferenceIdeal.τ).loc Cert.AdamwRelBiasReferenceIdeal.main_arg0)
      ∧ r.2.mem ((c.tc : Thread Cert.AdamwRelBiasReferenceIdeal.nD Cert.AdamwRelBiasReferenceIdeal.τ).loc Cert.AdamwRelBiasReferenceIdeal.main_arg1) = m ((c.tc : Thread Cert.AdamwRelBiasReferenceIdeal.nD Cert.AdamwRelBiasReferenceIdeal.τ).loc Cert.AdamwRelBiasReferenceIdeal.main_arg1)
      ∧ r.2.mem ((c.tc : Thread Cert.AdamwRelBiasReferenceIdeal.nD Cert.AdamwRelBiasReferenceIdeal.τ).loc Cert.AdamwRelBiasReferenceIdeal.main_arg2) = m ((c.tc : Thread Cert.AdamwRelBiasReferenceIdeal.nD Cert.AdamwRelBiasReferenceIdeal.τ).loc Cert.AdamwRelBiasReferenceIdeal.main_arg2)
      ∧ r.2.mem ((c.tc : Thread Cert.AdamwRelBiasReferenceIdeal.nD Cert.AdamwRelBiasReferenceIdeal.τ).loc Cert.AdamwRelBiasReferenceIdeal.main_arg3) = m ((c.tc : Thread Cert.AdamwRelBiasReferenceIdeal.nD Cert.AdamwRelBiasReferenceIdeal.τ).loc Cert.AdamwRelBiasReferenceIdeal.main_arg3))
      ∧ r.2.sem = fun _ => 0)

def quiescent_AdamwMlpW1 [hAdamwMlpW1 : Cert.AdamwMlpW1.Facts] : Prop :=
  ∀ (m : (ℓ : Loc Cert.AdamwMlpW1.nD Cert.AdamwMlpW1.τ Cert.AdamwMlpW1.sig) → Buf (Elt Bits) ℓ) (g : Dev Cert.AdamwMlpW1.nD → PrngReg), Pre_AdamwMlpW1 m →
    θ_run (Cert.AdamwMlpW1.defs (F := Bits)) (onTc (τ := Cert.AdamwMlpW1.τ) (Cert.AdamwMlpW1.main (F := Bits))) ⟨m, fun _ => 0, g⟩ (fun r => (∀ c : Dev Cert.AdamwMlpW1.nD,
      r.2.mem ((c.tc : Thread Cert.AdamwMlpW1.nD Cert.AdamwMlpW1.τ).loc Cert.AdamwMlpW1.main_arg0) = m ((c.tc : Thread Cert.AdamwMlpW1.nD Cert.AdamwMlpW1.τ).loc Cert.AdamwMlpW1.main_arg0)
      ∧ r.2.mem ((c.tc : Thread Cert.AdamwMlpW1.nD Cert.AdamwMlpW1.τ).loc Cert.AdamwMlpW1.main_arg1) = m ((c.tc : Thread Cert.AdamwMlpW1.nD Cert.AdamwMlpW1.τ).loc Cert.AdamwMlpW1.main_arg1)
      ∧ r.2.mem ((c.tc : Thread Cert.AdamwMlpW1.nD Cert.AdamwMlpW1.τ).loc Cert.AdamwMlpW1.main_arg2) = m ((c.tc : Thread Cert.AdamwMlpW1.nD Cert.AdamwMlpW1.τ).loc Cert.AdamwMlpW1.main_arg2)
      ∧ r.2.mem ((c.tc : Thread Cert.AdamwMlpW1.nD Cert.AdamwMlpW1.τ).loc Cert.AdamwMlpW1.main_arg3) = m ((c.tc : Thread Cert.AdamwMlpW1.nD Cert.AdamwMlpW1.τ).loc Cert.AdamwMlpW1.main_arg3))
      ∧ r.2.sem = fun _ => 0)

def quiescent_AdamwMlpW1Ideal [hAdamwMlpW1Ideal : Cert.AdamwMlpW1Ideal.Facts] : Prop :=
  ∀ (m : (ℓ : Loc Cert.AdamwMlpW1Ideal.nD Cert.AdamwMlpW1Ideal.τ Cert.AdamwMlpW1Ideal.sig) → Buf (Elt Ideal) ℓ) (g : Dev Cert.AdamwMlpW1Ideal.nD → PrngReg), Pre_AdamwMlpW1Ideal m →
    θ_run (Cert.AdamwMlpW1Ideal.defs (F := Ideal)) (onTc (τ := Cert.AdamwMlpW1Ideal.τ) (Cert.AdamwMlpW1Ideal.main (F := Ideal))) ⟨m, fun _ => 0, g⟩ (fun r => (∀ c : Dev Cert.AdamwMlpW1Ideal.nD,
      r.2.mem ((c.tc : Thread Cert.AdamwMlpW1Ideal.nD Cert.AdamwMlpW1Ideal.τ).loc Cert.AdamwMlpW1Ideal.main_arg0) = m ((c.tc : Thread Cert.AdamwMlpW1Ideal.nD Cert.AdamwMlpW1Ideal.τ).loc Cert.AdamwMlpW1Ideal.main_arg0)
      ∧ r.2.mem ((c.tc : Thread Cert.AdamwMlpW1Ideal.nD Cert.AdamwMlpW1Ideal.τ).loc Cert.AdamwMlpW1Ideal.main_arg1) = m ((c.tc : Thread Cert.AdamwMlpW1Ideal.nD Cert.AdamwMlpW1Ideal.τ).loc Cert.AdamwMlpW1Ideal.main_arg1)
      ∧ r.2.mem ((c.tc : Thread Cert.AdamwMlpW1Ideal.nD Cert.AdamwMlpW1Ideal.τ).loc Cert.AdamwMlpW1Ideal.main_arg2) = m ((c.tc : Thread Cert.AdamwMlpW1Ideal.nD Cert.AdamwMlpW1Ideal.τ).loc Cert.AdamwMlpW1Ideal.main_arg2)
      ∧ r.2.mem ((c.tc : Thread Cert.AdamwMlpW1Ideal.nD Cert.AdamwMlpW1Ideal.τ).loc Cert.AdamwMlpW1Ideal.main_arg3) = m ((c.tc : Thread Cert.AdamwMlpW1Ideal.nD Cert.AdamwMlpW1Ideal.τ).loc Cert.AdamwMlpW1Ideal.main_arg3))
      ∧ r.2.sem = fun _ => 0)

def quiescent_AdamwMlpW1ReferenceIdeal [hAdamwMlpW1ReferenceIdeal : Cert.AdamwMlpW1ReferenceIdeal.Facts] : Prop :=
  ∀ (m : (ℓ : Loc Cert.AdamwMlpW1ReferenceIdeal.nD Cert.AdamwMlpW1ReferenceIdeal.τ Cert.AdamwMlpW1ReferenceIdeal.sig) → Buf (Elt Ideal) ℓ) (g : Dev Cert.AdamwMlpW1ReferenceIdeal.nD → PrngReg), Pre_AdamwMlpW1ReferenceIdeal m →
    θ_run (Cert.AdamwMlpW1ReferenceIdeal.defs (F := Ideal)) (onTc (τ := Cert.AdamwMlpW1ReferenceIdeal.τ) (Cert.AdamwMlpW1ReferenceIdeal.main (F := Ideal))) ⟨m, fun _ => 0, g⟩ (fun r => (∀ c : Dev Cert.AdamwMlpW1ReferenceIdeal.nD,
      r.2.mem ((c.tc : Thread Cert.AdamwMlpW1ReferenceIdeal.nD Cert.AdamwMlpW1ReferenceIdeal.τ).loc Cert.AdamwMlpW1ReferenceIdeal.main_arg0) = m ((c.tc : Thread Cert.AdamwMlpW1ReferenceIdeal.nD Cert.AdamwMlpW1ReferenceIdeal.τ).loc Cert.AdamwMlpW1ReferenceIdeal.main_arg0)
      ∧ r.2.mem ((c.tc : Thread Cert.AdamwMlpW1ReferenceIdeal.nD Cert.AdamwMlpW1ReferenceIdeal.τ).loc Cert.AdamwMlpW1ReferenceIdeal.main_arg1) = m ((c.tc : Thread Cert.AdamwMlpW1ReferenceIdeal.nD Cert.AdamwMlpW1ReferenceIdeal.τ).loc Cert.AdamwMlpW1ReferenceIdeal.main_arg1)
      ∧ r.2.mem ((c.tc : Thread Cert.AdamwMlpW1ReferenceIdeal.nD Cert.AdamwMlpW1ReferenceIdeal.τ).loc Cert.AdamwMlpW1ReferenceIdeal.main_arg2) = m ((c.tc : Thread Cert.AdamwMlpW1ReferenceIdeal.nD Cert.AdamwMlpW1ReferenceIdeal.τ).loc Cert.AdamwMlpW1ReferenceIdeal.main_arg2)
      ∧ r.2.mem ((c.tc : Thread Cert.AdamwMlpW1ReferenceIdeal.nD Cert.AdamwMlpW1ReferenceIdeal.τ).loc Cert.AdamwMlpW1ReferenceIdeal.main_arg3) = m ((c.tc : Thread Cert.AdamwMlpW1ReferenceIdeal.nD Cert.AdamwMlpW1ReferenceIdeal.τ).loc Cert.AdamwMlpW1ReferenceIdeal.main_arg3))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdReferenceIdeal [hAdaFwdReferenceIdeal : Cert.AdaFwdReferenceIdeal.Facts] : Prop :=
  ∀ (m : (ℓ : Loc Cert.AdaFwdReferenceIdeal.nD Cert.AdaFwdReferenceIdeal.τ Cert.AdaFwdReferenceIdeal.sig) → Buf (Elt Ideal) ℓ) (g : Dev Cert.AdaFwdReferenceIdeal.nD → PrngReg), Pre_AdaFwdReferenceIdeal m →
    θ_run (Cert.AdaFwdReferenceIdeal.defs (F := Ideal)) (onTc (τ := Cert.AdaFwdReferenceIdeal.τ) (Cert.AdaFwdReferenceIdeal.main (F := Ideal))) ⟨m, fun _ => 0, g⟩ (fun r => (∀ c : Dev Cert.AdaFwdReferenceIdeal.nD,
      r.2.mem ((c.tc : Thread Cert.AdaFwdReferenceIdeal.nD Cert.AdaFwdReferenceIdeal.τ).loc Cert.AdaFwdReferenceIdeal.main_arg0) = m ((c.tc : Thread Cert.AdaFwdReferenceIdeal.nD Cert.AdaFwdReferenceIdeal.τ).loc Cert.AdaFwdReferenceIdeal.main_arg0)
      ∧ r.2.mem ((c.tc : Thread Cert.AdaFwdReferenceIdeal.nD Cert.AdaFwdReferenceIdeal.τ).loc Cert.AdaFwdReferenceIdeal.main_arg1) = m ((c.tc : Thread Cert.AdaFwdReferenceIdeal.nD Cert.AdaFwdReferenceIdeal.τ).loc Cert.AdaFwdReferenceIdeal.main_arg1)
      ∧ r.2.mem ((c.tc : Thread Cert.AdaFwdReferenceIdeal.nD Cert.AdaFwdReferenceIdeal.τ).loc Cert.AdaFwdReferenceIdeal.main_arg2) = m ((c.tc : Thread Cert.AdaFwdReferenceIdeal.nD Cert.AdaFwdReferenceIdeal.τ).loc Cert.AdaFwdReferenceIdeal.main_arg2))
      ∧ r.2.sem = fun _ => 0)

def quiescent_AdaGrad [hAdaGrad : Cert.AdaGrad.Facts] : Prop :=
  ∀ (m : (ℓ : Loc Cert.AdaGrad.nD Cert.AdaGrad.τ Cert.AdaGrad.sig) → Buf (Elt Bits) ℓ) (g : Dev Cert.AdaGrad.nD → PrngReg), Pre_AdaGrad m →
    θ_run (Cert.AdaGrad.defs (F := Bits)) (onTc (τ := Cert.AdaGrad.τ) (Cert.AdaGrad.main (F := Bits))) ⟨m, fun _ => 0, g⟩ (fun r => (∀ c : Dev Cert.AdaGrad.nD,
      r.2.mem ((c.tc : Thread Cert.AdaGrad.nD Cert.AdaGrad.τ).loc Cert.AdaGrad.main_arg0) = m ((c.tc : Thread Cert.AdaGrad.nD Cert.AdaGrad.τ).loc Cert.AdaGrad.main_arg0)
      ∧ r.2.mem ((c.tc : Thread Cert.AdaGrad.nD Cert.AdaGrad.τ).loc Cert.AdaGrad.main_arg1) = m ((c.tc : Thread Cert.AdaGrad.nD Cert.AdaGrad.τ).loc Cert.AdaGrad.main_arg1))
      ∧ r.2.sem = fun _ => 0)

def quiescent_AdaGradIdeal [hAdaGradIdeal : Cert.AdaGradIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg), Pre_AdaGradIdeal m →
    θ_run (Cert.AdaGradIdeal.defs (F := Ideal)) (onTc (τ := Cert.AdaGradIdeal.τ) (Cert.AdaGradIdeal.main (F := Ideal))) ⟨m, fun _ => 0, g⟩ (fun r => (∀ c : Dev Cert.AdaGradIdeal.nD,
      r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
      ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ r.2.sem = fun _ => 0)

def quiescent_AdaGradReferenceIdeal [hAdaGradReferenceIdeal : Cert.AdaGradReferenceIdeal.Facts] : Prop :=
  ∀ (m : (ℓ : Loc Cert.AdaGradReferenceIdeal.nD Cert.AdaGradReferenceIdeal.τ Cert.AdaGradReferenceIdeal.sig) → Buf (Elt Ideal) ℓ) (g : Dev Cert.AdaGradReferenceIdeal.nD → PrngReg), Pre_AdaGradReferenceIdeal m →
    θ_run (Cert.AdaGradReferenceIdeal.defs (F := Ideal)) (onTc (τ := Cert.AdaGradReferenceIdeal.τ) (Cert.AdaGradReferenceIdeal.main (F := Ideal))) ⟨m, fun _ => 0, g⟩ (fun r => (∀ c : Dev Cert.AdaGradReferenceIdeal.nD,
      r.2.mem ((c.tc : Thread Cert.AdaGradReferenceIdeal.nD Cert.AdaGradReferenceIdeal.τ).loc Cert.AdaGradReferenceIdeal.main_arg0) = m ((c.tc : Thread Cert.AdaGradReferenceIdeal.nD Cert.AdaGradReferenceIdeal.τ).loc Cert.AdaGradReferenceIdeal.main_arg0)
      ∧ r.2.mem ((c.tc : Thread Cert.AdaGradReferenceIdeal.nD Cert.AdaGradReferenceIdeal.τ).loc Cert.AdaGradReferenceIdeal.main_arg1) = m ((c.tc : Thread Cert.AdaGradReferenceIdeal.nD Cert.AdaGradReferenceIdeal.τ).loc Cert.AdaGradReferenceIdeal.main_arg1))
      ∧ r.2.sem = fun _ => 0)

def quiescent_ModIn [hModIn : Cert.ModIn.Facts] : Prop :=
  ∀ (m : (ℓ : Loc Cert.ModIn.nD Cert.ModIn.τ Cert.ModIn.sig) → Buf (Elt Bits) ℓ) (g : Dev Cert.ModIn.nD → PrngReg), Pre_ModIn m →
    θ_run (Cert.ModIn.defs (F := Bits)) (onTc (τ := Cert.ModIn.τ) (Cert.ModIn.main (F := Bits))) ⟨m, fun _ => 0, g⟩ (fun r => (∀ c : Dev Cert.ModIn.nD,
      r.2.mem ((c.tc : Thread Cert.ModIn.nD Cert.ModIn.τ).loc Cert.ModIn.main_arg0) = m ((c.tc : Thread Cert.ModIn.nD Cert.ModIn.τ).loc Cert.ModIn.main_arg0)
      ∧ r.2.mem ((c.tc : Thread Cert.ModIn.nD Cert.ModIn.τ).loc Cert.ModIn.main_arg1) = m ((c.tc : Thread Cert.ModIn.nD Cert.ModIn.τ).loc Cert.ModIn.main_arg1)
      ∧ r.2.mem ((c.tc : Thread Cert.ModIn.nD Cert.ModIn.τ).loc Cert.ModIn.main_arg2) = m ((c.tc : Thread Cert.ModIn.nD Cert.ModIn.τ).loc Cert.ModIn.main_arg2))
      ∧ r.2.sem = fun _ => 0)

def quiescent_ModInIdeal [hModInIdeal : Cert.ModInIdeal.Facts] : Prop :=
  ∀ (m : (ℓ : Loc Cert.ModInIdeal.nD Cert.ModInIdeal.τ Cert.ModInIdeal.sig) → Buf (Elt Ideal) ℓ) (g : Dev Cert.ModInIdeal.nD → PrngReg), Pre_ModInIdeal m →
    θ_run (Cert.ModInIdeal.defs (F := Ideal)) (onTc (τ := Cert.ModInIdeal.τ) (Cert.ModInIdeal.main (F := Ideal))) ⟨m, fun _ => 0, g⟩ (fun r => (∀ c : Dev Cert.ModInIdeal.nD,
      r.2.mem ((c.tc : Thread Cert.ModInIdeal.nD Cert.ModInIdeal.τ).loc Cert.ModInIdeal.main_arg0) = m ((c.tc : Thread Cert.ModInIdeal.nD Cert.ModInIdeal.τ).loc Cert.ModInIdeal.main_arg0)
      ∧ r.2.mem ((c.tc : Thread Cert.ModInIdeal.nD Cert.ModInIdeal.τ).loc Cert.ModInIdeal.main_arg1) = m ((c.tc : Thread Cert.ModInIdeal.nD Cert.ModInIdeal.τ).loc Cert.ModInIdeal.main_arg1)
      ∧ r.2.mem ((c.tc : Thread Cert.ModInIdeal.nD Cert.ModInIdeal.τ).loc Cert.ModInIdeal.main_arg2) = m ((c.tc : Thread Cert.ModInIdeal.nD Cert.ModInIdeal.τ).loc Cert.ModInIdeal.main_arg2))
      ∧ r.2.sem = fun _ => 0)

def quiescent_ModInReferenceIdeal [hModInReferenceIdeal : Cert.ModInReferenceIdeal.Facts] : Prop :=
  ∀ (m : (ℓ : Loc Cert.ModInReferenceIdeal.nD Cert.ModInReferenceIdeal.τ Cert.ModInReferenceIdeal.sig) → Buf (Elt Ideal) ℓ) (g : Dev Cert.ModInReferenceIdeal.nD → PrngReg), Pre_ModInReferenceIdeal m →
    θ_run (Cert.ModInReferenceIdeal.defs (F := Ideal)) (onTc (τ := Cert.ModInReferenceIdeal.τ) (Cert.ModInReferenceIdeal.main (F := Ideal))) ⟨m, fun _ => 0, g⟩ (fun r => (∀ c : Dev Cert.ModInReferenceIdeal.nD,
      r.2.mem ((c.tc : Thread Cert.ModInReferenceIdeal.nD Cert.ModInReferenceIdeal.τ).loc Cert.ModInReferenceIdeal.main_arg0) = m ((c.tc : Thread Cert.ModInReferenceIdeal.nD Cert.ModInReferenceIdeal.τ).loc Cert.ModInReferenceIdeal.main_arg0)
      ∧ r.2.mem ((c.tc : Thread Cert.ModInReferenceIdeal.nD Cert.ModInReferenceIdeal.τ).loc Cert.ModInReferenceIdeal.main_arg1) = m ((c.tc : Thread Cert.ModInReferenceIdeal.nD Cert.ModInReferenceIdeal.τ).loc Cert.ModInReferenceIdeal.main_arg1)
      ∧ r.2.mem ((c.tc : Thread Cert.ModInReferenceIdeal.nD Cert.ModInReferenceIdeal.τ).loc Cert.ModInReferenceIdeal.main_arg2) = m ((c.tc : Thread Cert.ModInReferenceIdeal.nD Cert.ModInReferenceIdeal.τ).loc Cert.ModInReferenceIdeal.main_arg2))
      ∧ r.2.sem = fun _ => 0)

def quiescent_LnMix [hLnMix : Cert.LnMix.Facts] : Prop :=
  ∀ (m : (ℓ : Loc Cert.LnMix.nD Cert.LnMix.τ Cert.LnMix.sig) → Buf (Elt Bits) ℓ) (g : Dev Cert.LnMix.nD → PrngReg), Pre_LnMix m →
    θ_run (Cert.LnMix.defs (F := Bits)) (onTc (τ := Cert.LnMix.τ) (Cert.LnMix.main (F := Bits))) ⟨m, fun _ => 0, g⟩ (fun r => (∀ c : Dev Cert.LnMix.nD,
      r.2.mem ((c.tc : Thread Cert.LnMix.nD Cert.LnMix.τ).loc Cert.LnMix.main_arg0) = m ((c.tc : Thread Cert.LnMix.nD Cert.LnMix.τ).loc Cert.LnMix.main_arg0)
      ∧ r.2.mem ((c.tc : Thread Cert.LnMix.nD Cert.LnMix.τ).loc Cert.LnMix.main_arg1) = m ((c.tc : Thread Cert.LnMix.nD Cert.LnMix.τ).loc Cert.LnMix.main_arg1)
      ∧ r.2.mem ((c.tc : Thread Cert.LnMix.nD Cert.LnMix.τ).loc Cert.LnMix.main_arg2) = m ((c.tc : Thread Cert.LnMix.nD Cert.LnMix.τ).loc Cert.LnMix.main_arg2)
      ∧ r.2.mem ((c.tc : Thread Cert.LnMix.nD Cert.LnMix.τ).loc Cert.LnMix.main_arg3) = m ((c.tc : Thread Cert.LnMix.nD Cert.LnMix.τ).loc Cert.LnMix.main_arg3)
      ∧ r.2.mem ((c.tc : Thread Cert.LnMix.nD Cert.LnMix.τ).loc Cert.LnMix.main_arg4) = m ((c.tc : Thread Cert.LnMix.nD Cert.LnMix.τ).loc Cert.LnMix.main_arg4)
      ∧ r.2.mem ((c.tc : Thread Cert.LnMix.nD Cert.LnMix.τ).loc Cert.LnMix.main_arg5) = m ((c.tc : Thread Cert.LnMix.nD Cert.LnMix.τ).loc Cert.LnMix.main_arg5)
      ∧ r.2.mem ((c.tc : Thread Cert.LnMix.nD Cert.LnMix.τ).loc Cert.LnMix.main_arg6) = m ((c.tc : Thread Cert.LnMix.nD Cert.LnMix.τ).loc Cert.LnMix.main_arg6))
      ∧ r.2.sem = fun _ => 0)

def quiescent_LnMixIdeal [hLnMixIdeal : Cert.LnMixIdeal.Facts] : Prop :=
  ∀ (m : (ℓ : Loc Cert.LnMixIdeal.nD Cert.LnMixIdeal.τ Cert.LnMixIdeal.sig) → Buf (Elt Ideal) ℓ) (g : Dev Cert.LnMixIdeal.nD → PrngReg), Pre_LnMixIdeal m →
    θ_run (Cert.LnMixIdeal.defs (F := Ideal)) (onTc (τ := Cert.LnMixIdeal.τ) (Cert.LnMixIdeal.main (F := Ideal))) ⟨m, fun _ => 0, g⟩ (fun r => (∀ c : Dev Cert.LnMixIdeal.nD,
      r.2.mem ((c.tc : Thread Cert.LnMixIdeal.nD Cert.LnMixIdeal.τ).loc Cert.LnMixIdeal.main_arg0) = m ((c.tc : Thread Cert.LnMixIdeal.nD Cert.LnMixIdeal.τ).loc Cert.LnMixIdeal.main_arg0)
      ∧ r.2.mem ((c.tc : Thread Cert.LnMixIdeal.nD Cert.LnMixIdeal.τ).loc Cert.LnMixIdeal.main_arg1) = m ((c.tc : Thread Cert.LnMixIdeal.nD Cert.LnMixIdeal.τ).loc Cert.LnMixIdeal.main_arg1)
      ∧ r.2.mem ((c.tc : Thread Cert.LnMixIdeal.nD Cert.LnMixIdeal.τ).loc Cert.LnMixIdeal.main_arg2) = m ((c.tc : Thread Cert.LnMixIdeal.nD Cert.LnMixIdeal.τ).loc Cert.LnMixIdeal.main_arg2)
      ∧ r.2.mem ((c.tc : Thread Cert.LnMixIdeal.nD Cert.LnMixIdeal.τ).loc Cert.LnMixIdeal.main_arg3) = m ((c.tc : Thread Cert.LnMixIdeal.nD Cert.LnMixIdeal.τ).loc Cert.LnMixIdeal.main_arg3)
      ∧ r.2.mem ((c.tc : Thread Cert.LnMixIdeal.nD Cert.LnMixIdeal.τ).loc Cert.LnMixIdeal.main_arg4) = m ((c.tc : Thread Cert.LnMixIdeal.nD Cert.LnMixIdeal.τ).loc Cert.LnMixIdeal.main_arg4)
      ∧ r.2.mem ((c.tc : Thread Cert.LnMixIdeal.nD Cert.LnMixIdeal.τ).loc Cert.LnMixIdeal.main_arg5) = m ((c.tc : Thread Cert.LnMixIdeal.nD Cert.LnMixIdeal.τ).loc Cert.LnMixIdeal.main_arg5)
      ∧ r.2.mem ((c.tc : Thread Cert.LnMixIdeal.nD Cert.LnMixIdeal.τ).loc Cert.LnMixIdeal.main_arg6) = m ((c.tc : Thread Cert.LnMixIdeal.nD Cert.LnMixIdeal.τ).loc Cert.LnMixIdeal.main_arg6))
      ∧ r.2.sem = fun _ => 0)

def quiescent_LnMixReferenceIdeal [hLnMixReferenceIdeal : Cert.LnMixReferenceIdeal.Facts] : Prop :=
  ∀ (m : (ℓ : Loc Cert.LnMixReferenceIdeal.nD Cert.LnMixReferenceIdeal.τ Cert.LnMixReferenceIdeal.sig) → Buf (Elt Ideal) ℓ) (g : Dev Cert.LnMixReferenceIdeal.nD → PrngReg), Pre_LnMixReferenceIdeal m →
    θ_run (Cert.LnMixReferenceIdeal.defs (F := Ideal)) (onTc (τ := Cert.LnMixReferenceIdeal.τ) (Cert.LnMixReferenceIdeal.main (F := Ideal))) ⟨m, fun _ => 0, g⟩ (fun r => (∀ c : Dev Cert.LnMixReferenceIdeal.nD,
      r.2.mem ((c.tc : Thread Cert.LnMixReferenceIdeal.nD Cert.LnMixReferenceIdeal.τ).loc Cert.LnMixReferenceIdeal.main_arg0) = m ((c.tc : Thread Cert.LnMixReferenceIdeal.nD Cert.LnMixReferenceIdeal.τ).loc Cert.LnMixReferenceIdeal.main_arg0)
      ∧ r.2.mem ((c.tc : Thread Cert.LnMixReferenceIdeal.nD Cert.LnMixReferenceIdeal.τ).loc Cert.LnMixReferenceIdeal.main_arg1) = m ((c.tc : Thread Cert.LnMixReferenceIdeal.nD Cert.LnMixReferenceIdeal.τ).loc Cert.LnMixReferenceIdeal.main_arg1)
      ∧ r.2.mem ((c.tc : Thread Cert.LnMixReferenceIdeal.nD Cert.LnMixReferenceIdeal.τ).loc Cert.LnMixReferenceIdeal.main_arg2) = m ((c.tc : Thread Cert.LnMixReferenceIdeal.nD Cert.LnMixReferenceIdeal.τ).loc Cert.LnMixReferenceIdeal.main_arg2)
      ∧ r.2.mem ((c.tc : Thread Cert.LnMixReferenceIdeal.nD Cert.LnMixReferenceIdeal.τ).loc Cert.LnMixReferenceIdeal.main_arg3) = m ((c.tc : Thread Cert.LnMixReferenceIdeal.nD Cert.LnMixReferenceIdeal.τ).loc Cert.LnMixReferenceIdeal.main_arg3)
      ∧ r.2.mem ((c.tc : Thread Cert.LnMixReferenceIdeal.nD Cert.LnMixReferenceIdeal.τ).loc Cert.LnMixReferenceIdeal.main_arg4) = m ((c.tc : Thread Cert.LnMixReferenceIdeal.nD Cert.LnMixReferenceIdeal.τ).loc Cert.LnMixReferenceIdeal.main_arg4)
      ∧ r.2.mem ((c.tc : Thread Cert.LnMixReferenceIdeal.nD Cert.LnMixReferenceIdeal.τ).loc Cert.LnMixReferenceIdeal.main_arg5) = m ((c.tc : Thread Cert.LnMixReferenceIdeal.nD Cert.LnMixReferenceIdeal.τ).loc Cert.LnMixReferenceIdeal.main_arg5)
      ∧ r.2.mem ((c.tc : Thread Cert.LnMixReferenceIdeal.nD Cert.LnMixReferenceIdeal.τ).loc Cert.LnMixReferenceIdeal.main_arg6) = m ((c.tc : Thread Cert.LnMixReferenceIdeal.nD Cert.LnMixReferenceIdeal.τ).loc Cert.LnMixReferenceIdeal.main_arg6))
      ∧ r.2.sem = fun _ => 0)

def quiescent_MlpAct [hMlpAct : Cert.MlpAct.Facts] : Prop :=
  ∀ (m : (ℓ : Loc Cert.MlpAct.nD Cert.MlpAct.τ Cert.MlpAct.sig) → Buf (Elt Bits) ℓ) (g : Dev Cert.MlpAct.nD → PrngReg), Pre_MlpAct m →
    θ_run (Cert.MlpAct.defs (F := Bits)) (onTc (τ := Cert.MlpAct.τ) (Cert.MlpAct.main (F := Bits))) ⟨m, fun _ => 0, g⟩ (fun r => (∀ c : Dev Cert.MlpAct.nD,
      r.2.mem ((c.tc : Thread Cert.MlpAct.nD Cert.MlpAct.τ).loc Cert.MlpAct.main_arg0) = m ((c.tc : Thread Cert.MlpAct.nD Cert.MlpAct.τ).loc Cert.MlpAct.main_arg0))
      ∧ r.2.sem = fun _ => 0)

def quiescent_MlpActIdeal [hMlpActIdeal : Cert.MlpActIdeal.Facts] : Prop :=
  ∀ (m : (ℓ : Loc Cert.MlpActIdeal.nD Cert.MlpActIdeal.τ Cert.MlpActIdeal.sig) → Buf (Elt Ideal) ℓ) (g : Dev Cert.MlpActIdeal.nD → PrngReg), Pre_MlpActIdeal m →
    θ_run (Cert.MlpActIdeal.defs (F := Ideal)) (onTc (τ := Cert.MlpActIdeal.τ) (Cert.MlpActIdeal.main (F := Ideal))) ⟨m, fun _ => 0, g⟩ (fun r => (∀ c : Dev Cert.MlpActIdeal.nD,
      r.2.mem ((c.tc : Thread Cert.MlpActIdeal.nD Cert.MlpActIdeal.τ).loc Cert.MlpActIdeal.main_arg0) = m ((c.tc : Thread Cert.MlpActIdeal.nD Cert.MlpActIdeal.τ).loc Cert.MlpActIdeal.main_arg0))
      ∧ r.2.sem = fun _ => 0)

def quiescent_MlpActReferenceIdeal [hMlpActReferenceIdeal : Cert.MlpActReferenceIdeal.Facts] : Prop :=
  ∀ (m : (ℓ : Loc Cert.MlpActReferenceIdeal.nD Cert.MlpActReferenceIdeal.τ Cert.MlpActReferenceIdeal.sig) → Buf (Elt Ideal) ℓ) (g : Dev Cert.MlpActReferenceIdeal.nD → PrngReg), Pre_MlpActReferenceIdeal m →
    θ_run (Cert.MlpActReferenceIdeal.defs (F := Ideal)) (onTc (τ := Cert.MlpActReferenceIdeal.τ) (Cert.MlpActReferenceIdeal.main (F := Ideal))) ⟨m, fun _ => 0, g⟩ (fun r => (∀ c : Dev Cert.MlpActReferenceIdeal.nD,
      r.2.mem ((c.tc : Thread Cert.MlpActReferenceIdeal.nD Cert.MlpActReferenceIdeal.τ).loc Cert.MlpActReferenceIdeal.main_arg0) = m ((c.tc : Thread Cert.MlpActReferenceIdeal.nD Cert.MlpActReferenceIdeal.τ).loc Cert.MlpActReferenceIdeal.main_arg0))
      ∧ r.2.sem = fun _ => 0)

def quiescent_MlpW1 [hMlpW1 : Cert.MlpW1.Facts] : Prop :=
  ∀ (m : (ℓ : Loc Cert.MlpW1.nD Cert.MlpW1.τ Cert.MlpW1.sig) → Buf (Elt Bits) ℓ) (g : Dev Cert.MlpW1.nD → PrngReg), Pre_MlpW1 m →
    θ_run (Cert.MlpW1.defs (F := Bits)) (onTc (τ := Cert.MlpW1.τ) (Cert.MlpW1.main (F := Bits))) ⟨m, fun _ => 0, g⟩ (fun r => (∀ c : Dev Cert.MlpW1.nD,
      r.2.mem ((c.tc : Thread Cert.MlpW1.nD Cert.MlpW1.τ).loc Cert.MlpW1.main_arg0) = m ((c.tc : Thread Cert.MlpW1.nD Cert.MlpW1.τ).loc Cert.MlpW1.main_arg0)
      ∧ r.2.mem ((c.tc : Thread Cert.MlpW1.nD Cert.MlpW1.τ).loc Cert.MlpW1.main_arg1) = m ((c.tc : Thread Cert.MlpW1.nD Cert.MlpW1.τ).loc Cert.MlpW1.main_arg1))
      ∧ r.2.sem = fun _ => 0)

def quiescent_MlpW1Ideal [hMlpW1Ideal : Cert.MlpW1Ideal.Facts] : Prop :=
  ∀ (m : (ℓ : Loc Cert.MlpW1Ideal.nD Cert.MlpW1Ideal.τ Cert.MlpW1Ideal.sig) → Buf (Elt Ideal) ℓ) (g : Dev Cert.MlpW1Ideal.nD → PrngReg), Pre_MlpW1Ideal m →
    θ_run (Cert.MlpW1Ideal.defs (F := Ideal)) (onTc (τ := Cert.MlpW1Ideal.τ) (Cert.MlpW1Ideal.main (F := Ideal))) ⟨m, fun _ => 0, g⟩ (fun r => (∀ c : Dev Cert.MlpW1Ideal.nD,
      r.2.mem ((c.tc : Thread Cert.MlpW1Ideal.nD Cert.MlpW1Ideal.τ).loc Cert.MlpW1Ideal.main_arg0) = m ((c.tc : Thread Cert.MlpW1Ideal.nD Cert.MlpW1Ideal.τ).loc Cert.MlpW1Ideal.main_arg0)
      ∧ r.2.mem ((c.tc : Thread Cert.MlpW1Ideal.nD Cert.MlpW1Ideal.τ).loc Cert.MlpW1Ideal.main_arg1) = m ((c.tc : Thread Cert.MlpW1Ideal.nD Cert.MlpW1Ideal.τ).loc Cert.MlpW1Ideal.main_arg1))
      ∧ r.2.sem = fun _ => 0)

def quiescent_MlpW1ReferenceIdeal [hMlpW1ReferenceIdeal : Cert.MlpW1ReferenceIdeal.Facts] : Prop :=
  ∀ (m : (ℓ : Loc Cert.MlpW1ReferenceIdeal.nD Cert.MlpW1ReferenceIdeal.τ Cert.MlpW1ReferenceIdeal.sig) → Buf (Elt Ideal) ℓ) (g : Dev Cert.MlpW1ReferenceIdeal.nD → PrngReg), Pre_MlpW1ReferenceIdeal m →
    θ_run (Cert.MlpW1ReferenceIdeal.defs (F := Ideal)) (onTc (τ := Cert.MlpW1ReferenceIdeal.τ) (Cert.MlpW1ReferenceIdeal.main (F := Ideal))) ⟨m, fun _ => 0, g⟩ (fun r => (∀ c : Dev Cert.MlpW1ReferenceIdeal.nD,
      r.2.mem ((c.tc : Thread Cert.MlpW1ReferenceIdeal.nD Cert.MlpW1ReferenceIdeal.τ).loc Cert.MlpW1ReferenceIdeal.main_arg0) = m ((c.tc : Thread Cert.MlpW1ReferenceIdeal.nD Cert.MlpW1ReferenceIdeal.τ).loc Cert.MlpW1ReferenceIdeal.main_arg0)
      ∧ r.2.mem ((c.tc : Thread Cert.MlpW1ReferenceIdeal.nD Cert.MlpW1ReferenceIdeal.τ).loc Cert.MlpW1ReferenceIdeal.main_arg1) = m ((c.tc : Thread Cert.MlpW1ReferenceIdeal.nD Cert.MlpW1ReferenceIdeal.τ).loc Cert.MlpW1ReferenceIdeal.main_arg1))
      ∧ r.2.sem = fun _ => 0)

def quiescent_MlpW1Dx [hMlpW1Dx : Cert.MlpW1Dx.Facts] : Prop :=
  ∀ (m : (ℓ : Loc Cert.MlpW1Dx.nD Cert.MlpW1Dx.τ Cert.MlpW1Dx.sig) → Buf (Elt Bits) ℓ) (g : Dev Cert.MlpW1Dx.nD → PrngReg), Pre_MlpW1Dx m →
    θ_run (Cert.MlpW1Dx.defs (F := Bits)) (onTc (τ := Cert.MlpW1Dx.τ) (Cert.MlpW1Dx.main (F := Bits))) ⟨m, fun _ => 0, g⟩ (fun r => (∀ c : Dev Cert.MlpW1Dx.nD,
      r.2.mem ((c.tc : Thread Cert.MlpW1Dx.nD Cert.MlpW1Dx.τ).loc Cert.MlpW1Dx.main_arg0) = m ((c.tc : Thread Cert.MlpW1Dx.nD Cert.MlpW1Dx.τ).loc Cert.MlpW1Dx.main_arg0)
      ∧ r.2.mem ((c.tc : Thread Cert.MlpW1Dx.nD Cert.MlpW1Dx.τ).loc Cert.MlpW1Dx.main_arg1) = m ((c.tc : Thread Cert.MlpW1Dx.nD Cert.MlpW1Dx.τ).loc Cert.MlpW1Dx.main_arg1))
      ∧ r.2.sem = fun _ => 0)

def quiescent_MlpW1DxIdeal [hMlpW1DxIdeal : Cert.MlpW1DxIdeal.Facts] : Prop :=
  ∀ (m : (ℓ : Loc Cert.MlpW1DxIdeal.nD Cert.MlpW1DxIdeal.τ Cert.MlpW1DxIdeal.sig) → Buf (Elt Ideal) ℓ) (g : Dev Cert.MlpW1DxIdeal.nD → PrngReg), Pre_MlpW1DxIdeal m →
    θ_run (Cert.MlpW1DxIdeal.defs (F := Ideal)) (onTc (τ := Cert.MlpW1DxIdeal.τ) (Cert.MlpW1DxIdeal.main (F := Ideal))) ⟨m, fun _ => 0, g⟩ (fun r => (∀ c : Dev Cert.MlpW1DxIdeal.nD,
      r.2.mem ((c.tc : Thread Cert.MlpW1DxIdeal.nD Cert.MlpW1DxIdeal.τ).loc Cert.MlpW1DxIdeal.main_arg0) = m ((c.tc : Thread Cert.MlpW1DxIdeal.nD Cert.MlpW1DxIdeal.τ).loc Cert.MlpW1DxIdeal.main_arg0)
      ∧ r.2.mem ((c.tc : Thread Cert.MlpW1DxIdeal.nD Cert.MlpW1DxIdeal.τ).loc Cert.MlpW1DxIdeal.main_arg1) = m ((c.tc : Thread Cert.MlpW1DxIdeal.nD Cert.MlpW1DxIdeal.τ).loc Cert.MlpW1DxIdeal.main_arg1))
      ∧ r.2.sem = fun _ => 0)

def quiescent_MlpW1DxReferenceIdeal [hMlpW1DxReferenceIdeal : Cert.MlpW1DxReferenceIdeal.Facts] : Prop :=
  ∀ (m : (ℓ : Loc Cert.MlpW1DxReferenceIdeal.nD Cert.MlpW1DxReferenceIdeal.τ Cert.MlpW1DxReferenceIdeal.sig) → Buf (Elt Ideal) ℓ) (g : Dev Cert.MlpW1DxReferenceIdeal.nD → PrngReg), Pre_MlpW1DxReferenceIdeal m →
    θ_run (Cert.MlpW1DxReferenceIdeal.defs (F := Ideal)) (onTc (τ := Cert.MlpW1DxReferenceIdeal.τ) (Cert.MlpW1DxReferenceIdeal.main (F := Ideal))) ⟨m, fun _ => 0, g⟩ (fun r => (∀ c : Dev Cert.MlpW1DxReferenceIdeal.nD,
      r.2.mem ((c.tc : Thread Cert.MlpW1DxReferenceIdeal.nD Cert.MlpW1DxReferenceIdeal.τ).loc Cert.MlpW1DxReferenceIdeal.main_arg0) = m ((c.tc : Thread Cert.MlpW1DxReferenceIdeal.nD Cert.MlpW1DxReferenceIdeal.τ).loc Cert.MlpW1DxReferenceIdeal.main_arg0)
      ∧ r.2.mem ((c.tc : Thread Cert.MlpW1DxReferenceIdeal.nD Cert.MlpW1DxReferenceIdeal.τ).loc Cert.MlpW1DxReferenceIdeal.main_arg1) = m ((c.tc : Thread Cert.MlpW1DxReferenceIdeal.nD Cert.MlpW1DxReferenceIdeal.τ).loc Cert.MlpW1DxReferenceIdeal.main_arg1))
      ∧ r.2.sem = fun _ => 0)

def quiescent_MlpW1Dw [hMlpW1Dw : Cert.MlpW1Dw.Facts] : Prop :=
  ∀ (m : (ℓ : Loc Cert.MlpW1Dw.nD Cert.MlpW1Dw.τ Cert.MlpW1Dw.sig) → Buf (Elt Bits) ℓ) (g : Dev Cert.MlpW1Dw.nD → PrngReg), Pre_MlpW1Dw m →
    θ_run (Cert.MlpW1Dw.defs (F := Bits)) (onTc (τ := Cert.MlpW1Dw.τ) (Cert.MlpW1Dw.main (F := Bits))) ⟨m, fun _ => 0, g⟩ (fun r => (∀ c : Dev Cert.MlpW1Dw.nD,
      r.2.mem ((c.tc : Thread Cert.MlpW1Dw.nD Cert.MlpW1Dw.τ).loc Cert.MlpW1Dw.main_arg0) = m ((c.tc : Thread Cert.MlpW1Dw.nD Cert.MlpW1Dw.τ).loc Cert.MlpW1Dw.main_arg0)
      ∧ r.2.mem ((c.tc : Thread Cert.MlpW1Dw.nD Cert.MlpW1Dw.τ).loc Cert.MlpW1Dw.main_arg1) = m ((c.tc : Thread Cert.MlpW1Dw.nD Cert.MlpW1Dw.τ).loc Cert.MlpW1Dw.main_arg1))
      ∧ r.2.sem = fun _ => 0)

def quiescent_MlpW1DwIdeal [hMlpW1DwIdeal : Cert.MlpW1DwIdeal.Facts] : Prop :=
  ∀ (m : (ℓ : Loc Cert.MlpW1DwIdeal.nD Cert.MlpW1DwIdeal.τ Cert.MlpW1DwIdeal.sig) → Buf (Elt Ideal) ℓ) (g : Dev Cert.MlpW1DwIdeal.nD → PrngReg), Pre_MlpW1DwIdeal m →
    θ_run (Cert.MlpW1DwIdeal.defs (F := Ideal)) (onTc (τ := Cert.MlpW1DwIdeal.τ) (Cert.MlpW1DwIdeal.main (F := Ideal))) ⟨m, fun _ => 0, g⟩ (fun r => (∀ c : Dev Cert.MlpW1DwIdeal.nD,
      r.2.mem ((c.tc : Thread Cert.MlpW1DwIdeal.nD Cert.MlpW1DwIdeal.τ).loc Cert.MlpW1DwIdeal.main_arg0) = m ((c.tc : Thread Cert.MlpW1DwIdeal.nD Cert.MlpW1DwIdeal.τ).loc Cert.MlpW1DwIdeal.main_arg0)
      ∧ r.2.mem ((c.tc : Thread Cert.MlpW1DwIdeal.nD Cert.MlpW1DwIdeal.τ).loc Cert.MlpW1DwIdeal.main_arg1) = m ((c.tc : Thread Cert.MlpW1DwIdeal.nD Cert.MlpW1DwIdeal.τ).loc Cert.MlpW1DwIdeal.main_arg1))
      ∧ r.2.sem = fun _ => 0)

def quiescent_MlpW1DwReferenceIdeal [hMlpW1DwReferenceIdeal : Cert.MlpW1DwReferenceIdeal.Facts] : Prop :=
  ∀ (m : (ℓ : Loc Cert.MlpW1DwReferenceIdeal.nD Cert.MlpW1DwReferenceIdeal.τ Cert.MlpW1DwReferenceIdeal.sig) → Buf (Elt Ideal) ℓ) (g : Dev Cert.MlpW1DwReferenceIdeal.nD → PrngReg), Pre_MlpW1DwReferenceIdeal m →
    θ_run (Cert.MlpW1DwReferenceIdeal.defs (F := Ideal)) (onTc (τ := Cert.MlpW1DwReferenceIdeal.τ) (Cert.MlpW1DwReferenceIdeal.main (F := Ideal))) ⟨m, fun _ => 0, g⟩ (fun r => (∀ c : Dev Cert.MlpW1DwReferenceIdeal.nD,
      r.2.mem ((c.tc : Thread Cert.MlpW1DwReferenceIdeal.nD Cert.MlpW1DwReferenceIdeal.τ).loc Cert.MlpW1DwReferenceIdeal.main_arg0) = m ((c.tc : Thread Cert.MlpW1DwReferenceIdeal.nD Cert.MlpW1DwReferenceIdeal.τ).loc Cert.MlpW1DwReferenceIdeal.main_arg0)
      ∧ r.2.mem ((c.tc : Thread Cert.MlpW1DwReferenceIdeal.nD Cert.MlpW1DwReferenceIdeal.τ).loc Cert.MlpW1DwReferenceIdeal.main_arg1) = m ((c.tc : Thread Cert.MlpW1DwReferenceIdeal.nD Cert.MlpW1DwReferenceIdeal.τ).loc Cert.MlpW1DwReferenceIdeal.main_arg1))
      ∧ r.2.sem = fun _ => 0)

def quiescent_MlpW2 [hMlpW2 : Cert.MlpW2.Facts] : Prop :=
  ∀ (m : (ℓ : Loc Cert.MlpW2.nD Cert.MlpW2.τ Cert.MlpW2.sig) → Buf (Elt Bits) ℓ) (g : Dev Cert.MlpW2.nD → PrngReg), Pre_MlpW2 m →
    θ_run (Cert.MlpW2.defs (F := Bits)) (onTc (τ := Cert.MlpW2.τ) (Cert.MlpW2.main (F := Bits))) ⟨m, fun _ => 0, g⟩ (fun r => (∀ c : Dev Cert.MlpW2.nD,
      r.2.mem ((c.tc : Thread Cert.MlpW2.nD Cert.MlpW2.τ).loc Cert.MlpW2.main_arg0) = m ((c.tc : Thread Cert.MlpW2.nD Cert.MlpW2.τ).loc Cert.MlpW2.main_arg0)
      ∧ r.2.mem ((c.tc : Thread Cert.MlpW2.nD Cert.MlpW2.τ).loc Cert.MlpW2.main_arg1) = m ((c.tc : Thread Cert.MlpW2.nD Cert.MlpW2.τ).loc Cert.MlpW2.main_arg1))
      ∧ r.2.sem = fun _ => 0)

def quiescent_MlpW2Ideal [hMlpW2Ideal : Cert.MlpW2Ideal.Facts] : Prop :=
  ∀ (m : (ℓ : Loc Cert.MlpW2Ideal.nD Cert.MlpW2Ideal.τ Cert.MlpW2Ideal.sig) → Buf (Elt Ideal) ℓ) (g : Dev Cert.MlpW2Ideal.nD → PrngReg), Pre_MlpW2Ideal m →
    θ_run (Cert.MlpW2Ideal.defs (F := Ideal)) (onTc (τ := Cert.MlpW2Ideal.τ) (Cert.MlpW2Ideal.main (F := Ideal))) ⟨m, fun _ => 0, g⟩ (fun r => (∀ c : Dev Cert.MlpW2Ideal.nD,
      r.2.mem ((c.tc : Thread Cert.MlpW2Ideal.nD Cert.MlpW2Ideal.τ).loc Cert.MlpW2Ideal.main_arg0) = m ((c.tc : Thread Cert.MlpW2Ideal.nD Cert.MlpW2Ideal.τ).loc Cert.MlpW2Ideal.main_arg0)
      ∧ r.2.mem ((c.tc : Thread Cert.MlpW2Ideal.nD Cert.MlpW2Ideal.τ).loc Cert.MlpW2Ideal.main_arg1) = m ((c.tc : Thread Cert.MlpW2Ideal.nD Cert.MlpW2Ideal.τ).loc Cert.MlpW2Ideal.main_arg1))
      ∧ r.2.sem = fun _ => 0)

def quiescent_MlpW2ReferenceIdeal [hMlpW2ReferenceIdeal : Cert.MlpW2ReferenceIdeal.Facts] : Prop :=
  ∀ (m : (ℓ : Loc Cert.MlpW2ReferenceIdeal.nD Cert.MlpW2ReferenceIdeal.τ Cert.MlpW2ReferenceIdeal.sig) → Buf (Elt Ideal) ℓ) (g : Dev Cert.MlpW2ReferenceIdeal.nD → PrngReg), Pre_MlpW2ReferenceIdeal m →
    θ_run (Cert.MlpW2ReferenceIdeal.defs (F := Ideal)) (onTc (τ := Cert.MlpW2ReferenceIdeal.τ) (Cert.MlpW2ReferenceIdeal.main (F := Ideal))) ⟨m, fun _ => 0, g⟩ (fun r => (∀ c : Dev Cert.MlpW2ReferenceIdeal.nD,
      r.2.mem ((c.tc : Thread Cert.MlpW2ReferenceIdeal.nD Cert.MlpW2ReferenceIdeal.τ).loc Cert.MlpW2ReferenceIdeal.main_arg0) = m ((c.tc : Thread Cert.MlpW2ReferenceIdeal.nD Cert.MlpW2ReferenceIdeal.τ).loc Cert.MlpW2ReferenceIdeal.main_arg0)
      ∧ r.2.mem ((c.tc : Thread Cert.MlpW2ReferenceIdeal.nD Cert.MlpW2ReferenceIdeal.τ).loc Cert.MlpW2ReferenceIdeal.main_arg1) = m ((c.tc : Thread Cert.MlpW2ReferenceIdeal.nD Cert.MlpW2ReferenceIdeal.τ).loc Cert.MlpW2ReferenceIdeal.main_arg1))
      ∧ r.2.sem = fun _ => 0)

def quiescent_MlpW2Dx [hMlpW2Dx : Cert.MlpW2Dx.Facts] : Prop :=
  ∀ (m : (ℓ : Loc Cert.MlpW2Dx.nD Cert.MlpW2Dx.τ Cert.MlpW2Dx.sig) → Buf (Elt Bits) ℓ) (g : Dev Cert.MlpW2Dx.nD → PrngReg), Pre_MlpW2Dx m →
    θ_run (Cert.MlpW2Dx.defs (F := Bits)) (onTc (τ := Cert.MlpW2Dx.τ) (Cert.MlpW2Dx.main (F := Bits))) ⟨m, fun _ => 0, g⟩ (fun r => (∀ c : Dev Cert.MlpW2Dx.nD,
      r.2.mem ((c.tc : Thread Cert.MlpW2Dx.nD Cert.MlpW2Dx.τ).loc Cert.MlpW2Dx.main_arg0) = m ((c.tc : Thread Cert.MlpW2Dx.nD Cert.MlpW2Dx.τ).loc Cert.MlpW2Dx.main_arg0)
      ∧ r.2.mem ((c.tc : Thread Cert.MlpW2Dx.nD Cert.MlpW2Dx.τ).loc Cert.MlpW2Dx.main_arg1) = m ((c.tc : Thread Cert.MlpW2Dx.nD Cert.MlpW2Dx.τ).loc Cert.MlpW2Dx.main_arg1))
      ∧ r.2.sem = fun _ => 0)

def quiescent_MlpW2DxIdeal [hMlpW2DxIdeal : Cert.MlpW2DxIdeal.Facts] : Prop :=
  ∀ (m : (ℓ : Loc Cert.MlpW2DxIdeal.nD Cert.MlpW2DxIdeal.τ Cert.MlpW2DxIdeal.sig) → Buf (Elt Ideal) ℓ) (g : Dev Cert.MlpW2DxIdeal.nD → PrngReg), Pre_MlpW2DxIdeal m →
    θ_run (Cert.MlpW2DxIdeal.defs (F := Ideal)) (onTc (τ := Cert.MlpW2DxIdeal.τ) (Cert.MlpW2DxIdeal.main (F := Ideal))) ⟨m, fun _ => 0, g⟩ (fun r => (∀ c : Dev Cert.MlpW2DxIdeal.nD,
      r.2.mem ((c.tc : Thread Cert.MlpW2DxIdeal.nD Cert.MlpW2DxIdeal.τ).loc Cert.MlpW2DxIdeal.main_arg0) = m ((c.tc : Thread Cert.MlpW2DxIdeal.nD Cert.MlpW2DxIdeal.τ).loc Cert.MlpW2DxIdeal.main_arg0)
      ∧ r.2.mem ((c.tc : Thread Cert.MlpW2DxIdeal.nD Cert.MlpW2DxIdeal.τ).loc Cert.MlpW2DxIdeal.main_arg1) = m ((c.tc : Thread Cert.MlpW2DxIdeal.nD Cert.MlpW2DxIdeal.τ).loc Cert.MlpW2DxIdeal.main_arg1))
      ∧ r.2.sem = fun _ => 0)

def quiescent_MlpW2DxReferenceIdeal [hMlpW2DxReferenceIdeal : Cert.MlpW2DxReferenceIdeal.Facts] : Prop :=
  ∀ (m : (ℓ : Loc Cert.MlpW2DxReferenceIdeal.nD Cert.MlpW2DxReferenceIdeal.τ Cert.MlpW2DxReferenceIdeal.sig) → Buf (Elt Ideal) ℓ) (g : Dev Cert.MlpW2DxReferenceIdeal.nD → PrngReg), Pre_MlpW2DxReferenceIdeal m →
    θ_run (Cert.MlpW2DxReferenceIdeal.defs (F := Ideal)) (onTc (τ := Cert.MlpW2DxReferenceIdeal.τ) (Cert.MlpW2DxReferenceIdeal.main (F := Ideal))) ⟨m, fun _ => 0, g⟩ (fun r => (∀ c : Dev Cert.MlpW2DxReferenceIdeal.nD,
      r.2.mem ((c.tc : Thread Cert.MlpW2DxReferenceIdeal.nD Cert.MlpW2DxReferenceIdeal.τ).loc Cert.MlpW2DxReferenceIdeal.main_arg0) = m ((c.tc : Thread Cert.MlpW2DxReferenceIdeal.nD Cert.MlpW2DxReferenceIdeal.τ).loc Cert.MlpW2DxReferenceIdeal.main_arg0)
      ∧ r.2.mem ((c.tc : Thread Cert.MlpW2DxReferenceIdeal.nD Cert.MlpW2DxReferenceIdeal.τ).loc Cert.MlpW2DxReferenceIdeal.main_arg1) = m ((c.tc : Thread Cert.MlpW2DxReferenceIdeal.nD Cert.MlpW2DxReferenceIdeal.τ).loc Cert.MlpW2DxReferenceIdeal.main_arg1))
      ∧ r.2.sem = fun _ => 0)

def quiescent_MlpW2Dw [hMlpW2Dw : Cert.MlpW2Dw.Facts] : Prop :=
  ∀ (m : (ℓ : Loc Cert.MlpW2Dw.nD Cert.MlpW2Dw.τ Cert.MlpW2Dw.sig) → Buf (Elt Bits) ℓ) (g : Dev Cert.MlpW2Dw.nD → PrngReg), Pre_MlpW2Dw m →
    θ_run (Cert.MlpW2Dw.defs (F := Bits)) (onTc (τ := Cert.MlpW2Dw.τ) (Cert.MlpW2Dw.main (F := Bits))) ⟨m, fun _ => 0, g⟩ (fun r => (∀ c : Dev Cert.MlpW2Dw.nD,
      r.2.mem ((c.tc : Thread Cert.MlpW2Dw.nD Cert.MlpW2Dw.τ).loc Cert.MlpW2Dw.main_arg0) = m ((c.tc : Thread Cert.MlpW2Dw.nD Cert.MlpW2Dw.τ).loc Cert.MlpW2Dw.main_arg0)
      ∧ r.2.mem ((c.tc : Thread Cert.MlpW2Dw.nD Cert.MlpW2Dw.τ).loc Cert.MlpW2Dw.main_arg1) = m ((c.tc : Thread Cert.MlpW2Dw.nD Cert.MlpW2Dw.τ).loc Cert.MlpW2Dw.main_arg1))
      ∧ r.2.sem = fun _ => 0)

def quiescent_MlpW2DwIdeal [hMlpW2DwIdeal : Cert.MlpW2DwIdeal.Facts] : Prop :=
  ∀ (m : (ℓ : Loc Cert.MlpW2DwIdeal.nD Cert.MlpW2DwIdeal.τ Cert.MlpW2DwIdeal.sig) → Buf (Elt Ideal) ℓ) (g : Dev Cert.MlpW2DwIdeal.nD → PrngReg), Pre_MlpW2DwIdeal m →
    θ_run (Cert.MlpW2DwIdeal.defs (F := Ideal)) (onTc (τ := Cert.MlpW2DwIdeal.τ) (Cert.MlpW2DwIdeal.main (F := Ideal))) ⟨m, fun _ => 0, g⟩ (fun r => (∀ c : Dev Cert.MlpW2DwIdeal.nD,
      r.2.mem ((c.tc : Thread Cert.MlpW2DwIdeal.nD Cert.MlpW2DwIdeal.τ).loc Cert.MlpW2DwIdeal.main_arg0) = m ((c.tc : Thread Cert.MlpW2DwIdeal.nD Cert.MlpW2DwIdeal.τ).loc Cert.MlpW2DwIdeal.main_arg0)
      ∧ r.2.mem ((c.tc : Thread Cert.MlpW2DwIdeal.nD Cert.MlpW2DwIdeal.τ).loc Cert.MlpW2DwIdeal.main_arg1) = m ((c.tc : Thread Cert.MlpW2DwIdeal.nD Cert.MlpW2DwIdeal.τ).loc Cert.MlpW2DwIdeal.main_arg1))
      ∧ r.2.sem = fun _ => 0)

def quiescent_MlpW2DwReferenceIdeal [hMlpW2DwReferenceIdeal : Cert.MlpW2DwReferenceIdeal.Facts] : Prop :=
  ∀ (m : (ℓ : Loc Cert.MlpW2DwReferenceIdeal.nD Cert.MlpW2DwReferenceIdeal.τ Cert.MlpW2DwReferenceIdeal.sig) → Buf (Elt Ideal) ℓ) (g : Dev Cert.MlpW2DwReferenceIdeal.nD → PrngReg), Pre_MlpW2DwReferenceIdeal m →
    θ_run (Cert.MlpW2DwReferenceIdeal.defs (F := Ideal)) (onTc (τ := Cert.MlpW2DwReferenceIdeal.τ) (Cert.MlpW2DwReferenceIdeal.main (F := Ideal))) ⟨m, fun _ => 0, g⟩ (fun r => (∀ c : Dev Cert.MlpW2DwReferenceIdeal.nD,
      r.2.mem ((c.tc : Thread Cert.MlpW2DwReferenceIdeal.nD Cert.MlpW2DwReferenceIdeal.τ).loc Cert.MlpW2DwReferenceIdeal.main_arg0) = m ((c.tc : Thread Cert.MlpW2DwReferenceIdeal.nD Cert.MlpW2DwReferenceIdeal.τ).loc Cert.MlpW2DwReferenceIdeal.main_arg0)
      ∧ r.2.mem ((c.tc : Thread Cert.MlpW2DwReferenceIdeal.nD Cert.MlpW2DwReferenceIdeal.τ).loc Cert.MlpW2DwReferenceIdeal.main_arg1) = m ((c.tc : Thread Cert.MlpW2DwReferenceIdeal.nD Cert.MlpW2DwReferenceIdeal.τ).loc Cert.MlpW2DwReferenceIdeal.main_arg1))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ r.2.sem = fun _ => 0)

def quiescent_AbInReferenceIdeal [hAbInReferenceIdeal : Cert.AbInReferenceIdeal.Facts] : Prop :=
  ∀ (m : (ℓ : Loc Cert.AbInReferenceIdeal.nD Cert.AbInReferenceIdeal.τ Cert.AbInReferenceIdeal.sig) → Buf (Elt Ideal) ℓ) (g : Dev Cert.AbInReferenceIdeal.nD → PrngReg), Pre_AbInReferenceIdeal m →
    θ_run (Cert.AbInReferenceIdeal.defs (F := Ideal)) (onTc (τ := Cert.AbInReferenceIdeal.τ) (Cert.AbInReferenceIdeal.main (F := Ideal))) ⟨m, fun _ => 0, g⟩ (fun r => (∀ c : Dev Cert.AbInReferenceIdeal.nD,
      r.2.mem ((c.tc : Thread Cert.AbInReferenceIdeal.nD Cert.AbInReferenceIdeal.τ).loc Cert.AbInReferenceIdeal.main_arg0) = m ((c.tc : Thread Cert.AbInReferenceIdeal.nD Cert.AbInReferenceIdeal.τ).loc Cert.AbInReferenceIdeal.main_arg0)
      ∧ r.2.mem ((c.tc : Thread Cert.AbInReferenceIdeal.nD Cert.AbInReferenceIdeal.τ).loc Cert.AbInReferenceIdeal.main_arg1) = m ((c.tc : Thread Cert.AbInReferenceIdeal.nD Cert.AbInReferenceIdeal.τ).loc Cert.AbInReferenceIdeal.main_arg1))
      ∧ r.2.sem = fun _ => 0)

def quiescent_AbInDx [hAbInDx : Cert.AbInDx.Facts] : Prop :=
  ∀ (m : (ℓ : Loc Cert.AbInDx.nD Cert.AbInDx.τ Cert.AbInDx.sig) → Buf (Elt Bits) ℓ) (g : Dev Cert.AbInDx.nD → PrngReg), Pre_AbInDx m →
    θ_run (Cert.AbInDx.defs (F := Bits)) (onTc (τ := Cert.AbInDx.τ) (Cert.AbInDx.main (F := Bits))) ⟨m, fun _ => 0, g⟩ (fun r => (∀ c : Dev Cert.AbInDx.nD,
      r.2.mem ((c.tc : Thread Cert.AbInDx.nD Cert.AbInDx.τ).loc Cert.AbInDx.main_arg0) = m ((c.tc : Thread Cert.AbInDx.nD Cert.AbInDx.τ).loc Cert.AbInDx.main_arg0)
      ∧ r.2.mem ((c.tc : Thread Cert.AbInDx.nD Cert.AbInDx.τ).loc Cert.AbInDx.main_arg1) = m ((c.tc : Thread Cert.AbInDx.nD Cert.AbInDx.τ).loc Cert.AbInDx.main_arg1))
      ∧ r.2.sem = fun _ => 0)

def quiescent_AbInDxIdeal [hAbInDxIdeal : Cert.AbInDxIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg), Pre_AbInDxIdeal m →
    θ_run (Cert.AbInDxIdeal.defs (F := Ideal)) (onTc (τ := Cert.AbInDxIdeal.τ) (Cert.AbInDxIdeal.main (F := Ideal))) ⟨m, fun _ => 0, g⟩ (fun r => (∀ c : Dev Cert.AbInDxIdeal.nD,
      r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
      ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1))
      ∧ r.2.sem = fun _ => 0)

def quiescent_AbInDxReferenceIdeal [hAbInDxReferenceIdeal : Cert.AbInDxReferenceIdeal.Facts] : Prop :=
  ∀ (m : (ℓ : Loc Cert.AbInDxReferenceIdeal.nD Cert.AbInDxReferenceIdeal.τ Cert.AbInDxReferenceIdeal.sig) → Buf (Elt Ideal) ℓ) (g : Dev Cert.AbInDxReferenceIdeal.nD → PrngReg), Pre_AbInDxReferenceIdeal m →
    θ_run (Cert.AbInDxReferenceIdeal.defs (F := Ideal)) (onTc (τ := Cert.AbInDxReferenceIdeal.τ) (Cert.AbInDxReferenceIdeal.main (F := Ideal))) ⟨m, fun _ => 0, g⟩ (fun r => (∀ c : Dev Cert.AbInDxReferenceIdeal.nD,
      r.2.mem ((c.tc : Thread Cert.AbInDxReferenceIdeal.nD Cert.AbInDxReferenceIdeal.τ).loc Cert.AbInDxReferenceIdeal.main_arg0) = m ((c.tc : Thread Cert.AbInDxReferenceIdeal.nD Cert.AbInDxReferenceIdeal.τ).loc Cert.AbInDxReferenceIdeal.main_arg0)
      ∧ r.2.mem ((c.tc : Thread Cert.AbInDxReferenceIdeal.nD Cert.AbInDxReferenceIdeal.τ).loc Cert.AbInDxReferenceIdeal.main_arg1) = m ((c.tc : Thread Cert.AbInDxReferenceIdeal.nD Cert.AbInDxReferenceIdeal.τ).loc Cert.AbInDxReferenceIdeal.main_arg1))
      ∧ r.2.sem = fun _ => 0)

def quiescent_AbInDw [hAbInDw : Cert.AbInDw.Facts] : Prop :=
  ∀ (m : (ℓ : Loc Cert.AbInDw.nD Cert.AbInDw.τ Cert.AbInDw.sig) → Buf (Elt Bits) ℓ) (g : Dev Cert.AbInDw.nD → PrngReg), Pre_AbInDw m →
    θ_run (Cert.AbInDw.defs (F := Bits)) (onTc (τ := Cert.AbInDw.τ) (Cert.AbInDw.main (F := Bits))) ⟨m, fun _ => 0, g⟩ (fun r => (∀ c : Dev Cert.AbInDw.nD,
      r.2.mem ((c.tc : Thread Cert.AbInDw.nD Cert.AbInDw.τ).loc Cert.AbInDw.main_arg0) = m ((c.tc : Thread Cert.AbInDw.nD Cert.AbInDw.τ).loc Cert.AbInDw.main_arg0)
      ∧ r.2.mem ((c.tc : Thread Cert.AbInDw.nD Cert.AbInDw.τ).loc Cert.AbInDw.main_arg1) = m ((c.tc : Thread Cert.AbInDw.nD Cert.AbInDw.τ).loc Cert.AbInDw.main_arg1))
      ∧ r.2.sem = fun _ => 0)

def quiescent_AbInDwIdeal [hAbInDwIdeal : Cert.AbInDwIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg), Pre_AbInDwIdeal m →
    θ_run (Cert.AbInDwIdeal.defs (F := Ideal)) (onTc (τ := Cert.AbInDwIdeal.τ) (Cert.AbInDwIdeal.main (F := Ideal))) ⟨m, fun _ => 0, g⟩ (fun r => (∀ c : Dev Cert.AbInDwIdeal.nD,
      r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
      ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ r.2.sem = fun _ => 0)

def quiescent_AbInDwReferenceIdeal [hAbInDwReferenceIdeal : Cert.AbInDwReferenceIdeal.Facts] : Prop :=
  ∀ (m : (ℓ : Loc Cert.AbInDwReferenceIdeal.nD Cert.AbInDwReferenceIdeal.τ Cert.AbInDwReferenceIdeal.sig) → Buf (Elt Ideal) ℓ) (g : Dev Cert.AbInDwReferenceIdeal.nD → PrngReg), Pre_AbInDwReferenceIdeal m →
    θ_run (Cert.AbInDwReferenceIdeal.defs (F := Ideal)) (onTc (τ := Cert.AbInDwReferenceIdeal.τ) (Cert.AbInDwReferenceIdeal.main (F := Ideal))) ⟨m, fun _ => 0, g⟩ (fun r => (∀ c : Dev Cert.AbInDwReferenceIdeal.nD,
      r.2.mem ((c.tc : Thread Cert.AbInDwReferenceIdeal.nD Cert.AbInDwReferenceIdeal.τ).loc Cert.AbInDwReferenceIdeal.main_arg0) = m ((c.tc : Thread Cert.AbInDwReferenceIdeal.nD Cert.AbInDwReferenceIdeal.τ).loc Cert.AbInDwReferenceIdeal.main_arg0)
      ∧ r.2.mem ((c.tc : Thread Cert.AbInDwReferenceIdeal.nD Cert.AbInDwReferenceIdeal.τ).loc Cert.AbInDwReferenceIdeal.main_arg1) = m ((c.tc : Thread Cert.AbInDwReferenceIdeal.nD Cert.AbInDwReferenceIdeal.τ).loc Cert.AbInDwReferenceIdeal.main_arg1))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1))
      ∧ r.2.sem = fun _ => 0)

def quiescent_AbOutReferenceIdeal [hAbOutReferenceIdeal : Cert.AbOutReferenceIdeal.Facts] : Prop :=
  ∀ (m : (ℓ : Loc Cert.AbOutReferenceIdeal.nD Cert.AbOutReferenceIdeal.τ Cert.AbOutReferenceIdeal.sig) → Buf (Elt Ideal) ℓ) (g : Dev Cert.AbOutReferenceIdeal.nD → PrngReg), Pre_AbOutReferenceIdeal m →
    θ_run (Cert.AbOutReferenceIdeal.defs (F := Ideal)) (onTc (τ := Cert.AbOutReferenceIdeal.τ) (Cert.AbOutReferenceIdeal.main (F := Ideal))) ⟨m, fun _ => 0, g⟩ (fun r => (∀ c : Dev Cert.AbOutReferenceIdeal.nD,
      r.2.mem ((c.tc : Thread Cert.AbOutReferenceIdeal.nD Cert.AbOutReferenceIdeal.τ).loc Cert.AbOutReferenceIdeal.main_arg0) = m ((c.tc : Thread Cert.AbOutReferenceIdeal.nD Cert.AbOutReferenceIdeal.τ).loc Cert.AbOutReferenceIdeal.main_arg0)
      ∧ r.2.mem ((c.tc : Thread Cert.AbOutReferenceIdeal.nD Cert.AbOutReferenceIdeal.τ).loc Cert.AbOutReferenceIdeal.main_arg1) = m ((c.tc : Thread Cert.AbOutReferenceIdeal.nD Cert.AbOutReferenceIdeal.τ).loc Cert.AbOutReferenceIdeal.main_arg1))
      ∧ r.2.sem = fun _ => 0)

def quiescent_AbOutDx [hAbOutDx : Cert.AbOutDx.Facts] : Prop :=
  ∀ (m : (ℓ : Loc Cert.AbOutDx.nD Cert.AbOutDx.τ Cert.AbOutDx.sig) → Buf (Elt Bits) ℓ) (g : Dev Cert.AbOutDx.nD → PrngReg), Pre_AbOutDx m →
    θ_run (Cert.AbOutDx.defs (F := Bits)) (onTc (τ := Cert.AbOutDx.τ) (Cert.AbOutDx.main (F := Bits))) ⟨m, fun _ => 0, g⟩ (fun r => (∀ c : Dev Cert.AbOutDx.nD,
      r.2.mem ((c.tc : Thread Cert.AbOutDx.nD Cert.AbOutDx.τ).loc Cert.AbOutDx.main_arg0) = m ((c.tc : Thread Cert.AbOutDx.nD Cert.AbOutDx.τ).loc Cert.AbOutDx.main_arg0)
      ∧ r.2.mem ((c.tc : Thread Cert.AbOutDx.nD Cert.AbOutDx.τ).loc Cert.AbOutDx.main_arg1) = m ((c.tc : Thread Cert.AbOutDx.nD Cert.AbOutDx.τ).loc Cert.AbOutDx.main_arg1))
      ∧ r.2.sem = fun _ => 0)

def quiescent_AbOutDxIdeal [hAbOutDxIdeal : Cert.AbOutDxIdeal.Facts] : Prop :=
  ∀ (m : (ℓ : Loc Cert.AbOutDxIdeal.nD Cert.AbOutDxIdeal.τ Cert.AbOutDxIdeal.sig) → Buf (Elt Ideal) ℓ) (g : Dev Cert.AbOutDxIdeal.nD → PrngReg), Pre_AbOutDxIdeal m →
    θ_run (Cert.AbOutDxIdeal.defs (F := Ideal)) (onTc (τ := Cert.AbOutDxIdeal.τ) (Cert.AbOutDxIdeal.main (F := Ideal))) ⟨m, fun _ => 0, g⟩ (fun r => (∀ c : Dev Cert.AbOutDxIdeal.nD,
      r.2.mem ((c.tc : Thread Cert.AbOutDxIdeal.nD Cert.AbOutDxIdeal.τ).loc Cert.AbOutDxIdeal.main_arg0) = m ((c.tc : Thread Cert.AbOutDxIdeal.nD Cert.AbOutDxIdeal.τ).loc Cert.AbOutDxIdeal.main_arg0)
      ∧ r.2.mem ((c.tc : Thread Cert.AbOutDxIdeal.nD Cert.AbOutDxIdeal.τ).loc Cert.AbOutDxIdeal.main_arg1) = m ((c.tc : Thread Cert.AbOutDxIdeal.nD Cert.AbOutDxIdeal.τ).loc Cert.AbOutDxIdeal.main_arg1))
      ∧ r.2.sem = fun _ => 0)

def quiescent_AbOutDxReferenceIdeal [hAbOutDxReferenceIdeal : Cert.AbOutDxReferenceIdeal.Facts] : Prop :=
  ∀ (m : (ℓ : Loc Cert.AbOutDxReferenceIdeal.nD Cert.AbOutDxReferenceIdeal.τ Cert.AbOutDxReferenceIdeal.sig) → Buf (Elt Ideal) ℓ) (g : Dev Cert.AbOutDxReferenceIdeal.nD → PrngReg), Pre_AbOutDxReferenceIdeal m →
    θ_run (Cert.AbOutDxReferenceIdeal.defs (F := Ideal)) (onTc (τ := Cert.AbOutDxReferenceIdeal.τ) (Cert.AbOutDxReferenceIdeal.main (F := Ideal))) ⟨m, fun _ => 0, g⟩ (fun r => (∀ c : Dev Cert.AbOutDxReferenceIdeal.nD,
      r.2.mem ((c.tc : Thread Cert.AbOutDxReferenceIdeal.nD Cert.AbOutDxReferenceIdeal.τ).loc Cert.AbOutDxReferenceIdeal.main_arg0) = m ((c.tc : Thread Cert.AbOutDxReferenceIdeal.nD Cert.AbOutDxReferenceIdeal.τ).loc Cert.AbOutDxReferenceIdeal.main_arg0)
      ∧ r.2.mem ((c.tc : Thread Cert.AbOutDxReferenceIdeal.nD Cert.AbOutDxReferenceIdeal.τ).loc Cert.AbOutDxReferenceIdeal.main_arg1) = m ((c.tc : Thread Cert.AbOutDxReferenceIdeal.nD Cert.AbOutDxReferenceIdeal.τ).loc Cert.AbOutDxReferenceIdeal.main_arg1))
      ∧ r.2.sem = fun _ => 0)

def quiescent_AbOutDw [hAbOutDw : Cert.AbOutDw.Facts] : Prop :=
  ∀ (m : (ℓ : Loc Cert.AbOutDw.nD Cert.AbOutDw.τ Cert.AbOutDw.sig) → Buf (Elt Bits) ℓ) (g : Dev Cert.AbOutDw.nD → PrngReg), Pre_AbOutDw m →
    θ_run (Cert.AbOutDw.defs (F := Bits)) (onTc (τ := Cert.AbOutDw.τ) (Cert.AbOutDw.main (F := Bits))) ⟨m, fun _ => 0, g⟩ (fun r => (∀ c : Dev Cert.AbOutDw.nD,
      r.2.mem ((c.tc : Thread Cert.AbOutDw.nD Cert.AbOutDw.τ).loc Cert.AbOutDw.main_arg0) = m ((c.tc : Thread Cert.AbOutDw.nD Cert.AbOutDw.τ).loc Cert.AbOutDw.main_arg0)
      ∧ r.2.mem ((c.tc : Thread Cert.AbOutDw.nD Cert.AbOutDw.τ).loc Cert.AbOutDw.main_arg1) = m ((c.tc : Thread Cert.AbOutDw.nD Cert.AbOutDw.τ).loc Cert.AbOutDw.main_arg1))
      ∧ r.2.sem = fun _ => 0)

def quiescent_AbOutDwIdeal [hAbOutDwIdeal : Cert.AbOutDwIdeal.Facts] : Prop :=
  ∀ (m : (ℓ : Loc Cert.AbOutDwIdeal.nD Cert.AbOutDwIdeal.τ Cert.AbOutDwIdeal.sig) → Buf (Elt Ideal) ℓ) (g : Dev Cert.AbOutDwIdeal.nD → PrngReg), Pre_AbOutDwIdeal m →
    θ_run (Cert.AbOutDwIdeal.defs (F := Ideal)) (onTc (τ := Cert.AbOutDwIdeal.τ) (Cert.AbOutDwIdeal.main (F := Ideal))) ⟨m, fun _ => 0, g⟩ (fun r => (∀ c : Dev Cert.AbOutDwIdeal.nD,
      r.2.mem ((c.tc : Thread Cert.AbOutDwIdeal.nD Cert.AbOutDwIdeal.τ).loc Cert.AbOutDwIdeal.main_arg0) = m ((c.tc : Thread Cert.AbOutDwIdeal.nD Cert.AbOutDwIdeal.τ).loc Cert.AbOutDwIdeal.main_arg0)
      ∧ r.2.mem ((c.tc : Thread Cert.AbOutDwIdeal.nD Cert.AbOutDwIdeal.τ).loc Cert.AbOutDwIdeal.main_arg1) = m ((c.tc : Thread Cert.AbOutDwIdeal.nD Cert.AbOutDwIdeal.τ).loc Cert.AbOutDwIdeal.main_arg1))
      ∧ r.2.sem = fun _ => 0)

def quiescent_AbOutDwReferenceIdeal [hAbOutDwReferenceIdeal : Cert.AbOutDwReferenceIdeal.Facts] : Prop :=
  ∀ (m : (ℓ : Loc Cert.AbOutDwReferenceIdeal.nD Cert.AbOutDwReferenceIdeal.τ Cert.AbOutDwReferenceIdeal.sig) → Buf (Elt Ideal) ℓ) (g : Dev Cert.AbOutDwReferenceIdeal.nD → PrngReg), Pre_AbOutDwReferenceIdeal m →
    θ_run (Cert.AbOutDwReferenceIdeal.defs (F := Ideal)) (onTc (τ := Cert.AbOutDwReferenceIdeal.τ) (Cert.AbOutDwReferenceIdeal.main (F := Ideal))) ⟨m, fun _ => 0, g⟩ (fun r => (∀ c : Dev Cert.AbOutDwReferenceIdeal.nD,
      r.2.mem ((c.tc : Thread Cert.AbOutDwReferenceIdeal.nD Cert.AbOutDwReferenceIdeal.τ).loc Cert.AbOutDwReferenceIdeal.main_arg0) = m ((c.tc : Thread Cert.AbOutDwReferenceIdeal.nD Cert.AbOutDwReferenceIdeal.τ).loc Cert.AbOutDwReferenceIdeal.main_arg0)
      ∧ r.2.mem ((c.tc : Thread Cert.AbOutDwReferenceIdeal.nD Cert.AbOutDwReferenceIdeal.τ).loc Cert.AbOutDwReferenceIdeal.main_arg1) = m ((c.tc : Thread Cert.AbOutDwReferenceIdeal.nD Cert.AbOutDwReferenceIdeal.τ).loc Cert.AbOutDwReferenceIdeal.main_arg1))
      ∧ r.2.sem = fun _ => 0)

def quiescent_DilQkv [hDilQkv : Cert.DilQkv.Facts] : Prop :=
  ∀ (m : (ℓ : Loc Cert.DilQkv.nD Cert.DilQkv.τ Cert.DilQkv.sig) → Buf (Elt Bits) ℓ) (g : Dev Cert.DilQkv.nD → PrngReg), Pre_DilQkv m →
    θ_run (Cert.DilQkv.defs (F := Bits)) (onTc (τ := Cert.DilQkv.τ) (Cert.DilQkv.main (F := Bits))) ⟨m, fun _ => 0, g⟩ (fun r => (∀ c : Dev Cert.DilQkv.nD,
      r.2.mem ((c.tc : Thread Cert.DilQkv.nD Cert.DilQkv.τ).loc Cert.DilQkv.main_arg0) = m ((c.tc : Thread Cert.DilQkv.nD Cert.DilQkv.τ).loc Cert.DilQkv.main_arg0)
      ∧ r.2.mem ((c.tc : Thread Cert.DilQkv.nD Cert.DilQkv.τ).loc Cert.DilQkv.main_arg1) = m ((c.tc : Thread Cert.DilQkv.nD Cert.DilQkv.τ).loc Cert.DilQkv.main_arg1))
      ∧ r.2.sem = fun _ => 0)

def quiescent_DilQkvIdeal [hDilQkvIdeal : Cert.DilQkvIdeal.Facts] : Prop :=
  ∀ (m : (ℓ : Loc Cert.DilQkvIdeal.nD Cert.DilQkvIdeal.τ Cert.DilQkvIdeal.sig) → Buf (Elt Ideal) ℓ) (g : Dev Cert.DilQkvIdeal.nD → PrngReg), Pre_DilQkvIdeal m →
    θ_run (Cert.DilQkvIdeal.defs (F := Ideal)) (onTc (τ := Cert.DilQkvIdeal.τ) (Cert.DilQkvIdeal.main (F := Ideal))) ⟨m, fun _ => 0, g⟩ (fun r => (∀ c : Dev Cert.DilQkvIdeal.nD,
      r.2.mem ((c.tc : Thread Cert.DilQkvIdeal.nD Cert.DilQkvIdeal.τ).loc Cert.DilQkvIdeal.main_arg0) = m ((c.tc : Thread Cert.DilQkvIdeal.nD Cert.DilQkvIdeal.τ).loc Cert.DilQkvIdeal.main_arg0)
      ∧ r.2.mem ((c.tc : Thread Cert.DilQkvIdeal.nD Cert.DilQkvIdeal.τ).loc Cert.DilQkvIdeal.main_arg1) = m ((c.tc : Thread Cert.DilQkvIdeal.nD Cert.DilQkvIdeal.τ).loc Cert.DilQkvIdeal.main_arg1))
      ∧ r.2.sem = fun _ => 0)

def quiescent_DilQkvReferenceIdeal [hDilQkvReferenceIdeal : Cert.DilQkvReferenceIdeal.Facts] : Prop :=
  ∀ (m : (ℓ : Loc Cert.DilQkvReferenceIdeal.nD Cert.DilQkvReferenceIdeal.τ Cert.DilQkvReferenceIdeal.sig) → Buf (Elt Ideal) ℓ) (g : Dev Cert.DilQkvReferenceIdeal.nD → PrngReg), Pre_DilQkvReferenceIdeal m →
    θ_run (Cert.DilQkvReferenceIdeal.defs (F := Ideal)) (onTc (τ := Cert.DilQkvReferenceIdeal.τ) (Cert.DilQkvReferenceIdeal.main (F := Ideal))) ⟨m, fun _ => 0, g⟩ (fun r => (∀ c : Dev Cert.DilQkvReferenceIdeal.nD,
      r.2.mem ((c.tc : Thread Cert.DilQkvReferenceIdeal.nD Cert.DilQkvReferenceIdeal.τ).loc Cert.DilQkvReferenceIdeal.main_arg0) = m ((c.tc : Thread Cert.DilQkvReferenceIdeal.nD Cert.DilQkvReferenceIdeal.τ).loc Cert.DilQkvReferenceIdeal.main_arg0)
      ∧ r.2.mem ((c.tc : Thread Cert.DilQkvReferenceIdeal.nD Cert.DilQkvReferenceIdeal.τ).loc Cert.DilQkvReferenceIdeal.main_arg1) = m ((c.tc : Thread Cert.DilQkvReferenceIdeal.nD Cert.DilQkvReferenceIdeal.τ).loc Cert.DilQkvReferenceIdeal.main_arg1))
      ∧ r.2.sem = fun _ => 0)

def quiescent_DilQkvDx [hDilQkvDx : Cert.DilQkvDx.Facts] : Prop :=
  ∀ (m : (ℓ : Loc Cert.DilQkvDx.nD Cert.DilQkvDx.τ Cert.DilQkvDx.sig) → Buf (Elt Bits) ℓ) (g : Dev Cert.DilQkvDx.nD → PrngReg), Pre_DilQkvDx m →
    θ_run (Cert.DilQkvDx.defs (F := Bits)) (onTc (τ := Cert.DilQkvDx.τ) (Cert.DilQkvDx.main (F := Bits))) ⟨m, fun _ => 0, g⟩ (fun r => (∀ c : Dev Cert.DilQkvDx.nD,
      r.2.mem ((c.tc : Thread Cert.DilQkvDx.nD Cert.DilQkvDx.τ).loc Cert.DilQkvDx.main_arg0) = m ((c.tc : Thread Cert.DilQkvDx.nD Cert.DilQkvDx.τ).loc Cert.DilQkvDx.main_arg0)
      ∧ r.2.mem ((c.tc : Thread Cert.DilQkvDx.nD Cert.DilQkvDx.τ).loc Cert.DilQkvDx.main_arg1) = m ((c.tc : Thread Cert.DilQkvDx.nD Cert.DilQkvDx.τ).loc Cert.DilQkvDx.main_arg1))
      ∧ r.2.sem = fun _ => 0)

def quiescent_DilQkvDxIdeal [hDilQkvDxIdeal : Cert.DilQkvDxIdeal.Facts] : Prop :=
  ∀ (m : (ℓ : Loc Cert.DilQkvDxIdeal.nD Cert.DilQkvDxIdeal.τ Cert.DilQkvDxIdeal.sig) → Buf (Elt Ideal) ℓ) (g : Dev Cert.DilQkvDxIdeal.nD → PrngReg), Pre_DilQkvDxIdeal m →
    θ_run (Cert.DilQkvDxIdeal.defs (F := Ideal)) (onTc (τ := Cert.DilQkvDxIdeal.τ) (Cert.DilQkvDxIdeal.main (F := Ideal))) ⟨m, fun _ => 0, g⟩ (fun r => (∀ c : Dev Cert.DilQkvDxIdeal.nD,
      r.2.mem ((c.tc : Thread Cert.DilQkvDxIdeal.nD Cert.DilQkvDxIdeal.τ).loc Cert.DilQkvDxIdeal.main_arg0) = m ((c.tc : Thread Cert.DilQkvDxIdeal.nD Cert.DilQkvDxIdeal.τ).loc Cert.DilQkvDxIdeal.main_arg0)
      ∧ r.2.mem ((c.tc : Thread Cert.DilQkvDxIdeal.nD Cert.DilQkvDxIdeal.τ).loc Cert.DilQkvDxIdeal.main_arg1) = m ((c.tc : Thread Cert.DilQkvDxIdeal.nD Cert.DilQkvDxIdeal.τ).loc Cert.DilQkvDxIdeal.main_arg1))
      ∧ r.2.sem = fun _ => 0)

def quiescent_DilQkvDxReferenceIdeal [hDilQkvDxReferenceIdeal : Cert.DilQkvDxReferenceIdeal.Facts] : Prop :=
  ∀ (m : (ℓ : Loc Cert.DilQkvDxReferenceIdeal.nD Cert.DilQkvDxReferenceIdeal.τ Cert.DilQkvDxReferenceIdeal.sig) → Buf (Elt Ideal) ℓ) (g : Dev Cert.DilQkvDxReferenceIdeal.nD → PrngReg), Pre_DilQkvDxReferenceIdeal m →
    θ_run (Cert.DilQkvDxReferenceIdeal.defs (F := Ideal)) (onTc (τ := Cert.DilQkvDxReferenceIdeal.τ) (Cert.DilQkvDxReferenceIdeal.main (F := Ideal))) ⟨m, fun _ => 0, g⟩ (fun r => (∀ c : Dev Cert.DilQkvDxReferenceIdeal.nD,
      r.2.mem ((c.tc : Thread Cert.DilQkvDxReferenceIdeal.nD Cert.DilQkvDxReferenceIdeal.τ).loc Cert.DilQkvDxReferenceIdeal.main_arg0) = m ((c.tc : Thread Cert.DilQkvDxReferenceIdeal.nD Cert.DilQkvDxReferenceIdeal.τ).loc Cert.DilQkvDxReferenceIdeal.main_arg0)
      ∧ r.2.mem ((c.tc : Thread Cert.DilQkvDxReferenceIdeal.nD Cert.DilQkvDxReferenceIdeal.τ).loc Cert.DilQkvDxReferenceIdeal.main_arg1) = m ((c.tc : Thread Cert.DilQkvDxReferenceIdeal.nD Cert.DilQkvDxReferenceIdeal.τ).loc Cert.DilQkvDxReferenceIdeal.main_arg1))
      ∧ r.2.sem = fun _ => 0)

def quiescent_DilQkvDw [hDilQkvDw : Cert.DilQkvDw.Facts] : Prop :=
  ∀ (m : (ℓ : Loc Cert.DilQkvDw.nD Cert.DilQkvDw.τ Cert.DilQkvDw.sig) → Buf (Elt Bits) ℓ) (g : Dev Cert.DilQkvDw.nD → PrngReg), Pre_DilQkvDw m →
    θ_run (Cert.DilQkvDw.defs (F := Bits)) (onTc (τ := Cert.DilQkvDw.τ) (Cert.DilQkvDw.main (F := Bits))) ⟨m, fun _ => 0, g⟩ (fun r => (∀ c : Dev Cert.DilQkvDw.nD,
      r.2.mem ((c.tc : Thread Cert.DilQkvDw.nD Cert.DilQkvDw.τ).loc Cert.DilQkvDw.main_arg0) = m ((c.tc : Thread Cert.DilQkvDw.nD Cert.DilQkvDw.τ).loc Cert.DilQkvDw.main_arg0)
      ∧ r.2.mem ((c.tc : Thread Cert.DilQkvDw.nD Cert.DilQkvDw.τ).loc Cert.DilQkvDw.main_arg1) = m ((c.tc : Thread Cert.DilQkvDw.nD Cert.DilQkvDw.τ).loc Cert.DilQkvDw.main_arg1))
      ∧ r.2.sem = fun _ => 0)

def quiescent_DilQkvDwIdeal [hDilQkvDwIdeal : Cert.DilQkvDwIdeal.Facts] : Prop :=
  ∀ (m : (ℓ : Loc Cert.DilQkvDwIdeal.nD Cert.DilQkvDwIdeal.τ Cert.DilQkvDwIdeal.sig) → Buf (Elt Ideal) ℓ) (g : Dev Cert.DilQkvDwIdeal.nD → PrngReg), Pre_DilQkvDwIdeal m →
    θ_run (Cert.DilQkvDwIdeal.defs (F := Ideal)) (onTc (τ := Cert.DilQkvDwIdeal.τ) (Cert.DilQkvDwIdeal.main (F := Ideal))) ⟨m, fun _ => 0, g⟩ (fun r => (∀ c : Dev Cert.DilQkvDwIdeal.nD,
      r.2.mem ((c.tc : Thread Cert.DilQkvDwIdeal.nD Cert.DilQkvDwIdeal.τ).loc Cert.DilQkvDwIdeal.main_arg0) = m ((c.tc : Thread Cert.DilQkvDwIdeal.nD Cert.DilQkvDwIdeal.τ).loc Cert.DilQkvDwIdeal.main_arg0)
      ∧ r.2.mem ((c.tc : Thread Cert.DilQkvDwIdeal.nD Cert.DilQkvDwIdeal.τ).loc Cert.DilQkvDwIdeal.main_arg1) = m ((c.tc : Thread Cert.DilQkvDwIdeal.nD Cert.DilQkvDwIdeal.τ).loc Cert.DilQkvDwIdeal.main_arg1))
      ∧ r.2.sem = fun _ => 0)

def quiescent_DilQkvDwReferenceIdeal [hDilQkvDwReferenceIdeal : Cert.DilQkvDwReferenceIdeal.Facts] : Prop :=
  ∀ (m : (ℓ : Loc Cert.DilQkvDwReferenceIdeal.nD Cert.DilQkvDwReferenceIdeal.τ Cert.DilQkvDwReferenceIdeal.sig) → Buf (Elt Ideal) ℓ) (g : Dev Cert.DilQkvDwReferenceIdeal.nD → PrngReg), Pre_DilQkvDwReferenceIdeal m →
    θ_run (Cert.DilQkvDwReferenceIdeal.defs (F := Ideal)) (onTc (τ := Cert.DilQkvDwReferenceIdeal.τ) (Cert.DilQkvDwReferenceIdeal.main (F := Ideal))) ⟨m, fun _ => 0, g⟩ (fun r => (∀ c : Dev Cert.DilQkvDwReferenceIdeal.nD,
      r.2.mem ((c.tc : Thread Cert.DilQkvDwReferenceIdeal.nD Cert.DilQkvDwReferenceIdeal.τ).loc Cert.DilQkvDwReferenceIdeal.main_arg0) = m ((c.tc : Thread Cert.DilQkvDwReferenceIdeal.nD Cert.DilQkvDwReferenceIdeal.τ).loc Cert.DilQkvDwReferenceIdeal.main_arg0)
      ∧ r.2.mem ((c.tc : Thread Cert.DilQkvDwReferenceIdeal.nD Cert.DilQkvDwReferenceIdeal.τ).loc Cert.DilQkvDwReferenceIdeal.main_arg1) = m ((c.tc : Thread Cert.DilQkvDwReferenceIdeal.nD Cert.DilQkvDwReferenceIdeal.τ).loc Cert.DilQkvDwReferenceIdeal.main_arg1))
      ∧ r.2.sem = fun _ => 0)

def quiescent_DilOut [hDilOut : Cert.DilOut.Facts] : Prop :=
  ∀ (m : (ℓ : Loc Cert.DilOut.nD Cert.DilOut.τ Cert.DilOut.sig) → Buf (Elt Bits) ℓ) (g : Dev Cert.DilOut.nD → PrngReg), Pre_DilOut m →
    θ_run (Cert.DilOut.defs (F := Bits)) (onTc (τ := Cert.DilOut.τ) (Cert.DilOut.main (F := Bits))) ⟨m, fun _ => 0, g⟩ (fun r => (∀ c : Dev Cert.DilOut.nD,
      r.2.mem ((c.tc : Thread Cert.DilOut.nD Cert.DilOut.τ).loc Cert.DilOut.main_arg0) = m ((c.tc : Thread Cert.DilOut.nD Cert.DilOut.τ).loc Cert.DilOut.main_arg0)
      ∧ r.2.mem ((c.tc : Thread Cert.DilOut.nD Cert.DilOut.τ).loc Cert.DilOut.main_arg1) = m ((c.tc : Thread Cert.DilOut.nD Cert.DilOut.τ).loc Cert.DilOut.main_arg1))
      ∧ r.2.sem = fun _ => 0)

def quiescent_DilOutIdeal [hDilOutIdeal : Cert.DilOutIdeal.Facts] : Prop :=
  ∀ (m : (ℓ : Loc Cert.DilOutIdeal.nD Cert.DilOutIdeal.τ Cert.DilOutIdeal.sig) → Buf (Elt Ideal) ℓ) (g : Dev Cert.DilOutIdeal.nD → PrngReg), Pre_DilOutIdeal m →
    θ_run (Cert.DilOutIdeal.defs (F := Ideal)) (onTc (τ := Cert.DilOutIdeal.τ) (Cert.DilOutIdeal.main (F := Ideal))) ⟨m, fun _ => 0, g⟩ (fun r => (∀ c : Dev Cert.DilOutIdeal.nD,
      r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
      ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1))
      ∧ r.2.sem = fun _ => 0)

def quiescent_DilOutReferenceIdeal [hDilOutReferenceIdeal : Cert.DilOutReferenceIdeal.Facts] : Prop :=
  ∀ (m : (ℓ : Loc Cert.DilOutReferenceIdeal.nD Cert.DilOutReferenceIdeal.τ Cert.DilOutReferenceIdeal.sig) → Buf (Elt Ideal) ℓ) (g : Dev Cert.DilOutReferenceIdeal.nD → PrngReg), Pre_DilOutReferenceIdeal m →
    θ_run (Cert.DilOutReferenceIdeal.defs (F := Ideal)) (onTc (τ := Cert.DilOutReferenceIdeal.τ) (Cert.DilOutReferenceIdeal.main (F := Ideal))) ⟨m, fun _ => 0, g⟩ (fun r => (∀ c : Dev Cert.DilOutReferenceIdeal.nD,
      r.2.mem ((c.tc : Thread Cert.DilOutReferenceIdeal.nD Cert.DilOutReferenceIdeal.τ).loc Cert.DilOutReferenceIdeal.main_arg0) = m ((c.tc : Thread Cert.DilOutReferenceIdeal.nD Cert.DilOutReferenceIdeal.τ).loc Cert.DilOutReferenceIdeal.main_arg0)
      ∧ r.2.mem ((c.tc : Thread Cert.DilOutReferenceIdeal.nD Cert.DilOutReferenceIdeal.τ).loc Cert.DilOutReferenceIdeal.main_arg1) = m ((c.tc : Thread Cert.DilOutReferenceIdeal.nD Cert.DilOutReferenceIdeal.τ).loc Cert.DilOutReferenceIdeal.main_arg1))
      ∧ r.2.sem = fun _ => 0)

def quiescent_DilOutDx [hDilOutDx : Cert.DilOutDx.Facts] : Prop :=
  ∀ (m : (ℓ : Loc Cert.DilOutDx.nD Cert.DilOutDx.τ Cert.DilOutDx.sig) → Buf (Elt Bits) ℓ) (g : Dev Cert.DilOutDx.nD → PrngReg), Pre_DilOutDx m →
    θ_run (Cert.DilOutDx.defs (F := Bits)) (onTc (τ := Cert.DilOutDx.τ) (Cert.DilOutDx.main (F := Bits))) ⟨m, fun _ => 0, g⟩ (fun r => (∀ c : Dev Cert.DilOutDx.nD,
      r.2.mem ((c.tc : Thread Cert.DilOutDx.nD Cert.DilOutDx.τ).loc Cert.DilOutDx.main_arg0) = m ((c.tc : Thread Cert.DilOutDx.nD Cert.DilOutDx.τ).loc Cert.DilOutDx.main_arg0)
      ∧ r.2.mem ((c.tc : Thread Cert.DilOutDx.nD Cert.DilOutDx.τ).loc Cert.DilOutDx.main_arg1) = m ((c.tc : Thread Cert.DilOutDx.nD Cert.DilOutDx.τ).loc Cert.DilOutDx.main_arg1))
      ∧ r.2.sem = fun _ => 0)

def quiescent_DilOutDxIdeal [hDilOutDxIdeal : Cert.DilOutDxIdeal.Facts] : Prop :=
  ∀ (m : (ℓ : Loc Cert.DilOutDxIdeal.nD Cert.DilOutDxIdeal.τ Cert.DilOutDxIdeal.sig) → Buf (Elt Ideal) ℓ) (g : Dev Cert.DilOutDxIdeal.nD → PrngReg), Pre_DilOutDxIdeal m →
    θ_run (Cert.DilOutDxIdeal.defs (F := Ideal)) (onTc (τ := Cert.DilOutDxIdeal.τ) (Cert.DilOutDxIdeal.main (F := Ideal))) ⟨m, fun _ => 0, g⟩ (fun r => (∀ c : Dev Cert.DilOutDxIdeal.nD,
      r.2.mem ((c.tc : Thread Cert.DilOutDxIdeal.nD Cert.DilOutDxIdeal.τ).loc Cert.DilOutDxIdeal.main_arg0) = m ((c.tc : Thread Cert.DilOutDxIdeal.nD Cert.DilOutDxIdeal.τ).loc Cert.DilOutDxIdeal.main_arg0)
      ∧ r.2.mem ((c.tc : Thread Cert.DilOutDxIdeal.nD Cert.DilOutDxIdeal.τ).loc Cert.DilOutDxIdeal.main_arg1) = m ((c.tc : Thread Cert.DilOutDxIdeal.nD Cert.DilOutDxIdeal.τ).loc Cert.DilOutDxIdeal.main_arg1))
      ∧ r.2.sem = fun _ => 0)

def quiescent_DilOutDxReferenceIdeal [hDilOutDxReferenceIdeal : Cert.DilOutDxReferenceIdeal.Facts] : Prop :=
  ∀ (m : (ℓ : Loc Cert.DilOutDxReferenceIdeal.nD Cert.DilOutDxReferenceIdeal.τ Cert.DilOutDxReferenceIdeal.sig) → Buf (Elt Ideal) ℓ) (g : Dev Cert.DilOutDxReferenceIdeal.nD → PrngReg), Pre_DilOutDxReferenceIdeal m →
    θ_run (Cert.DilOutDxReferenceIdeal.defs (F := Ideal)) (onTc (τ := Cert.DilOutDxReferenceIdeal.τ) (Cert.DilOutDxReferenceIdeal.main (F := Ideal))) ⟨m, fun _ => 0, g⟩ (fun r => (∀ c : Dev Cert.DilOutDxReferenceIdeal.nD,
      r.2.mem ((c.tc : Thread Cert.DilOutDxReferenceIdeal.nD Cert.DilOutDxReferenceIdeal.τ).loc Cert.DilOutDxReferenceIdeal.main_arg0) = m ((c.tc : Thread Cert.DilOutDxReferenceIdeal.nD Cert.DilOutDxReferenceIdeal.τ).loc Cert.DilOutDxReferenceIdeal.main_arg0)
      ∧ r.2.mem ((c.tc : Thread Cert.DilOutDxReferenceIdeal.nD Cert.DilOutDxReferenceIdeal.τ).loc Cert.DilOutDxReferenceIdeal.main_arg1) = m ((c.tc : Thread Cert.DilOutDxReferenceIdeal.nD Cert.DilOutDxReferenceIdeal.τ).loc Cert.DilOutDxReferenceIdeal.main_arg1))
      ∧ r.2.sem = fun _ => 0)

def quiescent_DilOutDw [hDilOutDw : Cert.DilOutDw.Facts] : Prop :=
  ∀ (m : (ℓ : Loc Cert.DilOutDw.nD Cert.DilOutDw.τ Cert.DilOutDw.sig) → Buf (Elt Bits) ℓ) (g : Dev Cert.DilOutDw.nD → PrngReg), Pre_DilOutDw m →
    θ_run (Cert.DilOutDw.defs (F := Bits)) (onTc (τ := Cert.DilOutDw.τ) (Cert.DilOutDw.main (F := Bits))) ⟨m, fun _ => 0, g⟩ (fun r => (∀ c : Dev Cert.DilOutDw.nD,
      r.2.mem ((c.tc : Thread Cert.DilOutDw.nD Cert.DilOutDw.τ).loc Cert.DilOutDw.main_arg0) = m ((c.tc : Thread Cert.DilOutDw.nD Cert.DilOutDw.τ).loc Cert.DilOutDw.main_arg0)
      ∧ r.2.mem ((c.tc : Thread Cert.DilOutDw.nD Cert.DilOutDw.τ).loc Cert.DilOutDw.main_arg1) = m ((c.tc : Thread Cert.DilOutDw.nD Cert.DilOutDw.τ).loc Cert.DilOutDw.main_arg1))
      ∧ r.2.sem = fun _ => 0)

def quiescent_DilOutDwIdeal [hDilOutDwIdeal : Cert.DilOutDwIdeal.Facts] : Prop :=
  ∀ (m : (ℓ : Loc Cert.DilOutDwIdeal.nD Cert.DilOutDwIdeal.τ Cert.DilOutDwIdeal.sig) → Buf (Elt Ideal) ℓ) (g : Dev Cert.DilOutDwIdeal.nD → PrngReg), Pre_DilOutDwIdeal m →
    θ_run (Cert.DilOutDwIdeal.defs (F := Ideal)) (onTc (τ := Cert.DilOutDwIdeal.τ) (Cert.DilOutDwIdeal.main (F := Ideal))) ⟨m, fun _ => 0, g⟩ (fun r => (∀ c : Dev Cert.DilOutDwIdeal.nD,
      r.2.mem ((c.tc : Thread Cert.DilOutDwIdeal.nD Cert.DilOutDwIdeal.τ).loc Cert.DilOutDwIdeal.main_arg0) = m ((c.tc : Thread Cert.DilOutDwIdeal.nD Cert.DilOutDwIdeal.τ).loc Cert.DilOutDwIdeal.main_arg0)
      ∧ r.2.mem ((c.tc : Thread Cert.DilOutDwIdeal.nD Cert.DilOutDwIdeal.τ).loc Cert.DilOutDwIdeal.main_arg1) = m ((c.tc : Thread Cert.DilOutDwIdeal.nD Cert.DilOutDwIdeal.τ).loc Cert.DilOutDwIdeal.main_arg1))
      ∧ r.2.sem = fun _ => 0)

def quiescent_DilOutDwReferenceIdeal [hDilOutDwReferenceIdeal : Cert.DilOutDwReferenceIdeal.Facts] : Prop :=
  ∀ (m : (ℓ : Loc Cert.DilOutDwReferenceIdeal.nD Cert.DilOutDwReferenceIdeal.τ Cert.DilOutDwReferenceIdeal.sig) → Buf (Elt Ideal) ℓ) (g : Dev Cert.DilOutDwReferenceIdeal.nD → PrngReg), Pre_DilOutDwReferenceIdeal m →
    θ_run (Cert.DilOutDwReferenceIdeal.defs (F := Ideal)) (onTc (τ := Cert.DilOutDwReferenceIdeal.τ) (Cert.DilOutDwReferenceIdeal.main (F := Ideal))) ⟨m, fun _ => 0, g⟩ (fun r => (∀ c : Dev Cert.DilOutDwReferenceIdeal.nD,
      r.2.mem ((c.tc : Thread Cert.DilOutDwReferenceIdeal.nD Cert.DilOutDwReferenceIdeal.τ).loc Cert.DilOutDwReferenceIdeal.main_arg0) = m ((c.tc : Thread Cert.DilOutDwReferenceIdeal.nD Cert.DilOutDwReferenceIdeal.τ).loc Cert.DilOutDwReferenceIdeal.main_arg0)
      ∧ r.2.mem ((c.tc : Thread Cert.DilOutDwReferenceIdeal.nD Cert.DilOutDwReferenceIdeal.τ).loc Cert.DilOutDwReferenceIdeal.main_arg1) = m ((c.tc : Thread Cert.DilOutDwReferenceIdeal.nD Cert.DilOutDwReferenceIdeal.τ).loc Cert.DilOutDwReferenceIdeal.main_arg1))
      ∧ r.2.sem = fun _ => 0)

def quiescent_LnLoss [hLnLoss : Cert.LnLoss.Facts] : Prop :=
  ∀ (m : (ℓ : Loc Cert.LnLoss.nD Cert.LnLoss.τ Cert.LnLoss.sig) → Buf (Elt Bits) ℓ) (g : Dev Cert.LnLoss.nD → PrngReg), Pre_LnLoss m →
    θ_run (Cert.LnLoss.defs (F := Bits)) (onTc (τ := Cert.LnLoss.τ) (Cert.LnLoss.main (F := Bits))) ⟨m, fun _ => 0, g⟩ (fun r => (∀ c : Dev Cert.LnLoss.nD,
      r.2.mem ((c.tc : Thread Cert.LnLoss.nD Cert.LnLoss.τ).loc Cert.LnLoss.main_arg0) = m ((c.tc : Thread Cert.LnLoss.nD Cert.LnLoss.τ).loc Cert.LnLoss.main_arg0)
      ∧ r.2.mem ((c.tc : Thread Cert.LnLoss.nD Cert.LnLoss.τ).loc Cert.LnLoss.main_arg1) = m ((c.tc : Thread Cert.LnLoss.nD Cert.LnLoss.τ).loc Cert.LnLoss.main_arg1)
      ∧ r.2.mem ((c.tc : Thread Cert.LnLoss.nD Cert.LnLoss.τ).loc Cert.LnLoss.main_arg2) = m ((c.tc : Thread Cert.LnLoss.nD Cert.LnLoss.τ).loc Cert.LnLoss.main_arg2)
      ∧ r.2.mem ((c.tc : Thread Cert.LnLoss.nD Cert.LnLoss.τ).loc Cert.LnLoss.main_arg3) = m ((c.tc : Thread Cert.LnLoss.nD Cert.LnLoss.τ).loc Cert.LnLoss.main_arg3)
      ∧ r.2.mem ((c.tc : Thread Cert.LnLoss.nD Cert.LnLoss.τ).loc Cert.LnLoss.main_arg4) = m ((c.tc : Thread Cert.LnLoss.nD Cert.LnLoss.τ).loc Cert.LnLoss.main_arg4)
      ∧ r.2.mem ((c.tc : Thread Cert.LnLoss.nD Cert.LnLoss.τ).loc Cert.LnLoss.main_arg5) = m ((c.tc : Thread Cert.LnLoss.nD Cert.LnLoss.τ).loc Cert.LnLoss.main_arg5))
      ∧ r.2.sem = fun _ => 0)

def quiescent_LnLossIdeal [hLnLossIdeal : Cert.LnLossIdeal.Facts] : Prop :=
  ∀ (m : (ℓ : Loc Cert.LnLossIdeal.nD Cert.LnLossIdeal.τ Cert.LnLossIdeal.sig) → Buf (Elt Ideal) ℓ) (g : Dev Cert.LnLossIdeal.nD → PrngReg), Pre_LnLossIdeal m →
    θ_run (Cert.LnLossIdeal.defs (F := Ideal)) (onTc (τ := Cert.LnLossIdeal.τ) (Cert.LnLossIdeal.main (F := Ideal))) ⟨m, fun _ => 0, g⟩ (fun r => (∀ c : Dev Cert.LnLossIdeal.nD,
      r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
      ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
      ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
      ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
      ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
      ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5))
      ∧ r.2.sem = fun _ => 0)

def quiescent_LnLossReferenceIdeal [hLnLossReferenceIdeal : Cert.LnLossReferenceIdeal.Facts] : Prop :=
  ∀ (m : (ℓ : Loc Cert.LnLossReferenceIdeal.nD Cert.LnLossReferenceIdeal.τ Cert.LnLossReferenceIdeal.sig) → Buf (Elt Ideal) ℓ) (g : Dev Cert.LnLossReferenceIdeal.nD → PrngReg), Pre_LnLossReferenceIdeal m →
    θ_run (Cert.LnLossReferenceIdeal.defs (F := Ideal)) (onTc (τ := Cert.LnLossReferenceIdeal.τ) (Cert.LnLossReferenceIdeal.main (F := Ideal))) ⟨m, fun _ => 0, g⟩ (fun r => (∀ c : Dev Cert.LnLossReferenceIdeal.nD,
      r.2.mem ((c.tc : Thread Cert.LnLossReferenceIdeal.nD Cert.LnLossReferenceIdeal.τ).loc Cert.LnLossReferenceIdeal.main_arg0) = m ((c.tc : Thread Cert.LnLossReferenceIdeal.nD Cert.LnLossReferenceIdeal.τ).loc Cert.LnLossReferenceIdeal.main_arg0)
      ∧ r.2.mem ((c.tc : Thread Cert.LnLossReferenceIdeal.nD Cert.LnLossReferenceIdeal.τ).loc Cert.LnLossReferenceIdeal.main_arg1) = m ((c.tc : Thread Cert.LnLossReferenceIdeal.nD Cert.LnLossReferenceIdeal.τ).loc Cert.LnLossReferenceIdeal.main_arg1)
      ∧ r.2.mem ((c.tc : Thread Cert.LnLossReferenceIdeal.nD Cert.LnLossReferenceIdeal.τ).loc Cert.LnLossReferenceIdeal.main_arg2) = m ((c.tc : Thread Cert.LnLossReferenceIdeal.nD Cert.LnLossReferenceIdeal.τ).loc Cert.LnLossReferenceIdeal.main_arg2)
      ∧ r.2.mem ((c.tc : Thread Cert.LnLossReferenceIdeal.nD Cert.LnLossReferenceIdeal.τ).loc Cert.LnLossReferenceIdeal.main_arg3) = m ((c.tc : Thread Cert.LnLossReferenceIdeal.nD Cert.LnLossReferenceIdeal.τ).loc Cert.LnLossReferenceIdeal.main_arg3)
      ∧ r.2.mem ((c.tc : Thread Cert.LnLossReferenceIdeal.nD Cert.LnLossReferenceIdeal.τ).loc Cert.LnLossReferenceIdeal.main_arg4) = m ((c.tc : Thread Cert.LnLossReferenceIdeal.nD Cert.LnLossReferenceIdeal.τ).loc Cert.LnLossReferenceIdeal.main_arg4)
      ∧ r.2.mem ((c.tc : Thread Cert.LnLossReferenceIdeal.nD Cert.LnLossReferenceIdeal.τ).loc Cert.LnLossReferenceIdeal.main_arg5) = m ((c.tc : Thread Cert.LnLossReferenceIdeal.nD Cert.LnLossReferenceIdeal.τ).loc Cert.LnLossReferenceIdeal.main_arg5))
      ∧ r.2.sem = fun _ => 0)

def quiescent_Attention0 [hAttention0 : Cert.Attention0.Facts] : Prop :=
  ∀ (m : (ℓ : Loc Cert.Attention0.nD Cert.Attention0.τ Cert.Attention0.sig) → Buf (Elt Bits) ℓ) (g : Dev Cert.Attention0.nD → PrngReg), Pre_Attention0 m →
    θ_run (Cert.Attention0.defs (F := Bits)) (onTc (τ := Cert.Attention0.τ) (Cert.Attention0.main (F := Bits))) ⟨m, fun _ => 0, g⟩ (fun r => (∀ c : Dev Cert.Attention0.nD,
      r.2.mem ((c.tc : Thread Cert.Attention0.nD Cert.Attention0.τ).loc Cert.Attention0.main_arg0) = m ((c.tc : Thread Cert.Attention0.nD Cert.Attention0.τ).loc Cert.Attention0.main_arg0)
      ∧ r.2.mem ((c.tc : Thread Cert.Attention0.nD Cert.Attention0.τ).loc Cert.Attention0.main_arg1) = m ((c.tc : Thread Cert.Attention0.nD Cert.Attention0.τ).loc Cert.Attention0.main_arg1))
      ∧ r.2.sem = fun _ => 0)

def quiescent_Attention0Ideal [hAttention0Ideal : Cert.Attention0Ideal.Facts] : Prop :=
  ∀ (m : (ℓ : Loc Cert.Attention0Ideal.nD Cert.Attention0Ideal.τ Cert.Attention0Ideal.sig) → Buf (Elt Ideal) ℓ) (g : Dev Cert.Attention0Ideal.nD → PrngReg), Pre_Attention0Ideal m →
    θ_run (Cert.Attention0Ideal.defs (F := Ideal)) (onTc (τ := Cert.Attention0Ideal.τ) (Cert.Attention0Ideal.main (F := Ideal))) ⟨m, fun _ => 0, g⟩ (fun r => (∀ c : Dev Cert.Attention0Ideal.nD,
      r.2.mem ((c.tc : Thread Cert.Attention0Ideal.nD Cert.Attention0Ideal.τ).loc Cert.Attention0Ideal.main_arg0) = m ((c.tc : Thread Cert.Attention0Ideal.nD Cert.Attention0Ideal.τ).loc Cert.Attention0Ideal.main_arg0)
      ∧ r.2.mem ((c.tc : Thread Cert.Attention0Ideal.nD Cert.Attention0Ideal.τ).loc Cert.Attention0Ideal.main_arg1) = m ((c.tc : Thread Cert.Attention0Ideal.nD Cert.Attention0Ideal.τ).loc Cert.Attention0Ideal.main_arg1))
      ∧ r.2.sem = fun _ => 0)

def quiescent_Attention0ReferenceIdeal [hAttention0ReferenceIdeal : Cert.Attention0ReferenceIdeal.Facts] : Prop :=
  ∀ (m : (ℓ : Loc Cert.Attention0ReferenceIdeal.nD Cert.Attention0ReferenceIdeal.τ Cert.Attention0ReferenceIdeal.sig) → Buf (Elt Ideal) ℓ) (g : Dev Cert.Attention0ReferenceIdeal.nD → PrngReg), Pre_Attention0ReferenceIdeal m →
    θ_run (Cert.Attention0ReferenceIdeal.defs (F := Ideal)) (onTc (τ := Cert.Attention0ReferenceIdeal.τ) (Cert.Attention0ReferenceIdeal.main (F := Ideal))) ⟨m, fun _ => 0, g⟩ (fun r => (∀ c : Dev Cert.Attention0ReferenceIdeal.nD,
      r.2.mem ((c.tc : Thread Cert.Attention0ReferenceIdeal.nD Cert.Attention0ReferenceIdeal.τ).loc Cert.Attention0ReferenceIdeal.main_arg0) = m ((c.tc : Thread Cert.Attention0ReferenceIdeal.nD Cert.Attention0ReferenceIdeal.τ).loc Cert.Attention0ReferenceIdeal.main_arg0)
      ∧ r.2.mem ((c.tc : Thread Cert.Attention0ReferenceIdeal.nD Cert.Attention0ReferenceIdeal.τ).loc Cert.Attention0ReferenceIdeal.main_arg1) = m ((c.tc : Thread Cert.Attention0ReferenceIdeal.nD Cert.Attention0ReferenceIdeal.τ).loc Cert.Attention0ReferenceIdeal.main_arg1))
      ∧ r.2.sem = fun _ => 0)

def preserves_SumChips_SumChipsIdeal : Prop :=
  True

def algebraic_SumChipsIdeal_SumChipsReferenceIdeal [hSumChipsIdeal : Cert.SumChipsIdeal.Facts] [hSumChipsReferenceIdeal : Cert.SumChipsReferenceIdeal.Facts] : Prop :=
  ∀ (m : (ℓ : Loc Cert.SumChipsIdeal.nD Cert.SumChipsIdeal.τ Cert.SumChipsIdeal.sig) → Buf (Elt Ideal) ℓ) (g : Dev Cert.SumChipsIdeal.nD → PrngReg)
    (m' : (ℓ : Loc Cert.SumChipsReferenceIdeal.nD Cert.SumChipsReferenceIdeal.τ Cert.SumChipsReferenceIdeal.sig) → Buf (Elt Ideal) ℓ) (g' : Dev Cert.SumChipsReferenceIdeal.nD → PrngReg), Pre_SumChipsIdeal m →
    (∀ c : Dev Cert.SumChipsIdeal.nD,
      m ((c.tc : Thread Cert.SumChipsIdeal.nD Cert.SumChipsIdeal.τ).loc Cert.SumChipsIdeal.main_arg0) = Layout.block ⟨3, ![4, 6656, 1024]⟩ ⟨3, ![32, 6656, 1024]⟩ 0 8 c (m' (((0 : Dev Cert.SumChipsReferenceIdeal.nD).tc : Thread Cert.SumChipsReferenceIdeal.nD Cert.SumChipsReferenceIdeal.τ).loc Cert.SumChipsReferenceIdeal.main_arg0))) →
    ∃ (v0 : Buf (Elt Ideal) (((0 : Dev Cert.SumChipsReferenceIdeal.nD).tc : Thread Cert.SumChipsReferenceIdeal.nD Cert.SumChipsReferenceIdeal.τ).loc Cert.SumChipsReferenceIdeal.main_v13)),
      θ_run (Cert.SumChipsIdeal.defs (F := Ideal)) (onTc (τ := Cert.SumChipsIdeal.τ) (Cert.SumChipsIdeal.main (F := Ideal))) ⟨m, fun _ => 0, g⟩ (fun r => ∀ c : Dev Cert.SumChipsIdeal.nD,
          r.2.mem ((c.tc : Thread Cert.SumChipsIdeal.nD Cert.SumChipsIdeal.τ).loc Cert.SumChipsIdeal.main_v2) = Layout.block ⟨2, ![6656, 1024]⟩ ⟨2, ![53248, 1024]⟩ 0 8 c v0
          ∧ r.2.mem ((c.tc : Thread Cert.SumChipsIdeal.nD Cert.SumChipsIdeal.τ).loc Cert.SumChipsIdeal.main_arg0) = m ((c.tc : Thread Cert.SumChipsIdeal.nD Cert.SumChipsIdeal.τ).loc Cert.SumChipsIdeal.main_arg0))
      ∧ θ_run (Cert.SumChipsReferenceIdeal.defs (F := Ideal)) (onTc (τ := Cert.SumChipsReferenceIdeal.τ) (Cert.SumChipsReferenceIdeal.main (F := Ideal))) ⟨m', fun _ => 0, g'⟩ (fun r =>
          r.2.mem (((0 : Dev Cert.SumChipsReferenceIdeal.nD).tc : Thread Cert.SumChipsReferenceIdeal.nD Cert.SumChipsReferenceIdeal.τ).loc Cert.SumChipsReferenceIdeal.main_v13) = v0
          ∧ r.2.mem (((0 : Dev Cert.SumChipsReferenceIdeal.nD).tc : Thread Cert.SumChipsReferenceIdeal.nD Cert.SumChipsReferenceIdeal.τ).loc Cert.SumChipsReferenceIdeal.main_arg0) = m' (((0 : Dev Cert.SumChipsReferenceIdeal.nD).tc : Thread Cert.SumChipsReferenceIdeal.nD Cert.SumChipsReferenceIdeal.τ).loc Cert.SumChipsReferenceIdeal.main_arg0))

def bitexact_SumChips_SumChipsReference [hSumChips : Cert.SumChips.Facts] [hSumChipsReference : Cert.SumChipsReference.Facts] : Prop :=
  ∀ (m : (ℓ : Loc Cert.SumChips.nD Cert.SumChips.τ Cert.SumChips.sig) → Buf (Elt Bits) ℓ) (g : Dev Cert.SumChips.nD → PrngReg)
    (m' : (ℓ : Loc Cert.SumChipsReference.nD Cert.SumChipsReference.τ Cert.SumChipsReference.sig) → Buf (Elt Bits) ℓ) (g' : Dev Cert.SumChipsReference.nD → PrngReg), Pre_SumChips m →
    (∀ c : Dev Cert.SumChips.nD,
      m ((c.tc : Thread Cert.SumChips.nD Cert.SumChips.τ).loc Cert.SumChips.main_arg0) = Layout.block ⟨3, ![4, 6656, 1024]⟩ ⟨3, ![32, 6656, 1024]⟩ 0 8 c (m' (((0 : Dev Cert.SumChipsReference.nD).tc : Thread Cert.SumChipsReference.nD Cert.SumChipsReference.τ).loc Cert.SumChipsReference.main_arg0))) →
    ∃ (v0 : Buf (Elt Bits) (((0 : Dev Cert.SumChipsReference.nD).tc : Thread Cert.SumChipsReference.nD Cert.SumChipsReference.τ).loc Cert.SumChipsReference.main_v13)),
      θ_run (Cert.SumChips.defs (F := Bits)) (onTc (τ := Cert.SumChips.τ) (Cert.SumChips.main (F := Bits))) ⟨m, fun _ => 0, g⟩ (fun r => ∀ c : Dev Cert.SumChips.nD,
          r.2.mem ((c.tc : Thread Cert.SumChips.nD Cert.SumChips.τ).loc Cert.SumChips.main_v2) = Layout.block ⟨2, ![6656, 1024]⟩ ⟨2, ![53248, 1024]⟩ 0 8 c v0
          ∧ r.2.mem ((c.tc : Thread Cert.SumChips.nD Cert.SumChips.τ).loc Cert.SumChips.main_arg0) = m ((c.tc : Thread Cert.SumChips.nD Cert.SumChips.τ).loc Cert.SumChips.main_arg0))
      ∧ θ_run (Cert.SumChipsReference.defs (F := Bits)) (onTc (τ := Cert.SumChipsReference.τ) (Cert.SumChipsReference.main (F := Bits))) ⟨m', fun _ => 0, g'⟩ (fun r =>
          r.2.mem (((0 : Dev Cert.SumChipsReference.nD).tc : Thread Cert.SumChipsReference.nD Cert.SumChipsReference.τ).loc Cert.SumChipsReference.main_v13) = v0
          ∧ r.2.mem (((0 : Dev Cert.SumChipsReference.nD).tc : Thread Cert.SumChipsReference.nD Cert.SumChipsReference.τ).loc Cert.SumChipsReference.main_arg0) = m' (((0 : Dev Cert.SumChipsReference.nD).tc : Thread Cert.SumChipsReference.nD Cert.SumChipsReference.τ).loc Cert.SumChipsReference.main_arg0))

def preserves_SumCores_SumCoresIdeal : Prop :=
  True

def algebraic_SumCoresIdeal_SumCoresReferenceIdeal [hSumCoresIdeal : Cert.SumCoresIdeal.Facts] [hSumCoresReferenceIdeal : Cert.SumCoresReferenceIdeal.Facts] : Prop :=
  ∀ (m : (ℓ : Loc Cert.SumCoresIdeal.nD Cert.SumCoresIdeal.τ Cert.SumCoresIdeal.sig) → Buf (Elt Ideal) ℓ) (g : Dev Cert.SumCoresIdeal.nD → PrngReg)
    (m' : (ℓ : Loc Cert.SumCoresReferenceIdeal.nD Cert.SumCoresReferenceIdeal.τ Cert.SumCoresReferenceIdeal.sig) → Buf (Elt Ideal) ℓ) (g' : Dev Cert.SumCoresReferenceIdeal.nD → PrngReg), Pre_SumCoresIdeal m →
    (∀ c : Dev Cert.SumCoresIdeal.nD,
      m ((c.tc : Thread Cert.SumCoresIdeal.nD Cert.SumCoresIdeal.τ).loc Cert.SumCoresIdeal.main_arg0) = Layout.block ⟨3, ![1, 6656, 1024]⟩ ⟨3, ![8, 6656, 1024]⟩ 0 8 c (m' (((0 : Dev Cert.SumCoresReferenceIdeal.nD).tc : Thread Cert.SumCoresReferenceIdeal.nD Cert.SumCoresReferenceIdeal.τ).loc Cert.SumCoresReferenceIdeal.main_arg0))) →
    ∃ (v0 : Buf (Elt Ideal) (((0 : Dev Cert.SumCoresReferenceIdeal.nD).tc : Thread Cert.SumCoresReferenceIdeal.nD Cert.SumCoresReferenceIdeal.τ).loc Cert.SumCoresReferenceIdeal.main_v6)),
      θ_run (Cert.SumCoresIdeal.defs (F := Ideal)) (onTc (τ := Cert.SumCoresIdeal.τ) (Cert.SumCoresIdeal.main (F := Ideal))) ⟨m, fun _ => 0, g⟩ (fun r => ∀ c : Dev Cert.SumCoresIdeal.nD,
          r.2.mem ((c.tc : Thread Cert.SumCoresIdeal.nD Cert.SumCoresIdeal.τ).loc Cert.SumCoresIdeal.main_v2) = Layout.blockN ⟨2, ![6656, 1024]⟩ ⟨2, ![26624, 1024]⟩ (Layout.meshBlock [2, 2, 2] ![[0, 1], []] c) v0
          ∧ r.2.mem ((c.tc : Thread Cert.SumCoresIdeal.nD Cert.SumCoresIdeal.τ).loc Cert.SumCoresIdeal.main_arg0) = m ((c.tc : Thread Cert.SumCoresIdeal.nD Cert.SumCoresIdeal.τ).loc Cert.SumCoresIdeal.main_arg0))
      ∧ θ_run (Cert.SumCoresReferenceIdeal.defs (F := Ideal)) (onTc (τ := Cert.SumCoresReferenceIdeal.τ) (Cert.SumCoresReferenceIdeal.main (F := Ideal))) ⟨m', fun _ => 0, g'⟩ (fun r =>
          r.2.mem (((0 : Dev Cert.SumCoresReferenceIdeal.nD).tc : Thread Cert.SumCoresReferenceIdeal.nD Cert.SumCoresReferenceIdeal.τ).loc Cert.SumCoresReferenceIdeal.main_v6) = v0
          ∧ r.2.mem (((0 : Dev Cert.SumCoresReferenceIdeal.nD).tc : Thread Cert.SumCoresReferenceIdeal.nD Cert.SumCoresReferenceIdeal.τ).loc Cert.SumCoresReferenceIdeal.main_arg0) = m' (((0 : Dev Cert.SumCoresReferenceIdeal.nD).tc : Thread Cert.SumCoresReferenceIdeal.nD Cert.SumCoresReferenceIdeal.τ).loc Cert.SumCoresReferenceIdeal.main_arg0))

def bitexact_SumCores_SumCoresReference [hSumCores : Cert.SumCores.Facts] [hSumCoresReference : Cert.SumCoresReference.Facts] : Prop :=
  ∀ (m : (ℓ : Loc Cert.SumCores.nD Cert.SumCores.τ Cert.SumCores.sig) → Buf (Elt Bits) ℓ) (g : Dev Cert.SumCores.nD → PrngReg)
    (m' : (ℓ : Loc Cert.SumCoresReference.nD Cert.SumCoresReference.τ Cert.SumCoresReference.sig) → Buf (Elt Bits) ℓ) (g' : Dev Cert.SumCoresReference.nD → PrngReg), Pre_SumCores m →
    (∀ c : Dev Cert.SumCores.nD,
      m ((c.tc : Thread Cert.SumCores.nD Cert.SumCores.τ).loc Cert.SumCores.main_arg0) = Layout.block ⟨3, ![1, 6656, 1024]⟩ ⟨3, ![8, 6656, 1024]⟩ 0 8 c (m' (((0 : Dev Cert.SumCoresReference.nD).tc : Thread Cert.SumCoresReference.nD Cert.SumCoresReference.τ).loc Cert.SumCoresReference.main_arg0))) →
    ∃ (v0 : Buf (Elt Bits) (((0 : Dev Cert.SumCoresReference.nD).tc : Thread Cert.SumCoresReference.nD Cert.SumCoresReference.τ).loc Cert.SumCoresReference.main_v6)),
      θ_run (Cert.SumCores.defs (F := Bits)) (onTc (τ := Cert.SumCores.τ) (Cert.SumCores.main (F := Bits))) ⟨m, fun _ => 0, g⟩ (fun r => ∀ c : Dev Cert.SumCores.nD,
          r.2.mem ((c.tc : Thread Cert.SumCores.nD Cert.SumCores.τ).loc Cert.SumCores.main_v2) = Layout.blockN ⟨2, ![6656, 1024]⟩ ⟨2, ![26624, 1024]⟩ (Layout.meshBlock [2, 2, 2] ![[0, 1], []] c) v0
          ∧ r.2.mem ((c.tc : Thread Cert.SumCores.nD Cert.SumCores.τ).loc Cert.SumCores.main_arg0) = m ((c.tc : Thread Cert.SumCores.nD Cert.SumCores.τ).loc Cert.SumCores.main_arg0))
      ∧ θ_run (Cert.SumCoresReference.defs (F := Bits)) (onTc (τ := Cert.SumCoresReference.τ) (Cert.SumCoresReference.main (F := Bits))) ⟨m', fun _ => 0, g'⟩ (fun r =>
          r.2.mem (((0 : Dev Cert.SumCoresReference.nD).tc : Thread Cert.SumCoresReference.nD Cert.SumCoresReference.τ).loc Cert.SumCoresReference.main_v6) = v0
          ∧ r.2.mem (((0 : Dev Cert.SumCoresReference.nD).tc : Thread Cert.SumCoresReference.nD Cert.SumCoresReference.τ).loc Cert.SumCoresReference.main_arg0) = m' (((0 : Dev Cert.SumCoresReference.nD).tc : Thread Cert.SumCoresReference.nD Cert.SumCoresReference.τ).loc Cert.SumCoresReference.main_arg0))

def preserves_SumSmall_SumSmallIdeal : Prop :=
  True

def algebraic_SumSmallIdeal_SumSmallReferenceIdeal [hSumSmallIdeal : Cert.SumSmallIdeal.Facts] [hSumSmallReferenceIdeal : Cert.SumSmallReferenceIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallReferenceIdeal.nD Cert.SumSmallReferenceIdeal.τ Cert.SumSmallReferenceIdeal.sig) → Buf (Elt Ideal) ℓ) (g' : Dev Cert.SumSmallReferenceIdeal.nD → PrngReg), Pre_SumSmallIdeal m →
    (∀ c : Dev Cert.SumSmallIdeal.nD,
      m ((c.tc : Thread Cert.SumSmallIdeal.nD Cert.SumSmallIdeal.τ).loc Cert.SumSmallIdeal.main_arg0) = Layout.block ⟨3, ![1, 1, 18560]⟩ ⟨3, ![8, 1, 18560]⟩ 0 8 c (m' (((0 : Dev Cert.SumSmallReferenceIdeal.nD).tc : Thread Cert.SumSmallReferenceIdeal.nD Cert.SumSmallReferenceIdeal.τ).loc Cert.SumSmallReferenceIdeal.main_arg0))) →
    ∃ (v0 : Buf (Elt Ideal) (((0 : Dev Cert.SumSmallReferenceIdeal.nD).tc : Thread Cert.SumSmallReferenceIdeal.nD Cert.SumSmallReferenceIdeal.τ).loc Cert.SumSmallReferenceIdeal.main_v22)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v2) = v0
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallReferenceIdeal.defs (F := Ideal)) (onTc (τ := Cert.SumSmallReferenceIdeal.τ) (Cert.SumSmallReferenceIdeal.main (F := Ideal))) ⟨m', fun _ => 0, g'⟩ (fun r =>
          r.2.mem (((0 : Dev Cert.SumSmallReferenceIdeal.nD).tc : Thread Cert.SumSmallReferenceIdeal.nD Cert.SumSmallReferenceIdeal.τ).loc Cert.SumSmallReferenceIdeal.main_v22) = v0
          ∧ r.2.mem (((0 : Dev Cert.SumSmallReferenceIdeal.nD).tc : Thread Cert.SumSmallReferenceIdeal.nD Cert.SumSmallReferenceIdeal.τ).loc Cert.SumSmallReferenceIdeal.main_arg0) = m' (((0 : Dev Cert.SumSmallReferenceIdeal.nD).tc : Thread Cert.SumSmallReferenceIdeal.nD Cert.SumSmallReferenceIdeal.τ).loc Cert.SumSmallReferenceIdeal.main_arg0))

def bitexact_SumSmall_SumSmallReference [hSumSmall : Cert.SumSmall.Facts] [hSumSmallReference : Cert.SumSmallReference.Facts] : Prop :=
  ∀ (m : (ℓ : Loc Cert.SumSmall.nD Cert.SumSmall.τ Cert.SumSmall.sig) → Buf (Elt Bits) ℓ) (g : Dev Cert.SumSmall.nD → PrngReg)
    (m' : (ℓ : Loc Cert.SumSmallReference.nD Cert.SumSmallReference.τ Cert.SumSmallReference.sig) → Buf (Elt Bits) ℓ) (g' : Dev Cert.SumSmallReference.nD → PrngReg), Pre_SumSmall m →
    (∀ c : Dev Cert.SumSmall.nD,
      m ((c.tc : Thread Cert.SumSmall.nD Cert.SumSmall.τ).loc Cert.SumSmall.main_arg0) = Layout.block ⟨3, ![1, 1, 18560]⟩ ⟨3, ![8, 1, 18560]⟩ 0 8 c (m' (((0 : Dev Cert.SumSmallReference.nD).tc : Thread Cert.SumSmallReference.nD Cert.SumSmallReference.τ).loc Cert.SumSmallReference.main_arg0))) →
    ∃ (v0 : Buf (Elt Bits) (((0 : Dev Cert.SumSmallReference.nD).tc : Thread Cert.SumSmallReference.nD Cert.SumSmallReference.τ).loc Cert.SumSmallReference.main_v22)),
      θ_run (Cert.SumSmall.defs (F := Bits)) (onTc (τ := Cert.SumSmall.τ) (Cert.SumSmall.main (F := Bits))) ⟨m, fun _ => 0, g⟩ (fun r => ∀ c : Dev Cert.SumSmall.nD,
          r.2.mem ((c.tc : Thread Cert.SumSmall.nD Cert.SumSmall.τ).loc Cert.SumSmall.main_v2) = v0
          ∧ r.2.mem ((c.tc : Thread Cert.SumSmall.nD Cert.SumSmall.τ).loc Cert.SumSmall.main_arg0) = m ((c.tc : Thread Cert.SumSmall.nD Cert.SumSmall.τ).loc Cert.SumSmall.main_arg0))
      ∧ θ_run (Cert.SumSmallReference.defs (F := Bits)) (onTc (τ := Cert.SumSmallReference.τ) (Cert.SumSmallReference.main (F := Bits))) ⟨m', fun _ => 0, g'⟩ (fun r =>
          r.2.mem (((0 : Dev Cert.SumSmallReference.nD).tc : Thread Cert.SumSmallReference.nD Cert.SumSmallReference.τ).loc Cert.SumSmallReference.main_v22) = v0
          ∧ r.2.mem (((0 : Dev Cert.SumSmallReference.nD).tc : Thread Cert.SumSmallReference.nD Cert.SumSmallReference.τ).loc Cert.SumSmallReference.main_arg0) = m' (((0 : Dev Cert.SumSmallReference.nD).tc : Thread Cert.SumSmallReference.nD Cert.SumSmallReference.τ).loc Cert.SumSmallReference.main_arg0))

def preserves_GatherBig_GatherBigIdeal : Prop :=
  True

def algebraic_GatherBigIdeal_GatherBigReferenceIdeal [hGatherBigIdeal : Cert.GatherBigIdeal.Facts] [hGatherBigReferenceIdeal : Cert.GatherBigReferenceIdeal.Facts] : Prop :=
  ∀ (m : (ℓ : Loc Cert.GatherBigIdeal.nD Cert.GatherBigIdeal.τ Cert.GatherBigIdeal.sig) → Buf (Elt Ideal) ℓ) (g : Dev Cert.GatherBigIdeal.nD → PrngReg)
    (m' : (ℓ : Loc Cert.GatherBigReferenceIdeal.nD Cert.GatherBigReferenceIdeal.τ Cert.GatherBigReferenceIdeal.sig) → Buf (Elt Ideal) ℓ) (g' : Dev Cert.GatherBigReferenceIdeal.nD → PrngReg), Pre_GatherBigIdeal m →
    (∀ c : Dev Cert.GatherBigIdeal.nD,
      m ((c.tc : Thread Cert.GatherBigIdeal.nD Cert.GatherBigIdeal.τ).loc Cert.GatherBigIdeal.main_arg0) = Layout.blockN ⟨3, ![1, 6656, 1024]⟩ ⟨3, ![4, 6656, 1024]⟩ (Layout.meshBlock [2, 2, 2] ![[0, 1], [], []] c) (m' (((0 : Dev Cert.GatherBigReferenceIdeal.nD).tc : Thread Cert.GatherBigReferenceIdeal.nD Cert.GatherBigReferenceIdeal.τ).loc Cert.GatherBigReferenceIdeal.main_arg0))) →
    ∃ (v0 : Buf (Elt Ideal) (((0 : Dev Cert.GatherBigReferenceIdeal.nD).tc : Thread Cert.GatherBigReferenceIdeal.nD Cert.GatherBigReferenceIdeal.τ).loc Cert.GatherBigReferenceIdeal.main_arg0)),
      θ_run (Cert.GatherBigIdeal.defs (F := Ideal)) (onTc (τ := Cert.GatherBigIdeal.τ) (Cert.GatherBigIdeal.main (F := Ideal))) ⟨m, fun _ => 0, g⟩ (fun r => ∀ c : Dev Cert.GatherBigIdeal.nD,
          r.2.mem ((c.tc : Thread Cert.GatherBigIdeal.nD Cert.GatherBigIdeal.τ).loc Cert.GatherBigIdeal.main_v1) = v0
          ∧ r.2.mem ((c.tc : Thread Cert.GatherBigIdeal.nD Cert.GatherBigIdeal.τ).loc Cert.GatherBigIdeal.main_arg0) = m ((c.tc : Thread Cert.GatherBigIdeal.nD Cert.GatherBigIdeal.τ).loc Cert.GatherBigIdeal.main_arg0))
      ∧ θ_run (Cert.GatherBigReferenceIdeal.defs (F := Ideal)) (onTc (τ := Cert.GatherBigReferenceIdeal.τ) (Cert.GatherBigReferenceIdeal.main (F := Ideal))) ⟨m', fun _ => 0, g'⟩ (fun r =>
          r.2.mem (((0 : Dev Cert.GatherBigReferenceIdeal.nD).tc : Thread Cert.GatherBigReferenceIdeal.nD Cert.GatherBigReferenceIdeal.τ).loc Cert.GatherBigReferenceIdeal.main_arg0) = v0
          ∧ r.2.mem (((0 : Dev Cert.GatherBigReferenceIdeal.nD).tc : Thread Cert.GatherBigReferenceIdeal.nD Cert.GatherBigReferenceIdeal.τ).loc Cert.GatherBigReferenceIdeal.main_arg0) = m' (((0 : Dev Cert.GatherBigReferenceIdeal.nD).tc : Thread Cert.GatherBigReferenceIdeal.nD Cert.GatherBigReferenceIdeal.τ).loc Cert.GatherBigReferenceIdeal.main_arg0))

def bitexact_GatherBig_GatherBigReference [hGatherBig : Cert.GatherBig.Facts] [hGatherBigReference : Cert.GatherBigReference.Facts] : Prop :=
  ∀ (m : (ℓ : Loc Cert.GatherBig.nD Cert.GatherBig.τ Cert.GatherBig.sig) → Buf (Elt Bits) ℓ) (g : Dev Cert.GatherBig.nD → PrngReg)
    (m' : (ℓ : Loc Cert.GatherBigReference.nD Cert.GatherBigReference.τ Cert.GatherBigReference.sig) → Buf (Elt Bits) ℓ) (g' : Dev Cert.GatherBigReference.nD → PrngReg), Pre_GatherBig m →
    (∀ c : Dev Cert.GatherBig.nD,
      m ((c.tc : Thread Cert.GatherBig.nD Cert.GatherBig.τ).loc Cert.GatherBig.main_arg0) = Layout.blockN ⟨3, ![1, 6656, 1024]⟩ ⟨3, ![4, 6656, 1024]⟩ (Layout.meshBlock [2, 2, 2] ![[0, 1], [], []] c) (m' (((0 : Dev Cert.GatherBigReference.nD).tc : Thread Cert.GatherBigReference.nD Cert.GatherBigReference.τ).loc Cert.GatherBigReference.main_arg0))) →
    ∃ (v0 : Buf (Elt Bits) (((0 : Dev Cert.GatherBigReference.nD).tc : Thread Cert.GatherBigReference.nD Cert.GatherBigReference.τ).loc Cert.GatherBigReference.main_arg0)),
      θ_run (Cert.GatherBig.defs (F := Bits)) (onTc (τ := Cert.GatherBig.τ) (Cert.GatherBig.main (F := Bits))) ⟨m, fun _ => 0, g⟩ (fun r => ∀ c : Dev Cert.GatherBig.nD,
          r.2.mem ((c.tc : Thread Cert.GatherBig.nD Cert.GatherBig.τ).loc Cert.GatherBig.main_v1) = v0
          ∧ r.2.mem ((c.tc : Thread Cert.GatherBig.nD Cert.GatherBig.τ).loc Cert.GatherBig.main_arg0) = m ((c.tc : Thread Cert.GatherBig.nD Cert.GatherBig.τ).loc Cert.GatherBig.main_arg0))
      ∧ θ_run (Cert.GatherBigReference.defs (F := Bits)) (onTc (τ := Cert.GatherBigReference.τ) (Cert.GatherBigReference.main (F := Bits))) ⟨m', fun _ => 0, g'⟩ (fun r =>
          r.2.mem (((0 : Dev Cert.GatherBigReference.nD).tc : Thread Cert.GatherBigReference.nD Cert.GatherBigReference.τ).loc Cert.GatherBigReference.main_arg0) = v0
          ∧ r.2.mem (((0 : Dev Cert.GatherBigReference.nD).tc : Thread Cert.GatherBigReference.nD Cert.GatherBigReference.τ).loc Cert.GatherBigReference.main_arg0) = m' (((0 : Dev Cert.GatherBigReference.nD).tc : Thread Cert.GatherBigReference.nD Cert.GatherBigReference.τ).loc Cert.GatherBigReference.main_arg0))

def preserves_GatherSmall_GatherSmallIdeal : Prop :=
  True

def algebraic_GatherSmallIdeal_GatherSmallReferenceIdeal [hGatherSmallIdeal : Cert.GatherSmallIdeal.Facts] [hGatherSmallReferenceIdeal : Cert.GatherSmallReferenceIdeal.Facts] : Prop :=
  ∀ (m : (ℓ : Loc Cert.GatherSmallIdeal.nD Cert.GatherSmallIdeal.τ Cert.GatherSmallIdeal.sig) → Buf (Elt Ideal) ℓ) (g : Dev Cert.GatherSmallIdeal.nD → PrngReg)
    (m' : (ℓ : Loc Cert.GatherSmallReferenceIdeal.nD Cert.GatherSmallReferenceIdeal.τ Cert.GatherSmallReferenceIdeal.sig) → Buf (Elt Ideal) ℓ) (g' : Dev Cert.GatherSmallReferenceIdeal.nD → PrngReg), Pre_GatherSmallIdeal m →
    (∀ c : Dev Cert.GatherSmallIdeal.nD,
      m ((c.tc : Thread Cert.GatherSmallIdeal.nD Cert.GatherSmallIdeal.τ).loc Cert.GatherSmallIdeal.main_arg0) = Layout.blockN ⟨3, ![1, 256, 1024]⟩ ⟨3, ![4, 256, 1024]⟩ (Layout.meshBlock [2, 2, 2] ![[0, 1], [], []] c) (m' (((0 : Dev Cert.GatherSmallReferenceIdeal.nD).tc : Thread Cert.GatherSmallReferenceIdeal.nD Cert.GatherSmallReferenceIdeal.τ).loc Cert.GatherSmallReferenceIdeal.main_arg0))) →
    ∃ (v0 : Buf (Elt Ideal) (((0 : Dev Cert.GatherSmallReferenceIdeal.nD).tc : Thread Cert.GatherSmallReferenceIdeal.nD Cert.GatherSmallReferenceIdeal.τ).loc Cert.GatherSmallReferenceIdeal.main_arg0)),
      θ_run (Cert.GatherSmallIdeal.defs (F := Ideal)) (onTc (τ := Cert.GatherSmallIdeal.τ) (Cert.GatherSmallIdeal.main (F := Ideal))) ⟨m, fun _ => 0, g⟩ (fun r => ∀ c : Dev Cert.GatherSmallIdeal.nD,
          r.2.mem ((c.tc : Thread Cert.GatherSmallIdeal.nD Cert.GatherSmallIdeal.τ).loc Cert.GatherSmallIdeal.main_v1) = v0
          ∧ r.2.mem ((c.tc : Thread Cert.GatherSmallIdeal.nD Cert.GatherSmallIdeal.τ).loc Cert.GatherSmallIdeal.main_arg0) = m ((c.tc : Thread Cert.GatherSmallIdeal.nD Cert.GatherSmallIdeal.τ).loc Cert.GatherSmallIdeal.main_arg0))
      ∧ θ_run (Cert.GatherSmallReferenceIdeal.defs (F := Ideal)) (onTc (τ := Cert.GatherSmallReferenceIdeal.τ) (Cert.GatherSmallReferenceIdeal.main (F := Ideal))) ⟨m', fun _ => 0, g'⟩ (fun r =>
          r.2.mem (((0 : Dev Cert.GatherSmallReferenceIdeal.nD).tc : Thread Cert.GatherSmallReferenceIdeal.nD Cert.GatherSmallReferenceIdeal.τ).loc Cert.GatherSmallReferenceIdeal.main_arg0) = v0
          ∧ r.2.mem (((0 : Dev Cert.GatherSmallReferenceIdeal.nD).tc : Thread Cert.GatherSmallReferenceIdeal.nD Cert.GatherSmallReferenceIdeal.τ).loc Cert.GatherSmallReferenceIdeal.main_arg0) = m' (((0 : Dev Cert.GatherSmallReferenceIdeal.nD).tc : Thread Cert.GatherSmallReferenceIdeal.nD Cert.GatherSmallReferenceIdeal.τ).loc Cert.GatherSmallReferenceIdeal.main_arg0))

def bitexact_GatherSmall_GatherSmallReference [hGatherSmall : Cert.GatherSmall.Facts] [hGatherSmallReference : Cert.GatherSmallReference.Facts] : Prop :=
  ∀ (m : (ℓ : Loc Cert.GatherSmall.nD Cert.GatherSmall.τ Cert.GatherSmall.sig) → Buf (Elt Bits) ℓ) (g : Dev Cert.GatherSmall.nD → PrngReg)
    (m' : (ℓ : Loc Cert.GatherSmallReference.nD Cert.GatherSmallReference.τ Cert.GatherSmallReference.sig) → Buf (Elt Bits) ℓ) (g' : Dev Cert.GatherSmallReference.nD → PrngReg), Pre_GatherSmall m →
    (∀ c : Dev Cert.GatherSmall.nD,
      m ((c.tc : Thread Cert.GatherSmall.nD Cert.GatherSmall.τ).loc Cert.GatherSmall.main_arg0) = Layout.blockN ⟨3, ![1, 256, 1024]⟩ ⟨3, ![4, 256, 1024]⟩ (Layout.meshBlock [2, 2, 2] ![[0, 1], [], []] c) (m' (((0 : Dev Cert.GatherSmallReference.nD).tc : Thread Cert.GatherSmallReference.nD Cert.GatherSmallReference.τ).loc Cert.GatherSmallReference.main_arg0))) →
    ∃ (v0 : Buf (Elt Bits) (((0 : Dev Cert.GatherSmallReference.nD).tc : Thread Cert.GatherSmallReference.nD Cert.GatherSmallReference.τ).loc Cert.GatherSmallReference.main_arg0)),
      θ_run (Cert.GatherSmall.defs (F := Bits)) (onTc (τ := Cert.GatherSmall.τ) (Cert.GatherSmall.main (F := Bits))) ⟨m, fun _ => 0, g⟩ (fun r => ∀ c : Dev Cert.GatherSmall.nD,
          r.2.mem ((c.tc : Thread Cert.GatherSmall.nD Cert.GatherSmall.τ).loc Cert.GatherSmall.main_v1) = v0
          ∧ r.2.mem ((c.tc : Thread Cert.GatherSmall.nD Cert.GatherSmall.τ).loc Cert.GatherSmall.main_arg0) = m ((c.tc : Thread Cert.GatherSmall.nD Cert.GatherSmall.τ).loc Cert.GatherSmall.main_arg0))
      ∧ θ_run (Cert.GatherSmallReference.defs (F := Bits)) (onTc (τ := Cert.GatherSmallReference.τ) (Cert.GatherSmallReference.main (F := Bits))) ⟨m', fun _ => 0, g'⟩ (fun r =>
          r.2.mem (((0 : Dev Cert.GatherSmallReference.nD).tc : Thread Cert.GatherSmallReference.nD Cert.GatherSmallReference.τ).loc Cert.GatherSmallReference.main_arg0) = v0
          ∧ r.2.mem (((0 : Dev Cert.GatherSmallReference.nD).tc : Thread Cert.GatherSmallReference.nD Cert.GatherSmallReference.τ).loc Cert.GatherSmallReference.main_arg0) = m' (((0 : Dev Cert.GatherSmallReference.nD).tc : Thread Cert.GatherSmallReference.nD Cert.GatherSmallReference.τ).loc Cert.GatherSmallReference.main_arg0))

def preserves_GatherC_GatherCIdeal : Prop :=
  True

def algebraic_GatherCIdeal_GatherCReferenceIdeal [hGatherCIdeal : Cert.GatherCIdeal.Facts] [hGatherCReferenceIdeal : Cert.GatherCReferenceIdeal.Facts] : Prop :=
  ∀ (m : (ℓ : Loc Cert.GatherCIdeal.nD Cert.GatherCIdeal.τ Cert.GatherCIdeal.sig) → Buf (Elt Ideal) ℓ) (g : Dev Cert.GatherCIdeal.nD → PrngReg)
    (m' : (ℓ : Loc Cert.GatherCReferenceIdeal.nD Cert.GatherCReferenceIdeal.τ Cert.GatherCReferenceIdeal.sig) → Buf (Elt Ideal) ℓ) (g' : Dev Cert.GatherCReferenceIdeal.nD → PrngReg), Pre_GatherCIdeal m →
    (∀ c : Dev Cert.GatherCIdeal.nD,
      m ((c.tc : Thread Cert.GatherCIdeal.nD Cert.GatherCIdeal.τ).loc Cert.GatherCIdeal.main_arg0) = Layout.block ⟨3, ![1, 1, 1024]⟩ ⟨3, ![8, 1, 1024]⟩ 0 8 c (m' (((0 : Dev Cert.GatherCReferenceIdeal.nD).tc : Thread Cert.GatherCReferenceIdeal.nD Cert.GatherCReferenceIdeal.τ).loc Cert.GatherCReferenceIdeal.main_arg0))) →
    ∃ (v0 : Buf (Elt Ideal) (((0 : Dev Cert.GatherCReferenceIdeal.nD).tc : Thread Cert.GatherCReferenceIdeal.nD Cert.GatherCReferenceIdeal.τ).loc Cert.GatherCReferenceIdeal.main_arg0)),
      θ_run (Cert.GatherCIdeal.defs (F := Ideal)) (onTc (τ := Cert.GatherCIdeal.τ) (Cert.GatherCIdeal.main (F := Ideal))) ⟨m, fun _ => 0, g⟩ (fun r => ∀ c : Dev Cert.GatherCIdeal.nD,
          r.2.mem ((c.tc : Thread Cert.GatherCIdeal.nD Cert.GatherCIdeal.τ).loc Cert.GatherCIdeal.main_v1) = v0
          ∧ r.2.mem ((c.tc : Thread Cert.GatherCIdeal.nD Cert.GatherCIdeal.τ).loc Cert.GatherCIdeal.main_arg0) = m ((c.tc : Thread Cert.GatherCIdeal.nD Cert.GatherCIdeal.τ).loc Cert.GatherCIdeal.main_arg0))
      ∧ θ_run (Cert.GatherCReferenceIdeal.defs (F := Ideal)) (onTc (τ := Cert.GatherCReferenceIdeal.τ) (Cert.GatherCReferenceIdeal.main (F := Ideal))) ⟨m', fun _ => 0, g'⟩ (fun r =>
          r.2.mem (((0 : Dev Cert.GatherCReferenceIdeal.nD).tc : Thread Cert.GatherCReferenceIdeal.nD Cert.GatherCReferenceIdeal.τ).loc Cert.GatherCReferenceIdeal.main_arg0) = v0
          ∧ r.2.mem (((0 : Dev Cert.GatherCReferenceIdeal.nD).tc : Thread Cert.GatherCReferenceIdeal.nD Cert.GatherCReferenceIdeal.τ).loc Cert.GatherCReferenceIdeal.main_arg0) = m' (((0 : Dev Cert.GatherCReferenceIdeal.nD).tc : Thread Cert.GatherCReferenceIdeal.nD Cert.GatherCReferenceIdeal.τ).loc Cert.GatherCReferenceIdeal.main_arg0))

def bitexact_GatherC_GatherCReference [hGatherC : Cert.GatherC.Facts] [hGatherCReference : Cert.GatherCReference.Facts] : Prop :=
  ∀ (m : (ℓ : Loc Cert.GatherC.nD Cert.GatherC.τ Cert.GatherC.sig) → Buf (Elt Bits) ℓ) (g : Dev Cert.GatherC.nD → PrngReg)
    (m' : (ℓ : Loc Cert.GatherCReference.nD Cert.GatherCReference.τ Cert.GatherCReference.sig) → Buf (Elt Bits) ℓ) (g' : Dev Cert.GatherCReference.nD → PrngReg), Pre_GatherC m →
    (∀ c : Dev Cert.GatherC.nD,
      m ((c.tc : Thread Cert.GatherC.nD Cert.GatherC.τ).loc Cert.GatherC.main_arg0) = Layout.block ⟨3, ![1, 1, 1024]⟩ ⟨3, ![8, 1, 1024]⟩ 0 8 c (m' (((0 : Dev Cert.GatherCReference.nD).tc : Thread Cert.GatherCReference.nD Cert.GatherCReference.τ).loc Cert.GatherCReference.main_arg0))) →
    ∃ (v0 : Buf (Elt Bits) (((0 : Dev Cert.GatherCReference.nD).tc : Thread Cert.GatherCReference.nD Cert.GatherCReference.τ).loc Cert.GatherCReference.main_arg0)),
      θ_run (Cert.GatherC.defs (F := Bits)) (onTc (τ := Cert.GatherC.τ) (Cert.GatherC.main (F := Bits))) ⟨m, fun _ => 0, g⟩ (fun r => ∀ c : Dev Cert.GatherC.nD,
          r.2.mem ((c.tc : Thread Cert.GatherC.nD Cert.GatherC.τ).loc Cert.GatherC.main_v1) = v0
          ∧ r.2.mem ((c.tc : Thread Cert.GatherC.nD Cert.GatherC.τ).loc Cert.GatherC.main_arg0) = m ((c.tc : Thread Cert.GatherC.nD Cert.GatherC.τ).loc Cert.GatherC.main_arg0))
      ∧ θ_run (Cert.GatherCReference.defs (F := Bits)) (onTc (τ := Cert.GatherCReference.τ) (Cert.GatherCReference.main (F := Bits))) ⟨m', fun _ => 0, g'⟩ (fun r =>
          r.2.mem (((0 : Dev Cert.GatherCReference.nD).tc : Thread Cert.GatherCReference.nD Cert.GatherCReference.τ).loc Cert.GatherCReference.main_arg0) = v0
          ∧ r.2.mem (((0 : Dev Cert.GatherCReference.nD).tc : Thread Cert.GatherCReference.nD Cert.GatherCReference.τ).loc Cert.GatherCReference.main_arg0) = m' (((0 : Dev Cert.GatherCReference.nD).tc : Thread Cert.GatherCReference.nD Cert.GatherCReference.τ).loc Cert.GatherCReference.main_arg0))

def preserves_AdamwAdaW_AdamwAdaWIdeal : Prop :=
  IdealRules.named_const.Statement Cert.AdamwAdaWIdeal.κ "unbias_m" .f32 0x3FC48605#32 ((8388608 / 5463681 : ℝ) : EReal)
  ∧ IdealRules.named_const.Statement Cert.AdamwAdaWIdeal.κ "unbias_v" .f32 0x42C8E6D3#32 ((268435456 / 2672307 : ℝ) : EReal)

def algebraic_AdamwAdaWIdeal_AdamwAdaWReferenceIdeal [hAdamwAdaWIdeal : Cert.AdamwAdaWIdeal.Facts] [hAdamwAdaWReferenceIdeal : Cert.AdamwAdaWReferenceIdeal.Facts] : Prop :=
  ∀ (m : (ℓ : Loc Cert.AdamwAdaWIdeal.nD Cert.AdamwAdaWIdeal.τ Cert.AdamwAdaWIdeal.sig) → Buf (Elt Ideal) ℓ) (g : Dev Cert.AdamwAdaWIdeal.nD → PrngReg)
    (m' : (ℓ : Loc Cert.AdamwAdaWReferenceIdeal.nD Cert.AdamwAdaWReferenceIdeal.τ Cert.AdamwAdaWReferenceIdeal.sig) → Buf (Elt Ideal) ℓ) (g' : Dev Cert.AdamwAdaWReferenceIdeal.nD → PrngReg), Pre_AdamwAdaWIdeal m →
    (∀ c : Dev Cert.AdamwAdaWIdeal.nD,
      m' ((c.tc : Thread Cert.AdamwAdaWReferenceIdeal.nD Cert.AdamwAdaWReferenceIdeal.τ).loc Cert.AdamwAdaWReferenceIdeal.main_arg0) = m ((c.tc : Thread Cert.AdamwAdaWIdeal.nD Cert.AdamwAdaWIdeal.τ).loc Cert.AdamwAdaWIdeal.main_arg0)
      ∧ m' ((c.tc : Thread Cert.AdamwAdaWReferenceIdeal.nD Cert.AdamwAdaWReferenceIdeal.τ).loc Cert.AdamwAdaWReferenceIdeal.main_arg1) = m ((c.tc : Thread Cert.AdamwAdaWIdeal.nD Cert.AdamwAdaWIdeal.τ).loc Cert.AdamwAdaWIdeal.main_arg1)
      ∧ m' ((c.tc : Thread Cert.AdamwAdaWReferenceIdeal.nD Cert.AdamwAdaWReferenceIdeal.τ).loc Cert.AdamwAdaWReferenceIdeal.main_arg2) = m ((c.tc : Thread Cert.AdamwAdaWIdeal.nD Cert.AdamwAdaWIdeal.τ).loc Cert.AdamwAdaWIdeal.main_arg2)
      ∧ m' ((c.tc : Thread Cert.AdamwAdaWReferenceIdeal.nD Cert.AdamwAdaWReferenceIdeal.τ).loc Cert.AdamwAdaWReferenceIdeal.main_arg3) = m ((c.tc : Thread Cert.AdamwAdaWIdeal.nD Cert.AdamwAdaWIdeal.τ).loc Cert.AdamwAdaWIdeal.main_arg3)) →
    ∃ (v0 : (c : Dev Cert.AdamwAdaWIdeal.nD) → Buf (Elt Ideal) ((c.tc : Thread Cert.AdamwAdaWIdeal.nD Cert.AdamwAdaWIdeal.τ).loc Cert.AdamwAdaWIdeal.main_v0_0)) (v1 : (c : Dev Cert.AdamwAdaWIdeal.nD) → Buf (Elt Ideal) ((c.tc : Thread Cert.AdamwAdaWIdeal.nD Cert.AdamwAdaWIdeal.τ).loc Cert.AdamwAdaWIdeal.main_v0_1)) (v2 : (c : Dev Cert.AdamwAdaWIdeal.nD) → Buf (Elt Ideal) ((c.tc : Thread Cert.AdamwAdaWIdeal.nD Cert.AdamwAdaWIdeal.τ).loc Cert.AdamwAdaWIdeal.main_v0_2)),
      θ_run (Cert.AdamwAdaWIdeal.defs (F := Ideal)) (onTc (τ := Cert.AdamwAdaWIdeal.τ) (Cert.AdamwAdaWIdeal.main (F := Ideal))) ⟨m, fun _ => 0, g⟩ (fun r => ∀ c : Dev Cert.AdamwAdaWIdeal.nD,
          r.2.mem ((c.tc : Thread Cert.AdamwAdaWIdeal.nD Cert.AdamwAdaWIdeal.τ).loc Cert.AdamwAdaWIdeal.main_v0_0) = v0 c
          ∧ r.2.mem ((c.tc : Thread Cert.AdamwAdaWIdeal.nD Cert.AdamwAdaWIdeal.τ).loc Cert.AdamwAdaWIdeal.main_v0_1) = v1 c
          ∧ r.2.mem ((c.tc : Thread Cert.AdamwAdaWIdeal.nD Cert.AdamwAdaWIdeal.τ).loc Cert.AdamwAdaWIdeal.main_v0_2) = v2 c
          ∧ r.2.mem ((c.tc : Thread Cert.AdamwAdaWIdeal.nD Cert.AdamwAdaWIdeal.τ).loc Cert.AdamwAdaWIdeal.main_arg0) = m ((c.tc : Thread Cert.AdamwAdaWIdeal.nD Cert.AdamwAdaWIdeal.τ).loc Cert.AdamwAdaWIdeal.main_arg0)
          ∧ r.2.mem ((c.tc : Thread Cert.AdamwAdaWIdeal.nD Cert.AdamwAdaWIdeal.τ).loc Cert.AdamwAdaWIdeal.main_arg1) = m ((c.tc : Thread Cert.AdamwAdaWIdeal.nD Cert.AdamwAdaWIdeal.τ).loc Cert.AdamwAdaWIdeal.main_arg1)
          ∧ r.2.mem ((c.tc : Thread Cert.AdamwAdaWIdeal.nD Cert.AdamwAdaWIdeal.τ).loc Cert.AdamwAdaWIdeal.main_arg2) = m ((c.tc : Thread Cert.AdamwAdaWIdeal.nD Cert.AdamwAdaWIdeal.τ).loc Cert.AdamwAdaWIdeal.main_arg2)
          ∧ r.2.mem ((c.tc : Thread Cert.AdamwAdaWIdeal.nD Cert.AdamwAdaWIdeal.τ).loc Cert.AdamwAdaWIdeal.main_arg3) = m ((c.tc : Thread Cert.AdamwAdaWIdeal.nD Cert.AdamwAdaWIdeal.τ).loc Cert.AdamwAdaWIdeal.main_arg3))
      ∧ θ_run (Cert.AdamwAdaWReferenceIdeal.defs (F := Ideal)) (onTc (τ := Cert.AdamwAdaWReferenceIdeal.τ) (Cert.AdamwAdaWReferenceIdeal.main (F := Ideal))) ⟨m', fun _ => 0, g'⟩ (fun r => ∀ c : Dev Cert.AdamwAdaWReferenceIdeal.nD,
          r.2.mem ((c.tc : Thread Cert.AdamwAdaWReferenceIdeal.nD Cert.AdamwAdaWReferenceIdeal.τ).loc Cert.AdamwAdaWReferenceIdeal.main_v23) = v0 c
          ∧ r.2.mem ((c.tc : Thread Cert.AdamwAdaWReferenceIdeal.nD Cert.AdamwAdaWReferenceIdeal.τ).loc Cert.AdamwAdaWReferenceIdeal.main_v4) = v1 c
          ∧ r.2.mem ((c.tc : Thread Cert.AdamwAdaWReferenceIdeal.nD Cert.AdamwAdaWReferenceIdeal.τ).loc Cert.AdamwAdaWReferenceIdeal.main_v10) = v2 c
          ∧ r.2.mem ((c.tc : Thread Cert.AdamwAdaWReferenceIdeal.nD Cert.AdamwAdaWReferenceIdeal.τ).loc Cert.AdamwAdaWReferenceIdeal.main_arg0) = m' ((c.tc : Thread Cert.AdamwAdaWReferenceIdeal.nD Cert.AdamwAdaWReferenceIdeal.τ).loc Cert.AdamwAdaWReferenceIdeal.main_arg0)
          ∧ r.2.mem ((c.tc : Thread Cert.AdamwAdaWReferenceIdeal.nD Cert.AdamwAdaWReferenceIdeal.τ).loc Cert.AdamwAdaWReferenceIdeal.main_arg1) = m' ((c.tc : Thread Cert.AdamwAdaWReferenceIdeal.nD Cert.AdamwAdaWReferenceIdeal.τ).loc Cert.AdamwAdaWReferenceIdeal.main_arg1)
          ∧ r.2.mem ((c.tc : Thread Cert.AdamwAdaWReferenceIdeal.nD Cert.AdamwAdaWReferenceIdeal.τ).loc Cert.AdamwAdaWReferenceIdeal.main_arg2) = m' ((c.tc : Thread Cert.AdamwAdaWReferenceIdeal.nD Cert.AdamwAdaWReferenceIdeal.τ).loc Cert.AdamwAdaWReferenceIdeal.main_arg2)
          ∧ r.2.mem ((c.tc : Thread Cert.AdamwAdaWReferenceIdeal.nD Cert.AdamwAdaWReferenceIdeal.τ).loc Cert.AdamwAdaWReferenceIdeal.main_arg3) = m' ((c.tc : Thread Cert.AdamwAdaWReferenceIdeal.nD Cert.AdamwAdaWReferenceIdeal.τ).loc Cert.AdamwAdaWReferenceIdeal.main_arg3))

def preserves_AdamwAdaB_AdamwAdaBIdeal : Prop :=
  IdealRules.named_const.Statement Cert.AdamwAdaBIdeal.κ "unbias_m" .f32 0x3FC48605#32 ((8388608 / 5463681 : ℝ) : EReal)
  ∧ IdealRules.named_const.Statement Cert.AdamwAdaBIdeal.κ "unbias_v" .f32 0x42C8E6D3#32 ((268435456 / 2672307 : ℝ) : EReal)

def algebraic_AdamwAdaBIdeal_AdamwAdaBReferenceIdeal [hAdamwAdaBIdeal : Cert.AdamwAdaBIdeal.Facts] [hAdamwAdaBReferenceIdeal : Cert.AdamwAdaBReferenceIdeal.Facts] : Prop :=
  ∀ (m : (ℓ : Loc Cert.AdamwAdaBIdeal.nD Cert.AdamwAdaBIdeal.τ Cert.AdamwAdaBIdeal.sig) → Buf (Elt Ideal) ℓ) (g : Dev Cert.AdamwAdaBIdeal.nD → PrngReg)
    (m' : (ℓ : Loc Cert.AdamwAdaBReferenceIdeal.nD Cert.AdamwAdaBReferenceIdeal.τ Cert.AdamwAdaBReferenceIdeal.sig) → Buf (Elt Ideal) ℓ) (g' : Dev Cert.AdamwAdaBReferenceIdeal.nD → PrngReg), Pre_AdamwAdaBIdeal m →
    (∀ c : Dev Cert.AdamwAdaBIdeal.nD,
      m' ((c.tc : Thread Cert.AdamwAdaBReferenceIdeal.nD Cert.AdamwAdaBReferenceIdeal.τ).loc Cert.AdamwAdaBReferenceIdeal.main_arg0) = m ((c.tc : Thread Cert.AdamwAdaBIdeal.nD Cert.AdamwAdaBIdeal.τ).loc Cert.AdamwAdaBIdeal.main_arg0)
      ∧ m' ((c.tc : Thread Cert.AdamwAdaBReferenceIdeal.nD Cert.AdamwAdaBReferenceIdeal.τ).loc Cert.AdamwAdaBReferenceIdeal.main_arg1) = m ((c.tc : Thread Cert.AdamwAdaBIdeal.nD Cert.AdamwAdaBIdeal.τ).loc Cert.AdamwAdaBIdeal.main_arg1)
      ∧ m' ((c.tc : Thread Cert.AdamwAdaBReferenceIdeal.nD Cert.AdamwAdaBReferenceIdeal.τ).loc Cert.AdamwAdaBReferenceIdeal.main_arg2) = m ((c.tc : Thread Cert.AdamwAdaBIdeal.nD Cert.AdamwAdaBIdeal.τ).loc Cert.AdamwAdaBIdeal.main_arg2)
      ∧ m' ((c.tc : Thread Cert.AdamwAdaBReferenceIdeal.nD Cert.AdamwAdaBReferenceIdeal.τ).loc Cert.AdamwAdaBReferenceIdeal.main_arg3) = m ((c.tc : Thread Cert.AdamwAdaBIdeal.nD Cert.AdamwAdaBIdeal.τ).loc Cert.AdamwAdaBIdeal.main_arg3)) →
    ∃ (v0 : (c : Dev Cert.AdamwAdaBIdeal.nD) → Buf (Elt Ideal) ((c.tc : Thread Cert.AdamwAdaBIdeal.nD Cert.AdamwAdaBIdeal.τ).loc Cert.AdamwAdaBIdeal.main_v0_0)) (v1 : (c : Dev Cert.AdamwAdaBIdeal.nD) → Buf (Elt Ideal) ((c.tc : Thread Cert.AdamwAdaBIdeal.nD Cert.AdamwAdaBIdeal.τ).loc Cert.AdamwAdaBIdeal.main_v0_1)) (v2 : (c : Dev Cert.AdamwAdaBIdeal.nD) → Buf (Elt Ideal) ((c.tc : Thread Cert.AdamwAdaBIdeal.nD Cert.AdamwAdaBIdeal.τ).loc Cert.AdamwAdaBIdeal.main_v0_2)),
      θ_run (Cert.AdamwAdaBIdeal.defs (F := Ideal)) (onTc (τ := Cert.AdamwAdaBIdeal.τ) (Cert.AdamwAdaBIdeal.main (F := Ideal))) ⟨m, fun _ => 0, g⟩ (fun r => ∀ c : Dev Cert.AdamwAdaBIdeal.nD,
          r.2.mem ((c.tc : Thread Cert.AdamwAdaBIdeal.nD Cert.AdamwAdaBIdeal.τ).loc Cert.AdamwAdaBIdeal.main_v0_0) = v0 c
          ∧ r.2.mem ((c.tc : Thread Cert.AdamwAdaBIdeal.nD Cert.AdamwAdaBIdeal.τ).loc Cert.AdamwAdaBIdeal.main_v0_1) = v1 c
          ∧ r.2.mem ((c.tc : Thread Cert.AdamwAdaBIdeal.nD Cert.AdamwAdaBIdeal.τ).loc Cert.AdamwAdaBIdeal.main_v0_2) = v2 c
          ∧ r.2.mem ((c.tc : Thread Cert.AdamwAdaBIdeal.nD Cert.AdamwAdaBIdeal.τ).loc Cert.AdamwAdaBIdeal.main_arg0) = m ((c.tc : Thread Cert.AdamwAdaBIdeal.nD Cert.AdamwAdaBIdeal.τ).loc Cert.AdamwAdaBIdeal.main_arg0)
          ∧ r.2.mem ((c.tc : Thread Cert.AdamwAdaBIdeal.nD Cert.AdamwAdaBIdeal.τ).loc Cert.AdamwAdaBIdeal.main_arg1) = m ((c.tc : Thread Cert.AdamwAdaBIdeal.nD Cert.AdamwAdaBIdeal.τ).loc Cert.AdamwAdaBIdeal.main_arg1)
          ∧ r.2.mem ((c.tc : Thread Cert.AdamwAdaBIdeal.nD Cert.AdamwAdaBIdeal.τ).loc Cert.AdamwAdaBIdeal.main_arg2) = m ((c.tc : Thread Cert.AdamwAdaBIdeal.nD Cert.AdamwAdaBIdeal.τ).loc Cert.AdamwAdaBIdeal.main_arg2)
          ∧ r.2.mem ((c.tc : Thread Cert.AdamwAdaBIdeal.nD Cert.AdamwAdaBIdeal.τ).loc Cert.AdamwAdaBIdeal.main_arg3) = m ((c.tc : Thread Cert.AdamwAdaBIdeal.nD Cert.AdamwAdaBIdeal.τ).loc Cert.AdamwAdaBIdeal.main_arg3))
      ∧ θ_run (Cert.AdamwAdaBReferenceIdeal.defs (F := Ideal)) (onTc (τ := Cert.AdamwAdaBReferenceIdeal.τ) (Cert.AdamwAdaBReferenceIdeal.main (F := Ideal))) ⟨m', fun _ => 0, g'⟩ (fun r => ∀ c : Dev Cert.AdamwAdaBReferenceIdeal.nD,
          r.2.mem ((c.tc : Thread Cert.AdamwAdaBReferenceIdeal.nD Cert.AdamwAdaBReferenceIdeal.τ).loc Cert.AdamwAdaBReferenceIdeal.main_v23) = v0 c
          ∧ r.2.mem ((c.tc : Thread Cert.AdamwAdaBReferenceIdeal.nD Cert.AdamwAdaBReferenceIdeal.τ).loc Cert.AdamwAdaBReferenceIdeal.main_v4) = v1 c
          ∧ r.2.mem ((c.tc : Thread Cert.AdamwAdaBReferenceIdeal.nD Cert.AdamwAdaBReferenceIdeal.τ).loc Cert.AdamwAdaBReferenceIdeal.main_v10) = v2 c
          ∧ r.2.mem ((c.tc : Thread Cert.AdamwAdaBReferenceIdeal.nD Cert.AdamwAdaBReferenceIdeal.τ).loc Cert.AdamwAdaBReferenceIdeal.main_arg0) = m' ((c.tc : Thread Cert.AdamwAdaBReferenceIdeal.nD Cert.AdamwAdaBReferenceIdeal.τ).loc Cert.AdamwAdaBReferenceIdeal.main_arg0)
          ∧ r.2.mem ((c.tc : Thread Cert.AdamwAdaBReferenceIdeal.nD Cert.AdamwAdaBReferenceIdeal.τ).loc Cert.AdamwAdaBReferenceIdeal.main_arg1) = m' ((c.tc : Thread Cert.AdamwAdaBReferenceIdeal.nD Cert.AdamwAdaBReferenceIdeal.τ).loc Cert.AdamwAdaBReferenceIdeal.main_arg1)
          ∧ r.2.mem ((c.tc : Thread Cert.AdamwAdaBReferenceIdeal.nD Cert.AdamwAdaBReferenceIdeal.τ).loc Cert.AdamwAdaBReferenceIdeal.main_arg2) = m' ((c.tc : Thread Cert.AdamwAdaBReferenceIdeal.nD Cert.AdamwAdaBReferenceIdeal.τ).loc Cert.AdamwAdaBReferenceIdeal.main_arg2)
          ∧ r.2.mem ((c.tc : Thread Cert.AdamwAdaBReferenceIdeal.nD Cert.AdamwAdaBReferenceIdeal.τ).loc Cert.AdamwAdaBReferenceIdeal.main_arg3) = m' ((c.tc : Thread Cert.AdamwAdaBReferenceIdeal.nD Cert.AdamwAdaBReferenceIdeal.τ).loc Cert.AdamwAdaBReferenceIdeal.main_arg3))

def preserves_AdamwLnG_AdamwLnGIdeal : Prop :=
  IdealRules.named_const.Statement Cert.AdamwLnGIdeal.κ "unbias_m" .f32 0x3FC48605#32 ((8388608 / 5463681 : ℝ) : EReal)
  ∧ IdealRules.named_const.Statement Cert.AdamwLnGIdeal.κ "unbias_v" .f32 0x42C8E6D3#32 ((268435456 / 2672307 : ℝ) : EReal)

def algebraic_AdamwLnGIdeal_AdamwLnGReferenceIdeal [hAdamwLnGIdeal : Cert.AdamwLnGIdeal.Facts] [hAdamwLnGReferenceIdeal : Cert.AdamwLnGReferenceIdeal.Facts] : Prop :=
  ∀ (m : (ℓ : Loc Cert.AdamwLnGIdeal.nD Cert.AdamwLnGIdeal.τ Cert.AdamwLnGIdeal.sig) → Buf (Elt Ideal) ℓ) (g : Dev Cert.AdamwLnGIdeal.nD → PrngReg)
    (m' : (ℓ : Loc Cert.AdamwLnGReferenceIdeal.nD Cert.AdamwLnGReferenceIdeal.τ Cert.AdamwLnGReferenceIdeal.sig) → Buf (Elt Ideal) ℓ) (g' : Dev Cert.AdamwLnGReferenceIdeal.nD → PrngReg), Pre_AdamwLnGIdeal m →
    (∀ c : Dev Cert.AdamwLnGIdeal.nD,
      m' ((c.tc : Thread Cert.AdamwLnGReferenceIdeal.nD Cert.AdamwLnGReferenceIdeal.τ).loc Cert.AdamwLnGReferenceIdeal.main_arg0) = m ((c.tc : Thread Cert.AdamwLnGIdeal.nD Cert.AdamwLnGIdeal.τ).loc Cert.AdamwLnGIdeal.main_arg0)
      ∧ m' ((c.tc : Thread Cert.AdamwLnGReferenceIdeal.nD Cert.AdamwLnGReferenceIdeal.τ).loc Cert.AdamwLnGReferenceIdeal.main_arg1) = m ((c.tc : Thread Cert.AdamwLnGIdeal.nD Cert.AdamwLnGIdeal.τ).loc Cert.AdamwLnGIdeal.main_arg1)
      ∧ m' ((c.tc : Thread Cert.AdamwLnGReferenceIdeal.nD Cert.AdamwLnGReferenceIdeal.τ).loc Cert.AdamwLnGReferenceIdeal.main_arg2) = m ((c.tc : Thread Cert.AdamwLnGIdeal.nD Cert.AdamwLnGIdeal.τ).loc Cert.AdamwLnGIdeal.main_arg2)
      ∧ m' ((c.tc : Thread Cert.AdamwLnGReferenceIdeal.nD Cert.AdamwLnGReferenceIdeal.τ).loc Cert.AdamwLnGReferenceIdeal.main_arg3) = m ((c.tc : Thread Cert.AdamwLnGIdeal.nD Cert.AdamwLnGIdeal.τ).loc Cert.AdamwLnGIdeal.main_arg3)) →
    ∃ (v0 : (c : Dev Cert.AdamwLnGIdeal.nD) → Buf (Elt Ideal) ((c.tc : Thread Cert.AdamwLnGIdeal.nD Cert.AdamwLnGIdeal.τ).loc Cert.AdamwLnGIdeal.main_v0_0)) (v1 : (c : Dev Cert.AdamwLnGIdeal.nD) → Buf (Elt Ideal) ((c.tc : Thread Cert.AdamwLnGIdeal.nD Cert.AdamwLnGIdeal.τ).loc Cert.AdamwLnGIdeal.main_v0_1)) (v2 : (c : Dev Cert.AdamwLnGIdeal.nD) → Buf (Elt Ideal) ((c.tc : Thread Cert.AdamwLnGIdeal.nD Cert.AdamwLnGIdeal.τ).loc Cert.AdamwLnGIdeal.main_v0_2)),
      θ_run (Cert.AdamwLnGIdeal.defs (F := Ideal)) (onTc (τ := Cert.AdamwLnGIdeal.τ) (Cert.AdamwLnGIdeal.main (F := Ideal))) ⟨m, fun _ => 0, g⟩ (fun r => ∀ c : Dev Cert.AdamwLnGIdeal.nD,
          r.2.mem ((c.tc : Thread Cert.AdamwLnGIdeal.nD Cert.AdamwLnGIdeal.τ).loc Cert.AdamwLnGIdeal.main_v0_0) = v0 c
          ∧ r.2.mem ((c.tc : Thread Cert.AdamwLnGIdeal.nD Cert.AdamwLnGIdeal.τ).loc Cert.AdamwLnGIdeal.main_v0_1) = v1 c
          ∧ r.2.mem ((c.tc : Thread Cert.AdamwLnGIdeal.nD Cert.AdamwLnGIdeal.τ).loc Cert.AdamwLnGIdeal.main_v0_2) = v2 c
          ∧ r.2.mem ((c.tc : Thread Cert.AdamwLnGIdeal.nD Cert.AdamwLnGIdeal.τ).loc Cert.AdamwLnGIdeal.main_arg0) = m ((c.tc : Thread Cert.AdamwLnGIdeal.nD Cert.AdamwLnGIdeal.τ).loc Cert.AdamwLnGIdeal.main_arg0)
          ∧ r.2.mem ((c.tc : Thread Cert.AdamwLnGIdeal.nD Cert.AdamwLnGIdeal.τ).loc Cert.AdamwLnGIdeal.main_arg1) = m ((c.tc : Thread Cert.AdamwLnGIdeal.nD Cert.AdamwLnGIdeal.τ).loc Cert.AdamwLnGIdeal.main_arg1)
          ∧ r.2.mem ((c.tc : Thread Cert.AdamwLnGIdeal.nD Cert.AdamwLnGIdeal.τ).loc Cert.AdamwLnGIdeal.main_arg2) = m ((c.tc : Thread Cert.AdamwLnGIdeal.nD Cert.AdamwLnGIdeal.τ).loc Cert.AdamwLnGIdeal.main_arg2)
          ∧ r.2.mem ((c.tc : Thread Cert.AdamwLnGIdeal.nD Cert.AdamwLnGIdeal.τ).loc Cert.AdamwLnGIdeal.main_arg3) = m ((c.tc : Thread Cert.AdamwLnGIdeal.nD Cert.AdamwLnGIdeal.τ).loc Cert.AdamwLnGIdeal.main_arg3))
      ∧ θ_run (Cert.AdamwLnGReferenceIdeal.defs (F := Ideal)) (onTc (τ := Cert.AdamwLnGReferenceIdeal.τ) (Cert.AdamwLnGReferenceIdeal.main (F := Ideal))) ⟨m', fun _ => 0, g'⟩ (fun r => ∀ c : Dev Cert.AdamwLnGReferenceIdeal.nD,
          r.2.mem ((c.tc : Thread Cert.AdamwLnGReferenceIdeal.nD Cert.AdamwLnGReferenceIdeal.τ).loc Cert.AdamwLnGReferenceIdeal.main_v23) = v0 c
          ∧ r.2.mem ((c.tc : Thread Cert.AdamwLnGReferenceIdeal.nD Cert.AdamwLnGReferenceIdeal.τ).loc Cert.AdamwLnGReferenceIdeal.main_v4) = v1 c
          ∧ r.2.mem ((c.tc : Thread Cert.AdamwLnGReferenceIdeal.nD Cert.AdamwLnGReferenceIdeal.τ).loc Cert.AdamwLnGReferenceIdeal.main_v10) = v2 c
          ∧ r.2.mem ((c.tc : Thread Cert.AdamwLnGReferenceIdeal.nD Cert.AdamwLnGReferenceIdeal.τ).loc Cert.AdamwLnGReferenceIdeal.main_arg0) = m' ((c.tc : Thread Cert.AdamwLnGReferenceIdeal.nD Cert.AdamwLnGReferenceIdeal.τ).loc Cert.AdamwLnGReferenceIdeal.main_arg0)
          ∧ r.2.mem ((c.tc : Thread Cert.AdamwLnGReferenceIdeal.nD Cert.AdamwLnGReferenceIdeal.τ).loc Cert.AdamwLnGReferenceIdeal.main_arg1) = m' ((c.tc : Thread Cert.AdamwLnGReferenceIdeal.nD Cert.AdamwLnGReferenceIdeal.τ).loc Cert.AdamwLnGReferenceIdeal.main_arg1)
          ∧ r.2.mem ((c.tc : Thread Cert.AdamwLnGReferenceIdeal.nD Cert.AdamwLnGReferenceIdeal.τ).loc Cert.AdamwLnGReferenceIdeal.main_arg2) = m' ((c.tc : Thread Cert.AdamwLnGReferenceIdeal.nD Cert.AdamwLnGReferenceIdeal.τ).loc Cert.AdamwLnGReferenceIdeal.main_arg2)
          ∧ r.2.mem ((c.tc : Thread Cert.AdamwLnGReferenceIdeal.nD Cert.AdamwLnGReferenceIdeal.τ).loc Cert.AdamwLnGReferenceIdeal.main_arg3) = m' ((c.tc : Thread Cert.AdamwLnGReferenceIdeal.nD Cert.AdamwLnGReferenceIdeal.τ).loc Cert.AdamwLnGReferenceIdeal.main_arg3))

def preserves_AdamwAbWIn_AdamwAbWInIdeal : Prop :=
  IdealRules.named_const.Statement Cert.AdamwAbWInIdeal.κ "unbias_m" .f32 0x3FC48605#32 ((8388608 / 5463681 : ℝ) : EReal)
  ∧ IdealRules.named_const.Statement Cert.AdamwAbWInIdeal.κ "unbias_v" .f32 0x42C8E6D3#32 ((268435456 / 2672307 : ℝ) : EReal)

def algebraic_AdamwAbWInIdeal_AdamwAbWInReferenceIdeal [hAdamwAbWInIdeal : Cert.AdamwAbWInIdeal.Facts] [hAdamwAbWInReferenceIdeal : Cert.AdamwAbWInReferenceIdeal.Facts] : Prop :=
  ∀ (m : (ℓ : Loc Cert.AdamwAbWInIdeal.nD Cert.AdamwAbWInIdeal.τ Cert.AdamwAbWInIdeal.sig) → Buf (Elt Ideal) ℓ) (g : Dev Cert.AdamwAbWInIdeal.nD → PrngReg)
    (m' : (ℓ : Loc Cert.AdamwAbWInReferenceIdeal.nD Cert.AdamwAbWInReferenceIdeal.τ Cert.AdamwAbWInReferenceIdeal.sig) → Buf (Elt Ideal) ℓ) (g' : Dev Cert.AdamwAbWInReferenceIdeal.nD → PrngReg), Pre_AdamwAbWInIdeal m →
    (∀ c : Dev Cert.AdamwAbWInIdeal.nD,
      m' ((c.tc : Thread Cert.AdamwAbWInReferenceIdeal.nD Cert.AdamwAbWInReferenceIdeal.τ).loc Cert.AdamwAbWInReferenceIdeal.main_arg0) = m ((c.tc : Thread Cert.AdamwAbWInIdeal.nD Cert.AdamwAbWInIdeal.τ).loc Cert.AdamwAbWInIdeal.main_arg0)
      ∧ m' ((c.tc : Thread Cert.AdamwAbWInReferenceIdeal.nD Cert.AdamwAbWInReferenceIdeal.τ).loc Cert.AdamwAbWInReferenceIdeal.main_arg1) = m ((c.tc : Thread Cert.AdamwAbWInIdeal.nD Cert.AdamwAbWInIdeal.τ).loc Cert.AdamwAbWInIdeal.main_arg1)
      ∧ m' ((c.tc : Thread Cert.AdamwAbWInReferenceIdeal.nD Cert.AdamwAbWInReferenceIdeal.τ).loc Cert.AdamwAbWInReferenceIdeal.main_arg2) = m ((c.tc : Thread Cert.AdamwAbWInIdeal.nD Cert.AdamwAbWInIdeal.τ).loc Cert.AdamwAbWInIdeal.main_arg2)
      ∧ m' ((c.tc : Thread Cert.AdamwAbWInReferenceIdeal.nD Cert.AdamwAbWInReferenceIdeal.τ).loc Cert.AdamwAbWInReferenceIdeal.main_arg3) = m ((c.tc : Thread Cert.AdamwAbWInIdeal.nD Cert.AdamwAbWInIdeal.τ).loc Cert.AdamwAbWInIdeal.main_arg3)) →
    ∃ (v0 : (c : Dev Cert.AdamwAbWInIdeal.nD) → Buf (Elt Ideal) ((c.tc : Thread Cert.AdamwAbWInIdeal.nD Cert.AdamwAbWInIdeal.τ).loc Cert.AdamwAbWInIdeal.main_v0_0)) (v1 : (c : Dev Cert.AdamwAbWInIdeal.nD) → Buf (Elt Ideal) ((c.tc : Thread Cert.AdamwAbWInIdeal.nD Cert.AdamwAbWInIdeal.τ).loc Cert.AdamwAbWInIdeal.main_v0_1)) (v2 : (c : Dev Cert.AdamwAbWInIdeal.nD) → Buf (Elt Ideal) ((c.tc : Thread Cert.AdamwAbWInIdeal.nD Cert.AdamwAbWInIdeal.τ).loc Cert.AdamwAbWInIdeal.main_v0_2)),
      θ_run (Cert.AdamwAbWInIdeal.defs (F := Ideal)) (onTc (τ := Cert.AdamwAbWInIdeal.τ) (Cert.AdamwAbWInIdeal.main (F := Ideal))) ⟨m, fun _ => 0, g⟩ (fun r => ∀ c : Dev Cert.AdamwAbWInIdeal.nD,
          r.2.mem ((c.tc : Thread Cert.AdamwAbWInIdeal.nD Cert.AdamwAbWInIdeal.τ).loc Cert.AdamwAbWInIdeal.main_v0_0) = v0 c
          ∧ r.2.mem ((c.tc : Thread Cert.AdamwAbWInIdeal.nD Cert.AdamwAbWInIdeal.τ).loc Cert.AdamwAbWInIdeal.main_v0_1) = v1 c
          ∧ r.2.mem ((c.tc : Thread Cert.AdamwAbWInIdeal.nD Cert.AdamwAbWInIdeal.τ).loc Cert.AdamwAbWInIdeal.main_v0_2) = v2 c
          ∧ r.2.mem ((c.tc : Thread Cert.AdamwAbWInIdeal.nD Cert.AdamwAbWInIdeal.τ).loc Cert.AdamwAbWInIdeal.main_arg0) = m ((c.tc : Thread Cert.AdamwAbWInIdeal.nD Cert.AdamwAbWInIdeal.τ).loc Cert.AdamwAbWInIdeal.main_arg0)
          ∧ r.2.mem ((c.tc : Thread Cert.AdamwAbWInIdeal.nD Cert.AdamwAbWInIdeal.τ).loc Cert.AdamwAbWInIdeal.main_arg1) = m ((c.tc : Thread Cert.AdamwAbWInIdeal.nD Cert.AdamwAbWInIdeal.τ).loc Cert.AdamwAbWInIdeal.main_arg1)
          ∧ r.2.mem ((c.tc : Thread Cert.AdamwAbWInIdeal.nD Cert.AdamwAbWInIdeal.τ).loc Cert.AdamwAbWInIdeal.main_arg2) = m ((c.tc : Thread Cert.AdamwAbWInIdeal.nD Cert.AdamwAbWInIdeal.τ).loc Cert.AdamwAbWInIdeal.main_arg2)
          ∧ r.2.mem ((c.tc : Thread Cert.AdamwAbWInIdeal.nD Cert.AdamwAbWInIdeal.τ).loc Cert.AdamwAbWInIdeal.main_arg3) = m ((c.tc : Thread Cert.AdamwAbWInIdeal.nD Cert.AdamwAbWInIdeal.τ).loc Cert.AdamwAbWInIdeal.main_arg3))
      ∧ θ_run (Cert.AdamwAbWInReferenceIdeal.defs (F := Ideal)) (onTc (τ := Cert.AdamwAbWInReferenceIdeal.τ) (Cert.AdamwAbWInReferenceIdeal.main (F := Ideal))) ⟨m', fun _ => 0, g'⟩ (fun r => ∀ c : Dev Cert.AdamwAbWInReferenceIdeal.nD,
          r.2.mem ((c.tc : Thread Cert.AdamwAbWInReferenceIdeal.nD Cert.AdamwAbWInReferenceIdeal.τ).loc Cert.AdamwAbWInReferenceIdeal.main_v23) = v0 c
          ∧ r.2.mem ((c.tc : Thread Cert.AdamwAbWInReferenceIdeal.nD Cert.AdamwAbWInReferenceIdeal.τ).loc Cert.AdamwAbWInReferenceIdeal.main_v4) = v1 c
          ∧ r.2.mem ((c.tc : Thread Cert.AdamwAbWInReferenceIdeal.nD Cert.AdamwAbWInReferenceIdeal.τ).loc Cert.AdamwAbWInReferenceIdeal.main_v10) = v2 c
          ∧ r.2.mem ((c.tc : Thread Cert.AdamwAbWInReferenceIdeal.nD Cert.AdamwAbWInReferenceIdeal.τ).loc Cert.AdamwAbWInReferenceIdeal.main_arg0) = m' ((c.tc : Thread Cert.AdamwAbWInReferenceIdeal.nD Cert.AdamwAbWInReferenceIdeal.τ).loc Cert.AdamwAbWInReferenceIdeal.main_arg0)
          ∧ r.2.mem ((c.tc : Thread Cert.AdamwAbWInReferenceIdeal.nD Cert.AdamwAbWInReferenceIdeal.τ).loc Cert.AdamwAbWInReferenceIdeal.main_arg1) = m' ((c.tc : Thread Cert.AdamwAbWInReferenceIdeal.nD Cert.AdamwAbWInReferenceIdeal.τ).loc Cert.AdamwAbWInReferenceIdeal.main_arg1)
          ∧ r.2.mem ((c.tc : Thread Cert.AdamwAbWInReferenceIdeal.nD Cert.AdamwAbWInReferenceIdeal.τ).loc Cert.AdamwAbWInReferenceIdeal.main_arg2) = m' ((c.tc : Thread Cert.AdamwAbWInReferenceIdeal.nD Cert.AdamwAbWInReferenceIdeal.τ).loc Cert.AdamwAbWInReferenceIdeal.main_arg2)
          ∧ r.2.mem ((c.tc : Thread Cert.AdamwAbWInReferenceIdeal.nD Cert.AdamwAbWInReferenceIdeal.τ).loc Cert.AdamwAbWInReferenceIdeal.main_arg3) = m' ((c.tc : Thread Cert.AdamwAbWInReferenceIdeal.nD Cert.AdamwAbWInReferenceIdeal.τ).loc Cert.AdamwAbWInReferenceIdeal.main_arg3))

def preserves_AdamwRwMu_AdamwRwMuIdeal : Prop :=
  IdealRules.named_const.Statement Cert.AdamwRwMuIdeal.κ "unbias_m" .f32 0x3FC48605#32 ((8388608 / 5463681 : ℝ) : EReal)
  ∧ IdealRules.named_const.Statement Cert.AdamwRwMuIdeal.κ "unbias_v" .f32 0x42C8E6D3#32 ((268435456 / 2672307 : ℝ) : EReal)

def algebraic_AdamwRwMuIdeal_AdamwRwMuReferenceIdeal [hAdamwRwMuIdeal : Cert.AdamwRwMuIdeal.Facts] [hAdamwRwMuReferenceIdeal : Cert.AdamwRwMuReferenceIdeal.Facts] : Prop :=
  ∀ (m : (ℓ : Loc Cert.AdamwRwMuIdeal.nD Cert.AdamwRwMuIdeal.τ Cert.AdamwRwMuIdeal.sig) → Buf (Elt Ideal) ℓ) (g : Dev Cert.AdamwRwMuIdeal.nD → PrngReg)
    (m' : (ℓ : Loc Cert.AdamwRwMuReferenceIdeal.nD Cert.AdamwRwMuReferenceIdeal.τ Cert.AdamwRwMuReferenceIdeal.sig) → Buf (Elt Ideal) ℓ) (g' : Dev Cert.AdamwRwMuReferenceIdeal.nD → PrngReg), Pre_AdamwRwMuIdeal m →
    (∀ c : Dev Cert.AdamwRwMuIdeal.nD,
      m' ((c.tc : Thread Cert.AdamwRwMuReferenceIdeal.nD Cert.AdamwRwMuReferenceIdeal.τ).loc Cert.AdamwRwMuReferenceIdeal.main_arg0) = m ((c.tc : Thread Cert.AdamwRwMuIdeal.nD Cert.AdamwRwMuIdeal.τ).loc Cert.AdamwRwMuIdeal.main_arg0)
      ∧ m' ((c.tc : Thread Cert.AdamwRwMuReferenceIdeal.nD Cert.AdamwRwMuReferenceIdeal.τ).loc Cert.AdamwRwMuReferenceIdeal.main_arg1) = m ((c.tc : Thread Cert.AdamwRwMuIdeal.nD Cert.AdamwRwMuIdeal.τ).loc Cert.AdamwRwMuIdeal.main_arg1)
      ∧ m' ((c.tc : Thread Cert.AdamwRwMuReferenceIdeal.nD Cert.AdamwRwMuReferenceIdeal.τ).loc Cert.AdamwRwMuReferenceIdeal.main_arg2) = m ((c.tc : Thread Cert.AdamwRwMuIdeal.nD Cert.AdamwRwMuIdeal.τ).loc Cert.AdamwRwMuIdeal.main_arg2)
      ∧ m' ((c.tc : Thread Cert.AdamwRwMuReferenceIdeal.nD Cert.AdamwRwMuReferenceIdeal.τ).loc Cert.AdamwRwMuReferenceIdeal.main_arg3) = m ((c.tc : Thread Cert.AdamwRwMuIdeal.nD Cert.AdamwRwMuIdeal.τ).loc Cert.AdamwRwMuIdeal.main_arg3)) →
    ∃ (v0 : (c : Dev Cert.AdamwRwMuIdeal.nD) → Buf (Elt Ideal) ((c.tc : Thread Cert.AdamwRwMuIdeal.nD Cert.AdamwRwMuIdeal.τ).loc Cert.AdamwRwMuIdeal.main_v0_0)) (v1 : (c : Dev Cert.AdamwRwMuIdeal.nD) → Buf (Elt Ideal) ((c.tc : Thread Cert.AdamwRwMuIdeal.nD Cert.AdamwRwMuIdeal.τ).loc Cert.AdamwRwMuIdeal.main_v0_1)) (v2 : (c : Dev Cert.AdamwRwMuIdeal.nD) → Buf (Elt Ideal) ((c.tc : Thread Cert.AdamwRwMuIdeal.nD Cert.AdamwRwMuIdeal.τ).loc Cert.AdamwRwMuIdeal.main_v0_2)),
      θ_run (Cert.AdamwRwMuIdeal.defs (F := Ideal)) (onTc (τ := Cert.AdamwRwMuIdeal.τ) (Cert.AdamwRwMuIdeal.main (F := Ideal))) ⟨m, fun _ => 0, g⟩ (fun r => ∀ c : Dev Cert.AdamwRwMuIdeal.nD,
          r.2.mem ((c.tc : Thread Cert.AdamwRwMuIdeal.nD Cert.AdamwRwMuIdeal.τ).loc Cert.AdamwRwMuIdeal.main_v0_0) = v0 c
          ∧ r.2.mem ((c.tc : Thread Cert.AdamwRwMuIdeal.nD Cert.AdamwRwMuIdeal.τ).loc Cert.AdamwRwMuIdeal.main_v0_1) = v1 c
          ∧ r.2.mem ((c.tc : Thread Cert.AdamwRwMuIdeal.nD Cert.AdamwRwMuIdeal.τ).loc Cert.AdamwRwMuIdeal.main_v0_2) = v2 c
          ∧ r.2.mem ((c.tc : Thread Cert.AdamwRwMuIdeal.nD Cert.AdamwRwMuIdeal.τ).loc Cert.AdamwRwMuIdeal.main_arg0) = m ((c.tc : Thread Cert.AdamwRwMuIdeal.nD Cert.AdamwRwMuIdeal.τ).loc Cert.AdamwRwMuIdeal.main_arg0)
          ∧ r.2.mem ((c.tc : Thread Cert.AdamwRwMuIdeal.nD Cert.AdamwRwMuIdeal.τ).loc Cert.AdamwRwMuIdeal.main_arg1) = m ((c.tc : Thread Cert.AdamwRwMuIdeal.nD Cert.AdamwRwMuIdeal.τ).loc Cert.AdamwRwMuIdeal.main_arg1)
          ∧ r.2.mem ((c.tc : Thread Cert.AdamwRwMuIdeal.nD Cert.AdamwRwMuIdeal.τ).loc Cert.AdamwRwMuIdeal.main_arg2) = m ((c.tc : Thread Cert.AdamwRwMuIdeal.nD Cert.AdamwRwMuIdeal.τ).loc Cert.AdamwRwMuIdeal.main_arg2)
          ∧ r.2.mem ((c.tc : Thread Cert.AdamwRwMuIdeal.nD Cert.AdamwRwMuIdeal.τ).loc Cert.AdamwRwMuIdeal.main_arg3) = m ((c.tc : Thread Cert.AdamwRwMuIdeal.nD Cert.AdamwRwMuIdeal.τ).loc Cert.AdamwRwMuIdeal.main_arg3))
      ∧ θ_run (Cert.AdamwRwMuReferenceIdeal.defs (F := Ideal)) (onTc (τ := Cert.AdamwRwMuReferenceIdeal.τ) (Cert.AdamwRwMuReferenceIdeal.main (F := Ideal))) ⟨m', fun _ => 0, g'⟩ (fun r => ∀ c : Dev Cert.AdamwRwMuReferenceIdeal.nD,
          r.2.mem ((c.tc : Thread Cert.AdamwRwMuReferenceIdeal.nD Cert.AdamwRwMuReferenceIdeal.τ).loc Cert.AdamwRwMuReferenceIdeal.main_v23) = v0 c
          ∧ r.2.mem ((c.tc : Thread Cert.AdamwRwMuReferenceIdeal.nD Cert.AdamwRwMuReferenceIdeal.τ).loc Cert.AdamwRwMuReferenceIdeal.main_v4) = v1 c
          ∧ r.2.mem ((c.tc : Thread Cert.AdamwRwMuReferenceIdeal.nD Cert.AdamwRwMuReferenceIdeal.τ).loc Cert.AdamwRwMuReferenceIdeal.main_v10) = v2 c
          ∧ r.2.mem ((c.tc : Thread Cert.AdamwRwMuReferenceIdeal.nD Cert.AdamwRwMuReferenceIdeal.τ).loc Cert.AdamwRwMuReferenceIdeal.main_arg0) = m' ((c.tc : Thread Cert.AdamwRwMuReferenceIdeal.nD Cert.AdamwRwMuReferenceIdeal.τ).loc Cert.AdamwRwMuReferenceIdeal.main_arg0)
          ∧ r.2.mem ((c.tc : Thread Cert.AdamwRwMuReferenceIdeal.nD Cert.AdamwRwMuReferenceIdeal.τ).loc Cert.AdamwRwMuReferenceIdeal.main_arg1) = m' ((c.tc : Thread Cert.AdamwRwMuReferenceIdeal.nD Cert.AdamwRwMuReferenceIdeal.τ).loc Cert.AdamwRwMuReferenceIdeal.main_arg1)
          ∧ r.2.mem ((c.tc : Thread Cert.AdamwRwMuReferenceIdeal.nD Cert.AdamwRwMuReferenceIdeal.τ).loc Cert.AdamwRwMuReferenceIdeal.main_arg2) = m' ((c.tc : Thread Cert.AdamwRwMuReferenceIdeal.nD Cert.AdamwRwMuReferenceIdeal.τ).loc Cert.AdamwRwMuReferenceIdeal.main_arg2)
          ∧ r.2.mem ((c.tc : Thread Cert.AdamwRwMuReferenceIdeal.nD Cert.AdamwRwMuReferenceIdeal.τ).loc Cert.AdamwRwMuReferenceIdeal.main_arg3) = m' ((c.tc : Thread Cert.AdamwRwMuReferenceIdeal.nD Cert.AdamwRwMuReferenceIdeal.τ).loc Cert.AdamwRwMuReferenceIdeal.main_arg3))

def preserves_AdamwRwW0_AdamwRwW0Ideal : Prop :=
  IdealRules.named_const.Statement Cert.AdamwRwW0Ideal.κ "unbias_m" .f32 0x3FC48605#32 ((8388608 / 5463681 : ℝ) : EReal)
  ∧ IdealRules.named_const.Statement Cert.AdamwRwW0Ideal.κ "unbias_v" .f32 0x42C8E6D3#32 ((268435456 / 2672307 : ℝ) : EReal)

def algebraic_AdamwRwW0Ideal_AdamwRwW0ReferenceIdeal [hAdamwRwW0Ideal : Cert.AdamwRwW0Ideal.Facts] [hAdamwRwW0ReferenceIdeal : Cert.AdamwRwW0ReferenceIdeal.Facts] : Prop :=
  ∀ (m : (ℓ : Loc Cert.AdamwRwW0Ideal.nD Cert.AdamwRwW0Ideal.τ Cert.AdamwRwW0Ideal.sig) → Buf (Elt Ideal) ℓ) (g : Dev Cert.AdamwRwW0Ideal.nD → PrngReg)
    (m' : (ℓ : Loc Cert.AdamwRwW0ReferenceIdeal.nD Cert.AdamwRwW0ReferenceIdeal.τ Cert.AdamwRwW0ReferenceIdeal.sig) → Buf (Elt Ideal) ℓ) (g' : Dev Cert.AdamwRwW0ReferenceIdeal.nD → PrngReg), Pre_AdamwRwW0Ideal m →
    (∀ c : Dev Cert.AdamwRwW0Ideal.nD,
      m' ((c.tc : Thread Cert.AdamwRwW0ReferenceIdeal.nD Cert.AdamwRwW0ReferenceIdeal.τ).loc Cert.AdamwRwW0ReferenceIdeal.main_arg0) = m ((c.tc : Thread Cert.AdamwRwW0Ideal.nD Cert.AdamwRwW0Ideal.τ).loc Cert.AdamwRwW0Ideal.main_arg0)
      ∧ m' ((c.tc : Thread Cert.AdamwRwW0ReferenceIdeal.nD Cert.AdamwRwW0ReferenceIdeal.τ).loc Cert.AdamwRwW0ReferenceIdeal.main_arg1) = m ((c.tc : Thread Cert.AdamwRwW0Ideal.nD Cert.AdamwRwW0Ideal.τ).loc Cert.AdamwRwW0Ideal.main_arg1)
      ∧ m' ((c.tc : Thread Cert.AdamwRwW0ReferenceIdeal.nD Cert.AdamwRwW0ReferenceIdeal.τ).loc Cert.AdamwRwW0ReferenceIdeal.main_arg2) = m ((c.tc : Thread Cert.AdamwRwW0Ideal.nD Cert.AdamwRwW0Ideal.τ).loc Cert.AdamwRwW0Ideal.main_arg2)
      ∧ m' ((c.tc : Thread Cert.AdamwRwW0ReferenceIdeal.nD Cert.AdamwRwW0ReferenceIdeal.τ).loc Cert.AdamwRwW0ReferenceIdeal.main_arg3) = m ((c.tc : Thread Cert.AdamwRwW0Ideal.nD Cert.AdamwRwW0Ideal.τ).loc Cert.AdamwRwW0Ideal.main_arg3)) →
    ∃ (v0 : (c : Dev Cert.AdamwRwW0Ideal.nD) → Buf (Elt Ideal) ((c.tc : Thread Cert.AdamwRwW0Ideal.nD Cert.AdamwRwW0Ideal.τ).loc Cert.AdamwRwW0Ideal.main_v0_0)) (v1 : (c : Dev Cert.AdamwRwW0Ideal.nD) → Buf (Elt Ideal) ((c.tc : Thread Cert.AdamwRwW0Ideal.nD Cert.AdamwRwW0Ideal.τ).loc Cert.AdamwRwW0Ideal.main_v0_1)) (v2 : (c : Dev Cert.AdamwRwW0Ideal.nD) → Buf (Elt Ideal) ((c.tc : Thread Cert.AdamwRwW0Ideal.nD Cert.AdamwRwW0Ideal.τ).loc Cert.AdamwRwW0Ideal.main_v0_2)),
      θ_run (Cert.AdamwRwW0Ideal.defs (F := Ideal)) (onTc (τ := Cert.AdamwRwW0Ideal.τ) (Cert.AdamwRwW0Ideal.main (F := Ideal))) ⟨m, fun _ => 0, g⟩ (fun r => ∀ c : Dev Cert.AdamwRwW0Ideal.nD,
          r.2.mem ((c.tc : Thread Cert.AdamwRwW0Ideal.nD Cert.AdamwRwW0Ideal.τ).loc Cert.AdamwRwW0Ideal.main_v0_0) = v0 c
          ∧ r.2.mem ((c.tc : Thread Cert.AdamwRwW0Ideal.nD Cert.AdamwRwW0Ideal.τ).loc Cert.AdamwRwW0Ideal.main_v0_1) = v1 c
          ∧ r.2.mem ((c.tc : Thread Cert.AdamwRwW0Ideal.nD Cert.AdamwRwW0Ideal.τ).loc Cert.AdamwRwW0Ideal.main_v0_2) = v2 c
          ∧ r.2.mem ((c.tc : Thread Cert.AdamwRwW0Ideal.nD Cert.AdamwRwW0Ideal.τ).loc Cert.AdamwRwW0Ideal.main_arg0) = m ((c.tc : Thread Cert.AdamwRwW0Ideal.nD Cert.AdamwRwW0Ideal.τ).loc Cert.AdamwRwW0Ideal.main_arg0)
          ∧ r.2.mem ((c.tc : Thread Cert.AdamwRwW0Ideal.nD Cert.AdamwRwW0Ideal.τ).loc Cert.AdamwRwW0Ideal.main_arg1) = m ((c.tc : Thread Cert.AdamwRwW0Ideal.nD Cert.AdamwRwW0Ideal.τ).loc Cert.AdamwRwW0Ideal.main_arg1)
          ∧ r.2.mem ((c.tc : Thread Cert.AdamwRwW0Ideal.nD Cert.AdamwRwW0Ideal.τ).loc Cert.AdamwRwW0Ideal.main_arg2) = m ((c.tc : Thread Cert.AdamwRwW0Ideal.nD Cert.AdamwRwW0Ideal.τ).loc Cert.AdamwRwW0Ideal.main_arg2)
          ∧ r.2.mem ((c.tc : Thread Cert.AdamwRwW0Ideal.nD Cert.AdamwRwW0Ideal.τ).loc Cert.AdamwRwW0Ideal.main_arg3) = m ((c.tc : Thread Cert.AdamwRwW0Ideal.nD Cert.AdamwRwW0Ideal.τ).loc Cert.AdamwRwW0Ideal.main_arg3))
      ∧ θ_run (Cert.AdamwRwW0ReferenceIdeal.defs (F := Ideal)) (onTc (τ := Cert.AdamwRwW0ReferenceIdeal.τ) (Cert.AdamwRwW0ReferenceIdeal.main (F := Ideal))) ⟨m', fun _ => 0, g'⟩ (fun r => ∀ c : Dev Cert.AdamwRwW0ReferenceIdeal.nD,
          r.2.mem ((c.tc : Thread Cert.AdamwRwW0ReferenceIdeal.nD Cert.AdamwRwW0ReferenceIdeal.τ).loc Cert.AdamwRwW0ReferenceIdeal.main_v23) = v0 c
          ∧ r.2.mem ((c.tc : Thread Cert.AdamwRwW0ReferenceIdeal.nD Cert.AdamwRwW0ReferenceIdeal.τ).loc Cert.AdamwRwW0ReferenceIdeal.main_v4) = v1 c
          ∧ r.2.mem ((c.tc : Thread Cert.AdamwRwW0ReferenceIdeal.nD Cert.AdamwRwW0ReferenceIdeal.τ).loc Cert.AdamwRwW0ReferenceIdeal.main_v10) = v2 c
          ∧ r.2.mem ((c.tc : Thread Cert.AdamwRwW0ReferenceIdeal.nD Cert.AdamwRwW0ReferenceIdeal.τ).loc Cert.AdamwRwW0ReferenceIdeal.main_arg0) = m' ((c.tc : Thread Cert.AdamwRwW0ReferenceIdeal.nD Cert.AdamwRwW0ReferenceIdeal.τ).loc Cert.AdamwRwW0ReferenceIdeal.main_arg0)
          ∧ r.2.mem ((c.tc : Thread Cert.AdamwRwW0ReferenceIdeal.nD Cert.AdamwRwW0ReferenceIdeal.τ).loc Cert.AdamwRwW0ReferenceIdeal.main_arg1) = m' ((c.tc : Thread Cert.AdamwRwW0ReferenceIdeal.nD Cert.AdamwRwW0ReferenceIdeal.τ).loc Cert.AdamwRwW0ReferenceIdeal.main_arg1)
          ∧ r.2.mem ((c.tc : Thread Cert.AdamwRwW0ReferenceIdeal.nD Cert.AdamwRwW0ReferenceIdeal.τ).loc Cert.AdamwRwW0ReferenceIdeal.main_arg2) = m' ((c.tc : Thread Cert.AdamwRwW0ReferenceIdeal.nD Cert.AdamwRwW0ReferenceIdeal.τ).loc Cert.AdamwRwW0ReferenceIdeal.main_arg2)
          ∧ r.2.mem ((c.tc : Thread Cert.AdamwRwW0ReferenceIdeal.nD Cert.AdamwRwW0ReferenceIdeal.τ).loc Cert.AdamwRwW0ReferenceIdeal.main_arg3) = m' ((c.tc : Thread Cert.AdamwRwW0ReferenceIdeal.nD Cert.AdamwRwW0ReferenceIdeal.τ).loc Cert.AdamwRwW0ReferenceIdeal.main_arg3))

def preserves_AdamwRwWUp_AdamwRwWUpIdeal : Prop :=
  IdealRules.named_const.Statement Cert.AdamwRwWUpIdeal.κ "unbias_m" .f32 0x3FC48605#32 ((8388608 / 5463681 : ℝ) : EReal)
  ∧ IdealRules.named_const.Statement Cert.AdamwRwWUpIdeal.κ "unbias_v" .f32 0x42C8E6D3#32 ((268435456 / 2672307 : ℝ) : EReal)

def algebraic_AdamwRwWUpIdeal_AdamwRwWUpReferenceIdeal [hAdamwRwWUpIdeal : Cert.AdamwRwWUpIdeal.Facts] [hAdamwRwWUpReferenceIdeal : Cert.AdamwRwWUpReferenceIdeal.Facts] : Prop :=
  ∀ (m : (ℓ : Loc Cert.AdamwRwWUpIdeal.nD Cert.AdamwRwWUpIdeal.τ Cert.AdamwRwWUpIdeal.sig) → Buf (Elt Ideal) ℓ) (g : Dev Cert.AdamwRwWUpIdeal.nD → PrngReg)
    (m' : (ℓ : Loc Cert.AdamwRwWUpReferenceIdeal.nD Cert.AdamwRwWUpReferenceIdeal.τ Cert.AdamwRwWUpReferenceIdeal.sig) → Buf (Elt Ideal) ℓ) (g' : Dev Cert.AdamwRwWUpReferenceIdeal.nD → PrngReg), Pre_AdamwRwWUpIdeal m →
    (∀ c : Dev Cert.AdamwRwWUpIdeal.nD,
      m' ((c.tc : Thread Cert.AdamwRwWUpReferenceIdeal.nD Cert.AdamwRwWUpReferenceIdeal.τ).loc Cert.AdamwRwWUpReferenceIdeal.main_arg0) = m ((c.tc : Thread Cert.AdamwRwWUpIdeal.nD Cert.AdamwRwWUpIdeal.τ).loc Cert.AdamwRwWUpIdeal.main_arg0)
      ∧ m' ((c.tc : Thread Cert.AdamwRwWUpReferenceIdeal.nD Cert.AdamwRwWUpReferenceIdeal.τ).loc Cert.AdamwRwWUpReferenceIdeal.main_arg1) = m ((c.tc : Thread Cert.AdamwRwWUpIdeal.nD Cert.AdamwRwWUpIdeal.τ).loc Cert.AdamwRwWUpIdeal.main_arg1)
      ∧ m' ((c.tc : Thread Cert.AdamwRwWUpReferenceIdeal.nD Cert.AdamwRwWUpReferenceIdeal.τ).loc Cert.AdamwRwWUpReferenceIdeal.main_arg2) = m ((c.tc : Thread Cert.AdamwRwWUpIdeal.nD Cert.AdamwRwWUpIdeal.τ).loc Cert.AdamwRwWUpIdeal.main_arg2)
      ∧ m' ((c.tc : Thread Cert.AdamwRwWUpReferenceIdeal.nD Cert.AdamwRwWUpReferenceIdeal.τ).loc Cert.AdamwRwWUpReferenceIdeal.main_arg3) = m ((c.tc : Thread Cert.AdamwRwWUpIdeal.nD Cert.AdamwRwWUpIdeal.τ).loc Cert.AdamwRwWUpIdeal.main_arg3)) →
    ∃ (v0 : (c : Dev Cert.AdamwRwWUpIdeal.nD) → Buf (Elt Ideal) ((c.tc : Thread Cert.AdamwRwWUpIdeal.nD Cert.AdamwRwWUpIdeal.τ).loc Cert.AdamwRwWUpIdeal.main_v0_0)) (v1 : (c : Dev Cert.AdamwRwWUpIdeal.nD) → Buf (Elt Ideal) ((c.tc : Thread Cert.AdamwRwWUpIdeal.nD Cert.AdamwRwWUpIdeal.τ).loc Cert.AdamwRwWUpIdeal.main_v0_1)) (v2 : (c : Dev Cert.AdamwRwWUpIdeal.nD) → Buf (Elt Ideal) ((c.tc : Thread Cert.AdamwRwWUpIdeal.nD Cert.AdamwRwWUpIdeal.τ).loc Cert.AdamwRwWUpIdeal.main_v0_2)),
      θ_run (Cert.AdamwRwWUpIdeal.defs (F := Ideal)) (onTc (τ := Cert.AdamwRwWUpIdeal.τ) (Cert.AdamwRwWUpIdeal.main (F := Ideal))) ⟨m, fun _ => 0, g⟩ (fun r => ∀ c : Dev Cert.AdamwRwWUpIdeal.nD,
          r.2.mem ((c.tc : Thread Cert.AdamwRwWUpIdeal.nD Cert.AdamwRwWUpIdeal.τ).loc Cert.AdamwRwWUpIdeal.main_v0_0) = v0 c
          ∧ r.2.mem ((c.tc : Thread Cert.AdamwRwWUpIdeal.nD Cert.AdamwRwWUpIdeal.τ).loc Cert.AdamwRwWUpIdeal.main_v0_1) = v1 c
          ∧ r.2.mem ((c.tc : Thread Cert.AdamwRwWUpIdeal.nD Cert.AdamwRwWUpIdeal.τ).loc Cert.AdamwRwWUpIdeal.main_v0_2) = v2 c
          ∧ r.2.mem ((c.tc : Thread Cert.AdamwRwWUpIdeal.nD Cert.AdamwRwWUpIdeal.τ).loc Cert.AdamwRwWUpIdeal.main_arg0) = m ((c.tc : Thread Cert.AdamwRwWUpIdeal.nD Cert.AdamwRwWUpIdeal.τ).loc Cert.AdamwRwWUpIdeal.main_arg0)
          ∧ r.2.mem ((c.tc : Thread Cert.AdamwRwWUpIdeal.nD Cert.AdamwRwWUpIdeal.τ).loc Cert.AdamwRwWUpIdeal.main_arg1) = m ((c.tc : Thread Cert.AdamwRwWUpIdeal.nD Cert.AdamwRwWUpIdeal.τ).loc Cert.AdamwRwWUpIdeal.main_arg1)
          ∧ r.2.mem ((c.tc : Thread Cert.AdamwRwWUpIdeal.nD Cert.AdamwRwWUpIdeal.τ).loc Cert.AdamwRwWUpIdeal.main_arg2) = m ((c.tc : Thread Cert.AdamwRwWUpIdeal.nD Cert.AdamwRwWUpIdeal.τ).loc Cert.AdamwRwWUpIdeal.main_arg2)
          ∧ r.2.mem ((c.tc : Thread Cert.AdamwRwWUpIdeal.nD Cert.AdamwRwWUpIdeal.τ).loc Cert.AdamwRwWUpIdeal.main_arg3) = m ((c.tc : Thread Cert.AdamwRwWUpIdeal.nD Cert.AdamwRwWUpIdeal.τ).loc Cert.AdamwRwWUpIdeal.main_arg3))
      ∧ θ_run (Cert.AdamwRwWUpReferenceIdeal.defs (F := Ideal)) (onTc (τ := Cert.AdamwRwWUpReferenceIdeal.τ) (Cert.AdamwRwWUpReferenceIdeal.main (F := Ideal))) ⟨m', fun _ => 0, g'⟩ (fun r => ∀ c : Dev Cert.AdamwRwWUpReferenceIdeal.nD,
          r.2.mem ((c.tc : Thread Cert.AdamwRwWUpReferenceIdeal.nD Cert.AdamwRwWUpReferenceIdeal.τ).loc Cert.AdamwRwWUpReferenceIdeal.main_v23) = v0 c
          ∧ r.2.mem ((c.tc : Thread Cert.AdamwRwWUpReferenceIdeal.nD Cert.AdamwRwWUpReferenceIdeal.τ).loc Cert.AdamwRwWUpReferenceIdeal.main_v4) = v1 c
          ∧ r.2.mem ((c.tc : Thread Cert.AdamwRwWUpReferenceIdeal.nD Cert.AdamwRwWUpReferenceIdeal.τ).loc Cert.AdamwRwWUpReferenceIdeal.main_v10) = v2 c
          ∧ r.2.mem ((c.tc : Thread Cert.AdamwRwWUpReferenceIdeal.nD Cert.AdamwRwWUpReferenceIdeal.τ).loc Cert.AdamwRwWUpReferenceIdeal.main_arg0) = m' ((c.tc : Thread Cert.AdamwRwWUpReferenceIdeal.nD Cert.AdamwRwWUpReferenceIdeal.τ).loc Cert.AdamwRwWUpReferenceIdeal.main_arg0)
          ∧ r.2.mem ((c.tc : Thread Cert.AdamwRwWUpReferenceIdeal.nD Cert.AdamwRwWUpReferenceIdeal.τ).loc Cert.AdamwRwWUpReferenceIdeal.main_arg1) = m' ((c.tc : Thread Cert.AdamwRwWUpReferenceIdeal.nD Cert.AdamwRwWUpReferenceIdeal.τ).loc Cert.AdamwRwWUpReferenceIdeal.main_arg1)
          ∧ r.2.mem ((c.tc : Thread Cert.AdamwRwWUpReferenceIdeal.nD Cert.AdamwRwWUpReferenceIdeal.τ).loc Cert.AdamwRwWUpReferenceIdeal.main_arg2) = m' ((c.tc : Thread Cert.AdamwRwWUpReferenceIdeal.nD Cert.AdamwRwWUpReferenceIdeal.τ).loc Cert.AdamwRwWUpReferenceIdeal.main_arg2)
          ∧ r.2.mem ((c.tc : Thread Cert.AdamwRwWUpReferenceIdeal.nD Cert.AdamwRwWUpReferenceIdeal.τ).loc Cert.AdamwRwWUpReferenceIdeal.main_arg3) = m' ((c.tc : Thread Cert.AdamwRwWUpReferenceIdeal.nD Cert.AdamwRwWUpReferenceIdeal.τ).loc Cert.AdamwRwWUpReferenceIdeal.main_arg3))

def preserves_AdamwRwGUp_AdamwRwGUpIdeal : Prop :=
  IdealRules.named_const.Statement Cert.AdamwRwGUpIdeal.κ "unbias_m" .f32 0x3FC48605#32 ((8388608 / 5463681 : ℝ) : EReal)
  ∧ IdealRules.named_const.Statement Cert.AdamwRwGUpIdeal.κ "unbias_v" .f32 0x42C8E6D3#32 ((268435456 / 2672307 : ℝ) : EReal)

def algebraic_AdamwRwGUpIdeal_AdamwRwGUpReferenceIdeal [hAdamwRwGUpIdeal : Cert.AdamwRwGUpIdeal.Facts] [hAdamwRwGUpReferenceIdeal : Cert.AdamwRwGUpReferenceIdeal.Facts] : Prop :=
  ∀ (m : (ℓ : Loc Cert.AdamwRwGUpIdeal.nD Cert.AdamwRwGUpIdeal.τ Cert.AdamwRwGUpIdeal.sig) → Buf (Elt Ideal) ℓ) (g : Dev Cert.AdamwRwGUpIdeal.nD → PrngReg)
    (m' : (ℓ : Loc Cert.AdamwRwGUpReferenceIdeal.nD Cert.AdamwRwGUpReferenceIdeal.τ Cert.AdamwRwGUpReferenceIdeal.sig) → Buf (Elt Ideal) ℓ) (g' : Dev Cert.AdamwRwGUpReferenceIdeal.nD → PrngReg), Pre_AdamwRwGUpIdeal m →
    (∀ c : Dev Cert.AdamwRwGUpIdeal.nD,
      m' ((c.tc : Thread Cert.AdamwRwGUpReferenceIdeal.nD Cert.AdamwRwGUpReferenceIdeal.τ).loc Cert.AdamwRwGUpReferenceIdeal.main_arg0) = m ((c.tc : Thread Cert.AdamwRwGUpIdeal.nD Cert.AdamwRwGUpIdeal.τ).loc Cert.AdamwRwGUpIdeal.main_arg0)
      ∧ m' ((c.tc : Thread Cert.AdamwRwGUpReferenceIdeal.nD Cert.AdamwRwGUpReferenceIdeal.τ).loc Cert.AdamwRwGUpReferenceIdeal.main_arg1) = m ((c.tc : Thread Cert.AdamwRwGUpIdeal.nD Cert.AdamwRwGUpIdeal.τ).loc Cert.AdamwRwGUpIdeal.main_arg1)
      ∧ m' ((c.tc : Thread Cert.AdamwRwGUpReferenceIdeal.nD Cert.AdamwRwGUpReferenceIdeal.τ).loc Cert.AdamwRwGUpReferenceIdeal.main_arg2) = m ((c.tc : Thread Cert.AdamwRwGUpIdeal.nD Cert.AdamwRwGUpIdeal.τ).loc Cert.AdamwRwGUpIdeal.main_arg2)
      ∧ m' ((c.tc : Thread Cert.AdamwRwGUpReferenceIdeal.nD Cert.AdamwRwGUpReferenceIdeal.τ).loc Cert.AdamwRwGUpReferenceIdeal.main_arg3) = m ((c.tc : Thread Cert.AdamwRwGUpIdeal.nD Cert.AdamwRwGUpIdeal.τ).loc Cert.AdamwRwGUpIdeal.main_arg3)) →
    ∃ (v0 : (c : Dev Cert.AdamwRwGUpIdeal.nD) → Buf (Elt Ideal) ((c.tc : Thread Cert.AdamwRwGUpIdeal.nD Cert.AdamwRwGUpIdeal.τ).loc Cert.AdamwRwGUpIdeal.main_v0_0)) (v1 : (c : Dev Cert.AdamwRwGUpIdeal.nD) → Buf (Elt Ideal) ((c.tc : Thread Cert.AdamwRwGUpIdeal.nD Cert.AdamwRwGUpIdeal.τ).loc Cert.AdamwRwGUpIdeal.main_v0_1)) (v2 : (c : Dev Cert.AdamwRwGUpIdeal.nD) → Buf (Elt Ideal) ((c.tc : Thread Cert.AdamwRwGUpIdeal.nD Cert.AdamwRwGUpIdeal.τ).loc Cert.AdamwRwGUpIdeal.main_v0_2)),
      θ_run (Cert.AdamwRwGUpIdeal.defs (F := Ideal)) (onTc (τ := Cert.AdamwRwGUpIdeal.τ) (Cert.AdamwRwGUpIdeal.main (F := Ideal))) ⟨m, fun _ => 0, g⟩ (fun r => ∀ c : Dev Cert.AdamwRwGUpIdeal.nD,
          r.2.mem ((c.tc : Thread Cert.AdamwRwGUpIdeal.nD Cert.AdamwRwGUpIdeal.τ).loc Cert.AdamwRwGUpIdeal.main_v0_0) = v0 c
          ∧ r.2.mem ((c.tc : Thread Cert.AdamwRwGUpIdeal.nD Cert.AdamwRwGUpIdeal.τ).loc Cert.AdamwRwGUpIdeal.main_v0_1) = v1 c
          ∧ r.2.mem ((c.tc : Thread Cert.AdamwRwGUpIdeal.nD Cert.AdamwRwGUpIdeal.τ).loc Cert.AdamwRwGUpIdeal.main_v0_2) = v2 c
          ∧ r.2.mem ((c.tc : Thread Cert.AdamwRwGUpIdeal.nD Cert.AdamwRwGUpIdeal.τ).loc Cert.AdamwRwGUpIdeal.main_arg0) = m ((c.tc : Thread Cert.AdamwRwGUpIdeal.nD Cert.AdamwRwGUpIdeal.τ).loc Cert.AdamwRwGUpIdeal.main_arg0)
          ∧ r.2.mem ((c.tc : Thread Cert.AdamwRwGUpIdeal.nD Cert.AdamwRwGUpIdeal.τ).loc Cert.AdamwRwGUpIdeal.main_arg1) = m ((c.tc : Thread Cert.AdamwRwGUpIdeal.nD Cert.AdamwRwGUpIdeal.τ).loc Cert.AdamwRwGUpIdeal.main_arg1)
          ∧ r.2.mem ((c.tc : Thread Cert.AdamwRwGUpIdeal.nD Cert.AdamwRwGUpIdeal.τ).loc Cert.AdamwRwGUpIdeal.main_arg2) = m ((c.tc : Thread Cert.AdamwRwGUpIdeal.nD Cert.AdamwRwGUpIdeal.τ).loc Cert.AdamwRwGUpIdeal.main_arg2)
          ∧ r.2.mem ((c.tc : Thread Cert.AdamwRwGUpIdeal.nD Cert.AdamwRwGUpIdeal.τ).loc Cert.AdamwRwGUpIdeal.main_arg3) = m ((c.tc : Thread Cert.AdamwRwGUpIdeal.nD Cert.AdamwRwGUpIdeal.τ).loc Cert.AdamwRwGUpIdeal.main_arg3))
      ∧ θ_run (Cert.AdamwRwGUpReferenceIdeal.defs (F := Ideal)) (onTc (τ := Cert.AdamwRwGUpReferenceIdeal.τ) (Cert.AdamwRwGUpReferenceIdeal.main (F := Ideal))) ⟨m', fun _ => 0, g'⟩ (fun r => ∀ c : Dev Cert.AdamwRwGUpReferenceIdeal.nD,
          r.2.mem ((c.tc : Thread Cert.AdamwRwGUpReferenceIdeal.nD Cert.AdamwRwGUpReferenceIdeal.τ).loc Cert.AdamwRwGUpReferenceIdeal.main_v23) = v0 c
          ∧ r.2.mem ((c.tc : Thread Cert.AdamwRwGUpReferenceIdeal.nD Cert.AdamwRwGUpReferenceIdeal.τ).loc Cert.AdamwRwGUpReferenceIdeal.main_v4) = v1 c
          ∧ r.2.mem ((c.tc : Thread Cert.AdamwRwGUpReferenceIdeal.nD Cert.AdamwRwGUpReferenceIdeal.τ).loc Cert.AdamwRwGUpReferenceIdeal.main_v10) = v2 c
          ∧ r.2.mem ((c.tc : Thread Cert.AdamwRwGUpReferenceIdeal.nD Cert.AdamwRwGUpReferenceIdeal.τ).loc Cert.AdamwRwGUpReferenceIdeal.main_arg0) = m' ((c.tc : Thread Cert.AdamwRwGUpReferenceIdeal.nD Cert.AdamwRwGUpReferenceIdeal.τ).loc Cert.AdamwRwGUpReferenceIdeal.main_arg0)
          ∧ r.2.mem ((c.tc : Thread Cert.AdamwRwGUpReferenceIdeal.nD Cert.AdamwRwGUpReferenceIdeal.τ).loc Cert.AdamwRwGUpReferenceIdeal.main_arg1) = m' ((c.tc : Thread Cert.AdamwRwGUpReferenceIdeal.nD Cert.AdamwRwGUpReferenceIdeal.τ).loc Cert.AdamwRwGUpReferenceIdeal.main_arg1)
          ∧ r.2.mem ((c.tc : Thread Cert.AdamwRwGUpReferenceIdeal.nD Cert.AdamwRwGUpReferenceIdeal.τ).loc Cert.AdamwRwGUpReferenceIdeal.main_arg2) = m' ((c.tc : Thread Cert.AdamwRwGUpReferenceIdeal.nD Cert.AdamwRwGUpReferenceIdeal.τ).loc Cert.AdamwRwGUpReferenceIdeal.main_arg2)
          ∧ r.2.mem ((c.tc : Thread Cert.AdamwRwGUpReferenceIdeal.nD Cert.AdamwRwGUpReferenceIdeal.τ).loc Cert.AdamwRwGUpReferenceIdeal.main_arg3) = m' ((c.tc : Thread Cert.AdamwRwGUpReferenceIdeal.nD Cert.AdamwRwGUpReferenceIdeal.τ).loc Cert.AdamwRwGUpReferenceIdeal.main_arg3))

def preserves_AdamwRwRK_AdamwRwRKIdeal : Prop :=
  IdealRules.named_const.Statement Cert.AdamwRwRKIdeal.κ "unbias_m" .f32 0x3FC48605#32 ((8388608 / 5463681 : ℝ) : EReal)
  ∧ IdealRules.named_const.Statement Cert.AdamwRwRKIdeal.κ "unbias_v" .f32 0x42C8E6D3#32 ((268435456 / 2672307 : ℝ) : EReal)

def algebraic_AdamwRwRKIdeal_AdamwRwRKReferenceIdeal [hAdamwRwRKIdeal : Cert.AdamwRwRKIdeal.Facts] [hAdamwRwRKReferenceIdeal : Cert.AdamwRwRKReferenceIdeal.Facts] : Prop :=
  ∀ (m : (ℓ : Loc Cert.AdamwRwRKIdeal.nD Cert.AdamwRwRKIdeal.τ Cert.AdamwRwRKIdeal.sig) → Buf (Elt Ideal) ℓ) (g : Dev Cert.AdamwRwRKIdeal.nD → PrngReg)
    (m' : (ℓ : Loc Cert.AdamwRwRKReferenceIdeal.nD Cert.AdamwRwRKReferenceIdeal.τ Cert.AdamwRwRKReferenceIdeal.sig) → Buf (Elt Ideal) ℓ) (g' : Dev Cert.AdamwRwRKReferenceIdeal.nD → PrngReg), Pre_AdamwRwRKIdeal m →
    (∀ c : Dev Cert.AdamwRwRKIdeal.nD,
      m' ((c.tc : Thread Cert.AdamwRwRKReferenceIdeal.nD Cert.AdamwRwRKReferenceIdeal.τ).loc Cert.AdamwRwRKReferenceIdeal.main_arg0) = m ((c.tc : Thread Cert.AdamwRwRKIdeal.nD Cert.AdamwRwRKIdeal.τ).loc Cert.AdamwRwRKIdeal.main_arg0)
      ∧ m' ((c.tc : Thread Cert.AdamwRwRKReferenceIdeal.nD Cert.AdamwRwRKReferenceIdeal.τ).loc Cert.AdamwRwRKReferenceIdeal.main_arg1) = m ((c.tc : Thread Cert.AdamwRwRKIdeal.nD Cert.AdamwRwRKIdeal.τ).loc Cert.AdamwRwRKIdeal.main_arg1)
      ∧ m' ((c.tc : Thread Cert.AdamwRwRKReferenceIdeal.nD Cert.AdamwRwRKReferenceIdeal.τ).loc Cert.AdamwRwRKReferenceIdeal.main_arg2) = m ((c.tc : Thread Cert.AdamwRwRKIdeal.nD Cert.AdamwRwRKIdeal.τ).loc Cert.AdamwRwRKIdeal.main_arg2)
      ∧ m' ((c.tc : Thread Cert.AdamwRwRKReferenceIdeal.nD Cert.AdamwRwRKReferenceIdeal.τ).loc Cert.AdamwRwRKReferenceIdeal.main_arg3) = m ((c.tc : Thread Cert.AdamwRwRKIdeal.nD Cert.AdamwRwRKIdeal.τ).loc Cert.AdamwRwRKIdeal.main_arg3)) →
    ∃ (v0 : (c : Dev Cert.AdamwRwRKIdeal.nD) → Buf (Elt Ideal) ((c.tc : Thread Cert.AdamwRwRKIdeal.nD Cert.AdamwRwRKIdeal.τ).loc Cert.AdamwRwRKIdeal.main_v0_0)) (v1 : (c : Dev Cert.AdamwRwRKIdeal.nD) → Buf (Elt Ideal) ((c.tc : Thread Cert.AdamwRwRKIdeal.nD Cert.AdamwRwRKIdeal.τ).loc Cert.AdamwRwRKIdeal.main_v0_1)) (v2 : (c : Dev Cert.AdamwRwRKIdeal.nD) → Buf (Elt Ideal) ((c.tc : Thread Cert.AdamwRwRKIdeal.nD Cert.AdamwRwRKIdeal.τ).loc Cert.AdamwRwRKIdeal.main_v0_2)),
      θ_run (Cert.AdamwRwRKIdeal.defs (F := Ideal)) (onTc (τ := Cert.AdamwRwRKIdeal.τ) (Cert.AdamwRwRKIdeal.main (F := Ideal))) ⟨m, fun _ => 0, g⟩ (fun r => ∀ c : Dev Cert.AdamwRwRKIdeal.nD,
          r.2.mem ((c.tc : Thread Cert.AdamwRwRKIdeal.nD Cert.AdamwRwRKIdeal.τ).loc Cert.AdamwRwRKIdeal.main_v0_0) = v0 c
          ∧ r.2.mem ((c.tc : Thread Cert.AdamwRwRKIdeal.nD Cert.AdamwRwRKIdeal.τ).loc Cert.AdamwRwRKIdeal.main_v0_1) = v1 c
          ∧ r.2.mem ((c.tc : Thread Cert.AdamwRwRKIdeal.nD Cert.AdamwRwRKIdeal.τ).loc Cert.AdamwRwRKIdeal.main_v0_2) = v2 c
          ∧ r.2.mem ((c.tc : Thread Cert.AdamwRwRKIdeal.nD Cert.AdamwRwRKIdeal.τ).loc Cert.AdamwRwRKIdeal.main_arg0) = m ((c.tc : Thread Cert.AdamwRwRKIdeal.nD Cert.AdamwRwRKIdeal.τ).loc Cert.AdamwRwRKIdeal.main_arg0)
          ∧ r.2.mem ((c.tc : Thread Cert.AdamwRwRKIdeal.nD Cert.AdamwRwRKIdeal.τ).loc Cert.AdamwRwRKIdeal.main_arg1) = m ((c.tc : Thread Cert.AdamwRwRKIdeal.nD Cert.AdamwRwRKIdeal.τ).loc Cert.AdamwRwRKIdeal.main_arg1)
          ∧ r.2.mem ((c.tc : Thread Cert.AdamwRwRKIdeal.nD Cert.AdamwRwRKIdeal.τ).loc Cert.AdamwRwRKIdeal.main_arg2) = m ((c.tc : Thread Cert.AdamwRwRKIdeal.nD Cert.AdamwRwRKIdeal.τ).loc Cert.AdamwRwRKIdeal.main_arg2)
          ∧ r.2.mem ((c.tc : Thread Cert.AdamwRwRKIdeal.nD Cert.AdamwRwRKIdeal.τ).loc Cert.AdamwRwRKIdeal.main_arg3) = m ((c.tc : Thread Cert.AdamwRwRKIdeal.nD Cert.AdamwRwRKIdeal.τ).loc Cert.AdamwRwRKIdeal.main_arg3))
      ∧ θ_run (Cert.AdamwRwRKReferenceIdeal.defs (F := Ideal)) (onTc (τ := Cert.AdamwRwRKReferenceIdeal.τ) (Cert.AdamwRwRKReferenceIdeal.main (F := Ideal))) ⟨m', fun _ => 0, g'⟩ (fun r => ∀ c : Dev Cert.AdamwRwRKReferenceIdeal.nD,
          r.2.mem ((c.tc : Thread Cert.AdamwRwRKReferenceIdeal.nD Cert.AdamwRwRKReferenceIdeal.τ).loc Cert.AdamwRwRKReferenceIdeal.main_v23) = v0 c
          ∧ r.2.mem ((c.tc : Thread Cert.AdamwRwRKReferenceIdeal.nD Cert.AdamwRwRKReferenceIdeal.τ).loc Cert.AdamwRwRKReferenceIdeal.main_v4) = v1 c
          ∧ r.2.mem ((c.tc : Thread Cert.AdamwRwRKReferenceIdeal.nD Cert.AdamwRwRKReferenceIdeal.τ).loc Cert.AdamwRwRKReferenceIdeal.main_v10) = v2 c
          ∧ r.2.mem ((c.tc : Thread Cert.AdamwRwRKReferenceIdeal.nD Cert.AdamwRwRKReferenceIdeal.τ).loc Cert.AdamwRwRKReferenceIdeal.main_arg0) = m' ((c.tc : Thread Cert.AdamwRwRKReferenceIdeal.nD Cert.AdamwRwRKReferenceIdeal.τ).loc Cert.AdamwRwRKReferenceIdeal.main_arg0)
          ∧ r.2.mem ((c.tc : Thread Cert.AdamwRwRKReferenceIdeal.nD Cert.AdamwRwRKReferenceIdeal.τ).loc Cert.AdamwRwRKReferenceIdeal.main_arg1) = m' ((c.tc : Thread Cert.AdamwRwRKReferenceIdeal.nD Cert.AdamwRwRKReferenceIdeal.τ).loc Cert.AdamwRwRKReferenceIdeal.main_arg1)
          ∧ r.2.mem ((c.tc : Thread Cert.AdamwRwRKReferenceIdeal.nD Cert.AdamwRwRKReferenceIdeal.τ).loc Cert.AdamwRwRKReferenceIdeal.main_arg2) = m' ((c.tc : Thread Cert.AdamwRwRKReferenceIdeal.nD Cert.AdamwRwRKReferenceIdeal.τ).loc Cert.AdamwRwRKReferenceIdeal.main_arg2)
          ∧ r.2.mem ((c.tc : Thread Cert.AdamwRwRKReferenceIdeal.nD Cert.AdamwRwRKReferenceIdeal.τ).loc Cert.AdamwRwRKReferenceIdeal.main_arg3) = m' ((c.tc : Thread Cert.AdamwRwRKReferenceIdeal.nD Cert.AdamwRwRKReferenceIdeal.τ).loc Cert.AdamwRwRKReferenceIdeal.main_arg3))

def preserves_AdamwScConvW_AdamwScConvWIdeal : Prop :=
  IdealRules.named_const.Statement Cert.AdamwScConvWIdeal.κ "unbias_m" .f32 0x3FC48605#32 ((8388608 / 5463681 : ℝ) : EReal)
  ∧ IdealRules.named_const.Statement Cert.AdamwScConvWIdeal.κ "unbias_v" .f32 0x42C8E6D3#32 ((268435456 / 2672307 : ℝ) : EReal)

def algebraic_AdamwScConvWIdeal_AdamwScConvWReferenceIdeal [hAdamwScConvWIdeal : Cert.AdamwScConvWIdeal.Facts] [hAdamwScConvWReferenceIdeal : Cert.AdamwScConvWReferenceIdeal.Facts] : Prop :=
  ∀ (m : (ℓ : Loc Cert.AdamwScConvWIdeal.nD Cert.AdamwScConvWIdeal.τ Cert.AdamwScConvWIdeal.sig) → Buf (Elt Ideal) ℓ) (g : Dev Cert.AdamwScConvWIdeal.nD → PrngReg)
    (m' : (ℓ : Loc Cert.AdamwScConvWReferenceIdeal.nD Cert.AdamwScConvWReferenceIdeal.τ Cert.AdamwScConvWReferenceIdeal.sig) → Buf (Elt Ideal) ℓ) (g' : Dev Cert.AdamwScConvWReferenceIdeal.nD → PrngReg), Pre_AdamwScConvWIdeal m →
    (∀ c : Dev Cert.AdamwScConvWIdeal.nD,
      m' ((c.tc : Thread Cert.AdamwScConvWReferenceIdeal.nD Cert.AdamwScConvWReferenceIdeal.τ).loc Cert.AdamwScConvWReferenceIdeal.main_arg0) = m ((c.tc : Thread Cert.AdamwScConvWIdeal.nD Cert.AdamwScConvWIdeal.τ).loc Cert.AdamwScConvWIdeal.main_arg0)
      ∧ m' ((c.tc : Thread Cert.AdamwScConvWReferenceIdeal.nD Cert.AdamwScConvWReferenceIdeal.τ).loc Cert.AdamwScConvWReferenceIdeal.main_arg1) = m ((c.tc : Thread Cert.AdamwScConvWIdeal.nD Cert.AdamwScConvWIdeal.τ).loc Cert.AdamwScConvWIdeal.main_arg1)
      ∧ m' ((c.tc : Thread Cert.AdamwScConvWReferenceIdeal.nD Cert.AdamwScConvWReferenceIdeal.τ).loc Cert.AdamwScConvWReferenceIdeal.main_arg2) = m ((c.tc : Thread Cert.AdamwScConvWIdeal.nD Cert.AdamwScConvWIdeal.τ).loc Cert.AdamwScConvWIdeal.main_arg2)
      ∧ m' ((c.tc : Thread Cert.AdamwScConvWReferenceIdeal.nD Cert.AdamwScConvWReferenceIdeal.τ).loc Cert.AdamwScConvWReferenceIdeal.main_arg3) = m ((c.tc : Thread Cert.AdamwScConvWIdeal.nD Cert.AdamwScConvWIdeal.τ).loc Cert.AdamwScConvWIdeal.main_arg3)) →
    ∃ (v0 : (c : Dev Cert.AdamwScConvWIdeal.nD) → Buf (Elt Ideal) ((c.tc : Thread Cert.AdamwScConvWIdeal.nD Cert.AdamwScConvWIdeal.τ).loc Cert.AdamwScConvWIdeal.main_v0_0)) (v1 : (c : Dev Cert.AdamwScConvWIdeal.nD) → Buf (Elt Ideal) ((c.tc : Thread Cert.AdamwScConvWIdeal.nD Cert.AdamwScConvWIdeal.τ).loc Cert.AdamwScConvWIdeal.main_v0_1)) (v2 : (c : Dev Cert.AdamwScConvWIdeal.nD) → Buf (Elt Ideal) ((c.tc : Thread Cert.AdamwScConvWIdeal.nD Cert.AdamwScConvWIdeal.τ).loc Cert.AdamwScConvWIdeal.main_v0_2)),
      θ_run (Cert.AdamwScConvWIdeal.defs (F := Ideal)) (onTc (τ := Cert.AdamwScConvWIdeal.τ) (Cert.AdamwScConvWIdeal.main (F := Ideal))) ⟨m, fun _ => 0, g⟩ (fun r => ∀ c : Dev Cert.AdamwScConvWIdeal.nD,
          r.2.mem ((c.tc : Thread Cert.AdamwScConvWIdeal.nD Cert.AdamwScConvWIdeal.τ).loc Cert.AdamwScConvWIdeal.main_v0_0) = v0 c
          ∧ r.2.mem ((c.tc : Thread Cert.AdamwScConvWIdeal.nD Cert.AdamwScConvWIdeal.τ).loc Cert.AdamwScConvWIdeal.main_v0_1) = v1 c
          ∧ r.2.mem ((c.tc : Thread Cert.AdamwScConvWIdeal.nD Cert.AdamwScConvWIdeal.τ).loc Cert.AdamwScConvWIdeal.main_v0_2) = v2 c
          ∧ r.2.mem ((c.tc : Thread Cert.AdamwScConvWIdeal.nD Cert.AdamwScConvWIdeal.τ).loc Cert.AdamwScConvWIdeal.main_arg0) = m ((c.tc : Thread Cert.AdamwScConvWIdeal.nD Cert.AdamwScConvWIdeal.τ).loc Cert.AdamwScConvWIdeal.main_arg0)
          ∧ r.2.mem ((c.tc : Thread Cert.AdamwScConvWIdeal.nD Cert.AdamwScConvWIdeal.τ).loc Cert.AdamwScConvWIdeal.main_arg1) = m ((c.tc : Thread Cert.AdamwScConvWIdeal.nD Cert.AdamwScConvWIdeal.τ).loc Cert.AdamwScConvWIdeal.main_arg1)
          ∧ r.2.mem ((c.tc : Thread Cert.AdamwScConvWIdeal.nD Cert.AdamwScConvWIdeal.τ).loc Cert.AdamwScConvWIdeal.main_arg2) = m ((c.tc : Thread Cert.AdamwScConvWIdeal.nD Cert.AdamwScConvWIdeal.τ).loc Cert.AdamwScConvWIdeal.main_arg2)
          ∧ r.2.mem ((c.tc : Thread Cert.AdamwScConvWIdeal.nD Cert.AdamwScConvWIdeal.τ).loc Cert.AdamwScConvWIdeal.main_arg3) = m ((c.tc : Thread Cert.AdamwScConvWIdeal.nD Cert.AdamwScConvWIdeal.τ).loc Cert.AdamwScConvWIdeal.main_arg3))
      ∧ θ_run (Cert.AdamwScConvWReferenceIdeal.defs (F := Ideal)) (onTc (τ := Cert.AdamwScConvWReferenceIdeal.τ) (Cert.AdamwScConvWReferenceIdeal.main (F := Ideal))) ⟨m', fun _ => 0, g'⟩ (fun r => ∀ c : Dev Cert.AdamwScConvWReferenceIdeal.nD,
          r.2.mem ((c.tc : Thread Cert.AdamwScConvWReferenceIdeal.nD Cert.AdamwScConvWReferenceIdeal.τ).loc Cert.AdamwScConvWReferenceIdeal.main_v23) = v0 c
          ∧ r.2.mem ((c.tc : Thread Cert.AdamwScConvWReferenceIdeal.nD Cert.AdamwScConvWReferenceIdeal.τ).loc Cert.AdamwScConvWReferenceIdeal.main_v4) = v1 c
          ∧ r.2.mem ((c.tc : Thread Cert.AdamwScConvWReferenceIdeal.nD Cert.AdamwScConvWReferenceIdeal.τ).loc Cert.AdamwScConvWReferenceIdeal.main_v10) = v2 c
          ∧ r.2.mem ((c.tc : Thread Cert.AdamwScConvWReferenceIdeal.nD Cert.AdamwScConvWReferenceIdeal.τ).loc Cert.AdamwScConvWReferenceIdeal.main_arg0) = m' ((c.tc : Thread Cert.AdamwScConvWReferenceIdeal.nD Cert.AdamwScConvWReferenceIdeal.τ).loc Cert.AdamwScConvWReferenceIdeal.main_arg0)
          ∧ r.2.mem ((c.tc : Thread Cert.AdamwScConvWReferenceIdeal.nD Cert.AdamwScConvWReferenceIdeal.τ).loc Cert.AdamwScConvWReferenceIdeal.main_arg1) = m' ((c.tc : Thread Cert.AdamwScConvWReferenceIdeal.nD Cert.AdamwScConvWReferenceIdeal.τ).loc Cert.AdamwScConvWReferenceIdeal.main_arg1)
          ∧ r.2.mem ((c.tc : Thread Cert.AdamwScConvWReferenceIdeal.nD Cert.AdamwScConvWReferenceIdeal.τ).loc Cert.AdamwScConvWReferenceIdeal.main_arg2) = m' ((c.tc : Thread Cert.AdamwScConvWReferenceIdeal.nD Cert.AdamwScConvWReferenceIdeal.τ).loc Cert.AdamwScConvWReferenceIdeal.main_arg2)
          ∧ r.2.mem ((c.tc : Thread Cert.AdamwScConvWReferenceIdeal.nD Cert.AdamwScConvWReferenceIdeal.τ).loc Cert.AdamwScConvWReferenceIdeal.main_arg3) = m' ((c.tc : Thread Cert.AdamwScConvWReferenceIdeal.nD Cert.AdamwScConvWReferenceIdeal.τ).loc Cert.AdamwScConvWReferenceIdeal.main_arg3))

def preserves_AdamwAbWOut_AdamwAbWOutIdeal : Prop :=
  IdealRules.named_const.Statement Cert.AdamwAbWOutIdeal.κ "unbias_m" .f32 0x3FC48605#32 ((8388608 / 5463681 : ℝ) : EReal)
  ∧ IdealRules.named_const.Statement Cert.AdamwAbWOutIdeal.κ "unbias_v" .f32 0x42C8E6D3#32 ((268435456 / 2672307 : ℝ) : EReal)

def algebraic_AdamwAbWOutIdeal_AdamwAbWOutReferenceIdeal [hAdamwAbWOutIdeal : Cert.AdamwAbWOutIdeal.Facts] [hAdamwAbWOutReferenceIdeal : Cert.AdamwAbWOutReferenceIdeal.Facts] : Prop :=
  ∀ (m : (ℓ : Loc Cert.AdamwAbWOutIdeal.nD Cert.AdamwAbWOutIdeal.τ Cert.AdamwAbWOutIdeal.sig) → Buf (Elt Ideal) ℓ) (g : Dev Cert.AdamwAbWOutIdeal.nD → PrngReg)
    (m' : (ℓ : Loc Cert.AdamwAbWOutReferenceIdeal.nD Cert.AdamwAbWOutReferenceIdeal.τ Cert.AdamwAbWOutReferenceIdeal.sig) → Buf (Elt Ideal) ℓ) (g' : Dev Cert.AdamwAbWOutReferenceIdeal.nD → PrngReg), Pre_AdamwAbWOutIdeal m →
    (∀ c : Dev Cert.AdamwAbWOutIdeal.nD,
      m' ((c.tc : Thread Cert.AdamwAbWOutReferenceIdeal.nD Cert.AdamwAbWOutReferenceIdeal.τ).loc Cert.AdamwAbWOutReferenceIdeal.main_arg0) = m ((c.tc : Thread Cert.AdamwAbWOutIdeal.nD Cert.AdamwAbWOutIdeal.τ).loc Cert.AdamwAbWOutIdeal.main_arg0)
      ∧ m' ((c.tc : Thread Cert.AdamwAbWOutReferenceIdeal.nD Cert.AdamwAbWOutReferenceIdeal.τ).loc Cert.AdamwAbWOutReferenceIdeal.main_arg1) = m ((c.tc : Thread Cert.AdamwAbWOutIdeal.nD Cert.AdamwAbWOutIdeal.τ).loc Cert.AdamwAbWOutIdeal.main_arg1)
      ∧ m' ((c.tc : Thread Cert.AdamwAbWOutReferenceIdeal.nD Cert.AdamwAbWOutReferenceIdeal.τ).loc Cert.AdamwAbWOutReferenceIdeal.main_arg2) = m ((c.tc : Thread Cert.AdamwAbWOutIdeal.nD Cert.AdamwAbWOutIdeal.τ).loc Cert.AdamwAbWOutIdeal.main_arg2)
      ∧ m' ((c.tc : Thread Cert.AdamwAbWOutReferenceIdeal.nD Cert.AdamwAbWOutReferenceIdeal.τ).loc Cert.AdamwAbWOutReferenceIdeal.main_arg3) = m ((c.tc : Thread Cert.AdamwAbWOutIdeal.nD Cert.AdamwAbWOutIdeal.τ).loc Cert.AdamwAbWOutIdeal.main_arg3)) →
    ∃ (v0 : (c : Dev Cert.AdamwAbWOutIdeal.nD) → Buf (Elt Ideal) ((c.tc : Thread Cert.AdamwAbWOutIdeal.nD Cert.AdamwAbWOutIdeal.τ).loc Cert.AdamwAbWOutIdeal.main_v0_0)) (v1 : (c : Dev Cert.AdamwAbWOutIdeal.nD) → Buf (Elt Ideal) ((c.tc : Thread Cert.AdamwAbWOutIdeal.nD Cert.AdamwAbWOutIdeal.τ).loc Cert.AdamwAbWOutIdeal.main_v0_1)) (v2 : (c : Dev Cert.AdamwAbWOutIdeal.nD) → Buf (Elt Ideal) ((c.tc : Thread Cert.AdamwAbWOutIdeal.nD Cert.AdamwAbWOutIdeal.τ).loc Cert.AdamwAbWOutIdeal.main_v0_2)),
      θ_run (Cert.AdamwAbWOutIdeal.defs (F := Ideal)) (onTc (τ := Cert.AdamwAbWOutIdeal.τ) (Cert.AdamwAbWOutIdeal.main (F := Ideal))) ⟨m, fun _ => 0, g⟩ (fun r => ∀ c : Dev Cert.AdamwAbWOutIdeal.nD,
          r.2.mem ((c.tc : Thread Cert.AdamwAbWOutIdeal.nD Cert.AdamwAbWOutIdeal.τ).loc Cert.AdamwAbWOutIdeal.main_v0_0) = v0 c
          ∧ r.2.mem ((c.tc : Thread Cert.AdamwAbWOutIdeal.nD Cert.AdamwAbWOutIdeal.τ).loc Cert.AdamwAbWOutIdeal.main_v0_1) = v1 c
          ∧ r.2.mem ((c.tc : Thread Cert.AdamwAbWOutIdeal.nD Cert.AdamwAbWOutIdeal.τ).loc Cert.AdamwAbWOutIdeal.main_v0_2) = v2 c
          ∧ r.2.mem ((c.tc : Thread Cert.AdamwAbWOutIdeal.nD Cert.AdamwAbWOutIdeal.τ).loc Cert.AdamwAbWOutIdeal.main_arg0) = m ((c.tc : Thread Cert.AdamwAbWOutIdeal.nD Cert.AdamwAbWOutIdeal.τ).loc Cert.AdamwAbWOutIdeal.main_arg0)
          ∧ r.2.mem ((c.tc : Thread Cert.AdamwAbWOutIdeal.nD Cert.AdamwAbWOutIdeal.τ).loc Cert.AdamwAbWOutIdeal.main_arg1) = m ((c.tc : Thread Cert.AdamwAbWOutIdeal.nD Cert.AdamwAbWOutIdeal.τ).loc Cert.AdamwAbWOutIdeal.main_arg1)
          ∧ r.2.mem ((c.tc : Thread Cert.AdamwAbWOutIdeal.nD Cert.AdamwAbWOutIdeal.τ).loc Cert.AdamwAbWOutIdeal.main_arg2) = m ((c.tc : Thread Cert.AdamwAbWOutIdeal.nD Cert.AdamwAbWOutIdeal.τ).loc Cert.AdamwAbWOutIdeal.main_arg2)
          ∧ r.2.mem ((c.tc : Thread Cert.AdamwAbWOutIdeal.nD Cert.AdamwAbWOutIdeal.τ).loc Cert.AdamwAbWOutIdeal.main_arg3) = m ((c.tc : Thread Cert.AdamwAbWOutIdeal.nD Cert.AdamwAbWOutIdeal.τ).loc Cert.AdamwAbWOutIdeal.main_arg3))
      ∧ θ_run (Cert.AdamwAbWOutReferenceIdeal.defs (F := Ideal)) (onTc (τ := Cert.AdamwAbWOutReferenceIdeal.τ) (Cert.AdamwAbWOutReferenceIdeal.main (F := Ideal))) ⟨m', fun _ => 0, g'⟩ (fun r => ∀ c : Dev Cert.AdamwAbWOutReferenceIdeal.nD,
          r.2.mem ((c.tc : Thread Cert.AdamwAbWOutReferenceIdeal.nD Cert.AdamwAbWOutReferenceIdeal.τ).loc Cert.AdamwAbWOutReferenceIdeal.main_v23) = v0 c
          ∧ r.2.mem ((c.tc : Thread Cert.AdamwAbWOutReferenceIdeal.nD Cert.AdamwAbWOutReferenceIdeal.τ).loc Cert.AdamwAbWOutReferenceIdeal.main_v4) = v1 c
          ∧ r.2.mem ((c.tc : Thread Cert.AdamwAbWOutReferenceIdeal.nD Cert.AdamwAbWOutReferenceIdeal.τ).loc Cert.AdamwAbWOutReferenceIdeal.main_v10) = v2 c
          ∧ r.2.mem ((c.tc : Thread Cert.AdamwAbWOutReferenceIdeal.nD Cert.AdamwAbWOutReferenceIdeal.τ).loc Cert.AdamwAbWOutReferenceIdeal.main_arg0) = m' ((c.tc : Thread Cert.AdamwAbWOutReferenceIdeal.nD Cert.AdamwAbWOutReferenceIdeal.τ).loc Cert.AdamwAbWOutReferenceIdeal.main_arg0)
          ∧ r.2.mem ((c.tc : Thread Cert.AdamwAbWOutReferenceIdeal.nD Cert.AdamwAbWOutReferenceIdeal.τ).loc Cert.AdamwAbWOutReferenceIdeal.main_arg1) = m' ((c.tc : Thread Cert.AdamwAbWOutReferenceIdeal.nD Cert.AdamwAbWOutReferenceIdeal.τ).loc Cert.AdamwAbWOutReferenceIdeal.main_arg1)
          ∧ r.2.mem ((c.tc : Thread Cert.AdamwAbWOutReferenceIdeal.nD Cert.AdamwAbWOutReferenceIdeal.τ).loc Cert.AdamwAbWOutReferenceIdeal.main_arg2) = m' ((c.tc : Thread Cert.AdamwAbWOutReferenceIdeal.nD Cert.AdamwAbWOutReferenceIdeal.τ).loc Cert.AdamwAbWOutReferenceIdeal.main_arg2)
          ∧ r.2.mem ((c.tc : Thread Cert.AdamwAbWOutReferenceIdeal.nD Cert.AdamwAbWOutReferenceIdeal.τ).loc Cert.AdamwAbWOutReferenceIdeal.main_arg3) = m' ((c.tc : Thread Cert.AdamwAbWOutReferenceIdeal.nD Cert.AdamwAbWOutReferenceIdeal.τ).loc Cert.AdamwAbWOutReferenceIdeal.main_arg3))

def preserves_AdamwDilWQkv_AdamwDilWQkvIdeal : Prop :=
  IdealRules.named_const.Statement Cert.AdamwDilWQkvIdeal.κ "unbias_m" .f32 0x3FC48605#32 ((8388608 / 5463681 : ℝ) : EReal)
  ∧ IdealRules.named_const.Statement Cert.AdamwDilWQkvIdeal.κ "unbias_v" .f32 0x42C8E6D3#32 ((268435456 / 2672307 : ℝ) : EReal)

def algebraic_AdamwDilWQkvIdeal_AdamwDilWQkvReferenceIdeal [hAdamwDilWQkvIdeal : Cert.AdamwDilWQkvIdeal.Facts] [hAdamwDilWQkvReferenceIdeal : Cert.AdamwDilWQkvReferenceIdeal.Facts] : Prop :=
  ∀ (m : (ℓ : Loc Cert.AdamwDilWQkvIdeal.nD Cert.AdamwDilWQkvIdeal.τ Cert.AdamwDilWQkvIdeal.sig) → Buf (Elt Ideal) ℓ) (g : Dev Cert.AdamwDilWQkvIdeal.nD → PrngReg)
    (m' : (ℓ : Loc Cert.AdamwDilWQkvReferenceIdeal.nD Cert.AdamwDilWQkvReferenceIdeal.τ Cert.AdamwDilWQkvReferenceIdeal.sig) → Buf (Elt Ideal) ℓ) (g' : Dev Cert.AdamwDilWQkvReferenceIdeal.nD → PrngReg), Pre_AdamwDilWQkvIdeal m →
    (∀ c : Dev Cert.AdamwDilWQkvIdeal.nD,
      m' ((c.tc : Thread Cert.AdamwDilWQkvReferenceIdeal.nD Cert.AdamwDilWQkvReferenceIdeal.τ).loc Cert.AdamwDilWQkvReferenceIdeal.main_arg0) = m ((c.tc : Thread Cert.AdamwDilWQkvIdeal.nD Cert.AdamwDilWQkvIdeal.τ).loc Cert.AdamwDilWQkvIdeal.main_arg0)
      ∧ m' ((c.tc : Thread Cert.AdamwDilWQkvReferenceIdeal.nD Cert.AdamwDilWQkvReferenceIdeal.τ).loc Cert.AdamwDilWQkvReferenceIdeal.main_arg1) = m ((c.tc : Thread Cert.AdamwDilWQkvIdeal.nD Cert.AdamwDilWQkvIdeal.τ).loc Cert.AdamwDilWQkvIdeal.main_arg1)
      ∧ m' ((c.tc : Thread Cert.AdamwDilWQkvReferenceIdeal.nD Cert.AdamwDilWQkvReferenceIdeal.τ).loc Cert.AdamwDilWQkvReferenceIdeal.main_arg2) = m ((c.tc : Thread Cert.AdamwDilWQkvIdeal.nD Cert.AdamwDilWQkvIdeal.τ).loc Cert.AdamwDilWQkvIdeal.main_arg2)
      ∧ m' ((c.tc : Thread Cert.AdamwDilWQkvReferenceIdeal.nD Cert.AdamwDilWQkvReferenceIdeal.τ).loc Cert.AdamwDilWQkvReferenceIdeal.main_arg3) = m ((c.tc : Thread Cert.AdamwDilWQkvIdeal.nD Cert.AdamwDilWQkvIdeal.τ).loc Cert.AdamwDilWQkvIdeal.main_arg3)) →
    ∃ (v0 : (c : Dev Cert.AdamwDilWQkvIdeal.nD) → Buf (Elt Ideal) ((c.tc : Thread Cert.AdamwDilWQkvIdeal.nD Cert.AdamwDilWQkvIdeal.τ).loc Cert.AdamwDilWQkvIdeal.main_v0_0)) (v1 : (c : Dev Cert.AdamwDilWQkvIdeal.nD) → Buf (Elt Ideal) ((c.tc : Thread Cert.AdamwDilWQkvIdeal.nD Cert.AdamwDilWQkvIdeal.τ).loc Cert.AdamwDilWQkvIdeal.main_v0_1)) (v2 : (c : Dev Cert.AdamwDilWQkvIdeal.nD) → Buf (Elt Ideal) ((c.tc : Thread Cert.AdamwDilWQkvIdeal.nD Cert.AdamwDilWQkvIdeal.τ).loc Cert.AdamwDilWQkvIdeal.main_v0_2)),
      θ_run (Cert.AdamwDilWQkvIdeal.defs (F := Ideal)) (onTc (τ := Cert.AdamwDilWQkvIdeal.τ) (Cert.AdamwDilWQkvIdeal.main (F := Ideal))) ⟨m, fun _ => 0, g⟩ (fun r => ∀ c : Dev Cert.AdamwDilWQkvIdeal.nD,
          r.2.mem ((c.tc : Thread Cert.AdamwDilWQkvIdeal.nD Cert.AdamwDilWQkvIdeal.τ).loc Cert.AdamwDilWQkvIdeal.main_v0_0) = v0 c
          ∧ r.2.mem ((c.tc : Thread Cert.AdamwDilWQkvIdeal.nD Cert.AdamwDilWQkvIdeal.τ).loc Cert.AdamwDilWQkvIdeal.main_v0_1) = v1 c
          ∧ r.2.mem ((c.tc : Thread Cert.AdamwDilWQkvIdeal.nD Cert.AdamwDilWQkvIdeal.τ).loc Cert.AdamwDilWQkvIdeal.main_v0_2) = v2 c
          ∧ r.2.mem ((c.tc : Thread Cert.AdamwDilWQkvIdeal.nD Cert.AdamwDilWQkvIdeal.τ).loc Cert.AdamwDilWQkvIdeal.main_arg0) = m ((c.tc : Thread Cert.AdamwDilWQkvIdeal.nD Cert.AdamwDilWQkvIdeal.τ).loc Cert.AdamwDilWQkvIdeal.main_arg0)
          ∧ r.2.mem ((c.tc : Thread Cert.AdamwDilWQkvIdeal.nD Cert.AdamwDilWQkvIdeal.τ).loc Cert.AdamwDilWQkvIdeal.main_arg1) = m ((c.tc : Thread Cert.AdamwDilWQkvIdeal.nD Cert.AdamwDilWQkvIdeal.τ).loc Cert.AdamwDilWQkvIdeal.main_arg1)
          ∧ r.2.mem ((c.tc : Thread Cert.AdamwDilWQkvIdeal.nD Cert.AdamwDilWQkvIdeal.τ).loc Cert.AdamwDilWQkvIdeal.main_arg2) = m ((c.tc : Thread Cert.AdamwDilWQkvIdeal.nD Cert.AdamwDilWQkvIdeal.τ).loc Cert.AdamwDilWQkvIdeal.main_arg2)
          ∧ r.2.mem ((c.tc : Thread Cert.AdamwDilWQkvIdeal.nD Cert.AdamwDilWQkvIdeal.τ).loc Cert.AdamwDilWQkvIdeal.main_arg3) = m ((c.tc : Thread Cert.AdamwDilWQkvIdeal.nD Cert.AdamwDilWQkvIdeal.τ).loc Cert.AdamwDilWQkvIdeal.main_arg3))
      ∧ θ_run (Cert.AdamwDilWQkvReferenceIdeal.defs (F := Ideal)) (onTc (τ := Cert.AdamwDilWQkvReferenceIdeal.τ) (Cert.AdamwDilWQkvReferenceIdeal.main (F := Ideal))) ⟨m', fun _ => 0, g'⟩ (fun r => ∀ c : Dev Cert.AdamwDilWQkvReferenceIdeal.nD,
          r.2.mem ((c.tc : Thread Cert.AdamwDilWQkvReferenceIdeal.nD Cert.AdamwDilWQkvReferenceIdeal.τ).loc Cert.AdamwDilWQkvReferenceIdeal.main_v23) = v0 c
          ∧ r.2.mem ((c.tc : Thread Cert.AdamwDilWQkvReferenceIdeal.nD Cert.AdamwDilWQkvReferenceIdeal.τ).loc Cert.AdamwDilWQkvReferenceIdeal.main_v4) = v1 c
          ∧ r.2.mem ((c.tc : Thread Cert.AdamwDilWQkvReferenceIdeal.nD Cert.AdamwDilWQkvReferenceIdeal.τ).loc Cert.AdamwDilWQkvReferenceIdeal.main_v10) = v2 c
          ∧ r.2.mem ((c.tc : Thread Cert.AdamwDilWQkvReferenceIdeal.nD Cert.AdamwDilWQkvReferenceIdeal.τ).loc Cert.AdamwDilWQkvReferenceIdeal.main_arg0) = m' ((c.tc : Thread Cert.AdamwDilWQkvReferenceIdeal.nD Cert.AdamwDilWQkvReferenceIdeal.τ).loc Cert.AdamwDilWQkvReferenceIdeal.main_arg0)
          ∧ r.2.mem ((c.tc : Thread Cert.AdamwDilWQkvReferenceIdeal.nD Cert.AdamwDilWQkvReferenceIdeal.τ).loc Cert.AdamwDilWQkvReferenceIdeal.main_arg1) = m' ((c.tc : Thread Cert.AdamwDilWQkvReferenceIdeal.nD Cert.AdamwDilWQkvReferenceIdeal.τ).loc Cert.AdamwDilWQkvReferenceIdeal.main_arg1)
          ∧ r.2.mem ((c.tc : Thread Cert.AdamwDilWQkvReferenceIdeal.nD Cert.AdamwDilWQkvReferenceIdeal.τ).loc Cert.AdamwDilWQkvReferenceIdeal.main_arg2) = m' ((c.tc : Thread Cert.AdamwDilWQkvReferenceIdeal.nD Cert.AdamwDilWQkvReferenceIdeal.τ).loc Cert.AdamwDilWQkvReferenceIdeal.main_arg2)
          ∧ r.2.mem ((c.tc : Thread Cert.AdamwDilWQkvReferenceIdeal.nD Cert.AdamwDilWQkvReferenceIdeal.τ).loc Cert.AdamwDilWQkvReferenceIdeal.main_arg3) = m' ((c.tc : Thread Cert.AdamwDilWQkvReferenceIdeal.nD Cert.AdamwDilWQkvReferenceIdeal.τ).loc Cert.AdamwDilWQkvReferenceIdeal.main_arg3))

def preserves_AdamwDilWOut_AdamwDilWOutIdeal : Prop :=
  IdealRules.named_const.Statement Cert.AdamwDilWOutIdeal.κ "unbias_m" .f32 0x3FC48605#32 ((8388608 / 5463681 : ℝ) : EReal)
  ∧ IdealRules.named_const.Statement Cert.AdamwDilWOutIdeal.κ "unbias_v" .f32 0x42C8E6D3#32 ((268435456 / 2672307 : ℝ) : EReal)

def algebraic_AdamwDilWOutIdeal_AdamwDilWOutReferenceIdeal [hAdamwDilWOutIdeal : Cert.AdamwDilWOutIdeal.Facts] [hAdamwDilWOutReferenceIdeal : Cert.AdamwDilWOutReferenceIdeal.Facts] : Prop :=
  ∀ (m : (ℓ : Loc Cert.AdamwDilWOutIdeal.nD Cert.AdamwDilWOutIdeal.τ Cert.AdamwDilWOutIdeal.sig) → Buf (Elt Ideal) ℓ) (g : Dev Cert.AdamwDilWOutIdeal.nD → PrngReg)
    (m' : (ℓ : Loc Cert.AdamwDilWOutReferenceIdeal.nD Cert.AdamwDilWOutReferenceIdeal.τ Cert.AdamwDilWOutReferenceIdeal.sig) → Buf (Elt Ideal) ℓ) (g' : Dev Cert.AdamwDilWOutReferenceIdeal.nD → PrngReg), Pre_AdamwDilWOutIdeal m →
    (∀ c : Dev Cert.AdamwDilWOutIdeal.nD,
      m' ((c.tc : Thread Cert.AdamwDilWOutReferenceIdeal.nD Cert.AdamwDilWOutReferenceIdeal.τ).loc Cert.AdamwDilWOutReferenceIdeal.main_arg0) = m ((c.tc : Thread Cert.AdamwDilWOutIdeal.nD Cert.AdamwDilWOutIdeal.τ).loc Cert.AdamwDilWOutIdeal.main_arg0)
      ∧ m' ((c.tc : Thread Cert.AdamwDilWOutReferenceIdeal.nD Cert.AdamwDilWOutReferenceIdeal.τ).loc Cert.AdamwDilWOutReferenceIdeal.main_arg1) = m ((c.tc : Thread Cert.AdamwDilWOutIdeal.nD Cert.AdamwDilWOutIdeal.τ).loc Cert.AdamwDilWOutIdeal.main_arg1)
      ∧ m' ((c.tc : Thread Cert.AdamwDilWOutReferenceIdeal.nD Cert.AdamwDilWOutReferenceIdeal.τ).loc Cert.AdamwDilWOutReferenceIdeal.main_arg2) = m ((c.tc : Thread Cert.AdamwDilWOutIdeal.nD Cert.AdamwDilWOutIdeal.τ).loc Cert.AdamwDilWOutIdeal.main_arg2)
      ∧ m' ((c.tc : Thread Cert.AdamwDilWOutReferenceIdeal.nD Cert.AdamwDilWOutReferenceIdeal.τ).loc Cert.AdamwDilWOutReferenceIdeal.main_arg3) = m ((c.tc : Thread Cert.AdamwDilWOutIdeal.nD Cert.AdamwDilWOutIdeal.τ).loc Cert.AdamwDilWOutIdeal.main_arg3)) →
    ∃ (v0 : (c : Dev Cert.AdamwDilWOutIdeal.nD) → Buf (Elt Ideal) ((c.tc : Thread Cert.AdamwDilWOutIdeal.nD Cert.AdamwDilWOutIdeal.τ).loc Cert.AdamwDilWOutIdeal.main_v0_0)) (v1 : (c : Dev Cert.AdamwDilWOutIdeal.nD) → Buf (Elt Ideal) ((c.tc : Thread Cert.AdamwDilWOutIdeal.nD Cert.AdamwDilWOutIdeal.τ).loc Cert.AdamwDilWOutIdeal.main_v0_1)) (v2 : (c : Dev Cert.AdamwDilWOutIdeal.nD) → Buf (Elt Ideal) ((c.tc : Thread Cert.AdamwDilWOutIdeal.nD Cert.AdamwDilWOutIdeal.τ).loc Cert.AdamwDilWOutIdeal.main_v0_2)),
      θ_run (Cert.AdamwDilWOutIdeal.defs (F := Ideal)) (onTc (τ := Cert.AdamwDilWOutIdeal.τ) (Cert.AdamwDilWOutIdeal.main (F := Ideal))) ⟨m, fun _ => 0, g⟩ (fun r => ∀ c : Dev Cert.AdamwDilWOutIdeal.nD,
          r.2.mem ((c.tc : Thread Cert.AdamwDilWOutIdeal.nD Cert.AdamwDilWOutIdeal.τ).loc Cert.AdamwDilWOutIdeal.main_v0_0) = v0 c
          ∧ r.2.mem ((c.tc : Thread Cert.AdamwDilWOutIdeal.nD Cert.AdamwDilWOutIdeal.τ).loc Cert.AdamwDilWOutIdeal.main_v0_1) = v1 c
          ∧ r.2.mem ((c.tc : Thread Cert.AdamwDilWOutIdeal.nD Cert.AdamwDilWOutIdeal.τ).loc Cert.AdamwDilWOutIdeal.main_v0_2) = v2 c
          ∧ r.2.mem ((c.tc : Thread Cert.AdamwDilWOutIdeal.nD Cert.AdamwDilWOutIdeal.τ).loc Cert.AdamwDilWOutIdeal.main_arg0) = m ((c.tc : Thread Cert.AdamwDilWOutIdeal.nD Cert.AdamwDilWOutIdeal.τ).loc Cert.AdamwDilWOutIdeal.main_arg0)
          ∧ r.2.mem ((c.tc : Thread Cert.AdamwDilWOutIdeal.nD Cert.AdamwDilWOutIdeal.τ).loc Cert.AdamwDilWOutIdeal.main_arg1) = m ((c.tc : Thread Cert.AdamwDilWOutIdeal.nD Cert.AdamwDilWOutIdeal.τ).loc Cert.AdamwDilWOutIdeal.main_arg1)
          ∧ r.2.mem ((c.tc : Thread Cert.AdamwDilWOutIdeal.nD Cert.AdamwDilWOutIdeal.τ).loc Cert.AdamwDilWOutIdeal.main_arg2) = m ((c.tc : Thread Cert.AdamwDilWOutIdeal.nD Cert.AdamwDilWOutIdeal.τ).loc Cert.AdamwDilWOutIdeal.main_arg2)
          ∧ r.2.mem ((c.tc : Thread Cert.AdamwDilWOutIdeal.nD Cert.AdamwDilWOutIdeal.τ).loc Cert.AdamwDilWOutIdeal.main_arg3) = m ((c.tc : Thread Cert.AdamwDilWOutIdeal.nD Cert.AdamwDilWOutIdeal.τ).loc Cert.AdamwDilWOutIdeal.main_arg3))
      ∧ θ_run (Cert.AdamwDilWOutReferenceIdeal.defs (F := Ideal)) (onTc (τ := Cert.AdamwDilWOutReferenceIdeal.τ) (Cert.AdamwDilWOutReferenceIdeal.main (F := Ideal))) ⟨m', fun _ => 0, g'⟩ (fun r => ∀ c : Dev Cert.AdamwDilWOutReferenceIdeal.nD,
          r.2.mem ((c.tc : Thread Cert.AdamwDilWOutReferenceIdeal.nD Cert.AdamwDilWOutReferenceIdeal.τ).loc Cert.AdamwDilWOutReferenceIdeal.main_v23) = v0 c
          ∧ r.2.mem ((c.tc : Thread Cert.AdamwDilWOutReferenceIdeal.nD Cert.AdamwDilWOutReferenceIdeal.τ).loc Cert.AdamwDilWOutReferenceIdeal.main_v4) = v1 c
          ∧ r.2.mem ((c.tc : Thread Cert.AdamwDilWOutReferenceIdeal.nD Cert.AdamwDilWOutReferenceIdeal.τ).loc Cert.AdamwDilWOutReferenceIdeal.main_v10) = v2 c
          ∧ r.2.mem ((c.tc : Thread Cert.AdamwDilWOutReferenceIdeal.nD Cert.AdamwDilWOutReferenceIdeal.τ).loc Cert.AdamwDilWOutReferenceIdeal.main_arg0) = m' ((c.tc : Thread Cert.AdamwDilWOutReferenceIdeal.nD Cert.AdamwDilWOutReferenceIdeal.τ).loc Cert.AdamwDilWOutReferenceIdeal.main_arg0)
          ∧ r.2.mem ((c.tc : Thread Cert.AdamwDilWOutReferenceIdeal.nD Cert.AdamwDilWOutReferenceIdeal.τ).loc Cert.AdamwDilWOutReferenceIdeal.main_arg1) = m' ((c.tc : Thread Cert.AdamwDilWOutReferenceIdeal.nD Cert.AdamwDilWOutReferenceIdeal.τ).loc Cert.AdamwDilWOutReferenceIdeal.main_arg1)
          ∧ r.2.mem ((c.tc : Thread Cert.AdamwDilWOutReferenceIdeal.nD Cert.AdamwDilWOutReferenceIdeal.τ).loc Cert.AdamwDilWOutReferenceIdeal.main_arg2) = m' ((c.tc : Thread Cert.AdamwDilWOutReferenceIdeal.nD Cert.AdamwDilWOutReferenceIdeal.τ).loc Cert.AdamwDilWOutReferenceIdeal.main_arg2)
          ∧ r.2.mem ((c.tc : Thread Cert.AdamwDilWOutReferenceIdeal.nD Cert.AdamwDilWOutReferenceIdeal.τ).loc Cert.AdamwDilWOutReferenceIdeal.main_arg3) = m' ((c.tc : Thread Cert.AdamwDilWOutReferenceIdeal.nD Cert.AdamwDilWOutReferenceIdeal.τ).loc Cert.AdamwDilWOutReferenceIdeal.main_arg3))

def preserves_AdamwRelBias_AdamwRelBiasIdeal : Prop :=
  IdealRules.named_const.Statement Cert.AdamwRelBiasIdeal.κ "unbias_m" .f32 0x3FC48605#32 ((8388608 / 5463681 : ℝ) : EReal)
  ∧ IdealRules.named_const.Statement Cert.AdamwRelBiasIdeal.κ "unbias_v" .f32 0x42C8E6D3#32 ((268435456 / 2672307 : ℝ) : EReal)

def algebraic_AdamwRelBiasIdeal_AdamwRelBiasReferenceIdeal [hAdamwRelBiasIdeal : Cert.AdamwRelBiasIdeal.Facts] [hAdamwRelBiasReferenceIdeal : Cert.AdamwRelBiasReferenceIdeal.Facts] : Prop :=
  ∀ (m : (ℓ : Loc Cert.AdamwRelBiasIdeal.nD Cert.AdamwRelBiasIdeal.τ Cert.AdamwRelBiasIdeal.sig) → Buf (Elt Ideal) ℓ) (g : Dev Cert.AdamwRelBiasIdeal.nD → PrngReg)
    (m' : (ℓ : Loc Cert.AdamwRelBiasReferenceIdeal.nD Cert.AdamwRelBiasReferenceIdeal.τ Cert.AdamwRelBiasReferenceIdeal.sig) → Buf (Elt Ideal) ℓ) (g' : Dev Cert.AdamwRelBiasReferenceIdeal.nD → PrngReg), Pre_AdamwRelBiasIdeal m →
    (∀ c : Dev Cert.AdamwRelBiasIdeal.nD,
      m' ((c.tc : Thread Cert.AdamwRelBiasReferenceIdeal.nD Cert.AdamwRelBiasReferenceIdeal.τ).loc Cert.AdamwRelBiasReferenceIdeal.main_arg0) = m ((c.tc : Thread Cert.AdamwRelBiasIdeal.nD Cert.AdamwRelBiasIdeal.τ).loc Cert.AdamwRelBiasIdeal.main_arg0)
      ∧ m' ((c.tc : Thread Cert.AdamwRelBiasReferenceIdeal.nD Cert.AdamwRelBiasReferenceIdeal.τ).loc Cert.AdamwRelBiasReferenceIdeal.main_arg1) = m ((c.tc : Thread Cert.AdamwRelBiasIdeal.nD Cert.AdamwRelBiasIdeal.τ).loc Cert.AdamwRelBiasIdeal.main_arg1)
      ∧ m' ((c.tc : Thread Cert.AdamwRelBiasReferenceIdeal.nD Cert.AdamwRelBiasReferenceIdeal.τ).loc Cert.AdamwRelBiasReferenceIdeal.main_arg2) = m ((c.tc : Thread Cert.AdamwRelBiasIdeal.nD Cert.AdamwRelBiasIdeal.τ).loc Cert.AdamwRelBiasIdeal.main_arg2)
      ∧ m' ((c.tc : Thread Cert.AdamwRelBiasReferenceIdeal.nD Cert.AdamwRelBiasReferenceIdeal.τ).loc Cert.AdamwRelBiasReferenceIdeal.main_arg3) = m ((c.tc : Thread Cert.AdamwRelBiasIdeal.nD Cert.AdamwRelBiasIdeal.τ).loc Cert.AdamwRelBiasIdeal.main_arg3)) →
    ∃ (v0 : (c : Dev Cert.AdamwRelBiasIdeal.nD) → Buf (Elt Ideal) ((c.tc : Thread Cert.AdamwRelBiasIdeal.nD Cert.AdamwRelBiasIdeal.τ).loc Cert.AdamwRelBiasIdeal.main_v0_0)) (v1 : (c : Dev Cert.AdamwRelBiasIdeal.nD) → Buf (Elt Ideal) ((c.tc : Thread Cert.AdamwRelBiasIdeal.nD Cert.AdamwRelBiasIdeal.τ).loc Cert.AdamwRelBiasIdeal.main_v0_1)) (v2 : (c : Dev Cert.AdamwRelBiasIdeal.nD) → Buf (Elt Ideal) ((c.tc : Thread Cert.AdamwRelBiasIdeal.nD Cert.AdamwRelBiasIdeal.τ).loc Cert.AdamwRelBiasIdeal.main_v0_2)),
      θ_run (Cert.AdamwRelBiasIdeal.defs (F := Ideal)) (onTc (τ := Cert.AdamwRelBiasIdeal.τ) (Cert.AdamwRelBiasIdeal.main (F := Ideal))) ⟨m, fun _ => 0, g⟩ (fun r => ∀ c : Dev Cert.AdamwRelBiasIdeal.nD,
          r.2.mem ((c.tc : Thread Cert.AdamwRelBiasIdeal.nD Cert.AdamwRelBiasIdeal.τ).loc Cert.AdamwRelBiasIdeal.main_v0_0) = v0 c
          ∧ r.2.mem ((c.tc : Thread Cert.AdamwRelBiasIdeal.nD Cert.AdamwRelBiasIdeal.τ).loc Cert.AdamwRelBiasIdeal.main_v0_1) = v1 c
          ∧ r.2.mem ((c.tc : Thread Cert.AdamwRelBiasIdeal.nD Cert.AdamwRelBiasIdeal.τ).loc Cert.AdamwRelBiasIdeal.main_v0_2) = v2 c
          ∧ r.2.mem ((c.tc : Thread Cert.AdamwRelBiasIdeal.nD Cert.AdamwRelBiasIdeal.τ).loc Cert.AdamwRelBiasIdeal.main_arg0) = m ((c.tc : Thread Cert.AdamwRelBiasIdeal.nD Cert.AdamwRelBiasIdeal.τ).loc Cert.AdamwRelBiasIdeal.main_arg0)
          ∧ r.2.mem ((c.tc : Thread Cert.AdamwRelBiasIdeal.nD Cert.AdamwRelBiasIdeal.τ).loc Cert.AdamwRelBiasIdeal.main_arg1) = m ((c.tc : Thread Cert.AdamwRelBiasIdeal.nD Cert.AdamwRelBiasIdeal.τ).loc Cert.AdamwRelBiasIdeal.main_arg1)
          ∧ r.2.mem ((c.tc : Thread Cert.AdamwRelBiasIdeal.nD Cert.AdamwRelBiasIdeal.τ).loc Cert.AdamwRelBiasIdeal.main_arg2) = m ((c.tc : Thread Cert.AdamwRelBiasIdeal.nD Cert.AdamwRelBiasIdeal.τ).loc Cert.AdamwRelBiasIdeal.main_arg2)
          ∧ r.2.mem ((c.tc : Thread Cert.AdamwRelBiasIdeal.nD Cert.AdamwRelBiasIdeal.τ).loc Cert.AdamwRelBiasIdeal.main_arg3) = m ((c.tc : Thread Cert.AdamwRelBiasIdeal.nD Cert.AdamwRelBiasIdeal.τ).loc Cert.AdamwRelBiasIdeal.main_arg3))
      ∧ θ_run (Cert.AdamwRelBiasReferenceIdeal.defs (F := Ideal)) (onTc (τ := Cert.AdamwRelBiasReferenceIdeal.τ) (Cert.AdamwRelBiasReferenceIdeal.main (F := Ideal))) ⟨m', fun _ => 0, g'⟩ (fun r => ∀ c : Dev Cert.AdamwRelBiasReferenceIdeal.nD,
          r.2.mem ((c.tc : Thread Cert.AdamwRelBiasReferenceIdeal.nD Cert.AdamwRelBiasReferenceIdeal.τ).loc Cert.AdamwRelBiasReferenceIdeal.main_v23) = v0 c
          ∧ r.2.mem ((c.tc : Thread Cert.AdamwRelBiasReferenceIdeal.nD Cert.AdamwRelBiasReferenceIdeal.τ).loc Cert.AdamwRelBiasReferenceIdeal.main_v4) = v1 c
          ∧ r.2.mem ((c.tc : Thread Cert.AdamwRelBiasReferenceIdeal.nD Cert.AdamwRelBiasReferenceIdeal.τ).loc Cert.AdamwRelBiasReferenceIdeal.main_v10) = v2 c
          ∧ r.2.mem ((c.tc : Thread Cert.AdamwRelBiasReferenceIdeal.nD Cert.AdamwRelBiasReferenceIdeal.τ).loc Cert.AdamwRelBiasReferenceIdeal.main_arg0) = m' ((c.tc : Thread Cert.AdamwRelBiasReferenceIdeal.nD Cert.AdamwRelBiasReferenceIdeal.τ).loc Cert.AdamwRelBiasReferenceIdeal.main_arg0)
          ∧ r.2.mem ((c.tc : Thread Cert.AdamwRelBiasReferenceIdeal.nD Cert.AdamwRelBiasReferenceIdeal.τ).loc Cert.AdamwRelBiasReferenceIdeal.main_arg1) = m' ((c.tc : Thread Cert.AdamwRelBiasReferenceIdeal.nD Cert.AdamwRelBiasReferenceIdeal.τ).loc Cert.AdamwRelBiasReferenceIdeal.main_arg1)
          ∧ r.2.mem ((c.tc : Thread Cert.AdamwRelBiasReferenceIdeal.nD Cert.AdamwRelBiasReferenceIdeal.τ).loc Cert.AdamwRelBiasReferenceIdeal.main_arg2) = m' ((c.tc : Thread Cert.AdamwRelBiasReferenceIdeal.nD Cert.AdamwRelBiasReferenceIdeal.τ).loc Cert.AdamwRelBiasReferenceIdeal.main_arg2)
          ∧ r.2.mem ((c.tc : Thread Cert.AdamwRelBiasReferenceIdeal.nD Cert.AdamwRelBiasReferenceIdeal.τ).loc Cert.AdamwRelBiasReferenceIdeal.main_arg3) = m' ((c.tc : Thread Cert.AdamwRelBiasReferenceIdeal.nD Cert.AdamwRelBiasReferenceIdeal.τ).loc Cert.AdamwRelBiasReferenceIdeal.main_arg3))

def preserves_AdamwMlpW1_AdamwMlpW1Ideal : Prop :=
  IdealRules.named_const.Statement Cert.AdamwMlpW1Ideal.κ "unbias_m" .f32 0x3FC48605#32 ((8388608 / 5463681 : ℝ) : EReal)
  ∧ IdealRules.named_const.Statement Cert.AdamwMlpW1Ideal.κ "unbias_v" .f32 0x42C8E6D3#32 ((268435456 / 2672307 : ℝ) : EReal)

def algebraic_AdamwMlpW1Ideal_AdamwMlpW1ReferenceIdeal [hAdamwMlpW1Ideal : Cert.AdamwMlpW1Ideal.Facts] [hAdamwMlpW1ReferenceIdeal : Cert.AdamwMlpW1ReferenceIdeal.Facts] : Prop :=
  ∀ (m : (ℓ : Loc Cert.AdamwMlpW1Ideal.nD Cert.AdamwMlpW1Ideal.τ Cert.AdamwMlpW1Ideal.sig) → Buf (Elt Ideal) ℓ) (g : Dev Cert.AdamwMlpW1Ideal.nD → PrngReg)
    (m' : (ℓ : Loc Cert.AdamwMlpW1ReferenceIdeal.nD Cert.AdamwMlpW1ReferenceIdeal.τ Cert.AdamwMlpW1ReferenceIdeal.sig) → Buf (Elt Ideal) ℓ) (g' : Dev Cert.AdamwMlpW1ReferenceIdeal.nD → PrngReg), Pre_AdamwMlpW1Ideal m →
    (∀ c : Dev Cert.AdamwMlpW1Ideal.nD,
      m' ((c.tc : Thread Cert.AdamwMlpW1ReferenceIdeal.nD Cert.AdamwMlpW1ReferenceIdeal.τ).loc Cert.AdamwMlpW1ReferenceIdeal.main_arg0) = m ((c.tc : Thread Cert.AdamwMlpW1Ideal.nD Cert.AdamwMlpW1Ideal.τ).loc Cert.AdamwMlpW1Ideal.main_arg0)
      ∧ m' ((c.tc : Thread Cert.AdamwMlpW1ReferenceIdeal.nD Cert.AdamwMlpW1ReferenceIdeal.τ).loc Cert.AdamwMlpW1ReferenceIdeal.main_arg1) = m ((c.tc : Thread Cert.AdamwMlpW1Ideal.nD Cert.AdamwMlpW1Ideal.τ).loc Cert.AdamwMlpW1Ideal.main_arg1)
      ∧ m' ((c.tc : Thread Cert.AdamwMlpW1ReferenceIdeal.nD Cert.AdamwMlpW1ReferenceIdeal.τ).loc Cert.AdamwMlpW1ReferenceIdeal.main_arg2) = m ((c.tc : Thread Cert.AdamwMlpW1Ideal.nD Cert.AdamwMlpW1Ideal.τ).loc Cert.AdamwMlpW1Ideal.main_arg2)
      ∧ m' ((c.tc : Thread Cert.AdamwMlpW1ReferenceIdeal.nD Cert.AdamwMlpW1ReferenceIdeal.τ).loc Cert.AdamwMlpW1ReferenceIdeal.main_arg3) = m ((c.tc : Thread Cert.AdamwMlpW1Ideal.nD Cert.AdamwMlpW1Ideal.τ).loc Cert.AdamwMlpW1Ideal.main_arg3)) →
    ∃ (v0 : (c : Dev Cert.AdamwMlpW1Ideal.nD) → Buf (Elt Ideal) ((c.tc : Thread Cert.AdamwMlpW1Ideal.nD Cert.AdamwMlpW1Ideal.τ).loc Cert.AdamwMlpW1Ideal.main_v0_0)) (v1 : (c : Dev Cert.AdamwMlpW1Ideal.nD) → Buf (Elt Ideal) ((c.tc : Thread Cert.AdamwMlpW1Ideal.nD Cert.AdamwMlpW1Ideal.τ).loc Cert.AdamwMlpW1Ideal.main_v0_1)) (v2 : (c : Dev Cert.AdamwMlpW1Ideal.nD) → Buf (Elt Ideal) ((c.tc : Thread Cert.AdamwMlpW1Ideal.nD Cert.AdamwMlpW1Ideal.τ).loc Cert.AdamwMlpW1Ideal.main_v0_2)),
      θ_run (Cert.AdamwMlpW1Ideal.defs (F := Ideal)) (onTc (τ := Cert.AdamwMlpW1Ideal.τ) (Cert.AdamwMlpW1Ideal.main (F := Ideal))) ⟨m, fun _ => 0, g⟩ (fun r => ∀ c : Dev Cert.AdamwMlpW1Ideal.nD,
          r.2.mem ((c.tc : Thread Cert.AdamwMlpW1Ideal.nD Cert.AdamwMlpW1Ideal.τ).loc Cert.AdamwMlpW1Ideal.main_v0_0) = v0 c
          ∧ r.2.mem ((c.tc : Thread Cert.AdamwMlpW1Ideal.nD Cert.AdamwMlpW1Ideal.τ).loc Cert.AdamwMlpW1Ideal.main_v0_1) = v1 c
          ∧ r.2.mem ((c.tc : Thread Cert.AdamwMlpW1Ideal.nD Cert.AdamwMlpW1Ideal.τ).loc Cert.AdamwMlpW1Ideal.main_v0_2) = v2 c
          ∧ r.2.mem ((c.tc : Thread Cert.AdamwMlpW1Ideal.nD Cert.AdamwMlpW1Ideal.τ).loc Cert.AdamwMlpW1Ideal.main_arg0) = m ((c.tc : Thread Cert.AdamwMlpW1Ideal.nD Cert.AdamwMlpW1Ideal.τ).loc Cert.AdamwMlpW1Ideal.main_arg0)
          ∧ r.2.mem ((c.tc : Thread Cert.AdamwMlpW1Ideal.nD Cert.AdamwMlpW1Ideal.τ).loc Cert.AdamwMlpW1Ideal.main_arg1) = m ((c.tc : Thread Cert.AdamwMlpW1Ideal.nD Cert.AdamwMlpW1Ideal.τ).loc Cert.AdamwMlpW1Ideal.main_arg1)
          ∧ r.2.mem ((c.tc : Thread Cert.AdamwMlpW1Ideal.nD Cert.AdamwMlpW1Ideal.τ).loc Cert.AdamwMlpW1Ideal.main_arg2) = m ((c.tc : Thread Cert.AdamwMlpW1Ideal.nD Cert.AdamwMlpW1Ideal.τ).loc Cert.AdamwMlpW1Ideal.main_arg2)
          ∧ r.2.mem ((c.tc : Thread Cert.AdamwMlpW1Ideal.nD Cert.AdamwMlpW1Ideal.τ).loc Cert.AdamwMlpW1Ideal.main_arg3) = m ((c.tc : Thread Cert.AdamwMlpW1Ideal.nD Cert.AdamwMlpW1Ideal.τ).loc Cert.AdamwMlpW1Ideal.main_arg3))
      ∧ θ_run (Cert.AdamwMlpW1ReferenceIdeal.defs (F := Ideal)) (onTc (τ := Cert.AdamwMlpW1ReferenceIdeal.τ) (Cert.AdamwMlpW1ReferenceIdeal.main (F := Ideal))) ⟨m', fun _ => 0, g'⟩ (fun r => ∀ c : Dev Cert.AdamwMlpW1ReferenceIdeal.nD,
          r.2.mem ((c.tc : Thread Cert.AdamwMlpW1ReferenceIdeal.nD Cert.AdamwMlpW1ReferenceIdeal.τ).loc Cert.AdamwMlpW1ReferenceIdeal.main_v23) = v0 c
          ∧ r.2.mem ((c.tc : Thread Cert.AdamwMlpW1ReferenceIdeal.nD Cert.AdamwMlpW1ReferenceIdeal.τ).loc Cert.AdamwMlpW1ReferenceIdeal.main_v4) = v1 c
          ∧ r.2.mem ((c.tc : Thread Cert.AdamwMlpW1ReferenceIdeal.nD Cert.AdamwMlpW1ReferenceIdeal.τ).loc Cert.AdamwMlpW1ReferenceIdeal.main_v10) = v2 c
          ∧ r.2.mem ((c.tc : Thread Cert.AdamwMlpW1ReferenceIdeal.nD Cert.AdamwMlpW1ReferenceIdeal.τ).loc Cert.AdamwMlpW1ReferenceIdeal.main_arg0) = m' ((c.tc : Thread Cert.AdamwMlpW1ReferenceIdeal.nD Cert.AdamwMlpW1ReferenceIdeal.τ).loc Cert.AdamwMlpW1ReferenceIdeal.main_arg0)
          ∧ r.2.mem ((c.tc : Thread Cert.AdamwMlpW1ReferenceIdeal.nD Cert.AdamwMlpW1ReferenceIdeal.τ).loc Cert.AdamwMlpW1ReferenceIdeal.main_arg1) = m' ((c.tc : Thread Cert.AdamwMlpW1ReferenceIdeal.nD Cert.AdamwMlpW1ReferenceIdeal.τ).loc Cert.AdamwMlpW1ReferenceIdeal.main_arg1)
          ∧ r.2.mem ((c.tc : Thread Cert.AdamwMlpW1ReferenceIdeal.nD Cert.AdamwMlpW1ReferenceIdeal.τ).loc Cert.AdamwMlpW1ReferenceIdeal.main_arg2) = m' ((c.tc : Thread Cert.AdamwMlpW1ReferenceIdeal.nD Cert.AdamwMlpW1ReferenceIdeal.τ).loc Cert.AdamwMlpW1ReferenceIdeal.main_arg2)
          ∧ r.2.mem ((c.tc : Thread Cert.AdamwMlpW1ReferenceIdeal.nD Cert.AdamwMlpW1ReferenceIdeal.τ).loc Cert.AdamwMlpW1ReferenceIdeal.main_arg3) = m' ((c.tc : Thread Cert.AdamwMlpW1ReferenceIdeal.nD Cert.AdamwMlpW1ReferenceIdeal.τ).loc Cert.AdamwMlpW1ReferenceIdeal.main_arg3))

def preserves_AdaFwd_AdaFwdIdeal : Prop :=
  True

def algebraic_AdaFwdIdeal_AdaFwdReferenceIdeal [hAdaFwdIdeal : Cert.AdaFwdIdeal.Facts] [hAdaFwdReferenceIdeal : Cert.AdaFwdReferenceIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdReferenceIdeal.nD Cert.AdaFwdReferenceIdeal.τ Cert.AdaFwdReferenceIdeal.sig) → Buf (Elt Ideal) ℓ) (g' : Dev Cert.AdaFwdReferenceIdeal.nD → PrngReg), Pre_AdaFwdIdeal m →
    (∀ c : Dev Cert.AdaFwdIdeal.nD,
      m' ((c.tc : Thread Cert.AdaFwdReferenceIdeal.nD Cert.AdaFwdReferenceIdeal.τ).loc Cert.AdaFwdReferenceIdeal.main_arg0) = m ((c.tc : Thread Cert.AdaFwdIdeal.nD Cert.AdaFwdIdeal.τ).loc Cert.AdaFwdIdeal.main_arg0)
      ∧ m' ((c.tc : Thread Cert.AdaFwdReferenceIdeal.nD Cert.AdaFwdReferenceIdeal.τ).loc Cert.AdaFwdReferenceIdeal.main_arg1) = m ((c.tc : Thread Cert.AdaFwdIdeal.nD Cert.AdaFwdIdeal.τ).loc Cert.AdaFwdIdeal.main_arg1)
      ∧ m' ((c.tc : Thread Cert.AdaFwdReferenceIdeal.nD Cert.AdaFwdReferenceIdeal.τ).loc Cert.AdaFwdReferenceIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v0)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v0) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdReferenceIdeal.defs (F := Ideal)) (onTc (τ := Cert.AdaFwdReferenceIdeal.τ) (Cert.AdaFwdReferenceIdeal.main (F := Ideal))) ⟨m', fun _ => 0, g'⟩ (fun r => ∀ c : Dev Cert.AdaFwdReferenceIdeal.nD,
          r.2.mem ((c.tc : Thread Cert.AdaFwdReferenceIdeal.nD Cert.AdaFwdReferenceIdeal.τ).loc Cert.AdaFwdReferenceIdeal.main_v17) = v0 c
          ∧ r.2.mem ((c.tc : Thread Cert.AdaFwdReferenceIdeal.nD Cert.AdaFwdReferenceIdeal.τ).loc Cert.AdaFwdReferenceIdeal.main_arg0) = m' ((c.tc : Thread Cert.AdaFwdReferenceIdeal.nD Cert.AdaFwdReferenceIdeal.τ).loc Cert.AdaFwdReferenceIdeal.main_arg0)
          ∧ r.2.mem ((c.tc : Thread Cert.AdaFwdReferenceIdeal.nD Cert.AdaFwdReferenceIdeal.τ).loc Cert.AdaFwdReferenceIdeal.main_arg1) = m' ((c.tc : Thread Cert.AdaFwdReferenceIdeal.nD Cert.AdaFwdReferenceIdeal.τ).loc Cert.AdaFwdReferenceIdeal.main_arg1)
          ∧ r.2.mem ((c.tc : Thread Cert.AdaFwdReferenceIdeal.nD Cert.AdaFwdReferenceIdeal.τ).loc Cert.AdaFwdReferenceIdeal.main_arg2) = m' ((c.tc : Thread Cert.AdaFwdReferenceIdeal.nD Cert.AdaFwdReferenceIdeal.τ).loc Cert.AdaFwdReferenceIdeal.main_arg2))

def preserves_AdaGrad_AdaGradIdeal : Prop :=
  True

def algebraic_AdaGradIdeal_AdaGradReferenceIdeal [hAdaGradIdeal : Cert.AdaGradIdeal.Facts] [hAdaGradReferenceIdeal : Cert.AdaGradReferenceIdeal.Facts] : Prop :=
  ∀ (m : (ℓ : Loc Cert.AdaGradIdeal.nD Cert.AdaGradIdeal.τ Cert.AdaGradIdeal.sig) → Buf (Elt Ideal) ℓ) (g : Dev Cert.AdaGradIdeal.nD → PrngReg)
    (m' : (ℓ : Loc Cert.AdaGradReferenceIdeal.nD Cert.AdaGradReferenceIdeal.τ Cert.AdaGradReferenceIdeal.sig) → Buf (Elt Ideal) ℓ) (g' : Dev Cert.AdaGradReferenceIdeal.nD → PrngReg), Pre_AdaGradIdeal m →
    (∀ c : Dev Cert.AdaGradIdeal.nD,
      m' ((c.tc : Thread Cert.AdaGradReferenceIdeal.nD Cert.AdaGradReferenceIdeal.τ).loc Cert.AdaGradReferenceIdeal.main_arg0) = m ((c.tc : Thread Cert.AdaGradIdeal.nD Cert.AdaGradIdeal.τ).loc Cert.AdaGradIdeal.main_arg0)
      ∧ m' ((c.tc : Thread Cert.AdaGradReferenceIdeal.nD Cert.AdaGradReferenceIdeal.τ).loc Cert.AdaGradReferenceIdeal.main_arg1) = m ((c.tc : Thread Cert.AdaGradIdeal.nD Cert.AdaGradIdeal.τ).loc Cert.AdaGradIdeal.main_arg1)) →
    ∃ (v0 : (c : Dev Cert.AdaGradIdeal.nD) → Buf (Elt Ideal) ((c.tc : Thread Cert.AdaGradIdeal.nD Cert.AdaGradIdeal.τ).loc Cert.AdaGradIdeal.main_v4)),
      θ_run (Cert.AdaGradIdeal.defs (F := Ideal)) (onTc (τ := Cert.AdaGradIdeal.τ) (Cert.AdaGradIdeal.main (F := Ideal))) ⟨m, fun _ => 0, g⟩ (fun r => ∀ c : Dev Cert.AdaGradIdeal.nD,
          r.2.mem ((c.tc : Thread Cert.AdaGradIdeal.nD Cert.AdaGradIdeal.τ).loc Cert.AdaGradIdeal.main_v4) = v0 c
          ∧ r.2.mem ((c.tc : Thread Cert.AdaGradIdeal.nD Cert.AdaGradIdeal.τ).loc Cert.AdaGradIdeal.main_arg0) = m ((c.tc : Thread Cert.AdaGradIdeal.nD Cert.AdaGradIdeal.τ).loc Cert.AdaGradIdeal.main_arg0)
          ∧ r.2.mem ((c.tc : Thread Cert.AdaGradIdeal.nD Cert.AdaGradIdeal.τ).loc Cert.AdaGradIdeal.main_arg1) = m ((c.tc : Thread Cert.AdaGradIdeal.nD Cert.AdaGradIdeal.τ).loc Cert.AdaGradIdeal.main_arg1))
      ∧ θ_run (Cert.AdaGradReferenceIdeal.defs (F := Ideal)) (onTc (τ := Cert.AdaGradReferenceIdeal.τ) (Cert.AdaGradReferenceIdeal.main (F := Ideal))) ⟨m', fun _ => 0, g'⟩ (fun r => ∀ c : Dev Cert.AdaGradReferenceIdeal.nD,
          r.2.mem ((c.tc : Thread Cert.AdaGradReferenceIdeal.nD Cert.AdaGradReferenceIdeal.τ).loc Cert.AdaGradReferenceIdeal.main_v11) = v0 c
          ∧ r.2.mem ((c.tc : Thread Cert.AdaGradReferenceIdeal.nD Cert.AdaGradReferenceIdeal.τ).loc Cert.AdaGradReferenceIdeal.main_arg0) = m' ((c.tc : Thread Cert.AdaGradReferenceIdeal.nD Cert.AdaGradReferenceIdeal.τ).loc Cert.AdaGradReferenceIdeal.main_arg0)
          ∧ r.2.mem ((c.tc : Thread Cert.AdaGradReferenceIdeal.nD Cert.AdaGradReferenceIdeal.τ).loc Cert.AdaGradReferenceIdeal.main_arg1) = m' ((c.tc : Thread Cert.AdaGradReferenceIdeal.nD Cert.AdaGradReferenceIdeal.τ).loc Cert.AdaGradReferenceIdeal.main_arg1))

def preserves_ModIn_ModInIdeal : Prop :=
  True

def algebraic_ModInIdeal_ModInReferenceIdeal [hModInIdeal : Cert.ModInIdeal.Facts] [hModInReferenceIdeal : Cert.ModInReferenceIdeal.Facts] : Prop :=
  ∀ (m : (ℓ : Loc Cert.ModInIdeal.nD Cert.ModInIdeal.τ Cert.ModInIdeal.sig) → Buf (Elt Ideal) ℓ) (g : Dev Cert.ModInIdeal.nD → PrngReg)
    (m' : (ℓ : Loc Cert.ModInReferenceIdeal.nD Cert.ModInReferenceIdeal.τ Cert.ModInReferenceIdeal.sig) → Buf (Elt Ideal) ℓ) (g' : Dev Cert.ModInReferenceIdeal.nD → PrngReg), Pre_ModInIdeal m →
    (∀ c : Dev Cert.ModInIdeal.nD,
      m' ((c.tc : Thread Cert.ModInReferenceIdeal.nD Cert.ModInReferenceIdeal.τ).loc Cert.ModInReferenceIdeal.main_arg0) = m ((c.tc : Thread Cert.ModInIdeal.nD Cert.ModInIdeal.τ).loc Cert.ModInIdeal.main_arg0)
      ∧ m' ((c.tc : Thread Cert.ModInReferenceIdeal.nD Cert.ModInReferenceIdeal.τ).loc Cert.ModInReferenceIdeal.main_arg1) = m ((c.tc : Thread Cert.ModInIdeal.nD Cert.ModInIdeal.τ).loc Cert.ModInIdeal.main_arg1)
      ∧ m' ((c.tc : Thread Cert.ModInReferenceIdeal.nD Cert.ModInReferenceIdeal.τ).loc Cert.ModInReferenceIdeal.main_arg2) = m ((c.tc : Thread Cert.ModInIdeal.nD Cert.ModInIdeal.τ).loc Cert.ModInIdeal.main_arg2)) →
    ∃ (v0 : (c : Dev Cert.ModInIdeal.nD) → Buf (Elt Ideal) ((c.tc : Thread Cert.ModInIdeal.nD Cert.ModInIdeal.τ).loc Cert.ModInIdeal.main_v0)),
      θ_run (Cert.ModInIdeal.defs (F := Ideal)) (onTc (τ := Cert.ModInIdeal.τ) (Cert.ModInIdeal.main (F := Ideal))) ⟨m, fun _ => 0, g⟩ (fun r => ∀ c : Dev Cert.ModInIdeal.nD,
          r.2.mem ((c.tc : Thread Cert.ModInIdeal.nD Cert.ModInIdeal.τ).loc Cert.ModInIdeal.main_v0) = v0 c
          ∧ r.2.mem ((c.tc : Thread Cert.ModInIdeal.nD Cert.ModInIdeal.τ).loc Cert.ModInIdeal.main_arg0) = m ((c.tc : Thread Cert.ModInIdeal.nD Cert.ModInIdeal.τ).loc Cert.ModInIdeal.main_arg0)
          ∧ r.2.mem ((c.tc : Thread Cert.ModInIdeal.nD Cert.ModInIdeal.τ).loc Cert.ModInIdeal.main_arg1) = m ((c.tc : Thread Cert.ModInIdeal.nD Cert.ModInIdeal.τ).loc Cert.ModInIdeal.main_arg1)
          ∧ r.2.mem ((c.tc : Thread Cert.ModInIdeal.nD Cert.ModInIdeal.τ).loc Cert.ModInIdeal.main_arg2) = m ((c.tc : Thread Cert.ModInIdeal.nD Cert.ModInIdeal.τ).loc Cert.ModInIdeal.main_arg2))
      ∧ θ_run (Cert.ModInReferenceIdeal.defs (F := Ideal)) (onTc (τ := Cert.ModInReferenceIdeal.τ) (Cert.ModInReferenceIdeal.main (F := Ideal))) ⟨m', fun _ => 0, g'⟩ (fun r => ∀ c : Dev Cert.ModInReferenceIdeal.nD,
          r.2.mem ((c.tc : Thread Cert.ModInReferenceIdeal.nD Cert.ModInReferenceIdeal.τ).loc Cert.ModInReferenceIdeal.main_v5) = v0 c
          ∧ r.2.mem ((c.tc : Thread Cert.ModInReferenceIdeal.nD Cert.ModInReferenceIdeal.τ).loc Cert.ModInReferenceIdeal.main_arg0) = m' ((c.tc : Thread Cert.ModInReferenceIdeal.nD Cert.ModInReferenceIdeal.τ).loc Cert.ModInReferenceIdeal.main_arg0)
          ∧ r.2.mem ((c.tc : Thread Cert.ModInReferenceIdeal.nD Cert.ModInReferenceIdeal.τ).loc Cert.ModInReferenceIdeal.main_arg1) = m' ((c.tc : Thread Cert.ModInReferenceIdeal.nD Cert.ModInReferenceIdeal.τ).loc Cert.ModInReferenceIdeal.main_arg1)
          ∧ r.2.mem ((c.tc : Thread Cert.ModInReferenceIdeal.nD Cert.ModInReferenceIdeal.τ).loc Cert.ModInReferenceIdeal.main_arg2) = m' ((c.tc : Thread Cert.ModInReferenceIdeal.nD Cert.ModInReferenceIdeal.τ).loc Cert.ModInReferenceIdeal.main_arg2))

def preserves_LnMix_LnMixIdeal : Prop :=
  True

def algebraic_LnMixIdeal_LnMixReferenceIdeal [hLnMixIdeal : Cert.LnMixIdeal.Facts] [hLnMixReferenceIdeal : Cert.LnMixReferenceIdeal.Facts] : Prop :=
  ∀ (m : (ℓ : Loc Cert.LnMixIdeal.nD Cert.LnMixIdeal.τ Cert.LnMixIdeal.sig) → Buf (Elt Ideal) ℓ) (g : Dev Cert.LnMixIdeal.nD → PrngReg)
    (m' : (ℓ : Loc Cert.LnMixReferenceIdeal.nD Cert.LnMixReferenceIdeal.τ Cert.LnMixReferenceIdeal.sig) → Buf (Elt Ideal) ℓ) (g' : Dev Cert.LnMixReferenceIdeal.nD → PrngReg), Pre_LnMixIdeal m →
    (∀ c : Dev Cert.LnMixIdeal.nD,
      m' ((c.tc : Thread Cert.LnMixReferenceIdeal.nD Cert.LnMixReferenceIdeal.τ).loc Cert.LnMixReferenceIdeal.main_arg0) = m ((c.tc : Thread Cert.LnMixIdeal.nD Cert.LnMixIdeal.τ).loc Cert.LnMixIdeal.main_arg0)
      ∧ m' ((c.tc : Thread Cert.LnMixReferenceIdeal.nD Cert.LnMixReferenceIdeal.τ).loc Cert.LnMixReferenceIdeal.main_arg1) = m ((c.tc : Thread Cert.LnMixIdeal.nD Cert.LnMixIdeal.τ).loc Cert.LnMixIdeal.main_arg1)
      ∧ m' ((c.tc : Thread Cert.LnMixReferenceIdeal.nD Cert.LnMixReferenceIdeal.τ).loc Cert.LnMixReferenceIdeal.main_arg2) = m ((c.tc : Thread Cert.LnMixIdeal.nD Cert.LnMixIdeal.τ).loc Cert.LnMixIdeal.main_arg2)
      ∧ m' ((c.tc : Thread Cert.LnMixReferenceIdeal.nD Cert.LnMixReferenceIdeal.τ).loc Cert.LnMixReferenceIdeal.main_arg3) = m ((c.tc : Thread Cert.LnMixIdeal.nD Cert.LnMixIdeal.τ).loc Cert.LnMixIdeal.main_arg3)
      ∧ m' ((c.tc : Thread Cert.LnMixReferenceIdeal.nD Cert.LnMixReferenceIdeal.τ).loc Cert.LnMixReferenceIdeal.main_arg4) = m ((c.tc : Thread Cert.LnMixIdeal.nD Cert.LnMixIdeal.τ).loc Cert.LnMixIdeal.main_arg4)
      ∧ m' ((c.tc : Thread Cert.LnMixReferenceIdeal.nD Cert.LnMixReferenceIdeal.τ).loc Cert.LnMixReferenceIdeal.main_arg5) = m ((c.tc : Thread Cert.LnMixIdeal.nD Cert.LnMixIdeal.τ).loc Cert.LnMixIdeal.main_arg5)
      ∧ m' ((c.tc : Thread Cert.LnMixReferenceIdeal.nD Cert.LnMixReferenceIdeal.τ).loc Cert.LnMixReferenceIdeal.main_arg6) = m ((c.tc : Thread Cert.LnMixIdeal.nD Cert.LnMixIdeal.τ).loc Cert.LnMixIdeal.main_arg6)) →
    ∃ (v0 : (c : Dev Cert.LnMixIdeal.nD) → Buf (Elt Ideal) ((c.tc : Thread Cert.LnMixIdeal.nD Cert.LnMixIdeal.τ).loc Cert.LnMixIdeal.main_v0_0)) (v1 : (c : Dev Cert.LnMixIdeal.nD) → Buf (Elt Ideal) ((c.tc : Thread Cert.LnMixIdeal.nD Cert.LnMixIdeal.τ).loc Cert.LnMixIdeal.main_v0_1)),
      θ_run (Cert.LnMixIdeal.defs (F := Ideal)) (onTc (τ := Cert.LnMixIdeal.τ) (Cert.LnMixIdeal.main (F := Ideal))) ⟨m, fun _ => 0, g⟩ (fun r => ∀ c : Dev Cert.LnMixIdeal.nD,
          r.2.mem ((c.tc : Thread Cert.LnMixIdeal.nD Cert.LnMixIdeal.τ).loc Cert.LnMixIdeal.main_v0_0) = v0 c
          ∧ r.2.mem ((c.tc : Thread Cert.LnMixIdeal.nD Cert.LnMixIdeal.τ).loc Cert.LnMixIdeal.main_v0_1) = v1 c
          ∧ r.2.mem ((c.tc : Thread Cert.LnMixIdeal.nD Cert.LnMixIdeal.τ).loc Cert.LnMixIdeal.main_arg0) = m ((c.tc : Thread Cert.LnMixIdeal.nD Cert.LnMixIdeal.τ).loc Cert.LnMixIdeal.main_arg0)
          ∧ r.2.mem ((c.tc : Thread Cert.LnMixIdeal.nD Cert.LnMixIdeal.τ).loc Cert.LnMixIdeal.main_arg1) = m ((c.tc : Thread Cert.LnMixIdeal.nD Cert.LnMixIdeal.τ).loc Cert.LnMixIdeal.main_arg1)
          ∧ r.2.mem ((c.tc : Thread Cert.LnMixIdeal.nD Cert.LnMixIdeal.τ).loc Cert.LnMixIdeal.main_arg2) = m ((c.tc : Thread Cert.LnMixIdeal.nD Cert.LnMixIdeal.τ).loc Cert.LnMixIdeal.main_arg2)
          ∧ r.2.mem ((c.tc : Thread Cert.LnMixIdeal.nD Cert.LnMixIdeal.τ).loc Cert.LnMixIdeal.main_arg3) = m ((c.tc : Thread Cert.LnMixIdeal.nD Cert.LnMixIdeal.τ).loc Cert.LnMixIdeal.main_arg3)
          ∧ r.2.mem ((c.tc : Thread Cert.LnMixIdeal.nD Cert.LnMixIdeal.τ).loc Cert.LnMixIdeal.main_arg4) = m ((c.tc : Thread Cert.LnMixIdeal.nD Cert.LnMixIdeal.τ).loc Cert.LnMixIdeal.main_arg4)
          ∧ r.2.mem ((c.tc : Thread Cert.LnMixIdeal.nD Cert.LnMixIdeal.τ).loc Cert.LnMixIdeal.main_arg5) = m ((c.tc : Thread Cert.LnMixIdeal.nD Cert.LnMixIdeal.τ).loc Cert.LnMixIdeal.main_arg5)
          ∧ r.2.mem ((c.tc : Thread Cert.LnMixIdeal.nD Cert.LnMixIdeal.τ).loc Cert.LnMixIdeal.main_arg6) = m ((c.tc : Thread Cert.LnMixIdeal.nD Cert.LnMixIdeal.τ).loc Cert.LnMixIdeal.main_arg6))
      ∧ θ_run (Cert.LnMixReferenceIdeal.defs (F := Ideal)) (onTc (τ := Cert.LnMixReferenceIdeal.τ) (Cert.LnMixReferenceIdeal.main (F := Ideal))) ⟨m', fun _ => 0, g'⟩ (fun r => ∀ c : Dev Cert.LnMixReferenceIdeal.nD,
          r.2.mem ((c.tc : Thread Cert.LnMixReferenceIdeal.nD Cert.LnMixReferenceIdeal.τ).loc Cert.LnMixReferenceIdeal.main_v28) = v0 c
          ∧ r.2.mem ((c.tc : Thread Cert.LnMixReferenceIdeal.nD Cert.LnMixReferenceIdeal.τ).loc Cert.LnMixReferenceIdeal.main_v34) = v1 c
          ∧ r.2.mem ((c.tc : Thread Cert.LnMixReferenceIdeal.nD Cert.LnMixReferenceIdeal.τ).loc Cert.LnMixReferenceIdeal.main_arg0) = m' ((c.tc : Thread Cert.LnMixReferenceIdeal.nD Cert.LnMixReferenceIdeal.τ).loc Cert.LnMixReferenceIdeal.main_arg0)
          ∧ r.2.mem ((c.tc : Thread Cert.LnMixReferenceIdeal.nD Cert.LnMixReferenceIdeal.τ).loc Cert.LnMixReferenceIdeal.main_arg1) = m' ((c.tc : Thread Cert.LnMixReferenceIdeal.nD Cert.LnMixReferenceIdeal.τ).loc Cert.LnMixReferenceIdeal.main_arg1)
          ∧ r.2.mem ((c.tc : Thread Cert.LnMixReferenceIdeal.nD Cert.LnMixReferenceIdeal.τ).loc Cert.LnMixReferenceIdeal.main_arg2) = m' ((c.tc : Thread Cert.LnMixReferenceIdeal.nD Cert.LnMixReferenceIdeal.τ).loc Cert.LnMixReferenceIdeal.main_arg2)
          ∧ r.2.mem ((c.tc : Thread Cert.LnMixReferenceIdeal.nD Cert.LnMixReferenceIdeal.τ).loc Cert.LnMixReferenceIdeal.main_arg3) = m' ((c.tc : Thread Cert.LnMixReferenceIdeal.nD Cert.LnMixReferenceIdeal.τ).loc Cert.LnMixReferenceIdeal.main_arg3)
          ∧ r.2.mem ((c.tc : Thread Cert.LnMixReferenceIdeal.nD Cert.LnMixReferenceIdeal.τ).loc Cert.LnMixReferenceIdeal.main_arg4) = m' ((c.tc : Thread Cert.LnMixReferenceIdeal.nD Cert.LnMixReferenceIdeal.τ).loc Cert.LnMixReferenceIdeal.main_arg4)
          ∧ r.2.mem ((c.tc : Thread Cert.LnMixReferenceIdeal.nD Cert.LnMixReferenceIdeal.τ).loc Cert.LnMixReferenceIdeal.main_arg5) = m' ((c.tc : Thread Cert.LnMixReferenceIdeal.nD Cert.LnMixReferenceIdeal.τ).loc Cert.LnMixReferenceIdeal.main_arg5)
          ∧ r.2.mem ((c.tc : Thread Cert.LnMixReferenceIdeal.nD Cert.LnMixReferenceIdeal.τ).loc Cert.LnMixReferenceIdeal.main_arg6) = m' ((c.tc : Thread Cert.LnMixReferenceIdeal.nD Cert.LnMixReferenceIdeal.τ).loc Cert.LnMixReferenceIdeal.main_arg6))

def preserves_MlpAct_MlpActIdeal : Prop :=
  True

def algebraic_MlpActIdeal_MlpActReferenceIdeal [hMlpActIdeal : Cert.MlpActIdeal.Facts] [hMlpActReferenceIdeal : Cert.MlpActReferenceIdeal.Facts] : Prop :=
  ∀ (m : (ℓ : Loc Cert.MlpActIdeal.nD Cert.MlpActIdeal.τ Cert.MlpActIdeal.sig) → Buf (Elt Ideal) ℓ) (g : Dev Cert.MlpActIdeal.nD → PrngReg)
    (m' : (ℓ : Loc Cert.MlpActReferenceIdeal.nD Cert.MlpActReferenceIdeal.τ Cert.MlpActReferenceIdeal.sig) → Buf (Elt Ideal) ℓ) (g' : Dev Cert.MlpActReferenceIdeal.nD → PrngReg), Pre_MlpActIdeal m →
    (∀ c : Dev Cert.MlpActIdeal.nD,
      m' ((c.tc : Thread Cert.MlpActReferenceIdeal.nD Cert.MlpActReferenceIdeal.τ).loc Cert.MlpActReferenceIdeal.main_arg0) = m ((c.tc : Thread Cert.MlpActIdeal.nD Cert.MlpActIdeal.τ).loc Cert.MlpActIdeal.main_arg0)) →
    ∃ (v0 : (c : Dev Cert.MlpActIdeal.nD) → Buf (Elt Ideal) ((c.tc : Thread Cert.MlpActIdeal.nD Cert.MlpActIdeal.τ).loc Cert.MlpActIdeal.main_v0)),
      θ_run (Cert.MlpActIdeal.defs (F := Ideal)) (onTc (τ := Cert.MlpActIdeal.τ) (Cert.MlpActIdeal.main (F := Ideal))) ⟨m, fun _ => 0, g⟩ (fun r => ∀ c : Dev Cert.MlpActIdeal.nD,
          r.2.mem ((c.tc : Thread Cert.MlpActIdeal.nD Cert.MlpActIdeal.τ).loc Cert.MlpActIdeal.main_v0) = v0 c
          ∧ r.2.mem ((c.tc : Thread Cert.MlpActIdeal.nD Cert.MlpActIdeal.τ).loc Cert.MlpActIdeal.main_arg0) = m ((c.tc : Thread Cert.MlpActIdeal.nD Cert.MlpActIdeal.τ).loc Cert.MlpActIdeal.main_arg0))
      ∧ θ_run (Cert.MlpActReferenceIdeal.defs (F := Ideal)) (onTc (τ := Cert.MlpActReferenceIdeal.τ) (Cert.MlpActReferenceIdeal.main (F := Ideal))) ⟨m', fun _ => 0, g'⟩ (fun r => ∀ c : Dev Cert.MlpActReferenceIdeal.nD,
          r.2.mem ((c.tc : Thread Cert.MlpActReferenceIdeal.nD Cert.MlpActReferenceIdeal.τ).loc Cert.MlpActReferenceIdeal.main_v1) = v0 c
          ∧ r.2.mem ((c.tc : Thread Cert.MlpActReferenceIdeal.nD Cert.MlpActReferenceIdeal.τ).loc Cert.MlpActReferenceIdeal.main_arg0) = m' ((c.tc : Thread Cert.MlpActReferenceIdeal.nD Cert.MlpActReferenceIdeal.τ).loc Cert.MlpActReferenceIdeal.main_arg0))

def preserves_MlpW1_MlpW1Ideal : Prop :=
  True

def algebraic_MlpW1Ideal_MlpW1ReferenceIdeal [hMlpW1Ideal : Cert.MlpW1Ideal.Facts] [hMlpW1ReferenceIdeal : Cert.MlpW1ReferenceIdeal.Facts] : Prop :=
  ∀ (m : (ℓ : Loc Cert.MlpW1Ideal.nD Cert.MlpW1Ideal.τ Cert.MlpW1Ideal.sig) → Buf (Elt Ideal) ℓ) (g : Dev Cert.MlpW1Ideal.nD → PrngReg)
    (m' : (ℓ : Loc Cert.MlpW1ReferenceIdeal.nD Cert.MlpW1ReferenceIdeal.τ Cert.MlpW1ReferenceIdeal.sig) → Buf (Elt Ideal) ℓ) (g' : Dev Cert.MlpW1ReferenceIdeal.nD → PrngReg), Pre_MlpW1Ideal m →
    (∀ c : Dev Cert.MlpW1Ideal.nD,
      m' ((c.tc : Thread Cert.MlpW1ReferenceIdeal.nD Cert.MlpW1ReferenceIdeal.τ).loc Cert.MlpW1ReferenceIdeal.main_arg0) = m ((c.tc : Thread Cert.MlpW1Ideal.nD Cert.MlpW1Ideal.τ).loc Cert.MlpW1Ideal.main_arg0)
      ∧ m' ((c.tc : Thread Cert.MlpW1ReferenceIdeal.nD Cert.MlpW1ReferenceIdeal.τ).loc Cert.MlpW1ReferenceIdeal.main_arg1) = m ((c.tc : Thread Cert.MlpW1Ideal.nD Cert.MlpW1Ideal.τ).loc Cert.MlpW1Ideal.main_arg1)) →
    ∃ (v0 : (c : Dev Cert.MlpW1Ideal.nD) → Buf (Elt Ideal) ((c.tc : Thread Cert.MlpW1Ideal.nD Cert.MlpW1Ideal.τ).loc Cert.MlpW1Ideal.main_v0)),
      θ_run (Cert.MlpW1Ideal.defs (F := Ideal)) (onTc (τ := Cert.MlpW1Ideal.τ) (Cert.MlpW1Ideal.main (F := Ideal))) ⟨m, fun _ => 0, g⟩ (fun r => ∀ c : Dev Cert.MlpW1Ideal.nD,
          r.2.mem ((c.tc : Thread Cert.MlpW1Ideal.nD Cert.MlpW1Ideal.τ).loc Cert.MlpW1Ideal.main_v0) = v0 c
          ∧ r.2.mem ((c.tc : Thread Cert.MlpW1Ideal.nD Cert.MlpW1Ideal.τ).loc Cert.MlpW1Ideal.main_arg0) = m ((c.tc : Thread Cert.MlpW1Ideal.nD Cert.MlpW1Ideal.τ).loc Cert.MlpW1Ideal.main_arg0)
          ∧ r.2.mem ((c.tc : Thread Cert.MlpW1Ideal.nD Cert.MlpW1Ideal.τ).loc Cert.MlpW1Ideal.main_arg1) = m ((c.tc : Thread Cert.MlpW1Ideal.nD Cert.MlpW1Ideal.τ).loc Cert.MlpW1Ideal.main_arg1))
      ∧ θ_run (Cert.MlpW1ReferenceIdeal.defs (F := Ideal)) (onTc (τ := Cert.MlpW1ReferenceIdeal.τ) (Cert.MlpW1ReferenceIdeal.main (F := Ideal))) ⟨m', fun _ => 0, g'⟩ (fun r => ∀ c : Dev Cert.MlpW1ReferenceIdeal.nD,
          r.2.mem ((c.tc : Thread Cert.MlpW1ReferenceIdeal.nD Cert.MlpW1ReferenceIdeal.τ).loc Cert.MlpW1ReferenceIdeal.main_v0) = v0 c
          ∧ r.2.mem ((c.tc : Thread Cert.MlpW1ReferenceIdeal.nD Cert.MlpW1ReferenceIdeal.τ).loc Cert.MlpW1ReferenceIdeal.main_arg0) = m' ((c.tc : Thread Cert.MlpW1ReferenceIdeal.nD Cert.MlpW1ReferenceIdeal.τ).loc Cert.MlpW1ReferenceIdeal.main_arg0)
          ∧ r.2.mem ((c.tc : Thread Cert.MlpW1ReferenceIdeal.nD Cert.MlpW1ReferenceIdeal.τ).loc Cert.MlpW1ReferenceIdeal.main_arg1) = m' ((c.tc : Thread Cert.MlpW1ReferenceIdeal.nD Cert.MlpW1ReferenceIdeal.τ).loc Cert.MlpW1ReferenceIdeal.main_arg1))

def preserves_MlpW1Dx_MlpW1DxIdeal : Prop :=
  True

def algebraic_MlpW1DxIdeal_MlpW1DxReferenceIdeal [hMlpW1DxIdeal : Cert.MlpW1DxIdeal.Facts] [hMlpW1DxReferenceIdeal : Cert.MlpW1DxReferenceIdeal.Facts] : Prop :=
  ∀ (m : (ℓ : Loc Cert.MlpW1DxIdeal.nD Cert.MlpW1DxIdeal.τ Cert.MlpW1DxIdeal.sig) → Buf (Elt Ideal) ℓ) (g : Dev Cert.MlpW1DxIdeal.nD → PrngReg)
    (m' : (ℓ : Loc Cert.MlpW1DxReferenceIdeal.nD Cert.MlpW1DxReferenceIdeal.τ Cert.MlpW1DxReferenceIdeal.sig) → Buf (Elt Ideal) ℓ) (g' : Dev Cert.MlpW1DxReferenceIdeal.nD → PrngReg), Pre_MlpW1DxIdeal m →
    (∀ c : Dev Cert.MlpW1DxIdeal.nD,
      m' ((c.tc : Thread Cert.MlpW1DxReferenceIdeal.nD Cert.MlpW1DxReferenceIdeal.τ).loc Cert.MlpW1DxReferenceIdeal.main_arg0) = m ((c.tc : Thread Cert.MlpW1DxIdeal.nD Cert.MlpW1DxIdeal.τ).loc Cert.MlpW1DxIdeal.main_arg0)
      ∧ m' ((c.tc : Thread Cert.MlpW1DxReferenceIdeal.nD Cert.MlpW1DxReferenceIdeal.τ).loc Cert.MlpW1DxReferenceIdeal.main_arg1) = m ((c.tc : Thread Cert.MlpW1DxIdeal.nD Cert.MlpW1DxIdeal.τ).loc Cert.MlpW1DxIdeal.main_arg1)) →
    ∃ (v0 : (c : Dev Cert.MlpW1DxIdeal.nD) → Buf (Elt Ideal) ((c.tc : Thread Cert.MlpW1DxIdeal.nD Cert.MlpW1DxIdeal.τ).loc Cert.MlpW1DxIdeal.main_v0)),
      θ_run (Cert.MlpW1DxIdeal.defs (F := Ideal)) (onTc (τ := Cert.MlpW1DxIdeal.τ) (Cert.MlpW1DxIdeal.main (F := Ideal))) ⟨m, fun _ => 0, g⟩ (fun r => ∀ c : Dev Cert.MlpW1DxIdeal.nD,
          r.2.mem ((c.tc : Thread Cert.MlpW1DxIdeal.nD Cert.MlpW1DxIdeal.τ).loc Cert.MlpW1DxIdeal.main_v0) = v0 c
          ∧ r.2.mem ((c.tc : Thread Cert.MlpW1DxIdeal.nD Cert.MlpW1DxIdeal.τ).loc Cert.MlpW1DxIdeal.main_arg0) = m ((c.tc : Thread Cert.MlpW1DxIdeal.nD Cert.MlpW1DxIdeal.τ).loc Cert.MlpW1DxIdeal.main_arg0)
          ∧ r.2.mem ((c.tc : Thread Cert.MlpW1DxIdeal.nD Cert.MlpW1DxIdeal.τ).loc Cert.MlpW1DxIdeal.main_arg1) = m ((c.tc : Thread Cert.MlpW1DxIdeal.nD Cert.MlpW1DxIdeal.τ).loc Cert.MlpW1DxIdeal.main_arg1))
      ∧ θ_run (Cert.MlpW1DxReferenceIdeal.defs (F := Ideal)) (onTc (τ := Cert.MlpW1DxReferenceIdeal.τ) (Cert.MlpW1DxReferenceIdeal.main (F := Ideal))) ⟨m', fun _ => 0, g'⟩ (fun r => ∀ c : Dev Cert.MlpW1DxReferenceIdeal.nD,
          r.2.mem ((c.tc : Thread Cert.MlpW1DxReferenceIdeal.nD Cert.MlpW1DxReferenceIdeal.τ).loc Cert.MlpW1DxReferenceIdeal.main_v1) = v0 c
          ∧ r.2.mem ((c.tc : Thread Cert.MlpW1DxReferenceIdeal.nD Cert.MlpW1DxReferenceIdeal.τ).loc Cert.MlpW1DxReferenceIdeal.main_arg0) = m' ((c.tc : Thread Cert.MlpW1DxReferenceIdeal.nD Cert.MlpW1DxReferenceIdeal.τ).loc Cert.MlpW1DxReferenceIdeal.main_arg0)
          ∧ r.2.mem ((c.tc : Thread Cert.MlpW1DxReferenceIdeal.nD Cert.MlpW1DxReferenceIdeal.τ).loc Cert.MlpW1DxReferenceIdeal.main_arg1) = m' ((c.tc : Thread Cert.MlpW1DxReferenceIdeal.nD Cert.MlpW1DxReferenceIdeal.τ).loc Cert.MlpW1DxReferenceIdeal.main_arg1))

def preserves_MlpW1Dw_MlpW1DwIdeal : Prop :=
  True

def algebraic_MlpW1DwIdeal_MlpW1DwReferenceIdeal [hMlpW1DwIdeal : Cert.MlpW1DwIdeal.Facts] [hMlpW1DwReferenceIdeal : Cert.MlpW1DwReferenceIdeal.Facts] : Prop :=
  ∀ (m : (ℓ : Loc Cert.MlpW1DwIdeal.nD Cert.MlpW1DwIdeal.τ Cert.MlpW1DwIdeal.sig) → Buf (Elt Ideal) ℓ) (g : Dev Cert.MlpW1DwIdeal.nD → PrngReg)
    (m' : (ℓ : Loc Cert.MlpW1DwReferenceIdeal.nD Cert.MlpW1DwReferenceIdeal.τ Cert.MlpW1DwReferenceIdeal.sig) → Buf (Elt Ideal) ℓ) (g' : Dev Cert.MlpW1DwReferenceIdeal.nD → PrngReg), Pre_MlpW1DwIdeal m →
    (∀ c : Dev Cert.MlpW1DwIdeal.nD,
      m' ((c.tc : Thread Cert.MlpW1DwReferenceIdeal.nD Cert.MlpW1DwReferenceIdeal.τ).loc Cert.MlpW1DwReferenceIdeal.main_arg0) = m ((c.tc : Thread Cert.MlpW1DwIdeal.nD Cert.MlpW1DwIdeal.τ).loc Cert.MlpW1DwIdeal.main_arg0)
      ∧ m' ((c.tc : Thread Cert.MlpW1DwReferenceIdeal.nD Cert.MlpW1DwReferenceIdeal.τ).loc Cert.MlpW1DwReferenceIdeal.main_arg1) = m ((c.tc : Thread Cert.MlpW1DwIdeal.nD Cert.MlpW1DwIdeal.τ).loc Cert.MlpW1DwIdeal.main_arg1)) →
    ∃ (v0 : (c : Dev Cert.MlpW1DwIdeal.nD) → Buf (Elt Ideal) ((c.tc : Thread Cert.MlpW1DwIdeal.nD Cert.MlpW1DwIdeal.τ).loc Cert.MlpW1DwIdeal.main_v0)),
      θ_run (Cert.MlpW1DwIdeal.defs (F := Ideal)) (onTc (τ := Cert.MlpW1DwIdeal.τ) (Cert.MlpW1DwIdeal.main (F := Ideal))) ⟨m, fun _ => 0, g⟩ (fun r => ∀ c : Dev Cert.MlpW1DwIdeal.nD,
          r.2.mem ((c.tc : Thread Cert.MlpW1DwIdeal.nD Cert.MlpW1DwIdeal.τ).loc Cert.MlpW1DwIdeal.main_v0) = v0 c
          ∧ r.2.mem ((c.tc : Thread Cert.MlpW1DwIdeal.nD Cert.MlpW1DwIdeal.τ).loc Cert.MlpW1DwIdeal.main_arg0) = m ((c.tc : Thread Cert.MlpW1DwIdeal.nD Cert.MlpW1DwIdeal.τ).loc Cert.MlpW1DwIdeal.main_arg0)
          ∧ r.2.mem ((c.tc : Thread Cert.MlpW1DwIdeal.nD Cert.MlpW1DwIdeal.τ).loc Cert.MlpW1DwIdeal.main_arg1) = m ((c.tc : Thread Cert.MlpW1DwIdeal.nD Cert.MlpW1DwIdeal.τ).loc Cert.MlpW1DwIdeal.main_arg1))
      ∧ θ_run (Cert.MlpW1DwReferenceIdeal.defs (F := Ideal)) (onTc (τ := Cert.MlpW1DwReferenceIdeal.τ) (Cert.MlpW1DwReferenceIdeal.main (F := Ideal))) ⟨m', fun _ => 0, g'⟩ (fun r => ∀ c : Dev Cert.MlpW1DwReferenceIdeal.nD,
          r.2.mem ((c.tc : Thread Cert.MlpW1DwReferenceIdeal.nD Cert.MlpW1DwReferenceIdeal.τ).loc Cert.MlpW1DwReferenceIdeal.main_v1) = v0 c
          ∧ r.2.mem ((c.tc : Thread Cert.MlpW1DwReferenceIdeal.nD Cert.MlpW1DwReferenceIdeal.τ).loc Cert.MlpW1DwReferenceIdeal.main_arg0) = m' ((c.tc : Thread Cert.MlpW1DwReferenceIdeal.nD Cert.MlpW1DwReferenceIdeal.τ).loc Cert.MlpW1DwReferenceIdeal.main_arg0)
          ∧ r.2.mem ((c.tc : Thread Cert.MlpW1DwReferenceIdeal.nD Cert.MlpW1DwReferenceIdeal.τ).loc Cert.MlpW1DwReferenceIdeal.main_arg1) = m' ((c.tc : Thread Cert.MlpW1DwReferenceIdeal.nD Cert.MlpW1DwReferenceIdeal.τ).loc Cert.MlpW1DwReferenceIdeal.main_arg1))

def preserves_MlpW2_MlpW2Ideal : Prop :=
  True

def algebraic_MlpW2Ideal_MlpW2ReferenceIdeal [hMlpW2Ideal : Cert.MlpW2Ideal.Facts] [hMlpW2ReferenceIdeal : Cert.MlpW2ReferenceIdeal.Facts] : Prop :=
  ∀ (m : (ℓ : Loc Cert.MlpW2Ideal.nD Cert.MlpW2Ideal.τ Cert.MlpW2Ideal.sig) → Buf (Elt Ideal) ℓ) (g : Dev Cert.MlpW2Ideal.nD → PrngReg)
    (m' : (ℓ : Loc Cert.MlpW2ReferenceIdeal.nD Cert.MlpW2ReferenceIdeal.τ Cert.MlpW2ReferenceIdeal.sig) → Buf (Elt Ideal) ℓ) (g' : Dev Cert.MlpW2ReferenceIdeal.nD → PrngReg), Pre_MlpW2Ideal m →
    (∀ c : Dev Cert.MlpW2Ideal.nD,
      m' ((c.tc : Thread Cert.MlpW2ReferenceIdeal.nD Cert.MlpW2ReferenceIdeal.τ).loc Cert.MlpW2ReferenceIdeal.main_arg0) = m ((c.tc : Thread Cert.MlpW2Ideal.nD Cert.MlpW2Ideal.τ).loc Cert.MlpW2Ideal.main_arg0)
      ∧ m' ((c.tc : Thread Cert.MlpW2ReferenceIdeal.nD Cert.MlpW2ReferenceIdeal.τ).loc Cert.MlpW2ReferenceIdeal.main_arg1) = m ((c.tc : Thread Cert.MlpW2Ideal.nD Cert.MlpW2Ideal.τ).loc Cert.MlpW2Ideal.main_arg1)) →
    ∃ (v0 : (c : Dev Cert.MlpW2Ideal.nD) → Buf (Elt Ideal) ((c.tc : Thread Cert.MlpW2Ideal.nD Cert.MlpW2Ideal.τ).loc Cert.MlpW2Ideal.main_v0)),
      θ_run (Cert.MlpW2Ideal.defs (F := Ideal)) (onTc (τ := Cert.MlpW2Ideal.τ) (Cert.MlpW2Ideal.main (F := Ideal))) ⟨m, fun _ => 0, g⟩ (fun r => ∀ c : Dev Cert.MlpW2Ideal.nD,
          r.2.mem ((c.tc : Thread Cert.MlpW2Ideal.nD Cert.MlpW2Ideal.τ).loc Cert.MlpW2Ideal.main_v0) = v0 c
          ∧ r.2.mem ((c.tc : Thread Cert.MlpW2Ideal.nD Cert.MlpW2Ideal.τ).loc Cert.MlpW2Ideal.main_arg0) = m ((c.tc : Thread Cert.MlpW2Ideal.nD Cert.MlpW2Ideal.τ).loc Cert.MlpW2Ideal.main_arg0)
          ∧ r.2.mem ((c.tc : Thread Cert.MlpW2Ideal.nD Cert.MlpW2Ideal.τ).loc Cert.MlpW2Ideal.main_arg1) = m ((c.tc : Thread Cert.MlpW2Ideal.nD Cert.MlpW2Ideal.τ).loc Cert.MlpW2Ideal.main_arg1))
      ∧ θ_run (Cert.MlpW2ReferenceIdeal.defs (F := Ideal)) (onTc (τ := Cert.MlpW2ReferenceIdeal.τ) (Cert.MlpW2ReferenceIdeal.main (F := Ideal))) ⟨m', fun _ => 0, g'⟩ (fun r => ∀ c : Dev Cert.MlpW2ReferenceIdeal.nD,
          r.2.mem ((c.tc : Thread Cert.MlpW2ReferenceIdeal.nD Cert.MlpW2ReferenceIdeal.τ).loc Cert.MlpW2ReferenceIdeal.main_v0) = v0 c
          ∧ r.2.mem ((c.tc : Thread Cert.MlpW2ReferenceIdeal.nD Cert.MlpW2ReferenceIdeal.τ).loc Cert.MlpW2ReferenceIdeal.main_arg0) = m' ((c.tc : Thread Cert.MlpW2ReferenceIdeal.nD Cert.MlpW2ReferenceIdeal.τ).loc Cert.MlpW2ReferenceIdeal.main_arg0)
          ∧ r.2.mem ((c.tc : Thread Cert.MlpW2ReferenceIdeal.nD Cert.MlpW2ReferenceIdeal.τ).loc Cert.MlpW2ReferenceIdeal.main_arg1) = m' ((c.tc : Thread Cert.MlpW2ReferenceIdeal.nD Cert.MlpW2ReferenceIdeal.τ).loc Cert.MlpW2ReferenceIdeal.main_arg1))

def preserves_MlpW2Dx_MlpW2DxIdeal : Prop :=
  True

def algebraic_MlpW2DxIdeal_MlpW2DxReferenceIdeal [hMlpW2DxIdeal : Cert.MlpW2DxIdeal.Facts] [hMlpW2DxReferenceIdeal : Cert.MlpW2DxReferenceIdeal.Facts] : Prop :=
  ∀ (m : (ℓ : Loc Cert.MlpW2DxIdeal.nD Cert.MlpW2DxIdeal.τ Cert.MlpW2DxIdeal.sig) → Buf (Elt Ideal) ℓ) (g : Dev Cert.MlpW2DxIdeal.nD → PrngReg)
    (m' : (ℓ : Loc Cert.MlpW2DxReferenceIdeal.nD Cert.MlpW2DxReferenceIdeal.τ Cert.MlpW2DxReferenceIdeal.sig) → Buf (Elt Ideal) ℓ) (g' : Dev Cert.MlpW2DxReferenceIdeal.nD → PrngReg), Pre_MlpW2DxIdeal m →
    (∀ c : Dev Cert.MlpW2DxIdeal.nD,
      m' ((c.tc : Thread Cert.MlpW2DxReferenceIdeal.nD Cert.MlpW2DxReferenceIdeal.τ).loc Cert.MlpW2DxReferenceIdeal.main_arg0) = m ((c.tc : Thread Cert.MlpW2DxIdeal.nD Cert.MlpW2DxIdeal.τ).loc Cert.MlpW2DxIdeal.main_arg0)
      ∧ m' ((c.tc : Thread Cert.MlpW2DxReferenceIdeal.nD Cert.MlpW2DxReferenceIdeal.τ).loc Cert.MlpW2DxReferenceIdeal.main_arg1) = m ((c.tc : Thread Cert.MlpW2DxIdeal.nD Cert.MlpW2DxIdeal.τ).loc Cert.MlpW2DxIdeal.main_arg1)) →
    ∃ (v0 : (c : Dev Cert.MlpW2DxIdeal.nD) → Buf (Elt Ideal) ((c.tc : Thread Cert.MlpW2DxIdeal.nD Cert.MlpW2DxIdeal.τ).loc Cert.MlpW2DxIdeal.main_v0)),
      θ_run (Cert.MlpW2DxIdeal.defs (F := Ideal)) (onTc (τ := Cert.MlpW2DxIdeal.τ) (Cert.MlpW2DxIdeal.main (F := Ideal))) ⟨m, fun _ => 0, g⟩ (fun r => ∀ c : Dev Cert.MlpW2DxIdeal.nD,
          r.2.mem ((c.tc : Thread Cert.MlpW2DxIdeal.nD Cert.MlpW2DxIdeal.τ).loc Cert.MlpW2DxIdeal.main_v0) = v0 c
          ∧ r.2.mem ((c.tc : Thread Cert.MlpW2DxIdeal.nD Cert.MlpW2DxIdeal.τ).loc Cert.MlpW2DxIdeal.main_arg0) = m ((c.tc : Thread Cert.MlpW2DxIdeal.nD Cert.MlpW2DxIdeal.τ).loc Cert.MlpW2DxIdeal.main_arg0)
          ∧ r.2.mem ((c.tc : Thread Cert.MlpW2DxIdeal.nD Cert.MlpW2DxIdeal.τ).loc Cert.MlpW2DxIdeal.main_arg1) = m ((c.tc : Thread Cert.MlpW2DxIdeal.nD Cert.MlpW2DxIdeal.τ).loc Cert.MlpW2DxIdeal.main_arg1))
      ∧ θ_run (Cert.MlpW2DxReferenceIdeal.defs (F := Ideal)) (onTc (τ := Cert.MlpW2DxReferenceIdeal.τ) (Cert.MlpW2DxReferenceIdeal.main (F := Ideal))) ⟨m', fun _ => 0, g'⟩ (fun r => ∀ c : Dev Cert.MlpW2DxReferenceIdeal.nD,
          r.2.mem ((c.tc : Thread Cert.MlpW2DxReferenceIdeal.nD Cert.MlpW2DxReferenceIdeal.τ).loc Cert.MlpW2DxReferenceIdeal.main_v1) = v0 c
          ∧ r.2.mem ((c.tc : Thread Cert.MlpW2DxReferenceIdeal.nD Cert.MlpW2DxReferenceIdeal.τ).loc Cert.MlpW2DxReferenceIdeal.main_arg0) = m' ((c.tc : Thread Cert.MlpW2DxReferenceIdeal.nD Cert.MlpW2DxReferenceIdeal.τ).loc Cert.MlpW2DxReferenceIdeal.main_arg0)
          ∧ r.2.mem ((c.tc : Thread Cert.MlpW2DxReferenceIdeal.nD Cert.MlpW2DxReferenceIdeal.τ).loc Cert.MlpW2DxReferenceIdeal.main_arg1) = m' ((c.tc : Thread Cert.MlpW2DxReferenceIdeal.nD Cert.MlpW2DxReferenceIdeal.τ).loc Cert.MlpW2DxReferenceIdeal.main_arg1))

def preserves_MlpW2Dw_MlpW2DwIdeal : Prop :=
  True

def algebraic_MlpW2DwIdeal_MlpW2DwReferenceIdeal [hMlpW2DwIdeal : Cert.MlpW2DwIdeal.Facts] [hMlpW2DwReferenceIdeal : Cert.MlpW2DwReferenceIdeal.Facts] : Prop :=
  ∀ (m : (ℓ : Loc Cert.MlpW2DwIdeal.nD Cert.MlpW2DwIdeal.τ Cert.MlpW2DwIdeal.sig) → Buf (Elt Ideal) ℓ) (g : Dev Cert.MlpW2DwIdeal.nD → PrngReg)
    (m' : (ℓ : Loc Cert.MlpW2DwReferenceIdeal.nD Cert.MlpW2DwReferenceIdeal.τ Cert.MlpW2DwReferenceIdeal.sig) → Buf (Elt Ideal) ℓ) (g' : Dev Cert.MlpW2DwReferenceIdeal.nD → PrngReg), Pre_MlpW2DwIdeal m →
    (∀ c : Dev Cert.MlpW2DwIdeal.nD,
      m' ((c.tc : Thread Cert.MlpW2DwReferenceIdeal.nD Cert.MlpW2DwReferenceIdeal.τ).loc Cert.MlpW2DwReferenceIdeal.main_arg0) = m ((c.tc : Thread Cert.MlpW2DwIdeal.nD Cert.MlpW2DwIdeal.τ).loc Cert.MlpW2DwIdeal.main_arg0)
      ∧ m' ((c.tc : Thread Cert.MlpW2DwReferenceIdeal.nD Cert.MlpW2DwReferenceIdeal.τ).loc Cert.MlpW2DwReferenceIdeal.main_arg1) = m ((c.tc : Thread Cert.MlpW2DwIdeal.nD Cert.MlpW2DwIdeal.τ).loc Cert.MlpW2DwIdeal.main_arg1)) →
    ∃ (v0 : (c : Dev Cert.MlpW2DwIdeal.nD) → Buf (Elt Ideal) ((c.tc : Thread Cert.MlpW2DwIdeal.nD Cert.MlpW2DwIdeal.τ).loc Cert.MlpW2DwIdeal.main_v0)),
      θ_run (Cert.MlpW2DwIdeal.defs (F := Ideal)) (onTc (τ := Cert.MlpW2DwIdeal.τ) (Cert.MlpW2DwIdeal.main (F := Ideal))) ⟨m, fun _ => 0, g⟩ (fun r => ∀ c : Dev Cert.MlpW2DwIdeal.nD,
          r.2.mem ((c.tc : Thread Cert.MlpW2DwIdeal.nD Cert.MlpW2DwIdeal.τ).loc Cert.MlpW2DwIdeal.main_v0) = v0 c
          ∧ r.2.mem ((c.tc : Thread Cert.MlpW2DwIdeal.nD Cert.MlpW2DwIdeal.τ).loc Cert.MlpW2DwIdeal.main_arg0) = m ((c.tc : Thread Cert.MlpW2DwIdeal.nD Cert.MlpW2DwIdeal.τ).loc Cert.MlpW2DwIdeal.main_arg0)
          ∧ r.2.mem ((c.tc : Thread Cert.MlpW2DwIdeal.nD Cert.MlpW2DwIdeal.τ).loc Cert.MlpW2DwIdeal.main_arg1) = m ((c.tc : Thread Cert.MlpW2DwIdeal.nD Cert.MlpW2DwIdeal.τ).loc Cert.MlpW2DwIdeal.main_arg1))
      ∧ θ_run (Cert.MlpW2DwReferenceIdeal.defs (F := Ideal)) (onTc (τ := Cert.MlpW2DwReferenceIdeal.τ) (Cert.MlpW2DwReferenceIdeal.main (F := Ideal))) ⟨m', fun _ => 0, g'⟩ (fun r => ∀ c : Dev Cert.MlpW2DwReferenceIdeal.nD,
          r.2.mem ((c.tc : Thread Cert.MlpW2DwReferenceIdeal.nD Cert.MlpW2DwReferenceIdeal.τ).loc Cert.MlpW2DwReferenceIdeal.main_v1) = v0 c
          ∧ r.2.mem ((c.tc : Thread Cert.MlpW2DwReferenceIdeal.nD Cert.MlpW2DwReferenceIdeal.τ).loc Cert.MlpW2DwReferenceIdeal.main_arg0) = m' ((c.tc : Thread Cert.MlpW2DwReferenceIdeal.nD Cert.MlpW2DwReferenceIdeal.τ).loc Cert.MlpW2DwReferenceIdeal.main_arg0)
          ∧ r.2.mem ((c.tc : Thread Cert.MlpW2DwReferenceIdeal.nD Cert.MlpW2DwReferenceIdeal.τ).loc Cert.MlpW2DwReferenceIdeal.main_arg1) = m' ((c.tc : Thread Cert.MlpW2DwReferenceIdeal.nD Cert.MlpW2DwReferenceIdeal.τ).loc Cert.MlpW2DwReferenceIdeal.main_arg1))

def preserves_AbIn_AbInIdeal : Prop :=
  True

def algebraic_AbInIdeal_AbInReferenceIdeal [hAbInIdeal : Cert.AbInIdeal.Facts] [hAbInReferenceIdeal : Cert.AbInReferenceIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInReferenceIdeal.nD Cert.AbInReferenceIdeal.τ Cert.AbInReferenceIdeal.sig) → Buf (Elt Ideal) ℓ) (g' : Dev Cert.AbInReferenceIdeal.nD → PrngReg), Pre_AbInIdeal m →
    (∀ c : Dev Cert.AbInIdeal.nD,
      m' ((c.tc : Thread Cert.AbInReferenceIdeal.nD Cert.AbInReferenceIdeal.τ).loc Cert.AbInReferenceIdeal.main_arg0) = m ((c.tc : Thread Cert.AbInIdeal.nD Cert.AbInIdeal.τ).loc Cert.AbInIdeal.main_arg0)
      ∧ m' ((c.tc : Thread Cert.AbInReferenceIdeal.nD Cert.AbInReferenceIdeal.τ).loc Cert.AbInReferenceIdeal.main_arg1) = m ((c.tc : Thread Cert.AbInIdeal.nD Cert.AbInIdeal.τ).loc Cert.AbInIdeal.main_arg1)) →
    ∃ (v0 : (c : Dev Cert.AbInIdeal.nD) → Buf (Elt Ideal) ((c.tc : Thread Cert.AbInIdeal.nD Cert.AbInIdeal.τ).loc Cert.AbInIdeal.main_v0)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v0) = v0 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1))
      ∧ θ_run (Cert.AbInReferenceIdeal.defs (F := Ideal)) (onTc (τ := Cert.AbInReferenceIdeal.τ) (Cert.AbInReferenceIdeal.main (F := Ideal))) ⟨m', fun _ => 0, g'⟩ (fun r => ∀ c : Dev Cert.AbInReferenceIdeal.nD,
          r.2.mem ((c.tc : Thread Cert.AbInReferenceIdeal.nD Cert.AbInReferenceIdeal.τ).loc Cert.AbInReferenceIdeal.main_v0) = v0 c
          ∧ r.2.mem ((c.tc : Thread Cert.AbInReferenceIdeal.nD Cert.AbInReferenceIdeal.τ).loc Cert.AbInReferenceIdeal.main_arg0) = m' ((c.tc : Thread Cert.AbInReferenceIdeal.nD Cert.AbInReferenceIdeal.τ).loc Cert.AbInReferenceIdeal.main_arg0)
          ∧ r.2.mem ((c.tc : Thread Cert.AbInReferenceIdeal.nD Cert.AbInReferenceIdeal.τ).loc Cert.AbInReferenceIdeal.main_arg1) = m' ((c.tc : Thread Cert.AbInReferenceIdeal.nD Cert.AbInReferenceIdeal.τ).loc Cert.AbInReferenceIdeal.main_arg1))

def preserves_AbInDx_AbInDxIdeal : Prop :=
  True

def algebraic_AbInDxIdeal_AbInDxReferenceIdeal [hAbInDxIdeal : Cert.AbInDxIdeal.Facts] [hAbInDxReferenceIdeal : Cert.AbInDxReferenceIdeal.Facts] : Prop :=
  ∀ (m : (ℓ : Loc Cert.AbInDxIdeal.nD Cert.AbInDxIdeal.τ Cert.AbInDxIdeal.sig) → Buf (Elt Ideal) ℓ) (g : Dev Cert.AbInDxIdeal.nD → PrngReg)
    (m' : (ℓ : Loc Cert.AbInDxReferenceIdeal.nD Cert.AbInDxReferenceIdeal.τ Cert.AbInDxReferenceIdeal.sig) → Buf (Elt Ideal) ℓ) (g' : Dev Cert.AbInDxReferenceIdeal.nD → PrngReg), Pre_AbInDxIdeal m →
    (∀ c : Dev Cert.AbInDxIdeal.nD,
      m' ((c.tc : Thread Cert.AbInDxReferenceIdeal.nD Cert.AbInDxReferenceIdeal.τ).loc Cert.AbInDxReferenceIdeal.main_arg0) = m ((c.tc : Thread Cert.AbInDxIdeal.nD Cert.AbInDxIdeal.τ).loc Cert.AbInDxIdeal.main_arg0)
      ∧ m' ((c.tc : Thread Cert.AbInDxReferenceIdeal.nD Cert.AbInDxReferenceIdeal.τ).loc Cert.AbInDxReferenceIdeal.main_arg1) = m ((c.tc : Thread Cert.AbInDxIdeal.nD Cert.AbInDxIdeal.τ).loc Cert.AbInDxIdeal.main_arg1)) →
    ∃ (v0 : (c : Dev Cert.AbInDxIdeal.nD) → Buf (Elt Ideal) ((c.tc : Thread Cert.AbInDxIdeal.nD Cert.AbInDxIdeal.τ).loc Cert.AbInDxIdeal.main_v0)),
      θ_run (Cert.AbInDxIdeal.defs (F := Ideal)) (onTc (τ := Cert.AbInDxIdeal.τ) (Cert.AbInDxIdeal.main (F := Ideal))) ⟨m, fun _ => 0, g⟩ (fun r => ∀ c : Dev Cert.AbInDxIdeal.nD,
          r.2.mem ((c.tc : Thread Cert.AbInDxIdeal.nD Cert.AbInDxIdeal.τ).loc Cert.AbInDxIdeal.main_v0) = v0 c
          ∧ r.2.mem ((c.tc : Thread Cert.AbInDxIdeal.nD Cert.AbInDxIdeal.τ).loc Cert.AbInDxIdeal.main_arg0) = m ((c.tc : Thread Cert.AbInDxIdeal.nD Cert.AbInDxIdeal.τ).loc Cert.AbInDxIdeal.main_arg0)
          ∧ r.2.mem ((c.tc : Thread Cert.AbInDxIdeal.nD Cert.AbInDxIdeal.τ).loc Cert.AbInDxIdeal.main_arg1) = m ((c.tc : Thread Cert.AbInDxIdeal.nD Cert.AbInDxIdeal.τ).loc Cert.AbInDxIdeal.main_arg1))
      ∧ θ_run (Cert.AbInDxReferenceIdeal.defs (F := Ideal)) (onTc (τ := Cert.AbInDxReferenceIdeal.τ) (Cert.AbInDxReferenceIdeal.main (F := Ideal))) ⟨m', fun _ => 0, g'⟩ (fun r => ∀ c : Dev Cert.AbInDxReferenceIdeal.nD,
          r.2.mem ((c.tc : Thread Cert.AbInDxReferenceIdeal.nD Cert.AbInDxReferenceIdeal.τ).loc Cert.AbInDxReferenceIdeal.main_v1) = v0 c
          ∧ r.2.mem ((c.tc : Thread Cert.AbInDxReferenceIdeal.nD Cert.AbInDxReferenceIdeal.τ).loc Cert.AbInDxReferenceIdeal.main_arg0) = m' ((c.tc : Thread Cert.AbInDxReferenceIdeal.nD Cert.AbInDxReferenceIdeal.τ).loc Cert.AbInDxReferenceIdeal.main_arg0)
          ∧ r.2.mem ((c.tc : Thread Cert.AbInDxReferenceIdeal.nD Cert.AbInDxReferenceIdeal.τ).loc Cert.AbInDxReferenceIdeal.main_arg1) = m' ((c.tc : Thread Cert.AbInDxReferenceIdeal.nD Cert.AbInDxReferenceIdeal.τ).loc Cert.AbInDxReferenceIdeal.main_arg1))

def preserves_AbInDw_AbInDwIdeal : Prop :=
  True

def algebraic_AbInDwIdeal_AbInDwReferenceIdeal [hAbInDwIdeal : Cert.AbInDwIdeal.Facts] [hAbInDwReferenceIdeal : Cert.AbInDwReferenceIdeal.Facts] : Prop :=
  ∀ (m : (ℓ : Loc Cert.AbInDwIdeal.nD Cert.AbInDwIdeal.τ Cert.AbInDwIdeal.sig) → Buf (Elt Ideal) ℓ) (g : Dev Cert.AbInDwIdeal.nD → PrngReg)
    (m' : (ℓ : Loc Cert.AbInDwReferenceIdeal.nD Cert.AbInDwReferenceIdeal.τ Cert.AbInDwReferenceIdeal.sig) → Buf (Elt Ideal) ℓ) (g' : Dev Cert.AbInDwReferenceIdeal.nD → PrngReg), Pre_AbInDwIdeal m →
    (∀ c : Dev Cert.AbInDwIdeal.nD,
      m' ((c.tc : Thread Cert.AbInDwReferenceIdeal.nD Cert.AbInDwReferenceIdeal.τ).loc Cert.AbInDwReferenceIdeal.main_arg0) = m ((c.tc : Thread Cert.AbInDwIdeal.nD Cert.AbInDwIdeal.τ).loc Cert.AbInDwIdeal.main_arg0)
      ∧ m' ((c.tc : Thread Cert.AbInDwReferenceIdeal.nD Cert.AbInDwReferenceIdeal.τ).loc Cert.AbInDwReferenceIdeal.main_arg1) = m ((c.tc : Thread Cert.AbInDwIdeal.nD Cert.AbInDwIdeal.τ).loc Cert.AbInDwIdeal.main_arg1)) →
    ∃ (v0 : (c : Dev Cert.AbInDwIdeal.nD) → Buf (Elt Ideal) ((c.tc : Thread Cert.AbInDwIdeal.nD Cert.AbInDwIdeal.τ).loc Cert.AbInDwIdeal.main_v0)),
      θ_run (Cert.AbInDwIdeal.defs (F := Ideal)) (onTc (τ := Cert.AbInDwIdeal.τ) (Cert.AbInDwIdeal.main (F := Ideal))) ⟨m, fun _ => 0, g⟩ (fun r => ∀ c : Dev Cert.AbInDwIdeal.nD,
          r.2.mem ((c.tc : Thread Cert.AbInDwIdeal.nD Cert.AbInDwIdeal.τ).loc Cert.AbInDwIdeal.main_v0) = v0 c
          ∧ r.2.mem ((c.tc : Thread Cert.AbInDwIdeal.nD Cert.AbInDwIdeal.τ).loc Cert.AbInDwIdeal.main_arg0) = m ((c.tc : Thread Cert.AbInDwIdeal.nD Cert.AbInDwIdeal.τ).loc Cert.AbInDwIdeal.main_arg0)
          ∧ r.2.mem ((c.tc : Thread Cert.AbInDwIdeal.nD Cert.AbInDwIdeal.τ).loc Cert.AbInDwIdeal.main_arg1) = m ((c.tc : Thread Cert.AbInDwIdeal.nD Cert.AbInDwIdeal.τ).loc Cert.AbInDwIdeal.main_arg1))
      ∧ θ_run (Cert.AbInDwReferenceIdeal.defs (F := Ideal)) (onTc (τ := Cert.AbInDwReferenceIdeal.τ) (Cert.AbInDwReferenceIdeal.main (F := Ideal))) ⟨m', fun _ => 0, g'⟩ (fun r => ∀ c : Dev Cert.AbInDwReferenceIdeal.nD,
          r.2.mem ((c.tc : Thread Cert.AbInDwReferenceIdeal.nD Cert.AbInDwReferenceIdeal.τ).loc Cert.AbInDwReferenceIdeal.main_v1) = v0 c
          ∧ r.2.mem ((c.tc : Thread Cert.AbInDwReferenceIdeal.nD Cert.AbInDwReferenceIdeal.τ).loc Cert.AbInDwReferenceIdeal.main_arg0) = m' ((c.tc : Thread Cert.AbInDwReferenceIdeal.nD Cert.AbInDwReferenceIdeal.τ).loc Cert.AbInDwReferenceIdeal.main_arg0)
          ∧ r.2.mem ((c.tc : Thread Cert.AbInDwReferenceIdeal.nD Cert.AbInDwReferenceIdeal.τ).loc Cert.AbInDwReferenceIdeal.main_arg1) = m' ((c.tc : Thread Cert.AbInDwReferenceIdeal.nD Cert.AbInDwReferenceIdeal.τ).loc Cert.AbInDwReferenceIdeal.main_arg1))

def preserves_AbOut_AbOutIdeal : Prop :=
  True

def algebraic_AbOutIdeal_AbOutReferenceIdeal [hAbOutIdeal : Cert.AbOutIdeal.Facts] [hAbOutReferenceIdeal : Cert.AbOutReferenceIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutReferenceIdeal.nD Cert.AbOutReferenceIdeal.τ Cert.AbOutReferenceIdeal.sig) → Buf (Elt Ideal) ℓ) (g' : Dev Cert.AbOutReferenceIdeal.nD → PrngReg), Pre_AbOutIdeal m →
    (∀ c : Dev Cert.AbOutIdeal.nD,
      m' ((c.tc : Thread Cert.AbOutReferenceIdeal.nD Cert.AbOutReferenceIdeal.τ).loc Cert.AbOutReferenceIdeal.main_arg0) = m ((c.tc : Thread Cert.AbOutIdeal.nD Cert.AbOutIdeal.τ).loc Cert.AbOutIdeal.main_arg0)
      ∧ m' ((c.tc : Thread Cert.AbOutReferenceIdeal.nD Cert.AbOutReferenceIdeal.τ).loc Cert.AbOutReferenceIdeal.main_arg1) = m ((c.tc : Thread Cert.AbOutIdeal.nD Cert.AbOutIdeal.τ).loc Cert.AbOutIdeal.main_arg1)) →
    ∃ (v0 : (c : Dev Cert.AbOutIdeal.nD) → Buf (Elt Ideal) ((c.tc : Thread Cert.AbOutIdeal.nD Cert.AbOutIdeal.τ).loc Cert.AbOutIdeal.main_v0)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v0) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1))
      ∧ θ_run (Cert.AbOutReferenceIdeal.defs (F := Ideal)) (onTc (τ := Cert.AbOutReferenceIdeal.τ) (Cert.AbOutReferenceIdeal.main (F := Ideal))) ⟨m', fun _ => 0, g'⟩ (fun r => ∀ c : Dev Cert.AbOutReferenceIdeal.nD,
          r.2.mem ((c.tc : Thread Cert.AbOutReferenceIdeal.nD Cert.AbOutReferenceIdeal.τ).loc Cert.AbOutReferenceIdeal.main_v0) = v0 c
          ∧ r.2.mem ((c.tc : Thread Cert.AbOutReferenceIdeal.nD Cert.AbOutReferenceIdeal.τ).loc Cert.AbOutReferenceIdeal.main_arg0) = m' ((c.tc : Thread Cert.AbOutReferenceIdeal.nD Cert.AbOutReferenceIdeal.τ).loc Cert.AbOutReferenceIdeal.main_arg0)
          ∧ r.2.mem ((c.tc : Thread Cert.AbOutReferenceIdeal.nD Cert.AbOutReferenceIdeal.τ).loc Cert.AbOutReferenceIdeal.main_arg1) = m' ((c.tc : Thread Cert.AbOutReferenceIdeal.nD Cert.AbOutReferenceIdeal.τ).loc Cert.AbOutReferenceIdeal.main_arg1))

def preserves_AbOutDx_AbOutDxIdeal : Prop :=
  True

def algebraic_AbOutDxIdeal_AbOutDxReferenceIdeal [hAbOutDxIdeal : Cert.AbOutDxIdeal.Facts] [hAbOutDxReferenceIdeal : Cert.AbOutDxReferenceIdeal.Facts] : Prop :=
  ∀ (m : (ℓ : Loc Cert.AbOutDxIdeal.nD Cert.AbOutDxIdeal.τ Cert.AbOutDxIdeal.sig) → Buf (Elt Ideal) ℓ) (g : Dev Cert.AbOutDxIdeal.nD → PrngReg)
    (m' : (ℓ : Loc Cert.AbOutDxReferenceIdeal.nD Cert.AbOutDxReferenceIdeal.τ Cert.AbOutDxReferenceIdeal.sig) → Buf (Elt Ideal) ℓ) (g' : Dev Cert.AbOutDxReferenceIdeal.nD → PrngReg), Pre_AbOutDxIdeal m →
    (∀ c : Dev Cert.AbOutDxIdeal.nD,
      m' ((c.tc : Thread Cert.AbOutDxReferenceIdeal.nD Cert.AbOutDxReferenceIdeal.τ).loc Cert.AbOutDxReferenceIdeal.main_arg0) = m ((c.tc : Thread Cert.AbOutDxIdeal.nD Cert.AbOutDxIdeal.τ).loc Cert.AbOutDxIdeal.main_arg0)
      ∧ m' ((c.tc : Thread Cert.AbOutDxReferenceIdeal.nD Cert.AbOutDxReferenceIdeal.τ).loc Cert.AbOutDxReferenceIdeal.main_arg1) = m ((c.tc : Thread Cert.AbOutDxIdeal.nD Cert.AbOutDxIdeal.τ).loc Cert.AbOutDxIdeal.main_arg1)) →
    ∃ (v0 : (c : Dev Cert.AbOutDxIdeal.nD) → Buf (Elt Ideal) ((c.tc : Thread Cert.AbOutDxIdeal.nD Cert.AbOutDxIdeal.τ).loc Cert.AbOutDxIdeal.main_v0)),
      θ_run (Cert.AbOutDxIdeal.defs (F := Ideal)) (onTc (τ := Cert.AbOutDxIdeal.τ) (Cert.AbOutDxIdeal.main (F := Ideal))) ⟨m, fun _ => 0, g⟩ (fun r => ∀ c : Dev Cert.AbOutDxIdeal.nD,
          r.2.mem ((c.tc : Thread Cert.AbOutDxIdeal.nD Cert.AbOutDxIdeal.τ).loc Cert.AbOutDxIdeal.main_v0) = v0 c
          ∧ r.2.mem ((c.tc : Thread Cert.AbOutDxIdeal.nD Cert.AbOutDxIdeal.τ).loc Cert.AbOutDxIdeal.main_arg0) = m ((c.tc : Thread Cert.AbOutDxIdeal.nD Cert.AbOutDxIdeal.τ).loc Cert.AbOutDxIdeal.main_arg0)
          ∧ r.2.mem ((c.tc : Thread Cert.AbOutDxIdeal.nD Cert.AbOutDxIdeal.τ).loc Cert.AbOutDxIdeal.main_arg1) = m ((c.tc : Thread Cert.AbOutDxIdeal.nD Cert.AbOutDxIdeal.τ).loc Cert.AbOutDxIdeal.main_arg1))
      ∧ θ_run (Cert.AbOutDxReferenceIdeal.defs (F := Ideal)) (onTc (τ := Cert.AbOutDxReferenceIdeal.τ) (Cert.AbOutDxReferenceIdeal.main (F := Ideal))) ⟨m', fun _ => 0, g'⟩ (fun r => ∀ c : Dev Cert.AbOutDxReferenceIdeal.nD,
          r.2.mem ((c.tc : Thread Cert.AbOutDxReferenceIdeal.nD Cert.AbOutDxReferenceIdeal.τ).loc Cert.AbOutDxReferenceIdeal.main_v1) = v0 c
          ∧ r.2.mem ((c.tc : Thread Cert.AbOutDxReferenceIdeal.nD Cert.AbOutDxReferenceIdeal.τ).loc Cert.AbOutDxReferenceIdeal.main_arg0) = m' ((c.tc : Thread Cert.AbOutDxReferenceIdeal.nD Cert.AbOutDxReferenceIdeal.τ).loc Cert.AbOutDxReferenceIdeal.main_arg0)
          ∧ r.2.mem ((c.tc : Thread Cert.AbOutDxReferenceIdeal.nD Cert.AbOutDxReferenceIdeal.τ).loc Cert.AbOutDxReferenceIdeal.main_arg1) = m' ((c.tc : Thread Cert.AbOutDxReferenceIdeal.nD Cert.AbOutDxReferenceIdeal.τ).loc Cert.AbOutDxReferenceIdeal.main_arg1))

def preserves_AbOutDw_AbOutDwIdeal : Prop :=
  True

def algebraic_AbOutDwIdeal_AbOutDwReferenceIdeal [hAbOutDwIdeal : Cert.AbOutDwIdeal.Facts] [hAbOutDwReferenceIdeal : Cert.AbOutDwReferenceIdeal.Facts] : Prop :=
  ∀ (m : (ℓ : Loc Cert.AbOutDwIdeal.nD Cert.AbOutDwIdeal.τ Cert.AbOutDwIdeal.sig) → Buf (Elt Ideal) ℓ) (g : Dev Cert.AbOutDwIdeal.nD → PrngReg)
    (m' : (ℓ : Loc Cert.AbOutDwReferenceIdeal.nD Cert.AbOutDwReferenceIdeal.τ Cert.AbOutDwReferenceIdeal.sig) → Buf (Elt Ideal) ℓ) (g' : Dev Cert.AbOutDwReferenceIdeal.nD → PrngReg), Pre_AbOutDwIdeal m →
    (∀ c : Dev Cert.AbOutDwIdeal.nD,
      m' ((c.tc : Thread Cert.AbOutDwReferenceIdeal.nD Cert.AbOutDwReferenceIdeal.τ).loc Cert.AbOutDwReferenceIdeal.main_arg0) = m ((c.tc : Thread Cert.AbOutDwIdeal.nD Cert.AbOutDwIdeal.τ).loc Cert.AbOutDwIdeal.main_arg0)
      ∧ m' ((c.tc : Thread Cert.AbOutDwReferenceIdeal.nD Cert.AbOutDwReferenceIdeal.τ).loc Cert.AbOutDwReferenceIdeal.main_arg1) = m ((c.tc : Thread Cert.AbOutDwIdeal.nD Cert.AbOutDwIdeal.τ).loc Cert.AbOutDwIdeal.main_arg1)) →
    ∃ (v0 : (c : Dev Cert.AbOutDwIdeal.nD) → Buf (Elt Ideal) ((c.tc : Thread Cert.AbOutDwIdeal.nD Cert.AbOutDwIdeal.τ).loc Cert.AbOutDwIdeal.main_v0)),
      θ_run (Cert.AbOutDwIdeal.defs (F := Ideal)) (onTc (τ := Cert.AbOutDwIdeal.τ) (Cert.AbOutDwIdeal.main (F := Ideal))) ⟨m, fun _ => 0, g⟩ (fun r => ∀ c : Dev Cert.AbOutDwIdeal.nD,
          r.2.mem ((c.tc : Thread Cert.AbOutDwIdeal.nD Cert.AbOutDwIdeal.τ).loc Cert.AbOutDwIdeal.main_v0) = v0 c
          ∧ r.2.mem ((c.tc : Thread Cert.AbOutDwIdeal.nD Cert.AbOutDwIdeal.τ).loc Cert.AbOutDwIdeal.main_arg0) = m ((c.tc : Thread Cert.AbOutDwIdeal.nD Cert.AbOutDwIdeal.τ).loc Cert.AbOutDwIdeal.main_arg0)
          ∧ r.2.mem ((c.tc : Thread Cert.AbOutDwIdeal.nD Cert.AbOutDwIdeal.τ).loc Cert.AbOutDwIdeal.main_arg1) = m ((c.tc : Thread Cert.AbOutDwIdeal.nD Cert.AbOutDwIdeal.τ).loc Cert.AbOutDwIdeal.main_arg1))
      ∧ θ_run (Cert.AbOutDwReferenceIdeal.defs (F := Ideal)) (onTc (τ := Cert.AbOutDwReferenceIdeal.τ) (Cert.AbOutDwReferenceIdeal.main (F := Ideal))) ⟨m', fun _ => 0, g'⟩ (fun r => ∀ c : Dev Cert.AbOutDwReferenceIdeal.nD,
          r.2.mem ((c.tc : Thread Cert.AbOutDwReferenceIdeal.nD Cert.AbOutDwReferenceIdeal.τ).loc Cert.AbOutDwReferenceIdeal.main_v1) = v0 c
          ∧ r.2.mem ((c.tc : Thread Cert.AbOutDwReferenceIdeal.nD Cert.AbOutDwReferenceIdeal.τ).loc Cert.AbOutDwReferenceIdeal.main_arg0) = m' ((c.tc : Thread Cert.AbOutDwReferenceIdeal.nD Cert.AbOutDwReferenceIdeal.τ).loc Cert.AbOutDwReferenceIdeal.main_arg0)
          ∧ r.2.mem ((c.tc : Thread Cert.AbOutDwReferenceIdeal.nD Cert.AbOutDwReferenceIdeal.τ).loc Cert.AbOutDwReferenceIdeal.main_arg1) = m' ((c.tc : Thread Cert.AbOutDwReferenceIdeal.nD Cert.AbOutDwReferenceIdeal.τ).loc Cert.AbOutDwReferenceIdeal.main_arg1))

def preserves_DilQkv_DilQkvIdeal : Prop :=
  True

def algebraic_DilQkvIdeal_DilQkvReferenceIdeal [hDilQkvIdeal : Cert.DilQkvIdeal.Facts] [hDilQkvReferenceIdeal : Cert.DilQkvReferenceIdeal.Facts] : Prop :=
  ∀ (m : (ℓ : Loc Cert.DilQkvIdeal.nD Cert.DilQkvIdeal.τ Cert.DilQkvIdeal.sig) → Buf (Elt Ideal) ℓ) (g : Dev Cert.DilQkvIdeal.nD → PrngReg)
    (m' : (ℓ : Loc Cert.DilQkvReferenceIdeal.nD Cert.DilQkvReferenceIdeal.τ Cert.DilQkvReferenceIdeal.sig) → Buf (Elt Ideal) ℓ) (g' : Dev Cert.DilQkvReferenceIdeal.nD → PrngReg), Pre_DilQkvIdeal m →
    (∀ c : Dev Cert.DilQkvIdeal.nD,
      m' ((c.tc : Thread Cert.DilQkvReferenceIdeal.nD Cert.DilQkvReferenceIdeal.τ).loc Cert.DilQkvReferenceIdeal.main_arg0) = m ((c.tc : Thread Cert.DilQkvIdeal.nD Cert.DilQkvIdeal.τ).loc Cert.DilQkvIdeal.main_arg0)
      ∧ m' ((c.tc : Thread Cert.DilQkvReferenceIdeal.nD Cert.DilQkvReferenceIdeal.τ).loc Cert.DilQkvReferenceIdeal.main_arg1) = m ((c.tc : Thread Cert.DilQkvIdeal.nD Cert.DilQkvIdeal.τ).loc Cert.DilQkvIdeal.main_arg1)) →
    ∃ (v0 : (c : Dev Cert.DilQkvIdeal.nD) → Buf (Elt Ideal) ((c.tc : Thread Cert.DilQkvIdeal.nD Cert.DilQkvIdeal.τ).loc Cert.DilQkvIdeal.main_v0)),
      θ_run (Cert.DilQkvIdeal.defs (F := Ideal)) (onTc (τ := Cert.DilQkvIdeal.τ) (Cert.DilQkvIdeal.main (F := Ideal))) ⟨m, fun _ => 0, g⟩ (fun r => ∀ c : Dev Cert.DilQkvIdeal.nD,
          r.2.mem ((c.tc : Thread Cert.DilQkvIdeal.nD Cert.DilQkvIdeal.τ).loc Cert.DilQkvIdeal.main_v0) = v0 c
          ∧ r.2.mem ((c.tc : Thread Cert.DilQkvIdeal.nD Cert.DilQkvIdeal.τ).loc Cert.DilQkvIdeal.main_arg0) = m ((c.tc : Thread Cert.DilQkvIdeal.nD Cert.DilQkvIdeal.τ).loc Cert.DilQkvIdeal.main_arg0)
          ∧ r.2.mem ((c.tc : Thread Cert.DilQkvIdeal.nD Cert.DilQkvIdeal.τ).loc Cert.DilQkvIdeal.main_arg1) = m ((c.tc : Thread Cert.DilQkvIdeal.nD Cert.DilQkvIdeal.τ).loc Cert.DilQkvIdeal.main_arg1))
      ∧ θ_run (Cert.DilQkvReferenceIdeal.defs (F := Ideal)) (onTc (τ := Cert.DilQkvReferenceIdeal.τ) (Cert.DilQkvReferenceIdeal.main (F := Ideal))) ⟨m', fun _ => 0, g'⟩ (fun r => ∀ c : Dev Cert.DilQkvReferenceIdeal.nD,
          r.2.mem ((c.tc : Thread Cert.DilQkvReferenceIdeal.nD Cert.DilQkvReferenceIdeal.τ).loc Cert.DilQkvReferenceIdeal.main_v0) = v0 c
          ∧ r.2.mem ((c.tc : Thread Cert.DilQkvReferenceIdeal.nD Cert.DilQkvReferenceIdeal.τ).loc Cert.DilQkvReferenceIdeal.main_arg0) = m' ((c.tc : Thread Cert.DilQkvReferenceIdeal.nD Cert.DilQkvReferenceIdeal.τ).loc Cert.DilQkvReferenceIdeal.main_arg0)
          ∧ r.2.mem ((c.tc : Thread Cert.DilQkvReferenceIdeal.nD Cert.DilQkvReferenceIdeal.τ).loc Cert.DilQkvReferenceIdeal.main_arg1) = m' ((c.tc : Thread Cert.DilQkvReferenceIdeal.nD Cert.DilQkvReferenceIdeal.τ).loc Cert.DilQkvReferenceIdeal.main_arg1))

def preserves_DilQkvDx_DilQkvDxIdeal : Prop :=
  True

def algebraic_DilQkvDxIdeal_DilQkvDxReferenceIdeal [hDilQkvDxIdeal : Cert.DilQkvDxIdeal.Facts] [hDilQkvDxReferenceIdeal : Cert.DilQkvDxReferenceIdeal.Facts] : Prop :=
  ∀ (m : (ℓ : Loc Cert.DilQkvDxIdeal.nD Cert.DilQkvDxIdeal.τ Cert.DilQkvDxIdeal.sig) → Buf (Elt Ideal) ℓ) (g : Dev Cert.DilQkvDxIdeal.nD → PrngReg)
    (m' : (ℓ : Loc Cert.DilQkvDxReferenceIdeal.nD Cert.DilQkvDxReferenceIdeal.τ Cert.DilQkvDxReferenceIdeal.sig) → Buf (Elt Ideal) ℓ) (g' : Dev Cert.DilQkvDxReferenceIdeal.nD → PrngReg), Pre_DilQkvDxIdeal m →
    (∀ c : Dev Cert.DilQkvDxIdeal.nD,
      m' ((c.tc : Thread Cert.DilQkvDxReferenceIdeal.nD Cert.DilQkvDxReferenceIdeal.τ).loc Cert.DilQkvDxReferenceIdeal.main_arg0) = m ((c.tc : Thread Cert.DilQkvDxIdeal.nD Cert.DilQkvDxIdeal.τ).loc Cert.DilQkvDxIdeal.main_arg0)
      ∧ m' ((c.tc : Thread Cert.DilQkvDxReferenceIdeal.nD Cert.DilQkvDxReferenceIdeal.τ).loc Cert.DilQkvDxReferenceIdeal.main_arg1) = m ((c.tc : Thread Cert.DilQkvDxIdeal.nD Cert.DilQkvDxIdeal.τ).loc Cert.DilQkvDxIdeal.main_arg1)) →
    ∃ (v0 : (c : Dev Cert.DilQkvDxIdeal.nD) → Buf (Elt Ideal) ((c.tc : Thread Cert.DilQkvDxIdeal.nD Cert.DilQkvDxIdeal.τ).loc Cert.DilQkvDxIdeal.main_v0)),
      θ_run (Cert.DilQkvDxIdeal.defs (F := Ideal)) (onTc (τ := Cert.DilQkvDxIdeal.τ) (Cert.DilQkvDxIdeal.main (F := Ideal))) ⟨m, fun _ => 0, g⟩ (fun r => ∀ c : Dev Cert.DilQkvDxIdeal.nD,
          r.2.mem ((c.tc : Thread Cert.DilQkvDxIdeal.nD Cert.DilQkvDxIdeal.τ).loc Cert.DilQkvDxIdeal.main_v0) = v0 c
          ∧ r.2.mem ((c.tc : Thread Cert.DilQkvDxIdeal.nD Cert.DilQkvDxIdeal.τ).loc Cert.DilQkvDxIdeal.main_arg0) = m ((c.tc : Thread Cert.DilQkvDxIdeal.nD Cert.DilQkvDxIdeal.τ).loc Cert.DilQkvDxIdeal.main_arg0)
          ∧ r.2.mem ((c.tc : Thread Cert.DilQkvDxIdeal.nD Cert.DilQkvDxIdeal.τ).loc Cert.DilQkvDxIdeal.main_arg1) = m ((c.tc : Thread Cert.DilQkvDxIdeal.nD Cert.DilQkvDxIdeal.τ).loc Cert.DilQkvDxIdeal.main_arg1))
      ∧ θ_run (Cert.DilQkvDxReferenceIdeal.defs (F := Ideal)) (onTc (τ := Cert.DilQkvDxReferenceIdeal.τ) (Cert.DilQkvDxReferenceIdeal.main (F := Ideal))) ⟨m', fun _ => 0, g'⟩ (fun r => ∀ c : Dev Cert.DilQkvDxReferenceIdeal.nD,
          r.2.mem ((c.tc : Thread Cert.DilQkvDxReferenceIdeal.nD Cert.DilQkvDxReferenceIdeal.τ).loc Cert.DilQkvDxReferenceIdeal.main_v1) = v0 c
          ∧ r.2.mem ((c.tc : Thread Cert.DilQkvDxReferenceIdeal.nD Cert.DilQkvDxReferenceIdeal.τ).loc Cert.DilQkvDxReferenceIdeal.main_arg0) = m' ((c.tc : Thread Cert.DilQkvDxReferenceIdeal.nD Cert.DilQkvDxReferenceIdeal.τ).loc Cert.DilQkvDxReferenceIdeal.main_arg0)
          ∧ r.2.mem ((c.tc : Thread Cert.DilQkvDxReferenceIdeal.nD Cert.DilQkvDxReferenceIdeal.τ).loc Cert.DilQkvDxReferenceIdeal.main_arg1) = m' ((c.tc : Thread Cert.DilQkvDxReferenceIdeal.nD Cert.DilQkvDxReferenceIdeal.τ).loc Cert.DilQkvDxReferenceIdeal.main_arg1))

def preserves_DilQkvDw_DilQkvDwIdeal : Prop :=
  True

def algebraic_DilQkvDwIdeal_DilQkvDwReferenceIdeal [hDilQkvDwIdeal : Cert.DilQkvDwIdeal.Facts] [hDilQkvDwReferenceIdeal : Cert.DilQkvDwReferenceIdeal.Facts] : Prop :=
  ∀ (m : (ℓ : Loc Cert.DilQkvDwIdeal.nD Cert.DilQkvDwIdeal.τ Cert.DilQkvDwIdeal.sig) → Buf (Elt Ideal) ℓ) (g : Dev Cert.DilQkvDwIdeal.nD → PrngReg)
    (m' : (ℓ : Loc Cert.DilQkvDwReferenceIdeal.nD Cert.DilQkvDwReferenceIdeal.τ Cert.DilQkvDwReferenceIdeal.sig) → Buf (Elt Ideal) ℓ) (g' : Dev Cert.DilQkvDwReferenceIdeal.nD → PrngReg), Pre_DilQkvDwIdeal m →
    (∀ c : Dev Cert.DilQkvDwIdeal.nD,
      m' ((c.tc : Thread Cert.DilQkvDwReferenceIdeal.nD Cert.DilQkvDwReferenceIdeal.τ).loc Cert.DilQkvDwReferenceIdeal.main_arg0) = m ((c.tc : Thread Cert.DilQkvDwIdeal.nD Cert.DilQkvDwIdeal.τ).loc Cert.DilQkvDwIdeal.main_arg0)
      ∧ m' ((c.tc : Thread Cert.DilQkvDwReferenceIdeal.nD Cert.DilQkvDwReferenceIdeal.τ).loc Cert.DilQkvDwReferenceIdeal.main_arg1) = m ((c.tc : Thread Cert.DilQkvDwIdeal.nD Cert.DilQkvDwIdeal.τ).loc Cert.DilQkvDwIdeal.main_arg1)) →
    ∃ (v0 : (c : Dev Cert.DilQkvDwIdeal.nD) → Buf (Elt Ideal) ((c.tc : Thread Cert.DilQkvDwIdeal.nD Cert.DilQkvDwIdeal.τ).loc Cert.DilQkvDwIdeal.main_v0)),
      θ_run (Cert.DilQkvDwIdeal.defs (F := Ideal)) (onTc (τ := Cert.DilQkvDwIdeal.τ) (Cert.DilQkvDwIdeal.main (F := Ideal))) ⟨m, fun _ => 0, g⟩ (fun r => ∀ c : Dev Cert.DilQkvDwIdeal.nD,
          r.2.mem ((c.tc : Thread Cert.DilQkvDwIdeal.nD Cert.DilQkvDwIdeal.τ).loc Cert.DilQkvDwIdeal.main_v0) = v0 c
          ∧ r.2.mem ((c.tc : Thread Cert.DilQkvDwIdeal.nD Cert.DilQkvDwIdeal.τ).loc Cert.DilQkvDwIdeal.main_arg0) = m ((c.tc : Thread Cert.DilQkvDwIdeal.nD Cert.DilQkvDwIdeal.τ).loc Cert.DilQkvDwIdeal.main_arg0)
          ∧ r.2.mem ((c.tc : Thread Cert.DilQkvDwIdeal.nD Cert.DilQkvDwIdeal.τ).loc Cert.DilQkvDwIdeal.main_arg1) = m ((c.tc : Thread Cert.DilQkvDwIdeal.nD Cert.DilQkvDwIdeal.τ).loc Cert.DilQkvDwIdeal.main_arg1))
      ∧ θ_run (Cert.DilQkvDwReferenceIdeal.defs (F := Ideal)) (onTc (τ := Cert.DilQkvDwReferenceIdeal.τ) (Cert.DilQkvDwReferenceIdeal.main (F := Ideal))) ⟨m', fun _ => 0, g'⟩ (fun r => ∀ c : Dev Cert.DilQkvDwReferenceIdeal.nD,
          r.2.mem ((c.tc : Thread Cert.DilQkvDwReferenceIdeal.nD Cert.DilQkvDwReferenceIdeal.τ).loc Cert.DilQkvDwReferenceIdeal.main_v1) = v0 c
          ∧ r.2.mem ((c.tc : Thread Cert.DilQkvDwReferenceIdeal.nD Cert.DilQkvDwReferenceIdeal.τ).loc Cert.DilQkvDwReferenceIdeal.main_arg0) = m' ((c.tc : Thread Cert.DilQkvDwReferenceIdeal.nD Cert.DilQkvDwReferenceIdeal.τ).loc Cert.DilQkvDwReferenceIdeal.main_arg0)
          ∧ r.2.mem ((c.tc : Thread Cert.DilQkvDwReferenceIdeal.nD Cert.DilQkvDwReferenceIdeal.τ).loc Cert.DilQkvDwReferenceIdeal.main_arg1) = m' ((c.tc : Thread Cert.DilQkvDwReferenceIdeal.nD Cert.DilQkvDwReferenceIdeal.τ).loc Cert.DilQkvDwReferenceIdeal.main_arg1))

def preserves_DilOut_DilOutIdeal : Prop :=
  True

def algebraic_DilOutIdeal_DilOutReferenceIdeal [hDilOutIdeal : Cert.DilOutIdeal.Facts] [hDilOutReferenceIdeal : Cert.DilOutReferenceIdeal.Facts] : Prop :=
  ∀ (m : (ℓ : Loc Cert.DilOutIdeal.nD Cert.DilOutIdeal.τ Cert.DilOutIdeal.sig) → Buf (Elt Ideal) ℓ) (g : Dev Cert.DilOutIdeal.nD → PrngReg)
    (m' : (ℓ : Loc Cert.DilOutReferenceIdeal.nD Cert.DilOutReferenceIdeal.τ Cert.DilOutReferenceIdeal.sig) → Buf (Elt Ideal) ℓ) (g' : Dev Cert.DilOutReferenceIdeal.nD → PrngReg), Pre_DilOutIdeal m →
    (∀ c : Dev Cert.DilOutIdeal.nD,
      m' ((c.tc : Thread Cert.DilOutReferenceIdeal.nD Cert.DilOutReferenceIdeal.τ).loc Cert.DilOutReferenceIdeal.main_arg0) = m ((c.tc : Thread Cert.DilOutIdeal.nD Cert.DilOutIdeal.τ).loc Cert.DilOutIdeal.main_arg0)
      ∧ m' ((c.tc : Thread Cert.DilOutReferenceIdeal.nD Cert.DilOutReferenceIdeal.τ).loc Cert.DilOutReferenceIdeal.main_arg1) = m ((c.tc : Thread Cert.DilOutIdeal.nD Cert.DilOutIdeal.τ).loc Cert.DilOutIdeal.main_arg1)) →
    ∃ (v0 : (c : Dev Cert.DilOutIdeal.nD) → Buf (Elt Ideal) ((c.tc : Thread Cert.DilOutIdeal.nD Cert.DilOutIdeal.τ).loc Cert.DilOutIdeal.main_v0)),
      θ_run (Cert.DilOutIdeal.defs (F := Ideal)) (onTc (τ := Cert.DilOutIdeal.τ) (Cert.DilOutIdeal.main (F := Ideal))) ⟨m, fun _ => 0, g⟩ (fun r => ∀ c : Dev Cert.DilOutIdeal.nD,
          r.2.mem ((c.tc : Thread Cert.DilOutIdeal.nD Cert.DilOutIdeal.τ).loc Cert.DilOutIdeal.main_v0) = v0 c
          ∧ r.2.mem ((c.tc : Thread Cert.DilOutIdeal.nD Cert.DilOutIdeal.τ).loc Cert.DilOutIdeal.main_arg0) = m ((c.tc : Thread Cert.DilOutIdeal.nD Cert.DilOutIdeal.τ).loc Cert.DilOutIdeal.main_arg0)
          ∧ r.2.mem ((c.tc : Thread Cert.DilOutIdeal.nD Cert.DilOutIdeal.τ).loc Cert.DilOutIdeal.main_arg1) = m ((c.tc : Thread Cert.DilOutIdeal.nD Cert.DilOutIdeal.τ).loc Cert.DilOutIdeal.main_arg1))
      ∧ θ_run (Cert.DilOutReferenceIdeal.defs (F := Ideal)) (onTc (τ := Cert.DilOutReferenceIdeal.τ) (Cert.DilOutReferenceIdeal.main (F := Ideal))) ⟨m', fun _ => 0, g'⟩ (fun r => ∀ c : Dev Cert.DilOutReferenceIdeal.nD,
          r.2.mem ((c.tc : Thread Cert.DilOutReferenceIdeal.nD Cert.DilOutReferenceIdeal.τ).loc Cert.DilOutReferenceIdeal.main_v0) = v0 c
          ∧ r.2.mem ((c.tc : Thread Cert.DilOutReferenceIdeal.nD Cert.DilOutReferenceIdeal.τ).loc Cert.DilOutReferenceIdeal.main_arg0) = m' ((c.tc : Thread Cert.DilOutReferenceIdeal.nD Cert.DilOutReferenceIdeal.τ).loc Cert.DilOutReferenceIdeal.main_arg0)
          ∧ r.2.mem ((c.tc : Thread Cert.DilOutReferenceIdeal.nD Cert.DilOutReferenceIdeal.τ).loc Cert.DilOutReferenceIdeal.main_arg1) = m' ((c.tc : Thread Cert.DilOutReferenceIdeal.nD Cert.DilOutReferenceIdeal.τ).loc Cert.DilOutReferenceIdeal.main_arg1))

def preserves_DilOutDx_DilOutDxIdeal : Prop :=
  True

def algebraic_DilOutDxIdeal_DilOutDxReferenceIdeal [hDilOutDxIdeal : Cert.DilOutDxIdeal.Facts] [hDilOutDxReferenceIdeal : Cert.DilOutDxReferenceIdeal.Facts] : Prop :=
  ∀ (m : (ℓ : Loc Cert.DilOutDxIdeal.nD Cert.DilOutDxIdeal.τ Cert.DilOutDxIdeal.sig) → Buf (Elt Ideal) ℓ) (g : Dev Cert.DilOutDxIdeal.nD → PrngReg)
    (m' : (ℓ : Loc Cert.DilOutDxReferenceIdeal.nD Cert.DilOutDxReferenceIdeal.τ Cert.DilOutDxReferenceIdeal.sig) → Buf (Elt Ideal) ℓ) (g' : Dev Cert.DilOutDxReferenceIdeal.nD → PrngReg), Pre_DilOutDxIdeal m →
    (∀ c : Dev Cert.DilOutDxIdeal.nD,
      m' ((c.tc : Thread Cert.DilOutDxReferenceIdeal.nD Cert.DilOutDxReferenceIdeal.τ).loc Cert.DilOutDxReferenceIdeal.main_arg0) = m ((c.tc : Thread Cert.DilOutDxIdeal.nD Cert.DilOutDxIdeal.τ).loc Cert.DilOutDxIdeal.main_arg0)
      ∧ m' ((c.tc : Thread Cert.DilOutDxReferenceIdeal.nD Cert.DilOutDxReferenceIdeal.τ).loc Cert.DilOutDxReferenceIdeal.main_arg1) = m ((c.tc : Thread Cert.DilOutDxIdeal.nD Cert.DilOutDxIdeal.τ).loc Cert.DilOutDxIdeal.main_arg1)) →
    ∃ (v0 : (c : Dev Cert.DilOutDxIdeal.nD) → Buf (Elt Ideal) ((c.tc : Thread Cert.DilOutDxIdeal.nD Cert.DilOutDxIdeal.τ).loc Cert.DilOutDxIdeal.main_v0)),
      θ_run (Cert.DilOutDxIdeal.defs (F := Ideal)) (onTc (τ := Cert.DilOutDxIdeal.τ) (Cert.DilOutDxIdeal.main (F := Ideal))) ⟨m, fun _ => 0, g⟩ (fun r => ∀ c : Dev Cert.DilOutDxIdeal.nD,
          r.2.mem ((c.tc : Thread Cert.DilOutDxIdeal.nD Cert.DilOutDxIdeal.τ).loc Cert.DilOutDxIdeal.main_v0) = v0 c
          ∧ r.2.mem ((c.tc : Thread Cert.DilOutDxIdeal.nD Cert.DilOutDxIdeal.τ).loc Cert.DilOutDxIdeal.main_arg0) = m ((c.tc : Thread Cert.DilOutDxIdeal.nD Cert.DilOutDxIdeal.τ).loc Cert.DilOutDxIdeal.main_arg0)
          ∧ r.2.mem ((c.tc : Thread Cert.DilOutDxIdeal.nD Cert.DilOutDxIdeal.τ).loc Cert.DilOutDxIdeal.main_arg1) = m ((c.tc : Thread Cert.DilOutDxIdeal.nD Cert.DilOutDxIdeal.τ).loc Cert.DilOutDxIdeal.main_arg1))
      ∧ θ_run (Cert.DilOutDxReferenceIdeal.defs (F := Ideal)) (onTc (τ := Cert.DilOutDxReferenceIdeal.τ) (Cert.DilOutDxReferenceIdeal.main (F := Ideal))) ⟨m', fun _ => 0, g'⟩ (fun r => ∀ c : Dev Cert.DilOutDxReferenceIdeal.nD,
          r.2.mem ((c.tc : Thread Cert.DilOutDxReferenceIdeal.nD Cert.DilOutDxReferenceIdeal.τ).loc Cert.DilOutDxReferenceIdeal.main_v1) = v0 c
          ∧ r.2.mem ((c.tc : Thread Cert.DilOutDxReferenceIdeal.nD Cert.DilOutDxReferenceIdeal.τ).loc Cert.DilOutDxReferenceIdeal.main_arg0) = m' ((c.tc : Thread Cert.DilOutDxReferenceIdeal.nD Cert.DilOutDxReferenceIdeal.τ).loc Cert.DilOutDxReferenceIdeal.main_arg0)
          ∧ r.2.mem ((c.tc : Thread Cert.DilOutDxReferenceIdeal.nD Cert.DilOutDxReferenceIdeal.τ).loc Cert.DilOutDxReferenceIdeal.main_arg1) = m' ((c.tc : Thread Cert.DilOutDxReferenceIdeal.nD Cert.DilOutDxReferenceIdeal.τ).loc Cert.DilOutDxReferenceIdeal.main_arg1))

def preserves_DilOutDw_DilOutDwIdeal : Prop :=
  True

def algebraic_DilOutDwIdeal_DilOutDwReferenceIdeal [hDilOutDwIdeal : Cert.DilOutDwIdeal.Facts] [hDilOutDwReferenceIdeal : Cert.DilOutDwReferenceIdeal.Facts] : Prop :=
  ∀ (m : (ℓ : Loc Cert.DilOutDwIdeal.nD Cert.DilOutDwIdeal.τ Cert.DilOutDwIdeal.sig) → Buf (Elt Ideal) ℓ) (g : Dev Cert.DilOutDwIdeal.nD → PrngReg)
    (m' : (ℓ : Loc Cert.DilOutDwReferenceIdeal.nD Cert.DilOutDwReferenceIdeal.τ Cert.DilOutDwReferenceIdeal.sig) → Buf (Elt Ideal) ℓ) (g' : Dev Cert.DilOutDwReferenceIdeal.nD → PrngReg), Pre_DilOutDwIdeal m →
    (∀ c : Dev Cert.DilOutDwIdeal.nD,
      m' ((c.tc : Thread Cert.DilOutDwReferenceIdeal.nD Cert.DilOutDwReferenceIdeal.τ).loc Cert.DilOutDwReferenceIdeal.main_arg0) = m ((c.tc : Thread Cert.DilOutDwIdeal.nD Cert.DilOutDwIdeal.τ).loc Cert.DilOutDwIdeal.main_arg0)
      ∧ m' ((c.tc : Thread Cert.DilOutDwReferenceIdeal.nD Cert.DilOutDwReferenceIdeal.τ).loc Cert.DilOutDwReferenceIdeal.main_arg1) = m ((c.tc : Thread Cert.DilOutDwIdeal.nD Cert.DilOutDwIdeal.τ).loc Cert.DilOutDwIdeal.main_arg1)) →
    ∃ (v0 : (c : Dev Cert.DilOutDwIdeal.nD) → Buf (Elt Ideal) ((c.tc : Thread Cert.DilOutDwIdeal.nD Cert.DilOutDwIdeal.τ).loc Cert.DilOutDwIdeal.main_v0)),
      θ_run (Cert.DilOutDwIdeal.defs (F := Ideal)) (onTc (τ := Cert.DilOutDwIdeal.τ) (Cert.DilOutDwIdeal.main (F := Ideal))) ⟨m, fun _ => 0, g⟩ (fun r => ∀ c : Dev Cert.DilOutDwIdeal.nD,
          r.2.mem ((c.tc : Thread Cert.DilOutDwIdeal.nD Cert.DilOutDwIdeal.τ).loc Cert.DilOutDwIdeal.main_v0) = v0 c
          ∧ r.2.mem ((c.tc : Thread Cert.DilOutDwIdeal.nD Cert.DilOutDwIdeal.τ).loc Cert.DilOutDwIdeal.main_arg0) = m ((c.tc : Thread Cert.DilOutDwIdeal.nD Cert.DilOutDwIdeal.τ).loc Cert.DilOutDwIdeal.main_arg0)
          ∧ r.2.mem ((c.tc : Thread Cert.DilOutDwIdeal.nD Cert.DilOutDwIdeal.τ).loc Cert.DilOutDwIdeal.main_arg1) = m ((c.tc : Thread Cert.DilOutDwIdeal.nD Cert.DilOutDwIdeal.τ).loc Cert.DilOutDwIdeal.main_arg1))
      ∧ θ_run (Cert.DilOutDwReferenceIdeal.defs (F := Ideal)) (onTc (τ := Cert.DilOutDwReferenceIdeal.τ) (Cert.DilOutDwReferenceIdeal.main (F := Ideal))) ⟨m', fun _ => 0, g'⟩ (fun r => ∀ c : Dev Cert.DilOutDwReferenceIdeal.nD,
          r.2.mem ((c.tc : Thread Cert.DilOutDwReferenceIdeal.nD Cert.DilOutDwReferenceIdeal.τ).loc Cert.DilOutDwReferenceIdeal.main_v1) = v0 c
          ∧ r.2.mem ((c.tc : Thread Cert.DilOutDwReferenceIdeal.nD Cert.DilOutDwReferenceIdeal.τ).loc Cert.DilOutDwReferenceIdeal.main_arg0) = m' ((c.tc : Thread Cert.DilOutDwReferenceIdeal.nD Cert.DilOutDwReferenceIdeal.τ).loc Cert.DilOutDwReferenceIdeal.main_arg0)
          ∧ r.2.mem ((c.tc : Thread Cert.DilOutDwReferenceIdeal.nD Cert.DilOutDwReferenceIdeal.τ).loc Cert.DilOutDwReferenceIdeal.main_arg1) = m' ((c.tc : Thread Cert.DilOutDwReferenceIdeal.nD Cert.DilOutDwReferenceIdeal.τ).loc Cert.DilOutDwReferenceIdeal.main_arg1))

def preserves_LnLoss_LnLossIdeal : Prop :=
  True

def algebraic_LnLossIdeal_LnLossReferenceIdeal [hLnLossIdeal : Cert.LnLossIdeal.Facts] [hLnLossReferenceIdeal : Cert.LnLossReferenceIdeal.Facts] : Prop :=
  ∀ (m : (ℓ : Loc Cert.LnLossIdeal.nD Cert.LnLossIdeal.τ Cert.LnLossIdeal.sig) → Buf (Elt Ideal) ℓ) (g : Dev Cert.LnLossIdeal.nD → PrngReg)
    (m' : (ℓ : Loc Cert.LnLossReferenceIdeal.nD Cert.LnLossReferenceIdeal.τ Cert.LnLossReferenceIdeal.sig) → Buf (Elt Ideal) ℓ) (g' : Dev Cert.LnLossReferenceIdeal.nD → PrngReg), Pre_LnLossIdeal m →
    (∀ c : Dev Cert.LnLossIdeal.nD,
      m' ((c.tc : Thread Cert.LnLossReferenceIdeal.nD Cert.LnLossReferenceIdeal.τ).loc Cert.LnLossReferenceIdeal.main_arg0) = m ((c.tc : Thread Cert.LnLossIdeal.nD Cert.LnLossIdeal.τ).loc Cert.LnLossIdeal.main_arg0)
      ∧ m' ((c.tc : Thread Cert.LnLossReferenceIdeal.nD Cert.LnLossReferenceIdeal.τ).loc Cert.LnLossReferenceIdeal.main_arg1) = m ((c.tc : Thread Cert.LnLossIdeal.nD Cert.LnLossIdeal.τ).loc Cert.LnLossIdeal.main_arg1)
      ∧ m' ((c.tc : Thread Cert.LnLossReferenceIdeal.nD Cert.LnLossReferenceIdeal.τ).loc Cert.LnLossReferenceIdeal.main_arg2) = m ((c.tc : Thread Cert.LnLossIdeal.nD Cert.LnLossIdeal.τ).loc Cert.LnLossIdeal.main_arg2)
      ∧ m' ((c.tc : Thread Cert.LnLossReferenceIdeal.nD Cert.LnLossReferenceIdeal.τ).loc Cert.LnLossReferenceIdeal.main_arg3) = m ((c.tc : Thread Cert.LnLossIdeal.nD Cert.LnLossIdeal.τ).loc Cert.LnLossIdeal.main_arg3)
      ∧ m' ((c.tc : Thread Cert.LnLossReferenceIdeal.nD Cert.LnLossReferenceIdeal.τ).loc Cert.LnLossReferenceIdeal.main_arg4) = m ((c.tc : Thread Cert.LnLossIdeal.nD Cert.LnLossIdeal.τ).loc Cert.LnLossIdeal.main_arg4)
      ∧ m' ((c.tc : Thread Cert.LnLossReferenceIdeal.nD Cert.LnLossReferenceIdeal.τ).loc Cert.LnLossReferenceIdeal.main_arg5) = m ((c.tc : Thread Cert.LnLossIdeal.nD Cert.LnLossIdeal.τ).loc Cert.LnLossIdeal.main_arg5)) →
    ∃ (v0 : (c : Dev Cert.LnLossIdeal.nD) → Buf (Elt Ideal) ((c.tc : Thread Cert.LnLossIdeal.nD Cert.LnLossIdeal.τ).loc Cert.LnLossIdeal.main_v0)),
      θ_run (Cert.LnLossIdeal.defs (F := Ideal)) (onTc (τ := Cert.LnLossIdeal.τ) (Cert.LnLossIdeal.main (F := Ideal))) ⟨m, fun _ => 0, g⟩ (fun r => ∀ c : Dev Cert.LnLossIdeal.nD,
          r.2.mem ((c.tc : Thread Cert.LnLossIdeal.nD Cert.LnLossIdeal.τ).loc Cert.LnLossIdeal.main_v0) = v0 c
          ∧ r.2.mem ((c.tc : Thread Cert.LnLossIdeal.nD Cert.LnLossIdeal.τ).loc Cert.LnLossIdeal.main_arg0) = m ((c.tc : Thread Cert.LnLossIdeal.nD Cert.LnLossIdeal.τ).loc Cert.LnLossIdeal.main_arg0)
          ∧ r.2.mem ((c.tc : Thread Cert.LnLossIdeal.nD Cert.LnLossIdeal.τ).loc Cert.LnLossIdeal.main_arg1) = m ((c.tc : Thread Cert.LnLossIdeal.nD Cert.LnLossIdeal.τ).loc Cert.LnLossIdeal.main_arg1)
          ∧ r.2.mem ((c.tc : Thread Cert.LnLossIdeal.nD Cert.LnLossIdeal.τ).loc Cert.LnLossIdeal.main_arg2) = m ((c.tc : Thread Cert.LnLossIdeal.nD Cert.LnLossIdeal.τ).loc Cert.LnLossIdeal.main_arg2)
          ∧ r.2.mem ((c.tc : Thread Cert.LnLossIdeal.nD Cert.LnLossIdeal.τ).loc Cert.LnLossIdeal.main_arg3) = m ((c.tc : Thread Cert.LnLossIdeal.nD Cert.LnLossIdeal.τ).loc Cert.LnLossIdeal.main_arg3)
          ∧ r.2.mem ((c.tc : Thread Cert.LnLossIdeal.nD Cert.LnLossIdeal.τ).loc Cert.LnLossIdeal.main_arg4) = m ((c.tc : Thread Cert.LnLossIdeal.nD Cert.LnLossIdeal.τ).loc Cert.LnLossIdeal.main_arg4)
          ∧ r.2.mem ((c.tc : Thread Cert.LnLossIdeal.nD Cert.LnLossIdeal.τ).loc Cert.LnLossIdeal.main_arg5) = m ((c.tc : Thread Cert.LnLossIdeal.nD Cert.LnLossIdeal.τ).loc Cert.LnLossIdeal.main_arg5))
      ∧ θ_run (Cert.LnLossReferenceIdeal.defs (F := Ideal)) (onTc (τ := Cert.LnLossReferenceIdeal.τ) (Cert.LnLossReferenceIdeal.main (F := Ideal))) ⟨m', fun _ => 0, g'⟩ (fun r => ∀ c : Dev Cert.LnLossReferenceIdeal.nD,
          r.2.mem ((c.tc : Thread Cert.LnLossReferenceIdeal.nD Cert.LnLossReferenceIdeal.τ).loc Cert.LnLossReferenceIdeal.main_v37) = v0 c
          ∧ r.2.mem ((c.tc : Thread Cert.LnLossReferenceIdeal.nD Cert.LnLossReferenceIdeal.τ).loc Cert.LnLossReferenceIdeal.main_arg0) = m' ((c.tc : Thread Cert.LnLossReferenceIdeal.nD Cert.LnLossReferenceIdeal.τ).loc Cert.LnLossReferenceIdeal.main_arg0)
          ∧ r.2.mem ((c.tc : Thread Cert.LnLossReferenceIdeal.nD Cert.LnLossReferenceIdeal.τ).loc Cert.LnLossReferenceIdeal.main_arg1) = m' ((c.tc : Thread Cert.LnLossReferenceIdeal.nD Cert.LnLossReferenceIdeal.τ).loc Cert.LnLossReferenceIdeal.main_arg1)
          ∧ r.2.mem ((c.tc : Thread Cert.LnLossReferenceIdeal.nD Cert.LnLossReferenceIdeal.τ).loc Cert.LnLossReferenceIdeal.main_arg2) = m' ((c.tc : Thread Cert.LnLossReferenceIdeal.nD Cert.LnLossReferenceIdeal.τ).loc Cert.LnLossReferenceIdeal.main_arg2)
          ∧ r.2.mem ((c.tc : Thread Cert.LnLossReferenceIdeal.nD Cert.LnLossReferenceIdeal.τ).loc Cert.LnLossReferenceIdeal.main_arg3) = m' ((c.tc : Thread Cert.LnLossReferenceIdeal.nD Cert.LnLossReferenceIdeal.τ).loc Cert.LnLossReferenceIdeal.main_arg3)
          ∧ r.2.mem ((c.tc : Thread Cert.LnLossReferenceIdeal.nD Cert.LnLossReferenceIdeal.τ).loc Cert.LnLossReferenceIdeal.main_arg4) = m' ((c.tc : Thread Cert.LnLossReferenceIdeal.nD Cert.LnLossReferenceIdeal.τ).loc Cert.LnLossReferenceIdeal.main_arg4)
          ∧ r.2.mem ((c.tc : Thread Cert.LnLossReferenceIdeal.nD Cert.LnLossReferenceIdeal.τ).loc Cert.LnLossReferenceIdeal.main_arg5) = m' ((c.tc : Thread Cert.LnLossReferenceIdeal.nD Cert.LnLossReferenceIdeal.τ).loc Cert.LnLossReferenceIdeal.main_arg5))

def preserves_Attention0_Attention0Ideal : Prop :=
  IdealRules.named_const.Statement Cert.Attention0Ideal.κ "mask" .f32 0xF149F2CA#32 ⊥

def algebraic_Attention0Ideal_Attention0ReferenceIdeal [hAttention0Ideal : Cert.Attention0Ideal.Facts] [hAttention0ReferenceIdeal : Cert.Attention0ReferenceIdeal.Facts] : Prop :=
  ∀ (m : (ℓ : Loc Cert.Attention0Ideal.nD Cert.Attention0Ideal.τ Cert.Attention0Ideal.sig) → Buf (Elt Ideal) ℓ) (g : Dev Cert.Attention0Ideal.nD → PrngReg)
    (m' : (ℓ : Loc Cert.Attention0ReferenceIdeal.nD Cert.Attention0ReferenceIdeal.τ Cert.Attention0ReferenceIdeal.sig) → Buf (Elt Ideal) ℓ) (g' : Dev Cert.Attention0ReferenceIdeal.nD → PrngReg), Pre_Attention0Ideal m →
    (∀ c : Dev Cert.Attention0Ideal.nD,
      m' ((c.tc : Thread Cert.Attention0ReferenceIdeal.nD Cert.Attention0ReferenceIdeal.τ).loc Cert.Attention0ReferenceIdeal.main_arg0) = m ((c.tc : Thread Cert.Attention0Ideal.nD Cert.Attention0Ideal.τ).loc Cert.Attention0Ideal.main_arg0)
      ∧ m' ((c.tc : Thread Cert.Attention0ReferenceIdeal.nD Cert.Attention0ReferenceIdeal.τ).loc Cert.Attention0ReferenceIdeal.main_arg1) = m ((c.tc : Thread Cert.Attention0Ideal.nD Cert.Attention0Ideal.τ).loc Cert.Attention0Ideal.main_arg1)) →
    ∃ (v0 : (c : Dev Cert.Attention0Ideal.nD) → Buf (Elt Ideal) ((c.tc : Thread Cert.Attention0Ideal.nD Cert.Attention0Ideal.τ).loc Cert.Attention0Ideal.main_v0_0)) (v1 : (c : Dev Cert.Attention0Ideal.nD) → Buf (Elt Ideal) ((c.tc : Thread Cert.Attention0Ideal.nD Cert.Attention0Ideal.τ).loc Cert.Attention0Ideal.main_v0_1)),
      θ_run (Cert.Attention0Ideal.defs (F := Ideal)) (onTc (τ := Cert.Attention0Ideal.τ) (Cert.Attention0Ideal.main (F := Ideal))) ⟨m, fun _ => 0, g⟩ (fun r => ∀ c : Dev Cert.Attention0Ideal.nD,
          r.2.mem ((c.tc : Thread Cert.Attention0Ideal.nD Cert.Attention0Ideal.τ).loc Cert.Attention0Ideal.main_v0_0) = v0 c
          ∧ r.2.mem ((c.tc : Thread Cert.Attention0Ideal.nD Cert.Attention0Ideal.τ).loc Cert.Attention0Ideal.main_v0_1) = v1 c
          ∧ r.2.mem ((c.tc : Thread Cert.Attention0Ideal.nD Cert.Attention0Ideal.τ).loc Cert.Attention0Ideal.main_arg0) = m ((c.tc : Thread Cert.Attention0Ideal.nD Cert.Attention0Ideal.τ).loc Cert.Attention0Ideal.main_arg0)
          ∧ r.2.mem ((c.tc : Thread Cert.Attention0Ideal.nD Cert.Attention0Ideal.τ).loc Cert.Attention0Ideal.main_arg1) = m ((c.tc : Thread Cert.Attention0Ideal.nD Cert.Attention0Ideal.τ).loc Cert.Attention0Ideal.main_arg1))
      ∧ θ_run (Cert.Attention0ReferenceIdeal.defs (F := Ideal)) (onTc (τ := Cert.Attention0ReferenceIdeal.τ) (Cert.Attention0ReferenceIdeal.main (F := Ideal))) ⟨m', fun _ => 0, g'⟩ (fun r => ∀ c : Dev Cert.Attention0ReferenceIdeal.nD,
          r.2.mem ((c.tc : Thread Cert.Attention0ReferenceIdeal.nD Cert.Attention0ReferenceIdeal.τ).loc Cert.Attention0ReferenceIdeal.main_v64) = v0 c
          ∧ r.2.mem ((c.tc : Thread Cert.Attention0ReferenceIdeal.nD Cert.Attention0ReferenceIdeal.τ).loc Cert.Attention0ReferenceIdeal.main_v67) = v1 c
          ∧ r.2.mem ((c.tc : Thread Cert.Attention0ReferenceIdeal.nD Cert.Attention0ReferenceIdeal.τ).loc Cert.Attention0ReferenceIdeal.main_arg0) = m' ((c.tc : Thread Cert.Attention0ReferenceIdeal.nD Cert.Attention0ReferenceIdeal.τ).loc Cert.Attention0ReferenceIdeal.main_arg0)
          ∧ r.2.mem ((c.tc : Thread Cert.Attention0ReferenceIdeal.nD Cert.Attention0ReferenceIdeal.τ).loc Cert.Attention0ReferenceIdeal.main_arg1) = m' ((c.tc : Thread Cert.Attention0ReferenceIdeal.nD Cert.Attention0ReferenceIdeal.τ).loc Cert.Attention0ReferenceIdeal.main_arg1))

def Claim : Prop :=
  ∃ (hSumChips : Cert.SumChips.Facts) (hSumChipsIdeal : Cert.SumChipsIdeal.Facts) (hSumChipsReferenceIdeal : Cert.SumChipsReferenceIdeal.Facts) (hSumChipsReference : Cert.SumChipsReference.Facts) (hSumCores : Cert.SumCores.Facts) (hSumCoresIdeal : Cert.SumCoresIdeal.Facts) (hSumCoresReferenceIdeal : Cert.SumCoresReferenceIdeal.Facts) (hSumCoresReference : Cert.SumCoresReference.Facts) (hSumSmall : Cert.SumSmall.Facts) (hSumSmallIdeal : Cert.SumSmallIdeal.Facts) (hSumSmallReferenceIdeal : Cert.SumSmallReferenceIdeal.Facts) (hSumSmallReference : Cert.SumSmallReference.Facts) (hGatherBig : Cert.GatherBig.Facts) (hGatherBigIdeal : Cert.GatherBigIdeal.Facts) (hGatherBigReferenceIdeal : Cert.GatherBigReferenceIdeal.Facts) (hGatherBigReference : Cert.GatherBigReference.Facts) (hGatherSmall : Cert.GatherSmall.Facts) (hGatherSmallIdeal : Cert.GatherSmallIdeal.Facts) (hGatherSmallReferenceIdeal : Cert.GatherSmallReferenceIdeal.Facts) (hGatherSmallReference : Cert.GatherSmallReference.Facts) (hGatherC : Cert.GatherC.Facts) (hGatherCIdeal : Cert.GatherCIdeal.Facts) (hGatherCReferenceIdeal : Cert.GatherCReferenceIdeal.Facts) (hGatherCReference : Cert.GatherCReference.Facts) (hAdamwAdaW : Cert.AdamwAdaW.Facts) (hAdamwAdaWIdeal : Cert.AdamwAdaWIdeal.Facts) (hAdamwAdaWReferenceIdeal : Cert.AdamwAdaWReferenceIdeal.Facts) (hAdamwAdaB : Cert.AdamwAdaB.Facts) (hAdamwAdaBIdeal : Cert.AdamwAdaBIdeal.Facts) (hAdamwAdaBReferenceIdeal : Cert.AdamwAdaBReferenceIdeal.Facts) (hAdamwLnG : Cert.AdamwLnG.Facts) (hAdamwLnGIdeal : Cert.AdamwLnGIdeal.Facts) (hAdamwLnGReferenceIdeal : Cert.AdamwLnGReferenceIdeal.Facts) (hAdamwAbWIn : Cert.AdamwAbWIn.Facts) (hAdamwAbWInIdeal : Cert.AdamwAbWInIdeal.Facts) (hAdamwAbWInReferenceIdeal : Cert.AdamwAbWInReferenceIdeal.Facts) (hAdamwRwMu : Cert.AdamwRwMu.Facts) (hAdamwRwMuIdeal : Cert.AdamwRwMuIdeal.Facts) (hAdamwRwMuReferenceIdeal : Cert.AdamwRwMuReferenceIdeal.Facts) (hAdamwRwW0 : Cert.AdamwRwW0.Facts) (hAdamwRwW0Ideal : Cert.AdamwRwW0Ideal.Facts) (hAdamwRwW0ReferenceIdeal : Cert.AdamwRwW0ReferenceIdeal.Facts) (hAdamwRwWUp : Cert.AdamwRwWUp.Facts) (hAdamwRwWUpIdeal : Cert.AdamwRwWUpIdeal.Facts) (hAdamwRwWUpReferenceIdeal : Cert.AdamwRwWUpReferenceIdeal.Facts) (hAdamwRwGUp : Cert.AdamwRwGUp.Facts) (hAdamwRwGUpIdeal : Cert.AdamwRwGUpIdeal.Facts) (hAdamwRwGUpReferenceIdeal : Cert.AdamwRwGUpReferenceIdeal.Facts) (hAdamwRwRK : Cert.AdamwRwRK.Facts) (hAdamwRwRKIdeal : Cert.AdamwRwRKIdeal.Facts) (hAdamwRwRKReferenceIdeal : Cert.AdamwRwRKReferenceIdeal.Facts) (hAdamwScConvW : Cert.AdamwScConvW.Facts) (hAdamwScConvWIdeal : Cert.AdamwScConvWIdeal.Facts) (hAdamwScConvWReferenceIdeal : Cert.AdamwScConvWReferenceIdeal.Facts) (hAdamwAbWOut : Cert.AdamwAbWOut.Facts) (hAdamwAbWOutIdeal : Cert.AdamwAbWOutIdeal.Facts) (hAdamwAbWOutReferenceIdeal : Cert.AdamwAbWOutReferenceIdeal.Facts) (hAdamwDilWQkv : Cert.AdamwDilWQkv.Facts) (hAdamwDilWQkvIdeal : Cert.AdamwDilWQkvIdeal.Facts) (hAdamwDilWQkvReferenceIdeal : Cert.AdamwDilWQkvReferenceIdeal.Facts) (hAdamwDilWOut : Cert.AdamwDilWOut.Facts) (hAdamwDilWOutIdeal : Cert.AdamwDilWOutIdeal.Facts) (hAdamwDilWOutReferenceIdeal : Cert.AdamwDilWOutReferenceIdeal.Facts) (hAdamwRelBias : Cert.AdamwRelBias.Facts) (hAdamwRelBiasIdeal : Cert.AdamwRelBiasIdeal.Facts) (hAdamwRelBiasReferenceIdeal : Cert.AdamwRelBiasReferenceIdeal.Facts) (hAdamwMlpW1 : Cert.AdamwMlpW1.Facts) (hAdamwMlpW1Ideal : Cert.AdamwMlpW1Ideal.Facts) (hAdamwMlpW1ReferenceIdeal : Cert.AdamwMlpW1ReferenceIdeal.Facts) (hAdaFwd : Cert.AdaFwd.Facts) (hAdaFwdIdeal : Cert.AdaFwdIdeal.Facts) (hAdaFwdReferenceIdeal : Cert.AdaFwdReferenceIdeal.Facts) (hAdaGrad : Cert.AdaGrad.Facts) (hAdaGradIdeal : Cert.AdaGradIdeal.Facts) (hAdaGradReferenceIdeal : Cert.AdaGradReferenceIdeal.Facts) (hModIn : Cert.ModIn.Facts) (hModInIdeal : Cert.ModInIdeal.Facts) (hModInReferenceIdeal : Cert.ModInReferenceIdeal.Facts) (hLnMix : Cert.LnMix.Facts) (hLnMixIdeal : Cert.LnMixIdeal.Facts) (hLnMixReferenceIdeal : Cert.LnMixReferenceIdeal.Facts) (hMlpAct : Cert.MlpAct.Facts) (hMlpActIdeal : Cert.MlpActIdeal.Facts) (hMlpActReferenceIdeal : Cert.MlpActReferenceIdeal.Facts) (hMlpW1 : Cert.MlpW1.Facts) (hMlpW1Ideal : Cert.MlpW1Ideal.Facts) (hMlpW1ReferenceIdeal : Cert.MlpW1ReferenceIdeal.Facts) (hMlpW1Dx : Cert.MlpW1Dx.Facts) (hMlpW1DxIdeal : Cert.MlpW1DxIdeal.Facts) (hMlpW1DxReferenceIdeal : Cert.MlpW1DxReferenceIdeal.Facts) (hMlpW1Dw : Cert.MlpW1Dw.Facts) (hMlpW1DwIdeal : Cert.MlpW1DwIdeal.Facts) (hMlpW1DwReferenceIdeal : Cert.MlpW1DwReferenceIdeal.Facts) (hMlpW2 : Cert.MlpW2.Facts) (hMlpW2Ideal : Cert.MlpW2Ideal.Facts) (hMlpW2ReferenceIdeal : Cert.MlpW2ReferenceIdeal.Facts) (hMlpW2Dx : Cert.MlpW2Dx.Facts) (hMlpW2DxIdeal : Cert.MlpW2DxIdeal.Facts) (hMlpW2DxReferenceIdeal : Cert.MlpW2DxReferenceIdeal.Facts) (hMlpW2Dw : Cert.MlpW2Dw.Facts) (hMlpW2DwIdeal : Cert.MlpW2DwIdeal.Facts) (hMlpW2DwReferenceIdeal : Cert.MlpW2DwReferenceIdeal.Facts) (hAbIn : Cert.AbIn.Facts) (hAbInIdeal : Cert.AbInIdeal.Facts) (hAbInReferenceIdeal : Cert.AbInReferenceIdeal.Facts) (hAbInDx : Cert.AbInDx.Facts) (hAbInDxIdeal : Cert.AbInDxIdeal.Facts) (hAbInDxReferenceIdeal : Cert.AbInDxReferenceIdeal.Facts) (hAbInDw : Cert.AbInDw.Facts) (hAbInDwIdeal : Cert.AbInDwIdeal.Facts) (hAbInDwReferenceIdeal : Cert.AbInDwReferenceIdeal.Facts) (hAbOut : Cert.AbOut.Facts) (hAbOutIdeal : Cert.AbOutIdeal.Facts) (hAbOutReferenceIdeal : Cert.AbOutReferenceIdeal.Facts) (hAbOutDx : Cert.AbOutDx.Facts) (hAbOutDxIdeal : Cert.AbOutDxIdeal.Facts) (hAbOutDxReferenceIdeal : Cert.AbOutDxReferenceIdeal.Facts) (hAbOutDw : Cert.AbOutDw.Facts) (hAbOutDwIdeal : Cert.AbOutDwIdeal.Facts) (hAbOutDwReferenceIdeal : Cert.AbOutDwReferenceIdeal.Facts) (hDilQkv : Cert.DilQkv.Facts) (hDilQkvIdeal : Cert.DilQkvIdeal.Facts) (hDilQkvReferenceIdeal : Cert.DilQkvReferenceIdeal.Facts) (hDilQkvDx : Cert.DilQkvDx.Facts) (hDilQkvDxIdeal : Cert.DilQkvDxIdeal.Facts) (hDilQkvDxReferenceIdeal : Cert.DilQkvDxReferenceIdeal.Facts) (hDilQkvDw : Cert.DilQkvDw.Facts) (hDilQkvDwIdeal : Cert.DilQkvDwIdeal.Facts) (hDilQkvDwReferenceIdeal : Cert.DilQkvDwReferenceIdeal.Facts) (hDilOut : Cert.DilOut.Facts) (hDilOutIdeal : Cert.DilOutIdeal.Facts) (hDilOutReferenceIdeal : Cert.DilOutReferenceIdeal.Facts) (hDilOutDx : Cert.DilOutDx.Facts) (hDilOutDxIdeal : Cert.DilOutDxIdeal.Facts) (hDilOutDxReferenceIdeal : Cert.DilOutDxReferenceIdeal.Facts) (hDilOutDw : Cert.DilOutDw.Facts) (hDilOutDwIdeal : Cert.DilOutDwIdeal.Facts) (hDilOutDwReferenceIdeal : Cert.DilOutDwReferenceIdeal.Facts) (hLnLoss : Cert.LnLoss.Facts) (hLnLossIdeal : Cert.LnLossIdeal.Facts) (hLnLossReferenceIdeal : Cert.LnLossReferenceIdeal.Facts) (hAttention0 : Cert.Attention0.Facts) (hAttention0Ideal : Cert.Attention0Ideal.Facts) (hAttention0ReferenceIdeal : Cert.Attention0ReferenceIdeal.Facts),
    quiescent_SumChips (hSumChips := hSumChips)
    ∧ quiescent_SumChipsIdeal (hSumChipsIdeal := hSumChipsIdeal)
    ∧ quiescent_SumChipsReferenceIdeal (hSumChipsReferenceIdeal := hSumChipsReferenceIdeal)
    ∧ quiescent_SumChipsReference (hSumChipsReference := hSumChipsReference)
    ∧ quiescent_SumCores (hSumCores := hSumCores)
    ∧ quiescent_SumCoresIdeal (hSumCoresIdeal := hSumCoresIdeal)
    ∧ quiescent_SumCoresReferenceIdeal (hSumCoresReferenceIdeal := hSumCoresReferenceIdeal)
    ∧ quiescent_SumCoresReference (hSumCoresReference := hSumCoresReference)
    ∧ quiescent_SumSmall (hSumSmall := hSumSmall)
    ∧ quiescent_SumSmallIdeal (hSumSmallIdeal := hSumSmallIdeal)
    ∧ quiescent_SumSmallReferenceIdeal (hSumSmallReferenceIdeal := hSumSmallReferenceIdeal)
    ∧ quiescent_SumSmallReference (hSumSmallReference := hSumSmallReference)
    ∧ quiescent_GatherBig (hGatherBig := hGatherBig)
    ∧ quiescent_GatherBigIdeal (hGatherBigIdeal := hGatherBigIdeal)
    ∧ quiescent_GatherBigReferenceIdeal (hGatherBigReferenceIdeal := hGatherBigReferenceIdeal)
    ∧ quiescent_GatherBigReference (hGatherBigReference := hGatherBigReference)
    ∧ quiescent_GatherSmall (hGatherSmall := hGatherSmall)
    ∧ quiescent_GatherSmallIdeal (hGatherSmallIdeal := hGatherSmallIdeal)
    ∧ quiescent_GatherSmallReferenceIdeal (hGatherSmallReferenceIdeal := hGatherSmallReferenceIdeal)
    ∧ quiescent_GatherSmallReference (hGatherSmallReference := hGatherSmallReference)
    ∧ quiescent_GatherC (hGatherC := hGatherC)
    ∧ quiescent_GatherCIdeal (hGatherCIdeal := hGatherCIdeal)
    ∧ quiescent_GatherCReferenceIdeal (hGatherCReferenceIdeal := hGatherCReferenceIdeal)
    ∧ quiescent_GatherCReference (hGatherCReference := hGatherCReference)
    ∧ quiescent_AdamwAdaW (hAdamwAdaW := hAdamwAdaW)
    ∧ quiescent_AdamwAdaWIdeal (hAdamwAdaWIdeal := hAdamwAdaWIdeal)
    ∧ quiescent_AdamwAdaWReferenceIdeal (hAdamwAdaWReferenceIdeal := hAdamwAdaWReferenceIdeal)
    ∧ quiescent_AdamwAdaB (hAdamwAdaB := hAdamwAdaB)
    ∧ quiescent_AdamwAdaBIdeal (hAdamwAdaBIdeal := hAdamwAdaBIdeal)
    ∧ quiescent_AdamwAdaBReferenceIdeal (hAdamwAdaBReferenceIdeal := hAdamwAdaBReferenceIdeal)
    ∧ quiescent_AdamwLnG (hAdamwLnG := hAdamwLnG)
    ∧ quiescent_AdamwLnGIdeal (hAdamwLnGIdeal := hAdamwLnGIdeal)
    ∧ quiescent_AdamwLnGReferenceIdeal (hAdamwLnGReferenceIdeal := hAdamwLnGReferenceIdeal)
    ∧ quiescent_AdamwAbWIn (hAdamwAbWIn := hAdamwAbWIn)
    ∧ quiescent_AdamwAbWInIdeal (hAdamwAbWInIdeal := hAdamwAbWInIdeal)
    ∧ quiescent_AdamwAbWInReferenceIdeal (hAdamwAbWInReferenceIdeal := hAdamwAbWInReferenceIdeal)
    ∧ quiescent_AdamwRwMu (hAdamwRwMu := hAdamwRwMu)
    ∧ quiescent_AdamwRwMuIdeal (hAdamwRwMuIdeal := hAdamwRwMuIdeal)
    ∧ quiescent_AdamwRwMuReferenceIdeal (hAdamwRwMuReferenceIdeal := hAdamwRwMuReferenceIdeal)
    ∧ quiescent_AdamwRwW0 (hAdamwRwW0 := hAdamwRwW0)
    ∧ quiescent_AdamwRwW0Ideal (hAdamwRwW0Ideal := hAdamwRwW0Ideal)
    ∧ quiescent_AdamwRwW0ReferenceIdeal (hAdamwRwW0ReferenceIdeal := hAdamwRwW0ReferenceIdeal)
    ∧ quiescent_AdamwRwWUp (hAdamwRwWUp := hAdamwRwWUp)
    ∧ quiescent_AdamwRwWUpIdeal (hAdamwRwWUpIdeal := hAdamwRwWUpIdeal)
    ∧ quiescent_AdamwRwWUpReferenceIdeal (hAdamwRwWUpReferenceIdeal := hAdamwRwWUpReferenceIdeal)
    ∧ quiescent_AdamwRwGUp (hAdamwRwGUp := hAdamwRwGUp)
    ∧ quiescent_AdamwRwGUpIdeal (hAdamwRwGUpIdeal := hAdamwRwGUpIdeal)
    ∧ quiescent_AdamwRwGUpReferenceIdeal (hAdamwRwGUpReferenceIdeal := hAdamwRwGUpReferenceIdeal)
    ∧ quiescent_AdamwRwRK (hAdamwRwRK := hAdamwRwRK)
    ∧ quiescent_AdamwRwRKIdeal (hAdamwRwRKIdeal := hAdamwRwRKIdeal)
    ∧ quiescent_AdamwRwRKReferenceIdeal (hAdamwRwRKReferenceIdeal := hAdamwRwRKReferenceIdeal)
    ∧ quiescent_AdamwScConvW (hAdamwScConvW := hAdamwScConvW)
    ∧ quiescent_AdamwScConvWIdeal (hAdamwScConvWIdeal := hAdamwScConvWIdeal)
    ∧ quiescent_AdamwScConvWReferenceIdeal (hAdamwScConvWReferenceIdeal := hAdamwScConvWReferenceIdeal)
    ∧ quiescent_AdamwAbWOut (hAdamwAbWOut := hAdamwAbWOut)
    ∧ quiescent_AdamwAbWOutIdeal (hAdamwAbWOutIdeal := hAdamwAbWOutIdeal)
    ∧ quiescent_AdamwAbWOutReferenceIdeal (hAdamwAbWOutReferenceIdeal := hAdamwAbWOutReferenceIdeal)
    ∧ quiescent_AdamwDilWQkv (hAdamwDilWQkv := hAdamwDilWQkv)
    ∧ quiescent_AdamwDilWQkvIdeal (hAdamwDilWQkvIdeal := hAdamwDilWQkvIdeal)
    ∧ quiescent_AdamwDilWQkvReferenceIdeal (hAdamwDilWQkvReferenceIdeal := hAdamwDilWQkvReferenceIdeal)
    ∧ quiescent_AdamwDilWOut (hAdamwDilWOut := hAdamwDilWOut)
    ∧ quiescent_AdamwDilWOutIdeal (hAdamwDilWOutIdeal := hAdamwDilWOutIdeal)
    ∧ quiescent_AdamwDilWOutReferenceIdeal (hAdamwDilWOutReferenceIdeal := hAdamwDilWOutReferenceIdeal)
    ∧ quiescent_AdamwRelBias (hAdamwRelBias := hAdamwRelBias)
    ∧ quiescent_AdamwRelBiasIdeal (hAdamwRelBiasIdeal := hAdamwRelBiasIdeal)
    ∧ quiescent_AdamwRelBiasReferenceIdeal (hAdamwRelBiasReferenceIdeal := hAdamwRelBiasReferenceIdeal)
    ∧ quiescent_AdamwMlpW1 (hAdamwMlpW1 := hAdamwMlpW1)
    ∧ quiescent_AdamwMlpW1Ideal (hAdamwMlpW1Ideal := hAdamwMlpW1Ideal)
    ∧ quiescent_AdamwMlpW1ReferenceIdeal (hAdamwMlpW1ReferenceIdeal := hAdamwMlpW1ReferenceIdeal)
    ∧ quiescent_AdaFwd (hAdaFwd := hAdaFwd)
    ∧ quiescent_AdaFwdIdeal (hAdaFwdIdeal := hAdaFwdIdeal)
    ∧ quiescent_AdaFwdReferenceIdeal (hAdaFwdReferenceIdeal := hAdaFwdReferenceIdeal)
    ∧ quiescent_AdaGrad (hAdaGrad := hAdaGrad)
    ∧ quiescent_AdaGradIdeal (hAdaGradIdeal := hAdaGradIdeal)
    ∧ quiescent_AdaGradReferenceIdeal (hAdaGradReferenceIdeal := hAdaGradReferenceIdeal)
    ∧ quiescent_ModIn (hModIn := hModIn)
    ∧ quiescent_ModInIdeal (hModInIdeal := hModInIdeal)
    ∧ quiescent_ModInReferenceIdeal (hModInReferenceIdeal := hModInReferenceIdeal)
    ∧ quiescent_LnMix (hLnMix := hLnMix)
    ∧ quiescent_LnMixIdeal (hLnMixIdeal := hLnMixIdeal)
    ∧ quiescent_LnMixReferenceIdeal (hLnMixReferenceIdeal := hLnMixReferenceIdeal)
    ∧ quiescent_MlpAct (hMlpAct := hMlpAct)
    ∧ quiescent_MlpActIdeal (hMlpActIdeal := hMlpActIdeal)
    ∧ quiescent_MlpActReferenceIdeal (hMlpActReferenceIdeal := hMlpActReferenceIdeal)
    ∧ quiescent_MlpW1 (hMlpW1 := hMlpW1)
    ∧ quiescent_MlpW1Ideal (hMlpW1Ideal := hMlpW1Ideal)
    ∧ quiescent_MlpW1ReferenceIdeal (hMlpW1ReferenceIdeal := hMlpW1ReferenceIdeal)
    ∧ quiescent_MlpW1Dx (hMlpW1Dx := hMlpW1Dx)
    ∧ quiescent_MlpW1DxIdeal (hMlpW1DxIdeal := hMlpW1DxIdeal)
    ∧ quiescent_MlpW1DxReferenceIdeal (hMlpW1DxReferenceIdeal := hMlpW1DxReferenceIdeal)
    ∧ quiescent_MlpW1Dw (hMlpW1Dw := hMlpW1Dw)
    ∧ quiescent_MlpW1DwIdeal (hMlpW1DwIdeal := hMlpW1DwIdeal)
    ∧ quiescent_MlpW1DwReferenceIdeal (hMlpW1DwReferenceIdeal := hMlpW1DwReferenceIdeal)
    ∧ quiescent_MlpW2 (hMlpW2 := hMlpW2)
    ∧ quiescent_MlpW2Ideal (hMlpW2Ideal := hMlpW2Ideal)
    ∧ quiescent_MlpW2ReferenceIdeal (hMlpW2ReferenceIdeal := hMlpW2ReferenceIdeal)
    ∧ quiescent_MlpW2Dx (hMlpW2Dx := hMlpW2Dx)
    ∧ quiescent_MlpW2DxIdeal (hMlpW2DxIdeal := hMlpW2DxIdeal)
    ∧ quiescent_MlpW2DxReferenceIdeal (hMlpW2DxReferenceIdeal := hMlpW2DxReferenceIdeal)
    ∧ quiescent_MlpW2Dw (hMlpW2Dw := hMlpW2Dw)
    ∧ quiescent_MlpW2DwIdeal (hMlpW2DwIdeal := hMlpW2DwIdeal)
    ∧ quiescent_MlpW2DwReferenceIdeal (hMlpW2DwReferenceIdeal := hMlpW2DwReferenceIdeal)
    ∧ quiescent_AbIn (hAbIn := hAbIn)
    ∧ quiescent_AbInIdeal (hAbInIdeal := hAbInIdeal)
    ∧ quiescent_AbInReferenceIdeal (hAbInReferenceIdeal := hAbInReferenceIdeal)
    ∧ quiescent_AbInDx (hAbInDx := hAbInDx)
    ∧ quiescent_AbInDxIdeal (hAbInDxIdeal := hAbInDxIdeal)
    ∧ quiescent_AbInDxReferenceIdeal (hAbInDxReferenceIdeal := hAbInDxReferenceIdeal)
    ∧ quiescent_AbInDw (hAbInDw := hAbInDw)
    ∧ quiescent_AbInDwIdeal (hAbInDwIdeal := hAbInDwIdeal)
    ∧ quiescent_AbInDwReferenceIdeal (hAbInDwReferenceIdeal := hAbInDwReferenceIdeal)
    ∧ quiescent_AbOut (hAbOut := hAbOut)
    ∧ quiescent_AbOutIdeal (hAbOutIdeal := hAbOutIdeal)
    ∧ quiescent_AbOutReferenceIdeal (hAbOutReferenceIdeal := hAbOutReferenceIdeal)
    ∧ quiescent_AbOutDx (hAbOutDx := hAbOutDx)
    ∧ quiescent_AbOutDxIdeal (hAbOutDxIdeal := hAbOutDxIdeal)
    ∧ quiescent_AbOutDxReferenceIdeal (hAbOutDxReferenceIdeal := hAbOutDxReferenceIdeal)
    ∧ quiescent_AbOutDw (hAbOutDw := hAbOutDw)
    ∧ quiescent_AbOutDwIdeal (hAbOutDwIdeal := hAbOutDwIdeal)
    ∧ quiescent_AbOutDwReferenceIdeal (hAbOutDwReferenceIdeal := hAbOutDwReferenceIdeal)
    ∧ quiescent_DilQkv (hDilQkv := hDilQkv)
    ∧ quiescent_DilQkvIdeal (hDilQkvIdeal := hDilQkvIdeal)
    ∧ quiescent_DilQkvReferenceIdeal (hDilQkvReferenceIdeal := hDilQkvReferenceIdeal)
    ∧ quiescent_DilQkvDx (hDilQkvDx := hDilQkvDx)
    ∧ quiescent_DilQkvDxIdeal (hDilQkvDxIdeal := hDilQkvDxIdeal)
    ∧ quiescent_DilQkvDxReferenceIdeal (hDilQkvDxReferenceIdeal := hDilQkvDxReferenceIdeal)
    ∧ quiescent_DilQkvDw (hDilQkvDw := hDilQkvDw)
    ∧ quiescent_DilQkvDwIdeal (hDilQkvDwIdeal := hDilQkvDwIdeal)
    ∧ quiescent_DilQkvDwReferenceIdeal (hDilQkvDwReferenceIdeal := hDilQkvDwReferenceIdeal)
    ∧ quiescent_DilOut (hDilOut := hDilOut)
    ∧ quiescent_DilOutIdeal (hDilOutIdeal := hDilOutIdeal)
    ∧ quiescent_DilOutReferenceIdeal (hDilOutReferenceIdeal := hDilOutReferenceIdeal)
    ∧ quiescent_DilOutDx (hDilOutDx := hDilOutDx)
    ∧ quiescent_DilOutDxIdeal (hDilOutDxIdeal := hDilOutDxIdeal)
    ∧ quiescent_DilOutDxReferenceIdeal (hDilOutDxReferenceIdeal := hDilOutDxReferenceIdeal)
    ∧ quiescent_DilOutDw (hDilOutDw := hDilOutDw)
    ∧ quiescent_DilOutDwIdeal (hDilOutDwIdeal := hDilOutDwIdeal)
    ∧ quiescent_DilOutDwReferenceIdeal (hDilOutDwReferenceIdeal := hDilOutDwReferenceIdeal)
    ∧ quiescent_LnLoss (hLnLoss := hLnLoss)
    ∧ quiescent_LnLossIdeal (hLnLossIdeal := hLnLossIdeal)
    ∧ quiescent_LnLossReferenceIdeal (hLnLossReferenceIdeal := hLnLossReferenceIdeal)
    ∧ quiescent_Attention0 (hAttention0 := hAttention0)
    ∧ quiescent_Attention0Ideal (hAttention0Ideal := hAttention0Ideal)
    ∧ quiescent_Attention0ReferenceIdeal (hAttention0ReferenceIdeal := hAttention0ReferenceIdeal)
    ∧ preserves_SumChips_SumChipsIdeal
    ∧ algebraic_SumChipsIdeal_SumChipsReferenceIdeal (hSumChipsIdeal := hSumChipsIdeal) (hSumChipsReferenceIdeal := hSumChipsReferenceIdeal)
    ∧ bitexact_SumChips_SumChipsReference (hSumChips := hSumChips) (hSumChipsReference := hSumChipsReference)
    ∧ preserves_SumCores_SumCoresIdeal
    ∧ algebraic_SumCoresIdeal_SumCoresReferenceIdeal (hSumCoresIdeal := hSumCoresIdeal) (hSumCoresReferenceIdeal := hSumCoresReferenceIdeal)
    ∧ bitexact_SumCores_SumCoresReference (hSumCores := hSumCores) (hSumCoresReference := hSumCoresReference)
    ∧ preserves_SumSmall_SumSmallIdeal
    ∧ algebraic_SumSmallIdeal_SumSmallReferenceIdeal (hSumSmallIdeal := hSumSmallIdeal) (hSumSmallReferenceIdeal := hSumSmallReferenceIdeal)
    ∧ bitexact_SumSmall_SumSmallReference (hSumSmall := hSumSmall) (hSumSmallReference := hSumSmallReference)
    ∧ preserves_GatherBig_GatherBigIdeal
    ∧ algebraic_GatherBigIdeal_GatherBigReferenceIdeal (hGatherBigIdeal := hGatherBigIdeal) (hGatherBigReferenceIdeal := hGatherBigReferenceIdeal)
    ∧ bitexact_GatherBig_GatherBigReference (hGatherBig := hGatherBig) (hGatherBigReference := hGatherBigReference)
    ∧ preserves_GatherSmall_GatherSmallIdeal
    ∧ algebraic_GatherSmallIdeal_GatherSmallReferenceIdeal (hGatherSmallIdeal := hGatherSmallIdeal) (hGatherSmallReferenceIdeal := hGatherSmallReferenceIdeal)
    ∧ bitexact_GatherSmall_GatherSmallReference (hGatherSmall := hGatherSmall) (hGatherSmallReference := hGatherSmallReference)
    ∧ preserves_GatherC_GatherCIdeal
    ∧ algebraic_GatherCIdeal_GatherCReferenceIdeal (hGatherCIdeal := hGatherCIdeal) (hGatherCReferenceIdeal := hGatherCReferenceIdeal)
    ∧ bitexact_GatherC_GatherCReference (hGatherC := hGatherC) (hGatherCReference := hGatherCReference)
    ∧ preserves_AdamwAdaW_AdamwAdaWIdeal
    ∧ algebraic_AdamwAdaWIdeal_AdamwAdaWReferenceIdeal (hAdamwAdaWIdeal := hAdamwAdaWIdeal) (hAdamwAdaWReferenceIdeal := hAdamwAdaWReferenceIdeal)
    ∧ preserves_AdamwAdaB_AdamwAdaBIdeal
    ∧ algebraic_AdamwAdaBIdeal_AdamwAdaBReferenceIdeal (hAdamwAdaBIdeal := hAdamwAdaBIdeal) (hAdamwAdaBReferenceIdeal := hAdamwAdaBReferenceIdeal)
    ∧ preserves_AdamwLnG_AdamwLnGIdeal
    ∧ algebraic_AdamwLnGIdeal_AdamwLnGReferenceIdeal (hAdamwLnGIdeal := hAdamwLnGIdeal) (hAdamwLnGReferenceIdeal := hAdamwLnGReferenceIdeal)
    ∧ preserves_AdamwAbWIn_AdamwAbWInIdeal
    ∧ algebraic_AdamwAbWInIdeal_AdamwAbWInReferenceIdeal (hAdamwAbWInIdeal := hAdamwAbWInIdeal) (hAdamwAbWInReferenceIdeal := hAdamwAbWInReferenceIdeal)
    ∧ preserves_AdamwRwMu_AdamwRwMuIdeal
    ∧ algebraic_AdamwRwMuIdeal_AdamwRwMuReferenceIdeal (hAdamwRwMuIdeal := hAdamwRwMuIdeal) (hAdamwRwMuReferenceIdeal := hAdamwRwMuReferenceIdeal)
    ∧ preserves_AdamwRwW0_AdamwRwW0Ideal
    ∧ algebraic_AdamwRwW0Ideal_AdamwRwW0ReferenceIdeal (hAdamwRwW0Ideal := hAdamwRwW0Ideal) (hAdamwRwW0ReferenceIdeal := hAdamwRwW0ReferenceIdeal)
    ∧ preserves_AdamwRwWUp_AdamwRwWUpIdeal
    ∧ algebraic_AdamwRwWUpIdeal_AdamwRwWUpReferenceIdeal (hAdamwRwWUpIdeal := hAdamwRwWUpIdeal) (hAdamwRwWUpReferenceIdeal := hAdamwRwWUpReferenceIdeal)
    ∧ preserves_AdamwRwGUp_AdamwRwGUpIdeal
    ∧ algebraic_AdamwRwGUpIdeal_AdamwRwGUpReferenceIdeal (hAdamwRwGUpIdeal := hAdamwRwGUpIdeal) (hAdamwRwGUpReferenceIdeal := hAdamwRwGUpReferenceIdeal)
    ∧ preserves_AdamwRwRK_AdamwRwRKIdeal
    ∧ algebraic_AdamwRwRKIdeal_AdamwRwRKReferenceIdeal (hAdamwRwRKIdeal := hAdamwRwRKIdeal) (hAdamwRwRKReferenceIdeal := hAdamwRwRKReferenceIdeal)
    ∧ preserves_AdamwScConvW_AdamwScConvWIdeal
    ∧ algebraic_AdamwScConvWIdeal_AdamwScConvWReferenceIdeal (hAdamwScConvWIdeal := hAdamwScConvWIdeal) (hAdamwScConvWReferenceIdeal := hAdamwScConvWReferenceIdeal)
    ∧ preserves_AdamwAbWOut_AdamwAbWOutIdeal
    ∧ algebraic_AdamwAbWOutIdeal_AdamwAbWOutReferenceIdeal (hAdamwAbWOutIdeal := hAdamwAbWOutIdeal) (hAdamwAbWOutReferenceIdeal := hAdamwAbWOutReferenceIdeal)
    ∧ preserves_AdamwDilWQkv_AdamwDilWQkvIdeal
    ∧ algebraic_AdamwDilWQkvIdeal_AdamwDilWQkvReferenceIdeal (hAdamwDilWQkvIdeal := hAdamwDilWQkvIdeal) (hAdamwDilWQkvReferenceIdeal := hAdamwDilWQkvReferenceIdeal)
    ∧ preserves_AdamwDilWOut_AdamwDilWOutIdeal
    ∧ algebraic_AdamwDilWOutIdeal_AdamwDilWOutReferenceIdeal (hAdamwDilWOutIdeal := hAdamwDilWOutIdeal) (hAdamwDilWOutReferenceIdeal := hAdamwDilWOutReferenceIdeal)
    ∧ preserves_AdamwRelBias_AdamwRelBiasIdeal
    ∧ algebraic_AdamwRelBiasIdeal_AdamwRelBiasReferenceIdeal (hAdamwRelBiasIdeal := hAdamwRelBiasIdeal) (hAdamwRelBiasReferenceIdeal := hAdamwRelBiasReferenceIdeal)
    ∧ preserves_AdamwMlpW1_AdamwMlpW1Ideal
    ∧ algebraic_AdamwMlpW1Ideal_AdamwMlpW1ReferenceIdeal (hAdamwMlpW1Ideal := hAdamwMlpW1Ideal) (hAdamwMlpW1ReferenceIdeal := hAdamwMlpW1ReferenceIdeal)
    ∧ preserves_AdaFwd_AdaFwdIdeal
    ∧ algebraic_AdaFwdIdeal_AdaFwdReferenceIdeal (hAdaFwdIdeal := hAdaFwdIdeal) (hAdaFwdReferenceIdeal := hAdaFwdReferenceIdeal)
    ∧ preserves_AdaGrad_AdaGradIdeal
    ∧ algebraic_AdaGradIdeal_AdaGradReferenceIdeal (hAdaGradIdeal := hAdaGradIdeal) (hAdaGradReferenceIdeal := hAdaGradReferenceIdeal)
    ∧ preserves_ModIn_ModInIdeal
    ∧ algebraic_ModInIdeal_ModInReferenceIdeal (hModInIdeal := hModInIdeal) (hModInReferenceIdeal := hModInReferenceIdeal)
    ∧ preserves_LnMix_LnMixIdeal
    ∧ algebraic_LnMixIdeal_LnMixReferenceIdeal (hLnMixIdeal := hLnMixIdeal) (hLnMixReferenceIdeal := hLnMixReferenceIdeal)
    ∧ preserves_MlpAct_MlpActIdeal
    ∧ algebraic_MlpActIdeal_MlpActReferenceIdeal (hMlpActIdeal := hMlpActIdeal) (hMlpActReferenceIdeal := hMlpActReferenceIdeal)
    ∧ preserves_MlpW1_MlpW1Ideal
    ∧ algebraic_MlpW1Ideal_MlpW1ReferenceIdeal (hMlpW1Ideal := hMlpW1Ideal) (hMlpW1ReferenceIdeal := hMlpW1ReferenceIdeal)
    ∧ preserves_MlpW1Dx_MlpW1DxIdeal
    ∧ algebraic_MlpW1DxIdeal_MlpW1DxReferenceIdeal (hMlpW1DxIdeal := hMlpW1DxIdeal) (hMlpW1DxReferenceIdeal := hMlpW1DxReferenceIdeal)
    ∧ preserves_MlpW1Dw_MlpW1DwIdeal
    ∧ algebraic_MlpW1DwIdeal_MlpW1DwReferenceIdeal (hMlpW1DwIdeal := hMlpW1DwIdeal) (hMlpW1DwReferenceIdeal := hMlpW1DwReferenceIdeal)
    ∧ preserves_MlpW2_MlpW2Ideal
    ∧ algebraic_MlpW2Ideal_MlpW2ReferenceIdeal (hMlpW2Ideal := hMlpW2Ideal) (hMlpW2ReferenceIdeal := hMlpW2ReferenceIdeal)
    ∧ preserves_MlpW2Dx_MlpW2DxIdeal
    ∧ algebraic_MlpW2DxIdeal_MlpW2DxReferenceIdeal (hMlpW2DxIdeal := hMlpW2DxIdeal) (hMlpW2DxReferenceIdeal := hMlpW2DxReferenceIdeal)
    ∧ preserves_MlpW2Dw_MlpW2DwIdeal
    ∧ algebraic_MlpW2DwIdeal_MlpW2DwReferenceIdeal (hMlpW2DwIdeal := hMlpW2DwIdeal) (hMlpW2DwReferenceIdeal := hMlpW2DwReferenceIdeal)
    ∧ preserves_AbIn_AbInIdeal
    ∧ algebraic_AbInIdeal_AbInReferenceIdeal (hAbInIdeal := hAbInIdeal) (hAbInReferenceIdeal := hAbInReferenceIdeal)
    ∧ preserves_AbInDx_AbInDxIdeal
    ∧ algebraic_AbInDxIdeal_AbInDxReferenceIdeal (hAbInDxIdeal := hAbInDxIdeal) (hAbInDxReferenceIdeal := hAbInDxReferenceIdeal)
    ∧ preserves_AbInDw_AbInDwIdeal
    ∧ algebraic_AbInDwIdeal_AbInDwReferenceIdeal (hAbInDwIdeal := hAbInDwIdeal) (hAbInDwReferenceIdeal := hAbInDwReferenceIdeal)
    ∧ preserves_AbOut_AbOutIdeal
    ∧ algebraic_AbOutIdeal_AbOutReferenceIdeal (hAbOutIdeal := hAbOutIdeal) (hAbOutReferenceIdeal := hAbOutReferenceIdeal)
    ∧ preserves_AbOutDx_AbOutDxIdeal
    ∧ algebraic_AbOutDxIdeal_AbOutDxReferenceIdeal (hAbOutDxIdeal := hAbOutDxIdeal) (hAbOutDxReferenceIdeal := hAbOutDxReferenceIdeal)
    ∧ preserves_AbOutDw_AbOutDwIdeal
    ∧ algebraic_AbOutDwIdeal_AbOutDwReferenceIdeal (hAbOutDwIdeal := hAbOutDwIdeal) (hAbOutDwReferenceIdeal := hAbOutDwReferenceIdeal)
    ∧ preserves_DilQkv_DilQkvIdeal
    ∧ algebraic_DilQkvIdeal_DilQkvReferenceIdeal (hDilQkvIdeal := hDilQkvIdeal) (hDilQkvReferenceIdeal := hDilQkvReferenceIdeal)
    ∧ preserves_DilQkvDx_DilQkvDxIdeal
    ∧ algebraic_DilQkvDxIdeal_DilQkvDxReferenceIdeal (hDilQkvDxIdeal := hDilQkvDxIdeal) (hDilQkvDxReferenceIdeal := hDilQkvDxReferenceIdeal)
    ∧ preserves_DilQkvDw_DilQkvDwIdeal
    ∧ algebraic_DilQkvDwIdeal_DilQkvDwReferenceIdeal (hDilQkvDwIdeal := hDilQkvDwIdeal) (hDilQkvDwReferenceIdeal := hDilQkvDwReferenceIdeal)
    ∧ preserves_DilOut_DilOutIdeal
    ∧ algebraic_DilOutIdeal_DilOutReferenceIdeal (hDilOutIdeal := hDilOutIdeal) (hDilOutReferenceIdeal := hDilOutReferenceIdeal)
    ∧ preserves_DilOutDx_DilOutDxIdeal
    ∧ algebraic_DilOutDxIdeal_DilOutDxReferenceIdeal (hDilOutDxIdeal := hDilOutDxIdeal) (hDilOutDxReferenceIdeal := hDilOutDxReferenceIdeal)
    ∧ preserves_DilOutDw_DilOutDwIdeal
    ∧ algebraic_DilOutDwIdeal_DilOutDwReferenceIdeal (hDilOutDwIdeal := hDilOutDwIdeal) (hDilOutDwReferenceIdeal := hDilOutDwReferenceIdeal)
    ∧ preserves_LnLoss_LnLossIdeal
    ∧ algebraic_LnLossIdeal_LnLossReferenceIdeal (hLnLossIdeal := hLnLossIdeal) (hLnLossReferenceIdeal := hLnLossReferenceIdeal)
    ∧ preserves_Attention0_Attention0Ideal
    ∧ algebraic_Attention0Ideal_Attention0ReferenceIdeal (hAttention0Ideal := hAttention0Ideal) (hAttention0ReferenceIdeal := hAttention0ReferenceIdeal)
-- ==== SumChips.lean ====
abbrev S4x6656x1024 : Shape := ⟨3, ![4, 6656, 1024]⟩
abbrev S3 : Shape := ⟨1, ![3]⟩
abbrev S_ : Shape := ⟨0, ![]⟩
abbrev S1x6656x1024 : Shape := ⟨3, ![1, 6656, 1024]⟩
abbrev S6656x1024 : Shape := ⟨2, ![6656, 1024]⟩
abbrev S1 : Shape := ⟨1, ![1]⟩
abbrev S4x512x1024 : Shape := ⟨3, ![4, 512, 1024]⟩
abbrev S512x1024 : Shape := ⟨2, ![512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S4x6656x1024, .f32⟩
  | .hbm, ⟨1, _⟩ => ⟨S4x6656x1024, .f32⟩
  | .hbm, ⟨2, _⟩ => ⟨S6656x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | _, _ => ⟨S4x6656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 7
abbrev cc1_sem0_1 : DmaSem sig := 8
abbrev cc1_sem1_0 : DmaSem sig := 9
abbrev cc1_sem1_1 : DmaSem sig := 10

abbrev nD : Nat := 8
abbrev τ : Topo := Topo.v7x

variable {F : FTy → Type} [FloatOps F]

abbrev grid0 : Pipeline.Grid := .none

def k0_off1 (d0 : Dev nD) : Fin 3 → Nat :=
  let c2_i32_4 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.muli c2_i32_4 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.addi v11 v5
  let c0_i32 : BitVec 32 := 0#32
  let c0_i32_5 : BitVec 32 := 0#32
  ![v12.toNat, 0, 0]
def k0_off2 (d0 : Dev nD) : Fin 3 → Nat :=
  let c2_i32_9 : BitVec 32 := 2#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let v18 : BitVec 32 := Scalar.muli c2_i32_9 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.addi v18 v5
  let c0_i32_19 : BitVec 32 := 0#32
  let c0_i32_20 : BitVec 32 := 0#32
  ![v19.toNat, 0, 0]
def k0_dev1 (d0 : Dev nD) : Nat :=
  let c0_i32_14 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_8 v2
  let c4_i32_13 : BitVec 32 := 4#32
  let v22 : BitVec 32 := Scalar.muli v17 c4_i32_13
  let v23 : BitVec 32 := Scalar.addi c0_i32_14 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v24 : BitVec 32 := Scalar.muli v5 c2_i32_15
  let v25 : BitVec 32 := Scalar.addi v23 v24
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v26 : BitVec 32 := Scalar.muli v8 c1_i32_16
  let v27 : BitVec 32 := Scalar.addi v25 v26
  v27.toNat
def k0_off3 (d0 : Dev nD) : Fin 3 → Nat :=
  let c2_i32_22 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v37 : BitVec 32 := Scalar.muli c2_i32_22 v2
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let v38 : BitVec 32 := Scalar.addi v37 v36
  let c0_i32_32 : BitVec 32 := 0#32
  let c0_i32_33 : BitVec 32 := 0#32
  ![v38.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v41 : BitVec 32 := Scalar.muli v2 c4_i32_26
  let v42 : BitVec 32 := Scalar.addi c0_i32_27 v41
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_21 v5
  let c2_i32_28 : BitVec 32 := 2#32
  let v43 : BitVec 32 := Scalar.muli v36 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_off4 (d0 : Dev nD) : Fin 3 → Nat :=
  let c2_i32_36 : BitVec 32 := 2#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_34 v2
  let v57 : BitVec 32 := Scalar.muli c2_i32_36 v55
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_35 v5
  let v58 : BitVec 32 := Scalar.addi v57 v56
  let c0_i32_46 : BitVec 32 := 0#32
  let c0_i32_47 : BitVec 32 := 0#32
  ![v58.toNat, 0, 0]
def k0_dev3 (d0 : Dev nD) : Nat :=
  let c0_i32_41 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v55 : BitVec 32 := Scalar.subi c1_i32_34 v2
  let c4_i32_40 : BitVec 32 := 4#32
  let v61 : BitVec 32 := Scalar.muli v55 c4_i32_40
  let v62 : BitVec 32 := Scalar.addi c0_i32_41 v61
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v56 : BitVec 32 := Scalar.subi c1_i32_35 v5
  let c2_i32_42 : BitVec 32 := 2#32
  let v63 : BitVec 32 := Scalar.muli v56 c2_i32_42
  let v64 : BitVec 32 := Scalar.addi v62 v63
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v65 : BitVec 32 := Scalar.muli v8 c1_i32_43
  let v66 : BitVec 32 := Scalar.addi v64 v65
  v66.toNat
abbrev grid1 : Pipeline.Grid := ⟨1, ![13], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== SumChipsReference.lean ====
abbrev S32x6656x1024 : Shape := ⟨3, ![32, 6656, 1024]⟩
abbrev S4x2x4x6656x1024 : Shape := ⟨5, ![4, 2, 4, 6656, 1024]⟩
abbrev S1x2x4x6656x1024 : Shape := ⟨5, ![1, 2, 4, 6656, 1024]⟩
abbrev S2x4x6656x1024 : Shape := ⟨4, ![2, 4, 6656, 1024]⟩
abbrev S4x2x6656x1024 : Shape := ⟨4, ![4, 2, 6656, 1024]⟩
abbrev S53248x1024 : Shape := ⟨2, ![53248, 1024]⟩

abbrev nBuf : Space → Nat
  | .hbm => 15
  | .vmem => 0
  | .smem => 0
  | _ => 0

abbrev bufTy : (tb : Table) → Fin (tcTables nBuf tb) → BufTy
  | .hbm, ⟨0, _⟩ => ⟨S32x6656x1024, .f32⟩
  | .hbm, ⟨1, _⟩ => ⟨S4x2x4x6656x1024, .f32⟩
  | .hbm, ⟨2, _⟩ => ⟨S1x2x4x6656x1024, .f32⟩
  | .hbm, ⟨3, _⟩ => ⟨S2x4x6656x1024, .f32⟩
  | .hbm, ⟨4, _⟩ => ⟨S1x2x4x6656x1024, .f32⟩
  | .hbm, ⟨5, _⟩ => ⟨S2x4x6656x1024, .f32⟩
  | .hbm, ⟨6, _⟩ => ⟨S2x4x6656x1024, .f32⟩
  | .hbm, ⟨7, _⟩ => ⟨S1x2x4x6656x1024, .f32⟩
  | .hbm, ⟨8, _⟩ => ⟨S2x4x6656x1024, .f32⟩
  | .hbm, ⟨9, _⟩ => ⟨S2x4x6656x1024, .f32⟩
  | .hbm, ⟨10, _⟩ => ⟨S1x2x4x6656x1024, .f32⟩
  | .hbm, ⟨11, _⟩ => ⟨S2x4x6656x1024, .f32⟩
  | .hbm, ⟨12, _⟩ => ⟨S2x4x6656x1024, .f32⟩
  | .hbm, ⟨13, _⟩ => ⟨S4x2x6656x1024, .f32⟩
  | .hbm, ⟨14, _⟩ => ⟨S53248x1024, .f32⟩
  | _, _ => ⟨S32x6656x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩

abbrev nD : Nat := 1
abbrev τ : Topo := Topo.v7x

variable {F : FTy → Type} [FloatOps F]
-- ==== SumCores.lean ====
abbrev S1x6656x1024 : Shape := ⟨3, ![1, 6656, 1024]⟩
abbrev S2x6656x1024 : Shape := ⟨3, ![2, 6656, 1024]⟩
abbrev S1 : Shape := ⟨1, ![1]⟩
abbrev S_ : Shape := ⟨0, ![]⟩
abbrev S6656x1024 : Shape := ⟨2, ![6656, 1024]⟩
abbrev S2x512x1024 : Shape := ⟨3, ![2, 512, 1024]⟩
abbrev S512x1024 : Shape := ⟨2, ![512, 1024]⟩
abbrev S1x512x1024 : Shape := ⟨3, ![1, 512, 1024]⟩

abbrev nBuf : Space → Nat
  | .hbm => 3
  | .vmem => 4
  | .smem => 0
  | _ => 0

abbrev bufTy : (tb : Table) → Fin (tcTables nBuf tb) → BufTy
  | .hbm, ⟨0, _⟩ => ⟨S1x6656x1024, .f32⟩
  | .hbm, ⟨1, _⟩ => ⟨S2x6656x1024, .f32⟩
  | .hbm, ⟨2, _⟩ => ⟨S6656x1024, .f32⟩
  | .local _ .vmem, ⟨0, _⟩ => ⟨S2x512x1024, .f32⟩
  | .local _ .vmem, ⟨1, _⟩ => ⟨S2x512x1024, .f32⟩
  | .local _ .vmem, ⟨2, _⟩ => ⟨S512x1024, .f32⟩
  | .local _ .vmem, ⟨3, _⟩ => ⟨S512x1024, .f32⟩
  | _, _ => ⟨S1x6656x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_sem0_0 : DmaSem sig := 3
abbrev cc1_sem0_1 : DmaSem sig := 4
abbrev cc1_sem1_0 : DmaSem sig := 5
abbrev cc1_sem1_1 : DmaSem sig := 6

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_3 : BitVec 32 := 0#32
  let c0_i32_4 : BitVec 32 := 0#32
  ![v8.toNat, 0, 0]
def k0_dev1 (d0 : Dev nD) : Nat :=
  let c0_i32_12 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_11 : BitVec 32 := 4#32
  let v14 : BitVec 32 := Scalar.muli v2 c4_i32_11
  let v15 : BitVec 32 := Scalar.addi c0_i32_12 v14
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_13 : BitVec 32 := 2#32
  let v16 : BitVec 32 := Scalar.muli v5 c2_i32_13
  let v17 : BitVec 32 := Scalar.addi v15 v16
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_14 : BitVec 32 := 1#32
  let v18 : BitVec 32 := Scalar.muli v13 c1_i32_14
  let v19 : BitVec 32 := Scalar.addi v17 v18
  v19.toNat
abbrev grid1 : Pipeline.Grid := ⟨1, ![13], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== SumCoresReference.lean ====
abbrev S8x6656x1024 : Shape := ⟨3, ![8, 6656, 1024]⟩
abbrev S4x2x6656x1024 : Shape := ⟨4, ![4, 2, 6656, 1024]⟩
abbrev S4x1x6656x1024 : Shape := ⟨4, ![4, 1, 6656, 1024]⟩
abbrev S4x6656x1024 : Shape := ⟨3, ![4, 6656, 1024]⟩
abbrev S26624x1024 : Shape := ⟨2, ![26624, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8x6656x1024, .f32⟩
  | .hbm, ⟨1, _⟩ => ⟨S4x2x6656x1024, .f32⟩
  | .hbm, ⟨2, _⟩ => ⟨S4x1x6656x1024, .f32⟩
  | .hbm, ⟨3, _⟩ => ⟨S4x6656x1024, .f32⟩
  | .hbm, ⟨4, _⟩ => ⟨S4x1x6656x1024, .f32⟩
  | .hbm, ⟨5, _⟩ => ⟨S4x6656x1024, .f32⟩
  | .hbm, ⟨6, _⟩ => ⟨S4x6656x1024, .f32⟩
  | .hbm, ⟨7, _⟩ => ⟨S26624x1024, .f32⟩
  | _, _ => ⟨S8x6656x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩

abbrev nD : Nat := 1
abbrev τ : Topo := Topo.v7x

variable {F : FTy → Type} [FloatOps F]
-- ==== SumSmall.lean ====
abbrev S1x1x18560 : Shape := ⟨3, ![1, 1, 18560]⟩
abbrev S8x1x18560 : Shape := ⟨3, ![8, 1, 18560]⟩
abbrev S7 : Shape := ⟨1, ![7]⟩
abbrev S_ : Shape := ⟨0, ![]⟩
abbrev S1x18560 : Shape := ⟨2, ![1, 18560]⟩
abbrev S1 : Shape := ⟨1, ![1]⟩

abbrev nBuf : Space → Nat
  | .hbm => 3
  | .vmem => 2
  | .smem => 0
  | _ => 0

abbrev bufTy : (tb : Table) → Fin (tcTables nBuf tb) → BufTy
  | .hbm, ⟨0, _⟩ => ⟨S1x1x18560, .f32⟩
  | .hbm, ⟨1, _⟩ => ⟨S8x1x18560, .f32⟩
  | .hbm, ⟨2, _⟩ => ⟨S1x18560, .f32⟩
  | .local _ .vmem, ⟨0, _⟩ => ⟨S8x1x18560, .f32⟩
  | .local _ .vmem, ⟨1, _⟩ => ⟨S1x18560, .f32⟩
  | _, _ => ⟨S1x1x18560, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev cc1_stg0_0 : Ref sig .tc := ⟨.vmem, 0, rfl⟩
abbrev cc1_stg1_0 : Ref sig .tc := ⟨.vmem, 1, rfl⟩
abbrev cc1_sem0_0 : DmaSem sig := 15
abbrev cc1_sem1_0 : DmaSem sig := 16

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v22 : BitVec 32 := Scalar.muli v2 c4_i32_15
  let v23 : BitVec 32 := Scalar.addi c0_i32_16 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v24 : BitVec 32 := Scalar.muli v5 c2_i32_17
  let v25 : BitVec 32 := Scalar.addi v23 v24
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_18 : BitVec 32 := 1#32
  let v26 : BitVec 32 := Scalar.muli v17 c1_i32_18
  let v27 : BitVec 32 := Scalar.addi v25 v26
  v27.toNat
def k0_dev2 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v41 : BitVec 32 := Scalar.muli v2 c4_i32_29
  let v42 : BitVec 32 := Scalar.addi c0_i32_30 v41
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_23 v5
  let c2_i32_31 : BitVec 32 := 2#32
  let v43 : BitVec 32 := Scalar.muli v36 c2_i32_31
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v45 : BitVec 32 := Scalar.muli v8 c1_i32_32
  let v46 : BitVec 32 := Scalar.addi v44 v45
  v46.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v61 : BitVec 32 := Scalar.muli v2 c4_i32_44
  let v62 : BitVec 32 := Scalar.addi c0_i32_45 v61
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_37 v5
  let c2_i32_46 : BitVec 32 := 2#32
  let v63 : BitVec 32 := Scalar.muli v55 c2_i32_46
  let v64 : BitVec 32 := Scalar.addi v62 v63
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_38 v8
  let c1_i32_47 : BitVec 32 := 1#32
  let v65 : BitVec 32 := Scalar.muli v56 c1_i32_47
  let v66 : BitVec 32 := Scalar.addi v64 v65
  v66.toNat
def k0_dev4 (d0 : Dev nD) : Nat :=
  let c0_i32_58 : BitVec 32 := 0#32
  let c1_i32_52 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_52 v2
  let c4_i32_57 : BitVec 32 := 4#32
  let v80 : BitVec 32 := Scalar.muli v75 c4_i32_57
  let v81 : BitVec 32 := Scalar.addi c0_i32_58 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v82 : BitVec 32 := Scalar.muli v5 c2_i32_59
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v84 : BitVec 32 := Scalar.muli v8 c1_i32_60
  let v85 : BitVec 32 := Scalar.addi v83 v84
  v85.toNat
def k0_dev5 (d0 : Dev nD) : Nat :=
  let c0_i32_73 : BitVec 32 := 0#32
  let c1_i32_65 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_65 v2
  let c4_i32_72 : BitVec 32 := 4#32
  let v100 : BitVec 32 := Scalar.muli v94 c4_i32_72
  let v101 : BitVec 32 := Scalar.addi c0_i32_73 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v102 : BitVec 32 := Scalar.muli v5 c2_i32_74
  let v103 : BitVec 32 := Scalar.addi v101 v102
  let c1_i32_66 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_66 v8
  let c1_i32_75 : BitVec 32 := 1#32
  let v104 : BitVec 32 := Scalar.muli v95 c1_i32_75
  let v105 : BitVec 32 := Scalar.addi v103 v104
  v105.toNat
def k0_dev6 (d0 : Dev nD) : Nat :=
  let c0_i32_87 : BitVec 32 := 0#32
  let c1_i32_80 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_80 v2
  let c4_i32_86 : BitVec 32 := 4#32
  let v120 : BitVec 32 := Scalar.muli v114 c4_i32_86
  let v121 : BitVec 32 := Scalar.addi c0_i32_87 v120
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_81 v5
  let c2_i32_88 : BitVec 32 := 2#32
  let v122 : BitVec 32 := Scalar.muli v115 c2_i32_88
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v124 : BitVec 32 := Scalar.muli v8 c1_i32_89
  let v125 : BitVec 32 := Scalar.addi v123 v124
  v125.toNat
def k0_dev7 (d0 : Dev nD) : Nat :=
  let c0_i32_102 : BitVec 32 := 0#32
  let c1_i32_94 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_94 v2
  let c4_i32_101 : BitVec 32 := 4#32
  let v141 : BitVec 32 := Scalar.muli v134 c4_i32_101
  let v142 : BitVec 32 := Scalar.addi c0_i32_102 v141
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_95 v5
  let c2_i32_103 : BitVec 32 := 2#32
  let v143 : BitVec 32 := Scalar.muli v135 c2_i32_103
  let v144 : BitVec 32 := Scalar.addi v142 v143
  let c1_i32_96 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_96 v8
  let c1_i32_104 : BitVec 32 := 1#32
  let v145 : BitVec 32 := Scalar.muli v136 c1_i32_104
  let v146 : BitVec 32 := Scalar.addi v144 v145
  v146.toNat
abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x1x18560 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x18560 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]
-- ==== SumSmallReference.lean ====
abbrev S8x1x18560 : Shape := ⟨3, ![8, 1, 18560]⟩
abbrev S1x1x18560 : Shape := ⟨3, ![1, 1, 18560]⟩
abbrev S1x18560 : Shape := ⟨2, ![1, 18560]⟩

abbrev nBuf : Space → Nat
  | .hbm => 24
  | .vmem => 0
  | .smem => 0
  | _ => 0

abbrev bufTy : (tb : Table) → Fin (tcTables nBuf tb) → BufTy
  | .hbm, ⟨0, _⟩ => ⟨S8x1x18560, .f32⟩
  | .hbm, ⟨1, _⟩ => ⟨S1x1x18560, .f32⟩
  | .hbm, ⟨2, _⟩ => ⟨S1x18560, .f32⟩
  | .hbm, ⟨3, _⟩ => ⟨S1x1x18560, .f32⟩
  | .hbm, ⟨4, _⟩ => ⟨S1x18560, .f32⟩
  | .hbm, ⟨5, _⟩ => ⟨S1x18560, .f32⟩
  | .hbm, ⟨6, _⟩ => ⟨S1x1x18560, .f32⟩
  | .hbm, ⟨7, _⟩ => ⟨S1x18560, .f32⟩
  | .hbm, ⟨8, _⟩ => ⟨S1x18560, .f32⟩
  | .hbm, ⟨9, _⟩ => ⟨S1x1x18560, .f32⟩
  | .hbm, ⟨10, _⟩ => ⟨S1x18560, .f32⟩
  | .hbm, ⟨11, _⟩ => ⟨S1x18560, .f32⟩
  | .hbm, ⟨12, _⟩ => ⟨S1x1x18560, .f32⟩
  | .hbm, ⟨13, _⟩ => ⟨S1x18560, .f32⟩
  | .hbm, ⟨14, _⟩ => ⟨S1x18560, .f32⟩
  | .hbm, ⟨15, _⟩ => ⟨S1x1x18560, .f32⟩
  | .hbm, ⟨16, _⟩ => ⟨S1x18560, .f32⟩
  | .hbm, ⟨17, _⟩ => ⟨S1x18560, .f32⟩
  | .hbm, ⟨18, _⟩ => ⟨S1x1x18560, .f32⟩
  | .hbm, ⟨19, _⟩ => ⟨S1x18560, .f32⟩
  | .hbm, ⟨20, _⟩ => ⟨S1x18560, .f32⟩
  | .hbm, ⟨21, _⟩ => ⟨S1x1x18560, .f32⟩
  | .hbm, ⟨22, _⟩ => ⟨S1x18560, .f32⟩
  | .hbm, ⟨23, _⟩ => ⟨S1x18560, .f32⟩
  | _, _ => ⟨S8x1x18560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩

abbrev nD : Nat := 1
abbrev τ : Topo := Topo.v7x

variable {F : FTy → Type} [FloatOps F]
-- ==== GatherBig.lean ====
abbrev S1x6656x1024 : Shape := ⟨3, ![1, 6656, 1024]⟩
abbrev S4x6656x1024 : Shape := ⟨3, ![4, 6656, 1024]⟩
abbrev S3 : Shape := ⟨1, ![3]⟩
abbrev S_ : Shape := ⟨0, ![]⟩
abbrev S6656x1024 : Shape := ⟨2, ![6656, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1x6656x1024, .bf16⟩
  | .hbm, ⟨1, _⟩ => ⟨S4x6656x1024, .bf16⟩
  | _, _ => ⟨S1x6656x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_dev1 (d0 : Dev nD) : Nat :=
  let c0_i32_14 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c4_i32_13 : BitVec 32 := 4#32
  let v18 : BitVec 32 := Scalar.muli v15 c4_i32_13
  let v19 : BitVec 32 := Scalar.addi c0_i32_14 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v20 : BitVec 32 := Scalar.muli v5 c2_i32_15
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v22 : BitVec 32 := Scalar.muli v8 c1_i32_16
  let v23 : BitVec 32 := Scalar.addi v21 v22
  v23.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v35 : BitVec 32 := Scalar.muli v2 c4_i32_26
  let v36 : BitVec 32 := Scalar.addi c0_i32_27 v35
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_21 v5
  let c2_i32_28 : BitVec 32 := 2#32
  let v37 : BitVec 32 := Scalar.muli v32 c2_i32_28
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v39 : BitVec 32 := Scalar.muli v8 c1_i32_29
  let v40 : BitVec 32 := Scalar.addi v38 v39
  v40.toNat
def k0_dev3 (d0 : Dev nD) : Nat :=
  let c0_i32_41 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.subi c1_i32_34 v2
  let c4_i32_40 : BitVec 32 := 4#32
  let v53 : BitVec 32 := Scalar.muli v49 c4_i32_40
  let v54 : BitVec 32 := Scalar.addi c0_i32_41 v53
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_35 v5
  let c2_i32_42 : BitVec 32 := 2#32
  let v55 : BitVec 32 := Scalar.muli v50 c2_i32_42
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.muli v8 c1_i32_43
  let v58 : BitVec 32 := Scalar.addi v56 v57
  v58.toNat
-- ==== GatherBigReferenceIdeal.lean ====
abbrev S4x6656x1024 : Shape := ⟨3, ![4, 6656, 1024]⟩
  | .hbm, ⟨0, _⟩ => ⟨S4x6656x1024, .bf16⟩
  | _, _ => ⟨S4x6656x1024, .bf16⟩
-- ==== GatherBigReference.lean ====
abbrev S4x6656x1024 : Shape := ⟨3, ![4, 6656, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4x6656x1024, .bf16⟩
  | _, _ => ⟨S4x6656x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== GatherSmall.lean ====
abbrev S1x256x1024 : Shape := ⟨3, ![1, 256, 1024]⟩
abbrev S4x256x1024 : Shape := ⟨3, ![4, 256, 1024]⟩
abbrev S3 : Shape := ⟨1, ![3]⟩
abbrev S_ : Shape := ⟨0, ![]⟩
abbrev S256x1024 : Shape := ⟨2, ![256, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S4x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_dev1 (d0 : Dev nD) : Nat :=
  let c0_i32_14 : BitVec 32 := 0#32
  let c1_i32_8 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.subi c1_i32_8 v2
  let c4_i32_13 : BitVec 32 := 4#32
  let v18 : BitVec 32 := Scalar.muli v15 c4_i32_13
  let v19 : BitVec 32 := Scalar.addi c0_i32_14 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v20 : BitVec 32 := Scalar.muli v5 c2_i32_15
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v22 : BitVec 32 := Scalar.muli v8 c1_i32_16
  let v23 : BitVec 32 := Scalar.addi v21 v22
  v23.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v35 : BitVec 32 := Scalar.muli v2 c4_i32_26
  let v36 : BitVec 32 := Scalar.addi c0_i32_27 v35
  let c1_i32_21 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v32 : BitVec 32 := Scalar.subi c1_i32_21 v5
  let c2_i32_28 : BitVec 32 := 2#32
  let v37 : BitVec 32 := Scalar.muli v32 c2_i32_28
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v39 : BitVec 32 := Scalar.muli v8 c1_i32_29
  let v40 : BitVec 32 := Scalar.addi v38 v39
  v40.toNat
def k0_dev3 (d0 : Dev nD) : Nat :=
  let c0_i32_41 : BitVec 32 := 0#32
  let c1_i32_34 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v49 : BitVec 32 := Scalar.subi c1_i32_34 v2
  let c4_i32_40 : BitVec 32 := 4#32
  let v53 : BitVec 32 := Scalar.muli v49 c4_i32_40
  let v54 : BitVec 32 := Scalar.addi c0_i32_41 v53
  let c1_i32_35 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v50 : BitVec 32 := Scalar.subi c1_i32_35 v5
  let c2_i32_42 : BitVec 32 := 2#32
  let v55 : BitVec 32 := Scalar.muli v50 c2_i32_42
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_43 : BitVec 32 := 1#32
  let v57 : BitVec 32 := Scalar.muli v8 c1_i32_43
  let v58 : BitVec 32 := Scalar.addi v56 v57
  v58.toNat
-- ==== GatherSmallReferenceIdeal.lean ====
abbrev S4x256x1024 : Shape := ⟨3, ![4, 256, 1024]⟩
  | .hbm, ⟨0, _⟩ => ⟨S4x256x1024, .f32⟩
  | _, _ => ⟨S4x256x1024, .f32⟩
-- ==== GatherSmallReference.lean ====
abbrev S4x256x1024 : Shape := ⟨3, ![4, 256, 1024]⟩

abbrev nBuf : Space → Nat
  | .hbm => 1
  | .vmem => 0
  | .smem => 0
  | _ => 0

abbrev bufTy : (tb : Table) → Fin (tcTables nBuf tb) → BufTy
  | .hbm, ⟨0, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== GatherC.lean ====
abbrev S1x1x1024 : Shape := ⟨3, ![1, 1, 1024]⟩
abbrev S8x1x1024 : Shape := ⟨3, ![8, 1, 1024]⟩
abbrev S7 : Shape := ⟨1, ![7]⟩
abbrev S_ : Shape := ⟨0, ![]⟩
abbrev S1x1024 : Shape := ⟨2, ![1, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S1x1x1024, .f32⟩
  | .hbm, ⟨1, _⟩ => ⟨S8x1x1024, .f32⟩
  | _, _ => ⟨S1x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_5 : BitVec 32 := 0#32
  let c0_i32_6 : BitVec 32 := 0#32
  ![v12.toNat, 0, 0]
def k0_dev1 (d0 : Dev nD) : Nat :=
  let c0_i32_16 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_15 : BitVec 32 := 4#32
  let v22 : BitVec 32 := Scalar.muli v2 c4_i32_15
  let v23 : BitVec 32 := Scalar.addi c0_i32_16 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_17 : BitVec 32 := 2#32
  let v24 : BitVec 32 := Scalar.muli v5 c2_i32_17
  let v25 : BitVec 32 := Scalar.addi v23 v24
  let c1_i32_9 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.subi c1_i32_9 v8
  let c1_i32_18 : BitVec 32 := 1#32
  let v26 : BitVec 32 := Scalar.muli v17 c1_i32_18
  let v27 : BitVec 32 := Scalar.addi v25 v26
  v27.toNat
def k0_dev2 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v41 : BitVec 32 := Scalar.muli v2 c4_i32_29
  let v42 : BitVec 32 := Scalar.addi c0_i32_30 v41
  let c1_i32_23 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v36 : BitVec 32 := Scalar.subi c1_i32_23 v5
  let c2_i32_31 : BitVec 32 := 2#32
  let v43 : BitVec 32 := Scalar.muli v36 c2_i32_31
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v45 : BitVec 32 := Scalar.muli v8 c1_i32_32
  let v46 : BitVec 32 := Scalar.addi v44 v45
  v46.toNat
def k0_dev3 (d0 : Dev nD) : Nat :=
  let c0_i32_45 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_44 : BitVec 32 := 4#32
  let v61 : BitVec 32 := Scalar.muli v2 c4_i32_44
  let v62 : BitVec 32 := Scalar.addi c0_i32_45 v61
  let c1_i32_37 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v55 : BitVec 32 := Scalar.subi c1_i32_37 v5
  let c2_i32_46 : BitVec 32 := 2#32
  let v63 : BitVec 32 := Scalar.muli v55 c2_i32_46
  let v64 : BitVec 32 := Scalar.addi v62 v63
  let c1_i32_38 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v56 : BitVec 32 := Scalar.subi c1_i32_38 v8
  let c1_i32_47 : BitVec 32 := 1#32
  let v65 : BitVec 32 := Scalar.muli v56 c1_i32_47
  let v66 : BitVec 32 := Scalar.addi v64 v65
  v66.toNat
def k0_dev4 (d0 : Dev nD) : Nat :=
  let c0_i32_58 : BitVec 32 := 0#32
  let c1_i32_52 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v75 : BitVec 32 := Scalar.subi c1_i32_52 v2
  let c4_i32_57 : BitVec 32 := 4#32
  let v80 : BitVec 32 := Scalar.muli v75 c4_i32_57
  let v81 : BitVec 32 := Scalar.addi c0_i32_58 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_59 : BitVec 32 := 2#32
  let v82 : BitVec 32 := Scalar.muli v5 c2_i32_59
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_60 : BitVec 32 := 1#32
  let v84 : BitVec 32 := Scalar.muli v8 c1_i32_60
  let v85 : BitVec 32 := Scalar.addi v83 v84
  v85.toNat
def k0_dev5 (d0 : Dev nD) : Nat :=
  let c0_i32_73 : BitVec 32 := 0#32
  let c1_i32_65 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v94 : BitVec 32 := Scalar.subi c1_i32_65 v2
  let c4_i32_72 : BitVec 32 := 4#32
  let v100 : BitVec 32 := Scalar.muli v94 c4_i32_72
  let v101 : BitVec 32 := Scalar.addi c0_i32_73 v100
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_74 : BitVec 32 := 2#32
  let v102 : BitVec 32 := Scalar.muli v5 c2_i32_74
  let v103 : BitVec 32 := Scalar.addi v101 v102
  let c1_i32_66 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v95 : BitVec 32 := Scalar.subi c1_i32_66 v8
  let c1_i32_75 : BitVec 32 := 1#32
  let v104 : BitVec 32 := Scalar.muli v95 c1_i32_75
  let v105 : BitVec 32 := Scalar.addi v103 v104
  v105.toNat
def k0_dev6 (d0 : Dev nD) : Nat :=
  let c0_i32_87 : BitVec 32 := 0#32
  let c1_i32_80 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v114 : BitVec 32 := Scalar.subi c1_i32_80 v2
  let c4_i32_86 : BitVec 32 := 4#32
  let v120 : BitVec 32 := Scalar.muli v114 c4_i32_86
  let v121 : BitVec 32 := Scalar.addi c0_i32_87 v120
  let c1_i32_81 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v115 : BitVec 32 := Scalar.subi c1_i32_81 v5
  let c2_i32_88 : BitVec 32 := 2#32
  let v122 : BitVec 32 := Scalar.muli v115 c2_i32_88
  let v123 : BitVec 32 := Scalar.addi v121 v122
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_89 : BitVec 32 := 1#32
  let v124 : BitVec 32 := Scalar.muli v8 c1_i32_89
  let v125 : BitVec 32 := Scalar.addi v123 v124
  v125.toNat
def k0_dev7 (d0 : Dev nD) : Nat :=
  let c0_i32_102 : BitVec 32 := 0#32
  let c1_i32_94 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v134 : BitVec 32 := Scalar.subi c1_i32_94 v2
  let c4_i32_101 : BitVec 32 := 4#32
  let v141 : BitVec 32 := Scalar.muli v134 c4_i32_101
  let v142 : BitVec 32 := Scalar.addi c0_i32_102 v141
  let c1_i32_95 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v135 : BitVec 32 := Scalar.subi c1_i32_95 v5
  let c2_i32_103 : BitVec 32 := 2#32
  let v143 : BitVec 32 := Scalar.muli v135 c2_i32_103
  let v144 : BitVec 32 := Scalar.addi v142 v143
  let c1_i32_96 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v136 : BitVec 32 := Scalar.subi c1_i32_96 v8
  let c1_i32_104 : BitVec 32 := 1#32
  let v145 : BitVec 32 := Scalar.muli v136 c1_i32_104
  let v146 : BitVec 32 := Scalar.addi v144 v145
  v146.toNat
-- ==== GatherCReference.lean ====
abbrev S8x1x1024 : Shape := ⟨3, ![8, 1, 1024]⟩

abbrev nBuf : Space → Nat
  | .hbm => 1
  | .vmem => 0
  | .smem => 0
  | _ => 0

abbrev bufTy : (tb : Table) → Fin (tcTables nBuf tb) → BufTy
  | .hbm, ⟨0, _⟩ => ⟨S8x1x1024, .f32⟩
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== AdamwAdaW.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaWIdeal.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaWReferenceIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAdaB.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAdaBIdeal.lean ====
abbrev S2x6144 : Shape := ⟨2, ![2, 6144]⟩

abbrev nBuf : Space → Nat
  | .hbm => 7
  | .vmem => 7
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S2x6144, .f32⟩
  | .hbm, ⟨5, _⟩ => ⟨S2x6144, .f32⟩
  | .hbm, ⟨6, _⟩ => ⟨S2x6144, .f32⟩
  | .local _ .vmem, ⟨0, _⟩ => ⟨S2x6144, .f32⟩
  | .local _ .vmem, ⟨1, _⟩ => ⟨S2x6144, .f32⟩
  | .local _ .vmem, ⟨2, _⟩ => ⟨S2x6144, .f32⟩
  | .local _ .vmem, ⟨3, _⟩ => ⟨S2x6144, .f32⟩
  | .local _ .vmem, ⟨4, _⟩ => ⟨S2x6144, .f32⟩
  | .local _ .vmem, ⟨5, _⟩ => ⟨S2x6144, .f32⟩
  | .local _ .vmem, ⟨6, _⟩ => ⟨S2x6144, .f32⟩
  | _, _ => ⟨S2x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x6144 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x6144 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAdaBReferenceIdeal.lean ====
abbrev S2x6144 : Shape := ⟨2, ![2, 6144]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x6144, .f32⟩
  | .hbm, ⟨1, _⟩ => ⟨S2x6144, .f32⟩
  | .hbm, ⟨2, _⟩ => ⟨S2x6144, .f32⟩
  | .hbm, ⟨3, _⟩ => ⟨S2x6144, .f32⟩
  | .hbm, ⟨4, _⟩ => ⟨S_, .f32⟩
  | .hbm, ⟨5, _⟩ => ⟨S2x6144, .f32⟩
  | .hbm, ⟨6, _⟩ => ⟨S2x6144, .f32⟩
  | .hbm, ⟨7, _⟩ => ⟨S_, .f32⟩
  | .hbm, ⟨8, _⟩ => ⟨S2x6144, .f32⟩
  | .hbm, ⟨9, _⟩ => ⟨S2x6144, .f32⟩
  | .hbm, ⟨10, _⟩ => ⟨S2x6144, .f32⟩
  | .hbm, ⟨11, _⟩ => ⟨S_, .f32⟩
  | .hbm, ⟨12, _⟩ => ⟨S2x6144, .f32⟩
  | .hbm, ⟨13, _⟩ => ⟨S2x6144, .f32⟩
  | .hbm, ⟨14, _⟩ => ⟨S2x6144, .f32⟩
  | .hbm, ⟨15, _⟩ => ⟨S_, .f32⟩
  | .hbm, ⟨16, _⟩ => ⟨S2x6144, .f32⟩
  | .hbm, ⟨17, _⟩ => ⟨S2x6144, .f32⟩
  | .hbm, ⟨18, _⟩ => ⟨S2x6144, .f32⟩
  | .hbm, ⟨19, _⟩ => ⟨S_, .f32⟩
  | .hbm, ⟨20, _⟩ => ⟨S2x6144, .f32⟩
  | .hbm, ⟨21, _⟩ => ⟨S2x6144, .f32⟩
  | .hbm, ⟨22, _⟩ => ⟨S_, .f32⟩
  | .hbm, ⟨23, _⟩ => ⟨S2x6144, .f32⟩
  | .hbm, ⟨24, _⟩ => ⟨S2x6144, .f32⟩
  | .hbm, ⟨25, _⟩ => ⟨S2x6144, .f32⟩
  | .hbm, ⟨26, _⟩ => ⟨S_, .f32⟩
  | .hbm, ⟨27, _⟩ => ⟨S2x6144, .f32⟩
  | .hbm, ⟨28, _⟩ => ⟨S2x6144, .f32⟩
  | .hbm, ⟨29, _⟩ => ⟨S2x6144, .f32⟩
  | .hbm, ⟨30, _⟩ => ⟨S_, .f32⟩
  | .hbm, ⟨31, _⟩ => ⟨S2x6144, .f32⟩
  | .hbm, ⟨32, _⟩ => ⟨S2x6144, .f32⟩
  | .hbm, ⟨33, _⟩ => ⟨S2x6144, .f32⟩
  | .hbm, ⟨34, _⟩ => ⟨S_, .f32⟩
  | .hbm, ⟨35, _⟩ => ⟨S2x6144, .f32⟩
  | .hbm, ⟨36, _⟩ => ⟨S2x6144, .f32⟩
  | _, _ => ⟨S2x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwLnG.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwLnGIdeal.lean ====
abbrev S4x256 : Shape := ⟨2, ![4, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | _, _ => ⟨S4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwLnGReferenceIdeal.lean ====
abbrev S4x256 : Shape := ⟨2, ![4, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x256, .f32⟩
  | .hbm, ⟨1, _⟩ => ⟨S4x256, .f32⟩
  | .hbm, ⟨2, _⟩ => ⟨S4x256, .f32⟩
  | .hbm, ⟨3, _⟩ => ⟨S4x256, .f32⟩
  | .hbm, ⟨4, _⟩ => ⟨S_, .f32⟩
  | .hbm, ⟨5, _⟩ => ⟨S4x256, .f32⟩
  | .hbm, ⟨6, _⟩ => ⟨S4x256, .f32⟩
  | .hbm, ⟨7, _⟩ => ⟨S_, .f32⟩
  | .hbm, ⟨8, _⟩ => ⟨S4x256, .f32⟩
  | .hbm, ⟨9, _⟩ => ⟨S4x256, .f32⟩
  | .hbm, ⟨10, _⟩ => ⟨S4x256, .f32⟩
  | .hbm, ⟨11, _⟩ => ⟨S_, .f32⟩
  | .hbm, ⟨12, _⟩ => ⟨S4x256, .f32⟩
  | .hbm, ⟨13, _⟩ => ⟨S4x256, .f32⟩
  | .hbm, ⟨14, _⟩ => ⟨S4x256, .f32⟩
  | .hbm, ⟨15, _⟩ => ⟨S_, .f32⟩
  | .hbm, ⟨16, _⟩ => ⟨S4x256, .f32⟩
  | .hbm, ⟨17, _⟩ => ⟨S4x256, .f32⟩
  | .hbm, ⟨18, _⟩ => ⟨S4x256, .f32⟩
  | .hbm, ⟨19, _⟩ => ⟨S_, .f32⟩
  | .hbm, ⟨20, _⟩ => ⟨S4x256, .f32⟩
  | .hbm, ⟨21, _⟩ => ⟨S4x256, .f32⟩
  | .hbm, ⟨22, _⟩ => ⟨S_, .f32⟩
  | .hbm, ⟨23, _⟩ => ⟨S4x256, .f32⟩
  | .hbm, ⟨24, _⟩ => ⟨S4x256, .f32⟩
  | .hbm, ⟨25, _⟩ => ⟨S4x256, .f32⟩
  | .hbm, ⟨26, _⟩ => ⟨S_, .f32⟩
  | .hbm, ⟨27, _⟩ => ⟨S4x256, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S_, .f32⟩
  | .hbm, ⟨35, _⟩ => ⟨S4x256, .f32⟩
  | .hbm, ⟨36, _⟩ => ⟨S4x256, .f32⟩
  | _, _ => ⟨S4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAbWIn.lean ====
abbrev S1024x840 : Shape := ⟨2, ![1024, 840]⟩
abbrev S256x840 : Shape := ⟨2, ![256, 840]⟩

abbrev nBuf : Space → Nat
  | .hbm => 7
  | .vmem => 14
  | .smem => 0
  | _ => 0

abbrev bufTy : (tb : Table) → Fin (tcTables nBuf tb) → BufTy
  | .hbm, ⟨0, _⟩ => ⟨S1024x840, .f32⟩
  | .hbm, ⟨1, _⟩ => ⟨S1024x840, .f32⟩
  | .hbm, ⟨2, _⟩ => ⟨S1024x840, .f32⟩
  | .hbm, ⟨3, _⟩ => ⟨S1024x840, .f32⟩
  | .hbm, ⟨4, _⟩ => ⟨S1024x840, .f32⟩
  | .hbm, ⟨5, _⟩ => ⟨S1024x840, .f32⟩
  | .hbm, ⟨6, _⟩ => ⟨S1024x840, .f32⟩
  | .local _ .vmem, ⟨0, _⟩ => ⟨S256x840, .f32⟩
  | .local _ .vmem, ⟨1, _⟩ => ⟨S256x840, .f32⟩
  | .local _ .vmem, ⟨2, _⟩ => ⟨S256x840, .f32⟩
  | .local _ .vmem, ⟨3, _⟩ => ⟨S256x840, .f32⟩
  | .local _ .vmem, ⟨4, _⟩ => ⟨S256x840, .f32⟩
  | .local _ .vmem, ⟨5, _⟩ => ⟨S256x840, .f32⟩
  | .local _ .vmem, ⟨6, _⟩ => ⟨S256x840, .f32⟩
  | .local _ .vmem, ⟨7, _⟩ => ⟨S256x840, .f32⟩
  | .local _ .vmem, ⟨8, _⟩ => ⟨S256x840, .f32⟩
  | .local _ .vmem, ⟨9, _⟩ => ⟨S256x840, .f32⟩
  | .local _ .vmem, ⟨10, _⟩ => ⟨S256x840, .f32⟩
  | .local _ .vmem, ⟨11, _⟩ => ⟨S256x840, .f32⟩
  | .local _ .vmem, ⟨12, _⟩ => ⟨S256x840, .f32⟩
  | .local _ .vmem, ⟨13, _⟩ => ⟨S256x840, .f32⟩
  | _, _ => ⟨S1024x840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x840 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x840 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAbWInIdeal.lean ====
abbrev S1024x840 : Shape := ⟨2, ![1024, 840]⟩
abbrev S256x840 : Shape := ⟨2, ![256, 840]⟩

abbrev nBuf : Space → Nat
  | .hbm => 7
  | .vmem => 14
  | .smem => 0
  | _ => 0

abbrev bufTy : (tb : Table) → Fin (tcTables nBuf tb) → BufTy
  | .hbm, ⟨0, _⟩ => ⟨S1024x840, .f32⟩
  | .hbm, ⟨1, _⟩ => ⟨S1024x840, .f32⟩
  | .hbm, ⟨2, _⟩ => ⟨S1024x840, .f32⟩
  | .hbm, ⟨3, _⟩ => ⟨S1024x840, .f32⟩
  | .hbm, ⟨4, _⟩ => ⟨S1024x840, .f32⟩
  | .hbm, ⟨5, _⟩ => ⟨S1024x840, .f32⟩
  | .hbm, ⟨6, _⟩ => ⟨S1024x840, .f32⟩
  | .local _ .vmem, ⟨0, _⟩ => ⟨S256x840, .f32⟩
  | .local _ .vmem, ⟨1, _⟩ => ⟨S256x840, .f32⟩
  | .local _ .vmem, ⟨2, _⟩ => ⟨S256x840, .f32⟩
  | .local _ .vmem, ⟨3, _⟩ => ⟨S256x840, .f32⟩
  | .local _ .vmem, ⟨4, _⟩ => ⟨S256x840, .f32⟩
  | .local _ .vmem, ⟨5, _⟩ => ⟨S256x840, .f32⟩
  | .local _ .vmem, ⟨6, _⟩ => ⟨S256x840, .f32⟩
  | .local _ .vmem, ⟨7, _⟩ => ⟨S256x840, .f32⟩
  | .local _ .vmem, ⟨8, _⟩ => ⟨S256x840, .f32⟩
  | .local _ .vmem, ⟨9, _⟩ => ⟨S256x840, .f32⟩
  | .local _ .vmem, ⟨10, _⟩ => ⟨S256x840, .f32⟩
  | .local _ .vmem, ⟨11, _⟩ => ⟨S256x840, .f32⟩
  | .local _ .vmem, ⟨12, _⟩ => ⟨S256x840, .f32⟩
  | .local _ .vmem, ⟨13, _⟩ => ⟨S256x840, .f32⟩
  | _, _ => ⟨S1024x840, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x840 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x840 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x840 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x840 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x840 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x840 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x840 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAbWInReferenceIdeal.lean ====
abbrev S1024x840 : Shape := ⟨2, ![1024, 840]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x840, .f32⟩
  | .hbm, ⟨1, _⟩ => ⟨S1024x840, .f32⟩
  | .hbm, ⟨2, _⟩ => ⟨S1024x840, .f32⟩
  | .hbm, ⟨3, _⟩ => ⟨S1024x840, .f32⟩
  | .hbm, ⟨4, _⟩ => ⟨S_, .f32⟩
  | .hbm, ⟨5, _⟩ => ⟨S1024x840, .f32⟩
  | .hbm, ⟨6, _⟩ => ⟨S1024x840, .f32⟩
  | .hbm, ⟨7, _⟩ => ⟨S_, .f32⟩
  | .hbm, ⟨8, _⟩ => ⟨S1024x840, .f32⟩
  | .hbm, ⟨9, _⟩ => ⟨S1024x840, .f32⟩
  | .hbm, ⟨10, _⟩ => ⟨S1024x840, .f32⟩
  | .hbm, ⟨11, _⟩ => ⟨S_, .f32⟩
  | .hbm, ⟨12, _⟩ => ⟨S1024x840, .f32⟩
  | .hbm, ⟨13, _⟩ => ⟨S1024x840, .f32⟩
  | .hbm, ⟨14, _⟩ => ⟨S1024x840, .f32⟩
  | .hbm, ⟨15, _⟩ => ⟨S_, .f32⟩
  | .hbm, ⟨16, _⟩ => ⟨S1024x840, .f32⟩
  | .hbm, ⟨17, _⟩ => ⟨S1024x840, .f32⟩
  | .hbm, ⟨18, _⟩ => ⟨S1024x840, .f32⟩
  | .hbm, ⟨19, _⟩ => ⟨S_, .f32⟩
  | .hbm, ⟨20, _⟩ => ⟨S1024x840, .f32⟩
  | .hbm, ⟨21, _⟩ => ⟨S1024x840, .f32⟩
  | .hbm, ⟨22, _⟩ => ⟨S_, .f32⟩
  | .hbm, ⟨23, _⟩ => ⟨S1024x840, .f32⟩
  | .hbm, ⟨24, _⟩ => ⟨S1024x840, .f32⟩
  | .hbm, ⟨25, _⟩ => ⟨S1024x840, .f32⟩
  | .hbm, ⟨26, _⟩ => ⟨S_, .f32⟩
  | .hbm, ⟨27, _⟩ => ⟨S1024x840, .f32⟩
  | .hbm, ⟨28, _⟩ => ⟨S1024x840, .f32⟩
  | .hbm, ⟨29, _⟩ => ⟨S1024x840, .f32⟩
  | .hbm, ⟨30, _⟩ => ⟨S_, .f32⟩
  | .hbm, ⟨31, _⟩ => ⟨S1024x840, .f32⟩
  | .hbm, ⟨32, _⟩ => ⟨S1024x840, .f32⟩
  | .hbm, ⟨33, _⟩ => ⟨S1024x840, .f32⟩
  | .hbm, ⟨34, _⟩ => ⟨S_, .f32⟩
  | .hbm, ⟨35, _⟩ => ⟨S1024x840, .f32⟩
  | .hbm, ⟨36, _⟩ => ⟨S1024x840, .f32⟩
  | _, _ => ⟨S1024x840, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRwMu.lean ====
abbrev S1x1824 : Shape := ⟨2, ![1, 1824]⟩

abbrev nBuf : Space → Nat
  | .hbm => 7
  | .vmem => 7
  | .smem => 0
  | _ => 0

abbrev bufTy : (tb : Table) → Fin (tcTables nBuf tb) → BufTy
  | .hbm, ⟨0, _⟩ => ⟨S1x1824, .f32⟩
  | .hbm, ⟨1, _⟩ => ⟨S1x1824, .f32⟩
  | .hbm, ⟨2, _⟩ => ⟨S1x1824, .f32⟩
  | .hbm, ⟨3, _⟩ => ⟨S1x1824, .f32⟩
  | .hbm, ⟨4, _⟩ => ⟨S1x1824, .f32⟩
  | .hbm, ⟨5, _⟩ => ⟨S1x1824, .f32⟩
  | .hbm, ⟨6, _⟩ => ⟨S1x1824, .f32⟩
  | .local _ .vmem, ⟨0, _⟩ => ⟨S1x1824, .f32⟩
  | .local _ .vmem, ⟨1, _⟩ => ⟨S1x1824, .f32⟩
  | .local _ .vmem, ⟨2, _⟩ => ⟨S1x1824, .f32⟩
  | .local _ .vmem, ⟨3, _⟩ => ⟨S1x1824, .f32⟩
  | .local _ .vmem, ⟨4, _⟩ => ⟨S1x1824, .f32⟩
  | .local _ .vmem, ⟨5, _⟩ => ⟨S1x1824, .f32⟩
  | .local _ .vmem, ⟨6, _⟩ => ⟨S1x1824, .f32⟩
  | _, _ => ⟨S1x1824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1824 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1824 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1824 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1824 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1824 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1824 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1824 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwMuIdeal.lean ====
abbrev S1x1824 : Shape := ⟨2, ![1, 1824]⟩

abbrev nBuf : Space → Nat
  | .hbm => 7
  | .vmem => 7
  | .smem => 0
  | _ => 0

abbrev bufTy : (tb : Table) → Fin (tcTables nBuf tb) → BufTy
  | .hbm, ⟨0, _⟩ => ⟨S1x1824, .f32⟩
  | .hbm, ⟨1, _⟩ => ⟨S1x1824, .f32⟩
  | .hbm, ⟨2, _⟩ => ⟨S1x1824, .f32⟩
  | .hbm, ⟨3, _⟩ => ⟨S1x1824, .f32⟩
  | .hbm, ⟨4, _⟩ => ⟨S1x1824, .f32⟩
  | .hbm, ⟨5, _⟩ => ⟨S1x1824, .f32⟩
  | .hbm, ⟨6, _⟩ => ⟨S1x1824, .f32⟩
  | .local _ .vmem, ⟨0, _⟩ => ⟨S1x1824, .f32⟩
  | .local _ .vmem, ⟨1, _⟩ => ⟨S1x1824, .f32⟩
  | .local _ .vmem, ⟨2, _⟩ => ⟨S1x1824, .f32⟩
  | .local _ .vmem, ⟨3, _⟩ => ⟨S1x1824, .f32⟩
  | .local _ .vmem, ⟨4, _⟩ => ⟨S1x1824, .f32⟩
  | .local _ .vmem, ⟨5, _⟩ => ⟨S1x1824, .f32⟩
  | .local _ .vmem, ⟨6, _⟩ => ⟨S1x1824, .f32⟩
  | _, _ => ⟨S1x1824, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1824 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1824 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1824 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1824 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1824 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1824 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1824 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwMuReferenceIdeal.lean ====
abbrev S1x1824 : Shape := ⟨2, ![1, 1824]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x1824, .f32⟩
  | .hbm, ⟨1, _⟩ => ⟨S1x1824, .f32⟩
  | .hbm, ⟨2, _⟩ => ⟨S1x1824, .f32⟩
  | .hbm, ⟨3, _⟩ => ⟨S1x1824, .f32⟩
  | .hbm, ⟨4, _⟩ => ⟨S_, .f32⟩
  | .hbm, ⟨5, _⟩ => ⟨S1x1824, .f32⟩
  | .hbm, ⟨6, _⟩ => ⟨S1x1824, .f32⟩
  | .hbm, ⟨7, _⟩ => ⟨S_, .f32⟩
  | .hbm, ⟨8, _⟩ => ⟨S1x1824, .f32⟩
  | .hbm, ⟨9, _⟩ => ⟨S1x1824, .f32⟩
  | .hbm, ⟨10, _⟩ => ⟨S1x1824, .f32⟩
  | .hbm, ⟨11, _⟩ => ⟨S_, .f32⟩
  | .hbm, ⟨12, _⟩ => ⟨S1x1824, .f32⟩
  | .hbm, ⟨13, _⟩ => ⟨S1x1824, .f32⟩
  | .hbm, ⟨14, _⟩ => ⟨S1x1824, .f32⟩
  | .hbm, ⟨15, _⟩ => ⟨S_, .f32⟩
  | .hbm, ⟨16, _⟩ => ⟨S1x1824, .f32⟩
  | .hbm, ⟨17, _⟩ => ⟨S1x1824, .f32⟩
  | .hbm, ⟨18, _⟩ => ⟨S1x1824, .f32⟩
  | .hbm, ⟨19, _⟩ => ⟨S_, .f32⟩
  | .hbm, ⟨20, _⟩ => ⟨S1x1824, .f32⟩
  | .hbm, ⟨21, _⟩ => ⟨S1x1824, .f32⟩
  | .hbm, ⟨22, _⟩ => ⟨S_, .f32⟩
  | .hbm, ⟨23, _⟩ => ⟨S1x1824, .f32⟩
  | .hbm, ⟨24, _⟩ => ⟨S1x1824, .f32⟩
  | .hbm, ⟨25, _⟩ => ⟨S1x1824, .f32⟩
  | .hbm, ⟨26, _⟩ => ⟨S_, .f32⟩
  | .hbm, ⟨27, _⟩ => ⟨S1x1824, .f32⟩
  | .hbm, ⟨28, _⟩ => ⟨S1x1824, .f32⟩
  | .hbm, ⟨29, _⟩ => ⟨S1x1824, .f32⟩
  | .hbm, ⟨30, _⟩ => ⟨S_, .f32⟩
  | .hbm, ⟨31, _⟩ => ⟨S1x1824, .f32⟩
  | .hbm, ⟨32, _⟩ => ⟨S1x1824, .f32⟩
  | .hbm, ⟨33, _⟩ => ⟨S1x1824, .f32⟩
  | .hbm, ⟨34, _⟩ => ⟨S_, .f32⟩
  | .hbm, ⟨35, _⟩ => ⟨S1x1824, .f32⟩
  | .hbm, ⟨36, _⟩ => ⟨S1x1824, .f32⟩
  | _, _ => ⟨S1x1824, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRwW0.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwW0Ideal.lean ====
abbrev S1x512 : Shape := ⟨2, ![1, 512]⟩

abbrev nBuf : Space → Nat
  | .hbm => 7
  | .vmem => 7
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwW0ReferenceIdeal.lean ====
abbrev S1x512 : Shape := ⟨2, ![1, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | .hbm, ⟨7, _⟩ => ⟨S_, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S_, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S_, .f32⟩
  | .hbm, ⟨23, _⟩ => ⟨S1x512, .f32⟩
  | .hbm, ⟨24, _⟩ => ⟨S1x512, .f32⟩
  | .hbm, ⟨25, _⟩ => ⟨S1x512, .f32⟩
  | .hbm, ⟨26, _⟩ => ⟨S_, .f32⟩
  | .hbm, ⟨27, _⟩ => ⟨S1x512, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRwWUp.lean ====
abbrev S64x128 : Shape := ⟨2, ![64, 128]⟩

abbrev nBuf : Space → Nat
  | .hbm => 7
  | .vmem => 7
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwWUpIdeal.lean ====
abbrev S64x128 : Shape := ⟨2, ![64, 128]⟩

abbrev nBuf : Space → Nat
  | .hbm => 7
  | .vmem => 7
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S64x128, .f32⟩
  | .hbm, ⟨5, _⟩ => ⟨S64x128, .f32⟩
  | .hbm, ⟨6, _⟩ => ⟨S64x128, .f32⟩
  | .local _ .vmem, ⟨0, _⟩ => ⟨S64x128, .f32⟩
  | .local _ .vmem, ⟨1, _⟩ => ⟨S64x128, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S64x128, .f32⟩
  | _, _ => ⟨S64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwWUpReferenceIdeal.lean ====
abbrev S64x128 : Shape := ⟨2, ![64, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x128, .f32⟩
  | .hbm, ⟨1, _⟩ => ⟨S64x128, .f32⟩
  | .hbm, ⟨2, _⟩ => ⟨S64x128, .f32⟩
  | .hbm, ⟨3, _⟩ => ⟨S64x128, .f32⟩
  | .hbm, ⟨4, _⟩ => ⟨S_, .f32⟩
  | .hbm, ⟨5, _⟩ => ⟨S64x128, .f32⟩
  | .hbm, ⟨6, _⟩ => ⟨S64x128, .f32⟩
  | .hbm, ⟨7, _⟩ => ⟨S_, .f32⟩
  | .hbm, ⟨8, _⟩ => ⟨S64x128, .f32⟩
  | .hbm, ⟨9, _⟩ => ⟨S64x128, .f32⟩
  | .hbm, ⟨10, _⟩ => ⟨S64x128, .f32⟩
  | .hbm, ⟨11, _⟩ => ⟨S_, .f32⟩
  | .hbm, ⟨12, _⟩ => ⟨S64x128, .f32⟩
  | .hbm, ⟨13, _⟩ => ⟨S64x128, .f32⟩
  | .hbm, ⟨14, _⟩ => ⟨S64x128, .f32⟩
  | .hbm, ⟨15, _⟩ => ⟨S_, .f32⟩
  | .hbm, ⟨16, _⟩ => ⟨S64x128, .f32⟩
  | .hbm, ⟨17, _⟩ => ⟨S64x128, .f32⟩
  | .hbm, ⟨18, _⟩ => ⟨S64x128, .f32⟩
  | .hbm, ⟨19, _⟩ => ⟨S_, .f32⟩
  | .hbm, ⟨20, _⟩ => ⟨S64x128, .f32⟩
  | .hbm, ⟨21, _⟩ => ⟨S64x128, .f32⟩
  | .hbm, ⟨22, _⟩ => ⟨S_, .f32⟩
  | .hbm, ⟨23, _⟩ => ⟨S64x128, .f32⟩
  | .hbm, ⟨24, _⟩ => ⟨S64x128, .f32⟩
  | .hbm, ⟨25, _⟩ => ⟨S64x128, .f32⟩
  | .hbm, ⟨26, _⟩ => ⟨S_, .f32⟩
  | .hbm, ⟨27, _⟩ => ⟨S64x128, .f32⟩
  | .hbm, ⟨28, _⟩ => ⟨S64x128, .f32⟩
  | .hbm, ⟨29, _⟩ => ⟨S64x128, .f32⟩
  | .hbm, ⟨30, _⟩ => ⟨S_, .f32⟩
  | .hbm, ⟨31, _⟩ => ⟨S64x128, .f32⟩
  | .hbm, ⟨32, _⟩ => ⟨S64x128, .f32⟩
  | .hbm, ⟨33, _⟩ => ⟨S64x128, .f32⟩
  | .hbm, ⟨34, _⟩ => ⟨S_, .f32⟩
  | .hbm, ⟨35, _⟩ => ⟨S64x128, .f32⟩
  | .hbm, ⟨36, _⟩ => ⟨S64x128, .f32⟩
  | _, _ => ⟨S64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRwGUp.lean ====
abbrev S160x128 : Shape := ⟨2, ![160, 128]⟩

abbrev nBuf : Space → Nat
  | .hbm => 7
  | .vmem => 7
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwGUpIdeal.lean ====
abbrev S160x128 : Shape := ⟨2, ![160, 128]⟩

abbrev nBuf : Space → Nat
  | .hbm => 7
  | .vmem => 7
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S160x128, .f32⟩
  | .hbm, ⟨5, _⟩ => ⟨S160x128, .f32⟩
  | .hbm, ⟨6, _⟩ => ⟨S160x128, .f32⟩
  | .local _ .vmem, ⟨0, _⟩ => ⟨S160x128, .f32⟩
  | .local _ .vmem, ⟨1, _⟩ => ⟨S160x128, .f32⟩
  | .local _ .vmem, ⟨2, _⟩ => ⟨S160x128, .f32⟩
  | .local _ .vmem, ⟨3, _⟩ => ⟨S160x128, .f32⟩
  | .local _ .vmem, ⟨4, _⟩ => ⟨S160x128, .f32⟩
  | .local _ .vmem, ⟨5, _⟩ => ⟨S160x128, .f32⟩
  | .local _ .vmem, ⟨6, _⟩ => ⟨S160x128, .f32⟩
  | _, _ => ⟨S160x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S160x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S160x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S160x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S160x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S160x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S160x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwGUpReferenceIdeal.lean ====
abbrev S160x128 : Shape := ⟨2, ![160, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S160x128, .f32⟩
  | .hbm, ⟨1, _⟩ => ⟨S160x128, .f32⟩
  | .hbm, ⟨2, _⟩ => ⟨S160x128, .f32⟩
  | .hbm, ⟨3, _⟩ => ⟨S160x128, .f32⟩
  | .hbm, ⟨4, _⟩ => ⟨S_, .f32⟩
  | .hbm, ⟨5, _⟩ => ⟨S160x128, .f32⟩
  | .hbm, ⟨6, _⟩ => ⟨S160x128, .f32⟩
  | .hbm, ⟨7, _⟩ => ⟨S_, .f32⟩
  | .hbm, ⟨8, _⟩ => ⟨S160x128, .f32⟩
  | .hbm, ⟨9, _⟩ => ⟨S160x128, .f32⟩
  | .hbm, ⟨10, _⟩ => ⟨S160x128, .f32⟩
  | .hbm, ⟨11, _⟩ => ⟨S_, .f32⟩
  | .hbm, ⟨12, _⟩ => ⟨S160x128, .f32⟩
  | .hbm, ⟨13, _⟩ => ⟨S160x128, .f32⟩
  | .hbm, ⟨14, _⟩ => ⟨S160x128, .f32⟩
  | .hbm, ⟨15, _⟩ => ⟨S_, .f32⟩
  | .hbm, ⟨16, _⟩ => ⟨S160x128, .f32⟩
  | .hbm, ⟨17, _⟩ => ⟨S160x128, .f32⟩
  | .hbm, ⟨18, _⟩ => ⟨S160x128, .f32⟩
  | .hbm, ⟨19, _⟩ => ⟨S_, .f32⟩
  | .hbm, ⟨20, _⟩ => ⟨S160x128, .f32⟩
  | .hbm, ⟨21, _⟩ => ⟨S160x128, .f32⟩
  | .hbm, ⟨22, _⟩ => ⟨S_, .f32⟩
  | .hbm, ⟨23, _⟩ => ⟨S160x128, .f32⟩
  | .hbm, ⟨24, _⟩ => ⟨S160x128, .f32⟩
  | .hbm, ⟨25, _⟩ => ⟨S160x128, .f32⟩
  | .hbm, ⟨26, _⟩ => ⟨S_, .f32⟩
  | .hbm, ⟨27, _⟩ => ⟨S160x128, .f32⟩
  | .hbm, ⟨28, _⟩ => ⟨S160x128, .f32⟩
  | .hbm, ⟨29, _⟩ => ⟨S160x128, .f32⟩
  | .hbm, ⟨30, _⟩ => ⟨S_, .f32⟩
  | .hbm, ⟨31, _⟩ => ⟨S160x128, .f32⟩
  | .hbm, ⟨32, _⟩ => ⟨S160x128, .f32⟩
  | .hbm, ⟨33, _⟩ => ⟨S160x128, .f32⟩
  | .hbm, ⟨34, _⟩ => ⟨S_, .f32⟩
  | .hbm, ⟨35, _⟩ => ⟨S160x128, .f32⟩
  | .hbm, ⟨36, _⟩ => ⟨S160x128, .f32⟩
  | _, _ => ⟨S160x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRwRK.lean ====
abbrev S8x64 : Shape := ⟨2, ![8, 64]⟩

abbrev nBuf : Space → Nat
  | .hbm => 7
  | .vmem => 7
  | .smem => 0
  | _ => 0

abbrev bufTy : (tb : Table) → Fin (tcTables nBuf tb) → BufTy
  | .hbm, ⟨0, _⟩ => ⟨S8x64, .f32⟩
  | .hbm, ⟨1, _⟩ => ⟨S8x64, .f32⟩
  | .hbm, ⟨2, _⟩ => ⟨S8x64, .f32⟩
  | .hbm, ⟨3, _⟩ => ⟨S8x64, .f32⟩
  | .hbm, ⟨4, _⟩ => ⟨S8x64, .f32⟩
  | .hbm, ⟨5, _⟩ => ⟨S8x64, .f32⟩
  | .hbm, ⟨6, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwRKIdeal.lean ====
abbrev S8x64 : Shape := ⟨2, ![8, 64]⟩

abbrev nBuf : Space → Nat
  | .hbm => 7
  | .vmem => 7
  | .smem => 0
  | _ => 0

abbrev bufTy : (tb : Table) → Fin (tcTables nBuf tb) → BufTy
  | .hbm, ⟨0, _⟩ => ⟨S8x64, .f32⟩
  | .hbm, ⟨1, _⟩ => ⟨S8x64, .f32⟩
  | .hbm, ⟨2, _⟩ => ⟨S8x64, .f32⟩
  | .hbm, ⟨3, _⟩ => ⟨S8x64, .f32⟩
  | .hbm, ⟨4, _⟩ => ⟨S8x64, .f32⟩
  | .hbm, ⟨5, _⟩ => ⟨S8x64, .f32⟩
  | .hbm, ⟨6, _⟩ => ⟨S8x64, .f32⟩
  | .local _ .vmem, ⟨0, _⟩ => ⟨S8x64, .f32⟩
  | .local _ .vmem, ⟨1, _⟩ => ⟨S8x64, .f32⟩
  | .local _ .vmem, ⟨2, _⟩ => ⟨S8x64, .f32⟩
  | .local _ .vmem, ⟨3, _⟩ => ⟨S8x64, .f32⟩
  | .local _ .vmem, ⟨4, _⟩ => ⟨S8x64, .f32⟩
  | .local _ .vmem, ⟨5, _⟩ => ⟨S8x64, .f32⟩
  | .local _ .vmem, ⟨6, _⟩ => ⟨S8x64, .f32⟩
  | _, _ => ⟨S8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRwRKReferenceIdeal.lean ====
abbrev S8x64 : Shape := ⟨2, ![8, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x64, .f32⟩
  | .hbm, ⟨1, _⟩ => ⟨S8x64, .f32⟩
  | .hbm, ⟨2, _⟩ => ⟨S8x64, .f32⟩
  | .hbm, ⟨3, _⟩ => ⟨S8x64, .f32⟩
  | .hbm, ⟨4, _⟩ => ⟨S_, .f32⟩
  | .hbm, ⟨5, _⟩ => ⟨S8x64, .f32⟩
  | .hbm, ⟨6, _⟩ => ⟨S8x64, .f32⟩
  | .hbm, ⟨7, _⟩ => ⟨S_, .f32⟩
  | .hbm, ⟨8, _⟩ => ⟨S8x64, .f32⟩
  | .hbm, ⟨9, _⟩ => ⟨S8x64, .f32⟩
  | .hbm, ⟨10, _⟩ => ⟨S8x64, .f32⟩
  | .hbm, ⟨11, _⟩ => ⟨S_, .f32⟩
  | .hbm, ⟨12, _⟩ => ⟨S8x64, .f32⟩
  | .hbm, ⟨13, _⟩ => ⟨S8x64, .f32⟩
  | .hbm, ⟨14, _⟩ => ⟨S8x64, .f32⟩
  | .hbm, ⟨15, _⟩ => ⟨S_, .f32⟩
  | .hbm, ⟨16, _⟩ => ⟨S8x64, .f32⟩
  | .hbm, ⟨17, _⟩ => ⟨S8x64, .f32⟩
  | .hbm, ⟨18, _⟩ => ⟨S8x64, .f32⟩
  | .hbm, ⟨19, _⟩ => ⟨S_, .f32⟩
  | .hbm, ⟨20, _⟩ => ⟨S8x64, .f32⟩
  | .hbm, ⟨21, _⟩ => ⟨S8x64, .f32⟩
  | .hbm, ⟨22, _⟩ => ⟨S_, .f32⟩
  | .hbm, ⟨23, _⟩ => ⟨S8x64, .f32⟩
  | .hbm, ⟨24, _⟩ => ⟨S8x64, .f32⟩
  | .hbm, ⟨25, _⟩ => ⟨S8x64, .f32⟩
  | .hbm, ⟨26, _⟩ => ⟨S_, .f32⟩
  | .hbm, ⟨27, _⟩ => ⟨S8x64, .f32⟩
  | .hbm, ⟨28, _⟩ => ⟨S8x64, .f32⟩
  | .hbm, ⟨29, _⟩ => ⟨S8x64, .f32⟩
  | .hbm, ⟨30, _⟩ => ⟨S_, .f32⟩
  | .hbm, ⟨31, _⟩ => ⟨S8x64, .f32⟩
  | .hbm, ⟨32, _⟩ => ⟨S8x64, .f32⟩
  | .hbm, ⟨33, _⟩ => ⟨S8x64, .f32⟩
  | .hbm, ⟨34, _⟩ => ⟨S_, .f32⟩
  | .hbm, ⟨35, _⟩ => ⟨S8x64, .f32⟩
  | .hbm, ⟨36, _⟩ => ⟨S8x64, .f32⟩
  | _, _ => ⟨S8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwScConvW.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwScConvWIdeal.lean ====
abbrev S3x128 : Shape := ⟨2, ![3, 128]⟩

abbrev nBuf : Space → Nat
  | .hbm => 7
  | .vmem => 7
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S3x128, .f32⟩
  | .hbm, ⟨5, _⟩ => ⟨S3x128, .f32⟩
  | .hbm, ⟨6, _⟩ => ⟨S3x128, .f32⟩
  | .local _ .vmem, ⟨0, _⟩ => ⟨S3x128, .f32⟩
  | .local _ .vmem, ⟨1, _⟩ => ⟨S3x128, .f32⟩
  | .local _ .vmem, ⟨2, _⟩ => ⟨S3x128, .f32⟩
  | .local _ .vmem, ⟨3, _⟩ => ⟨S3x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | _, _ => ⟨S3x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwScConvWReferenceIdeal.lean ====
abbrev S3x128 : Shape := ⟨2, ![3, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x128, .f32⟩
  | .hbm, ⟨1, _⟩ => ⟨S3x128, .f32⟩
  | .hbm, ⟨2, _⟩ => ⟨S3x128, .f32⟩
  | .hbm, ⟨3, _⟩ => ⟨S3x128, .f32⟩
  | .hbm, ⟨4, _⟩ => ⟨S_, .f32⟩
  | .hbm, ⟨5, _⟩ => ⟨S3x128, .f32⟩
  | .hbm, ⟨6, _⟩ => ⟨S3x128, .f32⟩
  | .hbm, ⟨7, _⟩ => ⟨S_, .f32⟩
  | .hbm, ⟨8, _⟩ => ⟨S3x128, .f32⟩
  | .hbm, ⟨9, _⟩ => ⟨S3x128, .f32⟩
  | .hbm, ⟨10, _⟩ => ⟨S3x128, .f32⟩
  | .hbm, ⟨11, _⟩ => ⟨S_, .f32⟩
  | .hbm, ⟨12, _⟩ => ⟨S3x128, .f32⟩
  | .hbm, ⟨13, _⟩ => ⟨S3x128, .f32⟩
  | .hbm, ⟨14, _⟩ => ⟨S3x128, .f32⟩
  | .hbm, ⟨15, _⟩ => ⟨S_, .f32⟩
  | .hbm, ⟨16, _⟩ => ⟨S3x128, .f32⟩
  | .hbm, ⟨17, _⟩ => ⟨S3x128, .f32⟩
  | .hbm, ⟨18, _⟩ => ⟨S3x128, .f32⟩
  | .hbm, ⟨19, _⟩ => ⟨S_, .f32⟩
  | .hbm, ⟨20, _⟩ => ⟨S3x128, .f32⟩
  | .hbm, ⟨21, _⟩ => ⟨S3x128, .f32⟩
  | .hbm, ⟨22, _⟩ => ⟨S_, .f32⟩
  | .hbm, ⟨23, _⟩ => ⟨S3x128, .f32⟩
  | .hbm, ⟨24, _⟩ => ⟨S3x128, .f32⟩
  | .hbm, ⟨25, _⟩ => ⟨S3x128, .f32⟩
  | .hbm, ⟨26, _⟩ => ⟨S_, .f32⟩
  | .hbm, ⟨27, _⟩ => ⟨S3x128, .f32⟩
  | .hbm, ⟨28, _⟩ => ⟨S3x128, .f32⟩
  | .hbm, ⟨29, _⟩ => ⟨S3x128, .f32⟩
  | .hbm, ⟨30, _⟩ => ⟨S_, .f32⟩
  | .hbm, ⟨31, _⟩ => ⟨S3x128, .f32⟩
  | .hbm, ⟨32, _⟩ => ⟨S3x128, .f32⟩
  | .hbm, ⟨33, _⟩ => ⟨S3x128, .f32⟩
  | .hbm, ⟨34, _⟩ => ⟨S_, .f32⟩
  | .hbm, ⟨35, _⟩ => ⟨S3x128, .f32⟩
  | .hbm, ⟨36, _⟩ => ⟨S3x128, .f32⟩
  | _, _ => ⟨S3x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwAbWOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAbWOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwAbWOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwDilWQkv.lean ====
abbrev S1024x1152 : Shape := ⟨2, ![1024, 1152]⟩
abbrev S256x1152 : Shape := ⟨2, ![256, 1152]⟩

abbrev nBuf : Space → Nat
  | .hbm => 7
  | .vmem => 14
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDilWQkvIdeal.lean ====
abbrev S1024x1152 : Shape := ⟨2, ![1024, 1152]⟩
abbrev S256x1152 : Shape := ⟨2, ![256, 1152]⟩

abbrev nBuf : Space → Nat
  | .hbm => 7
  | .vmem => 14
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S1024x1152, .f32⟩
  | .hbm, ⟨5, _⟩ => ⟨S1024x1152, .f32⟩
  | .hbm, ⟨6, _⟩ => ⟨S1024x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | _, _ => ⟨S1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwDilWQkvReferenceIdeal.lean ====
abbrev S1024x1152 : Shape := ⟨2, ![1024, 1152]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1152, .f32⟩
  | .hbm, ⟨1, _⟩ => ⟨S1024x1152, .f32⟩
  | .hbm, ⟨2, _⟩ => ⟨S1024x1152, .f32⟩
  | .hbm, ⟨3, _⟩ => ⟨S1024x1152, .f32⟩
  | .hbm, ⟨4, _⟩ => ⟨S_, .f32⟩
  | .hbm, ⟨5, _⟩ => ⟨S1024x1152, .f32⟩
  | .hbm, ⟨6, _⟩ => ⟨S1024x1152, .f32⟩
  | .hbm, ⟨7, _⟩ => ⟨S_, .f32⟩
  | .hbm, ⟨8, _⟩ => ⟨S1024x1152, .f32⟩
  | .hbm, ⟨9, _⟩ => ⟨S1024x1152, .f32⟩
  | .hbm, ⟨10, _⟩ => ⟨S1024x1152, .f32⟩
  | .hbm, ⟨11, _⟩ => ⟨S_, .f32⟩
  | .hbm, ⟨12, _⟩ => ⟨S1024x1152, .f32⟩
  | .hbm, ⟨13, _⟩ => ⟨S1024x1152, .f32⟩
  | .hbm, ⟨14, _⟩ => ⟨S1024x1152, .f32⟩
  | .hbm, ⟨15, _⟩ => ⟨S_, .f32⟩
  | .hbm, ⟨16, _⟩ => ⟨S1024x1152, .f32⟩
  | .hbm, ⟨17, _⟩ => ⟨S1024x1152, .f32⟩
  | .hbm, ⟨18, _⟩ => ⟨S1024x1152, .f32⟩
  | .hbm, ⟨19, _⟩ => ⟨S_, .f32⟩
  | .hbm, ⟨20, _⟩ => ⟨S1024x1152, .f32⟩
  | .hbm, ⟨21, _⟩ => ⟨S1024x1152, .f32⟩
  | .hbm, ⟨22, _⟩ => ⟨S_, .f32⟩
  | .hbm, ⟨23, _⟩ => ⟨S1024x1152, .f32⟩
  | .hbm, ⟨24, _⟩ => ⟨S1024x1152, .f32⟩
  | .hbm, ⟨25, _⟩ => ⟨S1024x1152, .f32⟩
  | .hbm, ⟨26, _⟩ => ⟨S_, .f32⟩
  | .hbm, ⟨27, _⟩ => ⟨S1024x1152, .f32⟩
  | .hbm, ⟨28, _⟩ => ⟨S1024x1152, .f32⟩
  | .hbm, ⟨29, _⟩ => ⟨S1024x1152, .f32⟩
  | .hbm, ⟨30, _⟩ => ⟨S_, .f32⟩
  | .hbm, ⟨31, _⟩ => ⟨S1024x1152, .f32⟩
  | .hbm, ⟨32, _⟩ => ⟨S1024x1152, .f32⟩
  | .hbm, ⟨33, _⟩ => ⟨S1024x1152, .f32⟩
  | .hbm, ⟨34, _⟩ => ⟨S_, .f32⟩
  | .hbm, ⟨35, _⟩ => ⟨S1024x1152, .f32⟩
  | .hbm, ⟨36, _⟩ => ⟨S1024x1152, .f32⟩
  | _, _ => ⟨S1024x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwDilWOut.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwDilWOutIdeal.lean ====
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwDilWOutReferenceIdeal.lean ====
abbrev S512x256 : Shape := ⟨2, ![512, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S512x256, .f32⟩
  | .hbm, ⟨2, _⟩ => ⟨S512x256, .f32⟩
  | .hbm, ⟨3, _⟩ => ⟨S512x256, .f32⟩
  | .hbm, ⟨4, _⟩ => ⟨S_, .f32⟩
  | .hbm, ⟨5, _⟩ => ⟨S512x256, .f32⟩
  | .hbm, ⟨6, _⟩ => ⟨S512x256, .f32⟩
  | .hbm, ⟨7, _⟩ => ⟨S_, .f32⟩
  | .hbm, ⟨8, _⟩ => ⟨S512x256, .f32⟩
  | .hbm, ⟨9, _⟩ => ⟨S512x256, .f32⟩
  | .hbm, ⟨10, _⟩ => ⟨S512x256, .f32⟩
  | .hbm, ⟨11, _⟩ => ⟨S_, .f32⟩
  | .hbm, ⟨12, _⟩ => ⟨S512x256, .f32⟩
  | .hbm, ⟨13, _⟩ => ⟨S512x256, .f32⟩
  | .hbm, ⟨14, _⟩ => ⟨S512x256, .f32⟩
  | .hbm, ⟨15, _⟩ => ⟨S_, .f32⟩
  | .hbm, ⟨16, _⟩ => ⟨S512x256, .f32⟩
  | .hbm, ⟨17, _⟩ => ⟨S512x256, .f32⟩
  | .hbm, ⟨18, _⟩ => ⟨S512x256, .f32⟩
  | .hbm, ⟨19, _⟩ => ⟨S_, .f32⟩
  | .hbm, ⟨20, _⟩ => ⟨S512x256, .f32⟩
  | .hbm, ⟨21, _⟩ => ⟨S512x256, .f32⟩
  | .hbm, ⟨22, _⟩ => ⟨S_, .f32⟩
  | .hbm, ⟨23, _⟩ => ⟨S512x256, .f32⟩
  | .hbm, ⟨24, _⟩ => ⟨S512x256, .f32⟩
  | .hbm, ⟨25, _⟩ => ⟨S512x256, .f32⟩
  | .hbm, ⟨26, _⟩ => ⟨S_, .f32⟩
  | .hbm, ⟨27, _⟩ => ⟨S512x256, .f32⟩
  | .hbm, ⟨28, _⟩ => ⟨S512x256, .f32⟩
  | .hbm, ⟨29, _⟩ => ⟨S512x256, .f32⟩
  | .hbm, ⟨30, _⟩ => ⟨S_, .f32⟩
  | .hbm, ⟨31, _⟩ => ⟨S512x256, .f32⟩
  | .hbm, ⟨32, _⟩ => ⟨S512x256, .f32⟩
  | .hbm, ⟨33, _⟩ => ⟨S512x256, .f32⟩
  | .hbm, ⟨34, _⟩ => ⟨S_, .f32⟩
  | .hbm, ⟨35, _⟩ => ⟨S512x256, .f32⟩
  | .hbm, ⟨36, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwRelBias.lean ====
abbrev S32x24 : Shape := ⟨2, ![32, 24]⟩

abbrev nBuf : Space → Nat
  | .hbm => 7
  | .vmem => 7
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRelBiasIdeal.lean ====
abbrev S32x24 : Shape := ⟨2, ![32, 24]⟩

abbrev nBuf : Space → Nat
  | .hbm => 7
  | .vmem => 7
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S32x24, .f32⟩
  | .hbm, ⟨5, _⟩ => ⟨S32x24, .f32⟩
  | .hbm, ⟨6, _⟩ => ⟨S32x24, .f32⟩
  | .local _ .vmem, ⟨0, _⟩ => ⟨S32x24, .f32⟩
  | .local _ .vmem, ⟨1, _⟩ => ⟨S32x24, .f32⟩
  | .local _ .vmem, ⟨2, _⟩ => ⟨S32x24, .f32⟩
  | .local _ .vmem, ⟨3, _⟩ => ⟨S32x24, .f32⟩
  | .local _ .vmem, ⟨4, _⟩ => ⟨S32x24, .f32⟩
  | .local _ .vmem, ⟨5, _⟩ => ⟨S32x24, .f32⟩
  | .local _ .vmem, ⟨6, _⟩ => ⟨S32x24, .f32⟩
  | _, _ => ⟨S32x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "unbias_m" => some ((8388608 / 5463681 : ℝ) : EReal)
  | "unbias_v" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x24 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x24 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x24 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x24 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamwRelBiasReferenceIdeal.lean ====
abbrev S32x24 : Shape := ⟨2, ![32, 24]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S32x24, .f32⟩
  | .hbm, ⟨1, _⟩ => ⟨S32x24, .f32⟩
  | .hbm, ⟨2, _⟩ => ⟨S32x24, .f32⟩
  | .hbm, ⟨3, _⟩ => ⟨S32x24, .f32⟩
  | .hbm, ⟨4, _⟩ => ⟨S_, .f32⟩
  | .hbm, ⟨5, _⟩ => ⟨S32x24, .f32⟩
  | .hbm, ⟨6, _⟩ => ⟨S32x24, .f32⟩
  | .hbm, ⟨7, _⟩ => ⟨S_, .f32⟩
  | .hbm, ⟨8, _⟩ => ⟨S32x24, .f32⟩
  | .hbm, ⟨9, _⟩ => ⟨S32x24, .f32⟩
  | .hbm, ⟨10, _⟩ => ⟨S32x24, .f32⟩
  | .hbm, ⟨11, _⟩ => ⟨S_, .f32⟩
  | .hbm, ⟨12, _⟩ => ⟨S32x24, .f32⟩
  | .hbm, ⟨13, _⟩ => ⟨S32x24, .f32⟩
  | .hbm, ⟨14, _⟩ => ⟨S32x24, .f32⟩
  | .hbm, ⟨15, _⟩ => ⟨S_, .f32⟩
  | .hbm, ⟨16, _⟩ => ⟨S32x24, .f32⟩
  | .hbm, ⟨17, _⟩ => ⟨S32x24, .f32⟩
  | .hbm, ⟨18, _⟩ => ⟨S32x24, .f32⟩
  | .hbm, ⟨19, _⟩ => ⟨S_, .f32⟩
  | .hbm, ⟨20, _⟩ => ⟨S32x24, .f32⟩
  | .hbm, ⟨21, _⟩ => ⟨S32x24, .f32⟩
  | .hbm, ⟨22, _⟩ => ⟨S_, .f32⟩
  | .hbm, ⟨23, _⟩ => ⟨S32x24, .f32⟩
  | .hbm, ⟨24, _⟩ => ⟨S32x24, .f32⟩
  | .hbm, ⟨25, _⟩ => ⟨S32x24, .f32⟩
  | .hbm, ⟨26, _⟩ => ⟨S_, .f32⟩
  | .hbm, ⟨27, _⟩ => ⟨S32x24, .f32⟩
  | .hbm, ⟨28, _⟩ => ⟨S32x24, .f32⟩
  | .hbm, ⟨29, _⟩ => ⟨S32x24, .f32⟩
  | .hbm, ⟨30, _⟩ => ⟨S_, .f32⟩
  | .hbm, ⟨31, _⟩ => ⟨S32x24, .f32⟩
  | .hbm, ⟨32, _⟩ => ⟨S32x24, .f32⟩
  | .hbm, ⟨33, _⟩ => ⟨S32x24, .f32⟩
  | .hbm, ⟨34, _⟩ => ⟨S_, .f32⟩
  | .hbm, ⟨35, _⟩ => ⟨S32x24, .f32⟩
  | .hbm, ⟨36, _⟩ => ⟨S32x24, .f32⟩
  | _, _ => ⟨S32x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwMlpW1.lean ====
abbrev S2048x1024 : Shape := ⟨2, ![2048, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwMlpW1Ideal.lean ====
variable {F : FTy → Type} [FloatOps F] [Named F]
def κ : String → Option EReal := fun
  | "unbias_m" => some ((8388608 / 5463681 : ℝ) : EReal)
  | "unbias_v" => some ((268435456 / 2672307 : ℝ) : EReal)
  | _ => none
-- ==== AdamwMlpW1ReferenceIdeal.lean ====
abbrev S2048x1024 : Shape := ⟨2, ![2048, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaFwd.lean ====
abbrev S8x1024 : Shape := ⟨2, ![8, 1024]⟩
abbrev S2x1024x1536 : Shape := ⟨3, ![2, 1024, 1536]⟩
abbrev S2x1x1536 : Shape := ⟨3, ![2, 1, 1536]⟩
abbrev S2x8x1536 : Shape := ⟨3, ![2, 8, 1536]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 4
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S2x8x1536, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdReferenceIdeal.lean ====
abbrev S8x1024 : Shape := ⟨2, ![8, 1024]⟩
abbrev S2x1024x1536 : Shape := ⟨3, ![2, 1024, 1536]⟩
abbrev S2x1x1536 : Shape := ⟨3, ![2, 1, 1536]⟩
abbrev S_ : Shape := ⟨0, ![]⟩
abbrev S1x1024x1536 : Shape := ⟨3, ![1, 1024, 1536]⟩
abbrev S1024x1536 : Shape := ⟨2, ![1024, 1536]⟩
abbrev S8x1536 : Shape := ⟨2, ![8, 1536]⟩
abbrev S1x1x1536 : Shape := ⟨3, ![1, 1, 1536]⟩
abbrev S1x1536 : Shape := ⟨2, ![1, 1536]⟩
abbrev S1x8x1536 : Shape := ⟨3, ![1, 8, 1536]⟩
abbrev S2x8x1536 : Shape := ⟨3, ![2, 8, 1536]⟩

abbrev nBuf : Space → Nat
  | .hbm => 29
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S2x1024x1536, .f32⟩
  | .hbm, ⟨2, _⟩ => ⟨S2x1x1536, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x1536, .f32⟩
  | .hbm, ⟨13, _⟩ => ⟨S1024x1536, .f32⟩
  | .hbm, ⟨14, _⟩ => ⟨S8x1536, .f32⟩
  | .hbm, ⟨15, _⟩ => ⟨S1x1x1536, .f32⟩
  | .hbm, ⟨16, _⟩ => ⟨S1x1536, .f32⟩
  | .hbm, ⟨17, _⟩ => ⟨S8x1536, .f32⟩
  | .hbm, ⟨18, _⟩ => ⟨S8x1536, .f32⟩
  | .hbm, ⟨19, _⟩ => ⟨S1x1024x1536, .f32⟩
  | .hbm, ⟨20, _⟩ => ⟨S1024x1536, .f32⟩
  | .hbm, ⟨21, _⟩ => ⟨S8x1536, .f32⟩
  | .hbm, ⟨22, _⟩ => ⟨S1x1x1536, .f32⟩
  | .hbm, ⟨23, _⟩ => ⟨S1x1536, .f32⟩
  | .hbm, ⟨24, _⟩ => ⟨S8x1536, .f32⟩
  | .hbm, ⟨25, _⟩ => ⟨S8x1536, .f32⟩
  | .hbm, ⟨26, _⟩ => ⟨S1x8x1536, .f32⟩
  | .hbm, ⟨27, _⟩ => ⟨S1x8x1536, .f32⟩
  | .hbm, ⟨28, _⟩ => ⟨S2x8x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== AdaGrad.lean ====
abbrev S8x1024 : Shape := ⟨2, ![8, 1024]⟩
abbrev S8x2x1536 : Shape := ⟨3, ![8, 2, 1536]⟩
abbrev S2x8x1536 : Shape := ⟨3, ![2, 8, 1536]⟩
abbrev S_ : Shape := ⟨0, ![]⟩
abbrev S2x128x1536 : Shape := ⟨3, ![2, 128, 1536]⟩
abbrev S1024x8 : Shape := ⟨2, ![1024, 8]⟩
abbrev S1024x128 : Shape := ⟨2, ![1024, 128]⟩
abbrev S2x1024x1536 : Shape := ⟨3, ![2, 1024, 1536]⟩
abbrev S1x128x1536 : Shape := ⟨3, ![1, 128, 1536]⟩
abbrev S1x1024x1536 : Shape := ⟨3, ![1, 1024, 1536]⟩
abbrev S128x1536 : Shape := ⟨2, ![128, 1536]⟩
abbrev S1024x1536 : Shape := ⟨2, ![1024, 1536]⟩

abbrev nBuf : Space → Nat
  | .hbm => 11
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S8x2x1536, .f32⟩
  | .hbm, ⟨2, _⟩ => ⟨S2x8x1536, .f32⟩
  | .hbm, ⟨3, _⟩ => ⟨S_, .i32⟩
  | .hbm, ⟨4, _⟩ => ⟨S_, .f32⟩
  | .hbm, ⟨5, _⟩ => ⟨S2x128x1536, .f32⟩
  | .hbm, ⟨6, _⟩ => ⟨S1024x8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S2x1024x1536, .f32⟩
  | .local _ .vmem, ⟨0, _⟩ => ⟨S1024x128, .f32⟩
  | .local _ .vmem, ⟨1, _⟩ => ⟨S1x128x1536, .f32⟩
  | .local _ .vmem, ⟨2, _⟩ => ⟨S1x128x1536, .f32⟩
  | .local _ .vmem, ⟨3, _⟩ => ⟨S1x1024x1536, .f32⟩
  | .local _ .vmem, ⟨4, _⟩ => ⟨S1x1024x1536, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_call1_v0 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaGradReferenceIdeal.lean ====
abbrev S8x1024 : Shape := ⟨2, ![8, 1024]⟩
abbrev S8x2x1536 : Shape := ⟨3, ![8, 2, 1536]⟩
abbrev S_ : Shape := ⟨0, ![]⟩
abbrev S1024x8 : Shape := ⟨2, ![1024, 8]⟩
abbrev S8x1x1536 : Shape := ⟨3, ![8, 1, 1536]⟩
abbrev S8x1536 : Shape := ⟨2, ![8, 1536]⟩
abbrev S1024x1536 : Shape := ⟨2, ![1024, 1536]⟩
abbrev S1x1024x1536 : Shape := ⟨3, ![1, 1024, 1536]⟩
abbrev S2x1024x1536 : Shape := ⟨3, ![2, 1024, 1536]⟩

abbrev nBuf : Space → Nat
  | .hbm => 22
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S8x2x1536, .f32⟩
  | .hbm, ⟨2, _⟩ => ⟨S8x1024, .f32⟩
  | .hbm, ⟨3, _⟩ => ⟨S8x1024, .f32⟩
  | .hbm, ⟨4, _⟩ => ⟨S_, .f32⟩
  | .hbm, ⟨5, _⟩ => ⟨S8x1024, .f32⟩
  | .hbm, ⟨6, _⟩ => ⟨S8x1024, .f32⟩
  | .hbm, ⟨7, _⟩ => ⟨S_, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S1024x8, .f32⟩
  | .hbm, ⟨12, _⟩ => ⟨S8x1x1536, .f32⟩
  | .hbm, ⟨13, _⟩ => ⟨S8x1536, .f32⟩
  | .hbm, ⟨14, _⟩ => ⟨S1024x1536, .f32⟩
  | .hbm, ⟨15, _⟩ => ⟨S1024x8, .f32⟩
  | .hbm, ⟨16, _⟩ => ⟨S8x1x1536, .f32⟩
  | .hbm, ⟨17, _⟩ => ⟨S8x1536, .f32⟩
  | .hbm, ⟨18, _⟩ => ⟨S1024x1536, .f32⟩
  | .hbm, ⟨19, _⟩ => ⟨S1x1024x1536, .f32⟩
  | .hbm, ⟨20, _⟩ => ⟨S1x1024x1536, .f32⟩
  | .hbm, ⟨21, _⟩ => ⟨S2x1024x1536, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== ModIn.lean ====
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModInReferenceIdeal.lean ====
abbrev S2048x1024 : Shape := ⟨2, ![2048, 1024]⟩
abbrev S1x1024 : Shape := ⟨2, ![1, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S_, .f32⟩
  | .hbm, ⟨4, _⟩ => ⟨S1x1024, .f32⟩
  | .hbm, ⟨5, _⟩ => ⟨S1x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== LnMix.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 9
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== LnMixReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S_, .f32⟩
  | .hbm, ⟨44, _⟩ => ⟨S1x1024, .f32⟩
  | .hbm, ⟨45, _⟩ => ⟨S1x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== MlpAct.lean ====
abbrev S2048x4096 : Shape := ⟨2, ![2048, 4096]⟩
abbrev S256x4096 : Shape := ⟨2, ![256, 4096]⟩

abbrev nBuf : Space → Nat
  | .hbm => 2
  | .vmem => 4
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MlpActReferenceIdeal.lean ====
abbrev S2048x4096 : Shape := ⟨2, ![2048, 4096]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S_, .f32⟩
  | .hbm, ⟨2, _⟩ => ⟨S2048x4096, .f32⟩
  | .hbm, ⟨3, _⟩ => ⟨S2048x4096, .f32⟩
  | .hbm, ⟨4, _⟩ => ⟨S2048x4096, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== MlpW1.lean ====
abbrev S2048x1024 : Shape := ⟨2, ![2048, 1024]⟩
abbrev S1024x4096 : Shape := ⟨2, ![1024, 4096]⟩
abbrev S2048x4096 : Shape := ⟨2, ![2048, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW1Ideal.lean ====
abbrev S2048x1024 : Shape := ⟨2, ![2048, 1024]⟩
abbrev S1024x4096 : Shape := ⟨2, ![1024, 4096]⟩
abbrev S2048x4096 : Shape := ⟨2, ![2048, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW1ReferenceIdeal.lean ====
abbrev S2048x1024 : Shape := ⟨2, ![2048, 1024]⟩
abbrev S1024x4096 : Shape := ⟨2, ![1024, 4096]⟩
abbrev S2048x4096 : Shape := ⟨2, ![2048, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlpW1Dx.lean ====
abbrev S2048x4096 : Shape := ⟨2, ![2048, 4096]⟩
abbrev S1024x4096 : Shape := ⟨2, ![1024, 4096]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW1DxIdeal.lean ====
abbrev S2048x4096 : Shape := ⟨2, ![2048, 4096]⟩
abbrev S1024x4096 : Shape := ⟨2, ![1024, 4096]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW1DxReferenceIdeal.lean ====
abbrev S2048x4096 : Shape := ⟨2, ![2048, 4096]⟩
abbrev S1024x4096 : Shape := ⟨2, ![1024, 4096]⟩
abbrev S4096x1024 : Shape := ⟨2, ![4096, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1024x4096, .f32⟩
  | .hbm, ⟨2, _⟩ => ⟨S4096x1024, .f32⟩
  | .hbm, ⟨3, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpW1Dw.lean ====
abbrev S2048x1024 : Shape := ⟨2, ![2048, 1024]⟩
abbrev S2048x4096 : Shape := ⟨2, ![2048, 4096]⟩
abbrev S1024x4096 : Shape := ⟨2, ![1024, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW1DwIdeal.lean ====
abbrev S2048x1024 : Shape := ⟨2, ![2048, 1024]⟩
abbrev S2048x4096 : Shape := ⟨2, ![2048, 4096]⟩
abbrev S1024x4096 : Shape := ⟨2, ![1024, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW1DwReferenceIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpW2.lean ====
abbrev S2048x4096 : Shape := ⟨2, ![2048, 4096]⟩
abbrev S4096x1024 : Shape := ⟨2, ![4096, 1024]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW2Ideal.lean ====
abbrev S2048x4096 : Shape := ⟨2, ![2048, 4096]⟩
abbrev S4096x1024 : Shape := ⟨2, ![4096, 1024]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW2ReferenceIdeal.lean ====
abbrev S2048x4096 : Shape := ⟨2, ![2048, 4096]⟩
abbrev S4096x1024 : Shape := ⟨2, ![4096, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MlpW2Dx.lean ====
abbrev S2048x1024 : Shape := ⟨2, ![2048, 1024]⟩
abbrev S4096x1024 : Shape := ⟨2, ![4096, 1024]⟩
abbrev S2048x4096 : Shape := ⟨2, ![2048, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW2DxIdeal.lean ====
abbrev S2048x1024 : Shape := ⟨2, ![2048, 1024]⟩
abbrev S4096x1024 : Shape := ⟨2, ![4096, 1024]⟩
abbrev S2048x4096 : Shape := ⟨2, ![2048, 4096]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S2048x4096, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW2DxReferenceIdeal.lean ====
abbrev S2048x1024 : Shape := ⟨2, ![2048, 1024]⟩
abbrev S4096x1024 : Shape := ⟨2, ![4096, 1024]⟩
abbrev S1024x4096 : Shape := ⟨2, ![1024, 4096]⟩
abbrev S2048x4096 : Shape := ⟨2, ![2048, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4096x1024, .f32⟩
  | .hbm, ⟨2, _⟩ => ⟨S1024x4096, .f32⟩
  | .hbm, ⟨3, _⟩ => ⟨S2048x4096, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== MlpW2Dw.lean ====
abbrev S2048x4096 : Shape := ⟨2, ![2048, 4096]⟩
abbrev S2048x1024 : Shape := ⟨2, ![2048, 1024]⟩
abbrev S4096x1024 : Shape := ⟨2, ![4096, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW2DwIdeal.lean ====
abbrev S2048x4096 : Shape := ⟨2, ![2048, 4096]⟩
abbrev S2048x1024 : Shape := ⟨2, ![2048, 1024]⟩
abbrev S4096x1024 : Shape := ⟨2, ![4096, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpW2DwReferenceIdeal.lean ====
abbrev S2048x4096 : Shape := ⟨2, ![2048, 4096]⟩
abbrev S2048x1024 : Shape := ⟨2, ![2048, 1024]⟩
abbrev S4096x2048 : Shape := ⟨2, ![4096, 2048]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x1024, .f32⟩
  | .hbm, ⟨2, _⟩ => ⟨S4096x2048, .f32⟩
  | .hbm, ⟨3, _⟩ => ⟨S4096x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AbIn.lean ====
abbrev S2048x1024 : Shape := ⟨2, ![2048, 1024]⟩
abbrev S1024x3584 : Shape := ⟨2, ![1024, 3584]⟩
abbrev S2048x3584 : Shape := ⟨2, ![2048, 3584]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInIdeal.lean ====
abbrev S2048x1024 : Shape := ⟨2, ![2048, 1024]⟩
abbrev S1024x3584 : Shape := ⟨2, ![1024, 3584]⟩
abbrev S2048x3584 : Shape := ⟨2, ![2048, 3584]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInReferenceIdeal.lean ====
abbrev S2048x1024 : Shape := ⟨2, ![2048, 1024]⟩
abbrev S1024x3584 : Shape := ⟨2, ![1024, 3584]⟩
abbrev S2048x3584 : Shape := ⟨2, ![2048, 3584]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x3584, .f32⟩
  | .hbm, ⟨2, _⟩ => ⟨S2048x3584, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AbInDx.lean ====
abbrev S2048x3584 : Shape := ⟨2, ![2048, 3584]⟩
abbrev S1024x3584 : Shape := ⟨2, ![1024, 3584]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x3584, .f32⟩
  | .hbm, ⟨1, _⟩ => ⟨S1024x3584, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 7], ![false, false, false]⟩

def k0_cond2 (i : grid0.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDxIdeal.lean ====
abbrev S2048x3584 : Shape := ⟨2, ![2048, 3584]⟩
abbrev S1024x3584 : Shape := ⟨2, ![1024, 3584]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x3584, .f32⟩
  | .hbm, ⟨1, _⟩ => ⟨S1024x3584, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 7], ![false, false, false]⟩

def k0_cond2 (i : grid0.Coords) : BitVec 1 :=
  let arg2 : BitVec 32 := BitVec.ofNat 32 (i 2).val
  let c6_i32 : BitVec 32 := 6#32
  let v13 : BitVec 1 := Scalar.cmpi .eq arg2 c6_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDxReferenceIdeal.lean ====
abbrev S2048x3584 : Shape := ⟨2, ![2048, 3584]⟩
abbrev S1024x3584 : Shape := ⟨2, ![1024, 3584]⟩
abbrev S3584x1024 : Shape := ⟨2, ![3584, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x3584, .f32⟩
  | .hbm, ⟨1, _⟩ => ⟨S1024x3584, .f32⟩
  | .hbm, ⟨2, _⟩ => ⟨S3584x1024, .f32⟩
  | .hbm, ⟨3, _⟩ => ⟨S2048x1024, .f32⟩
  | _, _ => ⟨S2048x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AbInDw.lean ====
abbrev S2048x1024 : Shape := ⟨2, ![2048, 1024]⟩
abbrev S2048x3584 : Shape := ⟨2, ![2048, 3584]⟩
abbrev S1024x3584 : Shape := ⟨2, ![1024, 3584]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x3584, .f32⟩
  | .hbm, ⟨2, _⟩ => ⟨S1024x3584, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDwIdeal.lean ====
abbrev S2048x1024 : Shape := ⟨2, ![2048, 1024]⟩
abbrev S2048x3584 : Shape := ⟨2, ![2048, 3584]⟩
abbrev S1024x3584 : Shape := ⟨2, ![1024, 3584]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x3584, .f32⟩
  | .hbm, ⟨2, _⟩ => ⟨S1024x3584, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbInDwReferenceIdeal.lean ====
abbrev S2048x1024 : Shape := ⟨2, ![2048, 1024]⟩
abbrev S2048x3584 : Shape := ⟨2, ![2048, 3584]⟩
abbrev S1024x2048 : Shape := ⟨2, ![1024, 2048]⟩
abbrev S1024x3584 : Shape := ⟨2, ![1024, 3584]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x3584, .f32⟩
  | .hbm, ⟨2, _⟩ => ⟨S1024x2048, .f32⟩
  | .hbm, ⟨3, _⟩ => ⟨S1024x3584, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AbOut.lean ====
abbrev S2048x1024 : Shape := ⟨2, ![2048, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutIdeal.lean ====
abbrev S2048x1024 : Shape := ⟨2, ![2048, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutReferenceIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AbOutDx.lean ====
abbrev S2048x1024 : Shape := ⟨2, ![2048, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutDxIdeal.lean ====
abbrev S2048x1024 : Shape := ⟨2, ![2048, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutDxReferenceIdeal.lean ====
abbrev S2048x1024 : Shape := ⟨2, ![2048, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S1024x1024, .f32⟩
  | .hbm, ⟨3, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AbOutDw.lean ====
abbrev S2048x1024 : Shape := ⟨2, ![2048, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutDwIdeal.lean ====
abbrev S2048x1024 : Shape := ⟨2, ![2048, 1024]⟩
abbrev S1024x1024 : Shape := ⟨2, ![1024, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AbOutDwReferenceIdeal.lean ====
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024x2048, .f32⟩
  | .hbm, ⟨3, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DilQkv.lean ====
abbrev S2048x1024 : Shape := ⟨2, ![2048, 1024]⟩
abbrev S1024x4608 : Shape := ⟨2, ![1024, 4608]⟩
abbrev S2048x4608 : Shape := ⟨2, ![2048, 4608]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4608, .f32⟩
  | .hbm, ⟨2, _⟩ => ⟨S2048x4608, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvIdeal.lean ====
abbrev S2048x1024 : Shape := ⟨2, ![2048, 1024]⟩
abbrev S1024x4608 : Shape := ⟨2, ![1024, 4608]⟩
abbrev S2048x4608 : Shape := ⟨2, ![2048, 4608]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x4608, .f32⟩
  | .hbm, ⟨2, _⟩ => ⟨S2048x4608, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 9, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvReferenceIdeal.lean ====
abbrev S2048x1024 : Shape := ⟨2, ![2048, 1024]⟩
abbrev S1024x4608 : Shape := ⟨2, ![1024, 4608]⟩
abbrev S2048x4608 : Shape := ⟨2, ![2048, 4608]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4608, .f32⟩
  | .hbm, ⟨2, _⟩ => ⟨S2048x4608, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DilQkvDx.lean ====
abbrev S2048x4608 : Shape := ⟨2, ![2048, 4608]⟩
abbrev S1024x4608 : Shape := ⟨2, ![1024, 4608]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4608, .f32⟩
  | .hbm, ⟨1, _⟩ => ⟨S1024x4608, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvDxIdeal.lean ====
abbrev S2048x4608 : Shape := ⟨2, ![2048, 4608]⟩
abbrev S1024x4608 : Shape := ⟨2, ![1024, 4608]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x4608, .f32⟩
  | .hbm, ⟨1, _⟩ => ⟨S1024x4608, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 9], ![false, false, false]⟩

def k0_cond2 (i : grid0.Coords) : BitVec 1 :=
  let arg2 : BitVec 32 := BitVec.ofNat 32 (i 2).val
  let c8_i32 : BitVec 32 := 8#32
  let v13 : BitVec 1 := Scalar.cmpi .eq arg2 c8_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvDxReferenceIdeal.lean ====
abbrev S2048x4608 : Shape := ⟨2, ![2048, 4608]⟩
abbrev S1024x4608 : Shape := ⟨2, ![1024, 4608]⟩
abbrev S4608x1024 : Shape := ⟨2, ![4608, 1024]⟩
abbrev S2048x1024 : Shape := ⟨2, ![2048, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x4608, .f32⟩
  | .hbm, ⟨1, _⟩ => ⟨S1024x4608, .f32⟩
  | .hbm, ⟨2, _⟩ => ⟨S4608x1024, .f32⟩
  | .hbm, ⟨3, _⟩ => ⟨S2048x1024, .f32⟩
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DilQkvDw.lean ====
abbrev S2048x1024 : Shape := ⟨2, ![2048, 1024]⟩
abbrev S2048x4608 : Shape := ⟨2, ![2048, 4608]⟩
abbrev S1024x4608 : Shape := ⟨2, ![1024, 4608]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4608, .f32⟩
  | .hbm, ⟨2, _⟩ => ⟨S1024x4608, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvDwIdeal.lean ====
abbrev S2048x1024 : Shape := ⟨2, ![2048, 1024]⟩
abbrev S2048x4608 : Shape := ⟨2, ![2048, 4608]⟩
abbrev S1024x4608 : Shape := ⟨2, ![1024, 4608]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x4608, .f32⟩
  | .hbm, ⟨2, _⟩ => ⟨S1024x4608, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 9, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilQkvDwReferenceIdeal.lean ====
abbrev S2048x1024 : Shape := ⟨2, ![2048, 1024]⟩
abbrev S2048x4608 : Shape := ⟨2, ![2048, 4608]⟩
abbrev S1024x2048 : Shape := ⟨2, ![1024, 2048]⟩
abbrev S1024x4608 : Shape := ⟨2, ![1024, 4608]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4608, .f32⟩
  | .hbm, ⟨2, _⟩ => ⟨S1024x2048, .f32⟩
  | .hbm, ⟨3, _⟩ => ⟨S1024x4608, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DilOut.lean ====
abbrev S2048x512 : Shape := ⟨2, ![2048, 512]⟩
abbrev S512x1024 : Shape := ⟨2, ![512, 1024]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilOutIdeal.lean ====
abbrev S2048x512 : Shape := ⟨2, ![2048, 512]⟩
abbrev S512x1024 : Shape := ⟨2, ![512, 1024]⟩
abbrev S2048x1024 : Shape := ⟨2, ![2048, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilOutReferenceIdeal.lean ====
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x1024, .f32⟩
  | .hbm, ⟨2, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DilOutDx.lean ====
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S512x1024, .f32⟩
  | .hbm, ⟨2, _⟩ => ⟨S2048x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilOutDxReferenceIdeal.lean ====
abbrev S2048x1024 : Shape := ⟨2, ![2048, 1024]⟩
abbrev S512x1024 : Shape := ⟨2, ![512, 1024]⟩
abbrev S1024x512 : Shape := ⟨2, ![1024, 512]⟩
abbrev S2048x512 : Shape := ⟨2, ![2048, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S512x1024, .f32⟩
  | .hbm, ⟨2, _⟩ => ⟨S1024x512, .f32⟩
  | .hbm, ⟨3, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== DilOutDw.lean ====
abbrev S2048x512 : Shape := ⟨2, ![2048, 512]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S512x1024, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DilOutDwReferenceIdeal.lean ====
abbrev S2048x512 : Shape := ⟨2, ![2048, 512]⟩
abbrev S2048x1024 : Shape := ⟨2, ![2048, 1024]⟩
abbrev S512x2048 : Shape := ⟨2, ![512, 2048]⟩
abbrev S512x1024 : Shape := ⟨2, ![512, 1024]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x1024, .f32⟩
  | .hbm, ⟨2, _⟩ => ⟨S512x2048, .f32⟩
  | .hbm, ⟨3, _⟩ => ⟨S512x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LnLoss.lean ====
abbrev S2048x1024 : Shape := ⟨2, ![2048, 1024]⟩
abbrev S1x1024 : Shape := ⟨2, ![1, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 7
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S1x1, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LnLossReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1x1 : Shape := ⟨2, ![1, 1]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S_, .f32⟩
  | .hbm, ⟨50, _⟩ => ⟨S_, .f32⟩
  | .hbm, ⟨51, _⟩ => ⟨S1x1, .f32⟩
  | .hbm, ⟨52, _⟩ => ⟨S_, .f32⟩
  | .hbm, ⟨53, _⟩ => ⟨S1x1, .f32⟩
  | .hbm, ⟨54, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]
-- ==== Attention0.lean ====
abbrev S2048x4608 : Shape := ⟨2, ![2048, 4608]⟩
abbrev S8x128x256 : Shape := ⟨3, ![8, 128, 256]⟩
abbrev S2048x512 : Shape := ⟨2, ![2048, 512]⟩
abbrev S8x2048x128 : Shape := ⟨3, ![8, 2048, 128]⟩
abbrev S128x512 : Shape := ⟨2, ![128, 512]⟩
abbrev S8x128x128 : Shape := ⟨3, ![8, 128, 128]⟩
abbrev S128x128 : Shape := ⟨2, ![128, 128]⟩
abbrev S1x128 : Shape := ⟨2, ![1, 128]⟩
abbrev S1x128x128 : Shape := ⟨3, ![1, 128, 128]⟩
abbrev S128 : Shape := ⟨1, ![128]⟩
abbrev S128x1 : Shape := ⟨2, ![128, 1]⟩

abbrev nBuf : Space → Nat
  | .hbm => 4
  | .vmem => 15
  | .smem => 0
  | _ => 0

abbrev bufTy : (tb : Table) → Fin (tcTables nBuf tb) → BufTy
  | .hbm, ⟨0, _⟩ => ⟨S2048x4608, .f32⟩
  | .hbm, ⟨1, _⟩ => ⟨S8x128x256, .f32⟩
  | .hbm, ⟨2, _⟩ => ⟨S2048x512, .f32⟩
  | .hbm, ⟨3, _⟩ => ⟨S8x2048x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S8x128x256, .f32⟩
  | .local _ .vmem, ⟨11, _⟩ => ⟨S128x512, .f32⟩
  | .local _ .vmem, ⟨12, _⟩ => ⟨S128x512, .f32⟩
  | .local _ .vmem, ⟨13, _⟩ => ⟨S8x128x128, .f32⟩
  | .local _ .vmem, ⟨14, _⟩ => ⟨S8x128x128, .f32⟩
  | _, _ => ⟨S2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let c0_i32_0 : BitVec 32 := 0#32
  let v2 : BitVec 32 := Scalar.addi v1 c0_i32_0
  let c0_i32_1 : BitVec 32 := 0#32
  ![arg1.toNat, v2.toNat]

def cc0_transform_1 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let c1_i32 : BitVec 32 := 1#32
  let v2 : BitVec 32 := Scalar.addi v1 c1_i32
  let c0_i32_0 : BitVec 32 := 0#32
  ![arg1.toNat, v2.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let v2 : BitVec 32 := Scalar.muli arg0 c9_i32
  let c0_i32_0 : BitVec 32 := 0#32
  let v3 : BitVec 32 := Scalar.addi v2 c0_i32_0
  let c1_i32_1 : BitVec 32 := 1#32
  let v4 : BitVec 32 := Scalar.addi v3 c1_i32_1
  let c0_i32_2 : BitVec 32 := 0#32
  ![v1.toNat, v4.toNat]

def cc0_transform_3 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.muli arg0 c9_i32
  let c0_i32 : BitVec 32 := 0#32
  let v1 : BitVec 32 := Scalar.addi v0 c0_i32
  let c2_i32 : BitVec 32 := 2#32
  let v2 : BitVec 32 := Scalar.addi v1 c2_i32
  let c0_i32_0 : BitVec 32 := 0#32
  ![arg1.toNat, v2.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c9_i32 : BitVec 32 := 9#32
  let v2 : BitVec 32 := Scalar.muli arg0 c9_i32
  let c0_i32_0 : BitVec 32 := 0#32
  let v3 : BitVec 32 := Scalar.addi v2 c0_i32_0
  let c2_i32 : BitVec 32 := 2#32
  let v4 : BitVec 32 := Scalar.addi v3 c2_i32
  let c0_i32_1 : BitVec 32 := 0#32
  ![v1.toNat, v4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Attention0Ideal.lean ====
variable {F : FTy → Type} [FloatOps F] [Named F]
def κ : String → Option EReal := fun
  | "mask" => some ⊥
  | _ => none
-- ==== Attention0ReferenceIdeal.lean ====
abbrev S2048x4608 : Shape := ⟨2, ![2048, 4608]⟩
abbrev S8x128x256 : Shape := ⟨3, ![8, 128, 256]⟩
abbrev S2048x512 : Shape := ⟨2, ![2048, 512]⟩
abbrev S16x128x8x64 : Shape := ⟨4, ![16, 128, 8, 64]⟩
abbrev S_ : Shape := ⟨0, ![]⟩
abbrev S17x128x8x64 : Shape := ⟨4, ![17, 128, 8, 64]⟩
abbrev S16x256x8x64 : Shape := ⟨4, ![16, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S16x8x128x256 : Shape := ⟨4, ![16, 8, 128, 256]⟩
abbrev S1x8x128x256 : Shape := ⟨4, ![1, 8, 128, 256]⟩
abbrev S1x128x256 : Shape := ⟨3, ![1, 128, 256]⟩
abbrev S16x128x256 : Shape := ⟨3, ![16, 128, 256]⟩
abbrev S16x1x128x256 : Shape := ⟨4, ![16, 1, 128, 256]⟩
abbrev S16x8x128 : Shape := ⟨3, ![16, 8, 128]⟩
abbrev S16x8x128x1 : Shape := ⟨4, ![16, 8, 128, 1]⟩
abbrev S16x8x64x128 : Shape := ⟨4, ![16, 8, 64, 128]⟩
abbrev S8x16x128 : Shape := ⟨3, ![8, 16, 128]⟩
abbrev S8x2048 : Shape := ⟨2, ![8, 2048]⟩
abbrev S8x2048x1 : Shape := ⟨3, ![8, 2048, 1]⟩
abbrev S8x2048x128 : Shape := ⟨3, ![8, 2048, 128]⟩

abbrev nBuf : Space → Nat
  | .hbm => 86
  | .vmem => 0
  | .smem => 0
  | _ => 0

abbrev bufTy : (tb : Table) → Fin (tcTables nBuf tb) → BufTy
  | .hbm, ⟨0, _⟩ => ⟨S2048x4608, .f32⟩
  | .hbm, ⟨1, _⟩ => ⟨S8x128x256, .f32⟩
  | .hbm, ⟨2, _⟩ => ⟨S2048x512, .f32⟩
  | .hbm, ⟨3, _⟩ => ⟨S16x128x8x64, .f32⟩
  | .hbm, ⟨4, _⟩ => ⟨S2048x512, .f32⟩
  | .hbm, ⟨5, _⟩ => ⟨S16x128x8x64, .f32⟩
  | .hbm, ⟨6, _⟩ => ⟨S_, .i32⟩
  | .hbm, ⟨7, _⟩ => ⟨S_, .f32⟩
  | .hbm, ⟨8, _⟩ => ⟨S17x128x8x64, .f32⟩
  | .hbm, ⟨9, _⟩ => ⟨S16x128x8x64, .f32⟩
  | .hbm, ⟨10, _⟩ => ⟨S16x256x8x64, .f32⟩
  | .hbm, ⟨11, _⟩ => ⟨S2048x512, .f32⟩
  | .hbm, ⟨12, _⟩ => ⟨S16x128x8x64, .f32⟩
  | .hbm, ⟨13, _⟩ => ⟨S_, .i32⟩
  | .hbm, ⟨14, _⟩ => ⟨S_, .f32⟩
  | .hbm, ⟨15, _⟩ => ⟨S17x128x8x64, .f32⟩
  | .hbm, ⟨16, _⟩ => ⟨S16x128x8x64, .f32⟩
  | .hbm, ⟨17, _⟩ => ⟨S16x256x8x64, .f32⟩
  | .hbm, ⟨18, _⟩ => ⟨S128, .i32⟩
  | .hbm, ⟨19, _⟩ => ⟨S128x1, .i32⟩
  | .hbm, ⟨20, _⟩ => ⟨S_, .i32⟩
  | .hbm, ⟨21, _⟩ => ⟨S128x1, .i32⟩
  | .hbm, ⟨22, _⟩ => ⟨S128x1, .i32⟩
  | .hbm, ⟨23, _⟩ => ⟨S256, .i32⟩
  | .hbm, ⟨24, _⟩ => ⟨S1x256, .i32⟩
  | .hbm, ⟨25, _⟩ => ⟨S128x256, .i32⟩
  | .hbm, ⟨26, _⟩ => ⟨S128x256, .i32⟩
  | .hbm, ⟨27, _⟩ => ⟨S128x256, .i32⟩
  | .hbm, ⟨28, _⟩ => ⟨S_, .i32⟩
  | .hbm, ⟨29, _⟩ => ⟨S128x256, .i32⟩
  | .hbm, ⟨30, _⟩ => ⟨S128x256, .i1⟩
  | .hbm, ⟨31, _⟩ => ⟨S_, .i32⟩
  | .hbm, ⟨32, _⟩ => ⟨S128x256, .i32⟩
  | .hbm, ⟨33, _⟩ => ⟨S128x256, .i1⟩
  | .hbm, ⟨34, _⟩ => ⟨S128x256, .i1⟩
  | .hbm, ⟨35, _⟩ => ⟨S16, .i32⟩
  | .hbm, ⟨36, _⟩ => ⟨S_, .i32⟩
  | .hbm, ⟨37, _⟩ => ⟨S16, .i32⟩
  | .hbm, ⟨38, _⟩ => ⟨S16, .i1⟩
  | .hbm, ⟨39, _⟩ => ⟨S16x1x1, .i1⟩
  | .hbm, ⟨40, _⟩ => ⟨S256, .i32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S1x1x256, .i1⟩
  | .hbm, ⟨45, _⟩ => ⟨S16x1x256, .i1⟩
  | .hbm, ⟨46, _⟩ => ⟨S16x1x256, .i1⟩
  | .hbm, ⟨47, _⟩ => ⟨S16x1x256, .i1⟩
  | .hbm, ⟨48, _⟩ => ⟨S16x8x128x256, .f32⟩
  | .hbm, ⟨49, _⟩ => ⟨S_, .f32⟩
  | .hbm, ⟨50, _⟩ => ⟨S16x8x128x256, .f32⟩
  | .hbm, ⟨51, _⟩ => ⟨S16x8x128x256, .f32⟩
  | .hbm, ⟨52, _⟩ => ⟨S1x8x128x256, .f32⟩
  | .hbm, ⟨53, _⟩ => ⟨S16x8x128x256, .f32⟩
  | .hbm, ⟨54, _⟩ => ⟨S16x8x128x256, .f32⟩
  | .hbm, ⟨55, _⟩ => ⟨S1x128x256, .i1⟩
  | .hbm, ⟨56, _⟩ => ⟨S16x128x256, .i1⟩
  | .hbm, ⟨57, _⟩ => ⟨S16x128x256, .i1⟩
  | .hbm, ⟨58, _⟩ => ⟨S16x128x256, .i1⟩
  | .hbm, ⟨59, _⟩ => ⟨S16x1x128x256, .i1⟩
  | .hbm, ⟨60, _⟩ => ⟨S_, .f32⟩
  | .hbm, ⟨61, _⟩ => ⟨S_, .f32⟩
  | .hbm, ⟨62, _⟩ => ⟨S16x8x128x256, .i1⟩
  | .hbm, ⟨63, _⟩ => ⟨S16x8x128x256, .f32⟩
  | .hbm, ⟨64, _⟩ => ⟨S16x8x128x256, .f32⟩
  | .hbm, ⟨65, _⟩ => ⟨S_, .f32⟩
  | .hbm, ⟨66, _⟩ => ⟨S16x8x128, .f32⟩
  | .hbm, ⟨67, _⟩ => ⟨S16x8x128x1, .f32⟩
  | .hbm, ⟨68, _⟩ => ⟨S16x8x128x256, .f32⟩
  | .hbm, ⟨69, _⟩ => ⟨S16x8x128x256, .f32⟩
  | .hbm, ⟨70, _⟩ => ⟨S16x8x128x256, .f32⟩
  | .hbm, ⟨71, _⟩ => ⟨S_, .f32⟩
  | .hbm, ⟨72, _⟩ => ⟨S16x8x128, .f32⟩
  | .hbm, ⟨73, _⟩ => ⟨S16x8x128x1, .f32⟩
  | .hbm, ⟨74, _⟩ => ⟨S16x8x128x256, .f32⟩
  | .hbm, ⟨75, _⟩ => ⟨S16x8x128x256, .f32⟩
  | .hbm, ⟨76, _⟩ => ⟨S16x8x64x128, .f32⟩
  | .hbm, ⟨77, _⟩ => ⟨S16x128x8x64, .f32⟩
  | .hbm, ⟨78, _⟩ => ⟨S16x8x128x1, .f32⟩
  | .hbm, ⟨79, _⟩ => ⟨S16x8x128x1, .f32⟩
  | .hbm, ⟨80, _⟩ => ⟨S16x8x128, .f32⟩
  | .hbm, ⟨81, _⟩ => ⟨S8x16x128, .f32⟩
  | .hbm, ⟨82, _⟩ => ⟨S2048x512, .f32⟩
  | .hbm, ⟨83, _⟩ => ⟨S8x2048, .f32⟩
  | .hbm, ⟨84, _⟩ => ⟨S8x2048x1, .f32⟩
  | .hbm, ⟨85, _⟩ => ⟨S8x2048x128, .f32⟩
  | _, _ => ⟨S2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_call1_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_2 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== Proof.Exchange.lean ====
/-
One exchange of slots between devices, for any pairing: the protocol, and one device's part of it.

A device `c` copies one slot of its source array to its own result, and one slot each to the devices `peer k c`,
`k < K`, where `peer k` pairs the devices off (`peer k (peer k c) = c`). Three kinds of semaphores count the copies,
all in bytes of one slot:

* the LOCAL semaphore: `c`'s own copy raises it when it has landed, and `c` waits for it;
* the SEND semaphore `k`: raised at `c` when `c`'s copy to `peer k c` has read its source, and `c` waits for it;
* the RECEIVE semaphore `k`: raised at `peer k c` when `c`'s copy has landed there, and `peer k c` waits for it.

Each is raised once and waited for once. What a wait hands its device: the local one the slot of its own result,
written with its own slot, and the slot read; a send one the slot read; a receive one the slot of its result that the
peer has written, at the peer's contents (`out`). No semaphore is waited for before the device has started all its
copies, so a device waits owing nothing.
-/
module

public import Idealize.ShloMosaic.Lib.Rounds
public import Idealize.ShloMosaic.Lib.Pipeline.Launch
public import Idealize.ShloMosaic.Lib.Pipeline.Kit
public import Idealize.ShloMosaic.Lib.Pipeline.BigSepL
public import Idealize.ShloMosaic.Lib.Tactic

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

/-- The data of an exchange: the slots each device reads (`src none` its own, `src (some k)` that of `peer k`), the slot it
    writes at itself and at each peer (`dst`), the semaphores, the pairings. -/
structure Xch (nD : ℕ) (sig : RefSig) where
  K : ℕ
  shp : Shape
  elt : EltTy
  src : Option (Fin K) → Dev nD → Memref sig .tc .hbm shp elt
  dst : Dev nD → Memref sig .tc .hbm shp elt
  src_exact : ∀ k c, (src k c).view.WordExact
  dst_exact : ∀ c, (dst c).view.WordExact
  dst_scr : ∀ c, (dst c).view.ref.isScScratch = false
  sendS : Fin K → DmaSem sig
  recvS : Fin K → DmaSem sig
  localS : DmaSem sig
  peer : Fin K → Dev nD → Dev nD
  peer_peer : ∀ k c, peer k (peer k c) = c
  bytes : ℕ
  bytes_pos : 0 < bytes
  src_credit : ∀ k c, (src k c).view.dmaCredit = bytes
  dst_credit : ∀ c, (dst c).view.dmaCredit = bytes

namespace Xch

variable {nD : ℕ} {τ : Topo} {sig : RefSig} (X : Xch nD sig)

/-- The exchange's semaphores: send, receive, local. -/
abbrev Sems : Type := Fin X.K ⊕ Fin X.K ⊕ Unit

def osem : X.Sems → SemLoc sig
  | .inl k => .dma (X.sendS k)
  | .inr (.inl k) => .dma (X.recvS k)
  | .inr (.inr _) => .dma X.localS

/-- One semaphore of one device. -/
def cell (x : Dev nD × X.Sems) : GSem nD τ sig := ((x.1.tc : Thread nD τ), X.osem x.2)

abbrev sendC (k : Fin X.K) (c : Dev nD) : GSem nD τ sig := X.cell (c, .inl k)
abbrev recvC (k : Fin X.K) (c : Dev nD) : GSem nD τ sig := X.cell (c, .inr (.inl k))
abbrev localC (c : Dev nD) : GSem nD τ sig := X.cell (c, .inr (.inr ()))

theorem cell_injective (hs : Function.Injective X.osem) : Function.Injective (X.cell (τ := τ)) := by
  rintro ⟨c, j⟩ ⟨c', j'⟩ h
  have h1 : c = c' := congrArg (fun g : GSem nD τ sig => g.1.1) h
  have h2 : X.osem j = X.osem j' := congrArg Prod.snd h
  rw [h1, hs h2]

/-! ## One device's program -/

section Program

variable {Val : EltTy → Type} {Λ : Labels}

/-- Device `c` starts its copies to the peers in `l`. -/
def sends (c : Dev nD) : List (Fin X.K) → Prog (TpuEff nD τ sig Val Λ .tc) PUnit → Prog (TpuEff nD τ sig Val Λ .tc) PUnit
  | [], rest => rest
  | k :: l, rest =>
    .op (.enqueueDma (X.src (some k) c) (.remote (Dev.tc (X.peer k c)) (X.dst c) (.dma (X.sendS k)) (X.dst_scr c)) (.dma (X.recvS k))
      (X.src_exact _ c) (X.dst_exact c) ⟨⟨rfl, Or.inl rfl⟩, trivial⟩) fun _ => sends c l rest

/-- Device `c` waits for its copies to the peers in `l` and for theirs to it. -/
def waits (c : Dev nD) : List (Fin X.K) → Prog (TpuEff nD τ sig Val Λ .tc) PUnit → Prog (TpuEff nD τ sig Val Λ .tc) PUnit
  | [], rest => rest
  | k :: l, rest =>
    .op (.waitDma2 (X.sendS k) (X.dst c) (X.src (some k) c) (X.dst_exact c) (X.src_exact _ c)) fun _ =>
    .op (.waitDma2 (X.recvS k) (X.src (some k) c) (X.dst c) (X.src_exact _ c) (X.dst_exact c)) fun _ => waits c l rest

/-- Device `c`'s part of the exchange. -/
def prog (c : Dev nD) : Prog (TpuEff nD τ sig Val Λ .tc) PUnit :=
  .op (.enqueueDma (X.src none c) (.here (X.dst c)) (.dma X.localS) (X.src_exact _ c) (X.dst_exact c) ⟨Or.inl rfl, trivial⟩) fun _ =>
  X.sends c (List.finRange X.K) (X.waits c (List.finRange X.K)
    (.op (.waitDma2 X.localS (X.src none c) (X.dst c) (X.src_exact _ c) (X.dst_exact c)) fun _ => .ret ⟨⟩))

end Program

/-! ## The protocol -/

section Protocol

variable {Val : EltTy → Type} {Name : Type} [DecidableEq Name] [Infinite Name] {U : Type} [URA U]

local notation "𝕄" => MT nD τ sig Unit Val Name U ℕ

/-- The share of its source array each copy of device `c` reads at, the contents it reads there (`fs`), what the slot
    written by `c` at `p` holds before (`f₀`) and afterwards (`out`). -/
structure Contents (τ : Topo) (Val : EltTy → Type) where
  q : Option (Fin X.K) → PosShare TreeShare
  fs : (k : Option (Fin X.K)) → (c : Dev nD) → Buf Val ((X.src k c).view.loc (c.tc : Thread nD τ))
  f₀ : (c p : Dev nD) → Buf Val ((X.dst c).view.loc (p.tc : Thread nD τ))
  out : (c p : Dev nD) → Buf Val ((X.dst c).view.loc (p.tc : Thread nD τ))
  out_own : ∀ c, (X.dst c).view.read Val (out c c) = (X.src none c).view.read Val (fs none c)
  out_peer : ∀ k c, (X.dst c).view.read Val (out c (X.peer k c)) = (X.src (some k) c).view.read Val (fs (some k) c)

variable (V : X.Contents τ Val)

def srcP (k : Option (Fin X.K)) (c : Dev nD) : sProp 𝕄 :=
  (X.src k c).view.loc (c.tc : Thread nD τ) ↦[(X.src k c).view.set]{V.q k} V.fs k c
def oldP (c p : Dev nD) : sProp 𝕄 := (X.dst c).view.loc (p.tc : Thread nD τ) ↦[(X.dst c).view.set]{fullShare} V.f₀ c p
def newP (c p : Dev nD) : sProp 𝕄 := (X.dst c).view.loc (p.tc : Thread nD τ) ↦[(X.dst c).view.set]{fullShare} V.out c p

instance srcP_storable (k : Option (Fin X.K)) (c : Dev nD) : BI.Storable (upEmb : UEmb _ 𝕄) (X.srcP (Name := Name) (U := U) V k c) := by unfold srcP; infer_instance
instance newP_storable (c p : Dev nD) : BI.Storable (upEmb : UEmb _ 𝕄) (X.newP (Name := Name) (U := U) V c p) := by unfold newP; infer_instance

/-- A slot written whole with what the writer reads is the slot at its new contents. -/
theorem newP_of_write {c p : Dev nD} {k : Option (Fin X.K)} (h : (X.dst c).view.read Val (V.out c p) = (X.src k c).view.read Val (V.fs k c)) :
    ((X.dst c).view.loc (p.tc : Thread nD τ) ↦[(X.dst c).view.set]{fullShare}
        ((X.dst c).view.write Val (V.f₀ c p) ((X.src k c).view.read Val (V.fs k c)) Finset.univ)) ⊢ (X.newP V c p : sProp 𝕄) := by
  unfold newP
  rw [← h]
  refine Entails.of_eq (pointsTo_congr fun i hi => ?_)
  rw [View.write_read_eq_piecewise]
  exact Finset.piecewise_eq_of_mem _ _ _ hi

/-- What each semaphore of device `c` hands over. -/
def pay (c : Dev nD) : X.Sems → sProp 𝕄
  | .inl k => X.srcP V (some k) c
  | .inr (.inl k) => X.newP V (X.peer k c) c
  | .inr (.inr _) => iprop(X.newP V c c ∗ X.srcP V none c)

instance pay_storable (c : Dev nD) (j : X.Sems) : BI.Storable (upEmb : UEmb _ 𝕄) (X.pay (Name := Name) (U := U) V c j) := by
  rcases j with k | k | u <;> (dsimp only [pay]; infer_instance)

open Classical in
/-- One round a semaphore: raised by the bytes of one slot. -/
def sched : Rounds.Schedule (GSem nD τ sig) Unit 𝕄 where
  duties g r := if r = 0 ∧ ∃ x, X.cell x = g then {()} else ∅
  amount _ _ _ := X.bytes
  payload g _ _ := if h : ∃ x, X.cell x = g then X.pay V h.choose.1 h.choose.2 else iprop(emp)
  amount_pos _ _ _ _ := X.bytes_pos

instance sched_storable (g : GSem nD τ sig) (r : ℕ) (d : Unit) :
    BI.Storable (upEmb : UEmb _ 𝕄) ((X.sched (Name := Name) (U := U) V).payload g r d) := by
  dsimp only [sched]; split <;> infer_instance

theorem duties_zero (x : Dev nD × X.Sems) : (X.sched (Name := Name) (U := U) V).duties (X.cell x) 0 = {()} := by
  dsimp only [sched]; exact if_pos ⟨rfl, x, rfl⟩
theorem duties_later (g : GSem nD τ sig) (r : ℕ) (hr : 1 ≤ r) : (X.sched (Name := Name) (U := U) V).duties g r = ∅ := by
  dsimp only [sched]; exact if_neg fun h => by omega
theorem mem_duties (x : Dev nD × X.Sems) : () ∈ (X.sched (Name := Name) (U := U) V).duties (X.cell x) 0 := by
  rw [duties_zero]; exact Finset.mem_singleton_self _
theorem expect_zero (x : Dev nD × X.Sems) : (X.sched (Name := Name) (U := U) V).expect (X.cell x) 0 = X.bytes := by
  unfold Schedule.expect Schedule.amountOf
  rw [duties_zero, Finset.sum_singleton]; rfl

variable (hs : Function.Injective X.osem)

include hs in
theorem payload_cell (x : Dev nD × X.Sems) : (X.sched V).payload (X.cell x) 0 () = (X.pay V x.1 x.2 : sProp 𝕄) := by
  have h : ∃ y, X.cell (τ := τ) y = X.cell x := ⟨x, rfl⟩
  dsimp only [sched]
  rw [dif_pos h, X.cell_injective hs h.choose_spec]

include hs in
theorem rest_zero (x : Dev nD × X.Sems) :
    bigSep ((X.sched (Name := Name) (U := U) V).duties (X.cell x) 0 \ ∅) (fun d => (X.sched V).payload (X.cell x) 0 d) = (X.pay V x.1 x.2 : sProp 𝕄) := by
  rw [Finset.sdiff_empty, duties_zero, bigSep_singleton, X.payload_cell V hs]

include hs in
/-- A payload is handed in by what it stands for. -/
theorem to_payload (x : Dev nD × X.Sems) {A : sProp 𝕄} (h : A ⊢ X.pay V x.1 x.2) : A ⊢ (X.sched V).payload (X.cell x) 0 () :=
  BIBase.Entails.trans h (Entails.of_eq (X.payload_cell V hs x).symm)

/-! ## One device's run -/

variable (ER : Emb (URounds (GSem nD τ sig) Unit) (MT nD τ sig Unit Val Name U ℕ))

/-- What every device knows of every semaphore. -/
def records (κ : Dev nD × X.Sems → Name) : sProp 𝕄 :=
  bigSep Finset.univ fun x : Dev nD × X.Sems => iprop(cellInv ER (X.sched V) (κ x) (X.cell x) ∗ reached ER (X.cell x) 0)

instance records_persistent (κ : Dev nD × X.Sems → Name) : BI.Persistent (X.records V ER κ : sProp 𝕄) := by unfold records; infer_instance

theorem records_at (κ : Dev nD × X.Sems → Name) (x : Dev nD × X.Sems) :
    (X.records V ER κ : sProp 𝕄) ⊢ iprop(cellInv ER (X.sched V) (κ x) (X.cell x) ∗ reached ER (X.cell x) 0) :=
  bigSep_elim (Finset.mem_univ x)

/-- What device `c` owes for the copies to the peers in `l`. -/
def debt (c : Dev nD) (l : List (Fin X.K)) : CellTallies nD τ sig Unit :=
  (l.map fun k => tallyAt (X.recvC k (X.peer k c)) () X.bytes).sum

theorem debt_cons (c : Dev nD) (k : Fin X.K) (l : List (Fin X.K)) :
    X.debt (τ := τ) c (k :: l) = X.debt c l + tallyAt (X.recvC k (X.peer k c)) () X.bytes := by
  unfold debt; rw [List.map_cons, List.sum_cons, add_comm]

variable {Λ : Labels} (defs : Defs nD τ sig Val Λ) (𝒱 : Variants)

/-- What one copy to a peer uses up. -/
def sendRes (c : Dev nD) (k : Fin X.K) : sProp 𝕄 :=
  iprop(X.srcP V (some k) c ∗ X.oldP V c (X.peer k c) ∗ dutyTok ER (X.sendC k c) 0 () ∗ dutyTok ER (X.recvC k (X.peer k c)) 0 ())

include hs in
theorem wp_sends [ER.LandsIn (upEmb : UEmb _ 𝕄)] (κ : Dev nD × X.Sems → Name) (c : Dev nD) (W : Waits sig Unit)
    (rest : Prog (TpuEff nD τ sig Val Λ .tc) PUnit) (Q : PUnit → sProp 𝕄) : ∀ l : List (Fin X.K),
    iprop(X.records V ER κ ∗ bigSepL l (X.sendRes V ER c) ∗ owes (c.tc : Thread nD τ) (X.debt c l) W
        ∗ ((bigSepL l (fun k => cred (tallyAt (X.sendC k c) () X.bytes)) ∗ owes (c.tc : Thread nD τ) 0 W)
          -∗ wp frame (wpE defs 𝒱 (c.tc : Thread nD τ) none) Set.univ rest Q))
      ⊢ wp frame (wpE defs 𝒱 (c.tc : Thread nD τ) none) Set.univ (X.sends c l rest) Q
  | [] => by
    rw [sends, bigSepL_nil, bigSepL_nil, show X.debt (τ := τ) c [] = 0 from rfl]
    iintro ⟨-, -, HO, Hk⟩
    iapply Hk
    isplitr [HO]; · iempintro
    iexact HO
  | k :: l => by
    have ih := wp_sends κ c W rest Q l
    rw [sends, bigSepL_cons', bigSepL_cons', debt_cons]
    unfold sendRes srcP oldP
    unfold sendRes srcP oldP at ih
    iintro ⟨#HR, ⟨⟨Hsrc, Hold, Ht1, Ht2⟩, Hl⟩, HO, Hk⟩
    ihave #H1 := (X.records_at V ER κ (c, .inl k)) $$ HR
    ihave #H2 := (X.records_at V ER κ (X.peer k c, .inr (.inl k))) $$ HR
    icases H1 with ⟨#HI1, #HR1⟩
    icases H2 with ⟨#HI2, #HR2⟩
    iapply (Rounds.wp_send_pointsTo 𝒱 ER (X.sched V) (c.tc : Thread nD τ) none (κ₁ := κ (c, .inl k)) (κ₂ := κ (X.peer k c, .inr (.inl k)))
      (r₁ := 0) (r₂ := 0) (d₁ := ()) (d₂ := ()) (fd := V.f₀ c (X.peer k c)) (fs := V.fs (some k) c) (q := V.q (some k))
      (X.mem_duties V (c, .inl k)) (X.mem_duties V (X.peer k c, .inr (.inl k)))
      () () X.bytes (X.dst_credit c) rfl rfl (X.debt c l) rfl (W := W)
      (X.to_payload V hs (c, .inl k) (BI.Entails.refl _))
      (X.to_payload V hs (X.peer k c, .inr (.inl k)) (by
        dsimp only [pay]; rw [X.peer_peer]; exact X.newP_of_write V (V.out_peer k c)))) $$ [Hsrc Hold HO Ht1 Ht2]
    · isplitr; · iexact HI1
      isplitr; · iexact HI2
      isplitl [Hsrc]; · iexact Hsrc
      isplitl [Hold]; · iexact Hold
      isplitl [HO]; · iexact HO
      isplitl [Ht1]; · iexact Ht1
      isplitr; · iexact HR1
      isplitl [Ht2]; · iexact Ht2
      iexact HR2
    iintro ⟨Hc, HO⟩
    iapply ih
    isplitr; · iexact HR
    isplitl [Hl]; · iexact Hl
    isplitl [HO]; · iexact HO
    iintro ⟨Hcs, HO⟩
    iapply Hk
    isplitr [HO]
    · isplitl [Hc]; · iexact Hc
      iexact Hcs
    iexact HO

/-- What one pair of waits uses up, and what it leaves. -/
def waitRes (c : Dev nD) (k : Fin X.K) : sProp 𝕄 :=
  iprop(cred (tallyAt (X.sendC k c) () X.bytes) ∗ cred (tallyAt (X.recvC k c) () X.bytes)
    ∗ atPos ER (X.sendC k c) 0 ∅ 0 ∗ atPos ER (X.recvC k c) 0 ∅ 0)
def waited (c : Dev nD) (k : Fin X.K) : sProp 𝕄 :=
  iprop(X.srcP V (some k) c ∗ X.newP V (X.peer k c) c ∗ semVal (X.sendC k c) 0 ∗ semVal (X.recvC k c) 0)

include hs in
/-- One wait, for a whole slot: the semaphore is read down to zero and closed, and hands over what it was raised with. -/
theorem wp_wait_one [ER.LandsIn (upEmb : UEmb _ 𝕄)] (κ : Dev nD × X.Sems → Name) (c : Dev nD) (j : X.Sems)
    {w : TpuEff nD τ sig Val Λ .tc PUnit}
    (hw : ∀ K' : PUnit → sProp 𝕄, wpE defs 𝒱 (c.tc : Thread nD τ) none Set.univ w K' = waitSpec (c.tc : Thread nD τ) Set.univ (X.osem j) X.bytes K')
    (k : PUnit → Prog (TpuEff nD τ sig Val Λ .tc) PUnit) (Q : PUnit → sProp 𝕄) :
    iprop(X.records V ER κ ∗ cred (tallyAt (X.cell (c, j)) () X.bytes) ∗ atPos ER (X.cell (c, j)) 0 ∅ 0
        ∗ (∃ W, owes (c.tc : Thread nD τ) (0 : CellTallies nD τ sig Unit) W)
        ∗ (((∃ W, owes (c.tc : Thread nD τ) (0 : CellTallies nD τ sig Unit) W) ∗ X.pay V c j ∗ semVal (X.cell (c, j)) 0)
          -∗ wp frame (wpE defs 𝒱 (c.tc : Thread nD τ) none) Set.univ (k ⟨⟩) Q))
      ⊢ wp frame (wpE defs 𝒱 (c.tc : Thread nD τ) none) Set.univ (.op w k) Q := by
  iintro ⟨#HR, Hc, Hat, ⟨%W, HO⟩, Hk⟩
  ihave #H1 := (X.records_at V ER κ (c, j)) $$ HR
  icases H1 with ⟨#HI, -⟩
  iapply (Rounds.wp_wait_rest_token 𝒱 ER (X.sched V) (c.tc : Thread nD τ) none (κ := κ (c, j)) hw (Set.mem_univ _) () (O := 0) (W := W)
      (R := 0) (m := 0) (T := ∅) (by rw [Nat.zero_add]; exact (X.expect_zero V (c, j)).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (show bigSep ((X.sched (Name := Name) (U := U) V).duties ((c.tc : Thread nD τ), X.osem j) 0 \ ∅)
      (fun d => (X.sched V).payload ((c.tc : Thread nD τ), X.osem j) 0 d) = (X.pay V c j : sProp 𝕄) from X.rest_zero V hs (c, j))) $$ Hpay
  iapply (fupd_wp frame (wpE defs 𝒱 (c.tc : Thread nD τ) none) Set.univ _ _)
  imod (Rounds.cell_close ER (X.sched V) (Set.mem_univ (κ (c, j))) (fun h => h) (R := 0 + 1) (fun r hr => X.duties_later V (X.cell (c, j)) r hr)) $$ [Hat] with Hz
  · isplitr; · iexact HI
    iexact Hat
  imodintro
  iapply Hk
  isplitl [HO]; · iexists _; iexact HO
  isplitl [Hp] <;> iassumption

include hs in
theorem wp_waits [ER.LandsIn (upEmb : UEmb _ 𝕄)] (κ : Dev nD × X.Sems → Name) (c : Dev nD)
    (rest : Prog (TpuEff nD τ sig Val Λ .tc) PUnit) (Q : PUnit → sProp 𝕄) : ∀ l : List (Fin X.K),
    iprop(X.records V ER κ ∗ bigSepL l (X.waitRes ER c) ∗ (∃ W, owes (c.tc : Thread nD τ) (0 : CellTallies nD τ sig Unit) W)
        ∗ ((bigSepL l (X.waited V c) ∗ ∃ W, owes (c.tc : Thread nD τ) (0 : CellTallies nD τ sig Unit) W)
          -∗ wp frame (wpE defs 𝒱 (c.tc : Thread nD τ) none) Set.univ rest Q))
      ⊢ wp frame (wpE defs 𝒱 (c.tc : Thread nD τ) none) Set.univ (X.waits c l rest) Q
  | [] => by
    rw [waits, bigSepL_nil, bigSepL_nil]
    iintro ⟨-, -, HO, Hk⟩
    iapply Hk
    isplitr [HO]; · iempintro
    iexact HO
  | k :: l => by
    have ih := wp_waits κ c rest Q l
    rw [waits, bigSepL_cons', bigSepL_cons']
    iintro ⟨#HR, ⟨Hr, Hl⟩, HO, Hk⟩
    unfold waitRes
    icases Hr with ⟨Hc1, Hc2, Ha1, Ha2⟩
    iapply (X.wp_wait_one V hs ER defs 𝒱 κ c (.inl k) (fun K' => by
      rw [wpE_waitDma2_eq 𝒱 (c.tc : Thread nD τ) none Set.univ, X.src_credit]; rfl))
    isplitr; · iexact HR
    isplitl [Hc1]; · iexact Hc1
    isplitl [Ha1]; · iexact Ha1
    isplitl [HO]; · iexact HO
    iintro ⟨HO, Hp1, Hz1⟩
    iapply (X.wp_wait_one V hs ER defs 𝒱 κ c (.inr (.inl k)) (fun K' => by
      rw [wpE_waitDma2_eq 𝒱 (c.tc : Thread nD τ) none Set.univ, X.dst_credit]; rfl))
    isplitr; · iexact HR
    isplitl [Hc2]; · iexact Hc2
    isplitl [Ha2]; · iexact Ha2
    isplitl [HO]; · iexact HO
    iintro ⟨HO, Hp2, Hz2⟩
    iapply ih
    isplitr; · iexact HR
    isplitl [Hl]; · iexact Hl
    isplitl [HO]; · iexact HO
    iintro ⟨Hw, HO⟩
    iapply Hk
    isplitr [HO]
    · isplitr [Hw]
      · unfold waited
        dsimp only [pay]
        isplitl [Hp1]; · iexact Hp1
        isplitl [Hp2]; · iexact Hp2
        isplitl [Hz1] <;> iassumption
      · iexact Hw
    iexact HO

/-- What device `c` starts the exchange with, -/
def start (c : Dev nD) : sProp 𝕄 :=
  iprop((∃ κ, X.records V ER κ) ∗ X.srcP V none c ∗ X.oldP V c c ∗ dutyTok ER (X.localC c) 0 () ∗ atPos ER (X.localC c) 0 ∅ 0
    ∗ bigSep Finset.univ (X.sendRes V ER c)
    ∗ bigSep Finset.univ (fun k => cred (tallyAt (X.recvC k c) () X.bytes))
    ∗ bigSep Finset.univ (fun k => iprop(atPos ER (X.sendC k c) 0 ∅ 0 ∗ atPos ER (X.recvC k c) 0 ∅ 0)))
/-- and what it ends with. -/
def finish (c : Dev nD) : sProp 𝕄 :=
  iprop((X.newP V c c ∗ X.srcP V none c) ∗ semVal (X.localC c) 0 ∗ bigSep Finset.univ (X.waited V c))

/-- What device `c` owes when it starts. -/
def owed (c : Dev nD) : CellTallies nD τ sig Unit := X.debt c (List.finRange X.K)

theorem univ_list (Φ : Fin X.K → sProp 𝕄) : bigSep Finset.univ Φ = bigSepL (List.finRange X.K) Φ :=
  bigSep_univ_eq_bigSepL _ (by ext k; simp) (List.nodup_finRange _) Φ

include hs in
theorem wp_prog [ER.LandsIn (upEmb : UEmb _ 𝕄)] (c : Dev nD) (Q : PUnit → sProp 𝕄) :
    iprop(X.start V ER c ∗ (∃ W, owes (c.tc : Thread nD τ) (X.owed c) W)
        ∗ ((X.finish V c ∗ ∃ W, owes (c.tc : Thread nD τ) (0 : CellTallies nD τ sig Unit) W) -∗ Q ⟨⟩))
      ⊢ wp frame (wpE defs 𝒱 (c.tc : Thread nD τ) none) Set.univ (X.prog c) Q := by
  unfold start finish prog owed
  simp only [univ_list]
  iintro ⟨⟨⟨%κ, #HR⟩, Hsrc, Hold, Htok, Hat, Hsend, Hcr, Hats⟩, ⟨%W, HO⟩, Hk⟩
  ihave #H1 := (X.records_at V ER κ (c, .inr (.inr ()))) $$ HR
  icases H1 with ⟨#HI, #Hr⟩
  unfold oldP
  ihave Hsrc' := (Entails.of_eq (show X.srcP V none c = (((X.src none c).view.loc (c.tc : Thread nD τ) ↦[(X.src none c).view.set]{V.q none} V.fs none c) : sProp 𝕄) from rfl)) $$ Hsrc
  iapply (Rounds.wp_copy_pointsTo 𝒱 ER (X.sched V) (c.tc : Thread nD τ) none (κ := κ (c, .inr (.inr ()))) (r := 0) (d := ()) (fd := V.f₀ c c)
      (fs := V.fs none c) (q := V.q none) (X.mem_duties V (c, .inr (.inr ()))) () X.bytes (X.dst_credit c) rfl
      (X.to_payload V hs (c, .inr (.inr ())) (BIClass.sep_mono (X.newP_of_write V (V.out_own c)) (BI.Entails.refl _)))) $$ [Hsrc' Hold Htok]
  · isplitr; · iexact HI
    isplitl [Hsrc']; · iexact Hsrc'
    isplitl [Hold]; · iexact Hold
    isplitl [Htok]; · iexact Htok
    iexact Hr
  iintro Hcl
  iapply (X.wp_sends V hs ER defs 𝒱 κ c W _ Q (List.finRange X.K))
  isplitr; · iexact HR
  isplitl [Hsend]; · iexact Hsend
  isplitl [HO]; · iexact HO
  iintro ⟨Hcs, HO⟩
  iapply (X.wp_waits V hs ER defs 𝒱 κ c _ Q (List.finRange X.K))
  isplitr; · iexact HR
  isplitl [Hcs Hcr Hats]
  · unfold waitRes
    simp only [← univ_list, bigSep_sep']
    icases Hats with ⟨Ha1, Ha2⟩
    isplitl [Hcs]; · iexact Hcs
    isplitl [Hcr]; · iexact Hcr
    isplitl [Ha1] <;> iassumption
  isplitl [HO]; · iexists W; iexact HO
  iintro ⟨Hw, HO⟩
  iapply (X.wp_wait_one V hs ER defs 𝒱 κ c (.inr (.inr ())) (fun K' => by
      rw [wpE_waitDma2_eq 𝒱 (c.tc : Thread nD τ) none Set.univ, X.dst_credit]; rfl))
  isplitr; · iexact HR
  isplitl [Hcl]; · iexact Hcl
  isplitl [Hat]; · iexact Hat
  isplitl [HO]; · iexact HO
  iintro ⟨HO, Hp, Hz⟩
  rw [wp_ret]
  imodintro
  iapply Hk
  isplitr [HO]
  · isplitl [Hp]; · iapply (Entails.of_eq (show (X.pay V c (.inr (.inr ())) : sProp 𝕄) = iprop(X.newP V c c ∗ X.srcP V none c) from rfl)); iexact Hp
    isplitl [Hz] <;> iassumption
  iexact HO

end Protocol

end Xch

end Cert.Exchange

end
-- ==== Proof.ExchangeLaunch.lean ====
module
public import proofs.«01_k».proof.Proof.Exchange

/-! # Handing the exchange's pieces out

Before the devices start, the records of all semaphores are made, and each device gets what its copies
use up: the positions of its own semaphores, the right to raise the receive semaphore of each peer once,
its own sources, and of every peer the slot that it writes there. -/

@[expose] public section

noncomputable section

namespace Cert.Exchange

open Idealize.ShloMosaic
open TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

namespace Xch

variable {nD : ℕ} {τ : Topo} {sig : RefSig} (X : Xch nD sig)
variable {Val : EltTy → Type} {Name : Type} [DecidableEq Name] [Infinite Name] {U : Type} [URA U]

local notation "𝕄" => MT nD τ sig Unit Val Name U ℕ

variable (V : X.Contents τ Val) (hs : Function.Injective X.osem)
variable (ER : Emb (URounds (GSem nD τ sig) Unit) (MT nD τ sig Unit Val Name U ℕ))

/-- All semaphores of all devices, and one duty of each. -/
def cells : Finset (GSem nD τ sig) := Finset.univ.map ⟨X.cell, X.cell_injective hs⟩
def toks : Finset (GSem nD τ sig × ℕ × Unit) :=
  Finset.univ.map ⟨fun x : Dev nD × X.Sems => (X.cell x, 0, ()), fun _ _ h => X.cell_injective hs (congrArg Prod.fst h)⟩

/-- The fresh records. -/
def fresh : sProp 𝕄 :=
  iprop(bigSep Finset.univ (fun x => roundState ER (X.sched V) (X.cell x) 0) ∗ bigSep Finset.univ (fun x => reached ER (X.cell x) 0)
    ∗ bigSep Finset.univ (fun x => atPos ER (X.cell x) 0 ∅ 0) ∗ bigSep Finset.univ (fun x => dutyTok ER (X.cell x) 0 ()))

theorem fund_all : BI.own (ER (initOf (X.cells hs) (X.toks hs))) ⊢ (|==> X.fresh V ER : sProp 𝕄) := by
  have h := Rounds.fund ER (X.sched V) (X.cells (τ := τ) hs) (X.toks hs)
  unfold cells toks at h
  simp only [bigSep_map] at h
  exact h

/-- What belongs to device `c` and is given to its copies and to those of its peers. -/
def lent (c : Dev nD) : sProp 𝕄 :=
  iprop((X.srcP V none c ∗ bigSep Finset.univ fun k => X.srcP V (some k) c)
    ∗ (X.oldP V c c ∗ bigSep Finset.univ fun k => X.oldP V (X.peer k c) c))

/-- Passing to the peer permutes the devices. -/
def flip (k : Fin X.K) : Dev nD ≃ Dev nD := ⟨X.peer k, X.peer k, X.peer_peer k, X.peer_peer k⟩

theorem deal (Φ : Fin X.K → Dev nD → sProp 𝕄) :
    bigSep Finset.univ (fun c => bigSep Finset.univ fun k => Φ k c)
      = bigSep Finset.univ (fun c => bigSep Finset.univ fun k => Φ k (X.peer k c)) := by
  rw [BI.bigSep_univ_comm, BI.bigSep_univ_comm (fun c k => Φ k (X.peer k c))]
  exact bigSep_congr fun k _ => BI.bigSep_univ_equiv (X.flip k) (Φ k)

theorem by_device (Φ : Dev nD × X.Sems → sProp 𝕄) :
    bigSep Finset.univ Φ = bigSep Finset.univ (fun c => iprop(bigSep Finset.univ (fun k => Φ (c, .inl k))
      ∗ bigSep Finset.univ (fun k => Φ (c, .inr (.inl k))) ∗ Φ (c, .inr (.inr ())))) := by
  rw [BI.bigSep_univ_prod]
  refine bigSep_congr fun c _ => ?_
  rw [BI.bigSep_univ_sum, BI.bigSep_univ_sum, show (Finset.univ : Finset Unit) = {()} from rfl, BI.bigSep_singleton]
  rfl

theorem owed_eq : X.owed (τ := τ) = fun c => ∑ k, tallyAt (((X.peer k c).tc : Thread nD τ), SemLoc.dma (X.recvS k)) () X.bytes :=
  funext fun c => (Fin.sum_univ_def _).symm

theorem credits (c : Dev nD) :
    (launchCred (X.owed (τ := τ)) c : sProp 𝕄) ⊢ bigSep Finset.univ (fun k => cred (tallyAt (X.recvC k c) () X.bytes)) := by
  rw [owed_eq, launchCred_sum]
  exact bigSep_mono fun k _ => launchCred_tallyAt (SemLoc.dma (X.recvS k)) (X.peer k) (X.peer k) (X.peer_peer k) (X.peer_peer k) () X.bytes c

theorem records_make [ER.LandsIn (upEmb : UEmb _ 𝕄)] :
    iprop(bigSep Finset.univ (fun x => semVal (X.cell x) 0) ∗ bigSep Finset.univ (fun x => roundState ER (X.sched V) (X.cell x) 0)
        ∗ bigSep Finset.univ (fun x => reached ER (X.cell x) 0))
      ⊢ (|={Set.univ}=> ∃ κ, X.records V ER κ : sProp 𝕄) := by
  iintro ⟨Hv, Hst, Hr⟩
  imod (show iprop(bigSep Finset.univ (fun x => semVal (X.cell x) 0) ∗ bigSep Finset.univ (fun x => roundState ER (X.sched V) (X.cell x) 0))
      ⊢ (|={Set.univ}=> bigSep Finset.univ fun x => iprop(∃ κ : Name, cellInv ER (X.sched V) κ (X.cell x)) : sProp 𝕄) from by
        rw [← bigSep_sep']
        exact (bigSep_mono fun x _ => (Rounds.body_intro ER (X.sched V) (X.cell x)).trans inv_alloc).trans (bigSep_fupd _ _)) $$ [Hv Hst] with Hinv
  · isplitl [Hv] <;> iassumption
  imodintro
  ihave H := (BI.bigSep_exists_pi Finset.univ (fun x (κ : Name) => cellInv ER (X.sched V) κ (X.cell x))) $$ Hinv
  icases H with ⟨%κ, H⟩
  iexists κ
  unfold records
  rw [bigSep_sep']
  isplitl [H] <;> iassumption

theorem start_all [ER.LandsIn (upEmb : UEmb _ 𝕄)] :
    iprop(bigSep Finset.univ (fun c => iprop(ownSems0 X.osem c ∗ X.lent V c ∗ launchCred (X.owed (τ := τ)) c)) ∗ X.fresh V ER)
      ⊢ (|={Set.univ}=> bigSep Finset.univ (X.start V ER) : sProp 𝕄) := by
  unfold fresh lent
  simp only [bigSep_sep']
  iintro ⟨⟨Hv, ⟨⟨Hs0, Hs⟩, Ho0, Ho⟩, Hcr⟩, Hst, Hr, Hat, Htok⟩
  ihave Hv' := (Entails.of_eq (show bigSep Finset.univ (fun c : Dev nD => (ownSems0 X.osem c : sProp 𝕄))
      = bigSep Finset.univ (fun x => semVal (X.cell x) 0) from (BI.bigSep_univ_prod (fun x : Dev nD × X.Sems => (semVal (X.cell x) 0 : sProp 𝕄))).symm)) $$ Hv
  imod (X.records_make V ER) $$ [Hv' Hst Hr] with Hrec
  · isplitl [Hv']; · iexact Hv'
    isplitl [Hst] <;> iassumption
  imodintro
  icases Hrec with ⟨%κ, #Hrec⟩
  ihave Hat' := (Entails.of_eq (X.by_device (fun x => atPos ER (X.cell x) 0 ∅ 0))) $$ Hat
  ihave Htok' := (Entails.of_eq (X.by_device (fun x => dutyTok ER (X.cell x) 0 ()))) $$ Htok
  simp only [bigSep_sep']
  icases Hat' with ⟨Ha1, Ha2, Ha3⟩
  icases Htok' with ⟨Ht1, Ht2, Ht3⟩
  ihave Ht2' := (Entails.of_eq (X.deal (fun k c => dutyTok ER (X.recvC k c) 0 ()))) $$ Ht2
  ihave Ho' := (Entails.of_eq ((X.deal (fun k c => X.oldP V (X.peer k c) c)).trans
    (bigSep_congr fun c _ => bigSep_congr fun k _ => by rw [X.peer_peer]))) $$ Ho
  ihave Hcr' := (show (bigSep Finset.univ (launchCred (X.owed (τ := τ))) : sProp 𝕄)
      ⊢ bigSep Finset.univ (fun c => bigSep Finset.univ (fun k => cred (tallyAt (X.recvC k c) () X.bytes))) from bigSep_mono fun c _ => X.credits c) $$ Hcr
  unfold start sendRes
  simp only [bigSep_sep']
  isplitr; · iapply (BI.bigSep_intro_persistent (R := X.records V ER κ) fun c _ => by iintro #H; iexists κ; iexact H); iexact Hrec
  isplitl [Hs0]; · iexact Hs0
  isplitl [Ho0]; · iexact Ho0
  isplitl [Ht3]; · iexact Ht3
  isplitl [Ha3]; · iexact Ha3
  isplitl [Hs Ho' Ht1 Ht2']
  · isplitl [Hs]; · iexact Hs
    isplitl [Ho']; · iexact Ho'
    isplitl [Ht1] <;> iassumption
  isplitl [Hcr']; · iexact Hcr'
  isplitl [Ha1] <;> iassumption

/-- What device `c` holds of its own buffers when the exchange is over. -/
def returned (c : Dev nD) : sProp 𝕄 :=
  iprop((X.srcP V none c ∗ bigSep Finset.univ fun k => X.srcP V (some k) c)
    ∗ (X.newP V c c ∗ bigSep Finset.univ fun k => X.newP V (X.peer k c) c))

theorem ownSems0_eq (c : Dev nD) : (ownSems0 X.osem c : sProp 𝕄)
    = iprop(bigSep Finset.univ (fun k => semVal (X.sendC k c) 0) ∗ bigSep Finset.univ (fun k => semVal (X.recvC k c) 0) ∗ semVal (X.localC c) 0) := by
  unfold ownSems0
  rw [BI.bigSep_univ_sum, BI.bigSep_univ_sum, show (Finset.univ : Finset Unit) = {()} from rfl, BI.bigSep_singleton]
  rfl

theorem finish_eq (c : Dev nD) : (X.finish V c : sProp 𝕄) ⊢ iprop(X.returned V c ∗ ownSems0 X.osem c) := by
  rw [ownSems0_eq]
  unfold finish returned waited
  simp only [bigSep_sep']
  iintro ⟨⟨Hn, Hs⟩, Hz, Hs', Hn', Hz1, Hz2⟩
  isplitl [Hn Hs Hs' Hn']
  · isplitl [Hs Hs']
    · isplitl [Hs] <;> iassumption
    · isplitl [Hn] <;> iassumption
  isplitl [Hz1]; · iexact Hz1
  isplitl [Hz2]; · iexact Hz2
  iexact Hz

end Xch

end Cert.Exchange
-- ==== Proof.Slots.lean ====
/-
Exchanges whose slots are the panels of a stack.

The source is a stack of `n'` panels and the result one of `n`, each panel `R` by `C`. A device writes panel `place c` of
the results, its own and its peers'; what it sends to a device `p` is panel `pick p` of its source. So panel `j` of the
result of `p` is panel `pick p` of the source of the device `sender p j`.
-/
module

public import proofs.«01_k».proof.Proof.ExchangeLaunch
public import Idealize.ShloMosaic.Lib.Ring.Tabled

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

/-! ## One panel of a stack -/

abbrev Stack (n R C : ℕ) : Shape := ⟨3, ![n, R, C]⟩
abbrev Panel (R C : ℕ) : Shape := ⟨2, ![R, C]⟩

theorem off_congr {x y : ℕ} (h : x = y) : ![x, 0, 0] = ![y, 0, 0] := by rw [h]

/-- An element of a stack: the panel and the place in it. -/
def inPanel {n R C : ℕ} (j : Fin n) (y : (Panel R C).Idx) : (Stack n R C).Idx := Fin.cons j y

/-- Its panel. -/
def panelOf {n R C : ℕ} (z : (Stack n R C).Idx) : Fin n := z 0

/-- And the place in it. -/
def restOf {n R C : ℕ} (z : (Stack n R C).Idx) : (Panel R C).Idx := Fin.tail z

theorem inPanel_surj {n R C : ℕ} (z : (Stack n R C).Idx) : z = inPanel (panelOf z) (restOf z) := (Fin.cons_self_tail z).symm

section Panels

variable {sig : RefSig} {n R C : ℕ} {e : EltTy} (M : Memref sig .tc .hbm (Stack n R C) e)

/-- The panel of a stack that a kernel names by its offset. -/
abbrev panel (off : Fin 3 → ℕ) (inb : ∀ a, off a + (Stack 1 R C).size a ≤ (Stack n R C).size a) (sq : (Stack 1 R C).Squeezes (Panel R C)) :
    Memref sig .tc .hbm (Panel R C) e :=
  (M.slice (Rect.unit (s := Stack n R C) off (Stack 1 R C).size inb) (fun _ => rfl)).squeeze (Panel R C) sq

variable (off : Fin 3 → ℕ) (inb : ∀ a, off a + (Stack 1 R C).size a ≤ (Stack n R C).size a) (sq : (Stack 1 R C).Squeezes (Panel R C))

theorem panel_emb (j : Fin n) (h : off = ![j.val, 0, 0]) (y : (Panel R C).Idx) : (panel M off inb sq).view.emb y = M.view.emb (inPanel j y) := by
  have h1 : (panel M off inb sq).view.emb y
      = M.view.emb ((Rect.unit (s := Stack n R C) off (Stack 1 R C).size inb).emb (Shape.reshapeEquiv sq.numel_eq y)) := rfl
  rw [h1, Shape.reshapeEquiv_cons_one]
  subst h
  congr 1
  funext a
  apply Fin.ext
  rw [Rect.emb_apply]
  match a with
  | ⟨0, _⟩ => show j.val + 1 * 0 = j.val; omega
  | ⟨1, _⟩ => show 0 + 1 * (y 0).val = (y 0).val; omega
  | ⟨2, _⟩ => show 0 + 1 * (y 1).val = (y 1).val; omega

theorem panel_read {Val : EltTy → Type} (j : Fin n) (h : off = ![j.val, 0, 0]) (f : M.view.ty.Contents Val) (y : (Panel R C).Idx) :
    (panel M off inb sq).view.read Val f y = M.view.read Val f (inPanel j y) := by
  have h1 : (panel M off inb sq).view.read Val f y
      = M.view.read Val f ((Rect.unit (s := Stack n R C) off (Stack 1 R C).size inb).emb (Shape.reshapeEquiv sq.numel_eq y)) := rfl
  rw [h1, Shape.reshapeEquiv_cons_one]
  subst h
  congr 1
  funext a
  apply Fin.ext
  rw [Rect.emb_apply]
  match a with
  | ⟨0, _⟩ => show j.val + 1 * 0 = j.val; omega
  | ⟨1, _⟩ => show 0 + 1 * (y 0).val = (y 0).val; omega
  | ⟨2, _⟩ => show 0 + 1 * (y 1).val = (y 1).val; omega

/-- The elements of panel `j`. -/
def panelSet (j : Fin n) : Finset M.view.ty.Idx := (Finset.univ.filter fun z : (Stack n R C).Idx => panelOf z = j).map M.view.emb

theorem panel_set (j : Fin n) (h : off = ![j.val, 0, 0]) : (panel M off inb sq).view.set = panelSet M j := by
  ext i
  unfold panelSet
  constructor
  · intro hi
    obtain ⟨y, -, rfl⟩ := Finset.mem_map.mp hi
    rw [panel_emb M off inb sq j h]
    exact Finset.mem_map.mpr ⟨inPanel j y, Finset.mem_filter.mpr ⟨Finset.mem_univ _, rfl⟩, rfl⟩
  · intro hi
    obtain ⟨z, hz, rfl⟩ := Finset.mem_map.mp hi
    have hz0 : panelOf z = j := (Finset.mem_filter.mp hz).2
    refine Finset.mem_map.mpr ⟨restOf z, Finset.mem_univ _, ?_⟩
    rw [panel_emb M off inb sq j h, ← hz0]
    exact congrArg _ (inPanel_surj z).symm

theorem panelSet_disjoint {j j' : Fin n} (h : j ≠ j') : Disjoint (panelSet M j) (panelSet M j') := by
  rw [Finset.disjoint_left]
  intro i hi hi'
  obtain ⟨z, hz, rfl⟩ := Finset.mem_map.mp hi
  obtain ⟨z', hz', he⟩ := Finset.mem_map.mp hi'
  have : z' = z := M.view.emb.injective he
  subst this
  exact h ((Finset.mem_filter.mp hz).2.symm.trans (Finset.mem_filter.mp hz').2)

theorem panelSet_cover : M.view.set = Finset.univ.biUnion (panelSet M) := by
  ext i
  constructor
  · intro hi
    obtain ⟨z, -, rfl⟩ := Finset.mem_map.mp hi
    exact Finset.mem_biUnion.mpr ⟨panelOf z, Finset.mem_univ _, Finset.mem_map.mpr ⟨z, Finset.mem_filter.mpr ⟨Finset.mem_univ _, rfl⟩, rfl⟩⟩
  · intro hi
    obtain ⟨j, -, hj⟩ := Finset.mem_biUnion.mp hi
    obtain ⟨z, -, rfl⟩ := Finset.mem_map.mp hj
    exact Finset.mem_map.mpr ⟨z, Finset.mem_univ _, rfl⟩

theorem panelSet_only [Subsingleton (Fin n)] (j : Fin n) : panelSet M j = M.view.set := by
  unfold panelSet View.set
  congr 1
  ext z
  simp only [Finset.mem_filter, Finset.mem_univ, true_and, iff_true]
  exact Subsingleton.elim _ _

end Panels

section Own

variable {nD : ℕ} {τ : Topo} {sig : RefSig} {Val : EltTy → Type} {Name : Type} [DecidableEq Name] {U : Type} [URA U]

local notation "𝕄" => MT nD τ sig Unit Val Name U ℕ

/-- A family over the own panel and the peers'. -/
theorem bigSep_option {K : ℕ} (Φ : Option (Fin K) → sProp 𝕄) : bigSep Finset.univ Φ = iprop(Φ none ∗ bigSep Finset.univ fun k => Φ (some k)) := by
  rw [BI.bigSep_univ_equiv (Equiv.optionEquivSumPUnit (Fin K) : Option (Fin K) ≃ Fin K ⊕ PUnit.{1}).symm Φ, BI.bigSep_univ_sum, Finset.univ_unique (α := PUnit.{1}), BI.bigSep_singleton]
  exact BI.equiv_iff.mp ⟨BI.sep_comm, BI.sep_comm⟩

variable {n R C K : ℕ} {e : EltTy} (M : Memref sig .tc .hbm (Stack n R C) e)

/-- A stack is its panels. -/
theorem panels_split (c : Dev nD) (q : PosShare TreeShare) (f : Buf Val (M.view.loc (c.tc : Thread nD τ)))
    (σ : Option (Fin K) → Fin n) (hσ : Function.Bijective σ) :
    (M.view.loc (c.tc : Thread nD τ) ↦[M.view.set]{q} f : sProp 𝕄)
      = iprop((M.view.loc (c.tc : Thread nD τ) ↦[panelSet M (σ none)]{q} f)
          ∗ bigSep Finset.univ fun k => (M.view.loc (c.tc : Thread nD τ) ↦[panelSet M (σ (some k))]{q} f)) := by
  have h1 := BI.bigSep_univ_equiv (Equiv.ofBijective σ hσ) fun j => (M.view.loc (c.tc : Thread nD τ) ↦[panelSet M j]{q} f : sProp 𝕄)
  have h2 : (M.view.loc (c.tc : Thread nD τ) ↦[Finset.univ.biUnion (panelSet M)]{q} f : sProp 𝕄) = _ :=
    pointsTo_biUnion (ℓ := M.view.loc (c.tc : Thread nD τ)) Finset.univ (panelSet M) fun j _ j' _ h => panelSet_disjoint M h
  rw [panelSet_cover M, ← bigSep_option fun o => (M.view.loc (c.tc : Thread nD τ) ↦[panelSet M (σ o)]{q} f : sProp 𝕄), h2, h1]
  rfl

/-- The share of its source that each copy reads at when all read the same. -/
@[irreducible] def part (K : ℕ) (o : Option (Fin K)) : PosShare TreeShare := Ring.sharesN (K + 1) fullShare ((finSuccEquiv K).symm o)

theorem shares_split {ℓ : Loc nD τ sig} (I : Finset (Idx ℓ)) (f : Buf Val ℓ) :
    (ℓ ↦[I]{fullShare} f : sProp 𝕄) = iprop((ℓ ↦[I]{part K none} f) ∗ bigSep Finset.univ fun k => (ℓ ↦[I]{part K (some k)} f)) := by
  rw [← bigSep_option fun o => (ℓ ↦[I]{part K o} f : sProp 𝕄)]
  unfold part
  rw [← BI.bigSep_univ_equiv (finSuccEquiv K).symm fun s => (ℓ ↦[I]{Ring.sharesN (K + 1) fullShare s} f : sProp 𝕄),
    bigSep_univ_eq_bigSepL (List.finRange (K + 1)) (by ext k; simp) (List.nodup_finRange _)]
  exact BI.equiv_iff.mp ⟨(Ring.pointsTo_nths f K fullShare).1, (Ring.pointsTo_nths f K fullShare).2⟩

end Own

/-! ## The exchange of panels -/

/-- An exchange of panels, as a kernel names them. -/
structure Slots (nD : ℕ) (sig : RefSig) where
  (K n' n R C : ℕ)
  elt : EltTy
  S : Memref sig .tc .hbm (Stack n' R C) elt
  D : Memref sig .tc .hbm (Stack n R C) elt
  soff : Option (Fin K) → Dev nD → Fin 3 → ℕ
  sinb : ∀ o c a, soff o c a + (Stack 1 R C).size a ≤ (Stack n' R C).size a
  doff : Dev nD → Fin 3 → ℕ
  dinb : ∀ c a, doff c a + (Stack 1 R C).size a ≤ (Stack n R C).size a
  sq : (Stack 1 R C).Squeezes (Panel R C)
  src_exact : ∀ o c, (panel S (soff o c) (sinb o c) sq).view.WordExact
  dst_exact : ∀ c, (panel D (doff c) (dinb c) sq).view.WordExact
  dst_scr : D.view.ref.isScScratch = false
  sendS : Fin K → DmaSem sig
  recvS : Fin K → DmaSem sig
  localS : DmaSem sig
  peer : Fin K → Dev nD → Dev nD
  peer_peer : ∀ k c, peer k (peer k c) = c
  bytes : ℕ
  bytes_pos : 0 < bytes
  src_credit : ∀ o c, (panel S (soff o c) (sinb o c) sq).view.dmaCredit = bytes
  dst_credit : ∀ c, (panel D (doff c) (dinb c) sq).view.dmaCredit = bytes
  place : Dev nD → Fin n
  pick : Dev nD → Fin n'
  sender : Dev nD → Fin n → Dev nD
  doff_eq : ∀ c, doff c = ![(place c).val, 0, 0]
  soff_none : ∀ c, soff none c = ![(pick c).val, 0, 0]
  soff_some : ∀ k c, soff (some k) c = ![(pick (peer k c)).val, 0, 0]
  sender_own : ∀ c, sender c (place c) = c
  sender_peer : ∀ k c, sender (peer k c) (place c) = c
  places : ∀ c, Function.Bijective fun o : Option (Fin K) => o.elim (place c) fun k => place (peer k c)

namespace Slots

variable {nD : ℕ} {τ : Topo} {sig : RefSig} (Y : Slots nD sig)

def toXch : Xch nD sig where
  K := Y.K
  shp := Panel Y.R Y.C
  elt := Y.elt
  src o c := panel Y.S (Y.soff o c) (Y.sinb o c) Y.sq
  dst c := panel Y.D (Y.doff c) (Y.dinb c) Y.sq
  src_exact := Y.src_exact
  dst_exact := Y.dst_exact
  dst_scr _ := Y.dst_scr
  sendS := Y.sendS
  recvS := Y.recvS
  localS := Y.localS
  peer := Y.peer
  peer_peer := Y.peer_peer
  bytes := Y.bytes
  bytes_pos := Y.bytes_pos
  src_credit := Y.src_credit
  dst_credit := Y.dst_credit

variable {Val : EltTy → Type} {Name : Type} [DecidableEq Name] [Infinite Name] {U : Type} [URA U]

local notation "𝕄" => MT nD τ sig Unit Val Name U ℕ

/-- That `out` is what the exchange leaves of the sources `A`. -/
def Leaves (A : (c : Dev nD) → Buf Val (Y.S.view.loc (c.tc : Thread nD τ))) (out : (c : Dev nD) → Buf Val (Y.D.view.loc (c.tc : Thread nD τ))) : Prop :=
  ∀ p j y, Y.D.view.read Val (out p) (inPanel j y) = Y.S.view.read Val (A (Y.sender p j)) (inPanel (Y.pick p) y)

/-- The contents of the slots, over sources `A` and results that hold `B` before and `out` afterwards. -/
def contents (q : Option (Fin Y.K) → PosShare TreeShare) (A : (c : Dev nD) → Buf Val (Y.S.view.loc (c.tc : Thread nD τ)))
    (B out : (c : Dev nD) → Buf Val (Y.D.view.loc (c.tc : Thread nD τ))) (h : Y.Leaves A out) : Y.toXch.Contents τ Val where
  q := q
  fs _ c := A c
  f₀ _ p := B p
  out _ p := out p
  out_own c := funext fun (y : (Panel Y.R Y.C).Idx) => by
    refine (panel_read Y.D _ _ Y.sq (Y.place c) (Y.doff_eq c) (out c) y).trans ?_
    refine Eq.trans ?_ (panel_read Y.S _ _ Y.sq (Y.pick c) (Y.soff_none c) (A c) y).symm
    have e := h c (Y.place c) y
    rw [Y.sender_own] at e
    exact e
  out_peer := fun (k : Fin Y.K) c => funext fun (y : (Panel Y.R Y.C).Idx) => by
    refine (panel_read Y.D _ _ Y.sq (Y.place c) (Y.doff_eq c) (out (Y.peer k c)) y).trans ?_
    refine Eq.trans ?_ (panel_read Y.S _ _ Y.sq (Y.pick (Y.peer k c)) (Y.soff_some k c) (A c) y).symm
    have e := h (Y.peer k c) (Y.place c) y
    rw [Y.sender_peer] at e
    exact e

theorem dst_set (c : Dev nD) : (Y.toXch.dst c).view.set = panelSet Y.D (Y.place c) := panel_set Y.D _ _ Y.sq (Y.place c) (Y.doff_eq c)
theorem src_set_none (c : Dev nD) : (Y.toXch.src none c).view.set = panelSet Y.S (Y.pick c) := panel_set Y.S _ _ Y.sq (Y.pick c) (Y.soff_none c)
theorem src_set_some (k : Fin Y.K) (c : Dev nD) : (Y.toXch.src (some k) c).view.set = panelSet Y.S (Y.pick (Y.peer k c)) :=
  panel_set Y.S _ _ Y.sq (Y.pick (Y.peer k c)) (Y.soff_some k c)

/-- Two things that hold the same elements of a buffer. -/
theorem same_set {ℓ : Loc nD τ sig} {I J : Finset (Idx ℓ)} (h : I = J) (q : PosShare TreeShare) (f : Buf Val ℓ) :
    (ℓ ↦[J]{q} f : sProp 𝕄) = (ℓ ↦[I]{q} f) := by rw [h]

/-- One thing and a family, piece by piece. -/
theorem pieces {K : ℕ} {P P' : sProp 𝕄} {Φ Ψ : Fin K → sProp 𝕄} (h₁ : P = P') (h₂ : ∀ k, Φ k = Ψ k) :
    iprop(P ∗ bigSep Finset.univ Φ) = iprop(P' ∗ bigSep Finset.univ Ψ) := by rw [h₁, funext h₂]

variable (q : Option (Fin Y.K) → PosShare TreeShare) (A : (c : Dev nD) → Buf Val (Y.S.view.loc (c.tc : Thread nD τ)))
  (B out : (c : Dev nD) → Buf Val (Y.D.view.loc (c.tc : Thread nD τ))) (h : Y.Leaves A out)

/-- The result of a device, whole, is the panels that it and its peers write: before, -/
theorem old_split (c : Dev nD) : (Y.D.view.loc (c.tc : Thread nD τ) ↦[Y.D.view.set]{fullShare} B c : sProp 𝕄)
    = iprop(Y.toXch.oldP (Y.contents q A B out h) c c
        ∗ bigSep (Finset.univ : Finset (Fin Y.K)) fun k => Y.toXch.oldP (Y.contents q A B out h) (Y.peer k c) c) :=
  (panels_split Y.D c fullShare (B c) _ (Y.places c)).trans (pieces (same_set (Y.dst_set c) _ _) fun k => same_set (Y.dst_set (Y.peer k c)) _ _)

/-- and after the exchange. -/
theorem new_split (c : Dev nD) : (Y.D.view.loc (c.tc : Thread nD τ) ↦[Y.D.view.set]{fullShare} out c : sProp 𝕄)
    = iprop(Y.toXch.newP (Y.contents q A B out h) c c
        ∗ bigSep (Finset.univ : Finset (Fin Y.K)) fun k => Y.toXch.newP (Y.contents q A B out h) (Y.peer k c) c) :=
  (panels_split Y.D c fullShare (out c) _ (Y.places c)).trans (pieces (same_set (Y.dst_set c) _ _) fun k => same_set (Y.dst_set (Y.peer k c)) _ _)

/-- A source whose panels go to different devices. -/
theorem src_panels (hp : ∀ c, Function.Bijective fun o : Option (Fin Y.K) => o.elim (Y.pick c) fun k => Y.pick (Y.peer k c)) (c : Dev nD) :
    (Y.S.view.loc (c.tc : Thread nD τ) ↦[Y.S.view.set]{fullShare} A c : sProp 𝕄)
      = iprop(Y.toXch.srcP (Y.contents (fun _ => fullShare) A B out h) none c
          ∗ bigSep (Finset.univ : Finset (Fin Y.K)) fun k => Y.toXch.srcP (Y.contents (fun _ => fullShare) A B out h) (some k) c) :=
  (panels_split Y.S c fullShare (A c) _ (hp c)).trans (pieces (same_set (Y.src_set_none c) _ _) fun k => same_set (Y.src_set_some k c) _ _)

/-- A source of one panel, read by every copy at its share of it. -/
theorem src_one (hn : Y.n' = 1) (c : Dev nD) :
    iprop((Y.S.view.loc (c.tc : Thread nD τ) ↦[Y.S.view.set]{q none} A c)
        ∗ bigSep (Finset.univ : Finset (Fin Y.K)) fun k => (Y.S.view.loc (c.tc : Thread nD τ) ↦[Y.S.view.set]{q (some k)} A c : sProp 𝕄))
      = iprop(Y.toXch.srcP (Y.contents q A B out h) none c
          ∗ bigSep (Finset.univ : Finset (Fin Y.K)) fun k => Y.toXch.srcP (Y.contents q A B out h) (some k) c) := by
  haveI : Subsingleton (Fin Y.n') := hn ▸ Fin.subsingleton_one
  exact pieces (same_set ((Y.src_set_none c).trans (panelSet_only Y.S (Y.pick c))) _ _)
    fun k => same_set ((Y.src_set_some k c).trans (panelSet_only Y.S (Y.pick (Y.peer k c)))) _ _

/-- A source of one panel, which goes to all. -/
theorem src_shared (hn : Y.n' = 1) (c : Dev nD) :
    (Y.S.view.loc (c.tc : Thread nD τ) ↦[Y.S.view.set]{fullShare} A c : sProp 𝕄)
      = iprop(Y.toXch.srcP (Y.contents (part Y.K) A B out h) none c
          ∗ bigSep (Finset.univ : Finset (Fin Y.K)) fun k => Y.toXch.srcP (Y.contents (part Y.K) A B out h) (some k) c) :=
  (shares_split (ℓ := Y.S.view.loc (c.tc : Thread nD τ)) (K := Y.K) Y.S.view.set (A c)).trans (Y.src_one (part Y.K) A B out h hn c)

end Slots

end Cert.Exchange
-- ==== Proof.Refs.lean ====
/-
What the references read of the whole arrays: the panels that the chips, or the cores of a chip, or the devices hold.
-/
module

public import proofs.«01_k».proof.Proof.Slots
public import Idealize.ShloMosaic.Lib.Pipeline.ValueKit
public import Idealize.ShloMosaic.Lib.Layout

@[expose] public section

noncomputable section

namespace Cert.Exchange

open Idealize.ShloMosaic

variable {α : Type} {n N k R C M : ℕ}

/-- A device's block of a stack, panel by panel. -/
theorem block_panel (h : Layout.Tiles (Stack n R C) (Stack N R C) 0 k) (c : Fin k) (v : (Stack N R C).Idx → α) (j : Fin n) (J : Fin N)
    (hJ : J.val = c.val * n + j.val) (y : (Panel R C).Idx) : Layout.block (Stack n R C) (Stack N R C) 0 k c v h (inPanel j y) = v (inPanel J y) := by
  rw [Layout.block_apply]
  congr 1
  funext b
  apply Fin.ext
  rw [Layout.Tiles.idx_val]
  match b with
  | 0 => exact hJ.symm
  | 1 => rfl
  | 2 => rfl

/-- A chip's block of a stack of four panels. -/
theorem chip_panel {kN : Fin 3 → ℕ} (p : (b : Fin 3) → Fin (kN b)) (h : Layout.TilesN (Stack 1 R C) (Stack 4 R C) kN) (J : Fin 4)
    (h0 : (p 0).val = J.val) (h1 : (p 1).val = 0) (h2 : (p 2).val = 0) (v : (Stack 4 R C).Idx → α) (y : (Panel R C).Idx) :
    Layout.blockN (Stack 1 R C) (Stack 4 R C) p v h (inPanel 0 y) = v (inPanel J y) := by
  rw [Layout.blockN_apply]
  congr 1
  funext b
  apply Fin.ext
  rw [Layout.TilesN.idx_val]
  match b with
  | 0 => exact (show (p 0).val * 1 + 0 = J.val by omega)
  | 1 => exact (show (p 1).val * R + (y 0).val = (y 0).val by rw [h1]; omega)
  | 2 => exact (show (p 2).val * C + (y 1).val = (y 1).val by rw [h2]; omega)

/-- The panels of a stack one under the other. -/
theorem rows_apply (w : (Stack n R C).Idx → α) (h : (Stack n R C).ShapeCasts (Panel M C)) (i : (Panel M C).Idx) (p : Fin n) (y : (Panel R C).Idx)
    (h0 : (i 0).val = p.val * R + (y 0).val) (h1 : (i 1).val = (y 1).val) : shapeCast (Panel M C) w h i = w (inPanel p y) := by
  refine shapeCast_apply w h i _ ?_
  rw [Shape.rowMajor_val_three, Shape.rowMajor_val_two]
  show (p.val * R + (y 0).val) * C + (y 1).val = (i 0).val * C + (i 1).val
  rw [h0, h1]

/-- One panel taken out of a stack. -/
theorem taken (v : (Stack n R C).Idx → α) (j : Fin n) (hs : (Stack n R C).Slices ![j.val, 0, 0] (Stack 1 R C))
    (h : (Stack 1 R C).ShapeCasts (Panel R C)) (y : (Panel R C).Idx) :
    shapeCast (Panel R C) (extractStridedSlice (Stack 1 R C) ![j.val, 0, 0] v hs) h y = v (inPanel j y) := by
  refine (shapeCast_dropUnit_apply ![R, C] _ h y).trans (extractStridedSlice_apply _ _ _ _ _ fun a => ?_)
  match a with
  | ⟨0, _⟩ => rfl
  | ⟨1, _⟩ => exact (Nat.zero_add _).symm
  | ⟨2, _⟩ => exact (Nat.zero_add _).symm

/-! ## Chips and cores -/

/-- Panels under two numbers. -/
abbrev Paired (a b R C : ℕ) : Shape := ⟨4, ![a, b, R, C]⟩

def paired {a b : ℕ} (i : Fin a) (j : Fin b) (y : (Panel R C).Idx) : (Paired a b R C).Idx := fun
  | 0 => i
  | 1 => j
  | 2 => y 0
  | 3 => y 1

/-- Of every chip, the panel of core `b`. -/
theorem of_core (v : (Stack 8 R C).Idx → α) (b : Fin 2) (h : (Stack 8 R C).ShapeCasts (Paired 4 2 R C))
    (hs : (Paired 4 2 R C).Slices ![0, b.val, 0, 0] (Paired 4 1 R C)) (h' : (Paired 4 1 R C).ShapeCasts (Stack 4 R C))
    (p : Fin 4) (J : Fin 8) (hJ : J.val = 2 * p.val + b.val) (y : (Panel R C).Idx) :
    shapeCast (Stack 4 R C) (extractStridedSlice (Paired 4 1 R C) ![0, b.val, 0, 0] (shapeCast (Paired 4 2 R C) v h) hs) h' (inPanel p y)
      = v (inPanel J y) := by
  refine (shapeCast_apply _ h' _ (paired p 0 y) ?_).trans
    ((extractStridedSlice_apply _ _ hs _ (paired p b y) fun a => ?_).trans (shapeCast_apply v h _ _ ?_))
  · rw [Shape.rowMajor_val_three, Shape.rowMajor_val_four]
    show ((p.val * 1 + 0) * R + (y 0).val) * C + (y 1).val = (p.val * R + (y 0).val) * C + (y 1).val
    rw [Nat.mul_one, Nat.add_zero]
  · match a with
    | ⟨0, _⟩ => exact (Nat.zero_add _).symm
    | ⟨1, _⟩ => rfl
    | ⟨2, _⟩ => exact (Nat.zero_add _).symm
    | ⟨3, _⟩ => exact (Nat.zero_add _).symm
  · rw [Shape.rowMajor_val_three, Shape.rowMajor_val_four]
    show (J.val * R + (y 0).val) * C + (y 1).val = ((p.val * 2 + b.val) * R + (y 0).val) * C + (y 1).val
    rw [hJ, Nat.mul_comm 2]

/-- The panels by chip, core and slot. -/
abbrev Numbered (a R C : ℕ) : Shape := ⟨5, ![a, 2, 4, R, C]⟩

def numbered {a : ℕ} (i : Fin a) (b : Fin 2) (d : Fin 4) (y : (Panel R C).Idx) : (Numbered a R C).Idx := fun
  | 0 => i
  | 1 => b
  | 2 => d
  | 3 => y 0
  | 4 => y 1

/-- The panels of chip `k`. -/
theorem of_chip (v : (Stack 32 R C).Idx → α) (k : Fin 4) (h : (Stack 32 R C).ShapeCasts (Numbered 4 R C))
    (hs : (Numbered 4 R C).Slices ![k.val, 0, 0, 0, 0] (Numbered 1 R C)) (h' : (Numbered 1 R C).ShapeCasts (Paired 2 4 R C))
    (b : Fin 2) (d : Fin 4) (J : Fin 32) (hJ : J.val = 8 * k.val + 4 * b.val + d.val) (y : (Panel R C).Idx) :
    shapeCast (Paired 2 4 R C) (extractStridedSlice (Numbered 1 R C) ![k.val, 0, 0, 0, 0] (shapeCast (Numbered 4 R C) v h) hs) h' (paired b d y)
      = v (inPanel J y) := by
  refine (shapeCast_apply _ h' _ (numbered 0 b d y) ?_).trans
    ((extractStridedSlice_apply _ _ hs _ (numbered k b d y) fun a => ?_).trans (shapeCast_apply v h _ _ ?_))
  · rw [Shape.rowMajor_val_five, Shape.rowMajor_val_four]
    show ((((0 * 2 + b.val) * 4 + d.val) * R) + (y 0).val) * C + (y 1).val = ((b.val * 4 + d.val) * R + (y 0).val) * C + (y 1).val
    rw [Nat.zero_mul, Nat.zero_add]
  · match a with
    | ⟨0, _⟩ => rfl
    | ⟨1, _⟩ => exact (Nat.zero_add _).symm
    | ⟨2, _⟩ => exact (Nat.zero_add _).symm
    | ⟨3, _⟩ => exact (Nat.zero_add _).symm
    | ⟨4, _⟩ => exact (Nat.zero_add _).symm
  · rw [Shape.rowMajor_val_three, Shape.rowMajor_val_five]
    show (J.val * R + (y 0).val) * C + (y 1).val = ((((k.val * 2 + b.val) * 4 + d.val) * R) + (y 0).val) * C + (y 1).val
    rw [show J.val = (k.val * 2 + b.val) * 4 + d.val by omega]

/-- Slot first and core second, one under the other. -/
theorem slot_rows (w : (Paired 2 4 R C).Idx → α) (ht : (Paired 2 4 R C).Transposes [1, 0, 2, 3] (Paired 4 2 R C))
    (h : (Paired 4 2 R C).ShapeCasts (Panel M C)) (i : (Panel M C).Idx) (b : Fin 2) (d : Fin 4) (y : (Panel R C).Idx)
    (h0 : (i 0).val = (2 * d.val + b.val) * R + (y 0).val) (h1 : (i 1).val = (y 1).val) :
    shapeCast (Panel M C) (transpose (Paired 4 2 R C) [1, 0, 2, 3] w ht) h i = w (paired b d y) := by
  refine (shapeCast_apply _ h i (paired d b y) ?_).trans (transpose_apply _ _ ht _ _ fun a => ?_)
  · rw [Shape.rowMajor_val_four, Shape.rowMajor_val_two]
    show ((d.val * 2 + b.val) * R + (y 0).val) * C + (y 1).val = (i 0).val * C + (i 1).val
    rw [h0, h1, Nat.mul_comm 2]
  · match a with
    | ⟨0, _⟩ => rfl
    | ⟨1, _⟩ => rfl
    | ⟨2, _⟩ => rfl
    | ⟨3, _⟩ => rfl

end Cert.Exchange
-- ==== Proof.Start.lean ====
/-
How a program whose devices exchange data in the very first call of @main is launched and how that call is stepped.

The devices of such a program agree on the state of one protocol before any of them takes a step: the semaphores of
the call and the buffers it writes at other devices are shared. So `run_from_shared` hands over, for all devices at
once, everything a device holds at the start — its region boundary included, and with it the call's own semaphores
at zero — and lets one update turn the whole into one starting state a device. `wp_first_call` then steps the call
itself for a pipeline with no windowed array, entered from such a state.
-/
module

public import Idealize.ShloMosaic.Lib.Pipeline.Launch
public import Idealize.ShloMosaic.Lib.Pipeline.Regions
public import Idealize.ShloMosaic.Lib.Quiescent

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open PCS

set_option Elab.async false

variable {nD : Nat} {τ : Topo} {sig : RefSig} {Val : EltTy → Type}
variable {Name : Type} [DecidableEq Name] {U : Type} [URA U]
variable {Λ₀ : Labels} {P : Type} [Fintype P]

local notation "𝕄" => MT nD τ sig Unit Val Name U ℕ

variable (pcs : P → PCfg sig Λ₀ Val) (a : Dev nD → (p : P) → (pcs p).Adm)
  (phinj : Function.Injective (PerCore.cellOf (nD := nD) (τ := τ) (pinD pcs a)))
  (EP : Emb (URounds (GSem nD τ sig) Unit) (MT nD τ sig Unit Val Name U ℕ))
  (defs₀ : Defs nD τ sig Val Λ₀) (𝒱₀ : Variants)

local notation "𝔻" => Pipeline.defs pcs defs₀
local notation "𝕍" => Variants.lift 𝒱₀

/-- What the core of device `c` holds when the program starts on memory `m`, but for its level facts. -/
def atStart (m : (ℓ : Loc nD τ sig) → Buf Val ℓ) (g : Dev nD → PrngReg) (O₀ : Dev nD → CellTallies nD τ sig Unit) (c : Dev nD) : sProp 𝕄 :=
  iprop(boundary (c.tc : Thread nD τ) ∗ unscopedBufs c (fun b => m ((c.tc : Thread nD τ).loc b))
    ∗ owes (c.tc : Thread nD τ) (O₀ c) ∅ ∗ launchCred O₀ c)

/-- A program is launched from one update over all devices' holdings (`hinit`), its devices are run one by one
    (`hwp`), and what each leaves is read against the final memory (`hfin`). -/
theorem run_from_shared [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Sig Λ₀ P fun p => (pcs p).Adm) .tc) PUnit)
    (O₀ : Dev nD → CellTallies nD τ sig Unit) (u₀ : U) (G : sProp 𝕄)
    (hu₀ : (ownU u₀ : sProp 𝕄)
      ⊢ |={Set.univ}=> iprop(BI.own (EP (initOf (PerCore.cells (pinD pcs a) phinj) (PerCore.launchToks (pinD pcs a) phinj))) ∗ G))
    (T₀ Tₙ : Dev nD → sProp 𝕄)
    (hinit : iprop(bigSep Finset.univ (fun c : Dev nD => atStart m g O₀ c) ∗ G) ⊢ |={Set.univ}=> bigSep Finset.univ T₀)
    (hwp : ∀ c (Q : PUnit → sProp 𝕄),
      iprop((iprop(boundary (c.tc : Thread nD τ) ∗ Tₙ c ∗ ∃ W, owes (c.tc : Thread nD τ) (0 : CellTallies nD τ sig Unit) W) -∗ Q ⟨⟩)
          ∗ T₀ c ∗ PerCore.ghostOn pcs a EP Finset.univ c)
        ⊢ wp frame (wpE 𝔻 𝕍 (c.tc : Thread nD τ) none) Set.univ (main c) Q)
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  have hcores : (bigSep Finset.univ fun d : Dev nD =>
        coreInit (Ix := Unit) (Name := Name) (U := U) (Lvl := ℕ) (owing O₀) 0 (⟨m, fun _ => 0, g⟩ : MemSt nD τ sig Val) (d.tc : Thread nD τ))
      ⊢ bigSep Finset.univ fun c : Dev nD => (atStart m g O₀ c : sProp 𝕄) :=
    bigSep_mono fun c _ => (coreInit_boundary_owing O₀ m g c).trans (by
      unfold atStart
      iintro ⟨Hb, Hub, -, HL, -, -, Hcr⟩
      isplitl [Hb]; · iexact Hb
      isplitl [Hub]; · iexact Hub
      isplitl [HL] <;> iassumption)
  have hghost : iprop((bigSep Finset.univ fun c : Dev nD => bigSep Finset.univ fun p => PerCore.cellsGhost (pinD pcs a) EP p c)
        ∗ (bigSep Finset.univ fun c : Dev nD => bigSep Finset.univ fun p => (PerCore.toksInit (pinD pcs a) EP p c : sProp 𝕄)))
      ⊢ bigSep Finset.univ fun c : Dev nD => PerCore.ghostOn pcs a EP Finset.univ c := by
    unfold PerCore.ghostOn
    simp only [bigSep_sep']
    exact BI.Entails.refl _
  refine (θ_run 𝔻 _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ c => iprop(T₀ c ∗ PerCore.ghostOn pcs a EP Finset.univ c)) (fun _ c => iprop(Tₙ c ∗ boundary (c.tc : Thread nD τ)))
      (fun _ => iprop(emp)) Set.univ ?_ (fun _ c => ?_) fun _ => ?_))
  · iintro ⟨Hcores, Hu⟩
    ihave Hc := hcores $$ Hcores
    imod hu₀ $$ Hu with ⟨HP, HG⟩
    imod (PerCore.fund_ghost (pinD pcs a) EP phinj) $$ HP with ⟨Hg, Ht⟩
    imod hinit $$ [Hc HG] with HT
    · isplitl [Hc] <;> iassumption
    ihave Hgt := hghost $$ [Hg Ht]
    · isplitl [Hg] <;> iassumption
    imodintro
    iexists ()
    isplitl [HT Hgt]
    · rw [bigSep_sep']
      isplitl [HT] <;> iassumption
    · iempintro
  · refine BIBase.Entails.trans ?_ (hwp c _)
    iintro ⟨HT, Hg⟩
    isplitr [HT Hg]
    · iintro ⟨Hbd, HT, HW⟩
      unfold post; simp only [liftTc_tc]
      isplitr [HW]
      · isplitl [HT] <;> iassumption
      iexact HW
    · isplitl [HT] <;> iassumption
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

/-! ## The call itself -/

variable (pdats : (p : P) → (c : Dev nD) → Dat τ Val Unit Name U ℕ (pinD pcs a c p) c) (p : P)

section Call

variable {K : Type} [Fintype K] {osem : K → SemLoc sig} (ho : OwnSemFacts (pcs p).spec osem)

/-- The region boundary of device `c` without the call's own semaphores. -/
def besideOwn (c : Dev nD) : sProp 𝕄 :=
  iprop(scopedBufs (c.tc : Thread nD τ) ∗ PerCore.cellsSems0 (pinD pcs a) p c
    ∗ PerCore.idleSems0 (pinD pcs a) phinj p (fun _ => ho) c ∗ opIdle (c.tc : Thread nD τ))

theorem boundary_own (win : WinFacts₀ (pcs p).spec) (c : Dev nD) :
    (boundary (c.tc : Thread nD τ) : sProp 𝕄) ⊢ iprop(besideOwn pcs a phinj p ho c ∗ ownSems0 osem c) := by
  classical
  have hss := PerCore.scopedSems0_split (pinD pcs a) phinj p (fun _ => win) (fun _ => ho) (Ix := Unit) (Val := Val) (Name := Name) (U := U) (Lvl := ℕ) c
  unfold boundary besideOwn
  rw [hss]
  iintro ⟨Hsc, ⟨⟨Hcells, Hos⟩, Hidle⟩, Hop⟩
  isplitr [Hos]
  · isplitl [Hsc]; · iexact Hsc
    isplitl [Hcells]; · iexact Hcells
    isplitl [Hidle] <;> iassumption
  · iexact Hos

include phinj in
/-- The first call on device `c`, of a pipeline that stages no array: entered from the boundary without the call's own
    semaphores and what the body starts from, left at the boundary with what the body ends with. -/
theorem wp_first_call [∀ e, Nonempty (Val e)] [Infinite Name] [EP.LandsIn (upEmb : UEmb _ 𝕄)]
    (win : WinFacts₀ (pcs p).spec) (block_pos : ∀ w : Fin (pcs p).W, 0 < ((pcs p).spec w).block.numel)
    (stage_whole : ∀ (w : Fin (pcs p).W) (s : Fin ((pcs p).spec w).nbuf), (((pcs p).spec w).stage s).IsWhole)
    [IsEmpty (Fin (pcs p).W)] [IsEmpty (Fin (pcs p).pre.K)]
    (c : Dev nD) (hbody : BodyObligationLoose (pdats p c) defs₀ 𝒱₀ () Set.univ)
    (X Y : sProp 𝕄) (hin : iprop(X ∗ scopedRest (pcs p).spec c) ⊢ (pdats p c).Φ 0)
    (hout : (pdats p c).Φ (Fin.last (pinD pcs a c p).N) ⊢ iprop(Y ∗ ownSems0 osem c ∗ scopedRest (pcs p).spec c))
    {α : Type} (k : PUnit → Prog (TpuEff nD τ sig Val (Sig Λ₀ P fun p => (pcs p).Adm) .tc) α) (Q : α → sProp 𝕄) :
    iprop((iprop(boundary (c.tc : Thread nD τ) ∗ Y ∗ (pdats p c).owesAt () (Fin.last (pinD pcs a c p).N))
          -∗ wp frame (wpE 𝔻 𝕍 (c.tc : Thread nD τ) none) Set.univ (k ⟨⟩) Q)
        ∗ besideOwn pcs a phinj p ho c ∗ X ∗ (pdats p c).owesAt () 0
        ∗ PerCore.cellsGhost (pinD pcs a) EP p c ∗ PerCore.toksInit (pinD pcs a) EP p c)
      ⊢ wp frame (wpE 𝔻 𝕍 (c.tc : Thread nD τ) none) Set.univ (.op (.customCall (entry p) ()) k) Q := by
  classical
  have hss := PerCore.scopedSems0_split (pinD pcs a) phinj p (fun _ => win) (fun _ => ho) (Ix := Unit) (Val := Val) (Name := Name) (U := U) (Lvl := ℕ) c
  have hsb := PerCore.scopedBufs_split (pinD pcs a) p c win.stage_scoped win.stage_inj stage_whole (nD := nD) (τ := τ) (Ix := Unit) (Val := Val) (Name := Name) (U := U) (Lvl := ℕ)
  haveI : IsEmpty (Fin (pinD pcs a c p).W) := inferInstanceAs (IsEmpty (Fin (pcs p).W))
  have harr : (emp : sProp 𝕄) ⊢ (pdats p c).arrays ((pdats p c).arrAt · 0) := by
    unfold Dat.arrays; rw [Finset.univ_eq_empty, bigSep_empty]; exact .rfl
  have hpf : (emp : sProp 𝕄) ⊢ prefHeld (pcs p).pre c (fun _ => fullShare) (a c p).1 := by
    unfold prefHeld; rw [Finset.univ_eq_empty, bigSep_empty]; exact .rfl
  have hwt : (emp : sProp 𝕄) ⊢ PerCore.cellsWaits (pinD pcs a) pdats () p c := by
    unfold PerCore.cellsWaits PerCore.RDat.cellsWaits; rw [Finset.univ_eq_empty, bigSep_empty]; exact .rfl
  have hin' : iprop(X ∗ prefHeld (pcs p).pre c (fun _ => fullShare) (a c p).1 ∗ scopedRest (pcs p).spec c) ⊢ (pdats p c).Φ 0 := by
    refine BIBase.Entails.trans ?_ hin
    iintro ⟨HX, -, HR⟩
    isplitl [HX] <;> iassumption
  have hout' : iprop((pdats p c).Φ (Fin.last (pinD pcs a c p).N) ∗ PerCore.cellsSems0 (pinD pcs a) p c ∗ Dat.staging (pinD pcs a c p) c
        ∗ PerCore.idleSems0 (pinD pcs a) phinj p (fun _ => ho) c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitr [Hst Hrest]
    · isplitr [Hidle]; · isplitl [Hcells] <;> iassumption
      iexact Hidle
    isplitl [Hst] <;> iassumption
  unfold besideOwn
  iintro ⟨Hk, ⟨Hsc, Hcells, Hidle, Hop⟩, HX, HO, Hg, Ht⟩
  iapply (fupd_wp frame (wpE 𝔻 𝕍 (c.tc : Thread nD τ) none) Set.univ _ _)
  imod (PerCore.cellsInit_alloc (pinD pcs a) pdats EP phinj p c) $$ [Hcells Hg] with ⟨%κ, -, Hinit⟩
  · isplitl [Hcells] <;> iassumption
  imodintro
  iapply (PerCore.wp_customCall_entry_frame pcs a pdats () EP κ phinj p defs₀ 𝒱₀ (fun _ => fullShare) c Set.univ (fun _ _ => Set.mem_univ _)
      hbody block_pos none (fun u h => nomatch h) (X := X) (Y := Y) (R := scopedRest (pcs p).spec c)
      (I := PerCore.idleSems0 (pinD pcs a) phinj p (fun _ => ho) c) (Entails.of_eq hsb) hin' hout' (k := k) (Q := Q)) $$ [HO Hinit Ht HX Hidle Hsc]
  · isplitl [HO Hinit Ht]
    · unfold PerCore.EntryPre
      isplitr [HO Hinit Ht]; · iapply harr; iempintro
      isplitl [HO]; · iexact HO
      isplitr [Hinit Ht]; · iapply hwt; iempintro
      isplitl [Hinit] <;> iassumption
    isplitr [HX Hidle Hsc]; · iapply hpf; iempintro
    isplitl [HX]; · iexact HX
    isplitl [Hidle] <;> iassumption
  iintro ⟨Hpost, HY, Hss, Hsc⟩
  unfold PerCore.EntryPost
  icases Hpost with ⟨-, HO⟩
  iapply Hk
  isplitr [HY HO]
  · unfold boundary
    isplitl [Hsc]; · iexact Hsc
    isplitl [Hss] <;> iassumption
  isplitl [HY] <;> iassumption

end Call

end Cert.Exchange

end
-- ==== Proof.Run.lean ====
/-
A whole program whose first call is an exchange: the launch of Start.lean over the protocol of Exchange.lean.

What a program supplies (`run_exchange`): that its printed body is the exchange's program, the contents of the slots,
how a device's buffers split into what it lends (`lent`) and what it keeps, and the run of what follows the call.
-/
module

public import proofs.«01_k».proof.Proof.Start
public import proofs.«01_k».proof.Proof.ExchangeLaunch

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open PCS

set_option Elab.async false

variable {nD : Nat} {τ : Topo} {sig : RefSig} {Val : EltTy → Type}

/-- The ghost state: one component for the pipelines' own cells, one for the exchange. -/
abbrev UU (nD : ℕ) (τ : Topo) (sig : RefSig) : Type := URounds (GSem nD τ sig) Unit × URounds (GSem nD τ sig) Unit

local notation "𝕄" => MT nD τ sig Unit Val ℕ (UU nD τ sig) ℕ

abbrev EP : Emb (URounds (GSem nD τ sig) Unit) (MT nD τ sig Unit Val ℕ (UU nD τ sig) ℕ) := embL
abbrev ER : Emb (URounds (GSem nD τ sig) Unit) (MT nD τ sig Unit Val ℕ (UU nD τ sig) ℕ) := embR

variable {Λ₀ : Labels} {P : Type} [Fintype P] [DecidableEq P]
variable (pcs : P → PCfg sig Λ₀ Val) (a : Dev nD → (p : P) → (pcs p).Adm)
  (phinj : Function.Injective (PerCore.cellOf (nD := nD) (τ := τ) (pinD pcs a)))
  (defs₀ : Defs nD τ sig Val Λ₀) (𝒱₀ : Variants)

local notation "𝔻" => Pipeline.defs pcs defs₀
local notation "𝕍" => Variants.lift 𝒱₀

variable (X : Xch nD sig) (V : X.Contents τ Val) (p : P)

/-- The one pipeline of the exchange's call: no window, and the exchange's start and finish around its one point, beside
    the buffers of the other calls. -/
def xdat [hW : IsEmpty (Fin (pcs p).W)] (c : Dev nD) : Dat τ Val Unit ℕ (UU nD τ sig) ℕ (pinD pcs a c p) c where
  A w := (hW.false w).elim
  after w := (hW.false w).elim
  Φ t := iprop((if t.val = 0 then X.start V ER c else X.finish V c) ∗ scopedRest (pcs p).spec c)
  q w := (hW.false w).elim
  owed t := if t.val = 0 then X.owed c else 0

variable [hW : IsEmpty (Fin (pcs p).W)] [IsEmpty (Fin (pcs p).pre.K)]

theorem xdat_Φ_start (c : Dev nD) (t : Fin ((pinD pcs a c p).N + 1)) (h : t.val = 0) : (xdat pcs a X V p c).Φ t = iprop(X.start V ER c ∗ scopedRest (pcs p).spec c) := by
  show iprop((if t.val = 0 then X.start V ER c else X.finish V c) ∗ scopedRest (pcs p).spec c) = _
  rw [if_pos h]
theorem xdat_owed_start (c : Dev nD) (t : Fin ((pinD pcs a c p).N + 1)) (h : t.val = 0) : (xdat pcs a X V p c).owed t = X.owed c := by
  show (if t.val = 0 then X.owed c else 0) = _
  rw [if_pos h]
theorem xdat_Φ_end (c : Dev nD) (t : Fin ((pinD pcs a c p).N + 1)) (h : t.val ≠ 0) : (xdat pcs a X V p c).Φ t = iprop(X.finish V c ∗ scopedRest (pcs p).spec c) := by
  show iprop((if t.val = 0 then X.start V ER c else X.finish V c) ∗ scopedRest (pcs p).spec c) = _
  rw [if_neg h]
theorem xdat_owed_end (c : Dev nD) (t : Fin ((pinD pcs a c p).N + 1)) (h : t.val ≠ 0) : (xdat pcs a X V p c).owed t = 0 := by
  show (if t.val = 0 then X.owed c else 0) = _
  rw [if_neg h]

/-- That the call's body is the exchange's program. -/
def IsBody : Prop := ∀ (c : Dev nD) (t : Fin (pinD pcs a c p).N) (Q : PUnit → sProp 𝕄),
  wp frame (wpE defs₀ 𝒱₀ (c.tc : Thread nD τ) none) Set.univ (X.prog c) Q
    ⊢ wp frame (wpE defs₀ 𝒱₀ (c.tc : Thread nD τ) none) Set.univ (defs₀ .tc (pinD pcs a c p).body ((pinD pcs a c p).bodyArgs t ((pinD pcs a c p).slots t))) fun _ => Q ⟨⟩

theorem xdat_body (hs : Function.Injective X.osem) (hN : ∀ c, (pinD pcs a c p).N = 1)
    (hb : IsBody (τ := τ) (Val := Val) pcs a defs₀ 𝒱₀ X p) (c : Dev nD) :
    BodyObligationLoose (xdat pcs a X V p c) defs₀ 𝒱₀ () Set.univ := fun t => by
  have ht : t.val = 0 := by have h1 := t.isLt; have h2 := hN c; omega
  haveI : IsEmpty (Fin (pinD pcs a c p).W) := hW
  rw [xdat_Φ_start pcs a X V p c t.castSucc ht, xdat_Φ_end pcs a X V p c t.succ (Nat.succ_ne_zero _), Finset.univ_eq_empty, bigSep_empty, bigSep_empty]
  unfold Dat.owesAt owesWithin
  rw [xdat_owed_start pcs a X V p c t.castSucc ht, xdat_owed_end pcs a X V p c t.succ (Nat.succ_ne_zero _)]
  refine BIBase.Entails.trans ?_ (hb c t fun _ => iprop((X.finish V c ∗ scopedRest (pcs p).spec c) ∗ (∃ W : Waits sig Unit, ⌜(W : Set (SemLoc sig × Unit)) ⊆ (xdat pcs a X V p c).bound () t.succ⌝ ∗ owes (c.tc : Thread nD τ) (0 : CellTallies nD τ sig Unit) W) ∗ BI.emp))
  iintro ⟨⟨Hs, Hr⟩, ⟨%W, -, HO⟩, -⟩
  iapply (X.wp_prog V hs ER defs₀ 𝒱₀ c)
  isplitl [Hs]; · iexact Hs
  isplitl [HO]; · iexists W; iexact HO
  iintro ⟨Hf, ⟨%W', HO⟩⟩
  isplitl [Hf Hr]
  · isplitl [Hf] <;> iassumption
  isplitl [HO]
  · iexists W'
    isplitr; · ipureintro; exact fun _ _ => Or.inl trivial
    iexact HO
  iapply (show (iprop(emp) : sProp 𝕄) ⊢ BI.emp from BI.Entails.refl _); iempintro

include phinj in
/-- A program that starts with the exchange. -/
theorem run_exchange [∀ e, Nonempty (Val e)]
    (ho : OwnSemFacts (pcs p).spec X.osem) (win : WinFacts₀ (pcs p).spec)
    (block_pos : ∀ w : Fin (pcs p).W, 0 < ((pcs p).spec w).block.numel)
    (stage_whole : ∀ (w : Fin (pcs p).W) (s : Fin ((pcs p).spec w).nbuf), (((pcs p).spec w).stage s).IsWhole)
    (hN : ∀ c, (pinD pcs a c p).N = 1) (hb : IsBody (τ := τ) (Val := Val) pcs a defs₀ 𝒱₀ X p)
    (pdats : (p : P) → (c : Dev nD) → Dat τ Val Unit ℕ (UU nD τ sig) ℕ (pinD pcs a c p) c) (hd : ∀ c, pdats p c = xdat pcs a X V p c)
    (m : (ℓ : Loc nD τ sig) → Buf Val ℓ) (g : Dev nD → PrngReg)
    (main : Dev nD → Prog (TpuEff nD τ sig Val (Sig Λ₀ P fun p => (pcs p).Adm) .tc) PUnit)
    (rest : Dev nD → PUnit → Prog (TpuEff nD τ sig Val (Sig Λ₀ P fun p => (pcs p).Adm) .tc) PUnit)
    (hmain : ∀ c, main c = .op (.customCall (entry p) ()) (rest c))
    (R Tₙ : Dev nD → sProp 𝕄)
    (hsplit : ∀ c : Dev nD, (unscopedBufs c (fun b => m ((c.tc : Thread nD τ).loc b)) : sProp 𝕄) ⊢ iprop(X.lent V c ∗ R c))
    (hrest : ∀ c (Q : PUnit → sProp 𝕄),
      iprop((iprop(boundary (c.tc : Thread nD τ) ∗ Tₙ c ∗ ∃ W, owes (c.tc : Thread nD τ) (0 : CellTallies nD τ sig Unit) W) -∗ Q ⟨⟩)
          ∗ boundary (c.tc : Thread nD τ) ∗ X.returned V c ∗ R c ∗ (∃ W, owes (c.tc : Thread nD τ) (0 : CellTallies nD τ sig Unit) W)
          ∗ PerCore.ghostOn pcs a EP (Finset.univ.erase p) c)
        ⊢ wp frame (wpE 𝔻 𝕍 (c.tc : Thread nD τ) none) Set.univ (rest c ⟨⟩) Q)
    (QY : Dev nD → MemSt nD τ sig Val → Prop)
    (hfin : ∀ c (s' : Phys nD τ sig Val), iprop(Tₙ c ∗ SI s') ⊢ |={Set.univ}=> iprop(⌜QY c s'.mem⌝ ∗ SI s'))
    {Q : PUnit × MemSt nD τ sig Val → Prop} (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  have hlast : ∀ c, (Fin.last (pinD pcs a c p).N).val ≠ 0 := fun c => by rw [Fin.val_last, hN c]; exact Nat.one_ne_zero
  refine run_from_shared pcs a phinj EP defs₀ 𝒱₀ m g main (X.owed (τ := τ))
    (initOf (PerCore.cells (pinD pcs a) phinj) (PerCore.launchToks (pinD pcs a) phinj), initOf (X.cells ho.inj) (X.toks ho.inj))
    (X.fresh V ER) ?_
    (fun c => iprop(besideOwn pcs a phinj p ho c ∗ X.start V ER c ∗ R c ∗ owes (c.tc : Thread nD τ) (X.owed c) ∅)) Tₙ ?_ ?_ QY hfin hQ
  · iintro Hu
    ihave H := (show (ownU (initOf (PerCore.cells (pinD pcs a) phinj) (PerCore.launchToks (pinD pcs a) phinj), initOf (X.cells ho.inj) (X.toks ho.inj)) : sProp 𝕄)
      ⊢ iprop(BI.own (EP (initOf (PerCore.cells (pinD pcs a) phinj) (PerCore.launchToks (pinD pcs a) phinj))) ∗ BI.own (ER (initOf (X.cells ho.inj) (X.toks ho.inj)))) from ownU_pair _ _) $$ Hu
    icases H with ⟨HP, HX⟩
    imod (X.fund_all V ho.inj ER) $$ HX with HF
    imodintro
    isplitl [HP] <;> iassumption
  · have h1 : ∀ c ∈ (Finset.univ : Finset (Dev nD)), (atStart m g (X.owed (τ := τ)) c : sProp 𝕄)
        ⊢ iprop(besideOwn pcs a phinj p ho c ∗ R c ∗ owes (c.tc : Thread nD τ) (X.owed c) ∅
          ∗ (ownSems0 X.osem c ∗ X.lent V c ∗ launchCred (X.owed (τ := τ)) c)) := fun c _ => by
      unfold atStart
      iintro ⟨Hb, Hu, HO, Hc⟩
      ihave H := (boundary_own pcs a phinj p ho win c) $$ Hb
      icases H with ⟨Hbe, Hos⟩
      ihave H := (hsplit c) $$ Hu
      icases H with ⟨Hl, HR⟩
      isplitl [Hbe]; · iexact Hbe
      isplitl [HR]; · iexact HR
      isplitl [HO]; · iexact HO
      isplitl [Hos]; · iexact Hos
      isplitl [Hl] <;> iassumption
    refine BIBase.Entails.trans (BIClass.sep_mono (bigSep_mono h1) (BI.Entails.refl _)) ?_
    simp only [bigSep_sep']
    iintro ⟨⟨Hbe, HR, HO, Hos, Hl, Hc⟩, HF⟩
    imod (show _ ⊢ (|={Set.univ}=> bigSep Finset.univ (X.start V ER) : sProp 𝕄) from X.start_all V ER) $$ [Hos Hl Hc HF] with Hst
    · simp only [bigSep_sep']
      isplitr [HF]
      · isplitl [Hos]; · iexact Hos
        isplitl [Hl] <;> iassumption
      iexact HF
    imodintro
    isplitl [Hbe]; · iexact Hbe
    isplitl [Hst]; · iexact Hst
    isplitl [HR] <;> iassumption
  · intro c Q'
    rw [hmain, PerCore.ghostOn_erase pcs a EP (Finset.mem_univ p) c]
    iintro ⟨Hk, ⟨Hbe, Hst, HR, HO⟩, ⟨Hcg, Htk⟩, Hg⟩
    iapply (wp_first_call pcs a phinj EP defs₀ 𝒱₀ pdats p ho win block_pos stage_whole c
      (by rw [hd]; exact xdat_body pcs a defs₀ 𝒱₀ X V p ho.inj hN hb c) (X.start V ER c) (X.returned V c)
      (by
        rw [hd, xdat_Φ_start pcs a X V p c 0 (Fin.val_zero _)])
      (by
        rw [hd, xdat_Φ_end pcs a X V p c _ (hlast c)]
        iintro ⟨H, Hr⟩
        ihave H' := (X.finish_eq V c) $$ H
        icases H' with ⟨H1, H2⟩
        isplitl [H1]; · iexact H1
        isplitl [H2] <;> iassumption)
      (rest c) Q')
    isplitl [Hk HR Hg]
    · iintro ⟨Hb, Hret, Ho⟩
      iapply (hrest c Q')
      isplitl [Hk]; · iexact Hk
      isplitl [Hb]; · iexact Hb
      isplitl [Hret]; · iexact Hret
      isplitl [HR]; · iexact HR
      isplitl [Ho]
      · rw [hd]
        unfold Dat.owesAt owesWithin
        rw [xdat_owed_end pcs a X V p c _ (hlast c)]
        icases Ho with ⟨%W, -, HO⟩
        iexists W; iexact HO
      iexact Hg
    isplitl [Hbe]; · iexact Hbe
    isplitl [Hst]; · iexact Hst
    isplitl [HO]
    · rw [hd]
      unfold Dat.owesAt owesWithin
      rw [xdat_owed_start pcs a X V p c 0 (Fin.val_zero _)]
      iexists ∅
      isplitr; · ipureintro; exact fun x hx => (Finset.notMem_empty x (Finset.mem_coe.mp hx)).elim
      iexact HO
    isplitl [Hcg] <;> iassumption

end Cert.Exchange
-- ==== Proof.SlotsRun.lean ====
/-
A program that is one exchange of panels, from start to end.
-/
module

public import proofs.«01_k».proof.Proof.Run
public import proofs.«01_k».proof.Proof.Slots

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open PCS

set_option Elab.async false

variable {nD : Nat} {τ : Topo} {sig : RefSig} {Val : EltTy → Type}

local notation "𝕄" => MT nD τ sig Unit Val ℕ (UU nD τ sig) ℕ

namespace Slots

variable (Y : Slots nD sig) (q : Option (Fin Y.K) → PosShare TreeShare) (A : (c : Dev nD) → Buf Val (Y.S.view.loc (c.tc : Thread nD τ)))
  (B out : (c : Dev nD) → Buf Val (Y.D.view.loc (c.tc : Thread nD τ))) (h : Y.Leaves A out)

/-- How a device's source splits into what its copies read. -/
def SrcSplit : Prop := ∀ c : Dev nD, (Y.S.view.loc (c.tc : Thread nD τ) ↦[Y.S.view.set]{fullShare} A c : sProp 𝕄)
  = iprop(Y.toXch.srcP (Y.contents q A B out h) none c
      ∗ bigSep (Finset.univ : Finset (Fin Y.K)) fun k => Y.toXch.srcP (Y.contents q A B out h) (some k) c)

variable (hsrc : Y.SrcSplit q A B out h)

include hsrc in
/-- The source and the result of a device, whole, are what it lends to the exchange, -/
theorem lent_eq (c : Dev nD) : (iprop((Y.S.view.loc (c.tc : Thread nD τ) ↦[Y.S.view.set]{fullShare} A c)
      ∗ (Y.D.view.loc (c.tc : Thread nD τ) ↦[Y.D.view.set]{fullShare} B c)) : sProp 𝕄) = Y.toXch.lent (Y.contents q A B out h) c := by
  rw [hsrc c, Y.old_split q A B out h c]; rfl

include hsrc in
/-- and what it has back of it. -/
theorem returned_eq (c : Dev nD) : (iprop((Y.S.view.loc (c.tc : Thread nD τ) ↦[Y.S.view.set]{fullShare} A c)
      ∗ (Y.D.view.loc (c.tc : Thread nD τ) ↦[Y.D.view.set]{fullShare} out c)) : sProp 𝕄) = Y.toXch.returned (Y.contents q A B out h) c := by
  rw [hsrc c, Y.new_split q A B out h c]; rfl

end Slots

variable {Λ₀ : Labels} {P : Type} [Fintype P] [DecidableEq P]
variable (pcs : P → PCfg sig Λ₀ Val) (a : Dev nD → (p : P) → (pcs p).Adm)
  (phinj : Function.Injective (PerCore.cellOf (nD := nD) (τ := τ) (pinD pcs a)))
  (defs₀ : Defs nD τ sig Val Λ₀) (𝒱₀ : Variants)

local notation "𝔻" => Pipeline.defs pcs defs₀

variable (Y : Slots nD sig) (q : Option (Fin Y.K) → PosShare TreeShare) (p : P) [IsEmpty (Fin (pcs p).W)] [IsEmpty (Fin (pcs p).pre.K)]

/-- The source of device `c`, whole. -/
abbrev srcAt (c : Dev nD) (A : Buf Val (Y.S.view.loc (c.tc : Thread nD τ))) : sProp 𝕄 := iprop(Y.S.view.loc (c.tc : Thread nD τ) ↦{fullShare} A)

/-- Its result. -/
abbrev dstAt (c : Dev nD) (B : Buf Val (Y.D.view.loc (c.tc : Thread nD τ))) : sProp 𝕄 := iprop(Y.D.view.loc (c.tc : Thread nD τ) ↦{fullShare} B)

variable (m : (ℓ : Loc nD τ sig) → Buf Val ℓ) (out : (c : Dev nD) → Buf Val (Y.D.view.loc (c.tc : Thread nD τ)))
  (h : Y.Leaves (fun c => m (Y.S.view.loc (c.tc : Thread nD τ))) out)

/-- The proof data of the exchange's call, of a program started on memory `m`. -/
abbrev sdat (c : Dev nD) : Dat τ Val Unit ℕ (UU nD τ sig) ℕ (pinD pcs a c p) c :=
  xdat pcs a Y.toXch (Y.contents q (fun c => m (Y.S.view.loc (c.tc : Thread nD τ))) (fun c => m (Y.D.view.loc (c.tc : Thread nD τ))) out h) p c

include phinj in
/-- A program that starts with an exchange: what follows it finds the sources unchanged and the results as the exchange
    leaves them. -/
theorem run_slots_then [∀ e, Nonempty (Val e)]
    (ho : OwnSemFacts (pcs p).spec Y.toXch.osem) (win : WinFacts₀ (pcs p).spec)
    (hN : ∀ c, (pinD pcs a c p).N = 1) (hb : IsBody (τ := τ) (Val := Val) pcs a defs₀ 𝒱₀ Y.toXch p)
    (hS : Y.S.view.set = Finset.univ) (hD : Y.D.view.set = Finset.univ) (g : Dev nD → PrngReg)
    (hsrc : Y.SrcSplit q (fun c => m (Y.S.view.loc (c.tc : Thread nD τ))) (fun c => m (Y.D.view.loc (c.tc : Thread nD τ))) out h)
    (pdats : (p : P) → (c : Dev nD) → Dat τ Val Unit ℕ (UU nD τ sig) ℕ (pinD pcs a c p) c) (hd : ∀ c, pdats p c = sdat pcs a Y q p m out h c)
    (main : Dev nD → Prog (TpuEff nD τ sig Val (Sig Λ₀ P fun p => (pcs p).Adm) .tc) PUnit)
    (rest : Dev nD → PUnit → Prog (TpuEff nD τ sig Val (Sig Λ₀ P fun p => (pcs p).Adm) .tc) PUnit)
    (hmain : ∀ c, main c = .op (.customCall (entry p) ()) (rest c))
    (R Tₙ : Dev nD → sProp 𝕄)
    (hbufs : ∀ c : Dev nD, (unscopedBufs c (fun b => m ((c.tc : Thread nD τ).loc b)) : sProp 𝕄)
      ⊢ iprop(srcAt Y c (m _) ∗ dstAt Y c (m _) ∗ R c))
    (hrest : ∀ c (Q : PUnit → sProp 𝕄),
      iprop((iprop(boundary (c.tc : Thread nD τ) ∗ Tₙ c ∗ ∃ W, owes (c.tc : Thread nD τ) (0 : CellTallies nD τ sig Unit) W) -∗ Q ⟨⟩)
          ∗ boundary (c.tc : Thread nD τ) ∗ (srcAt Y c (m _) ∗ dstAt Y c (out c)) ∗ R c
          ∗ (∃ W, owes (c.tc : Thread nD τ) (0 : CellTallies nD τ sig Unit) W) ∗ PerCore.ghostOn pcs a EP (Finset.univ.erase p) c)
        ⊢ wp frame (wpE 𝔻 (Variants.lift 𝒱₀) (c.tc : Thread nD τ) none) Set.univ (rest c ⟨⟩) Q)
    (QY : Dev nD → MemSt nD τ sig Val → Prop)
    (hfin : ∀ c (s' : Phys nD τ sig Val), iprop(Tₙ c ∗ SI s') ⊢ |={Set.univ}=> iprop(⌜QY c s'.mem⌝ ∗ SI s'))
    (hsem : ∀ sm : SemLoc sig, sm.isScoped .tc = true) :
    θ_run 𝔻 (onTc main) ⟨m, fun _ => 0, g⟩ fun r => (∀ c : Dev nD, QY c r.2) ∧ r.2.sem = fun _ => 0 := by
  haveI : IsEmpty (Fin (pcs p).W) := inferInstance
  refine run_exchange pcs a phinj defs₀ 𝒱₀ Y.toXch
    (Y.contents q (fun c => m (Y.S.view.loc (c.tc : Thread nD τ))) (fun c => m (Y.D.view.loc (c.tc : Thread nD τ))) out h) p ho win
    (fun w => isEmptyElim w) (fun w => isEmptyElim w) hN hb pdats hd m g main rest hmain R Tₙ ?_ ?_ QY hfin
    (fun s hs hz => ⟨hs, sem_eq_zero_of_scoped hsem hz⟩)
  · intro c
    rw [← Y.lent_eq q _ _ out h hsrc c, hS, hD]
    iintro H
    ihave H := (hbufs c) $$ H
    icases H with ⟨HA, HB, HR⟩
    isplitl [HA HB]
    · isplitl [HA] <;> iassumption
    iexact HR
  · intro c Q
    rw [← Y.returned_eq q _ _ out h hsrc c, hS, hD]
    exact hrest c Q

omit [DecidableEq P] in
/-- What is held whole is read off the memory. -/
theorem read_two {ℓ₁ ℓ₂ : Loc nD τ sig} (f₁ : Buf Val ℓ₁) (f₂ : Buf Val ℓ₂) (s' : Phys nD τ sig Val) :
    iprop(((ℓ₁ ↦{fullShare} f₁) ∗ (ℓ₂ ↦{fullShare} f₂)) ∗ SI s') ⊢ (|={Set.univ}=> iprop(⌜s'.mem.mem ℓ₁ = f₁ ∧ s'.mem.mem ℓ₂ = f₂⌝ ∗ SI s') : sProp 𝕄) := by
  iintro ⟨⟨HA, HB⟩, HSI⟩
  icombine HSI HA gives %h₁
  icombine HSI HB gives %h₂
  imodintro
  isplitr
  · ipureintro
    exact ⟨Buf.eq_of_forall_mem_univ h₁, Buf.eq_of_forall_mem_univ h₂⟩
  · iexact HSI

include phinj in
/-- A program that is the exchange alone: the sources unchanged, the results what it leaves, every semaphore at zero. -/
theorem run_slots [∀ e, Nonempty (Val e)] [∀ p, IsEmpty (Fin (pcs p).W)]
    (ho : OwnSemFacts (pcs p).spec Y.toXch.osem) (win : WinFacts₀ (pcs p).spec)
    (hN : ∀ c, (pinD pcs a c p).N = 1) (hb : IsBody (τ := τ) (Val := Val) pcs a defs₀ 𝒱₀ Y.toXch p)
    (hS : Y.S.view.set = Finset.univ) (hD : Y.D.view.set = Finset.univ) (g : Dev nD → PrngReg)
    (hsrc : Y.SrcSplit q (fun c => m (Y.S.view.loc (c.tc : Thread nD τ))) (fun c => m (Y.D.view.loc (c.tc : Thread nD τ))) out h)
    (main : Dev nD → Prog (TpuEff nD τ sig Val (Sig Λ₀ P fun p => (pcs p).Adm) .tc) PUnit)
    (hmain : ∀ c, main c = .op (.customCall (entry p) ()) fun _ => .ret ⟨⟩)
    (hbufs : ∀ c : Dev nD, (unscopedBufs c (fun b => m ((c.tc : Thread nD τ).loc b)) : sProp 𝕄) ⊢ iprop(srcAt Y c (m _) ∗ dstAt Y c (m _)))
    (hsem : ∀ sm : SemLoc sig, sm.isScoped .tc = true) :
    θ_run 𝔻 (onTc main) ⟨m, fun _ => 0, g⟩ fun r => (∀ c : Dev nD, r.2.mem (Y.S.view.loc (c.tc : Thread nD τ)) = m (Y.S.view.loc (c.tc : Thread nD τ))
      ∧ r.2.mem (Y.D.view.loc (c.tc : Thread nD τ)) = out c) ∧ r.2.sem = fun _ => 0 := by
  refine run_slots_then pcs a phinj defs₀ 𝒱₀ Y q p m out h ho win hN hb hS hD g hsrc (fun p c => xdat pcs a Y.toXch _ p c) (fun c => rfl)
    main (fun _ _ => .ret ⟨⟩) hmain (fun _ => iprop(emp)) (fun c => iprop(srcAt Y c (m _) ∗ dstAt Y c (out c))) ?_ ?_
    (fun c s => s.mem (Y.S.view.loc (c.tc : Thread nD τ)) = m (Y.S.view.loc (c.tc : Thread nD τ)) ∧ s.mem (Y.D.view.loc (c.tc : Thread nD τ)) = out c)
    (fun c s' => read_two _ _ s') hsem
  · intro c
    iintro H
    ihave H := (hbufs c) $$ H
    icases H with ⟨HA, HB⟩
    isplitl [HA]; · iexact HA
    isplitl [HB]; · iexact HB
    iempintro
  · intro c Q
    rw [wp_ret]
    iintro ⟨HQ, Hb, Hr, -, HO, -⟩
    imodintro
    iapply HQ
    isplitl [Hb]; · iexact Hb
    isplitl [Hr]; · iexact Hr
    iexact HO

end Cert.Exchange
-- ==== Proof.Summed.lean ====
/-
A program that is an exchange of panels and then one call over its result.

The second call stages blocks of the exchange's result and of its own; it neither talks to other devices nor uses
semaphores of its own. What it leaves in its result is stated by its proof data.
-/
module

public import proofs.«01_k».proof.Proof.SlotsRun

@[expose] public section

noncomputable section

namespace Cert.Exchange

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline
open PCS

set_option Elab.async false

variable {nD : Nat} {τ : Topo} {sig : RefSig} {Val : EltTy → Type}

local notation "𝕄" => MT nD τ sig Unit Val ℕ (UU nD τ sig) ℕ

/-- No level facts. -/
theorem levAts_none : (iprop(emp) : sProp 𝕄) ⊢ levAts (fun _ => ∅) (fun _ _ => 0) := by
  unfold levAts
  simp only [bigSep_empty]
  exact BIBase.Entails.of_eq (bigSep_emp_const _).symm

variable {Λ₀ : Labels}
variable (pcs : Fin 2 → PCfg sig Λ₀ Val) (a : Dev nD → (p : Fin 2) → (pcs p).Adm)
  (phinj : Function.Injective (PerCore.cellOf (nD := nD) (τ := τ) (pinD pcs a)))
  (defs₀ : Defs nD τ sig Val Λ₀) (𝒱₀ : Variants)

local notation "𝔻" => Pipeline.defs pcs defs₀

variable (Y : Slots nD sig) (q : Option (Fin Y.K) → PosShare TreeShare) [IsEmpty (Fin (pcs 0).W)] [IsEmpty (Fin (pcs 0).pre.K)] [IsEmpty (Fin (pcs 1).pre.K)]
  (m : (ℓ : Loc nD τ sig) → Buf Val ℓ) (out : (c : Dev nD) → Buf Val (Y.D.view.loc (c.tc : Thread nD τ)))
  (h : Y.Leaves (fun c => m (Y.S.view.loc (c.tc : Thread nD τ))) out)
  (after : (c : Dev nD) → Dat τ Val Unit ℕ (UU nD τ sig) ℕ (pinD pcs a c 1) c)

/-- The proof data of the two calls. -/
def twoDats : (p : Fin 2) → (c : Dev nD) → Dat τ Val Unit ℕ (UU nD τ sig) ℕ (pinD pcs a c p) c
  | 0, c => sdat pcs a Y q 0 m out h c
  | 1, c => after c

variable (T : Ref sig .tc) (total : (c : Dev nD) → Buf Val ((c.tc : Thread nD τ).loc T))

/-- The result of the second call on device `c`, whole. -/
abbrev sumAt (c : Dev nD) (B : Buf Val ((c.tc : Thread nD τ).loc T)) : sProp 𝕄 := iprop((c.tc : Thread nD τ).loc T ↦{fullShare} B)

/-- The second call, entered with the exchange's result and left with its own. -/
def sumSeg (win1 : WinFacts₀ (pcs 1).spec) (block_pos : ∀ w : Fin (pcs 1).W, 0 < ((pcs 1).spec w).block.numel)
    (stage_whole : ∀ (w : Fin (pcs 1).W) (s : Fin ((pcs 1).spec w).nbuf), (((pcs 1).spec w).stage s).IsWhole)
    (hbody : ∀ c, BodyObligationLoose (after c) defs₀ 𝒱₀ () Set.univ) (howed : ∀ c t, (after c).owed t = 0)
    (hrec : ∀ c, (after c).recorded 0 = Set.univ)
    (hin : ∀ c, (scopedRest (pcs 1).spec c : sProp 𝕄) ⊢ (after c).Φ 0)
    (hout : ∀ c, (after c).Φ (Fin.last (pinD pcs a c 1).N) ⊢ (scopedRest (pcs 1).spec c : sProp 𝕄))
    (hA : ∀ c, iprop(dstAt Y c (out c) ∗ sumAt T c (m _)) ⊢ (after c).arrays ((after c).arrAt · 0))
    (hZ : ∀ c, (after c).arrays ((after c).arrAt · (pinD pcs a c 1).N) ⊢ iprop(sumAt T c (total c) ∗ True)) :
    PerCore.RegionSeg pcs a (twoDats pcs a Y q m out h after) () defs₀ 𝒱₀ (fun _ => ∅) (fun _ _ => 0) 1 where
  win := win1
  block_pos := block_pos
  stage_whole := stage_whole
  K := PEmpty
  osem k := k.elim
  ho := OwnSemFacts.none _
  hbody := hbody
  hwaits c := by
    refine BIBase.Entails.trans ?_ (PerCore.cellsWaits_of_owed_zero (pinD pcs a) _ () 1 c (howed c))
    iintro -
    iempintro
  pre c := iprop(srcAt Y c (m _) ∗ dstAt Y c (out c) ∗ sumAt T c (m _) ∗ ∃ W, owes (c.tc : Thread nD τ) (0 : CellTallies nD τ sig Unit) W)
  post c := iprop((srcAt Y c (m _) ∗ sumAt T c (total c)) ∗ ∃ W, owes (c.tc : Thread nD τ) (0 : CellTallies nD τ sig Unit) W)
  X c := iprop(emp)
  Y c := iprop(emp)
  Z c := srcAt Y c (m _)
  hentry c := by
    have hpf : (iprop(emp) : sProp 𝕄) ⊢ prefHeld (pcs 1).pre c (fun _ => fullShare) (a c 1).1 := by
      unfold prefHeld; rw [Finset.univ_eq_empty, bigSep_empty]; exact .rfl
    have hO : (iprop(∃ W, owes (c.tc : Thread nD τ) (0 : CellTallies nD τ sig Unit) W) : sProp 𝕄) ⊢ (after c).owesAt () 0 := by
      unfold Dat.owesAt owesWithin Dat.bound
      rw [howed c 0, hrec c]
      iintro ⟨%W, HO⟩
      iexists W
      isplitr; · ipureintro; exact fun _ _ => Or.inl trivial
      iexact HO
    iintro ⟨⟨HS, HD, HT, HO⟩, -, -⟩
    imodintro
    isplitl [HD HT]
    · iapply (hA c)
      isplitl [HD] <;> iassumption
    isplitr; · iapply hpf; iempintro
    isplitl [HO]; · iapply hO; iexact HO
    isplitr; · iempintro
    iexact HS
  hin c := by
    refine BIBase.Entails.trans ?_ (hin c)
    iintro ⟨-, -, H⟩
    iexact H
  hout c := by
    refine BIBase.Entails.trans (hout c) ?_
    rw [ownSems0_none]
    iintro H
    isplitr; · iempintro
    isplitr; · iempintro
    iexact H
  hexit c := by
    have hO : (after c).owesAt () (Fin.last (pinD pcs a c 1).N)
        ⊢ (iprop(∃ W, owes (c.tc : Thread nD τ) (0 : CellTallies nD τ sig Unit) W) : sProp 𝕄) := by
      unfold Dat.owesAt owesWithin
      rw [howed c (Fin.last _)]
      iintro ⟨%W, -, HO⟩
      iexists W; iexact HO
    refine BIBase.Entails.trans (BIClass.sep_mono (hZ c) (BIClass.sep_mono hO (BI.Entails.refl _))) ?_
    iintro ⟨⟨HT, -⟩, HO, -, HS⟩
    imodintro
    isplitl [HS HT]
    · isplitl [HS] <;> iassumption
    iexact HO

include phinj in
/-- The whole program: the sources unchanged, the second call's result what its proof data say, every semaphore at zero. -/
theorem run_summed [∀ e, Nonempty (Val e)]
    (ho : OwnSemFacts (pcs 0).spec Y.toXch.osem) (win : WinFacts₀ (pcs 0).spec)
    (hN : ∀ c, (pinD pcs a c 0).N = 1) (hb : IsBody (τ := τ) (Val := Val) pcs a defs₀ 𝒱₀ Y.toXch 0)
    (hS : Y.S.view.set = Finset.univ) (hD : Y.D.view.set = Finset.univ) (g : Dev nD → PrngReg)
    (hsrc : Y.SrcSplit q (fun c => m (Y.S.view.loc (c.tc : Thread nD τ))) (fun c => m (Y.D.view.loc (c.tc : Thread nD τ))) out h)
    (win1 : WinFacts₀ (pcs 1).spec) (block_pos : ∀ w : Fin (pcs 1).W, 0 < ((pcs 1).spec w).block.numel)
    (stage_whole : ∀ (w : Fin (pcs 1).W) (s : Fin ((pcs 1).spec w).nbuf), (((pcs 1).spec w).stage s).IsWhole)
    (hbody : ∀ c, BodyObligationLoose (after c) defs₀ 𝒱₀ () Set.univ) (howed : ∀ c t, (after c).owed t = 0)
    (hrec : ∀ c, (after c).recorded 0 = Set.univ)
    (hin : ∀ c, (scopedRest (pcs 1).spec c : sProp 𝕄) ⊢ (after c).Φ 0)
    (hout : ∀ c, (after c).Φ (Fin.last (pinD pcs a c 1).N) ⊢ (scopedRest (pcs 1).spec c : sProp 𝕄))
    (hA : ∀ c, iprop(dstAt Y c (out c) ∗ sumAt T c (m _)) ⊢ (after c).arrays ((after c).arrAt · 0))
    (hZ : ∀ c, (after c).arrays ((after c).arrAt · (pinD pcs a c 1).N) ⊢ iprop(sumAt T c (total c) ∗ True))
    (main : Dev nD → Prog (TpuEff nD τ sig Val (Sig Λ₀ (Fin 2) fun p => (pcs p).Adm) .tc) PUnit)
    (hmain : ∀ c, main c = .op (.customCall (entry 0) ()) fun _ => .op (.customCall (entry 1) ()) fun _ => .ret ⟨⟩)
    (hbufs : ∀ c : Dev nD, (unscopedBufs c (fun b => m ((c.tc : Thread nD τ).loc b)) : sProp 𝕄)
      ⊢ iprop(srcAt Y c (m _) ∗ dstAt Y c (m _) ∗ sumAt T c (m _)))
    (hsem : ∀ sm : SemLoc sig, sm.isScoped .tc = true) :
    θ_run 𝔻 (onTc main) ⟨m, fun _ => 0, g⟩ fun r => (∀ c : Dev nD, r.2.mem (Y.S.view.loc (c.tc : Thread nD τ)) = m (Y.S.view.loc (c.tc : Thread nD τ))
      ∧ r.2.mem ((c.tc : Thread nD τ).loc T) = total c) ∧ r.2.sem = fun _ => 0 := by
  refine run_slots_then pcs a phinj defs₀ 𝒱₀ Y q 0 m out h ho win hN hb hS hD g hsrc (twoDats pcs a Y q m out h after) (fun c => rfl)
    main (fun _ _ => .op (.customCall (entry 1) ()) fun _ => .ret ⟨⟩) hmain (fun c => sumAt T c (m _))
    (fun c => iprop(srcAt Y c (m _) ∗ sumAt T c (total c))) hbufs ?_
    (fun c s => s.mem (Y.S.view.loc (c.tc : Thread nD τ)) = m (Y.S.view.loc (c.tc : Thread nD τ)) ∧ s.mem ((c.tc : Thread nD τ).loc T) = total c)
    (fun c s' => read_two _ _ s') hsem
  intro c Q
  rw [PerCore.ghostOn_erase pcs a EP (show (1 : Fin 2) ∈ Finset.univ.erase 0 by decide) c]
  have hseg := PerCore.RegionSeg.wp pcs a (twoDats pcs a Y q m out h after) () phinj EP defs₀ 𝒱₀ (fun _ => ∅) (fun _ _ => 0)
    (sumSeg pcs a defs₀ 𝒱₀ Y q m out h after T total win1 block_pos stage_whole hbody howed hrec hin hout hA hZ) c none (fun u hu => nomatch hu)
    (fun _ => .ret ⟨⟩) Q
  iintro ⟨HQ, Hb, ⟨HS, HD⟩, HT, HO, ⟨Hcg, Htk⟩, -⟩
  iapply (show iprop((iprop(boundary (c.tc : Thread nD τ) ∗ (srcAt Y c (m _) ∗ sumAt T c (total c)) ∗ ∃ W, owes (c.tc : Thread nD τ) (0 : CellTallies nD τ sig Unit) W)
        -∗ wp frame (wpE 𝔻 (Variants.lift 𝒱₀) (c.tc : Thread nD τ) none) Set.univ (.ret ⟨⟩) Q)
      ∗ boundary (c.tc : Thread nD τ) ∗ (srcAt Y c (m _) ∗ dstAt Y c (out c) ∗ sumAt T c (m _) ∗ ∃ W, owes (c.tc : Thread nD τ) (0 : CellTallies nD τ sig Unit) W)
      ∗ levAts (fun _ => ∅) (fun _ _ => 0) ∗ PerCore.cellsGhost (pinD pcs a) EP 1 c ∗ PerCore.toksInit (pinD pcs a) EP 1 c)
    ⊢ _ from hseg)
  isplitl [HQ]
  · iintro ⟨Hb, ⟨HST, HO⟩⟩
    rw [wp_ret]
    imodintro
    iapply HQ
    isplitl [Hb]; · iexact Hb
    isplitl [HST] <;> iassumption
  isplitl [Hb]; · iexact Hb
  isplitl [HS HD HT HO]
  · isplitl [HS]; · iexact HS
    isplitl [HD]; · iexact HD
    isplitl [HT] <;> iassumption
  isplitr [Hcg Htk]
  · iapply levAts_none; iempintro
  isplitl [Hcg] <;> iassumption

end Cert.Exchange
-- ==== Proof.Sums.lean ====
/-
The panels of a stack as a kernel loads them.
-/
module

public import proofs.«01_k».proof.Proof.Slots
public import Idealize.ShloMosaic.Lib.Pipeline.FrameBody
public import Idealize.ShloMosaic.Lib.Pipeline.ValueKit

@[expose] public section

noncomputable section

namespace Cert.Exchange

open Idealize.ShloMosaic

variable {Val : EltTy → Type} {e : EltTy} {n R C : ℕ}

/-- What a load of one panel reads, its unit axis dropped. -/
theorem panel_load (X : (Stack n R C).Idx → Val e) (j : Fin n) (inb : ∀ a, ![j.val, 0, 0] a + (Stack 1 R C).size a ≤ (Stack n R C).size a)
    (h : (Stack 1 R C).ShapeCasts (Panel R C)) (y : (Panel R C).Idx) :
    shapeCast (Panel R C) (View.ld X (Rect.unit (s := Stack n R C) ![j.val, 0, 0] (Stack 1 R C).size inb)) h y = X (inPanel j y) := by
  refine (shapeCast_dropUnit_apply ![R, C] _ h y).trans ?_
  refine View.ld_unit_apply_of X _ _ inb _ (inPanel j y) fun a => ?_
  match a with
  | ⟨0, _⟩ => rfl
  | ⟨1, _⟩ => exact (Nat.zero_add _).symm
  | ⟨2, _⟩ => exact (Nat.zero_add _).symm

end Cert.Exchange
-- ==== Proof.SumChips.lean ====
/-
The scatter exchange between the chips of the mesh, and the sum that follows it. Every device sends panel `p` of its source to
the device of its own core on chip `p`, which keeps it as panel of the sender's chip.
-/
module

public import proofs.«01_k».proof.Proof.Summed
public import proofs.«01_k».proof.Proof.Sums
public import proofs.«01_k».proof.Proof.Gen.SumChipsIdeal.Skeleton
public import proofs.«01_k».proof.Proof.Gen.SumChipsIdeal.Launch
public import proofs.«01_k».proof.Proof.Gen.SumChipsIdeal.Points
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Exchange.Chips

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SumChipsIdeal Cert.SumChipsIdeal.Gen Cert.Exchange
open Idealize.ShloMosaic.Pipeline (Dat)

set_option Elab.async false

/-! ## The exchange -/

def peer (k : Fin 3) (c : Dev nD) : Dev nD := ![⟨k0_dev1 c, k0_dev1_lt c⟩, ⟨k0_dev2 c, k0_dev2_lt c⟩, ⟨k0_dev3 c, k0_dev3_lt c⟩] k

theorem peer_val (k : Fin 3) (c : Dev nD) : (peer k c).val = ![(2 * ((c.val / 2) % 2) + c.val % 2 + 4) - 4 * (c.val / 4),
    (4 * (c.val / 4) + c.val % 2 + 2) - 2 * ((c.val / 2) % 2), (c.val % 2 + 6) - (4 * (c.val / 4) + 2 * ((c.val / 2) % 2))] k := by
  match k with
  | 0 => exact k0_dev1_eq c
  | 1 => exact k0_dev2_eq c
  | 2 => exact k0_dev3_eq c

def soff (o : Option (Fin 3)) (c : Dev nD) : Fin 3 → ℕ := o.elim (k0_off1 c) ![k0_off2 c, k0_off3 c, k0_off4 c]

theorem soff_inb : ∀ (o : Option (Fin 3)) (c : Dev nD) (a : Fin 3), soff o c a + (Stack 1 6656 1024).size a ≤ (Stack 4 6656 1024).size a
  | none, c => k0_off1_inb c
  | some 0, c => k0_off2_inb c
  | some 1, c => k0_off3_inb c
  | some 2, c => k0_off4_inb c

def place (c : Dev nD) : Fin 4 := ⟨c.val / 2, by have h : c.val < 8 := c.isLt; omega⟩
def sender (c : Dev nD) (j : Fin 4) : Dev nD := ⟨2 * j.val + c.val % 2, by have h := j.isLt; show 2 * j.val + c.val % 2 < 8; omega⟩

theorem off1_place (c : Dev nD) : k0_off1 c = ![(place c).val, 0, 0] := by
  exact (k0_off1_eq c).trans (off_congr (by revert c; decide))

/-- The peers' numbers, in place of what computes them. -/
def near (k : Fin 3) (c : Dev nD) : Dev nD := ![(![4, 5, 6, 7, 0, 1, 2, 3] : Fin 8 → Fin 8) c, (![2, 3, 0, 1, 6, 7, 4, 5] : Fin 8 → Fin 8) c,
  (![6, 7, 4, 5, 2, 3, 0, 1] : Fin 8 → Fin 8) c] k

theorem peer_eq (k : Fin 3) (c : Dev nD) : peer k c = near k c := by
  apply Fin.ext
  rw [peer_val]
  revert k c
  decide

def slots : Slots nD sig where
  K := 3
  n' := 4
  n := 4
  R := 6656
  C := 1024
  elt := .f32
  S := Memref.whole main_arg0
  D := Memref.whole main_v1
  soff := soff
  sinb := soff_inb
  doff := k0_off1
  dinb := k0_off1_inb
  sq := squeezes_S1x6656x1024_S6656x1024
  src_exact _ _ := (View.wordExact_bits rfl).reshape _ _
  dst_exact _ := (View.wordExact_bits rfl).reshape _ _
  dst_scr := rfl
  sendS := ![((cc0_scratch0.slice (Rect.unit (s := S3) ![0] S1.size inb_S3_S1_0)).squeeze S_ squeezes_S1_S_).sem,
    ((cc0_scratch0.slice (Rect.unit (s := S3) ![1] S1.size inb_S3_S1_1)).squeeze S_ squeezes_S1_S_).sem,
    ((cc0_scratch0.slice (Rect.unit (s := S3) ![2] S1.size inb_S3_S1_2)).squeeze S_ squeezes_S1_S_).sem]
  recvS := ![((cc0_scratch1.slice (Rect.unit (s := S3) ![0] S1.size inb_S3_S1_0)).squeeze S_ squeezes_S1_S_).sem,
    ((cc0_scratch1.slice (Rect.unit (s := S3) ![1] S1.size inb_S3_S1_1)).squeeze S_ squeezes_S1_S_).sem,
    ((cc0_scratch1.slice (Rect.unit (s := S3) ![2] S1.size inb_S3_S1_2)).squeeze S_ squeezes_S1_S_).sem]
  localS := cc0_scratch2.sem
  peer := peer
  peer_peer k c := by rw [peer_eq, peer_eq]; revert k c; decide
  bytes := (panel (Memref.whole main_arg0) (k0_off1 0) (k0_off1_inb 0) squeezes_S1x6656x1024_S6656x1024).view.dmaCredit
  bytes_pos := View.dmaCredit_pos _ (by decide)
  src_credit _ _ := rfl
  dst_credit _ := rfl
  place := place
  pick := place
  sender := sender
  doff_eq := off1_place
  soff_none := off1_place
  soff_some k c := by
    rw [peer_eq]
    match k with
    | 0 => exact (k0_off2_eq c).trans (off_congr (by revert c; decide))
    | 1 => exact (k0_off3_eq c).trans (off_congr (by revert c; decide))
    | 2 => exact (k0_off4_eq c).trans (off_congr (by revert c; decide))
  sender_own c := by revert c; decide
  sender_peer k c := by rw [peer_eq]; revert k c; decide
  places c := by
    have : (fun o : Option (Fin 3) => o.elim (place c) fun k => place (peer k c)) = fun o => o.elim (place c) fun k => place (near k c) := by
      funext o; cases o with
      | none => rfl
      | some k => exact congrArg place (peer_eq k c)
    rw [this]; revert c; decide

variable {F : FTy → Type} [FloatOps F]

theorem body_eq : cc0_scatter_grads (F := F) (Memref.whole main_arg0) (Memref.isWhole_whole _) (Memref.whole main_v1) (Memref.isWhole_whole _)
      cc0_scratch0 cc0_scratch1 cc0_scratch2
    = .op .deviceId fun c => slots.toXch.prog c := by
  rw [cc0_scatter_grads_eq_skeleton]
  unfold cc0_scatter_grads_skel
  simp only [k0_part1_eq_skeleton, k0_part2_eq_skeleton, k0_part3_eq_skeleton, k0_part4_eq_skeleton, k0_part1_skel, k0_part2_skel, k0_part3_skel, k0_part4_skel,
    Prog.lift, Prog.bind_op, Prog.bind_ret, Prog.pure_eq_ret]
  rfl

theorem isBody : IsBody (τ := τ) (Val := Elt F) (pcfgs (F := F)) (fun _ p => (cfgs p).toPCfg_adm) defs₀ Variants.none slots.toXch 0 := fun c t Q => by
  refine BIBase.Entails.trans ?_ (BIBase.Entails.of_eq (congrArg (fun b => wp frame (wpE defs₀ Variants.none (c.tc : Thread nD τ) none) Set.univ b fun _ => Q ⟨⟩)
    (show _ = (bodyAt0 (F := F) t : Prog (TpuEff nD τ sig (Elt F) Λ₀ .tc) PUnit) from rfl)).symm)
  unfold bodyAt0
  rw [body_eq, wp_deviceId]

theorem ownSems : Pipeline.OwnSemFacts cfg0.spec slots.toXch.osem := by decide

/-! ## The sum -/

local notation "𝕄" => MT nD τ sig Unit (Elt F) ℕ (UU nD τ sig) ℕ

/-- The sum of a block's panels. -/
def blockSum (x : Vec F S4x512x1024 .f32) : FVec F S512x1024 .f32 :=
  k1_pay1 (View.ld x (Rect.unit (s := S4x512x1024) ![0, 0, 0] S1x512x1024.size inb_S4x512x1024_S1x512x1024_0_0_0))
    (View.ld x (Rect.unit (s := S4x512x1024) ![1, 0, 0] S1x512x1024.size inb_S4x512x1024_S1x512x1024_1_0_0))
    (View.ld x (Rect.unit (s := S4x512x1024) ![2, 0, 0] S1x512x1024.size inb_S4x512x1024_S1x512x1024_2_0_0))
    (View.ld x (Rect.unit (s := S4x512x1024) ![3, 0, 0] S1x512x1024.size inb_S4x512x1024_S1x512x1024_3_0_0))

theorem blockSum_apply (x : Vec F S4x512x1024 .f32) (y : S512x1024.Idx) :
    blockSum x y = FloatOps.addf (FloatOps.addf (FloatOps.addf (x (inPanel 0 y)) (x (inPanel 1 y))) (x (inPanel 2 y))) (x (inPanel 3 y)) :=
  congrArg₂ FloatOps.addf (congrArg₂ FloatOps.addf (congrArg₂ FloatOps.addf (panel_load x 0 _ _ y) (panel_load x 1 _ _ y)) (panel_load x 2 _ _ y)) (panel_load x 3 _ _ y)

theorem sum_triple (c : Dev nD) (E : Set ℕ) (i : grid1.Coords) (arg1 : Memref sig .tc .vmem S4x512x1024 .f32) (harg1 : arg1.IsWhole)
    (arg2 : Memref sig .tc .vmem S512x1024 .f32) (harg2 : arg2.IsWhole) (x : Vec F S4x512x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (blockSum x)) -∗ K ⟨⟩))
      ⊢ wp frame (wpE (defs₀ (F := F)) Variants.none c none) E (cc1_sum_chips i arg1 harg1 arg2 harg2) K := by
  simp only [cc1_sum_chips_eq_skeleton]; unfold cc1_sum_chips_skel
  unfold owns
  iintro ⟨⟨%f0, %hf0, H0⟩, ⟨%d1, %f1, -, H1⟩, Hk⟩
  subst hf0
  sl_exec
  sl_step
  iapply Hk
  isplitl [H0]
  · iexists f0
    isplitr; · ipureintro; rfl
    iexact H0
  iexists _
  isplitr
  swap; · iexact H1
  ipureintro
  exact (View.read_writes_eq_canon _ _ _ fun y => View.cover_of_tiled [⟨_, _⟩] S512x1024.size (by rfl) y).trans (View.canon_unit_zero (by decide) _ _)

/-- The exchange's result in blocks. -/
def blockOf (f : (c : Dev nD) → Buf (Elt F) ((c : Thread nD τ).loc main_v1)) (c : Dev nD) (t : Fin cfg1.N) : Vec F S4x512x1024 .f32 :=
  ((cfg1.win 0).blk t).view.read (Elt F) (f c)

variable (m : (ℓ : Loc nD τ sig) → Buf (Elt F) ℓ) (f : (c : Dev nD) → Buf (Elt F) ((c : Thread nD τ).loc main_v1))

def sumDat (c : Dev nD) : Dat τ (Elt F) Unit ℕ (UU nD τ sig) ℕ cfg1 c where
  A w := match w with
    | ⟨0, _⟩ => f c
    | ⟨1, _⟩ => m ((c : Thread nD τ).loc main_v2)
  after w t := match w with
    | ⟨0, _⟩ => blockOf f c t
    | ⟨1, _⟩ => blockSum (blockOf f c t)
  Φ _ := Pipeline.scopedRest spec1 c
  q _ := fullShare
  owed _ := 0

theorem A_0 (c : Dev nD) : (sumDat m f c).A 0 = f c := by dsimp only [sumDat]
theorem A_1 (c : Dev nD) : (sumDat m f c).A 1 = m ((c : Thread nD τ).loc main_v2) := by dsimp only [sumDat]
theorem after_0 (c : Dev nD) (t : Fin cfg1.N) : (sumDat m f c).after 0 t = blockOf f c t := by dsimp only [sumDat]
theorem after_1 (c : Dev nD) (t : Fin cfg1.N) : (sumDat m f c).after 1 t = blockSum (blockOf f c t) := by dsimp only [sumDat]

theorem before_0 (c : Dev nD) (t : Fin cfg1.N) (d) : (sumDat m f c).before 0 t d = blockOf f c t :=
  ((sumDat m f c).before_in_eq_fetched 0 rfl (fun _ => rfl) (fun _ _ _ => rfl)
    (fun t => by rw [after_0]; unfold Dat.blockOf blockOf; rw [A_0]; try rfl) t d).trans
    (by unfold Dat.fetched Dat.blockOf blockOf; rw [A_0]; try rfl)

theorem sum_body (c : Dev nD) : Pipeline.BodyObligation (sumDat m f c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  refine triple_restated (show
      iprop((sumDat m f c).Φ t.castSucc ∗ (sumDat m f c).owesAt () t.castSucc
        ∗ (∃ d, owns (c : Thread nD τ) (st1_0 t) fullShare ((sumDat m f c).before 0 t d))
        ∗ (∃ d, owns (c : Thread nD τ) (st1_1 t) fullShare ((sumDat m f c).before 1 t d)))
      ⊢ wp frame (wpE (defs₀ (F := F)) Variants.none c none) Set.univ (bodyAt1 t) fun _ =>
        iprop((sumDat m f c).Φ t.succ ∗ (sumDat m f c).owesAt () t.succ
          ∗ owns (c : Thread nD τ) (st1_0 t) fullShare ((sumDat m f c).after 0 t)
          ∗ owns (c : Thread nD τ) (st1_1 t) fullShare ((sumDat m f c).after 1 t)) from ?_) rfl .rfl fun _ => .rfl
  unfold bodyAt1
  simp only [before_0]
  rw [show (sumDat m f c).Φ t.succ = (sumDat m f c).Φ t.castSucc from rfl,
    show (sumDat m f c).owesAt () t.succ = (sumDat m f c).owesAt () t.castSucc from rfl, after_0, after_1]
  iintro ⟨HΦ, Ho, ⟨%d0, H0⟩, ⟨%d1, H1⟩⟩
  iapply (sum_triple c Set.univ (grid1.coords t) _ _ _ _ (blockOf f c t) _)
  isplitl [H0]; · iexact H0
  isplitl [H1]; · iexists _; iexact H1
  iintro ⟨H0, H1⟩
  isplitl [HΦ]; · iexact HΦ
  isplitl [Ho]; · iexact Ho
  isplitl [H0] <;> iassumption

/-- The sum of the panels of a stack of four. -/
def sumOf (x : FVec F S4x6656x1024 .f32) : FVec F S6656x1024 .f32 :=
  fun y => FloatOps.addf (FloatOps.addf (FloatOps.addf (x (inPanel 0 y)) (x (inPanel 1 y))) (x (inPanel 2 y))) (x (inPanel 3 y))

theorem index_0 : ∀ t : Fin cfg1.N, win1_0.index t = ![0, t.val, 0] := by decide
theorem index_1 : ∀ t : Fin cfg1.N, win1_1.index t = ![t.val, 0] := by decide

/-- Block `t` of the sum reads block `t` of every panel. -/
theorem blocks (f : FVec F S4x6656x1024 .f32) (t : Fin cfg1.N) (j : Fin 4) (y : S512x1024.Idx) :
    ((cfg1.win 0).blk t).view.read (Elt F) f (inPanel j y) = f (inPanel j (((cfg1.win 1).blk t).view.emb y)) := by
  refine congrArg f (funext fun a => Fin.ext ?_)
  match a with
  | ⟨0, _⟩ => blk_simp [index_0]; rfl
  | ⟨1, _⟩ =>
    show _ = (((cfg1.win 1).blk t).view.emb y 0).val
    blk_simp [index_0, index_1]; rfl
  | ⟨2, _⟩ =>
    show _ = (((cfg1.win 1).blk t).view.emb y 1).val
    blk_simp [index_0, index_1]; rfl

theorem sum_final (c : Dev nD) : (sumDat m f c).arrAt 1 cfg1.N = sumOf (f c) := by
  refine (sumDat m f c).arrAt_eq_of_covers 1 _ (by decide +kernel) fun t hf y => ?_
  blk_simp
  rw [after_1]
  exact (blockSum_apply _ _).trans (congrArg₂ FloatOps.addf (congrArg₂ FloatOps.addf (congrArg₂ FloatOps.addf (blocks (f c) t 0 y) (blocks (f c) t 1 y))
    (blocks (f c) t 2 y)) (blocks (f c) t 3 y))

/-! ## The program -/

/-- What the exchange leaves on device `c`. -/
def gathered {V : Type} (A : Dev nD → (Stack 4 6656 1024).Idx → V) (c : Dev nD) (i : (Stack 4 6656 1024).Idx) : V :=
  A (sender c (panelOf i)) (inPanel (place c) (restOf i))

theorem stores (c : Dev nD) (G : (w : Fin cfg1.W) → Buf (Elt F) ((cfg1.win w).arr.view.loc (c : Thread nD τ))) :
    (sumDat m f c).arrays G = iprop(((c : Thread nD τ).loc main_v1 ↦{fullShare} G 0) ∗ ((c : Thread nD τ).loc main_v2 ↦{fullShare} G 1)) :=
  (bigSep_W1 _).trans (congrArg₂ (fun P Q : sProp 𝕄 => iprop(P ∗ Q))
    (congrArg (fun I => ((c : Thread nD τ).loc main_v1 ↦[I]{fullShare} G 0 : sProp 𝕄)) (arr_whole1 0).set_eq_univ)
    (congrArg (fun I => ((c : Thread nD τ).loc main_v2 ↦[I]{fullShare} G 1 : sProp 𝕄)) (arr_whole1 1).set_eq_univ))

theorem enter (c : Dev nD) : iprop(((c : Thread nD τ).loc main_v1 ↦{fullShare} f c)
      ∗ ((c : Thread nD τ).loc main_v2 ↦{fullShare} m ((c : Thread nD τ).loc main_v2)))
    ⊢ (sumDat m f c).arrays ((sumDat m f c).arrAt · 0) := by
  rw [stores, show (sumDat m f c).arrAt 0 0 = f c from A_0 m f c,
    show (sumDat m f c).arrAt 1 0 = m ((c : Thread nD τ).loc main_v2) from A_1 m f c]

theorem leave (c : Dev nD) : (sumDat m f c).arrays ((sumDat m f c).arrAt · cfg1.N)
    ⊢ iprop(((c : Thread nD τ).loc main_v2 ↦{fullShare} sumOf (f c)) ∗ True) := by
  rw [stores, sum_final]
  iintro ⟨-, H⟩
  isplitl [H]
  · iexact H
  ipureintro
  trivial

theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v2) = sumOf (gathered (fun d => m ((d.tc : Thread nD τ).loc main_arg0)) c))
      ∧ r.2.sem = fun _ => 0 :=
  haveI : IsEmpty (Fin (pcfgs (F := F) 0).W) := inferInstanceAs (IsEmpty (Fin 0))
  haveI : IsEmpty (Fin (pcfgs (F := F) 0).pre.K) := inferInstanceAs (IsEmpty (Fin 0))
  haveI : IsEmpty (Fin (pcfgs (F := F) 1).pre.K) := inferInstanceAs (IsEmpty (Fin 0))
  run_summed (pcfgs (F := F)) (fun _ p => (cfgs p).toPCfg_adm) cellOf_inj defs₀ Variants.none slots (fun _ => fullShare) m
    (fun c => gathered (fun d => m ((d.tc : Thread nD τ).loc main_arg0)) c) (fun p j y => rfl)
    (fun c => sumDat m (gathered fun d => m ((d.tc : Thread nD τ).loc main_arg0)) c) main_v2
    (fun c => sumOf (gathered (fun d => m ((d.tc : Thread nD τ).loc main_arg0)) c))
    ownSems winFacts0.to₀ (fun _ => N_0) isBody (View.set_whole _) (View.set_whole _) g
    (slots.src_panels _ _ _ _ slots.places)
    winFacts1.to₀ block_pos1 stage_whole1 (fun c => (sum_body m _ c).loose) (fun _ _ => rfl) (fun _ => rfl) (fun _ => .rfl) (fun _ => .rfl)
    (fun c => enter m _ c) (fun c => leave m _ c) main (fun c => rfl)
    (fun c => (BIBase.Entails.of_eq (bigSep_eq_bigSepL_of_eq [main_arg0, main_v1, main_v2] (by decide) (by decide) _)))
    (by decide)

end Cert.Exchange.Chips
-- ==== Proof.SumCores.lean ====
/-
The exchange of partial sums between the two cores of a chip, and the sum that follows it. Both cores write panel `c % 2` of
both results; so panel `j` of the result of `c` is the source of core `j` of the chip of `c`.
-/
module

public import proofs.«01_k».proof.Proof.Summed
public import proofs.«01_k».proof.Proof.Sums
public import proofs.«01_k».proof.Proof.Gen.SumCoresIdeal.Skeleton
public import proofs.«01_k».proof.Proof.Gen.SumCoresIdeal.Launch
public import proofs.«01_k».proof.Proof.Gen.SumCoresIdeal.Points
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Exchange.Cores

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SumCoresIdeal Cert.SumCoresIdeal.Gen Cert.Exchange
open Idealize.ShloMosaic.Pipeline (Dat)

set_option Elab.async false

/-! ## The exchange -/

def peer (k : Fin 1) (c : Dev nD) : Dev nD := ⟨k0_dev1 c, k0_dev1_lt c⟩
def near (k : Fin 1) (c : Dev nD) : Dev nD := (![1, 0, 3, 2, 5, 4, 7, 6] : Fin 8 → Fin 8) c

theorem peer_eq (k : Fin 1) (c : Dev nD) : peer k c = near k c := by
  apply Fin.ext
  show k0_dev1 c = _
  rw [k0_dev1_eq]
  revert k c
  decide

def place (c : Dev nD) : Fin 2 := ⟨c.val % 2, Nat.mod_lt _ (by decide)⟩
def sender (c : Dev nD) (j : Fin 2) : Dev nD := ⟨2 * (c.val / 2) + j.val, by have h : c.val < 8 := c.isLt; have := j.isLt; show _ < 8; omega⟩

def slots : Slots nD sig where
  K := 1
  n' := 1
  n := 2
  R := 6656
  C := 1024
  elt := .f32
  S := Memref.whole main_arg0
  D := Memref.whole main_v1
  soff _ _ := ![0, 0, 0]
  sinb _ _ := inb_S1x6656x1024_S1x6656x1024_0_0_0
  doff := k0_off1
  dinb := k0_off1_inb
  sq := squeezes_S1x6656x1024_S6656x1024
  src_exact _ _ := (View.wordExact_bits rfl).reshape _ _
  dst_exact _ := (View.wordExact_bits rfl).reshape _ _
  dst_scr := rfl
  sendS := ![((cc0_scratch0.slice (Rect.unit (s := S1) ![0] S1.size inb_S1_S1_0)).squeeze S_ squeezes_S1_S_).sem]
  recvS := ![((cc0_scratch1.slice (Rect.unit (s := S1) ![0] S1.size inb_S1_S1_0)).squeeze S_ squeezes_S1_S_).sem]
  localS := cc0_scratch2.sem
  peer := peer
  peer_peer k c := by rw [peer_eq, peer_eq]; revert k c; decide
  bytes := (panel (Memref.whole main_v1) (k0_off1 0) (k0_off1_inb 0) squeezes_S1x6656x1024_S6656x1024).view.dmaCredit
  bytes_pos := View.dmaCredit_pos _ (by decide)
  src_credit _ _ := rfl
  dst_credit _ := rfl
  place := place
  pick _ := 0
  sender := sender
  doff_eq := k0_off1_eq
  soff_none _ := rfl
  soff_some _ _ := rfl
  sender_own c := by revert c; decide
  sender_peer k c := by rw [peer_eq]; revert k c; decide
  places c := by
    simp only [peer_eq]
    revert c; decide

variable {F : FTy → Type} [FloatOps F]

theorem body_eq : cc0_swap_cores (F := F) (Memref.whole main_arg0) (Memref.isWhole_whole _) (Memref.whole main_v1) (Memref.isWhole_whole _)
      cc0_scratch0 cc0_scratch1 cc0_scratch2
    = .op .deviceId fun c => slots.toXch.prog c := by
  rw [cc0_swap_cores_eq_skeleton]
  unfold cc0_swap_cores_skel
  simp only [k0_part1_eq_skeleton, k0_part1_skel, Prog.lift, Prog.bind_op, Prog.bind_ret, Prog.pure_eq_ret]
  rfl

theorem isBody : IsBody (τ := τ) (Val := Elt F) (pcfgs (F := F)) (fun _ p => (cfgs p).toPCfg_adm) defs₀ Variants.none slots.toXch 0 := fun c t Q => by
  refine BIBase.Entails.trans ?_ (BIBase.Entails.of_eq (congrArg (fun b => wp frame (wpE defs₀ Variants.none (c.tc : Thread nD τ) none) Set.univ b fun _ => Q ⟨⟩)
    (show _ = (bodyAt0 (F := F) t : Prog (TpuEff nD τ sig (Elt F) Λ₀ .tc) PUnit) from rfl)).symm)
  unfold bodyAt0
  rw [body_eq, wp_deviceId]

theorem ownSems : Pipeline.OwnSemFacts cfg0.spec slots.toXch.osem := by decide

/-! ## The sum -/

local notation "𝕄" => MT nD τ sig Unit (Elt F) ℕ (UU nD τ sig) ℕ

/-- The sum of a block's panels. -/
def blockSum (x : Vec F S2x512x1024 .f32) : FVec F S512x1024 .f32 :=
  k1_pay1 (View.ld x (Rect.unit (s := S2x512x1024) ![0, 0, 0] S1x512x1024.size inb_S2x512x1024_S1x512x1024_0_0_0))
    (View.ld x (Rect.unit (s := S2x512x1024) ![1, 0, 0] S1x512x1024.size inb_S2x512x1024_S1x512x1024_1_0_0))

theorem blockSum_apply (x : Vec F S2x512x1024 .f32) (y : S512x1024.Idx) :
    blockSum x y = FloatOps.addf (x (inPanel 0 y)) (x (inPanel 1 y)) :=
  congrArg₂ FloatOps.addf (panel_load x 0 _ _ y) (panel_load x 1 _ _ y)

theorem sum_triple (c : Dev nD) (E : Set ℕ) (i : grid1.Coords) (arg1 : Memref sig .tc .vmem S2x512x1024 .f32) (harg1 : arg1.IsWhole)
    (arg2 : Memref sig .tc .vmem S512x1024 .f32) (harg2 : arg2.IsWhole) (x : Vec F S2x512x1024 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (blockSum x)) -∗ K ⟨⟩))
      ⊢ wp frame (wpE (defs₀ (F := F)) Variants.none c none) E (cc1_sum_cores i arg1 harg1 arg2 harg2) K := by
  simp only [cc1_sum_cores_eq_skeleton]; unfold cc1_sum_cores_skel
  unfold owns
  iintro ⟨⟨%f0, %hf0, H0⟩, ⟨%d1, %f1, -, H1⟩, Hk⟩
  subst hf0
  sl_exec
  sl_step
  iapply Hk
  isplitl [H0]
  · iexists f0
    isplitr; · ipureintro; rfl
    iexact H0
  iexists _
  isplitr
  swap; · iexact H1
  ipureintro
  exact (View.read_writes_eq_canon _ _ _ fun y => View.cover_of_tiled [⟨_, _⟩] S512x1024.size (by rfl) y).trans (View.canon_unit_zero (by decide) _ _)

/-- The exchange's result in blocks. -/
def blockOf (f : (c : Dev nD) → Buf (Elt F) ((c : Thread nD τ).loc main_v1)) (c : Dev nD) (t : Fin cfg1.N) : Vec F S2x512x1024 .f32 :=
  ((cfg1.win 0).blk t).view.read (Elt F) (f c)

variable (m : (ℓ : Loc nD τ sig) → Buf (Elt F) ℓ) (f : (c : Dev nD) → Buf (Elt F) ((c : Thread nD τ).loc main_v1))

def sumDat (c : Dev nD) : Dat τ (Elt F) Unit ℕ (UU nD τ sig) ℕ cfg1 c where
  A w := match w with
    | ⟨0, _⟩ => f c
    | ⟨1, _⟩ => m ((c : Thread nD τ).loc main_v2)
  after w t := match w with
    | ⟨0, _⟩ => blockOf f c t
    | ⟨1, _⟩ => blockSum (blockOf f c t)
  Φ _ := Pipeline.scopedRest spec1 c
  q _ := fullShare
  owed _ := 0

theorem A_0 (c : Dev nD) : (sumDat m f c).A 0 = f c := by dsimp only [sumDat]
theorem A_1 (c : Dev nD) : (sumDat m f c).A 1 = m ((c : Thread nD τ).loc main_v2) := by dsimp only [sumDat]
theorem after_0 (c : Dev nD) (t : Fin cfg1.N) : (sumDat m f c).after 0 t = blockOf f c t := by dsimp only [sumDat]
theorem after_1 (c : Dev nD) (t : Fin cfg1.N) : (sumDat m f c).after 1 t = blockSum (blockOf f c t) := by dsimp only [sumDat]

theorem before_0 (c : Dev nD) (t : Fin cfg1.N) (d) : (sumDat m f c).before 0 t d = blockOf f c t :=
  ((sumDat m f c).before_in_eq_fetched 0 rfl (fun _ => rfl) (fun _ _ _ => rfl)
    (fun t => by rw [after_0]; unfold Dat.blockOf blockOf; rw [A_0]; try rfl) t d).trans
    (by unfold Dat.fetched Dat.blockOf blockOf; rw [A_0]; try rfl)

theorem sum_body (c : Dev nD) : Pipeline.BodyObligation (sumDat m f c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  refine triple_restated (show
      iprop((sumDat m f c).Φ t.castSucc ∗ (sumDat m f c).owesAt () t.castSucc
        ∗ (∃ d, owns (c : Thread nD τ) (st1_0 t) fullShare ((sumDat m f c).before 0 t d))
        ∗ (∃ d, owns (c : Thread nD τ) (st1_1 t) fullShare ((sumDat m f c).before 1 t d)))
      ⊢ wp frame (wpE (defs₀ (F := F)) Variants.none c none) Set.univ (bodyAt1 t) fun _ =>
        iprop((sumDat m f c).Φ t.succ ∗ (sumDat m f c).owesAt () t.succ
          ∗ owns (c : Thread nD τ) (st1_0 t) fullShare ((sumDat m f c).after 0 t)
          ∗ owns (c : Thread nD τ) (st1_1 t) fullShare ((sumDat m f c).after 1 t)) from ?_) rfl .rfl fun _ => .rfl
  unfold bodyAt1
  simp only [before_0]
  rw [show (sumDat m f c).Φ t.succ = (sumDat m f c).Φ t.castSucc from rfl,
    show (sumDat m f c).owesAt () t.succ = (sumDat m f c).owesAt () t.castSucc from rfl, after_0, after_1]
  iintro ⟨HΦ, Ho, ⟨%d0, H0⟩, ⟨%d1, H1⟩⟩
  iapply (sum_triple c Set.univ (grid1.coords t) _ _ _ _ (blockOf f c t) _)
  isplitl [H0]; · iexact H0
  isplitl [H1]; · iexists _; iexact H1
  iintro ⟨H0, H1⟩
  isplitl [HΦ]; · iexact HΦ
  isplitl [Ho]; · iexact Ho
  isplitl [H0] <;> iassumption

/-- The sum of the panels of a stack of two. -/
def sumOf (x : FVec F S2x6656x1024 .f32) : FVec F S6656x1024 .f32 :=
  fun y => FloatOps.addf (x (inPanel 0 y)) (x (inPanel 1 y))

theorem index_0 : ∀ t : Fin cfg1.N, win1_0.index t = ![0, t.val, 0] := by decide
theorem index_1 : ∀ t : Fin cfg1.N, win1_1.index t = ![t.val, 0] := by decide

/-- Block `t` of the sum reads block `t` of every panel. -/
theorem blocks (f : FVec F S2x6656x1024 .f32) (t : Fin cfg1.N) (j : Fin 2) (y : S512x1024.Idx) :
    ((cfg1.win 0).blk t).view.read (Elt F) f (inPanel j y) = f (inPanel j (((cfg1.win 1).blk t).view.emb y)) := by
  refine congrArg f (funext fun a => Fin.ext ?_)
  match a with
  | ⟨0, _⟩ => blk_simp [index_0]; rfl
  | ⟨1, _⟩ =>
    show _ = (((cfg1.win 1).blk t).view.emb y 0).val
    blk_simp [index_0, index_1]; rfl
  | ⟨2, _⟩ =>
    show _ = (((cfg1.win 1).blk t).view.emb y 1).val
    blk_simp [index_0, index_1]; rfl

theorem sum_final (c : Dev nD) : (sumDat m f c).arrAt 1 cfg1.N = sumOf (f c) := by
  refine (sumDat m f c).arrAt_eq_of_covers 1 _ (by decide +kernel) fun t hf y => ?_
  blk_simp
  rw [after_1]
  exact (blockSum_apply _ _).trans (congrArg₂ FloatOps.addf (blocks (f c) t 0 y) (blocks (f c) t 1 y))

/-! ## The program -/

/-- What the exchange leaves on device `c`. -/
def gathered {V : Type} (A : Dev nD → (Stack 1 6656 1024).Idx → V) (c : Dev nD) (i : (Stack 2 6656 1024).Idx) : V :=
  A (sender c (panelOf i)) (inPanel 0 (restOf i))

theorem stores (c : Dev nD) (G : (w : Fin cfg1.W) → Buf (Elt F) ((cfg1.win w).arr.view.loc (c : Thread nD τ))) :
    (sumDat m f c).arrays G = iprop(((c : Thread nD τ).loc main_v1 ↦{fullShare} G 0) ∗ ((c : Thread nD τ).loc main_v2 ↦{fullShare} G 1)) :=
  (bigSep_W1 _).trans (congrArg₂ (fun P Q : sProp 𝕄 => iprop(P ∗ Q))
    (congrArg (fun I => ((c : Thread nD τ).loc main_v1 ↦[I]{fullShare} G 0 : sProp 𝕄)) (arr_whole1 0).set_eq_univ)
    (congrArg (fun I => ((c : Thread nD τ).loc main_v2 ↦[I]{fullShare} G 1 : sProp 𝕄)) (arr_whole1 1).set_eq_univ))

theorem enter (c : Dev nD) : iprop(((c : Thread nD τ).loc main_v1 ↦{fullShare} f c)
      ∗ ((c : Thread nD τ).loc main_v2 ↦{fullShare} m ((c : Thread nD τ).loc main_v2)))
    ⊢ (sumDat m f c).arrays ((sumDat m f c).arrAt · 0) := by
  rw [stores, show (sumDat m f c).arrAt 0 0 = f c from A_0 m f c,
    show (sumDat m f c).arrAt 1 0 = m ((c : Thread nD τ).loc main_v2) from A_1 m f c]

theorem leave (c : Dev nD) : (sumDat m f c).arrays ((sumDat m f c).arrAt · cfg1.N)
    ⊢ iprop(((c : Thread nD τ).loc main_v2 ↦{fullShare} sumOf (f c)) ∗ True) := by
  rw [stores, sum_final]
  iintro ⟨-, H⟩
  isplitl [H]
  · iexact H
  ipureintro
  trivial

theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v2) = sumOf (gathered (fun d => m ((d.tc : Thread nD τ).loc main_arg0)) c))
      ∧ r.2.sem = fun _ => 0 :=
  haveI : IsEmpty (Fin (pcfgs (F := F) 0).W) := inferInstanceAs (IsEmpty (Fin 0))
  haveI : IsEmpty (Fin (pcfgs (F := F) 0).pre.K) := inferInstanceAs (IsEmpty (Fin 0))
  haveI : IsEmpty (Fin (pcfgs (F := F) 1).pre.K) := inferInstanceAs (IsEmpty (Fin 0))
  run_summed (pcfgs (F := F)) (fun _ p => (cfgs p).toPCfg_adm) cellOf_inj defs₀ Variants.none slots (part 1) m
    (fun c => gathered (fun d => m ((d.tc : Thread nD τ).loc main_arg0)) c) (fun p j y => rfl)
    (fun c => sumDat m (gathered fun d => m ((d.tc : Thread nD τ).loc main_arg0)) c) main_v2
    (fun c => sumOf (gathered (fun d => m ((d.tc : Thread nD τ).loc main_arg0)) c))
    ownSems winFacts0.to₀ (fun _ => N_0) isBody (View.set_whole _) (View.set_whole _) g
    (slots.src_shared _ _ _ _ rfl)
    winFacts1.to₀ block_pos1 stage_whole1 (fun c => (sum_body m _ c).loose) (fun _ _ => rfl) (fun _ => rfl) (fun _ => .rfl) (fun _ => .rfl)
    (fun c => enter m _ c) (fun c => leave m _ c) main (fun c => rfl)
    (fun c => (BIBase.Entails.of_eq (bigSep_eq_bigSepL_of_eq [main_arg0, main_v1, main_v2] (by decide) (by decide) _)))
    (by decide)

end Cert.Exchange.Cores
-- ==== Proof.SumSmall.lean ====
/-
The gather of one row from every device of the mesh, and the sum that follows it. Device `j` writes panel `j` of all results.
-/
module

public import proofs.«01_k».proof.Proof.Summed
public import proofs.«01_k».proof.Proof.Sums
public import proofs.«01_k».proof.Proof.Gen.SumSmallIdeal.Skeleton
public import proofs.«01_k».proof.Proof.Gen.SumSmallIdeal.Launch
public import proofs.«01_k».proof.Proof.Gen.SumSmallIdeal.Points
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Exchange.Devices

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.SumSmallIdeal Cert.SumSmallIdeal.Gen Cert.Exchange
open Idealize.ShloMosaic.Pipeline (Dat)

set_option Elab.async false

/-! ## The exchange -/

def peer (k : Fin 7) (c : Dev nD) : Dev nD := ![⟨k0_dev1 c, k0_dev1_lt c⟩, ⟨k0_dev2 c, k0_dev2_lt c⟩, ⟨k0_dev3 c, k0_dev3_lt c⟩, ⟨k0_dev4 c, k0_dev4_lt c⟩,
  ⟨k0_dev5 c, k0_dev5_lt c⟩, ⟨k0_dev6 c, k0_dev6_lt c⟩, ⟨k0_dev7 c, k0_dev7_lt c⟩] k
/-- The peers' numbers, in place of what computes them. -/
def near (k : Fin 7) (c : Dev nD) : Dev nD := ![(![1, 0, 3, 2, 5, 4, 7, 6] : Fin 8 → Fin 8) c,
  (![2, 3, 0, 1, 6, 7, 4, 5] : Fin 8 → Fin 8) c,
  (![3, 2, 1, 0, 7, 6, 5, 4] : Fin 8 → Fin 8) c,
  (![4, 5, 6, 7, 0, 1, 2, 3] : Fin 8 → Fin 8) c,
  (![5, 4, 7, 6, 1, 0, 3, 2] : Fin 8 → Fin 8) c,
  (![6, 7, 4, 5, 2, 3, 0, 1] : Fin 8 → Fin 8) c,
  (![7, 6, 5, 4, 3, 2, 1, 0] : Fin 8 → Fin 8) c] k

theorem peer_eq (k : Fin 7) (c : Dev nD) : peer k c = near k c := by
  apply Fin.ext
  match k with
  | 0 => exact (k0_dev1_eq c).trans (by revert c; decide)
  | 1 => exact (k0_dev2_eq c).trans (by revert c; decide)
  | 2 => exact (k0_dev3_eq c).trans (by revert c; decide)
  | 3 => exact (k0_dev4_eq c).trans (by revert c; decide)
  | 4 => exact (k0_dev5_eq c).trans (by revert c; decide)
  | 5 => exact (k0_dev6_eq c).trans (by revert c; decide)
  | 6 => exact (k0_dev7_eq c).trans (by revert c; decide)

def place (c : Dev nD) : Fin 8 := c
def sender (c : Dev nD) (j : Fin 8) : Dev nD := j

theorem off1_place (c : Dev nD) : k0_off1 c = ![(place c).val, 0, 0] :=
  (k0_off1_eq c).trans (off_congr (by revert c; decide))

def slots : Slots nD sig where
  K := 7
  n' := 1
  n := 8
  R := 1
  C := 18560
  elt := .f32
  S := Memref.whole main_arg0
  D := Memref.whole main_v1
  soff _ _ := ![0, 0, 0]
  sinb _ _ := inb_S1x1x18560_S1x1x18560_0_0_0
  doff := k0_off1
  dinb := k0_off1_inb
  sq := squeezes_S1x1x18560_S1x18560
  src_exact _ _ := (View.wordExact_bits rfl).reshape _ _
  dst_exact _ := (View.wordExact_bits rfl).reshape _ _
  dst_scr := rfl
  sendS := ![((cc0_scratch0.slice (Rect.unit (s := S7) ![0] S1.size inb_S7_S1_0)).squeeze S_ squeezes_S1_S_).sem,
    ((cc0_scratch0.slice (Rect.unit (s := S7) ![1] S1.size inb_S7_S1_1)).squeeze S_ squeezes_S1_S_).sem,
    ((cc0_scratch0.slice (Rect.unit (s := S7) ![2] S1.size inb_S7_S1_2)).squeeze S_ squeezes_S1_S_).sem,
    ((cc0_scratch0.slice (Rect.unit (s := S7) ![3] S1.size inb_S7_S1_3)).squeeze S_ squeezes_S1_S_).sem,
    ((cc0_scratch0.slice (Rect.unit (s := S7) ![4] S1.size inb_S7_S1_4)).squeeze S_ squeezes_S1_S_).sem,
    ((cc0_scratch0.slice (Rect.unit (s := S7) ![5] S1.size inb_S7_S1_5)).squeeze S_ squeezes_S1_S_).sem,
    ((cc0_scratch0.slice (Rect.unit (s := S7) ![6] S1.size inb_S7_S1_6)).squeeze S_ squeezes_S1_S_).sem]
  recvS := ![((cc0_scratch1.slice (Rect.unit (s := S7) ![0] S1.size inb_S7_S1_0)).squeeze S_ squeezes_S1_S_).sem,
    ((cc0_scratch1.slice (Rect.unit (s := S7) ![1] S1.size inb_S7_S1_1)).squeeze S_ squeezes_S1_S_).sem,
    ((cc0_scratch1.slice (Rect.unit (s := S7) ![2] S1.size inb_S7_S1_2)).squeeze S_ squeezes_S1_S_).sem,
    ((cc0_scratch1.slice (Rect.unit (s := S7) ![3] S1.size inb_S7_S1_3)).squeeze S_ squeezes_S1_S_).sem,
    ((cc0_scratch1.slice (Rect.unit (s := S7) ![4] S1.size inb_S7_S1_4)).squeeze S_ squeezes_S1_S_).sem,
    ((cc0_scratch1.slice (Rect.unit (s := S7) ![5] S1.size inb_S7_S1_5)).squeeze S_ squeezes_S1_S_).sem,
    ((cc0_scratch1.slice (Rect.unit (s := S7) ![6] S1.size inb_S7_S1_6)).squeeze S_ squeezes_S1_S_).sem]
  localS := cc0_scratch2.sem
  peer := peer
  peer_peer k c := by rw [peer_eq, peer_eq]; revert k c; decide
  bytes := (panel (Memref.whole main_v1) (k0_off1 0) (k0_off1_inb 0) squeezes_S1x1x18560_S1x18560).view.dmaCredit
  bytes_pos := View.dmaCredit_pos _ (by decide)
  src_credit _ _ := rfl
  dst_credit _ := rfl
  place := place
  pick _ := 0
  sender := sender
  doff_eq := off1_place
  soff_none _ := rfl
  soff_some _ _ := rfl
  sender_own c := by revert c; decide
  sender_peer k c := by rw [peer_eq]; revert k c; decide
  places c := by
    have : (fun o : Option (Fin 7) => o.elim (place c) fun k => place (peer k c)) = fun o => o.elim (place c) fun k => place (near k c) := by
      funext o; cases o with
      | none => rfl
      | some k => exact congrArg place (peer_eq k c)
    rw [this]; revert c; decide

variable {F : FTy → Type} [FloatOps F]

theorem body_eq : cc0_gather_small_grads (F := F) (Memref.whole main_arg0) (Memref.isWhole_whole _) (Memref.whole main_v1) (Memref.isWhole_whole _)
      cc0_scratch0 cc0_scratch1 cc0_scratch2
    = .op .deviceId fun c => slots.toXch.prog c := by
  rw [cc0_gather_small_grads_eq_skeleton]
  unfold cc0_gather_small_grads_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton,
    k0_part1_skel, k0_part2_skel, k0_part3_skel, k0_part4_skel, k0_part5_skel, k0_part6_skel, k0_part7_skel, k0_part8_skel, k0_part9_skel,
    Prog.lift, Prog.bind_op, Prog.bind_ret, Prog.pure_eq_ret]
  rfl

theorem isBody : IsBody (τ := τ) (Val := Elt F) (pcfgs (F := F)) (fun _ p => (cfgs p).toPCfg_adm) defs₀ Variants.none slots.toXch 0 := fun c t Q => by
  refine BIBase.Entails.trans ?_ (BIBase.Entails.of_eq (congrArg (fun b => wp frame (wpE defs₀ Variants.none (c.tc : Thread nD τ) none) Set.univ b fun _ => Q ⟨⟩)
    (show _ = (bodyAt0 (F := F) t : Prog (TpuEff nD τ sig (Elt F) Λ₀ .tc) PUnit) from rfl)).symm)
  unfold bodyAt0
  rw [body_eq, wp_deviceId]

theorem ownSems : Pipeline.OwnSemFacts cfg0.spec slots.toXch.osem := by decide

/-! ## The sum -/

local notation "𝕄" => MT nD τ sig Unit (Elt F) ℕ (UU nD τ sig) ℕ

/-- The sum of a block's panels. -/
def blockSum (x : Vec F S8x1x18560 .f32) : FVec F S1x18560 .f32 :=
  k1_pay1 (View.ld x (Rect.unit (s := S8x1x18560) ![0, 0, 0] S1x1x18560.size inb_S8x1x18560_S1x1x18560_0_0_0))
    (View.ld x (Rect.unit (s := S8x1x18560) ![1, 0, 0] S1x1x18560.size inb_S8x1x18560_S1x1x18560_1_0_0))
    (View.ld x (Rect.unit (s := S8x1x18560) ![2, 0, 0] S1x1x18560.size inb_S8x1x18560_S1x1x18560_2_0_0))
    (View.ld x (Rect.unit (s := S8x1x18560) ![3, 0, 0] S1x1x18560.size inb_S8x1x18560_S1x1x18560_3_0_0))
    (View.ld x (Rect.unit (s := S8x1x18560) ![4, 0, 0] S1x1x18560.size inb_S8x1x18560_S1x1x18560_4_0_0))
    (View.ld x (Rect.unit (s := S8x1x18560) ![5, 0, 0] S1x1x18560.size inb_S8x1x18560_S1x1x18560_5_0_0))
    (View.ld x (Rect.unit (s := S8x1x18560) ![6, 0, 0] S1x1x18560.size inb_S8x1x18560_S1x1x18560_6_0_0))
    (View.ld x (Rect.unit (s := S8x1x18560) ![7, 0, 0] S1x1x18560.size inb_S8x1x18560_S1x1x18560_7_0_0))

theorem blockSum_apply (x : Vec F S8x1x18560 .f32) (y : S1x18560.Idx) :
    blockSum x y = FloatOps.addf (FloatOps.addf (FloatOps.addf (FloatOps.addf (FloatOps.addf (FloatOps.addf (FloatOps.addf (x (inPanel 0 y)) (x (inPanel 1 y))) (x (inPanel 2 y))) (x (inPanel 3 y))
      ) (x (inPanel 4 y))) (x (inPanel 5 y))) (x (inPanel 6 y))) (x (inPanel 7 y)) :=
  congrArg₂ FloatOps.addf (congrArg₂ FloatOps.addf (congrArg₂ FloatOps.addf (congrArg₂ FloatOps.addf (congrArg₂ FloatOps.addf (congrArg₂ FloatOps.addf (congrArg₂ FloatOps.addf (panel_load x 0 _ _ y) (panel_load x 1 _ _ y)) (panel_load x 2 _ _ y)
      ) (panel_load x 3 _ _ y)) (panel_load x 4 _ _ y)
      ) (panel_load x 5 _ _ y)) (panel_load x 6 _ _ y)
      ) (panel_load x 7 _ _ y)

theorem sum_triple (c : Dev nD) (E : Set ℕ) (i : grid1.Coords) (arg1 : Memref sig .tc .vmem S8x1x18560 .f32) (harg1 : arg1.IsWhole)
    (arg2 : Memref sig .tc .vmem S1x18560 .f32) (harg2 : arg2.IsWhole) (x : Vec F S8x1x18560 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (blockSum x)) -∗ K ⟨⟩))
      ⊢ wp frame (wpE (defs₀ (F := F)) Variants.none c none) E (cc1_sum_small_grads i arg1 harg1 arg2 harg2) K := by
  simp only [cc1_sum_small_grads_eq_skeleton]; unfold cc1_sum_small_grads_skel
  unfold owns
  iintro ⟨⟨%f0, %hf0, H0⟩, ⟨%d1, %f1, -, H1⟩, Hk⟩
  subst hf0
  sl_exec
  sl_step
  iapply Hk
  isplitl [H0]
  · iexists f0
    isplitr; · ipureintro; rfl
    iexact H0
  iexists _
  isplitr
  swap; · iexact H1
  ipureintro
  exact (View.read_writes_eq_canon _ _ _ fun y => View.cover_of_tiled [⟨_, _⟩] S1x18560.size (by rfl) y).trans (View.canon_unit_zero (by decide) _ _)

/-- The exchange's result in blocks. -/
def blockOf (f : (c : Dev nD) → Buf (Elt F) ((c : Thread nD τ).loc main_v1)) (c : Dev nD) (t : Fin cfg1.N) : Vec F S8x1x18560 .f32 :=
  ((cfg1.win 0).blk t).view.read (Elt F) (f c)

variable (m : (ℓ : Loc nD τ sig) → Buf (Elt F) ℓ) (f : (c : Dev nD) → Buf (Elt F) ((c : Thread nD τ).loc main_v1))

def sumDat (c : Dev nD) : Dat τ (Elt F) Unit ℕ (UU nD τ sig) ℕ cfg1 c where
  A w := match w with
    | ⟨0, _⟩ => f c
    | ⟨1, _⟩ => m ((c : Thread nD τ).loc main_v2)
  after w t := match w with
    | ⟨0, _⟩ => blockOf f c t
    | ⟨1, _⟩ => blockSum (blockOf f c t)
  Φ _ := Pipeline.scopedRest spec1 c
  q _ := fullShare
  owed _ := 0

theorem A_0 (c : Dev nD) : (sumDat m f c).A 0 = f c := by dsimp only [sumDat]
theorem A_1 (c : Dev nD) : (sumDat m f c).A 1 = m ((c : Thread nD τ).loc main_v2) := by dsimp only [sumDat]
theorem after_0 (c : Dev nD) (t : Fin cfg1.N) : (sumDat m f c).after 0 t = blockOf f c t := by dsimp only [sumDat]
theorem after_1 (c : Dev nD) (t : Fin cfg1.N) : (sumDat m f c).after 1 t = blockSum (blockOf f c t) := by dsimp only [sumDat]

theorem before_0 (c : Dev nD) (t : Fin cfg1.N) (d) : (sumDat m f c).before 0 t d = blockOf f c t :=
  ((sumDat m f c).before_in_eq_fetched 0 rfl (fun _ => rfl) (fun _ _ _ => rfl)
    (fun t => by rw [after_0]; unfold Dat.blockOf blockOf; rw [A_0]; try rfl) t d).trans
    (by unfold Dat.fetched Dat.blockOf blockOf; rw [A_0]; try rfl)

theorem sum_body (c : Dev nD) : Pipeline.BodyObligation (sumDat m f c) (defs₀ (F := F)) Variants.none () Set.univ := fun t => by
  rw [bigSep_W1, bigSep_W1, show defs₀ (F := F) .tc cfg1.body (cfg1.bodyArgs t (cfg1.slots t)) = bodyAt1 t by unfold defs₀; rw [Defs.onTc_tc]]
  refine triple_restated (show
      iprop((sumDat m f c).Φ t.castSucc ∗ (sumDat m f c).owesAt () t.castSucc
        ∗ (∃ d, owns (c : Thread nD τ) (st1_0 t) fullShare ((sumDat m f c).before 0 t d))
        ∗ (∃ d, owns (c : Thread nD τ) (st1_1 t) fullShare ((sumDat m f c).before 1 t d)))
      ⊢ wp frame (wpE (defs₀ (F := F)) Variants.none c none) Set.univ (bodyAt1 t) fun _ =>
        iprop((sumDat m f c).Φ t.succ ∗ (sumDat m f c).owesAt () t.succ
          ∗ owns (c : Thread nD τ) (st1_0 t) fullShare ((sumDat m f c).after 0 t)
          ∗ owns (c : Thread nD τ) (st1_1 t) fullShare ((sumDat m f c).after 1 t)) from ?_) rfl .rfl fun _ => .rfl
  unfold bodyAt1
  simp only [before_0]
  rw [show (sumDat m f c).Φ t.succ = (sumDat m f c).Φ t.castSucc from rfl,
    show (sumDat m f c).owesAt () t.succ = (sumDat m f c).owesAt () t.castSucc from rfl, after_0, after_1]
  iintro ⟨HΦ, Ho, ⟨%d0, H0⟩, ⟨%d1, H1⟩⟩
  iapply (sum_triple c Set.univ (grid1.coords t) _ _ _ _ (blockOf f c t) _)
  isplitl [H0]; · iexact H0
  isplitl [H1]; · iexists _; iexact H1
  iintro ⟨H0, H1⟩
  isplitl [HΦ]; · iexact HΦ
  isplitl [Ho]; · iexact Ho
  isplitl [H0] <;> iassumption

/-- The sum of the panels of a stack of eight. -/
def sumOf (x : FVec F S8x1x18560 .f32) : FVec F S1x18560 .f32 :=
  fun y => FloatOps.addf (FloatOps.addf (FloatOps.addf (FloatOps.addf (FloatOps.addf (FloatOps.addf (FloatOps.addf (x (inPanel 0 y)) (x (inPanel 1 y))) (x (inPanel 2 y))) (x (inPanel 3 y))
      ) (x (inPanel 4 y))) (x (inPanel 5 y))) (x (inPanel 6 y))) (x (inPanel 7 y))

theorem index_0 : ∀ t : Fin cfg1.N, win1_0.index t = ![0, 0, 0] := by decide
theorem index_1 : ∀ t : Fin cfg1.N, win1_1.index t = ![0, 0] := by decide

/-- Block `t` of the sum reads block `t` of every panel. -/
theorem blocks (f : FVec F S8x1x18560 .f32) (t : Fin cfg1.N) (j : Fin 8) (y : S1x18560.Idx) :
    ((cfg1.win 0).blk t).view.read (Elt F) f (inPanel j y) = f (inPanel j (((cfg1.win 1).blk t).view.emb y)) := by
  refine congrArg f (funext fun a => Fin.ext ?_)
  match a with
  | ⟨0, _⟩ => blk_simp [index_0]; rfl
  | ⟨1, _⟩ =>
    show _ = (((cfg1.win 1).blk t).view.emb y 0).val
    blk_simp [index_0, index_1]
  | ⟨2, _⟩ =>
    show _ = (((cfg1.win 1).blk t).view.emb y 1).val
    blk_simp [index_0, index_1]; rfl

theorem sum_final (c : Dev nD) : (sumDat m f c).arrAt 1 cfg1.N = sumOf (f c) := by
  refine (sumDat m f c).arrAt_eq_of_covers 1 _ (by decide +kernel) fun t hf y => ?_
  blk_simp
  rw [after_1]
  exact (blockSum_apply _ _).trans (congrArg₂ FloatOps.addf (congrArg₂ FloatOps.addf (congrArg₂ FloatOps.addf (congrArg₂ FloatOps.addf (congrArg₂ FloatOps.addf (congrArg₂ FloatOps.addf (congrArg₂ FloatOps.addf (blocks (f c) t 0 y) (blocks (f c) t 1 y)) (blocks (f c) t 2 y)
      ) (blocks (f c) t 3 y)) (blocks (f c) t 4 y)
      ) (blocks (f c) t 5 y)) (blocks (f c) t 6 y)
      ) (blocks (f c) t 7 y))

/-! ## The program -/

/-- What the exchange leaves on device `c`. -/
def gathered {V : Type} (A : Dev nD → (Stack 1 1 18560).Idx → V) (c : Dev nD) (i : (Stack 8 1 18560).Idx) : V :=
  A (sender c (panelOf i)) (inPanel 0 (restOf i))

theorem stores (c : Dev nD) (G : (w : Fin cfg1.W) → Buf (Elt F) ((cfg1.win w).arr.view.loc (c : Thread nD τ))) :
    (sumDat m f c).arrays G = iprop(((c : Thread nD τ).loc main_v1 ↦{fullShare} G 0) ∗ ((c : Thread nD τ).loc main_v2 ↦{fullShare} G 1)) :=
  (bigSep_W1 _).trans (congrArg₂ (fun P Q : sProp 𝕄 => iprop(P ∗ Q))
    (congrArg (fun I => ((c : Thread nD τ).loc main_v1 ↦[I]{fullShare} G 0 : sProp 𝕄)) (arr_whole1 0).set_eq_univ)
    (congrArg (fun I => ((c : Thread nD τ).loc main_v2 ↦[I]{fullShare} G 1 : sProp 𝕄)) (arr_whole1 1).set_eq_univ))

theorem enter (c : Dev nD) : iprop(((c : Thread nD τ).loc main_v1 ↦{fullShare} f c)
      ∗ ((c : Thread nD τ).loc main_v2 ↦{fullShare} m ((c : Thread nD τ).loc main_v2)))
    ⊢ (sumDat m f c).arrays ((sumDat m f c).arrAt · 0) := by
  rw [stores, show (sumDat m f c).arrAt 0 0 = f c from A_0 m f c,
    show (sumDat m f c).arrAt 1 0 = m ((c : Thread nD τ).loc main_v2) from A_1 m f c]

theorem leave (c : Dev nD) : (sumDat m f c).arrays ((sumDat m f c).arrAt · cfg1.N)
    ⊢ iprop(((c : Thread nD τ).loc main_v2 ↦{fullShare} sumOf (f c)) ∗ True) := by
  rw [stores, sum_final]
  iintro ⟨-, H⟩
  isplitl [H]
  · iexact H
  ipureintro
  trivial

theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v2) = sumOf (gathered (fun d => m ((d.tc : Thread nD τ).loc main_arg0)) c))
      ∧ r.2.sem = fun _ => 0 :=
  haveI : IsEmpty (Fin (pcfgs (F := F) 0).W) := inferInstanceAs (IsEmpty (Fin 0))
  haveI : IsEmpty (Fin (pcfgs (F := F) 0).pre.K) := inferInstanceAs (IsEmpty (Fin 0))
  haveI : IsEmpty (Fin (pcfgs (F := F) 1).pre.K) := inferInstanceAs (IsEmpty (Fin 0))
  run_summed (pcfgs (F := F)) (fun _ p => (cfgs p).toPCfg_adm) cellOf_inj defs₀ Variants.none slots (part 7) m
    (fun c => gathered (fun d => m ((d.tc : Thread nD τ).loc main_arg0)) c) (fun p j y => rfl)
    (fun c => sumDat m (gathered fun d => m ((d.tc : Thread nD τ).loc main_arg0)) c) main_v2
    (fun c => sumOf (gathered (fun d => m ((d.tc : Thread nD τ).loc main_arg0)) c))
    ownSems winFacts0.to₀ (fun _ => N_0) isBody (View.set_whole _) (View.set_whole _) g
    (slots.src_shared _ _ _ _ rfl)
    winFacts1.to₀ block_pos1 stage_whole1 (fun c => (sum_body m _ c).loose) (fun _ _ => rfl) (fun _ => rfl) (fun _ => .rfl) (fun _ => .rfl)
    (fun c => enter m _ c) (fun c => leave m _ c) main (fun c => rfl)
    (fun c => (BIBase.Entails.of_eq (bigSep_eq_bigSepL_of_eq [main_arg0, main_v1, main_v2] (by decide) (by decide) _)))
    (by decide)

end Cert.Exchange.Devices
-- ==== Proof.Totals.lean ====
/-
The references' sums, and the blocks of them that the devices end with.
-/
module

public import proofs.«01_k».proof.Proof.Refs
public import proofs.«01_k».proof.Proof.SumChips
public import proofs.«01_k».proof.Proof.SumCores
public import proofs.«01_k».proof.Proof.SumSmall
public import proofs.«01_k».proof.Proof.Gen.SumChipsReferenceIdeal.Run
public import proofs.«01_k».proof.Proof.Gen.SumCoresReferenceIdeal.Run
public import proofs.«01_k».proof.Proof.Gen.SumSmallReferenceIdeal.Run

@[expose] public section

noncomputable section

open Idealize.ShloMosaic Cert.Exchange

namespace Cert.Exchange.Chips

open Cert.SumChipsReferenceIdeal

variable {F : FTy → Type} [FloatOps F]

/-- The panels of chip `k`, by core and slot. -/
abbrev chipOf (v : FVec F S32x6656x1024 .f32) (k : Fin 4) (hs : S4x2x4x6656x1024.Slices ![k.val, 0, 0, 0, 0] S1x2x4x6656x1024) :
    FVec F S2x4x6656x1024 .f32 :=
  shapeCast S2x4x6656x1024 (extractStridedSlice S1x2x4x6656x1024 ![k.val, 0, 0, 0, 0]
    (shapeCast S4x2x4x6656x1024 v Gen.shapeCasts_S32x6656x1024_S4x2x4x6656x1024) hs) Gen.shapeCasts_S1x2x4x6656x1024_S2x4x6656x1024

/-- The sum over the chips, slot first. -/
def overChips (v : FVec F S32x6656x1024 .f32) : FVec F S53248x1024 .f32 :=
  shapeCast S53248x1024 (transpose S4x2x6656x1024 [1, 0, 2, 3]
    (addf (addf (addf (chipOf v 0 Gen.slices_S4x2x4x6656x1024_S1x2x4x6656x1024_0_0_0_0_0) (chipOf v 1 Gen.slices_S4x2x4x6656x1024_S1x2x4x6656x1024_1_0_0_0_0))
      (chipOf v 2 Gen.slices_S4x2x4x6656x1024_S1x2x4x6656x1024_2_0_0_0_0)) (chipOf v 3 Gen.slices_S4x2x4x6656x1024_S1x2x4x6656x1024_3_0_0_0_0))
    Gen.transposes_S2x4x6656x1024_S4x2x6656x1024_1_0_2_3) Gen.shapeCasts_S4x2x6656x1024_S53248x1024

/-- Where the sources are the devices' blocks of `v`, the results are their rows of its sum. -/
theorem result_block (v : FVec F S32x6656x1024 .f32) (A : Dev 8 → FVec F (Stack 4 6656 1024) .f32)
    (h : Layout.Tiles (Stack 4 6656 1024) (Stack 32 6656 1024) 0 8)
    (hA : ∀ c, A c = Layout.block (Stack 4 6656 1024) (Stack 32 6656 1024) 0 8 c v h)
    (ht : Layout.Tiles (Panel 6656 1024) S53248x1024 0 8) (c : Dev 8) :
    sumOf (gathered A c) = Layout.block (Panel 6656 1024) S53248x1024 0 8 c (overChips v) ht := by
  funext y
  have hc : c.val < 8 := c.isLt
  have hp : ∀ j : Fin 4, gathered A c (inPanel j y) = v (inPanel ⟨(2 * j.val + c.val % 2) * 4 + c.val / 2, by have := j.isLt; omega⟩ y) := fun j => by
    show A (sender c j) (inPanel (place c) y) = _
    rw [hA]
    exact block_panel h _ v _ _ rfl y
  let b : Fin 2 := ⟨c.val % 2, by omega⟩
  let d : Fin 4 := ⟨c.val / 2, by omega⟩
  have hr : Layout.block (Panel 6656 1024) S53248x1024 0 8 c (overChips v) ht y
      = FloatOps.addf (FloatOps.addf (FloatOps.addf (chipOf v 0 Gen.slices_S4x2x4x6656x1024_S1x2x4x6656x1024_0_0_0_0_0 (paired b d y))
          (chipOf v 1 Gen.slices_S4x2x4x6656x1024_S1x2x4x6656x1024_1_0_0_0_0 (paired b d y)))
          (chipOf v 2 Gen.slices_S4x2x4x6656x1024_S1x2x4x6656x1024_2_0_0_0_0 (paired b d y)))
          (chipOf v 3 Gen.slices_S4x2x4x6656x1024_S1x2x4x6656x1024_3_0_0_0_0 (paired b d y)) := by
    refine slot_rows _ Gen.transposes_S2x4x6656x1024_S4x2x6656x1024_1_0_2_3 Gen.shapeCasts_S4x2x6656x1024_S53248x1024 (ht.idx c y) b d y ?_ ?_
    · rw [Layout.Tiles.idx_val]
      show c.val * 6656 + (y 0).val = (2 * (c.val / 2) + c.val % 2) * 6656 + (y 0).val
      omega
    · rw [Layout.Tiles.idx_val]
      rfl
  have at_chip : ∀ (k : Fin 4) (hs), chipOf v k hs (paired b d y)
      = v (inPanel ⟨(2 * k.val + c.val % 2) * 4 + c.val / 2, by have := k.isLt; omega⟩ y) := fun k hs =>
    of_chip v k _ hs _ b d _ (show (2 * k.val + c.val % 2) * 4 + c.val / 2 = 8 * k.val + 4 * (c.val % 2) + c.val / 2 by omega) y
  rw [hr, at_chip, at_chip, at_chip, at_chip, ← hp, ← hp, ← hp, ← hp]
  rfl

/-- The reference leaves it. -/
theorem run_reference (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v13) = overChips (m ((c.tc : Thread nD τ).loc main_arg0))
      ∧ r.2.mem ((c.tc : Thread nD τ).loc main_arg0) = m ((c.tc : Thread nD τ).loc main_arg0) := Value.run m g

end Cert.Exchange.Chips

namespace Cert.Exchange.Cores

open Cert.SumCoresReferenceIdeal

variable {F : FTy → Type} [FloatOps F]

/-- The panels of the cores numbered `b`, by chip. -/
abbrev coreOf (v : FVec F S8x6656x1024 .f32) (b : Fin 2) (hs : S4x2x6656x1024.Slices ![0, b.val, 0, 0] S4x1x6656x1024) : FVec F S4x6656x1024 .f32 :=
  shapeCast S4x6656x1024 (extractStridedSlice S4x1x6656x1024 ![0, b.val, 0, 0] (shapeCast S4x2x6656x1024 v Gen.shapeCasts_S8x6656x1024_S4x2x6656x1024) hs)
    Gen.shapeCasts_S4x1x6656x1024_S4x6656x1024

/-- The sum over the cores of every chip. -/
def overCores (v : FVec F S8x6656x1024 .f32) : FVec F S26624x1024 .f32 :=
  shapeCast S26624x1024 (addf (coreOf v 0 Gen.slices_S4x2x6656x1024_S4x1x6656x1024_0_0_0_0) (coreOf v 1 Gen.slices_S4x2x6656x1024_S4x1x6656x1024_0_1_0_0))
    Gen.shapeCasts_S4x6656x1024_S26624x1024

/-- Where the sources are the devices' panels of `v`, the results are the chips' rows of its sum. -/
theorem result_block (v : FVec F S8x6656x1024 .f32) (A : Dev 8 → FVec F (Stack 1 6656 1024) .f32)
    (h : Layout.Tiles (Stack 1 6656 1024) (Stack 8 6656 1024) 0 8)
    (hA : ∀ c, A c = Layout.block (Stack 1 6656 1024) (Stack 8 6656 1024) 0 8 c v h) {kN : Fin 2 → ℕ} (p : (b : Fin 2) → Fin (kN b))
    (ht : Layout.TilesN (Panel 6656 1024) S26624x1024 kN) (c : Dev 8) (h0 : (p 0).val = c.val / 2) (h1 : (p 1).val = 0) :
    sumOf (gathered A c) = Layout.blockN (Panel 6656 1024) S26624x1024 p (overCores v) ht := by
  funext y
  have hc : c.val / 2 < 4 := by have := c.isLt; omega
  have hp : ∀ j : Fin 2, gathered A c (inPanel j y) = v (inPanel (sender c j) y) := fun j => by
    show A (sender c j) (inPanel 0 y) = _
    rw [hA]
    exact block_panel h _ v 0 _ (by show (sender c j).val = (sender c j).val * 1 + 0; omega) y
  have hr : Layout.blockN (Panel 6656 1024) S26624x1024 p (overCores v) ht y
      = FloatOps.addf (coreOf v 0 Gen.slices_S4x2x6656x1024_S4x1x6656x1024_0_0_0_0 (inPanel ⟨c.val / 2, hc⟩ y))
          (coreOf v 1 Gen.slices_S4x2x6656x1024_S4x1x6656x1024_0_1_0_0 (inPanel ⟨c.val / 2, hc⟩ y)) := by
    refine rows_apply _ Gen.shapeCasts_S4x6656x1024_S26624x1024 (ht.idx p y) _ y ?_ ?_
    · rw [Layout.TilesN.idx_val]
      exact congrArg (· * 6656 + (y 0).val) h0
    · rw [Layout.TilesN.idx_val]
      exact (show (p 1).val * 1024 + (y 1).val = (y 1).val by rw [h1]; omega)
  rw [hr]
  refine congrArg₂ FloatOps.addf ((hp 0).trans ?_) ((hp 1).trans ?_)
  · exact (of_core v 0 _ _ _ _ _ rfl y).symm
  · exact (of_core v 1 _ _ _ _ _ rfl y).symm

/-- The reference leaves it. -/
theorem run_reference (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v6) = overCores (m ((c.tc : Thread nD τ).loc main_arg0))
      ∧ r.2.mem ((c.tc : Thread nD τ).loc main_arg0) = m ((c.tc : Thread nD τ).loc main_arg0) := Value.run m g

end Cert.Exchange.Cores

namespace Cert.Exchange.Devices

open Cert.SumSmallReferenceIdeal

variable {F : FTy → Type} [FloatOps F]

/-- The row of device `k`. -/
abbrev rowOf (v : FVec F S8x1x18560 .f32) (k : Fin 8) (hs : S8x1x18560.Slices ![k.val, 0, 0] S1x1x18560) : FVec F S1x18560 .f32 :=
  shapeCast S1x18560 (extractStridedSlice S1x1x18560 ![k.val, 0, 0] v hs) Gen.shapeCasts_S1x1x18560_S1x18560

/-- The sum over the devices. -/
def overDevices (v : FVec F S8x1x18560 .f32) : FVec F S1x18560 .f32 :=
  addf (addf (addf (addf (addf (addf (addf (rowOf v 0 Gen.slices_S8x1x18560_S1x1x18560_0_0_0) (rowOf v 1 Gen.slices_S8x1x18560_S1x1x18560_1_0_0)) (rowOf v 2 Gen.slices_S8x1x18560_S1x1x18560_2_0_0)) (rowOf v 3 Gen.slices_S8x1x18560_S1x1x18560_3_0_0)) (rowOf v 4 Gen.slices_S8x1x18560_S1x1x18560_4_0_0)) (rowOf v 5 Gen.slices_S8x1x18560_S1x1x18560_5_0_0)) (rowOf v 6 Gen.slices_S8x1x18560_S1x1x18560_6_0_0)) (rowOf v 7 Gen.slices_S8x1x18560_S1x1x18560_7_0_0)

/-- Where the sources are the devices' rows of `v`, every result is its sum. -/
theorem result_whole (v : FVec F S8x1x18560 .f32) (A : Dev 8 → FVec F (Stack 1 1 18560) .f32)
    (h : Layout.Tiles (Stack 1 1 18560) (Stack 8 1 18560) 0 8)
    (hA : ∀ c, A c = Layout.block (Stack 1 1 18560) (Stack 8 1 18560) 0 8 c v h) (c : Dev 8) :
    sumOf (gathered A c) = overDevices v := by
  funext y
  have hp : ∀ (j : Fin 8) (hs), gathered A c (inPanel j y) = rowOf v j hs y := fun j hs => by
    show A j (inPanel 0 y) = _
    rw [hA]
    exact (block_panel h _ v 0 j (by show j.val = j.val * 1 + 0; omega) y).trans (taken v j hs _ y).symm
  show sumOf (gathered A c) y = FloatOps.addf (FloatOps.addf (FloatOps.addf (FloatOps.addf (FloatOps.addf (FloatOps.addf (FloatOps.addf (rowOf v 0 Gen.slices_S8x1x18560_S1x1x18560_0_0_0 y) (rowOf v 1 Gen.slices_S8x1x18560_S1x1x18560_1_0_0 y)) (rowOf v 2 Gen.slices_S8x1x18560_S1x1x18560_2_0_0 y)) (rowOf v 3 Gen.slices_S8x1x18560_S1x1x18560_3_0_0 y)) (rowOf v 4 Gen.slices_S8x1x18560_S1x1x18560_4_0_0 y)) (rowOf v 5 Gen.slices_S8x1x18560_S1x1x18560_5_0_0 y)) (rowOf v 6 Gen.slices_S8x1x18560_S1x1x18560_6_0_0 y)) (rowOf v 7 Gen.slices_S8x1x18560_S1x1x18560_7_0_0 y)
  rw [← hp 0, ← hp 1, ← hp 2, ← hp 3, ← hp 4, ← hp 5, ← hp 6, ← hp 7]
  rfl

/-- The reference leaves it. -/
theorem run_reference (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_v22) = overDevices (m ((c.tc : Thread nD τ).loc main_arg0))
      ∧ r.2.mem ((c.tc : Thread nD τ).loc main_arg0) = m ((c.tc : Thread nD τ).loc main_arg0) := Value.run m g

end Cert.Exchange.Devices
-- ==== Proof.GatherBig.lean ====
/-
The gather of one panel from every chip of the mesh. The devices of chip `j` write panel `j` of the results of their own core.
-/
module

public import proofs.«01_k».proof.Proof.SlotsRun
public import proofs.«01_k».proof.Proof.Gen.GatherBigIdeal.Skeleton
public import proofs.«01_k».proof.Proof.Gen.GatherBigIdeal.Launch
public import proofs.«01_k».proof.Proof.Gen.GatherBigIdeal.Points
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Exchange.Big

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GatherBigIdeal Cert.GatherBigIdeal.Gen Cert.Exchange
open Idealize.ShloMosaic.Pipeline (Dat)

set_option Elab.async false

def peer (k : Fin 3) (c : Dev nD) : Dev nD := ![⟨k0_dev1 c, k0_dev1_lt c⟩, ⟨k0_dev2 c, k0_dev2_lt c⟩, ⟨k0_dev3 c, k0_dev3_lt c⟩] k
/-- The peers' numbers, in place of what computes them. -/
def near (k : Fin 3) (c : Dev nD) : Dev nD := ![(![4, 5, 6, 7, 0, 1, 2, 3] : Fin 8 → Fin 8) c,
  (![2, 3, 0, 1, 6, 7, 4, 5] : Fin 8 → Fin 8) c,
  (![6, 7, 4, 5, 2, 3, 0, 1] : Fin 8 → Fin 8) c] k

theorem peer_eq (k : Fin 3) (c : Dev nD) : peer k c = near k c := by
  apply Fin.ext
  match k with
  | 0 => exact (k0_dev1_eq c).trans (by revert c; decide)
  | 1 => exact (k0_dev2_eq c).trans (by revert c; decide)
  | 2 => exact (k0_dev3_eq c).trans (by revert c; decide)

def place (c : Dev nD) : Fin 4 := ⟨c.val / 2, by have h : c.val < 8 := c.isLt; omega⟩
def sender (c : Dev nD) (j : Fin 4) : Dev nD := ⟨2 * j.val + c.val % 2, by have h := j.isLt; show 2 * j.val + c.val % 2 < 8; omega⟩

theorem off1_place (c : Dev nD) : k0_off1 c = ![(place c).val, 0, 0] :=
  (k0_off1_eq c).trans (off_congr (by revert c; decide))

def slots : Slots nD sig where
  K := 3
  n' := 1
  n := 4
  R := 6656
  C := 1024
  elt := .bf16
  S := Memref.whole main_arg0
  D := Memref.whole main_v1
  soff _ _ := ![0, 0, 0]
  sinb _ _ := inb_S1x6656x1024_S1x6656x1024_0_0_0
  doff := k0_off1
  dinb := k0_off1_inb
  sq := squeezes_S1x6656x1024_S6656x1024
  src_exact _ _ := ((Memref.isWhole_whole main_arg0).wordExact_slice rfl _ wordsbf16_S1x6656x1024_S1x6656x1024_0_0_0).reshape _ _
  dst_exact c := ((Memref.isWhole_whole main_v1).wordExact_slice rfl _ (k0_off1_wordsbf16 c)).reshape _ _
  dst_scr := rfl
  sendS := ![((cc0_scratch0.slice (Rect.unit (s := S3) ![0] S1.size inb_S3_S1_0)).squeeze S_ squeezes_S1_S_).sem,
    ((cc0_scratch0.slice (Rect.unit (s := S3) ![1] S1.size inb_S3_S1_1)).squeeze S_ squeezes_S1_S_).sem,
    ((cc0_scratch0.slice (Rect.unit (s := S3) ![2] S1.size inb_S3_S1_2)).squeeze S_ squeezes_S1_S_).sem]
  recvS := ![((cc0_scratch1.slice (Rect.unit (s := S3) ![0] S1.size inb_S3_S1_0)).squeeze S_ squeezes_S1_S_).sem,
    ((cc0_scratch1.slice (Rect.unit (s := S3) ![1] S1.size inb_S3_S1_1)).squeeze S_ squeezes_S1_S_).sem,
    ((cc0_scratch1.slice (Rect.unit (s := S3) ![2] S1.size inb_S3_S1_2)).squeeze S_ squeezes_S1_S_).sem]
  localS := cc0_scratch2.sem
  peer := peer
  peer_peer k c := by rw [peer_eq, peer_eq]; revert k c; decide
  bytes := (panel (Memref.whole main_v1) (k0_off1 0) (k0_off1_inb 0) squeezes_S1x6656x1024_S6656x1024).view.dmaCredit
  bytes_pos := View.dmaCredit_pos _ (by decide)
  src_credit _ _ := rfl
  dst_credit _ := rfl
  place := place
  pick _ := 0
  sender := sender
  doff_eq := off1_place
  soff_none _ := rfl
  soff_some _ _ := rfl
  sender_own c := by revert c; decide
  sender_peer k c := by rw [peer_eq]; revert k c; decide
  places c := by
    have : (fun o : Option (Fin 3) => o.elim (place c) fun k => place (peer k c)) = fun o => o.elim (place c) fun k => place (near k c) := by
      funext o; cases o with
      | none => rfl
      | some k => exact congrArg place (peer_eq k c)
    rw [this]; revert c; decide

variable {F : FTy → Type} [FloatOps F]

theorem body_eq : cc0_gather_big (F := F) (Memref.whole main_arg0) (Memref.isWhole_whole _) (Memref.whole main_v1) (Memref.isWhole_whole _)
      cc0_scratch0 cc0_scratch1 cc0_scratch2
    = .op .deviceId fun c => slots.toXch.prog c := by
  rw [cc0_gather_big_eq_skeleton]
  unfold cc0_gather_big_skel
  simp only [k0_part1_eq_skeleton, k0_part2_eq_skeleton, k0_part3_eq_skeleton, k0_part4_eq_skeleton,
    k0_part1_skel, k0_part2_skel, k0_part3_skel, k0_part4_skel,
    Prog.lift, Prog.bind_op, Prog.bind_ret, Prog.pure_eq_ret]
  rfl

theorem isBody : IsBody (τ := τ) (Val := Elt F) (pcfgs (F := F)) (fun _ p => (cfgs p).toPCfg_adm) defs₀ Variants.none slots.toXch 0 := fun c t Q => by
  refine BIBase.Entails.trans ?_ (BIBase.Entails.of_eq (congrArg (fun b => wp frame (wpE defs₀ Variants.none (c.tc : Thread nD τ) none) Set.univ b fun _ => Q ⟨⟩)
    (show _ = (bodyAt0 (F := F) t : Prog (TpuEff nD τ sig (Elt F) Λ₀ .tc) PUnit) from rfl)).symm)
  unfold bodyAt0
  rw [body_eq, wp_deviceId]

theorem ownSems : Pipeline.OwnSemFacts cfg0.spec slots.toXch.osem := by decide

/-- What the gather leaves on device `c`. -/
def gathered {V : Type} (A : Dev nD → (Stack 1 6656 1024).Idx → V) (c : Dev nD) (i : (Stack 4 6656 1024).Idx) : V :=
  A (sender c (panelOf i)) (inPanel 0 (restOf i))

theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v1) = gathered (fun d => m ((d.tc : Thread nD τ).loc main_arg0)) c)
      ∧ r.2.sem = fun _ => 0 :=
  haveI : ∀ p : Fin 1, IsEmpty (Fin (pcfgs (F := F) p).W) := fun _ => inferInstanceAs (IsEmpty (Fin 0))
  haveI : IsEmpty (Fin (pcfgs (F := F) 0).pre.K) := inferInstanceAs (IsEmpty (Fin 0))
  run_slots (pcfgs (F := F)) (fun _ p => (cfgs p).toPCfg_adm) cellOf_inj defs₀ Variants.none slots (part 3) 0 m
    (fun c => gathered (fun d => m ((d.tc : Thread nD τ).loc main_arg0)) c) (fun p j y => rfl)
    ownSems winFacts0.to₀ (fun _ => N_0) isBody (View.set_whole _) (View.set_whole _) g (slots.src_shared _ _ _ _ rfl)
    main (fun c => rfl)
    (fun c => (BIBase.Entails.of_eq (bigSep_eq_bigSepL_of_eq [main_arg0, main_v1] (by decide) (by decide) _)))
    (by decide)

end Cert.Exchange.Big
-- ==== Proof.GatherSmall.lean ====
/-
The gather of one panel from every chip of the mesh. The devices of chip `j` write panel `j` of the results of their own core.
-/
module

public import proofs.«01_k».proof.Proof.SlotsRun
public import proofs.«01_k».proof.Proof.Gen.GatherSmallIdeal.Skeleton
public import proofs.«01_k».proof.Proof.Gen.GatherSmallIdeal.Launch
public import proofs.«01_k».proof.Proof.Gen.GatherSmallIdeal.Points
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Exchange.Small

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GatherSmallIdeal Cert.GatherSmallIdeal.Gen Cert.Exchange
open Idealize.ShloMosaic.Pipeline (Dat)

set_option Elab.async false

def peer (k : Fin 3) (c : Dev nD) : Dev nD := ![⟨k0_dev1 c, k0_dev1_lt c⟩, ⟨k0_dev2 c, k0_dev2_lt c⟩, ⟨k0_dev3 c, k0_dev3_lt c⟩] k
/-- The peers' numbers, in place of what computes them. -/
def near (k : Fin 3) (c : Dev nD) : Dev nD := ![(![4, 5, 6, 7, 0, 1, 2, 3] : Fin 8 → Fin 8) c,
  (![2, 3, 0, 1, 6, 7, 4, 5] : Fin 8 → Fin 8) c,
  (![6, 7, 4, 5, 2, 3, 0, 1] : Fin 8 → Fin 8) c] k

theorem peer_eq (k : Fin 3) (c : Dev nD) : peer k c = near k c := by
  apply Fin.ext
  match k with
  | 0 => exact (k0_dev1_eq c).trans (by revert c; decide)
  | 1 => exact (k0_dev2_eq c).trans (by revert c; decide)
  | 2 => exact (k0_dev3_eq c).trans (by revert c; decide)

def place (c : Dev nD) : Fin 4 := ⟨c.val / 2, by have h : c.val < 8 := c.isLt; omega⟩
def sender (c : Dev nD) (j : Fin 4) : Dev nD := ⟨2 * j.val + c.val % 2, by have h := j.isLt; show 2 * j.val + c.val % 2 < 8; omega⟩

theorem off1_place (c : Dev nD) : k0_off1 c = ![(place c).val, 0, 0] :=
  (k0_off1_eq c).trans (off_congr (by revert c; decide))

def slots : Slots nD sig where
  K := 3
  n' := 1
  n := 4
  R := 256
  C := 1024
  elt := .f32
  S := Memref.whole main_arg0
  D := Memref.whole main_v1
  soff _ _ := ![0, 0, 0]
  sinb _ _ := inb_S1x256x1024_S1x256x1024_0_0_0
  doff := k0_off1
  dinb := k0_off1_inb
  sq := squeezes_S1x256x1024_S256x1024
  src_exact _ _ := (View.wordExact_bits rfl).reshape _ _
  dst_exact _ := (View.wordExact_bits rfl).reshape _ _
  dst_scr := rfl
  sendS := ![((cc0_scratch0.slice (Rect.unit (s := S3) ![0] S1.size inb_S3_S1_0)).squeeze S_ squeezes_S1_S_).sem,
    ((cc0_scratch0.slice (Rect.unit (s := S3) ![1] S1.size inb_S3_S1_1)).squeeze S_ squeezes_S1_S_).sem,
    ((cc0_scratch0.slice (Rect.unit (s := S3) ![2] S1.size inb_S3_S1_2)).squeeze S_ squeezes_S1_S_).sem]
  recvS := ![((cc0_scratch1.slice (Rect.unit (s := S3) ![0] S1.size inb_S3_S1_0)).squeeze S_ squeezes_S1_S_).sem,
    ((cc0_scratch1.slice (Rect.unit (s := S3) ![1] S1.size inb_S3_S1_1)).squeeze S_ squeezes_S1_S_).sem,
    ((cc0_scratch1.slice (Rect.unit (s := S3) ![2] S1.size inb_S3_S1_2)).squeeze S_ squeezes_S1_S_).sem]
  localS := cc0_scratch2.sem
  peer := peer
  peer_peer k c := by rw [peer_eq, peer_eq]; revert k c; decide
  bytes := (panel (Memref.whole main_v1) (k0_off1 0) (k0_off1_inb 0) squeezes_S1x256x1024_S256x1024).view.dmaCredit
  bytes_pos := View.dmaCredit_pos _ (by decide)
  src_credit _ _ := rfl
  dst_credit _ := rfl
  place := place
  pick _ := 0
  sender := sender
  doff_eq := off1_place
  soff_none _ := rfl
  soff_some _ _ := rfl
  sender_own c := by revert c; decide
  sender_peer k c := by rw [peer_eq]; revert k c; decide
  places c := by
    have : (fun o : Option (Fin 3) => o.elim (place c) fun k => place (peer k c)) = fun o => o.elim (place c) fun k => place (near k c) := by
      funext o; cases o with
      | none => rfl
      | some k => exact congrArg place (peer_eq k c)
    rw [this]; revert c; decide

variable {F : FTy → Type} [FloatOps F]

theorem body_eq : cc0_gather_small (F := F) (Memref.whole main_arg0) (Memref.isWhole_whole _) (Memref.whole main_v1) (Memref.isWhole_whole _)
      cc0_scratch0 cc0_scratch1 cc0_scratch2
    = .op .deviceId fun c => slots.toXch.prog c := by
  rw [cc0_gather_small_eq_skeleton]
  unfold cc0_gather_small_skel
  simp only [k0_part1_eq_skeleton, k0_part2_eq_skeleton, k0_part3_eq_skeleton, k0_part4_eq_skeleton,
    k0_part1_skel, k0_part2_skel, k0_part3_skel, k0_part4_skel,
    Prog.lift, Prog.bind_op, Prog.bind_ret, Prog.pure_eq_ret]
  rfl

theorem isBody : IsBody (τ := τ) (Val := Elt F) (pcfgs (F := F)) (fun _ p => (cfgs p).toPCfg_adm) defs₀ Variants.none slots.toXch 0 := fun c t Q => by
  refine BIBase.Entails.trans ?_ (BIBase.Entails.of_eq (congrArg (fun b => wp frame (wpE defs₀ Variants.none (c.tc : Thread nD τ) none) Set.univ b fun _ => Q ⟨⟩)
    (show _ = (bodyAt0 (F := F) t : Prog (TpuEff nD τ sig (Elt F) Λ₀ .tc) PUnit) from rfl)).symm)
  unfold bodyAt0
  rw [body_eq, wp_deviceId]

theorem ownSems : Pipeline.OwnSemFacts cfg0.spec slots.toXch.osem := by decide

/-- What the gather leaves on device `c`. -/
def gathered {V : Type} (A : Dev nD → (Stack 1 256 1024).Idx → V) (c : Dev nD) (i : (Stack 4 256 1024).Idx) : V :=
  A (sender c (panelOf i)) (inPanel 0 (restOf i))

theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v1) = gathered (fun d => m ((d.tc : Thread nD τ).loc main_arg0)) c)
      ∧ r.2.sem = fun _ => 0 :=
  haveI : ∀ p : Fin 1, IsEmpty (Fin (pcfgs (F := F) p).W) := fun _ => inferInstanceAs (IsEmpty (Fin 0))
  haveI : IsEmpty (Fin (pcfgs (F := F) 0).pre.K) := inferInstanceAs (IsEmpty (Fin 0))
  run_slots (pcfgs (F := F)) (fun _ p => (cfgs p).toPCfg_adm) cellOf_inj defs₀ Variants.none slots (part 3) 0 m
    (fun c => gathered (fun d => m ((d.tc : Thread nD τ).loc main_arg0)) c) (fun p j y => rfl)
    ownSems winFacts0.to₀ (fun _ => N_0) isBody (View.set_whole _) (View.set_whole _) g (slots.src_shared _ _ _ _ rfl)
    main (fun c => rfl)
    (fun c => (BIBase.Entails.of_eq (bigSep_eq_bigSepL_of_eq [main_arg0, main_v1] (by decide) (by decide) _)))
    (by decide)

end Cert.Exchange.Small
-- ==== Proof.GatherC.lean ====
/-
The gather of one row from every device of the mesh. Device `j` writes panel `j` of all results.
-/
module

public import proofs.«01_k».proof.Proof.SlotsRun
public import proofs.«01_k».proof.Proof.Gen.GatherCIdeal.Skeleton
public import proofs.«01_k».proof.Proof.Gen.GatherCIdeal.Launch
public import proofs.«01_k».proof.Proof.Gen.GatherCIdeal.Points
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.Exchange.Rows

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.GatherCIdeal Cert.GatherCIdeal.Gen Cert.Exchange
open Idealize.ShloMosaic.Pipeline (Dat)

set_option Elab.async false

def peer (k : Fin 7) (c : Dev nD) : Dev nD := ![⟨k0_dev1 c, k0_dev1_lt c⟩, ⟨k0_dev2 c, k0_dev2_lt c⟩, ⟨k0_dev3 c, k0_dev3_lt c⟩, ⟨k0_dev4 c, k0_dev4_lt c⟩,
  ⟨k0_dev5 c, k0_dev5_lt c⟩, ⟨k0_dev6 c, k0_dev6_lt c⟩, ⟨k0_dev7 c, k0_dev7_lt c⟩] k
/-- The peers' numbers, in place of what computes them. -/
def near (k : Fin 7) (c : Dev nD) : Dev nD := ![(![1, 0, 3, 2, 5, 4, 7, 6] : Fin 8 → Fin 8) c,
  (![2, 3, 0, 1, 6, 7, 4, 5] : Fin 8 → Fin 8) c,
  (![3, 2, 1, 0, 7, 6, 5, 4] : Fin 8 → Fin 8) c,
  (![4, 5, 6, 7, 0, 1, 2, 3] : Fin 8 → Fin 8) c,
  (![5, 4, 7, 6, 1, 0, 3, 2] : Fin 8 → Fin 8) c,
  (![6, 7, 4, 5, 2, 3, 0, 1] : Fin 8 → Fin 8) c,
  (![7, 6, 5, 4, 3, 2, 1, 0] : Fin 8 → Fin 8) c] k

theorem peer_eq (k : Fin 7) (c : Dev nD) : peer k c = near k c := by
  apply Fin.ext
  match k with
  | 0 => exact (k0_dev1_eq c).trans (by revert c; decide)
  | 1 => exact (k0_dev2_eq c).trans (by revert c; decide)
  | 2 => exact (k0_dev3_eq c).trans (by revert c; decide)
  | 3 => exact (k0_dev4_eq c).trans (by revert c; decide)
  | 4 => exact (k0_dev5_eq c).trans (by revert c; decide)
  | 5 => exact (k0_dev6_eq c).trans (by revert c; decide)
  | 6 => exact (k0_dev7_eq c).trans (by revert c; decide)

def place (c : Dev nD) : Fin 8 := c
def sender (c : Dev nD) (j : Fin 8) : Dev nD := j

theorem off1_place (c : Dev nD) : k0_off1 c = ![(place c).val, 0, 0] :=
  (k0_off1_eq c).trans (off_congr (by revert c; decide))

def slots : Slots nD sig where
  K := 7
  n' := 1
  n := 8
  R := 1
  C := 1024
  elt := .f32
  S := Memref.whole main_arg0
  D := Memref.whole main_v1
  soff _ _ := ![0, 0, 0]
  sinb _ _ := inb_S1x1x1024_S1x1x1024_0_0_0
  doff := k0_off1
  dinb := k0_off1_inb
  sq := squeezes_S1x1x1024_S1x1024
  src_exact _ _ := (View.wordExact_bits rfl).reshape _ _
  dst_exact _ := (View.wordExact_bits rfl).reshape _ _
  dst_scr := rfl
  sendS := ![((cc0_scratch0.slice (Rect.unit (s := S7) ![0] S1.size inb_S7_S1_0)).squeeze S_ squeezes_S1_S_).sem,
    ((cc0_scratch0.slice (Rect.unit (s := S7) ![1] S1.size inb_S7_S1_1)).squeeze S_ squeezes_S1_S_).sem,
    ((cc0_scratch0.slice (Rect.unit (s := S7) ![2] S1.size inb_S7_S1_2)).squeeze S_ squeezes_S1_S_).sem,
    ((cc0_scratch0.slice (Rect.unit (s := S7) ![3] S1.size inb_S7_S1_3)).squeeze S_ squeezes_S1_S_).sem,
    ((cc0_scratch0.slice (Rect.unit (s := S7) ![4] S1.size inb_S7_S1_4)).squeeze S_ squeezes_S1_S_).sem,
    ((cc0_scratch0.slice (Rect.unit (s := S7) ![5] S1.size inb_S7_S1_5)).squeeze S_ squeezes_S1_S_).sem,
    ((cc0_scratch0.slice (Rect.unit (s := S7) ![6] S1.size inb_S7_S1_6)).squeeze S_ squeezes_S1_S_).sem]
  recvS := ![((cc0_scratch1.slice (Rect.unit (s := S7) ![0] S1.size inb_S7_S1_0)).squeeze S_ squeezes_S1_S_).sem,
    ((cc0_scratch1.slice (Rect.unit (s := S7) ![1] S1.size inb_S7_S1_1)).squeeze S_ squeezes_S1_S_).sem,
    ((cc0_scratch1.slice (Rect.unit (s := S7) ![2] S1.size inb_S7_S1_2)).squeeze S_ squeezes_S1_S_).sem,
    ((cc0_scratch1.slice (Rect.unit (s := S7) ![3] S1.size inb_S7_S1_3)).squeeze S_ squeezes_S1_S_).sem,
    ((cc0_scratch1.slice (Rect.unit (s := S7) ![4] S1.size inb_S7_S1_4)).squeeze S_ squeezes_S1_S_).sem,
    ((cc0_scratch1.slice (Rect.unit (s := S7) ![5] S1.size inb_S7_S1_5)).squeeze S_ squeezes_S1_S_).sem,
    ((cc0_scratch1.slice (Rect.unit (s := S7) ![6] S1.size inb_S7_S1_6)).squeeze S_ squeezes_S1_S_).sem]
  localS := cc0_scratch2.sem
  peer := peer
  peer_peer k c := by rw [peer_eq, peer_eq]; revert k c; decide
  bytes := (panel (Memref.whole main_v1) (k0_off1 0) (k0_off1_inb 0) squeezes_S1x1x1024_S1x1024).view.dmaCredit
  bytes_pos := View.dmaCredit_pos _ (by decide)
  src_credit _ _ := rfl
  dst_credit _ := rfl
  place := place
  pick _ := 0
  sender := sender
  doff_eq := off1_place
  soff_none _ := rfl
  soff_some _ _ := rfl
  sender_own c := by revert c; decide
  sender_peer k c := by rw [peer_eq]; revert k c; decide
  places c := by
    have : (fun o : Option (Fin 7) => o.elim (place c) fun k => place (peer k c)) = fun o => o.elim (place c) fun k => place (near k c) := by
      funext o; cases o with
      | none => rfl
      | some k => exact congrArg place (peer_eq k c)
    rw [this]; revert c; decide

variable {F : FTy → Type} [FloatOps F]

theorem body_eq : cc0_gather_c (F := F) (Memref.whole main_arg0) (Memref.isWhole_whole _) (Memref.whole main_v1) (Memref.isWhole_whole _)
      cc0_scratch0 cc0_scratch1 cc0_scratch2
    = .op .deviceId fun c => slots.toXch.prog c := by
  rw [cc0_gather_c_eq_skeleton]
  unfold cc0_gather_c_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton,
    k0_part1_skel, k0_part2_skel, k0_part3_skel, k0_part4_skel, k0_part5_skel, k0_part6_skel, k0_part7_skel, k0_part8_skel, k0_part9_skel,
    Prog.lift, Prog.bind_op, Prog.bind_ret, Prog.pure_eq_ret]
  rfl

theorem isBody : IsBody (τ := τ) (Val := Elt F) (pcfgs (F := F)) (fun _ p => (cfgs p).toPCfg_adm) defs₀ Variants.none slots.toXch 0 := fun c t Q => by
  refine BIBase.Entails.trans ?_ (BIBase.Entails.of_eq (congrArg (fun b => wp frame (wpE defs₀ Variants.none (c.tc : Thread nD τ) none) Set.univ b fun _ => Q ⟨⟩)
    (show _ = (bodyAt0 (F := F) t : Prog (TpuEff nD τ sig (Elt F) Λ₀ .tc) PUnit) from rfl)).symm)
  unfold bodyAt0
  rw [body_eq, wp_deviceId]

theorem ownSems : Pipeline.OwnSemFacts cfg0.spec slots.toXch.osem := by decide

/-- What the gather leaves on device `c`. -/
def gathered {V : Type} (A : Dev nD → (Stack 1 1 1024).Idx → V) (c : Dev nD) (i : (Stack 8 1 1024).Idx) : V :=
  A (sender c (panelOf i)) (inPanel 0 (restOf i))

theorem run_main [∀ e, Nonempty (Elt F e)] (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_v1) = gathered (fun d => m ((d.tc : Thread nD τ).loc main_arg0)) c)
      ∧ r.2.sem = fun _ => 0 :=
  haveI : ∀ p : Fin 1, IsEmpty (Fin (pcfgs (F := F) p).W) := fun _ => inferInstanceAs (IsEmpty (Fin 0))
  haveI : IsEmpty (Fin (pcfgs (F := F) 0).pre.K) := inferInstanceAs (IsEmpty (Fin 0))
  run_slots (pcfgs (F := F)) (fun _ p => (cfgs p).toPCfg_adm) cellOf_inj defs₀ Variants.none slots (part 7) 0 m
    (fun c => gathered (fun d => m ((d.tc : Thread nD τ).loc main_arg0)) c) (fun p j y => rfl)
    ownSems winFacts0.to₀ (fun _ => N_0) isBody (View.set_whole _) (View.set_whole _) g (slots.src_shared _ _ _ _ rfl)
    main (fun c => rfl)
    (fun c => (BIBase.Entails.of_eq (bigSep_eq_bigSepL_of_eq [main_arg0, main_v1] (by decide) (by decide) _)))
    (by decide)

end Cert.Exchange.Rows
-- ==== Proof.Wholes.lean ====
/-
The references that are arrays as they come, and the copies of them that the devices end with.
-/
module

public import proofs.«01_k».proof.Proof.Refs
public import proofs.«01_k».proof.Proof.GatherBig
public import proofs.«01_k».proof.Proof.GatherSmall
public import proofs.«01_k».proof.Proof.GatherC
public import proofs.«01_k».proof.Proof.Gen.GatherBigReferenceIdeal
public import proofs.«01_k».proof.Proof.Gen.GatherSmallReferenceIdeal
public import proofs.«01_k».proof.Proof.Gen.GatherCReferenceIdeal
public import Idealize.ShloMosaic.Lib.StableHlo.Run

@[expose] public section

noncomputable section

open Idealize.ShloMosaic Idealize.SL.Sem Cert.Exchange

namespace Cert.Exchange.Big

open Cert.GatherBigReferenceIdeal

variable {F : FTy → Type} [FloatOps F]

/-- Where the sources are the panels of `v`, every result is `v`. -/
theorem result_whole {α : Type} (v : (Stack 4 6656 1024).Idx → α) (A : Dev 8 → (Stack 1 6656 1024).Idx → α)
    (hA : ∀ c, A c = Layout.blockN (Stack 1 6656 1024) (Stack 4 6656 1024) (Layout.meshBlock [2, 2, 2] ![[0, 1], [], []] c) v) (c : Dev 8) :
    gathered A c = v := by
  funext i
  rw [inPanel_surj i]
  show A (sender c (panelOf i)) (inPanel 0 (restOf i)) = _
  rw [hA]
  exact chip_panel _ _ (panelOf i) ((show ∀ (c : Fin 8) (j : Fin 4), ((Layout.meshBlock [2, 2, 2] ![[0, 1], [], []] (sender c j)) 0).val = j.val by decide) c _)
    ((show ∀ c : Fin 8, ((Layout.meshBlock [2, 2, 2] ![[0, 1], [], []] c) 1).val = 0 by decide) _)
    ((show ∀ c : Fin 8, ((Layout.meshBlock [2, 2, 2] ![[0, 1], [], []] c) 2).val = 0 by decide) _) v (restOf i)

/-- The reference changes nothing. -/
theorem run_reference (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_arg0) = m ((c.tc : Thread nD τ).loc main_arg0) :=
  (θ_run defs _ _).mono (fun _ h c => h c main_arg0)
    (StableHlo.run_seq (by decide) (by decide) defs main (fun _ => []) (fun _ => rfl) (fun _ => trivial) m g)

end Cert.Exchange.Big

namespace Cert.Exchange.Small

open Cert.GatherSmallReferenceIdeal

variable {F : FTy → Type} [FloatOps F]

/-- Where the sources are the panels of `v`, every result is `v`. -/
theorem result_whole {α : Type} (v : (Stack 4 256 1024).Idx → α) (A : Dev 8 → (Stack 1 256 1024).Idx → α)
    (hA : ∀ c, A c = Layout.blockN (Stack 1 256 1024) (Stack 4 256 1024) (Layout.meshBlock [2, 2, 2] ![[0, 1], [], []] c) v) (c : Dev 8) :
    gathered A c = v := by
  funext i
  rw [inPanel_surj i]
  show A (sender c (panelOf i)) (inPanel 0 (restOf i)) = _
  rw [hA]
  exact chip_panel _ _ (panelOf i) ((show ∀ (c : Fin 8) (j : Fin 4), ((Layout.meshBlock [2, 2, 2] ![[0, 1], [], []] (sender c j)) 0).val = j.val by decide) c _)
    ((show ∀ c : Fin 8, ((Layout.meshBlock [2, 2, 2] ![[0, 1], [], []] c) 1).val = 0 by decide) _)
    ((show ∀ c : Fin 8, ((Layout.meshBlock [2, 2, 2] ![[0, 1], [], []] c) 2).val = 0 by decide) _) v (restOf i)

/-- The reference changes nothing. -/
theorem run_reference (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_arg0) = m ((c.tc : Thread nD τ).loc main_arg0) :=
  (θ_run defs _ _).mono (fun _ h c => h c main_arg0)
    (StableHlo.run_seq (by decide) (by decide) defs main (fun _ => []) (fun _ => rfl) (fun _ => trivial) m g)

end Cert.Exchange.Small

namespace Cert.Exchange.Rows

open Cert.GatherCReferenceIdeal

variable {F : FTy → Type} [FloatOps F]

/-- Where the sources are the panels of `v`, every result is `v`. -/
theorem result_whole {α : Type} (v : (Stack 8 1 1024).Idx → α) (A : Dev 8 → (Stack 1 1 1024).Idx → α)
    (h : Layout.Tiles (Stack 1 1 1024) (Stack 8 1 1024) 0 8)
    (hA : ∀ c, A c = Layout.block (Stack 1 1 1024) (Stack 8 1 1024) 0 8 c v h) (c : Dev 8) :
    gathered A c = v := by
  funext i
  rw [inPanel_surj i]
  show A (sender c (panelOf i)) (inPanel 0 (restOf i)) = _
  rw [hA]
  exact block_panel h _ v 0 _ (by show (panelOf i).val = (panelOf i).val * 1 + 0; omega) (restOf i)

/-- The reference changes nothing. -/
theorem run_reference (m : (ℓ : Loc nD τ sig) → Buf (Elt F) ℓ) (g : Dev nD → PrngReg) :
    θ_run (defs (F := F)) (onTc (τ := τ) (main (F := F))) ⟨m, fun _ => 0, g⟩ fun r => ∀ c : Dev nD,
      r.2.mem ((c.tc : Thread nD τ).loc main_arg0) = m ((c.tc : Thread nD τ).loc main_arg0) :=
  (θ_run defs _ _).mono (fun _ h c => h c main_arg0)
    (StableHlo.run_seq (by decide) (by decide) defs main (fun _ => []) (fun _ => rfl) (fun _ => trivial) m g)

end Cert.Exchange.Rows
-- ==== Proof.Adam.lean ====
/-
AdamW at one entry of the arrays, over the extended reals: the kernel multiplies by the inverses of the numbers that the
reference divides by.
-/
module

public import Idealize.ShloMosaic.PureOps.Ideal
public import Idealize.ShloMosaic.PureOps.IdealRules
public import Idealize.ShloMosaic.Lib.StableHlo.Run

@[expose] public section

noncomputable section

namespace Cert.Update

open Idealize.ShloMosaic

/-- The word of 1 - 0.9 ^ 10 as a real. -/
theorem bias_m : Ideal.ofBits .f32 0x3F26BD02#32 = ((5463681 / 8388608 : ℝ) : EReal) := by
  simp [Ideal.ofBits, Ideal.ieee, -EReal.coe_mul]
  norm_num

/-- The word of 1 - 0.999 ^ 10 as a real. -/
theorem bias_v : Ideal.ofBits .f32 0x3C231ACC#32 = ((2672307 / 268435456 : ℝ) : EReal) := by
  simp [Ideal.ofBits, Ideal.ieee, -EReal.coe_mul]
  norm_num

/-- To divide by the word of 1 - 0.9 ^ 10 is to multiply by its inverse. -/
theorem div_bias_m (x : EReal) : Ideal.div x (Ideal.ofBits .f32 0x3F26BD02#32) = x * ((8388608 / 5463681 : ℝ) : EReal) := by
  rw [bias_m, Ideal.div_coe (by norm_num)]
  norm_num

/-- To divide by the word of 1 - 0.999 ^ 10 is to multiply by its inverse. -/
theorem div_bias_v (x : EReal) : Ideal.div x (Ideal.ofBits .f32 0x3C231ACC#32) = x * ((268435456 / 2672307 : ℝ) : EReal) := by
  rw [bias_v, Ideal.div_coe (by norm_num)]
  norm_num

/-- The words of the kernel's two multipliers, named by a table as those inverses. -/
structure Inverses (κ : String → Option EReal) : Prop where
  m : Named.named (F := Ideal) κ "unbias_m" (φ := .f32) 0x3FC48605#32 = ((8388608 / 5463681 : ℝ) : EReal)
  v : Named.named (F := Ideal) κ "unbias_v" (φ := .f32) 0x42C8E6D3#32 = ((268435456 / 2672307 : ℝ) : EReal)

theorem Inverses.of {κ : String → Option EReal} (m : κ "unbias_m" = some ((8388608 / 5463681 : ℝ) : EReal))
    (v : κ "unbias_v" = some ((268435456 / 2672307 : ℝ) : EReal)) : Inverses κ :=
  ⟨IdealRules.named_const.ideal_named_scalar _ _ _ _ m, IdealRules.named_const.ideal_named_scalar _ _ _ _ v⟩

/-- A number on every entry of an array of shape `S`. -/
abbrev all (S : Shape) (b : (⟨0, ![]⟩ : Shape).BroadcastsInDim S (![] : Fin 0 → Fin S.rank)) (w : BitVec 32) : FVec Ideal S .f32 :=
  broadcastInDim S ![] b (constant ⟨0, ![]⟩ .f32 w)

/-- The reference's change of the weights is the kernel's, entry by entry. -/
theorem delta {κ : String → Option EReal} (hκ : Inverses κ) {S : Shape} (b : (⟨0, ![]⟩ : Shape).BroadcastsInDim S (![] : Fin 0 → Fin S.rank))
    (w g m v : FVec Ideal S .f32) :
    mulf (all S b 0xBA83126F#32)
      (addf
        (Host.divf
          (Host.divf (addf (mulf (all S b 0x3F666666#32) m) (mulf (all S b 0x3DCCCCCD#32) g)) (all S b 0x3F26BD02#32))
          (addf
            (Host.sqrt
              (Host.divf (addf (mulf (all S b 0x3F7FBE77#32) v) (mulf (all S b 0x3A83126F#32) (mulf g g))) (all S b 0x3C231ACC#32)))
            (all S b 0x322BCC77#32)))
        (mulf (all S b 0x3C23D70A#32) w)) =
    fun i => FloatOps.mulf (Scalar.ofBits .f32 0xBA83126F#32)
      (FloatOps.addf
        (FloatOps.divf
          (FloatOps.mulf
            (FloatOps.addf (FloatOps.mulf (Scalar.ofBits .f32 0x3F666666#32) (m i)) (FloatOps.mulf (Scalar.ofBits .f32 0x3DCCCCCD#32) (g i)))
            (Named.named κ "unbias_m" 0x3FC48605#32))
          (FloatOps.addf
            (FloatOps.sqrt
              (FloatOps.mulf
                (FloatOps.addf (FloatOps.mulf (Scalar.ofBits .f32 0x3F7FBE77#32) (v i))
                  (FloatOps.mulf (Scalar.ofBits .f32 0x3A83126F#32) (FloatOps.mulf (g i) (g i))))
                (Named.named κ "unbias_v" 0x42C8E6D3#32)))
            (Scalar.ofBits .f32 0x322BCC77#32)))
        (FloatOps.mulf (Scalar.ofBits .f32 0x3C23D70A#32) (w i))) := by
  funext i
  simp only [all, mulf, addf, Host.divf, Host.sqrt, broadcastInDim, constant, Scalar.ofBits, hκ.m, hκ.v, Ideal.hostDivf_def, Ideal.hostUnary_sqrt_def,
    Ideal.mulf_def, Ideal.addf_def, Ideal.divf_def, Ideal.sqrt_def, Ideal.ofBits_def, div_bias_m, div_bias_v]

end Cert.Update

end
-- ==== Proof.Updates.lean ====
/-
The claims of the AdamW updates, a program for each shape of a weight. What a program and its reference compute is read off their
runs; that it is the same is the equation of one entry.
-/
module

public import proofs.«01_k».proof.Defs
public import proofs.«01_k».proof.Proof.Gen.AdamwAdaW.Frame
public import proofs.«01_k».proof.Proof.Gen.AdamwAdaWIdeal.Value
public import proofs.«01_k».proof.Proof.Gen.AdamwAdaWReferenceIdeal.Run
public import proofs.«01_k».proof.Proof.Gen.AdamwAdaB.Frame
public import proofs.«01_k».proof.Proof.Gen.AdamwAdaBIdeal.Value
public import proofs.«01_k».proof.Proof.Gen.AdamwAdaBReferenceIdeal.Run
public import proofs.«01_k».proof.Proof.Gen.AdamwLnG.Frame
public import proofs.«01_k».proof.Proof.Gen.AdamwLnGIdeal.Value
public import proofs.«01_k».proof.Proof.Gen.AdamwLnGReferenceIdeal.Run
public import proofs.«01_k».proof.Proof.Gen.AdamwAbWIn.Frame
public import proofs.«01_k».proof.Proof.Gen.AdamwAbWInIdeal.Value
public import proofs.«01_k».proof.Proof.Gen.AdamwAbWInReferenceIdeal.Run
public import proofs.«01_k».proof.Proof.Gen.AdamwRwMu.Frame
public import proofs.«01_k».proof.Proof.Gen.AdamwRwMuIdeal.Value
public import proofs.«01_k».proof.Proof.Gen.AdamwRwMuReferenceIdeal.Run
public import proofs.«01_k».proof.Proof.Gen.AdamwRwW0.Frame
public import proofs.«01_k».proof.Proof.Gen.AdamwRwW0Ideal.Value
public import proofs.«01_k».proof.Proof.Gen.AdamwRwW0ReferenceIdeal.Run
public import proofs.«01_k».proof.Proof.Gen.AdamwRwWUp.Frame
public import proofs.«01_k».proof.Proof.Gen.AdamwRwWUpIdeal.Value
public import proofs.«01_k».proof.Proof.Gen.AdamwRwWUpReferenceIdeal.Run
public import proofs.«01_k».proof.Proof.Gen.AdamwRwGUp.Frame
public import proofs.«01_k».proof.Proof.Gen.AdamwRwGUpIdeal.Value
public import proofs.«01_k».proof.Proof.Gen.AdamwRwGUpReferenceIdeal.Run
public import proofs.«01_k».proof.Proof.Gen.AdamwRwRK.Frame
public import proofs.«01_k».proof.Proof.Gen.AdamwRwRKIdeal.Value
public import proofs.«01_k».proof.Proof.Gen.AdamwRwRKReferenceIdeal.Run
public import proofs.«01_k».proof.Proof.Gen.AdamwScConvW.Frame
public import proofs.«01_k».proof.Proof.Gen.AdamwScConvWIdeal.Value
public import proofs.«01_k».proof.Proof.Gen.AdamwScConvWReferenceIdeal.Run
public import proofs.«01_k».proof.Proof.Gen.AdamwAbWOut.Frame
public import proofs.«01_k».proof.Proof.Gen.AdamwAbWOutIdeal.Value
public import proofs.«01_k».proof.Proof.Gen.AdamwAbWOutReferenceIdeal.Run
public import proofs.«01_k».proof.Proof.Gen.AdamwDilWQkv.Frame
public import proofs.«01_k».proof.Proof.Gen.AdamwDilWQkvIdeal.Value
public import proofs.«01_k».proof.Proof.Gen.AdamwDilWQkvReferenceIdeal.Run
public import proofs.«01_k».proof.Proof.Gen.AdamwDilWOut.Frame
public import proofs.«01_k».proof.Proof.Gen.AdamwDilWOutIdeal.Value
public import proofs.«01_k».proof.Proof.Gen.AdamwDilWOutReferenceIdeal.Run
public import proofs.«01_k».proof.Proof.Gen.AdamwRelBias.Frame
public import proofs.«01_k».proof.Proof.Gen.AdamwRelBiasIdeal.Value
public import proofs.«01_k».proof.Proof.Gen.AdamwRelBiasReferenceIdeal.Run
public import proofs.«01_k».proof.Proof.Gen.AdamwMlpW1.Frame
public import proofs.«01_k».proof.Proof.Gen.AdamwMlpW1Ideal.Value
public import proofs.«01_k».proof.Proof.Gen.AdamwMlpW1ReferenceIdeal.Run
public import proofs.«01_k».proof.Proof.Adam
public import Idealize.ShloMosaic.Lib.Quiescent

@[expose] public section

noncomputable section

namespace Cert.Update

open Idealize.ShloMosaic Idealize.SL.Sem

/-! ## `ada_w` -/

theorem adaW_inverses : Inverses Cert.AdamwAdaWIdeal.κ := .of rfl rfl

theorem adaW_frame : quiescent_AdamwAdaW := fun m g _ => Cert.AdamwAdaW.Gen.frame m g

theorem adaW_frame_ideal : quiescent_AdamwAdaWIdeal := fun m g _ => Cert.AdamwAdaWIdeal.Gen.frame m g

theorem adaW_reference_frame : quiescent_AdamwAdaWReferenceIdeal := fun m g _ =>
  (θ_run Cert.AdamwAdaWReferenceIdeal.defs _ _).mono (fun r h => ⟨fun c => (h c).2.2.2, sem_eq_zero_of_no_sems rfl r.2⟩)
    (Cert.AdamwAdaWReferenceIdeal.Value.run (F := Ideal) m g)

theorem adaW_preserves : preserves_AdamwAdaW_AdamwAdaWIdeal :=
  ⟨IdealRules.named_const.statement Cert.AdamwAdaWIdeal.κ "unbias_m" .f32 0x3FC48605#32 _ rfl,
    IdealRules.named_const.statement Cert.AdamwAdaWIdeal.κ "unbias_v" .f32 0x42C8E6D3#32 _ rfl⟩

theorem adaW_value : algebraic_AdamwAdaWIdeal_AdamwAdaWReferenceIdeal := fun m g m' g' _ hm =>
  ⟨_, _, _, Cert.AdamwAdaWIdeal.Value.run (F := Ideal) m g,
    (θ_run Cert.AdamwAdaWReferenceIdeal.defs _ _).mono
      (fun r h c => by
        obtain ⟨weights, gradients, moments, squares⟩ := hm c
        rw [← weights, ← gradients, ← moments, ← squares]
        exact ⟨(h c).1.trans (delta adaW_inverses _ _ _ _ _), (h c).2⟩)
      (Cert.AdamwAdaWReferenceIdeal.Value.run (F := Ideal) m' g')⟩

/-! ## `ada_b` -/

theorem adaB_inverses : Inverses Cert.AdamwAdaBIdeal.κ := .of rfl rfl

theorem adaB_frame : quiescent_AdamwAdaB := fun m g _ => Cert.AdamwAdaB.Gen.frame m g

theorem adaB_frame_ideal : quiescent_AdamwAdaBIdeal := fun m g _ => Cert.AdamwAdaBIdeal.Gen.frame m g

theorem adaB_reference_frame : quiescent_AdamwAdaBReferenceIdeal := fun m g _ =>
  (θ_run Cert.AdamwAdaBReferenceIdeal.defs _ _).mono (fun r h => ⟨fun c => (h c).2.2.2, sem_eq_zero_of_no_sems rfl r.2⟩)
    (Cert.AdamwAdaBReferenceIdeal.Value.run (F := Ideal) m g)

theorem adaB_preserves : preserves_AdamwAdaB_AdamwAdaBIdeal :=
  ⟨IdealRules.named_const.statement Cert.AdamwAdaBIdeal.κ "unbias_m" .f32 0x3FC48605#32 _ rfl,
    IdealRules.named_const.statement Cert.AdamwAdaBIdeal.κ "unbias_v" .f32 0x42C8E6D3#32 _ rfl⟩

theorem adaB_value : algebraic_AdamwAdaBIdeal_AdamwAdaBReferenceIdeal := fun m g m' g' _ hm =>
  ⟨_, _, _, Cert.AdamwAdaBIdeal.Value.run (F := Ideal) m g,
    (θ_run Cert.AdamwAdaBReferenceIdeal.defs _ _).mono
      (fun r h c => by
        obtain ⟨weights, gradients, moments, squares⟩ := hm c
        rw [← weights, ← gradients, ← moments, ← squares]
        exact ⟨(h c).1.trans (delta adaB_inverses _ _ _ _ _), (h c).2⟩)
      (Cert.AdamwAdaBReferenceIdeal.Value.run (F := Ideal) m' g')⟩

/-! ## `ln_g` -/

theorem lnG_inverses : Inverses Cert.AdamwLnGIdeal.κ := .of rfl rfl

theorem lnG_frame : quiescent_AdamwLnG := fun m g _ => Cert.AdamwLnG.Gen.frame m g

theorem lnG_frame_ideal : quiescent_AdamwLnGIdeal := fun m g _ => Cert.AdamwLnGIdeal.Gen.frame m g

theorem lnG_reference_frame : quiescent_AdamwLnGReferenceIdeal := fun m g _ =>
  (θ_run Cert.AdamwLnGReferenceIdeal.defs _ _).mono (fun r h => ⟨fun c => (h c).2.2.2, sem_eq_zero_of_no_sems rfl r.2⟩)
    (Cert.AdamwLnGReferenceIdeal.Value.run (F := Ideal) m g)

theorem lnG_preserves : preserves_AdamwLnG_AdamwLnGIdeal :=
  ⟨IdealRules.named_const.statement Cert.AdamwLnGIdeal.κ "unbias_m" .f32 0x3FC48605#32 _ rfl,
    IdealRules.named_const.statement Cert.AdamwLnGIdeal.κ "unbias_v" .f32 0x42C8E6D3#32 _ rfl⟩

theorem lnG_value : algebraic_AdamwLnGIdeal_AdamwLnGReferenceIdeal := fun m g m' g' _ hm =>
  ⟨_, _, _, Cert.AdamwLnGIdeal.Value.run (F := Ideal) m g,
    (θ_run Cert.AdamwLnGReferenceIdeal.defs _ _).mono
      (fun r h c => by
        obtain ⟨weights, gradients, moments, squares⟩ := hm c
        rw [← weights, ← gradients, ← moments, ← squares]
        exact ⟨(h c).1.trans (delta lnG_inverses _ _ _ _ _), (h c).2⟩)
      (Cert.AdamwLnGReferenceIdeal.Value.run (F := Ideal) m' g')⟩

/-! ## `ab_w_in` -/

theorem abWIn_inverses : Inverses Cert.AdamwAbWInIdeal.κ := .of rfl rfl

theorem abWIn_frame : quiescent_AdamwAbWIn := fun m g _ => Cert.AdamwAbWIn.Gen.frame m g

theorem abWIn_frame_ideal : quiescent_AdamwAbWInIdeal := fun m g _ => Cert.AdamwAbWInIdeal.Gen.frame m g

theorem abWIn_reference_frame : quiescent_AdamwAbWInReferenceIdeal := fun m g _ =>
  (θ_run Cert.AdamwAbWInReferenceIdeal.defs _ _).mono (fun r h => ⟨fun c => (h c).2.2.2, sem_eq_zero_of_no_sems rfl r.2⟩)
    (Cert.AdamwAbWInReferenceIdeal.Value.run (F := Ideal) m g)

theorem abWIn_preserves : preserves_AdamwAbWIn_AdamwAbWInIdeal :=
  ⟨IdealRules.named_const.statement Cert.AdamwAbWInIdeal.κ "unbias_m" .f32 0x3FC48605#32 _ rfl,
    IdealRules.named_const.statement Cert.AdamwAbWInIdeal.κ "unbias_v" .f32 0x42C8E6D3#32 _ rfl⟩

theorem abWIn_value : algebraic_AdamwAbWInIdeal_AdamwAbWInReferenceIdeal := fun m g m' g' _ hm =>
  ⟨_, _, _, Cert.AdamwAbWInIdeal.Value.run (F := Ideal) m g,
    (θ_run Cert.AdamwAbWInReferenceIdeal.defs _ _).mono
      (fun r h c => by
        obtain ⟨weights, gradients, moments, squares⟩ := hm c
        rw [← weights, ← gradients, ← moments, ← squares]
        exact ⟨(h c).1.trans (delta abWIn_inverses _ _ _ _ _), (h c).2⟩)
      (Cert.AdamwAbWInReferenceIdeal.Value.run (F := Ideal) m' g')⟩

/-! ## `rw_mu` -/

theorem rwMu_inverses : Inverses Cert.AdamwRwMuIdeal.κ := .of rfl rfl

theorem rwMu_frame : quiescent_AdamwRwMu := fun m g _ => Cert.AdamwRwMu.Gen.frame m g

theorem rwMu_frame_ideal : quiescent_AdamwRwMuIdeal := fun m g _ => Cert.AdamwRwMuIdeal.Gen.frame m g

theorem rwMu_reference_frame : quiescent_AdamwRwMuReferenceIdeal := fun m g _ =>
  (θ_run Cert.AdamwRwMuReferenceIdeal.defs _ _).mono (fun r h => ⟨fun c => (h c).2.2.2, sem_eq_zero_of_no_sems rfl r.2⟩)
    (Cert.AdamwRwMuReferenceIdeal.Value.run (F := Ideal) m g)

theorem rwMu_preserves : preserves_AdamwRwMu_AdamwRwMuIdeal :=
  ⟨IdealRules.named_const.statement Cert.AdamwRwMuIdeal.κ "unbias_m" .f32 0x3FC48605#32 _ rfl,
    IdealRules.named_const.statement Cert.AdamwRwMuIdeal.κ "unbias_v" .f32 0x42C8E6D3#32 _ rfl⟩

theorem rwMu_value : algebraic_AdamwRwMuIdeal_AdamwRwMuReferenceIdeal := fun m g m' g' _ hm =>
  ⟨_, _, _, Cert.AdamwRwMuIdeal.Value.run (F := Ideal) m g,
    (θ_run Cert.AdamwRwMuReferenceIdeal.defs _ _).mono
      (fun r h c => by
        obtain ⟨weights, gradients, moments, squares⟩ := hm c
        rw [← weights, ← gradients, ← moments, ← squares]
        exact ⟨(h c).1.trans (delta rwMu_inverses _ _ _ _ _), (h c).2⟩)
      (Cert.AdamwRwMuReferenceIdeal.Value.run (F := Ideal) m' g')⟩

/-! ## `rw_w0` -/

theorem rwW0_inverses : Inverses Cert.AdamwRwW0Ideal.κ := .of rfl rfl

theorem rwW0_frame : quiescent_AdamwRwW0 := fun m g _ => Cert.AdamwRwW0.Gen.frame m g

theorem rwW0_frame_ideal : quiescent_AdamwRwW0Ideal := fun m g _ => Cert.AdamwRwW0Ideal.Gen.frame m g

theorem rwW0_reference_frame : quiescent_AdamwRwW0ReferenceIdeal := fun m g _ =>
  (θ_run Cert.AdamwRwW0ReferenceIdeal.defs _ _).mono (fun r h => ⟨fun c => (h c).2.2.2, sem_eq_zero_of_no_sems rfl r.2⟩)
    (Cert.AdamwRwW0ReferenceIdeal.Value.run (F := Ideal) m g)

theorem rwW0_preserves : preserves_AdamwRwW0_AdamwRwW0Ideal :=
  ⟨IdealRules.named_const.statement Cert.AdamwRwW0Ideal.κ "unbias_m" .f32 0x3FC48605#32 _ rfl,
    IdealRules.named_const.statement Cert.AdamwRwW0Ideal.κ "unbias_v" .f32 0x42C8E6D3#32 _ rfl⟩

theorem rwW0_value : algebraic_AdamwRwW0Ideal_AdamwRwW0ReferenceIdeal := fun m g m' g' _ hm =>
  ⟨_, _, _, Cert.AdamwRwW0Ideal.Value.run (F := Ideal) m g,
    (θ_run Cert.AdamwRwW0ReferenceIdeal.defs _ _).mono
      (fun r h c => by
        obtain ⟨weights, gradients, moments, squares⟩ := hm c
        rw [← weights, ← gradients, ← moments, ← squares]
        exact ⟨(h c).1.trans (delta rwW0_inverses _ _ _ _ _), (h c).2⟩)
      (Cert.AdamwRwW0ReferenceIdeal.Value.run (F := Ideal) m' g')⟩

/-! ## `rw_w_up` -/

theorem rwWUp_inverses : Inverses Cert.AdamwRwWUpIdeal.κ := .of rfl rfl

theorem rwWUp_frame : quiescent_AdamwRwWUp := fun m g _ => Cert.AdamwRwWUp.Gen.frame m g

theorem rwWUp_frame_ideal : quiescent_AdamwRwWUpIdeal := fun m g _ => Cert.AdamwRwWUpIdeal.Gen.frame m g

theorem rwWUp_reference_frame : quiescent_AdamwRwWUpReferenceIdeal := fun m g _ =>
  (θ_run Cert.AdamwRwWUpReferenceIdeal.defs _ _).mono (fun r h => ⟨fun c => (h c).2.2.2, sem_eq_zero_of_no_sems rfl r.2⟩)
    (Cert.AdamwRwWUpReferenceIdeal.Value.run (F := Ideal) m g)

theorem rwWUp_preserves : preserves_AdamwRwWUp_AdamwRwWUpIdeal :=
  ⟨IdealRules.named_const.statement Cert.AdamwRwWUpIdeal.κ "unbias_m" .f32 0x3FC48605#32 _ rfl,
    IdealRules.named_const.statement Cert.AdamwRwWUpIdeal.κ "unbias_v" .f32 0x42C8E6D3#32 _ rfl⟩

theorem rwWUp_value : algebraic_AdamwRwWUpIdeal_AdamwRwWUpReferenceIdeal := fun m g m' g' _ hm =>
  ⟨_, _, _, Cert.AdamwRwWUpIdeal.Value.run (F := Ideal) m g,
    (θ_run Cert.AdamwRwWUpReferenceIdeal.defs _ _).mono
      (fun r h c => by
        obtain ⟨weights, gradients, moments, squares⟩ := hm c
        rw [← weights, ← gradients, ← moments, ← squares]
        exact ⟨(h c).1.trans (delta rwWUp_inverses _ _ _ _ _), (h c).2⟩)
      (Cert.AdamwRwWUpReferenceIdeal.Value.run (F := Ideal) m' g')⟩

/-! ## `rw_g_up` -/

theorem rwGUp_inverses : Inverses Cert.AdamwRwGUpIdeal.κ := .of rfl rfl

theorem rwGUp_frame : quiescent_AdamwRwGUp := fun m g _ => Cert.AdamwRwGUp.Gen.frame m g

theorem rwGUp_frame_ideal : quiescent_AdamwRwGUpIdeal := fun m g _ => Cert.AdamwRwGUpIdeal.Gen.frame m g

theorem rwGUp_reference_frame : quiescent_AdamwRwGUpReferenceIdeal := fun m g _ =>
  (θ_run Cert.AdamwRwGUpReferenceIdeal.defs _ _).mono (fun r h => ⟨fun c => (h c).2.2.2, sem_eq_zero_of_no_sems rfl r.2⟩)
    (Cert.AdamwRwGUpReferenceIdeal.Value.run (F := Ideal) m g)

theorem rwGUp_preserves : preserves_AdamwRwGUp_AdamwRwGUpIdeal :=
  ⟨IdealRules.named_const.statement Cert.AdamwRwGUpIdeal.κ "unbias_m" .f32 0x3FC48605#32 _ rfl,
    IdealRules.named_const.statement Cert.AdamwRwGUpIdeal.κ "unbias_v" .f32 0x42C8E6D3#32 _ rfl⟩

theorem rwGUp_value : algebraic_AdamwRwGUpIdeal_AdamwRwGUpReferenceIdeal := fun m g m' g' _ hm =>
  ⟨_, _, _, Cert.AdamwRwGUpIdeal.Value.run (F := Ideal) m g,
    (θ_run Cert.AdamwRwGUpReferenceIdeal.defs _ _).mono
      (fun r h c => by
        obtain ⟨weights, gradients, moments, squares⟩ := hm c
        rw [← weights, ← gradients, ← moments, ← squares]
        exact ⟨(h c).1.trans (delta rwGUp_inverses _ _ _ _ _), (h c).2⟩)
      (Cert.AdamwRwGUpReferenceIdeal.Value.run (F := Ideal) m' g')⟩

/-! ## `rw_r_k` -/

theorem rwRK_inverses : Inverses Cert.AdamwRwRKIdeal.κ := .of rfl rfl

theorem rwRK_frame : quiescent_AdamwRwRK := fun m g _ => Cert.AdamwRwRK.Gen.frame m g

theorem rwRK_frame_ideal : quiescent_AdamwRwRKIdeal := fun m g _ => Cert.AdamwRwRKIdeal.Gen.frame m g

theorem rwRK_reference_frame : quiescent_AdamwRwRKReferenceIdeal := fun m g _ =>
  (θ_run Cert.AdamwRwRKReferenceIdeal.defs _ _).mono (fun r h => ⟨fun c => (h c).2.2.2, sem_eq_zero_of_no_sems rfl r.2⟩)
    (Cert.AdamwRwRKReferenceIdeal.Value.run (F := Ideal) m g)

theorem rwRK_preserves : preserves_AdamwRwRK_AdamwRwRKIdeal :=
  ⟨IdealRules.named_const.statement Cert.AdamwRwRKIdeal.κ "unbias_m" .f32 0x3FC48605#32 _ rfl,
    IdealRules.named_const.statement Cert.AdamwRwRKIdeal.κ "unbias_v" .f32 0x42C8E6D3#32 _ rfl⟩

theorem rwRK_value : algebraic_AdamwRwRKIdeal_AdamwRwRKReferenceIdeal := fun m g m' g' _ hm =>
  ⟨_, _, _, Cert.AdamwRwRKIdeal.Value.run (F := Ideal) m g,
    (θ_run Cert.AdamwRwRKReferenceIdeal.defs _ _).mono
      (fun r h c => by
        obtain ⟨weights, gradients, moments, squares⟩ := hm c
        rw [← weights, ← gradients, ← moments, ← squares]
        exact ⟨(h c).1.trans (delta rwRK_inverses _ _ _ _ _), (h c).2⟩)
      (Cert.AdamwRwRKReferenceIdeal.Value.run (F := Ideal) m' g')⟩

/-! ## `sc_conv_w` -/

theorem scConvW_inverses : Inverses Cert.AdamwScConvWIdeal.κ := .of rfl rfl

theorem scConvW_frame : quiescent_AdamwScConvW := fun m g _ => Cert.AdamwScConvW.Gen.frame m g

theorem scConvW_frame_ideal : quiescent_AdamwScConvWIdeal := fun m g _ => Cert.AdamwScConvWIdeal.Gen.frame m g

theorem scConvW_reference_frame : quiescent_AdamwScConvWReferenceIdeal := fun m g _ =>
  (θ_run Cert.AdamwScConvWReferenceIdeal.defs _ _).mono (fun r h => ⟨fun c => (h c).2.2.2, sem_eq_zero_of_no_sems rfl r.2⟩)
    (Cert.AdamwScConvWReferenceIdeal.Value.run (F := Ideal) m g)

theorem scConvW_preserves : preserves_AdamwScConvW_AdamwScConvWIdeal :=
  ⟨IdealRules.named_const.statement Cert.AdamwScConvWIdeal.κ "unbias_m" .f32 0x3FC48605#32 _ rfl,
    IdealRules.named_const.statement Cert.AdamwScConvWIdeal.κ "unbias_v" .f32 0x42C8E6D3#32 _ rfl⟩

theorem scConvW_value : algebraic_AdamwScConvWIdeal_AdamwScConvWReferenceIdeal := fun m g m' g' _ hm =>
  ⟨_, _, _, Cert.AdamwScConvWIdeal.Value.run (F := Ideal) m g,
    (θ_run Cert.AdamwScConvWReferenceIdeal.defs _ _).mono
      (fun r h c => by
        obtain ⟨weights, gradients, moments, squares⟩ := hm c
        rw [← weights, ← gradients, ← moments, ← squares]
        exact ⟨(h c).1.trans (delta scConvW_inverses _ _ _ _ _), (h c).2⟩)
      (Cert.AdamwScConvWReferenceIdeal.Value.run (F := Ideal) m' g')⟩

/-! ## `ab_w_out` -/

theorem abWOut_inverses : Inverses Cert.AdamwAbWOutIdeal.κ := .of rfl rfl

theorem abWOut_frame : quiescent_AdamwAbWOut := fun m g _ => Cert.AdamwAbWOut.Gen.frame m g

theorem abWOut_frame_ideal : quiescent_AdamwAbWOutIdeal := fun m g _ => Cert.AdamwAbWOutIdeal.Gen.frame m g

theorem abWOut_reference_frame : quiescent_AdamwAbWOutReferenceIdeal := fun m g _ =>
  (θ_run Cert.AdamwAbWOutReferenceIdeal.defs _ _).mono (fun r h => ⟨fun c => (h c).2.2.2, sem_eq_zero_of_no_sems rfl r.2⟩)
    (Cert.AdamwAbWOutReferenceIdeal.Value.run (F := Ideal) m g)

theorem abWOut_preserves : preserves_AdamwAbWOut_AdamwAbWOutIdeal :=
  ⟨IdealRules.named_const.statement Cert.AdamwAbWOutIdeal.κ "unbias_m" .f32 0x3FC48605#32 _ rfl,
    IdealRules.named_const.statement Cert.AdamwAbWOutIdeal.κ "unbias_v" .f32 0x42C8E6D3#32 _ rfl⟩

theorem abWOut_value : algebraic_AdamwAbWOutIdeal_AdamwAbWOutReferenceIdeal := fun m g m' g' _ hm =>
  ⟨_, _, _, Cert.AdamwAbWOutIdeal.Value.run (F := Ideal) m g,
    (θ_run Cert.AdamwAbWOutReferenceIdeal.defs _ _).mono
      (fun r h c => by
        obtain ⟨weights, gradients, moments, squares⟩ := hm c
        rw [← weights, ← gradients, ← moments, ← squares]
        exact ⟨(h c).1.trans (delta abWOut_inverses _ _ _ _ _), (h c).2⟩)
      (Cert.AdamwAbWOutReferenceIdeal.Value.run (F := Ideal) m' g')⟩

/-! ## `dil_w_qkv` -/

theorem dilWQkv_inverses : Inverses Cert.AdamwDilWQkvIdeal.κ := .of rfl rfl

theorem dilWQkv_frame : quiescent_AdamwDilWQkv := fun m g _ => Cert.AdamwDilWQkv.Gen.frame m g

theorem dilWQkv_frame_ideal : quiescent_AdamwDilWQkvIdeal := fun m g _ => Cert.AdamwDilWQkvIdeal.Gen.frame m g

theorem dilWQkv_reference_frame : quiescent_AdamwDilWQkvReferenceIdeal := fun m g _ =>
  (θ_run Cert.AdamwDilWQkvReferenceIdeal.defs _ _).mono (fun r h => ⟨fun c => (h c).2.2.2, sem_eq_zero_of_no_sems rfl r.2⟩)
    (Cert.AdamwDilWQkvReferenceIdeal.Value.run (F := Ideal) m g)

theorem dilWQkv_preserves : preserves_AdamwDilWQkv_AdamwDilWQkvIdeal :=
  ⟨IdealRules.named_const.statement Cert.AdamwDilWQkvIdeal.κ "unbias_m" .f32 0x3FC48605#32 _ rfl,
    IdealRules.named_const.statement Cert.AdamwDilWQkvIdeal.κ "unbias_v" .f32 0x42C8E6D3#32 _ rfl⟩

theorem dilWQkv_value : algebraic_AdamwDilWQkvIdeal_AdamwDilWQkvReferenceIdeal := fun m g m' g' _ hm =>
  ⟨_, _, _, Cert.AdamwDilWQkvIdeal.Value.run (F := Ideal) m g,
    (θ_run Cert.AdamwDilWQkvReferenceIdeal.defs _ _).mono
      (fun r h c => by
        obtain ⟨weights, gradients, moments, squares⟩ := hm c
        rw [← weights, ← gradients, ← moments, ← squares]
        exact ⟨(h c).1.trans (delta dilWQkv_inverses _ _ _ _ _), (h c).2⟩)
      (Cert.AdamwDilWQkvReferenceIdeal.Value.run (F := Ideal) m' g')⟩

/-! ## `dil_w_out` -/

theorem dilWOut_inverses : Inverses Cert.AdamwDilWOutIdeal.κ := .of rfl rfl

theorem dilWOut_frame : quiescent_AdamwDilWOut := fun m g _ => Cert.AdamwDilWOut.Gen.frame m g

theorem dilWOut_frame_ideal : quiescent_AdamwDilWOutIdeal := fun m g _ => Cert.AdamwDilWOutIdeal.Gen.frame m g

theorem dilWOut_reference_frame : quiescent_AdamwDilWOutReferenceIdeal := fun m g _ =>
  (θ_run Cert.AdamwDilWOutReferenceIdeal.defs _ _).mono (fun r h => ⟨fun c => (h c).2.2.2, sem_eq_zero_of_no_sems rfl r.2⟩)
    (Cert.AdamwDilWOutReferenceIdeal.Value.run (F := Ideal) m g)

theorem dilWOut_preserves : preserves_AdamwDilWOut_AdamwDilWOutIdeal :=
  ⟨IdealRules.named_const.statement Cert.AdamwDilWOutIdeal.κ "unbias_m" .f32 0x3FC48605#32 _ rfl,
    IdealRules.named_const.statement Cert.AdamwDilWOutIdeal.κ "unbias_v" .f32 0x42C8E6D3#32 _ rfl⟩

theorem dilWOut_value : algebraic_AdamwDilWOutIdeal_AdamwDilWOutReferenceIdeal := fun m g m' g' _ hm =>
  ⟨_, _, _, Cert.AdamwDilWOutIdeal.Value.run (F := Ideal) m g,
    (θ_run Cert.AdamwDilWOutReferenceIdeal.defs _ _).mono
      (fun r h c => by
        obtain ⟨weights, gradients, moments, squares⟩ := hm c
        rw [← weights, ← gradients, ← moments, ← squares]
        exact ⟨(h c).1.trans (delta dilWOut_inverses _ _ _ _ _), (h c).2⟩)
      (Cert.AdamwDilWOutReferenceIdeal.Value.run (F := Ideal) m' g')⟩

/-! ## `rel_bias` -/

theorem relBias_inverses : Inverses Cert.AdamwRelBiasIdeal.κ := .of rfl rfl

theorem relBias_frame : quiescent_AdamwRelBias := fun m g _ => Cert.AdamwRelBias.Gen.frame m g

theorem relBias_frame_ideal : quiescent_AdamwRelBiasIdeal := fun m g _ => Cert.AdamwRelBiasIdeal.Gen.frame m g

theorem relBias_reference_frame : quiescent_AdamwRelBiasReferenceIdeal := fun m g _ =>
  (θ_run Cert.AdamwRelBiasReferenceIdeal.defs _ _).mono (fun r h => ⟨fun c => (h c).2.2.2, sem_eq_zero_of_no_sems rfl r.2⟩)
    (Cert.AdamwRelBiasReferenceIdeal.Value.run (F := Ideal) m g)

theorem relBias_preserves : preserves_AdamwRelBias_AdamwRelBiasIdeal :=
  ⟨IdealRules.named_const.statement Cert.AdamwRelBiasIdeal.κ "unbias_m" .f32 0x3FC48605#32 _ rfl,
    IdealRules.named_const.statement Cert.AdamwRelBiasIdeal.κ "unbias_v" .f32 0x42C8E6D3#32 _ rfl⟩

theorem relBias_value : algebraic_AdamwRelBiasIdeal_AdamwRelBiasReferenceIdeal := fun m g m' g' _ hm =>
  ⟨_, _, _, Cert.AdamwRelBiasIdeal.Value.run (F := Ideal) m g,
    (θ_run Cert.AdamwRelBiasReferenceIdeal.defs _ _).mono
      (fun r h c => by
        obtain ⟨weights, gradients, moments, squares⟩ := hm c
        rw [← weights, ← gradients, ← moments, ← squares]
        exact ⟨(h c).1.trans (delta relBias_inverses _ _ _ _ _), (h c).2⟩)
      (Cert.AdamwRelBiasReferenceIdeal.Value.run (F := Ideal) m' g')⟩

/-! ## `mlp_w1` -/

theorem mlpW1_inverses : Inverses Cert.AdamwMlpW1Ideal.κ := .of rfl rfl

theorem mlpW1_frame : quiescent_AdamwMlpW1 := fun m g _ => Cert.AdamwMlpW1.Gen.frame m g

theorem mlpW1_frame_ideal : quiescent_AdamwMlpW1Ideal := fun m g _ => Cert.AdamwMlpW1Ideal.Gen.frame m g

theorem mlpW1_reference_frame : quiescent_AdamwMlpW1ReferenceIdeal := fun m g _ =>
  (θ_run Cert.AdamwMlpW1ReferenceIdeal.defs _ _).mono (fun r h => ⟨fun c => (h c).2.2.2, sem_eq_zero_of_no_sems rfl r.2⟩)
    (Cert.AdamwMlpW1ReferenceIdeal.Value.run (F := Ideal) m g)

theorem mlpW1_preserves : preserves_AdamwMlpW1_AdamwMlpW1Ideal :=
  ⟨IdealRules.named_const.statement Cert.AdamwMlpW1Ideal.κ "unbias_m" .f32 0x3FC48605#32 _ rfl,
    IdealRules.named_const.statement Cert.AdamwMlpW1Ideal.κ "unbias_v" .f32 0x42C8E6D3#32 _ rfl⟩

theorem mlpW1_value : algebraic_AdamwMlpW1Ideal_AdamwMlpW1ReferenceIdeal := fun m g m' g' _ hm =>
  ⟨_, _, _, Cert.AdamwMlpW1Ideal.Value.run (F := Ideal) m g,
    (θ_run Cert.AdamwMlpW1ReferenceIdeal.defs _ _).mono
      (fun r h c => by
        obtain ⟨weights, gradients, moments, squares⟩ := hm c
        rw [← weights, ← gradients, ← moments, ← squares]
        exact ⟨(h c).1.trans (delta mlpW1_inverses _ _ _ _ _), (h c).2⟩)
      (Cert.AdamwMlpW1ReferenceIdeal.Value.run (F := Ideal) m' g')⟩

end Cert.Update

end
-- ==== Proof.Entries.lean ====
/-
Arrays read at an entry: a matrix with and without a leading axis of size one, two matrices stacked, and the gate.
-/
module

public import Idealize.ShloMosaic.Lib.StackMember
public import Idealize.ShloMosaic.Lib.MatmulPlain
public import Idealize.ShloMosaic.Lib.IdealHost
public import Idealize.ShloMosaic.Lib.KernelVsHost
public import Idealize.ShloMosaic.Lib.Pipeline.Value

@[expose] public section

noncomputable section

namespace Cert.Entries

open Idealize.ShloMosaic Idealize.ShloMosaic.ValueIdx

/-- `x / (1 + e⁻ˣ)` of a number. -/
def silu (x : EReal) : EReal := x * Ideal.logistic x

/-- The gate of an array, as a host writes it. -/
theorem gate_apply {S : Shape} (h : (⟨0, ![]⟩ : Shape).BroadcastsInDim S (![] : Fin 0 → Fin S.rank)) (c : FVec Ideal S .f32) (i : S.Idx) :
    mulf c (Host.divf (broadcastInDim S ![] h (constant ⟨0, ![]⟩ .f32 0x3F800000#32))
      (addf (broadcastInDim S ![] h (constant ⟨0, ![]⟩ .f32 0x3F800000#32)) (Host.exp (Host.negf c)))) i = silu (c i) := by
  show c i * Ideal.div (Ideal.ofBits .f32 0x3F800000#32) (Ideal.ofBits .f32 0x3F800000#32 + Ideal.exp (-c i)) = _
  rw [Ideal.ofBits_one_f32]
  rfl

/-- A matrix with a leading axis of size one, at an entry. -/
theorem lift_apply {M N : ℕ} {α : Type} (v : (⟨2, ![M, N]⟩ : Shape).Idx → α) (h : (⟨2, ![M, N]⟩ : Shape).ShapeCasts ⟨3, ![1, M, N]⟩)
    (i : Fin M) (j : Fin N) : shapeCast ⟨3, ![1, M, N]⟩ v h (ix3 0 i j) = v (ix2 i j) := by
  refine (shapeCast_addUnit_apply ![M, N] v h (ix3 0 i j)).trans (congrArg v ?_)
  funext a
  match a with
  | ⟨0, _⟩ => rfl
  | ⟨1, _⟩ => rfl

/-- A matrix without its leading axis of size one, at an entry. -/
theorem drop_apply {M N : ℕ} {α : Type} (v : (⟨3, ![1, M, N]⟩ : Shape).Idx → α) (h : (⟨3, ![1, M, N]⟩ : Shape).ShapeCasts ⟨2, ![M, N]⟩)
    (i : Fin M) (j : Fin N) : shapeCast ⟨2, ![M, N]⟩ v h (ix2 i j) = v (ix3 0 i j) := by
  refine (shapeCast_dropUnit_apply ![M, N] v h (ix2 i j)).trans (congrArg v ?_)
  funext a
  match a with
  | ⟨0, _⟩ => rfl
  | ⟨1, _⟩ => rfl
  | ⟨2, _⟩ => rfl

theorem zero₂ : (![0, 0] : Fin 2 → ℕ) = fun _ => 0 := funext fun a => by fin_cases a <;> rfl
theorem zero₃ : (![0, 0, 0] : Fin 3 → ℕ) = fun _ => 0 := funext fun a => by fin_cases a <;> rfl

/-- Two matrices stacked, at an entry of the first. -/
theorem stack_first {M N : ℕ} {α : Type} (x y : (⟨3, ![1, M, N]⟩ : Shape).Idx → α)
    (h : Shape.Concatenates [⟨3, ![1, M, N]⟩, ⟨3, ![1, M, N]⟩] ⟨3, ![2, M, N]⟩ 0) (i : Fin M) (j : Fin N) :
    concatenate ⟨3, ![2, M, N]⟩ 0 [⟨⟨3, ![1, M, N]⟩, x⟩, ⟨⟨3, ![1, M, N]⟩, y⟩] h (ix3 0 i j) = x (ix3 0 i j) :=
  concatenate_pair_apply_left 0 x y h _ rfl _ fun b => by match b with | ⟨0, _⟩ => rfl | ⟨1, _⟩ => rfl | ⟨2, _⟩ => rfl

/-- Two matrices stacked, at an entry of the second. -/
theorem stack_second {M N : ℕ} {α : Type} (x y : (⟨3, ![1, M, N]⟩ : Shape).Idx → α)
    (h : Shape.Concatenates [⟨3, ![1, M, N]⟩, ⟨3, ![1, M, N]⟩] ⟨3, ![2, M, N]⟩ 0) (i : Fin M) (j : Fin N) :
    concatenate ⟨3, ![2, M, N]⟩ 0 [⟨⟨3, ![1, M, N]⟩, x⟩, ⟨⟨3, ![1, M, N]⟩, y⟩] h (ix3 1 i j) = y (ix3 0 i j) :=
  concatenate_pair_apply_right 0 x y h _ rfl rfl _
    (fun b hb => by match b with | ⟨0, _⟩ => exact absurd rfl hb | ⟨1, _⟩ => rfl | ⟨2, _⟩ => rfl) rfl

end Cert.Entries

end
-- ==== Proof.AdaFwd.lean ====
/-
The conditioning's modulation: a layer's product with the gate of the conditioning rows, and the layer's bias.
-/
module

public import proofs.«01_k».proof.Defs
public import proofs.«01_k».proof.Proof.Gen.AdaFwd.Frame
public import proofs.«01_k».proof.Proof.Gen.AdaFwdIdeal.Value
public import proofs.«01_k».proof.Proof.Gen.AdaFwdReferenceIdeal.Run
public import proofs.«01_k».proof.Proof.Entries
public import Idealize.ShloMosaic.Lib.Quiescent

@[expose] public section

noncomputable section

namespace Cert.Modulation

open Idealize.ShloMosaic Idealize.SL.Sem Idealize.ShloMosaic.ValueIdx Idealize.ShloMosaic.TcCoe Cert.Entries
open scoped BigOperators

/-- The modulation of layer `l`, device `b` and column `n`. -/
def modulation (c : FVec Ideal ⟨2, ![8, 1024]⟩ .f32) (w : FVec Ideal ⟨3, ![2, 1024, 1536]⟩ .f32) (bias : FVec Ideal ⟨3, ![2, 1, 1536]⟩ .f32)
    (l : Fin 2) (b : Fin 8) (n : Fin 1536) : EReal :=
  (∑ k : Fin 1024, silu (c (ix2 b k)) * w (ix3 l k n)) + bias (ix3 l 0 n)

section Kernel

open Cert.AdaFwdIdeal Cert.AdaFwdIdeal.Gen

/-- What a grid point computes of its blocks. -/
theorem point (x0 : Vec Ideal S8x1024 .f32) (x1 : Vec Ideal S1x1024x1536 .f32) (x2 : Vec Ideal S1x1x1536 .f32) (b : Fin 8) (n : Fin 1536) :
    k0_pay1 x0 x1 x2 (ix3 0 b n) = (∑ k : Fin 1024, silu (x0 (ix2 b k)) * x1 (ix3 0 k n)) + x2 (ix3 0 0 n) := by
  unfold k0_pay1
  refine (lift_apply _ _ b n).trans ?_
  show FloatOps.matmul (DotDims.plain 8 1024 1536) none _ _ _ (ix2 b n) + _ = _
  rw [Ideal.matmul_plain_apply]
  refine congrArg₂ (· + ·) ?_ ?_
  · show (Ideal.ofBits .f32 0x00000000#32 : EReal) + _ = _
    rw [Ideal.ofBits_zero_f32, zero_add]
    exact Finset.sum_congr rfl fun k _ => congrArg₂ (· * ·) rfl (drop_apply x1 _ k n)
  · exact (broadcastTo_apply _ _ _ (ix2 0 n) (fun a => by match a with | ⟨0, _⟩ => rfl | ⟨1, _⟩ => rfl)).trans (drop_apply x2 _ 0 n)

/-- Which blocks a grid point holds. -/
theorem windows : ∀ t : Fin cfg0.N,
    (win0_0.index t 0 = 0 ∧ win0_0.index t 1 = 0) ∧ (win0_1.index t 0 = t.val ∧ win0_1.index t 1 = 0 ∧ win0_1.index t 2 = 0)
      ∧ (win0_2.index t 0 = t.val ∧ win0_2.index t 1 = 0 ∧ win0_2.index t 2 = 0)
      ∧ (win0_3.index t 0 = t.val ∧ win0_3.index t 1 = 0 ∧ win0_3.index t 2 = 0) :=
  (by decide +kernel : ∀ t : Fin grid0.N, _)

/-- What a grid point leaves of its blocks. -/
theorem leaves (x0 : Vec Ideal S8x1024 .f32) (x1 : Vec Ideal S1x1024x1536 .f32) (x2 : Vec Ideal S1x1x1536 .f32) :
    out0_3 x0 x1 x2 = k0_pay1 x0 x1 x2 := by
  unfold out0_3
  rw [View.canon_unit_zero zero₃]
  simp only [View.ld_unit_zero (S := S8x1024) zero₂, View.ld_unit_zero (S := S1x1024x1536) zero₃, View.ld_unit_zero (S := S1x1x1536) zero₃]

/-- What the kernel leaves in its result. -/
theorem left (m : (ℓ : Loc nD τ sig) → Buf (Elt Ideal) ℓ) (c : Dev nD) (l : Fin 2) (b : Fin 8) (n : Fin 1536) :
    (dats m 0 c).arrAt 3 cfg0.N (ix3 l b n)
      = modulation (m ((c : Thread nD τ).loc main_arg0)) (m ((c : Thread nD τ).loc main_arg1)) (m ((c : Thread nD τ).loc main_arg2)) l b n := by
  obtain ⟨t, ht⟩ : ∃ t : Fin cfg0.N, t.val = l.val := ⟨⟨l.val, l.isLt⟩, rfl⟩
  obtain ⟨⟨a0, a1⟩, ⟨b0, b1, b2⟩, ⟨c0, c1, c2⟩, ⟨d0, d1, d2⟩⟩ := windows t
  have at3 : ((cfg0.win 3).blk t).view.emb (ix3 0 b n : S1x8x1536.Idx) = ix3 l b n := by
    funext a; apply Fin.ext
    match a with
    | ⟨0, _⟩ => show win0_3.index t 0 * 1 + 1 * 0 = l.val; omega
    | ⟨1, _⟩ => show win0_3.index t 1 * 8 + 1 * b.val = b.val; omega
    | ⟨2, _⟩ => show win0_3.index t 2 * 1536 + 1 * n.val = n.val; omega
  have at0 (k : Fin 1024) : ((cfg0.win 0).blk t).view.emb (ix2 b k : S8x1024.Idx) = ix2 b k := by
    funext a; apply Fin.ext
    match a with
    | ⟨0, _⟩ => show win0_0.index t 0 * 8 + 1 * b.val = b.val; omega
    | ⟨1, _⟩ => show win0_0.index t 1 * 1024 + 1 * k.val = k.val; omega
  have at1 (k : Fin 1024) : ((cfg0.win 1).blk t).view.emb (ix3 0 k n : S1x1024x1536.Idx) = ix3 l k n := by
    funext a; apply Fin.ext
    match a with
    | ⟨0, _⟩ => show win0_1.index t 0 * 1 + 1 * 0 = l.val; omega
    | ⟨1, _⟩ => show win0_1.index t 1 * 1024 + 1 * k.val = k.val; omega
    | ⟨2, _⟩ => show win0_1.index t 2 * 1536 + 1 * n.val = n.val; omega
  have at2 : ((cfg0.win 2).blk t).view.emb (ix3 0 0 n : S1x1x1536.Idx) = ix3 l 0 n := by
    funext a; apply Fin.ext
    match a with
    | ⟨0, _⟩ => show win0_2.index t 0 * 1 + 1 * 0 = l.val; omega
    | ⟨1, _⟩ => show win0_2.index t 1 * 1 + 1 * 0 = 0; omega
    | ⟨2, _⟩ => show win0_2.index t 2 * 1536 + 1 * n.val = n.val; omega
  have h := congrFun (Value.blocks3 m c t (flush0_3 t)) (ix3 0 b n : S1x8x1536.Idx)
  refine (congrArg _ at3.symm).trans (h.trans ((congrFun (Value.flushed3 m c t) _).trans ?_))
  show out0_3 (iblk m c 0 t) (iblk m c 1 t) (iblk m c 2 t) (ix3 0 b n) = _
  rw [leaves]
  refine (point _ _ _ b n).trans ?_
  unfold modulation
  refine congrArg₂ (· + ·) (Finset.sum_congr rfl fun k _ => congrArg₂ (· * ·) (congrArg silu ?_) ?_) ?_
  · exact congrArg (m ((c : Thread nD τ).loc main_arg0)) (at0 k)
  · exact congrArg (m ((c : Thread nD τ).loc main_arg1)) (at1 k)
  · exact congrArg (m ((c : Thread nD τ).loc main_arg2)) at2

end Kernel

section Reference

open Cert.AdaFwdReferenceIdeal Cert.AdaFwdReferenceIdeal.Gen

/-- A layer's modulation, as the reference writes it. -/
theorem layer (c : FVec Ideal S8x1024 .f32) (w : FVec Ideal S2x1024x1536 .f32) (bias : FVec Ideal S2x1x1536 .f32) (l : Fin 2)
    (hw : S2x1024x1536.Slices ![l.val, 0, 0] S1x1024x1536) (hb : S2x1x1536.Slices ![l.val, 0, 0] S1x1x1536) (b : Fin 8) (n : Fin 1536) :
    broadcastInDim S1x8x1536 ![1, 2] bcast_S8x1536_S1x8x1536_1_2
      (addf (Host.dotGeneral (F := Ideal) (φ₁ := .f32) (φ₂ := .f32) dot_S8x1024_S1024x1536_S8x1536_1_0_0_1_n_n none
          (mulf c (Host.divf (broadcastInDim S8x1024 ![] bcast_S_S8x1024 (constant S_ .f32 0x3F800000#32))
            (addf (broadcastInDim S8x1024 ![] bcast_S_S8x1024 (constant S_ .f32 0x3F800000#32)) (Host.exp (Host.negf c)))))
          (shapeCast S1024x1536 (extractStridedSlice S1x1024x1536 ![l.val, 0, 0] w hw) shapeCasts_S1x1024x1536_S1024x1536))
        (broadcastInDim S8x1536 ![0, 1] bcast_S1x1536_S8x1536_0_1
          (shapeCast S1x1536 (extractStridedSlice S1x1x1536 ![l.val, 0, 0] bias hb) shapeCasts_S1x1x1536_S1x1536))) (ix3 0 b n)
      = modulation c w bias l b n := by
  refine (broadcastInDim_apply _ _ _ _ (ix2 b n) (fun a => by match a with | ⟨0, _⟩ => rfl | ⟨1, _⟩ => rfl)).trans ?_
  show Host.dotGeneral (DotDims.plain 8 1024 1536) none _ _ (ix2 b n) + _ = _
  rw [StackMember.dotGeneral_plain_apply]
  refine congrArg₂ (· + ·) (Finset.sum_congr rfl fun k _ => congrArg₂ (· * ·) (gate_apply _ c _) ?_) ?_
  · refine (drop_apply _ _ k n).trans (congrArg w ?_)
    funext a; apply Fin.ext
    match a with
    | ⟨0, _⟩ => rfl
    | ⟨1, _⟩ => exact Nat.zero_add _
    | ⟨2, _⟩ => exact Nat.zero_add _
  · refine (broadcastInDim_apply _ _ _ _ (ix2 0 n) (fun a => by match a with | ⟨0, _⟩ => rfl | ⟨1, _⟩ => rfl)).trans ?_
    refine (drop_apply _ _ 0 n).trans (congrArg bias ?_)
    funext a; apply Fin.ext
    match a with
    | ⟨0, _⟩ => rfl
    | ⟨1, _⟩ => rfl
    | ⟨2, _⟩ => exact Nat.zero_add _

end Reference

theorem frame : quiescent_AdaFwd := fun m g _ => Cert.AdaFwd.Gen.frame m g

theorem frame_ideal : quiescent_AdaFwdIdeal := fun m g _ => Cert.AdaFwdIdeal.Gen.frame m g

theorem reference_frame : quiescent_AdaFwdReferenceIdeal := fun m g _ =>
  (θ_run Cert.AdaFwdReferenceIdeal.defs _ _).mono (fun r h => ⟨fun c => (h c).2, sem_eq_zero_of_no_sems rfl r.2⟩)
    (Cert.AdaFwdReferenceIdeal.Value.run (F := Ideal) m g)

theorem preserves : preserves_AdaFwd_AdaFwdIdeal := trivial

theorem value : algebraic_AdaFwdIdeal_AdaFwdReferenceIdeal := fun m g m' g' _ hm =>
  ⟨_, Cert.AdaFwdIdeal.Value.run_blocks (F := Ideal) m g,
    (θ_run Cert.AdaFwdReferenceIdeal.defs _ _).mono
      (fun r h c => by
        obtain ⟨rows, weights, bias⟩ := hm c
        refine ⟨(h c).1.trans ?_, (h c).2⟩
        funext i
        obtain ⟨l, b, n, rfl⟩ : ∃ (l : Fin 2) (b : Fin 8) (n : Fin 1536), i = ix3 l b n := ⟨i 0, i 1, i 2, eq_ix3 i⟩
        rw [left m c l b n, ← rows, ← weights, ← bias]
        match l with
        | 0 => exact (stack_first _ _ _ b n).trans (layer _ _ _ 0 _ _ b n)
        | 1 => exact (stack_second _ _ _ b n).trans (layer _ _ _ 1 _ _ b n))
      (Cert.AdaFwdReferenceIdeal.Value.run (F := Ideal) m' g')⟩

end Cert.Modulation

end
-- ==== Proof.AdaGrad.lean ====
/-
The gradient of the conditioning's weights: at each layer the product of the gated conditioning rows, transposed, with the rows' modulation
gradients.  The kernel sums over 128 rows, of which the last 120 have gradient zero.
-/
module

public import proofs.«01_k».proof.Defs
public import proofs.«01_k».proof.Proof.Gen.AdaGrad.Frame
public import proofs.«01_k».proof.Proof.Gen.AdaGradIdeal.Value
public import proofs.«01_k».proof.Proof.Gen.AdaGradReferenceIdeal.Run
public import proofs.«01_k».proof.Proof.Entries
public import Idealize.ShloMosaic.Lib.Quiescent

@[expose] public section

noncomputable section

namespace Cert.WeightGradient

open Idealize.ShloMosaic Idealize.SL.Sem Idealize.ShloMosaic.ValueIdx Idealize.ShloMosaic.TcCoe Cert.Entries
open scoped BigOperators

/-- The gradient of layer `l`'s weight `(k, n)`: over the eight devices' rows. -/
def gradient (c : FVec Ideal ⟨2, ![8, 1024]⟩ .f32) (d : FVec Ideal ⟨3, ![8, 2, 1536]⟩ .f32) (l : Fin 2) (k : Fin 1024) (n : Fin 1536) : EReal :=
  ∑ b : Fin 8, silu (c (ix2 b k)) * d (ix3 b l n)

section Kernel

open Cert.AdaGradIdeal Cert.AdaGradIdeal.Gen

/-- What a grid point computes of its blocks. -/
theorem point (x0 : Vec Ideal S1024x128 .f32) (x1 : Vec Ideal S1x128x1536 .f32) (k : Fin 1024) (n : Fin 1536) :
    k0_pay1 x0 x1 (ix3 0 k n) = ∑ b : Fin 128, silu (x0 (ix2 k b)) * x1 (ix3 0 b n) := by
  unfold k0_pay1
  refine (lift_apply _ _ k n).trans ?_
  show FloatOps.matmul (DotDims.plain 1024 128 1536) (some .fp32) _ _ _ (ix2 k n) = _
  rw [Ideal.matmul_plain_apply]
  show (Ideal.ofBits .f32 0x00000000#32 : EReal) + _ = _
  rw [Ideal.ofBits_zero_f32, zero_add]
  refine Finset.sum_congr rfl fun b _ => congrArg₂ (· * ·) ?_ (drop_apply x1 _ b n)
  show silu (shapeCast S1024x128 x0 shapeCasts_S1024x128_S1024x128 (ix2 k b)) = _
  rw [shapeCast_self]

/-- Which blocks a grid point holds. -/
theorem windows : ∀ t : Fin cfg0.N,
    (win0_0.index t 0 = 0 ∧ win0_0.index t 1 = 0) ∧ (win0_1.index t 0 = t.val ∧ win0_1.index t 1 = 0 ∧ win0_1.index t 2 = 0)
      ∧ (win0_2.index t 0 = t.val ∧ win0_2.index t 1 = 0 ∧ win0_2.index t 2 = 0) :=
  (by decide +kernel : ∀ t : Fin grid0.N, _)

/-- What a grid point leaves of its blocks. -/
theorem leaves (x0 : Vec Ideal S1024x128 .f32) (x1 : Vec Ideal S1x128x1536 .f32) : out0_2 x0 x1 = k0_pay1 x0 x1 := by
  unfold out0_2
  rw [View.canon_unit_zero zero₃]
  simp only [View.ld_unit_zero (S := S1024x128) zero₂, View.ld_unit_zero (S := S1x128x1536) zero₃]

/-- What the rows are padded with. -/
def filling : FVec Ideal S_ .f32 := sitofp .f32 (constantI S_ 32 0#32)

theorem filling_apply (i : S_.Idx) : filling i = 0 := by
  show (((0#32 : BitVec 32).toInt : ℝ) : EReal) = 0
  simp

variable (m : (ℓ : Loc nD τ sig) → Buf (Elt Ideal) ℓ) (c : Dev nD)

/-- The conditioning rows the kernel is given: transposed and padded. -/
theorem given_rows : V m c main_v3 = pad S1024x128 ![0, 0] ![0, 120] ![0, 0]
    (transpose S1024x8 [1, 0] (m ((c : Thread nD τ).loc main_arg0)) transposes_S8x1024_S1024x8_1_0) filling pads_S1024x8_S1024x128_000_01200 h_S_ := by
  show StableHlo.after _ _ (Proc.devRef .tc main_v3) = _
  simp only [hostOps0, hostOps0_1, hostOps0_2, hostOps0_3, List.flatten_cons, List.flatten_nil, List.append_nil, List.cons_append,
    List.nil_append, StableHlo.TRef.binary, StableHlo.TRef.unary, StableHlo.TRef.toBuf, StableHlo.TRef.ofBuf, cast_eq]
  after_results <;> rfl

/-- The modulation gradients the kernel is given: by layer, and padded. -/
theorem given_gradients : V m c main_v1 = pad S2x128x1536 ![0, 0, 0] ![0, 120, 0] ![0, 0, 0]
    (transpose S2x8x1536 [1, 0, 2] (m ((c : Thread nD τ).loc main_arg1)) transposes_S8x2x1536_S2x8x1536_1_0_2) filling
    pads_S2x8x1536_S2x128x1536_000_01200_000 h_S_ := by
  show StableHlo.after _ _ (Proc.devRef .tc main_v1) = _
  simp only [hostOps0, hostOps0_1, hostOps0_2, hostOps0_3, List.flatten_cons, List.flatten_nil, List.append_nil, List.cons_append,
    List.nil_append, StableHlo.TRef.binary, StableHlo.TRef.unary, StableHlo.TRef.toBuf, StableHlo.TRef.ofBuf, cast_eq]
  after_results <;> rfl

/-- A row the kernel is given, for a device. -/
theorem row (k : Fin 1024) (b : Fin 8) :
    (V m c main_v3 : FVec Ideal S1024x128 .f32) (ix2 k (Fin.castAdd 120 b)) = m ((c : Thread nD τ).loc main_arg0) (ix2 b k) := by
  rw [given_rows]
  refine (pad_apply_of_inside _ _ _ _ _ _ _ _ (ix2 k b) (fun a => by match a with | ⟨0, _⟩ => simp | ⟨1, _⟩ => simp)).trans ?_
  exact transpose_apply _ _ _ _ (ix2 b k) fun a => by match a with | ⟨0, _⟩ => rfl | ⟨1, _⟩ => rfl

/-- A modulation gradient the kernel is given, for a device. -/
theorem share (l : Fin 2) (b : Fin 8) (n : Fin 1536) :
    (V m c main_v1 : FVec Ideal S2x128x1536 .f32) (ix3 l (Fin.castAdd 120 b) n) = m ((c : Thread nD τ).loc main_arg1) (ix3 b l n) := by
  rw [given_gradients]
  refine (pad_apply_of_inside _ _ _ _ _ _ _ _ (ix3 l b n) (fun a => by match a with | ⟨0, _⟩ => simp | ⟨1, _⟩ => simp | ⟨2, _⟩ => simp)).trans ?_
  exact transpose_apply _ _ _ _ (ix3 b l n) fun a => by match a with | ⟨0, _⟩ => rfl | ⟨1, _⟩ => rfl | ⟨2, _⟩ => rfl

/-- The gradients of the rows beyond the devices' are zero. -/
theorem beyond (l : Fin 2) (b : Fin 120) (n : Fin 1536) :
    (V m c main_v1 : FVec Ideal S2x128x1536 .f32) (ix3 l (Fin.natAdd 8 b) n) = (0 : EReal) := by
  rw [given_gradients]
  refine (pad_apply_of_not_inside _ _ _ _ _ _ _ _ 1 (fun h => ?_)).trans (filling_apply _)
  have := h.2.2
  simp at this
  have : 8 + b.val < 8 := this
  omega

/-- What the kernel leaves in its result. -/
theorem left (l : Fin 2) (k : Fin 1024) (n : Fin 1536) :
    (dats m 0 c).arrAt 2 cfg0.N (ix3 l k n)
      = gradient (m ((c : Thread nD τ).loc main_arg0)) (m ((c : Thread nD τ).loc main_arg1)) l k n := by
  obtain ⟨t, ht⟩ : ∃ t : Fin cfg0.N, t.val = l.val := ⟨⟨l.val, l.isLt⟩, rfl⟩
  obtain ⟨⟨a0, a1⟩, ⟨b0, b1, b2⟩, ⟨c0, c1, c2⟩⟩ := windows t
  have at2 : ((cfg0.win 2).blk t).view.emb (ix3 0 k n : S1x1024x1536.Idx) = ix3 l k n := by
    funext a; apply Fin.ext
    match a with
    | ⟨0, _⟩ => show win0_2.index t 0 * 1 + 1 * 0 = l.val; omega
    | ⟨1, _⟩ => show win0_2.index t 1 * 1024 + 1 * k.val = k.val; omega
    | ⟨2, _⟩ => show win0_2.index t 2 * 1536 + 1 * n.val = n.val; omega
  have at0 (b : Fin 128) : ((cfg0.win 0).blk t).view.emb (ix2 k b : S1024x128.Idx) = ix2 k b := by
    funext a; apply Fin.ext
    match a with
    | ⟨0, _⟩ => show win0_0.index t 0 * 1024 + 1 * k.val = k.val; omega
    | ⟨1, _⟩ => show win0_0.index t 1 * 128 + 1 * b.val = b.val; omega
  have at1 (b : Fin 128) : ((cfg0.win 1).blk t).view.emb (ix3 0 b n : S1x128x1536.Idx) = ix3 l b n := by
    funext a; apply Fin.ext
    match a with
    | ⟨0, _⟩ => show win0_1.index t 0 * 1 + 1 * 0 = l.val; omega
    | ⟨1, _⟩ => show win0_1.index t 1 * 128 + 1 * b.val = b.val; omega
    | ⟨2, _⟩ => show win0_1.index t 2 * 1536 + 1 * n.val = n.val; omega
  have h := congrFun (Value.blocks2 m c t (flush0_2 t)) (ix3 0 k n : S1x1024x1536.Idx)
  refine (congrArg _ at2.symm).trans (h.trans ((congrFun (Value.flushed2 m c t) _).trans ?_))
  show out0_2 (iblk m c 0 t) (iblk m c 1 t) (ix3 0 k n) = _
  rw [leaves]
  refine (point _ _ k n).trans ?_
  have e : ∀ b : Fin 128, silu (iblk m c 0 t (ix2 k b : S1024x128.Idx)) * iblk m c 1 t (ix3 0 b n : S1x128x1536.Idx)
      = silu ((V m c main_v3 : FVec Ideal S1024x128 .f32) (ix2 k b)) * (V m c main_v1 : FVec Ideal S2x128x1536 .f32) (ix3 l b n) := fun b =>
    congrArg₂ (· * ·) (congrArg silu (congrArg (V m c main_v3) (at0 b))) (congrArg (V m c main_v1) (at1 b))
  refine (Finset.sum_congr rfl fun b _ => e b).trans ?_
  refine (Fin.sum_univ_add (a := 8) (b := 120) _).trans ?_
  refine (congrArg₂ (· + ·) (Finset.sum_congr rfl fun b _ => congrArg₂ (· * ·) (congrArg silu (row m c k b)) (share m c l b n))
    (Finset.sum_eq_zero fun b _ => (congrArg (_ * ·) (beyond m c l b n)).trans (mul_zero _))).trans (add_zero _)

end Kernel

section Reference

open Cert.AdaGradReferenceIdeal Cert.AdaGradReferenceIdeal.Gen

/-- A layer's gradient, as the reference writes it. -/
theorem layer (c : FVec Ideal S8x1024 .f32) (d : FVec Ideal S8x2x1536 .f32) (l : Fin 2)
    (hd : S8x2x1536.Slices ![0, l.val, 0] S8x1x1536) (k : Fin 1024) (n : Fin 1536) :
    broadcastInDim S1x1024x1536 ![1, 2] bcast_S1024x1536_S1x1024x1536_1_2
      (Host.dotGeneral (F := Ideal) (φ₁ := .f32) (φ₂ := .f32) dot_S1024x8_S8x1536_S1024x1536_1_0_0_1_n_n none
          (transpose S1024x8 [1, 0] (mulf c (Host.divf (broadcastInDim S8x1024 ![] bcast_S_S8x1024 (constant S_ .f32 0x3F800000#32))
            (addf (broadcastInDim S8x1024 ![] bcast_S_S8x1024 (constant S_ .f32 0x3F800000#32)) (Host.exp (Host.negf c)))))
            transposes_S8x1024_S1024x8_1_0)
          (shapeCast S8x1536 (extractStridedSlice S8x1x1536 ![0, l.val, 0] d hd) shapeCasts_S8x1x1536_S8x1536)) (ix3 0 k n)
      = gradient c d l k n := by
  refine (broadcastInDim_apply _ _ _ _ (ix2 k n) (fun a => by match a with | ⟨0, _⟩ => rfl | ⟨1, _⟩ => rfl)).trans ?_
  show Host.dotGeneral (DotDims.plain 1024 8 1536) none _ _ (ix2 k n) = _
  rw [StackMember.dotGeneral_plain_apply]
  refine Finset.sum_congr rfl fun b _ => congrArg₂ (· * ·) ?_ ?_
  · exact (transpose_apply _ _ _ _ (ix2 b k) fun a => by match a with | ⟨0, _⟩ => rfl | ⟨1, _⟩ => rfl).trans (gate_apply _ c _)
  · refine (shapeCast_apply _ _ _ (ix3 b 0 n) ?_).trans (congrArg d ?_)
    · rw [Shape.rowMajor_val_three, Shape.rowMajor_val_two]
      show (b.val * 1 + 0) * 1536 + n.val = b.val * 1536 + n.val
      omega
    · funext a; apply Fin.ext
      match a with
      | ⟨0, _⟩ => exact Nat.zero_add _
      | ⟨1, _⟩ => rfl
      | ⟨2, _⟩ => exact Nat.zero_add _

end Reference

theorem frame : quiescent_AdaGrad := fun m g _ => Cert.AdaGrad.Gen.frame m g

theorem frame_ideal : quiescent_AdaGradIdeal := fun m g _ => Cert.AdaGradIdeal.Gen.frame m g

theorem reference_frame : quiescent_AdaGradReferenceIdeal := fun m g _ =>
  (θ_run Cert.AdaGradReferenceIdeal.defs _ _).mono (fun r h => ⟨fun c => (h c).2, sem_eq_zero_of_no_sems rfl r.2⟩)
    (Cert.AdaGradReferenceIdeal.Value.run (F := Ideal) m g)

theorem preserves : preserves_AdaGrad_AdaGradIdeal := trivial

theorem value : algebraic_AdaGradIdeal_AdaGradReferenceIdeal := fun m g m' g' _ hm =>
  ⟨_, Cert.AdaGradIdeal.Value.run_blocks (F := Ideal) m g,
    (θ_run Cert.AdaGradReferenceIdeal.defs _ _).mono
      (fun r h c => by
        obtain ⟨rows, gradients⟩ := hm c
        refine ⟨(h c).1.trans ?_, (h c).2⟩
        funext i
        obtain ⟨l, k, n, rfl⟩ : ∃ (l : Fin 2) (k : Fin 1024) (n : Fin 1536), i = ix3 l k n := ⟨i 0, i 1, i 2, eq_ix3 i⟩
        rw [left m c l k n, ← rows, ← gradients]
        match l with
        | 0 => exact (stack_first _ _ _ k n).trans (layer _ _ 0 _ k n)
        | 1 => exact (stack_second _ _ _ k n).trans (layer _ _ 1 _ k n))
      (Cert.AdaGradReferenceIdeal.Value.run (F := Ideal) m' g')⟩

end Cert.WeightGradient

end
-- ==== Proof.Pointwise.lean ====
/-
The modulated input of a layer and the squared rectifier of the perceptron, entry by entry.
-/
module

public import proofs.«01_k».proof.Defs
public import proofs.«01_k».proof.Proof.Gen.ModIn.Frame
public import proofs.«01_k».proof.Proof.Gen.ModInIdeal.Value
public import proofs.«01_k».proof.Proof.Gen.ModInReferenceIdeal.Run
public import proofs.«01_k».proof.Proof.Gen.MlpAct.Frame
public import proofs.«01_k».proof.Proof.Gen.MlpActIdeal.Value
public import proofs.«01_k».proof.Proof.Gen.MlpActReferenceIdeal.Run
public import proofs.«01_k».proof.Proof.Entries
public import Idealize.ShloMosaic.Lib.Quiescent

@[expose] public section

noncomputable section

namespace Cert.Rectifier

open Idealize.ShloMosaic Idealize.SL.Sem

theorem frame : quiescent_MlpAct := fun m g _ => Cert.MlpAct.Gen.frame m g

theorem frame_ideal : quiescent_MlpActIdeal := fun m g _ => Cert.MlpActIdeal.Gen.frame m g

theorem reference_frame : quiescent_MlpActReferenceIdeal := fun m g _ =>
  (θ_run Cert.MlpActReferenceIdeal.defs _ _).mono (fun r h => ⟨fun c => (h c).2, sem_eq_zero_of_no_sems rfl r.2⟩)
    (Cert.MlpActReferenceIdeal.Value.run (F := Ideal) m g)

theorem preserves : preserves_MlpAct_MlpActIdeal := trivial

theorem value : algebraic_MlpActIdeal_MlpActReferenceIdeal := fun m g m' g' _ hm =>
  ⟨_, Cert.MlpActIdeal.Value.run (F := Ideal) m g,
    (θ_run Cert.MlpActReferenceIdeal.defs _ _).mono
      (fun r h c => by
        have activations := hm c
        rw [← activations]
        exact ⟨(h c).1.trans (funext fun _ => rfl), (h c).2⟩)
      (Cert.MlpActReferenceIdeal.Value.run (F := Ideal) m' g')⟩

end Cert.Rectifier

namespace Cert.ModulatedInput

open Idealize.ShloMosaic Idealize.SL.Sem Idealize.ShloMosaic.ValueIdx Idealize.ShloMosaic.TcCoe Cert.Entries

/-- The modulated input at a row and a column. -/
def modulated (x : FVec Ideal ⟨2, ![2048, 1024]⟩ .f32) (scale shift : FVec Ideal ⟨2, ![1, 1024]⟩ .f32) (i : Fin 2048) (j : Fin 1024) : EReal :=
  x (ix2 i j) * (1 + scale (ix2 0 j)) + shift (ix2 0 j)

section Kernel

open Cert.ModInIdeal Cert.ModInIdeal.Gen

/-- What a grid point computes of its blocks. -/
theorem point (x : Vec Ideal S256x1024 .f32) (scale shift : Vec Ideal S1x1024 .f32) (i : Fin 256) (j : Fin 1024) :
    k0_pay1 x scale shift (ix2 i j) = x (ix2 i j) * (1 + scale (ix2 0 j)) + shift (ix2 0 j) := by
  refine congrArg₂ (· + ·) (congrArg₂ (· * ·) rfl ?_) ?_
  · refine (broadcastTo_apply _ _ _ (ix2 0 j) (fun a => by match a with | ⟨0, _⟩ => rfl | ⟨1, _⟩ => rfl)).trans ?_
    exact congrArg (· + scale (ix2 0 j)) Ideal.ofBits_one_f32
  · exact broadcastTo_apply _ _ _ (ix2 0 j) (fun a => by match a with | ⟨0, _⟩ => rfl | ⟨1, _⟩ => rfl)

/-- Which blocks a grid point holds. -/
theorem windows : ∀ t : Fin cfg0.N,
    (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = t.val ∧ win0_3.index t 1 = 0) :=
  (by decide +kernel : ∀ t : Fin grid0.N, _)

/-- What a grid point leaves of its blocks. -/
theorem leaves (x : Vec Ideal S256x1024 .f32) (scale shift : Vec Ideal S1x1024 .f32) : out0_3 x scale shift = k0_pay1 x scale shift := by
  unfold out0_3
  rw [View.canon_unit_zero zero₂]
  simp only [View.ld_unit_zero (S := S256x1024) zero₂, View.ld_unit_zero (S := S1x1024) zero₂]

/-- What the kernel leaves in its result. -/
theorem left (m : (ℓ : Loc nD τ sig) → Buf (Elt Ideal) ℓ) (c : Dev nD) (i : Fin 2048) (j : Fin 1024) :
    (dats m 0 c).arrAt 3 cfg0.N (ix2 i j)
      = modulated (m ((c : Thread nD τ).loc main_arg0)) (m ((c : Thread nD τ).loc main_arg1)) (m ((c : Thread nD τ).loc main_arg2)) i j := by
  obtain ⟨t, ht⟩ : ∃ t : Fin cfg0.N, t.val = i.val / 256 := ⟨⟨i.val / 256, (by have := i.isLt; omega : i.val / 256 < 8)⟩, rfl⟩
  obtain ⟨⟨a0, a1⟩, ⟨b0, b1⟩, ⟨c0, c1⟩, ⟨d0, d1⟩⟩ := windows t
  obtain ⟨p, hp⟩ : ∃ p : Fin 256, p.val = i.val % 256 := ⟨⟨i.val % 256, Nat.mod_lt _ (by decide)⟩, rfl⟩
  have at3 : ((cfg0.win 3).blk t).view.emb (ix2 p j : S256x1024.Idx) = ix2 i j := by
    funext a; apply Fin.ext
    match a with
    | ⟨0, _⟩ => show win0_3.index t 0 * 256 + 1 * p.val = i.val; omega
    | ⟨1, _⟩ => show win0_3.index t 1 * 1024 + 1 * j.val = j.val; omega
  have at0 : ((cfg0.win 0).blk t).view.emb (ix2 p j : S256x1024.Idx) = ix2 i j := by
    funext a; apply Fin.ext
    match a with
    | ⟨0, _⟩ => show win0_0.index t 0 * 256 + 1 * p.val = i.val; omega
    | ⟨1, _⟩ => show win0_0.index t 1 * 1024 + 1 * j.val = j.val; omega
  have at1 : ((cfg0.win 1).blk t).view.emb (ix2 0 j : S1x1024.Idx) = ix2 0 j := by
    funext a; apply Fin.ext
    match a with
    | ⟨0, _⟩ => show win0_1.index t 0 * 1 + 1 * 0 = 0; omega
    | ⟨1, _⟩ => show win0_1.index t 1 * 1024 + 1 * j.val = j.val; omega
  have at2 : ((cfg0.win 2).blk t).view.emb (ix2 0 j : S1x1024.Idx) = ix2 0 j := by
    funext a; apply Fin.ext
    match a with
    | ⟨0, _⟩ => show win0_2.index t 0 * 1 + 1 * 0 = 0; omega
    | ⟨1, _⟩ => show win0_2.index t 1 * 1024 + 1 * j.val = j.val; omega
  have h := congrFun (Value.blocks3 m c t (flush0_3 t)) (ix2 p j : S256x1024.Idx)
  refine (congrArg _ at3.symm).trans (h.trans ((congrFun (Value.flushed3 m c t) _).trans ?_))
  show out0_3 (iblk m c 0 t) (iblk m c 1 t) (iblk m c 2 t) (ix2 p j) = _
  rw [leaves]
  refine (point _ _ _ p j).trans ?_
  unfold modulated
  refine congrArg₂ (· + ·) (congrArg₂ (· * ·) ?_ (congrArg (1 + ·) ?_)) ?_
  · exact congrArg (m ((c : Thread nD τ).loc main_arg0)) at0
  · exact congrArg (m ((c : Thread nD τ).loc main_arg1)) at1
  · exact congrArg (m ((c : Thread nD τ).loc main_arg2)) at2

end Kernel

section Reference

open Cert.ModInReferenceIdeal Cert.ModInReferenceIdeal.Gen

/-- The modulated input as the reference writes it. -/
theorem written (x : FVec Ideal S2048x1024 .f32) (scale shift : FVec Ideal S1x1024 .f32) (i : Fin 2048) (j : Fin 1024) :
    addf (mulf x (broadcastInDim S2048x1024 ![0, 1] bcast_S1x1024_S2048x1024_0_1
        (addf (broadcastInDim S1x1024 ![] bcast_S_S1x1024 (constant S_ .f32 0x3F800000#32)) scale)))
      (broadcastInDim S2048x1024 ![0, 1] bcast_S1x1024_S2048x1024_0_1 shift) (ix2 i j) = modulated x scale shift i j := by
  refine congrArg₂ (· + ·) (congrArg₂ (· * ·) rfl ?_) ?_
  · refine (broadcastInDim_apply _ _ _ _ (ix2 0 j) (fun a => by match a with | ⟨0, _⟩ => rfl | ⟨1, _⟩ => rfl)).trans ?_
    exact congrArg (· + scale (ix2 0 j)) Ideal.ofBits_one_f32
  · exact broadcastInDim_apply _ _ _ _ (ix2 0 j) (fun a => by match a with | ⟨0, _⟩ => rfl | ⟨1, _⟩ => rfl)

end Reference

theorem frame : quiescent_ModIn := fun m g _ => Cert.ModIn.Gen.frame m g

theorem frame_ideal : quiescent_ModInIdeal := fun m g _ => Cert.ModInIdeal.Gen.frame m g

theorem reference_frame : quiescent_ModInReferenceIdeal := fun m g _ =>
  (θ_run Cert.ModInReferenceIdeal.defs _ _).mono (fun r h => ⟨fun c => (h c).2, sem_eq_zero_of_no_sems rfl r.2⟩)
    (Cert.ModInReferenceIdeal.Value.run (F := Ideal) m g)

theorem preserves : preserves_ModIn_ModInIdeal := trivial

theorem value : algebraic_ModInIdeal_ModInReferenceIdeal := fun m g m' g' _ hm =>
  ⟨_, Cert.ModInIdeal.Value.run_blocks (F := Ideal) m g,
    (θ_run Cert.ModInReferenceIdeal.defs _ _).mono
      (fun r h c => by
        obtain ⟨inputs, scales, shifts⟩ := hm c
        refine ⟨(h c).1.trans ?_, (h c).2⟩
        funext a
        obtain ⟨i, j, rfl⟩ : ∃ (i : Fin 2048) (j : Fin 1024), a = ix2 i j := ⟨a 0, a 1, eq_ix2 a⟩
        rw [left m c i j, ← inputs, ← scales, ← shifts]
        exact written _ _ _ i j)
      (Cert.ModInReferenceIdeal.Value.run (F := Ideal) m' g')⟩

end Cert.ModulatedInput

end
-- ==== Proof.LayerNorm.lean ====
/-
The layer normalization of the rows of a matrix, and the residual it is taken of: as a kernel writes them over a tile of
256 rows, as a host writes them over 2048, and as a formula in the numbers of one row.
-/
module

public import proofs.«01_k».proof.Proof.Entries

@[expose] public section

noncomputable section

namespace Cert.LayerNorm

open Idealize.ShloMosaic Idealize.ShloMosaic.ValueIdx Cert.Entries

/-- The mean of a row's 1024 numbers. -/
def mean (f : Fin 1024 → EReal) : EReal := Ideal.div (∑ k, f k) (Ideal.ofBits .f32 0x44800000#32)

/-- A number of a row less the row's mean. -/
def centred (f : Fin 1024 → EReal) (k : Fin 1024) : EReal := f k - mean f

/-- A row's numbers centred, divided by their deviation, scaled and shifted. -/
def normal (f g b : Fin 1024 → EReal) (k : Fin 1024) : EReal :=
  centred f k * Ideal.rsqrt (mean (fun l => centred f l * centred f l) + Ideal.ofBits .f32 0x3727C5AC#32) * g k + b k

/-- A row of the residual: the stream scaled, plus a branch through its gate. -/
def residual (x y gate : Fin 1024 → EReal) (k : Fin 1024) : EReal :=
  Ideal.ofBits .f32 0x3FB504F3#32 * x k + (1 + gate k) * y k

section Kernel

/-- One row spread over a tile, at an entry. -/
theorem spread_row (v : FVec Ideal ⟨2, ![1, 1024]⟩ .f32) (h : (⟨2, ![1, 1024]⟩ : Shape).Broadcasts ⟨2, ![256, 1024]⟩)
    (p : Fin 256) (k : Fin 1024) : broadcastTo ⟨2, ![256, 1024]⟩ v h (ix2 p k) = v (ix2 0 k) :=
  broadcastTo_apply _ _ _ (ix2 0 k) (fun a => by match a with | ⟨0, _⟩ => rfl | ⟨1, _⟩ => rfl)

/-- One column spread over a tile, at an entry. -/
theorem spread_column (v : FVec Ideal ⟨2, ![256, 1]⟩ .f32) (h : (⟨2, ![256, 1]⟩ : Shape).Broadcasts ⟨2, ![256, 1024]⟩)
    (p : Fin 256) (k : Fin 1024) : broadcastTo ⟨2, ![256, 1024]⟩ v h (ix2 p k) = v (ix2 p 0) :=
  broadcastTo_apply _ _ _ (ix2 p 0) (fun a => by match a with | ⟨0, _⟩ => rfl | ⟨1, _⟩ => rfl)

/-- The sums of a tile's rows as a column, at an entry. -/
theorem sums_apply (v : FVec Ideal ⟨2, ![256, 1024]⟩ .f32) (hr : (⟨2, ![256, 1024]⟩ : Shape).Reduces [1] ⟨1, ![256]⟩)
    (hs : (⟨1, ![256]⟩ : Shape).ShapeCasts ⟨2, ![256, 1]⟩) (p : Fin 256) :
    shapeCast ⟨2, ![256, 1]⟩ (multiReduction .add [1] ⟨1, ![256]⟩ v 0x00000000#32 hr (.inl rfl) rfl) hs (ix2 p 0) = ∑ k, v (ix2 p k) := by
  refine (shapeCast_apply _ _ _ (ix1 p) ?_).trans ((Ideal.multiReduction_add_single _ _ _ _ _ _).trans ?_)
  · rw [Shape.rowMajor_val_one, Shape.rowMajor_val_two]
    show p.val = p.val * 1 + 0
    omega
  · refine Finset.sum_congr rfl fun k _ => congrArg v ?_
    funext a
    match a with
    | ⟨0, _⟩ => rfl
    | ⟨1, _⟩ => rfl

/-- The means of a tile's rows as a column. -/
def means (hr : (⟨2, ![256, 1024]⟩ : Shape).Reduces [1] ⟨1, ![256]⟩) (hs : (⟨1, ![256]⟩ : Shape).ShapeCasts ⟨2, ![256, 1]⟩)
    (v : FVec Ideal ⟨2, ![256, 1024]⟩ .f32) : FVec Ideal ⟨2, ![256, 1]⟩ .f32 :=
  divf (shapeCast ⟨2, ![256, 1]⟩ (multiReduction .add [1] ⟨1, ![256]⟩ v 0x00000000#32 hr (.inl rfl) rfl) hs)
    (broadcast ⟨2, ![256, 1]⟩ (Scalar.ofBits .f32 0x44800000#32))

theorem means_apply (hr : (⟨2, ![256, 1024]⟩ : Shape).Reduces [1] ⟨1, ![256]⟩) (hs : (⟨1, ![256]⟩ : Shape).ShapeCasts ⟨2, ![256, 1]⟩)
    (v : FVec Ideal ⟨2, ![256, 1024]⟩ .f32) (p : Fin 256) : means hr hs v (ix2 p 0) = mean fun k => v (ix2 p k) :=
  congrArg (Ideal.div · (Ideal.ofBits .f32 0x44800000#32)) (sums_apply v hr hs p)

/-- A tile less its rows' means. -/
def lessMeans (hr : (⟨2, ![256, 1024]⟩ : Shape).Reduces [1] ⟨1, ![256]⟩) (hs : (⟨1, ![256]⟩ : Shape).ShapeCasts ⟨2, ![256, 1]⟩)
    (hc : (⟨2, ![256, 1]⟩ : Shape).Broadcasts ⟨2, ![256, 1024]⟩) (v : FVec Ideal ⟨2, ![256, 1024]⟩ .f32) : FVec Ideal ⟨2, ![256, 1024]⟩ .f32 :=
  subf v (broadcastTo ⟨2, ![256, 1024]⟩ (means hr hs v) hc)

theorem lessMeans_apply (hr : (⟨2, ![256, 1024]⟩ : Shape).Reduces [1] ⟨1, ![256]⟩) (hs : (⟨1, ![256]⟩ : Shape).ShapeCasts ⟨2, ![256, 1]⟩)
    (hc : (⟨2, ![256, 1]⟩ : Shape).Broadcasts ⟨2, ![256, 1024]⟩) (v : FVec Ideal ⟨2, ![256, 1024]⟩ .f32) (p : Fin 256) (k : Fin 1024) :
    lessMeans hr hs hc v (ix2 p k) = centred (fun l => v (ix2 p l)) k :=
  congrArg (v (ix2 p k) - ·) ((spread_column _ hc p k).trans (means_apply hr hs v p))

/-- A tile's normalization as a kernel writes it. -/
def tile (hr : (⟨2, ![256, 1024]⟩ : Shape).Reduces [1] ⟨1, ![256]⟩) (hs : (⟨1, ![256]⟩ : Shape).ShapeCasts ⟨2, ![256, 1]⟩)
    (hc : (⟨2, ![256, 1]⟩ : Shape).Broadcasts ⟨2, ![256, 1024]⟩) (hb : (⟨2, ![1, 1024]⟩ : Shape).Broadcasts ⟨2, ![256, 1024]⟩)
    (v : FVec Ideal ⟨2, ![256, 1024]⟩ .f32) (g b : FVec Ideal ⟨2, ![1, 1024]⟩ .f32) : FVec Ideal ⟨2, ![256, 1024]⟩ .f32 :=
  addf (mulf (mulf (lessMeans hr hs hc v)
      (broadcastTo ⟨2, ![256, 1024]⟩ (rsqrt (addf (means hr hs (mulf (lessMeans hr hs hc v) (lessMeans hr hs hc v)))
        (broadcast ⟨2, ![256, 1]⟩ (Scalar.ofBits .f32 0x3727C5AC#32)))) hc))
    (broadcastTo ⟨2, ![256, 1024]⟩ g hb)) (broadcastTo ⟨2, ![256, 1024]⟩ b hb)

theorem tile_apply (hr : (⟨2, ![256, 1024]⟩ : Shape).Reduces [1] ⟨1, ![256]⟩) (hs : (⟨1, ![256]⟩ : Shape).ShapeCasts ⟨2, ![256, 1]⟩)
    (hc : (⟨2, ![256, 1]⟩ : Shape).Broadcasts ⟨2, ![256, 1024]⟩) (hb : (⟨2, ![1, 1024]⟩ : Shape).Broadcasts ⟨2, ![256, 1024]⟩)
    (v : FVec Ideal ⟨2, ![256, 1024]⟩ .f32) (g b : FVec Ideal ⟨2, ![1, 1024]⟩ .f32) (p : Fin 256) (k : Fin 1024) :
    tile hr hs hc hb v g b (ix2 p k) = normal (fun l => v (ix2 p l)) (fun l => g (ix2 0 l)) (fun l => b (ix2 0 l)) k := by
  refine congrArg₂ (· + ·) (congrArg₂ (· * ·) (congrArg₂ (· * ·) (lessMeans_apply hr hs hc v p k) ?_) (spread_row g hb p k)) (spread_row b hb p k)
  refine (spread_column _ hc p k).trans (congrArg (fun e => Ideal.rsqrt (e + Ideal.ofBits .f32 0x3727C5AC#32)) ?_)
  refine (means_apply hr hs _ p).trans (congrArg mean (funext fun l => ?_))
  exact congrArg₂ (· * ·) (lessMeans_apply hr hs hc v p l) (lessMeans_apply hr hs hc v p l)

/-- A tile's residual as a kernel writes it. -/
def tileResidual (hb : (⟨2, ![1, 1024]⟩ : Shape).Broadcasts ⟨2, ![256, 1024]⟩) (x y : FVec Ideal ⟨2, ![256, 1024]⟩ .f32)
    (gate : FVec Ideal ⟨2, ![1, 1024]⟩ .f32) : FVec Ideal ⟨2, ![256, 1024]⟩ .f32 :=
  addf (mulf (broadcast ⟨2, ![256, 1024]⟩ (Scalar.ofBits .f32 0x3FB504F3#32)) x)
    (mulf (broadcastTo ⟨2, ![256, 1024]⟩ (addf (broadcast ⟨2, ![1, 1024]⟩ (Scalar.ofBits .f32 0x3F800000#32)) gate) hb) y)

theorem tileResidual_apply (hb : (⟨2, ![1, 1024]⟩ : Shape).Broadcasts ⟨2, ![256, 1024]⟩) (x y : FVec Ideal ⟨2, ![256, 1024]⟩ .f32)
    (gate : FVec Ideal ⟨2, ![1, 1024]⟩ .f32) (p : Fin 256) (k : Fin 1024) :
    tileResidual hb x y gate (ix2 p k) = residual (fun l => x (ix2 p l)) (fun l => y (ix2 p l)) (fun l => gate (ix2 0 l)) k :=
  congrArg₂ (· + ·) rfl (congrArg (· * y (ix2 p k))
    ((spread_row _ hb p k).trans (congrArg (· + gate (ix2 0 k)) Ideal.ofBits_one_f32)))

end Kernel

section Host

/-- One row spread over a matrix, at an entry. -/
theorem host_row (v : FVec Ideal ⟨2, ![1, 1024]⟩ .f32) (h : (⟨2, ![1, 1024]⟩ : Shape).BroadcastsInDim ⟨2, ![2048, 1024]⟩ ![0, 1])
    (i : Fin 2048) (k : Fin 1024) : broadcastInDim ⟨2, ![2048, 1024]⟩ ![0, 1] h v (ix2 i k) = v (ix2 0 k) :=
  broadcastInDim_apply _ _ _ _ (ix2 0 k) (fun a => by match a with | ⟨0, _⟩ => rfl | ⟨1, _⟩ => rfl)

/-- One column spread over a matrix, at an entry. -/
theorem host_column (v : FVec Ideal ⟨2, ![2048, 1]⟩ .f32) (h : (⟨2, ![2048, 1]⟩ : Shape).BroadcastsInDim ⟨2, ![2048, 1024]⟩ ![0, 1])
    (i : Fin 2048) (k : Fin 1024) : broadcastInDim ⟨2, ![2048, 1024]⟩ ![0, 1] h v (ix2 i k) = v (ix2 i 0) :=
  broadcastInDim_apply _ _ _ _ (ix2 i 0) (fun a => by match a with | ⟨0, _⟩ => rfl | ⟨1, _⟩ => rfl)

/-- The sums of a matrix's rows, at an entry. -/
theorem host_sums (v : FVec Ideal ⟨2, ![2048, 1024]⟩ .f32) (hr : (⟨2, ![2048, 1024]⟩ : Shape).ReducesTo [1] ⟨1, ![2048]⟩)
    (hu : 0 < (⟨0, ![]⟩ : Shape).numel) (i : Fin 2048) :
    Host.reduceAdd v (constant ⟨0, ![]⟩ .f32 0x00000000#32) hr hu (ix1 i) = ∑ k, v (ix2 i k) := by
  have single := Ideal.hostReduceAdd_single hr (by decide : (⟨2, ![2048, 1024]⟩ : Shape).Reduces [1] ⟨1, ![2048]⟩) v
    (Ideal.ofBits .f32 0x00000000#32) (ix1 i)
  refine Eq.trans (show _ = Ideal.hostReduceAdd hr v (Ideal.ofBits .f32 0x00000000#32) (ix1 i) from rfl) (single.trans ?_)
  rw [Ideal.ofBits_zero_f32, zero_add]
  refine Finset.sum_congr rfl fun k _ => congrArg v ?_
  funext a
  match a with
  | ⟨0, _⟩ => rfl
  | ⟨1, _⟩ => rfl

/-- The means of a matrix's rows as a column. -/
def hostMeans (hr : (⟨2, ![2048, 1024]⟩ : Shape).ReducesTo [1] ⟨1, ![2048]⟩) (hu : 0 < (⟨0, ![]⟩ : Shape).numel)
    (hs : (⟨1, ![2048]⟩ : Shape).BroadcastsInDim ⟨2, ![2048, 1]⟩ ![0]) (he : (⟨0, ![]⟩ : Shape).BroadcastsInDim ⟨2, ![2048, 1]⟩ ![])
    (v : FVec Ideal ⟨2, ![2048, 1024]⟩ .f32) : FVec Ideal ⟨2, ![2048, 1]⟩ .f32 :=
  Host.divf (broadcastInDim ⟨2, ![2048, 1]⟩ ![0] hs (Host.reduceAdd v (constant ⟨0, ![]⟩ .f32 0x00000000#32) hr hu))
    (broadcastInDim ⟨2, ![2048, 1]⟩ ![] he (constant ⟨0, ![]⟩ .f32 0x44800000#32))

theorem hostMeans_apply (hr : (⟨2, ![2048, 1024]⟩ : Shape).ReducesTo [1] ⟨1, ![2048]⟩) (hu : 0 < (⟨0, ![]⟩ : Shape).numel)
    (hs : (⟨1, ![2048]⟩ : Shape).BroadcastsInDim ⟨2, ![2048, 1]⟩ ![0]) (he : (⟨0, ![]⟩ : Shape).BroadcastsInDim ⟨2, ![2048, 1]⟩ ![])
    (v : FVec Ideal ⟨2, ![2048, 1024]⟩ .f32) (i : Fin 2048) : hostMeans hr hu hs he v (ix2 i 0) = mean fun k => v (ix2 i k) := by
  refine congrArg (Ideal.div · (Ideal.ofBits .f32 0x44800000#32)) ((broadcastInDim_apply _ _ _ _ (ix1 i) (fun a => ?_)).trans (host_sums v hr hu i))
  match a with
  | ⟨0, _⟩ => rfl

/-- A matrix less its rows' means. -/
def hostLessMeans (hr : (⟨2, ![2048, 1024]⟩ : Shape).ReducesTo [1] ⟨1, ![2048]⟩) (hu : 0 < (⟨0, ![]⟩ : Shape).numel)
    (hs : (⟨1, ![2048]⟩ : Shape).BroadcastsInDim ⟨2, ![2048, 1]⟩ ![0]) (he : (⟨0, ![]⟩ : Shape).BroadcastsInDim ⟨2, ![2048, 1]⟩ ![])
    (hc : (⟨2, ![2048, 1]⟩ : Shape).BroadcastsInDim ⟨2, ![2048, 1024]⟩ ![0, 1])
    (v : FVec Ideal ⟨2, ![2048, 1024]⟩ .f32) : FVec Ideal ⟨2, ![2048, 1024]⟩ .f32 :=
  subf v (broadcastInDim ⟨2, ![2048, 1024]⟩ ![0, 1] hc (hostMeans hr hu hs he v))

theorem hostLessMeans_apply (hr : (⟨2, ![2048, 1024]⟩ : Shape).ReducesTo [1] ⟨1, ![2048]⟩) (hu : 0 < (⟨0, ![]⟩ : Shape).numel)
    (hs : (⟨1, ![2048]⟩ : Shape).BroadcastsInDim ⟨2, ![2048, 1]⟩ ![0]) (he : (⟨0, ![]⟩ : Shape).BroadcastsInDim ⟨2, ![2048, 1]⟩ ![])
    (hc : (⟨2, ![2048, 1]⟩ : Shape).BroadcastsInDim ⟨2, ![2048, 1024]⟩ ![0, 1])
    (v : FVec Ideal ⟨2, ![2048, 1024]⟩ .f32) (i : Fin 2048) (k : Fin 1024) :
    hostLessMeans hr hu hs he hc v (ix2 i k) = centred (fun l => v (ix2 i l)) k :=
  congrArg (v (ix2 i k) - ·) ((host_column _ hc i k).trans (hostMeans_apply hr hu hs he v i))

/-- A matrix's normalization as a host writes it. -/
def whole (hr : (⟨2, ![2048, 1024]⟩ : Shape).ReducesTo [1] ⟨1, ![2048]⟩) (hu : 0 < (⟨0, ![]⟩ : Shape).numel)
    (hs : (⟨1, ![2048]⟩ : Shape).BroadcastsInDim ⟨2, ![2048, 1]⟩ ![0]) (he : (⟨0, ![]⟩ : Shape).BroadcastsInDim ⟨2, ![2048, 1]⟩ ![])
    (hc : (⟨2, ![2048, 1]⟩ : Shape).BroadcastsInDim ⟨2, ![2048, 1024]⟩ ![0, 1])
    (hb : (⟨2, ![1, 1024]⟩ : Shape).BroadcastsInDim ⟨2, ![2048, 1024]⟩ ![0, 1])
    (v : FVec Ideal ⟨2, ![2048, 1024]⟩ .f32) (g b : FVec Ideal ⟨2, ![1, 1024]⟩ .f32) : FVec Ideal ⟨2, ![2048, 1024]⟩ .f32 :=
  addf (mulf (mulf (hostLessMeans hr hu hs he hc v)
      (broadcastInDim ⟨2, ![2048, 1024]⟩ ![0, 1] hc
        (Host.rsqrt (addf (hostMeans hr hu hs he (mulf (hostLessMeans hr hu hs he hc v) (hostLessMeans hr hu hs he hc v)))
          (broadcastInDim ⟨2, ![2048, 1]⟩ ![] he (constant ⟨0, ![]⟩ .f32 0x3727C5AC#32))))))
    (broadcastInDim ⟨2, ![2048, 1024]⟩ ![0, 1] hb g)) (broadcastInDim ⟨2, ![2048, 1024]⟩ ![0, 1] hb b)

theorem whole_apply (hr : (⟨2, ![2048, 1024]⟩ : Shape).ReducesTo [1] ⟨1, ![2048]⟩) (hu : 0 < (⟨0, ![]⟩ : Shape).numel)
    (hs : (⟨1, ![2048]⟩ : Shape).BroadcastsInDim ⟨2, ![2048, 1]⟩ ![0]) (he : (⟨0, ![]⟩ : Shape).BroadcastsInDim ⟨2, ![2048, 1]⟩ ![])
    (hc : (⟨2, ![2048, 1]⟩ : Shape).BroadcastsInDim ⟨2, ![2048, 1024]⟩ ![0, 1])
    (hb : (⟨2, ![1, 1024]⟩ : Shape).BroadcastsInDim ⟨2, ![2048, 1024]⟩ ![0, 1])
    (v : FVec Ideal ⟨2, ![2048, 1024]⟩ .f32) (g b : FVec Ideal ⟨2, ![1, 1024]⟩ .f32) (i : Fin 2048) (k : Fin 1024) :
    whole hr hu hs he hc hb v g b (ix2 i k) = normal (fun l => v (ix2 i l)) (fun l => g (ix2 0 l)) (fun l => b (ix2 0 l)) k := by
  refine congrArg₂ (· + ·) (congrArg₂ (· * ·) (congrArg₂ (· * ·) (hostLessMeans_apply hr hu hs he hc v i k) ?_) (host_row g hb i k)) (host_row b hb i k)
  refine (host_column _ hc i k).trans (congrArg (fun e => Ideal.rsqrt (e + Ideal.ofBits .f32 0x3727C5AC#32)) ?_)
  refine (hostMeans_apply hr hu hs he _ i).trans (congrArg mean (funext fun l => ?_))
  exact congrArg₂ (· * ·) (hostLessMeans_apply hr hu hs he hc v i l) (hostLessMeans_apply hr hu hs he hc v i l)

/-- The residual as a host writes it. -/
def wholeResidual (hx : (⟨0, ![]⟩ : Shape).BroadcastsInDim ⟨2, ![2048, 1024]⟩ ![]) (h1 : (⟨0, ![]⟩ : Shape).BroadcastsInDim ⟨2, ![1, 1024]⟩ ![])
    (hb : (⟨2, ![1, 1024]⟩ : Shape).BroadcastsInDim ⟨2, ![2048, 1024]⟩ ![0, 1])
    (x y : FVec Ideal ⟨2, ![2048, 1024]⟩ .f32) (gate : FVec Ideal ⟨2, ![1, 1024]⟩ .f32) : FVec Ideal ⟨2, ![2048, 1024]⟩ .f32 :=
  addf (mulf (broadcastInDim ⟨2, ![2048, 1024]⟩ ![] hx (constant ⟨0, ![]⟩ .f32 0x3FB504F3#32)) x)
    (mulf (broadcastInDim ⟨2, ![2048, 1024]⟩ ![0, 1] hb
      (addf (broadcastInDim ⟨2, ![1, 1024]⟩ ![] h1 (constant ⟨0, ![]⟩ .f32 0x3F800000#32)) gate)) y)

theorem wholeResidual_apply (hx : (⟨0, ![]⟩ : Shape).BroadcastsInDim ⟨2, ![2048, 1024]⟩ ![])
    (h1 : (⟨0, ![]⟩ : Shape).BroadcastsInDim ⟨2, ![1, 1024]⟩ ![]) (hb : (⟨2, ![1, 1024]⟩ : Shape).BroadcastsInDim ⟨2, ![2048, 1024]⟩ ![0, 1])
    (x y : FVec Ideal ⟨2, ![2048, 1024]⟩ .f32) (gate : FVec Ideal ⟨2, ![1, 1024]⟩ .f32) (i : Fin 2048) (k : Fin 1024) :
    wholeResidual hx h1 hb x y gate (ix2 i k) = residual (fun l => x (ix2 i l)) (fun l => y (ix2 i l)) (fun l => gate (ix2 0 l)) k :=
  congrArg₂ (· + ·) rfl (congrArg (· * y (ix2 i k))
    ((host_row _ hb i k).trans (congrArg (· + gate (ix2 0 k)) Ideal.ofBits_one_f32)))

end Host

end Cert.LayerNorm

end
-- ==== Proof.LnMix.lean ====
/-
A layer's output: the residual's rows normalized, and their modulation for the next step, entry by entry.
-/
module

public import proofs.«01_k».proof.Defs
public import proofs.«01_k».proof.Proof.Gen.LnMix.Frame
public import proofs.«01_k».proof.Proof.Gen.LnMixIdeal.Value
public import proofs.«01_k».proof.Proof.Gen.LnMixReferenceIdeal.Run
public import proofs.«01_k».proof.Proof.LayerNorm
public import Idealize.ShloMosaic.Lib.Quiescent

@[expose] public section

noncomputable section

namespace Cert.NormedResidual

open Idealize.ShloMosaic Idealize.SL.Sem Idealize.ShloMosaic.ValueIdx Idealize.ShloMosaic.TcCoe Cert.Entries Cert.LayerNorm

/-- The normalized residual at a row and a column. -/
def normed (x y : FVec Ideal ⟨2, ![2048, 1024]⟩ .f32) (gate g b : FVec Ideal ⟨2, ![1, 1024]⟩ .f32) (i : Fin 2048) (j : Fin 1024) : EReal :=
  normal (residual (fun l => x (ix2 i l)) (fun l => y (ix2 i l)) (fun l => gate (ix2 0 l))) (fun l => g (ix2 0 l)) (fun l => b (ix2 0 l)) j

/-- Its modulation. -/
def mixed (x y : FVec Ideal ⟨2, ![2048, 1024]⟩ .f32) (gate g b scale shift : FVec Ideal ⟨2, ![1, 1024]⟩ .f32) (i : Fin 2048) (j : Fin 1024) : EReal :=
  normed x y gate g b i j * (1 + scale (ix2 0 j)) + shift (ix2 0 j)

section Kernel

open Cert.LnMixIdeal Cert.LnMixIdeal.Gen

/-- What a grid point computes of its blocks: the normalized rows. -/
theorem point (x y : Vec Ideal S256x1024 .f32) (gate g b : Vec Ideal S1x1024 .f32) (p : Fin 256) (j : Fin 1024) :
    k0_pay2 x y gate g b (ix2 p j)
      = normal (residual (fun l => x (ix2 p l)) (fun l => y (ix2 p l)) (fun l => gate (ix2 0 l))) (fun l => g (ix2 0 l)) (fun l => b (ix2 0 l)) j := by
  refine Eq.trans (show _ = tile reduces_S256x1024_S256 shapeCasts_S256_S256x1 broadcasts_S256x1_S256x1024 broadcasts_S1x1024_S256x1024
    (tileResidual broadcasts_S1x1024_S256x1024 x y gate) g b (ix2 p j) from rfl) ((tile_apply _ _ _ _ _ _ _ p j).trans ?_)
  exact congrArg (normal · _ _ j) (funext fun l => tileResidual_apply _ x y gate p l)

/-- What it computes beside them: their modulation. -/
theorem point_mixed (v : FVec Ideal S256x1024 .f32) (scale shift : Vec Ideal S1x1024 .f32) (p : Fin 256) (j : Fin 1024) :
    k0_pay1 shift v (k0_pay3 scale) (ix2 p j) = v (ix2 p j) * (1 + scale (ix2 0 j)) + shift (ix2 0 j) := by
  refine congrArg₂ (· + ·) (congrArg (v (ix2 p j) * ·) ?_) (spread_row shift _ p j)
  unfold k0_pay3
  exact (spread_row _ _ p j).trans (congrArg (· + scale (ix2 0 j)) Ideal.ofBits_one_f32)

/-- Which blocks a grid point holds. -/
theorem windows : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = 0 ∧ win0_5.index t 1 = 0)
      ∧ (win0_6.index t 0 = 0 ∧ win0_6.index t 1 = 0) ∧ (win0_7.index t 0 = t.val ∧ win0_7.index t 1 = 0)
      ∧ (win0_8.index t 0 = t.val ∧ win0_8.index t 1 = 0) :=
  (by decide +kernel : ∀ t : Fin grid0.N, _)

/-- What a grid point leaves of its blocks in the first result. -/
theorem leaves_normed (x0 x1 : Vec Ideal S256x1024 .f32) (x2 x3 x4 x5 x6 : Vec Ideal S1x1024 .f32) :
    out0_7 x0 x1 x2 x3 x4 x5 x6 = k0_pay2 x0 x1 x2 x3 x4 := by
  unfold out0_7 k0_pay4
  rw [View.canon_unit_zero zero₂]
  simp only [View.ld_unit_zero (S := S256x1024) zero₂, View.ld_unit_zero (S := S1x1024) zero₂]

/-- What a grid point leaves of its blocks in the second. -/
theorem leaves_mixed (x0 x1 : Vec Ideal S256x1024 .f32) (x2 x3 x4 x5 x6 : Vec Ideal S1x1024 .f32) :
    out0_8 x0 x1 x2 x3 x4 x5 x6 = k0_pay1 x6 (k0_pay2 x0 x1 x2 x3 x4) (k0_pay3 x5) := by
  unfold out0_8 k0_pay4
  rw [View.canon_unit_zero zero₂]
  simp only [View.ld_unit_zero (S := S256x1024) zero₂, View.ld_unit_zero (S := S1x1024) zero₂]

section Blocks

variable (m : (ℓ : Loc nD τ sig) → Buf (Elt Ideal) ℓ) (c : Dev nD) (t : Fin cfg0.N)

/-- Row `p` of a block of rows is row `256 t + p` of its array. -/
theorem rows0 (i : Fin 2048) (p : Fin 256) (j : Fin 1024) (h : i.val = t.val * 256 + p.val) :
    ((cfg0.win 0).blk t).view.emb (ix2 p j : S256x1024.Idx) = ix2 i j := by
  have e0 : win0_0.index t 0 = t.val := (windows t).1.1
  have e1 : win0_0.index t 1 = 0 := (windows t).1.2
  funext a; apply Fin.ext
  match a with
  | ⟨0, _⟩ => show win0_0.index t 0 * 256 + 1 * p.val = i.val; omega
  | ⟨1, _⟩ => show win0_0.index t 1 * 1024 + 1 * j.val = j.val; omega

theorem rows1 (i : Fin 2048) (p : Fin 256) (j : Fin 1024) (h : i.val = t.val * 256 + p.val) :
    ((cfg0.win 1).blk t).view.emb (ix2 p j : S256x1024.Idx) = ix2 i j := by
  have e0 : win0_1.index t 0 = t.val := (windows t).2.1.1
  have e1 : win0_1.index t 1 = 0 := (windows t).2.1.2
  funext a; apply Fin.ext
  match a with
  | ⟨0, _⟩ => show win0_1.index t 0 * 256 + 1 * p.val = i.val; omega
  | ⟨1, _⟩ => show win0_1.index t 1 * 1024 + 1 * j.val = j.val; omega

theorem rows7 (i : Fin 2048) (p : Fin 256) (j : Fin 1024) (h : i.val = t.val * 256 + p.val) :
    ((cfg0.win 7).blk t).view.emb (ix2 p j : S256x1024.Idx) = ix2 i j := by
  have e0 : win0_7.index t 0 = t.val := (windows t).2.2.2.2.2.2.2.1.1
  have e1 : win0_7.index t 1 = 0 := (windows t).2.2.2.2.2.2.2.1.2
  funext a; apply Fin.ext
  match a with
  | ⟨0, _⟩ => show win0_7.index t 0 * 256 + 1 * p.val = i.val; omega
  | ⟨1, _⟩ => show win0_7.index t 1 * 1024 + 1 * j.val = j.val; omega

theorem rows8 (i : Fin 2048) (p : Fin 256) (j : Fin 1024) (h : i.val = t.val * 256 + p.val) :
    ((cfg0.win 8).blk t).view.emb (ix2 p j : S256x1024.Idx) = ix2 i j := by
  have e0 : win0_8.index t 0 = t.val := (windows t).2.2.2.2.2.2.2.2.1
  have e1 : win0_8.index t 1 = 0 := (windows t).2.2.2.2.2.2.2.2.2
  funext a; apply Fin.ext
  match a with
  | ⟨0, _⟩ => show win0_8.index t 0 * 256 + 1 * p.val = i.val; omega
  | ⟨1, _⟩ => show win0_8.index t 1 * 1024 + 1 * j.val = j.val; omega

theorem row2 (j : Fin 1024) : ((cfg0.win 2).blk t).view.emb (ix2 0 j : S1x1024.Idx) = ix2 0 j := by
  have e0 : win0_2.index t 0 = 0 := (windows t).2.2.1.1
  have e1 : win0_2.index t 1 = 0 := (windows t).2.2.1.2
  funext a; apply Fin.ext
  match a with
  | ⟨0, _⟩ => show win0_2.index t 0 * 1 + 1 * 0 = 0; omega
  | ⟨1, _⟩ => show win0_2.index t 1 * 1024 + 1 * j.val = j.val; omega

theorem row3 (j : Fin 1024) : ((cfg0.win 3).blk t).view.emb (ix2 0 j : S1x1024.Idx) = ix2 0 j := by
  have e0 : win0_3.index t 0 = 0 := (windows t).2.2.2.1.1
  have e1 : win0_3.index t 1 = 0 := (windows t).2.2.2.1.2
  funext a; apply Fin.ext
  match a with
  | ⟨0, _⟩ => show win0_3.index t 0 * 1 + 1 * 0 = 0; omega
  | ⟨1, _⟩ => show win0_3.index t 1 * 1024 + 1 * j.val = j.val; omega

theorem row4 (j : Fin 1024) : ((cfg0.win 4).blk t).view.emb (ix2 0 j : S1x1024.Idx) = ix2 0 j := by
  have e0 : win0_4.index t 0 = 0 := (windows t).2.2.2.2.1.1
  have e1 : win0_4.index t 1 = 0 := (windows t).2.2.2.2.1.2
  funext a; apply Fin.ext
  match a with
  | ⟨0, _⟩ => show win0_4.index t 0 * 1 + 1 * 0 = 0; omega
  | ⟨1, _⟩ => show win0_4.index t 1 * 1024 + 1 * j.val = j.val; omega

theorem row5 (j : Fin 1024) : ((cfg0.win 5).blk t).view.emb (ix2 0 j : S1x1024.Idx) = ix2 0 j := by
  have e0 : win0_5.index t 0 = 0 := (windows t).2.2.2.2.2.1.1
  have e1 : win0_5.index t 1 = 0 := (windows t).2.2.2.2.2.1.2
  funext a; apply Fin.ext
  match a with
  | ⟨0, _⟩ => show win0_5.index t 0 * 1 + 1 * 0 = 0; omega
  | ⟨1, _⟩ => show win0_5.index t 1 * 1024 + 1 * j.val = j.val; omega

theorem row6 (j : Fin 1024) : ((cfg0.win 6).blk t).view.emb (ix2 0 j : S1x1024.Idx) = ix2 0 j := by
  have e0 : win0_6.index t 0 = 0 := (windows t).2.2.2.2.2.2.1.1
  have e1 : win0_6.index t 1 = 0 := (windows t).2.2.2.2.2.2.1.2
  funext a; apply Fin.ext
  match a with
  | ⟨0, _⟩ => show win0_6.index t 0 * 1 + 1 * 0 = 0; omega
  | ⟨1, _⟩ => show win0_6.index t 1 * 1024 + 1 * j.val = j.val; omega

/-- The normalized rows of a grid point's blocks are those of the arrays. -/
theorem block_normed (i : Fin 2048) (p : Fin 256) (j : Fin 1024) (h : i.val = t.val * 256 + p.val) :
    k0_pay2 (iblk m c 0 t) (iblk m c 1 t) (iblk m c 2 t) (iblk m c 3 t) (iblk m c 4 t) (ix2 p j : S256x1024.Idx)
      = normed (m ((c : Thread nD τ).loc main_arg0)) (m ((c : Thread nD τ).loc main_arg1)) (m ((c : Thread nD τ).loc main_arg2))
          (m ((c : Thread nD τ).loc main_arg3)) (m ((c : Thread nD τ).loc main_arg4)) i j := by
  refine (point _ _ _ _ _ p j).trans ?_
  have stream : (fun l => iblk m c 0 t (ix2 p l : S256x1024.Idx)) = fun l => m ((c : Thread nD τ).loc main_arg0) (ix2 i l) :=
    funext fun l => congrArg (m ((c : Thread nD τ).loc main_arg0)) (rows0 t i p l h)
  have branch : (fun l => iblk m c 1 t (ix2 p l : S256x1024.Idx)) = fun l => m ((c : Thread nD τ).loc main_arg1) (ix2 i l) :=
    funext fun l => congrArg (m ((c : Thread nD τ).loc main_arg1)) (rows1 t i p l h)
  have gates : (fun l => iblk m c 2 t (ix2 0 l : S1x1024.Idx)) = fun l => m ((c : Thread nD τ).loc main_arg2) (ix2 0 l) :=
    funext fun l => congrArg (m ((c : Thread nD τ).loc main_arg2)) (row2 t l)
  have scales : (fun l => iblk m c 3 t (ix2 0 l : S1x1024.Idx)) = fun l => m ((c : Thread nD τ).loc main_arg3) (ix2 0 l) :=
    funext fun l => congrArg (m ((c : Thread nD τ).loc main_arg3)) (row3 t l)
  have shifts : (fun l => iblk m c 4 t (ix2 0 l : S1x1024.Idx)) = fun l => m ((c : Thread nD τ).loc main_arg4) (ix2 0 l) :=
    funext fun l => congrArg (m ((c : Thread nD τ).loc main_arg4)) (row4 t l)
  unfold normed
  rw [← stream, ← branch, ← gates, ← scales, ← shifts]

end Blocks

/-- What the kernel leaves in its first result. -/
theorem left_normed (m : (ℓ : Loc nD τ sig) → Buf (Elt Ideal) ℓ) (c : Dev nD) (i : Fin 2048) (j : Fin 1024) :
    (dats m 0 c).arrAt 7 cfg0.N (ix2 i j)
      = normed (m ((c : Thread nD τ).loc main_arg0)) (m ((c : Thread nD τ).loc main_arg1)) (m ((c : Thread nD τ).loc main_arg2))
          (m ((c : Thread nD τ).loc main_arg3)) (m ((c : Thread nD τ).loc main_arg4)) i j := by
  obtain ⟨t, ht⟩ : ∃ t : Fin cfg0.N, t.val = i.val / 256 := ⟨⟨i.val / 256, (by have := i.isLt; omega : i.val / 256 < 8)⟩, rfl⟩
  obtain ⟨p, hp⟩ : ∃ p : Fin 256, p.val = i.val % 256 := ⟨⟨i.val % 256, Nat.mod_lt _ (by decide)⟩, rfl⟩
  have place : i.val = t.val * 256 + p.val := by omega
  have h := congrFun (Value.blocks7 m c t (flush0_7 t)) (ix2 p j : S256x1024.Idx)
  refine (congrArg _ (rows7 t i p j place).symm).trans (h.trans ((congrFun (Value.flushed7 m c t) _).trans ?_))
  show out0_7 (iblk m c 0 t) (iblk m c 1 t) (iblk m c 2 t) (iblk m c 3 t) (iblk m c 4 t) (iblk m c 5 t) (iblk m c 6 t) (ix2 p j) = _
  rw [leaves_normed]
  exact block_normed m c t i p j place

/-- What the kernel leaves in its second. -/
theorem left_mixed (m : (ℓ : Loc nD τ sig) → Buf (Elt Ideal) ℓ) (c : Dev nD) (i : Fin 2048) (j : Fin 1024) :
    (dats m 0 c).arrAt 8 cfg0.N (ix2 i j)
      = mixed (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) i j := by
  obtain ⟨t, ht⟩ : ∃ t : Fin cfg0.N, t.val = i.val / 256 := ⟨⟨i.val / 256, (by have := i.isLt; omega : i.val / 256 < 8)⟩, rfl⟩
  obtain ⟨p, hp⟩ : ∃ p : Fin 256, p.val = i.val % 256 := ⟨⟨i.val % 256, Nat.mod_lt _ (by decide)⟩, rfl⟩
  have place : i.val = t.val * 256 + p.val := by omega
  have h := congrFun (Value.blocks8 m c t (flush0_8 t)) (ix2 p j : S256x1024.Idx)
  refine (congrArg _ (rows8 t i p j place).symm).trans (h.trans ((congrFun (Value.flushed8 m c t) _).trans ?_))
  show out0_8 (iblk m c 0 t) (iblk m c 1 t) (iblk m c 2 t) (iblk m c 3 t) (iblk m c 4 t) (iblk m c 5 t) (iblk m c 6 t) (ix2 p j) = _
  rw [leaves_mixed]
  refine (point_mixed _ _ _ p j).trans ?_
  unfold mixed
  refine congrArg₂ (· + ·) (congrArg₂ (· * ·) (block_normed m c t i p j place) (congrArg (1 + ·) ?_)) ?_
  · exact congrArg (m ((c : Thread nD τ).loc main_arg5)) (row5 t j)
  · exact congrArg (m ((c : Thread nD τ).loc main_arg6)) (row6 t j)

end Kernel

section Reference

open Cert.LnMixReferenceIdeal Cert.LnMixReferenceIdeal.Gen

/-- The normalized residual as the reference writes it. -/
theorem written_normed (x y : FVec Ideal S2048x1024 .f32) (gate g b : FVec Ideal S1x1024 .f32) (i : Fin 2048) (j : Fin 1024) :
    whole reducesTo_S2048x1024_S2048_d1 h_S_ bcast_S2048_S2048x1_0 bcast_S_S2048x1 bcast_S2048x1_S2048x1024_0_1 bcast_S1x1024_S2048x1024_0_1
      (wholeResidual bcast_S_S2048x1024 bcast_S_S1x1024 bcast_S1x1024_S2048x1024_0_1 x y gate) g b (ix2 i j) = normed x y gate g b i j :=
  (whole_apply _ _ _ _ _ _ _ _ _ i j).trans (congrArg (normal · _ _ j) (funext fun l => wholeResidual_apply _ _ _ x y gate i l))

/-- Its modulation as the reference writes it. -/
theorem written_mixed (v : FVec Ideal S2048x1024 .f32) (scale shift : FVec Ideal S1x1024 .f32) (i : Fin 2048) (j : Fin 1024) :
    addf (mulf v (broadcastInDim S2048x1024 ![0, 1] bcast_S1x1024_S2048x1024_0_1
        (addf (broadcastInDim S1x1024 ![] bcast_S_S1x1024 (constant S_ .f32 0x3F800000#32)) scale)))
      (broadcastInDim S2048x1024 ![0, 1] bcast_S1x1024_S2048x1024_0_1 shift) (ix2 i j)
      = v (ix2 i j) * (1 + scale (ix2 0 j)) + shift (ix2 0 j) :=
  congrArg₂ (· + ·) (congrArg (v (ix2 i j) * ·) ((host_row _ _ i j).trans (congrArg (· + scale (ix2 0 j)) Ideal.ofBits_one_f32)))
    (host_row shift _ i j)

end Reference

theorem frame : quiescent_LnMix := fun m g _ => Cert.LnMix.Gen.frame m g

theorem frame_ideal : quiescent_LnMixIdeal := fun m g _ => Cert.LnMixIdeal.Gen.frame m g

theorem reference_frame : quiescent_LnMixReferenceIdeal := fun m g _ =>
  (θ_run Cert.LnMixReferenceIdeal.defs _ _).mono (fun r h => ⟨fun c => (h c).2.2, sem_eq_zero_of_no_sems rfl r.2⟩)
    (Cert.LnMixReferenceIdeal.Value.run (F := Ideal) m g)

theorem preserves : preserves_LnMix_LnMixIdeal := trivial

theorem value : algebraic_LnMixIdeal_LnMixReferenceIdeal := fun m g m' g' _ hm =>
  ⟨_, _, Cert.LnMixIdeal.Value.run_blocks (F := Ideal) m g,
    (θ_run Cert.LnMixReferenceIdeal.defs _ _).mono
      (fun r h c => by
        obtain ⟨streams, branches, gates, scales, shifts, mixScales, mixShifts⟩ := hm c
        refine ⟨(h c).1.trans ?_, (h c).2.1.trans ?_, (h c).2.2⟩
        · funext a
          obtain ⟨i, j, rfl⟩ : ∃ (i : Fin 2048) (j : Fin 1024), a = ix2 i j := ⟨a 0, a 1, eq_ix2 a⟩
          rw [left_normed m c i j, ← streams, ← branches, ← gates, ← scales, ← shifts]
          exact written_normed _ _ _ _ _ i j
        · funext a
          obtain ⟨i, j, rfl⟩ : ∃ (i : Fin 2048) (j : Fin 1024), a = ix2 i j := ⟨a 0, a 1, eq_ix2 a⟩
          rw [left_mixed m c i j, ← streams, ← branches, ← gates, ← scales, ← shifts, ← mixScales, ← mixShifts]
          refine (written_mixed _ _ _ i j).trans ?_
          exact congrArg (fun e => e * _ + _) (written_normed _ _ _ _ _ i j))
      (Cert.LnMixReferenceIdeal.Value.run (F := Ideal) m' g')⟩

end Cert.NormedResidual

end
-- ==== Proof.Product.lean ====
/-
A linear map of a device's rows and its gradients, as the kernel works on them: tiles of 512 by 512, each the sum of the products over stretches of
512 of the contracted axis, one after the other.
-/
module

public import proofs.«01_k».proof.Proof.Entries
public import Idealize.ShloMosaic.Lib.ValueLayout
public import Idealize.ShloMosaic.Lib.Pipeline.ValueKit.Acc

@[expose] public section

noncomputable section

namespace Cert.Product

open Idealize.ShloMosaic Idealize.ShloMosaic.ValueIdx Cert.Entries

abbrev Square : Shape := ⟨2, ![512, 512]⟩

/-- Place `l` of stretch `k`. -/
def at_ {K M : ℕ} (h : M = K * 512) (k : Fin K) (l : Fin 512) : Fin M := ⟨k.val * 512 + l.val, by have := k.isLt; have := l.isLt; omega⟩

theorem at_surjective {K M : ℕ} (h : M = K * 512) (i : Fin M) : ∃ (k : Fin K) (l : Fin 512), i = at_ h k l := by
  have := i.isLt
  refine ⟨⟨i.val / 512, by omega⟩, ⟨i.val % 512, by omega⟩, Fin.ext ?_⟩
  show i.val = i.val / 512 * 512 + i.val % 512; omega

/-- A row of the product at a column. -/
def product {R M N : ℕ} (x : FVec Ideal ⟨2, ![R, M]⟩ .f32) (w : FVec Ideal ⟨2, ![M, N]⟩ .f32) (i : Fin R) (j : Fin N) : EReal :=
  ∑ k : Fin M, x (ix2 i k) * w (ix2 k j)

/-- A sum over the contracted axis, stretch by stretch. -/
theorem stretches {K M : ℕ} (h : M = K * 512) (f : Fin M → EReal) : ∑ k, f k = ∑ k : Fin K, ∑ l : Fin 512, f (at_ h k l) := by
  subst h
  exact (Fin.sum_mul_add_fin K 512 f).symm

/-- What grows by one number after the other ends as their sum. -/
theorem grown : ∀ {n : ℕ} (s g : Fin (n + 1) → EReal), s 0 = g 0 → (∀ k : Fin n, s k.succ = s k.castSucc + g k.succ) → s (Fin.last n) = ∑ k, g k
  | 0, s, g, h0, _ => by simpa using h0
  | n + 1, s, g, h0, hs => by
    rw [Fin.sum_univ_castSucc, ← grown (fun k => s k.castSucc) (fun k => g k.castSucc) h0 fun k => hs k.castSucc]
    exact hs (Fin.last n)

theorem same : Square.ShapeCasts Square := rfl
theorem narrower : FTy.bits .bf16 < FTy.bits .f32 := by decide

/-- What the sum starts from, and what a grid point adds to what it finds. -/
def zeros : FVec Ideal Square .f32 := shapeCast Square (broadcast Square (Scalar.ofBits .f32 0x00000000#32)) same
def add (acc x w : FVec Ideal Square .f32) : FVec Ideal Square .f32 :=
  shapeCast Square (addf acc (matmul (DotDims.plain 512 512 512) none (truncf .bf16 x narrower) (truncf .bf16 w narrower)
    (constant Square .f32 0x00000000#32))) same

theorem zeros_apply (i : Square.Idx) : zeros i = 0 := by
  unfold zeros
  rw [shapeCast_self]
  exact Ideal.ofBits_zero_f32

theorem add_apply (acc x w : FVec Ideal Square .f32) (p q : Fin 512) :
    add acc x w (ix2 p q) = acc (ix2 p q) + ∑ k : Fin 512, x (ix2 p k) * w (ix2 k q) := by
  unfold add
  rw [shapeCast_self]
  refine congrArg (fun e : EReal => (acc (ix2 p q) : EReal) + e) ?_
  show FloatOps.matmul (DotDims.plain 512 512 512) none _ _ _ (ix2 p q) = _
  rw [Ideal.matmul_plain_apply]
  show (Ideal.ofBits .f32 0x00000000#32 : EReal) + _ = _
  rw [Ideal.ofBits_zero_f32, zero_add]
  rfl

/-- A tile of the product: the sums `S` that grid points find and leave, of tiles `X` of the rows and `W` of the matrix. -/
theorem tile {n I J R M N : ℕ} (hR : R = I * 512) (hM : M = (n + 1) * 512) (hN : N = J * 512) (x : FVec Ideal ⟨2, ![R, M]⟩ .f32) (w : FVec Ideal ⟨2, ![M, N]⟩ .f32)
    (a : Fin I) (b : Fin J) (X W S : Fin (n + 1) → FVec Ideal Square .f32)
    (hX : ∀ k p l, X k (ix2 p l) = x (ix2 (at_ hR a p) (at_ hM k l)))
    (hW : ∀ k l q, W k (ix2 l q) = w (ix2 (at_ hM k l) (at_ hN b q)))
    (h0 : S 0 = add zeros (X 0) (W 0)) (hs : ∀ k : Fin n, S k.succ = add (S k.castSucc) (X k.succ) (W k.succ)) (p q : Fin 512) :
    S (Fin.last n) (ix2 p q) = product x w (at_ hR a p) (at_ hN b q) := by
  unfold product
  rw [stretches hM]
  refine (grown (fun k => S k (ix2 p q)) (fun k => ∑ l : Fin 512, X k (ix2 p l) * W k (ix2 l q)) ?_ fun k => ?_).trans
    (Finset.sum_congr rfl fun k _ => Finset.sum_congr rfl fun l _ => by rw [hX, hW])
  · show S 0 (ix2 p q) = _
    rw [h0, add_apply, zeros_apply, zero_add]
  · show S k.succ (ix2 p q) = _
    rw [hs, add_apply]

theorem at_places {M N : ℕ} (e : (⟨2, ![M, N]⟩ : Shape).Idx) (i : Fin M) (j : Fin N) (hi : (e 0).val = i.val) (hj : (e 1).val = j.val) : e = ix2 i j := by
  funext a; apply Fin.ext
  match a with
  | ⟨0, _⟩ => exact hi
  | ⟨1, _⟩ => exact hj

/-- Where a tile lies that a window says is number `(u, v)`, and where an index of the whole lies. -/
theorem place {K L M N u v : ℕ} {hM : M = K * 512} {hN : N = L * 512} {a : Fin K} {b : Fin L} {p q : Fin 512} {e : (⟨2, ![M, N]⟩ : Shape).Idx}
    (e0 : (e 0).val = u * 512 + 1 * p.val) (e1 : (e 1).val = v * 512 + 1 * q.val) (hu : u = a.val) (hv : v = b.val) :
    e = ix2 (at_ hM a p) (at_ hN b q) :=
  at_places e _ _ (by show (e 0).val = a.val * 512 + p.val; omega) (by show (e 1).val = b.val * 512 + q.val; omega)

/-- The grid point of a stretch of a tile: the stretches innermost, the tiles row by row. -/
def point {n I J T : ℕ} (hT : I * J * (n + 1) = T) (a : Fin I) (b : Fin J) (k : Fin (n + 1)) : Fin T :=
  ⟨(n + 1) * (J * a.val + b.val) + k.val, by
    have := a.isLt; have := b.isLt; have := k.isLt
    have h1 : J * a.val + b.val < I * J := by nlinarith
    have h2 : (n + 1) * (J * a.val + b.val + 1) ≤ (n + 1) * (I * J) := Nat.mul_le_mul_left _ h1
    rw [← hT, Nat.mul_comm (I * J)]
    nlinarith⟩

theorem point_stretch {n I J T : ℕ} (hT : I * J * (n + 1) = T) (a : Fin I) (b : Fin J) (k : Fin (n + 1)) : (point hT a b k).val % (n + 1) = k.val := by
  show ((n + 1) * (J * a.val + b.val) + k.val) % (n + 1) = k.val
  rw [Nat.mul_add_mod, Nat.mod_eq_of_lt k.isLt]

theorem moved {α : Type} {N : ℕ} (f : (n : ℕ) → n < N → α) {n n' : ℕ} (e : n = n') (h : n < N) (h' : n' < N) : f n h = f n' h' := by
  subst e; rfl

theorem before {T : ℕ} (t : Fin T) : t.val - 1 < T := Nat.lt_of_le_of_lt (Nat.sub_le _ _) t.isLt

/-- The tiles a window shows of a matrix are those it says, each point's. -/
def Shows {M N T : ℕ} (index : Fin T → Fin 2 → ℕ) (X : Fin T → FVec Ideal Square .f32) (x : FVec Ideal ⟨2, ![M, N]⟩ .f32) : Prop :=
  ∀ t p q, ∃ e, X t (ix2 p q) = x e ∧ (e 0).val = index t 0 * 512 + 1 * p.val ∧ (e 1).val = index t 1 * 512 + 1 * q.val

theorem Shows.at_ {K L M N T : ℕ} {index : Fin T → Fin 2 → ℕ} {X : Fin T → FVec Ideal Square .f32} {x : FVec Ideal ⟨2, ![M, N]⟩ .f32}
    (h : Shows index X x) (hM : M = K * 512) (hN : N = L * 512) {t : Fin T} {a : Fin K} {b : Fin L} (ha : index t 0 = a.val) (hb : index t 1 = b.val)
    (p q : Fin 512) : X t (ix2 p q) = x (ix2 (at_ hM a p) (at_ hN b q)) := by
  obtain ⟨e, h, e0, e1⟩ := h t p q
  rw [h, place e0 e1 ha hb]

/-- A matrix turned over, and the windows of one. -/
def turned {M N : ℕ} (x : FVec Ideal ⟨2, ![M, N]⟩ .f32) : FVec Ideal ⟨2, ![N, M]⟩ .f32 := fun e => x (ix2 (e 1) (e 0))

theorem Shows.turned {M N T : ℕ} {index : Fin T → Fin 2 → ℕ} {X : Fin T → FVec Ideal Square .f32} {x : FVec Ideal ⟨2, ![M, N]⟩ .f32}
    (h : Shows index X x) : Shows (fun t => ![index t 1, index t 0]) (fun t => Product.turned (X t)) (Product.turned x) := fun t p q => by
  obtain ⟨e, h, e0, e1⟩ := h t q p
  exact ⟨ix2 (e 1) (e 0), h.trans (congrArg x (eq_ix2 e)), e1, e0⟩

theorem transpose_turned {M N : ℕ} (x : FVec Ideal ⟨2, ![M, N]⟩ .f32) (h : (⟨2, ![M, N]⟩ : Shape).Transposes [1, 0] ⟨2, ![N, M]⟩) :
    transpose ⟨2, ![N, M]⟩ [1, 0] x h = turned x := by
  funext e
  obtain ⟨i, j, rfl⟩ : ∃ i j, e = ix2 i j := ⟨e 0, e 1, eq_ix2 e⟩
  exact transpose_ix2_apply x h i j

/-- What a grid point adds where the matrix's tile, or the rows', is to be turned over. -/
def addRight (acc x w : FVec Ideal Square .f32) : FVec Ideal Square .f32 :=
  shapeCast Square (addf acc (matmul (DotDims.transposedRhs 512 512 512) none (truncf .bf16 x narrower) (truncf .bf16 w narrower)
    (constant Square .f32 0x00000000#32))) same

theorem addRight_eq (acc x w : FVec Ideal Square .f32) : addRight acc x w = add acc x (turned w) := by
  funext e
  obtain ⟨p, q, rfl⟩ : ∃ p q, e = ix2 p q := ⟨e 0, e 1, eq_ix2 e⟩
  rw [add_apply]
  unfold addRight
  rw [shapeCast_self]
  refine congrArg (fun e : EReal => (acc (ix2 p q) : EReal) + e) ?_
  show FloatOps.matmul (DotDims.transposedRhs 512 512 512) none _ _ _ (ix2 p q) = _
  rw [Ideal.matmul_transposedRhs_apply]
  show (Ideal.ofBits .f32 0x00000000#32 : EReal) + _ = _
  rw [Ideal.ofBits_zero_f32, zero_add]
  rfl

/-- The same for the rows' tile: both factors contracted along their first axis. -/
def firsts : DotDims Square Square Square where
  lhsContracting := [0]
  rhsContracting := [0]
  lhsNonContracting := [1]
  rhsNonContracting := [1]
  lhsBatch := []
  rhsBatch := []

theorem firsts_apply (x w : FVec Ideal Square .bf16) (acc : FVec Ideal Square .f32) (p q : Fin 512) :
    FloatOps.matmul firsts none x w acc (ix2 p q) = acc (ix2 p q) + ∑ k : Fin 512, x (ix2 k p) * w (ix2 k q) := by
  rw [Ideal.matmul_apply, ← Equiv.sum_comp (contrEquiv1 firsts 512 rfl rfl).symm]
  refine congrArg (fun e : EReal => (acc (ix2 p q) : EReal) + e) (Finset.sum_congr rfl fun k _ => ?_)
  have h := contrEquiv1_symm_val firsts 512 rfl rfl k
  rw [at_places (firsts.lhsIdx (ix2 p q) ((contrEquiv1 firsts 512 rfl rfl).symm k)) k p h rfl,
    at_places (firsts.rhsIdx (ix2 p q) ((contrEquiv1 firsts 512 rfl rfl).symm k)) k q h rfl]

def addLeft (acc x w : FVec Ideal Square .f32) : FVec Ideal Square .f32 :=
  shapeCast Square (addf acc (matmul firsts none (truncf .bf16 x narrower) (truncf .bf16 w narrower) (constant Square .f32 0x00000000#32))) same

theorem addLeft_eq (acc x w : FVec Ideal Square .f32) : addLeft acc x w = add acc (turned x) w := by
  funext e
  obtain ⟨p, q, rfl⟩ : ∃ p q, e = ix2 p q := ⟨e 0, e 1, eq_ix2 e⟩
  rw [add_apply]
  unfold addLeft
  rw [shapeCast_self]
  refine congrArg (fun e : EReal => (acc (ix2 p q) : EReal) + e) ?_
  show FloatOps.matmul firsts none _ _ _ (ix2 p q) = _
  rw [firsts_apply]
  show (Ideal.ofBits .f32 0x00000000#32 : EReal) + _ = _
  rw [Ideal.ofBits_zero_f32, zero_add]
  rfl

/-- The product as a host writes it. -/
def result {R M N : ℕ} (x : FVec Ideal ⟨2, ![R, M]⟩ .f32) (w : FVec Ideal ⟨2, ![M, N]⟩ .f32) : FVec Ideal ⟨2, ![R, N]⟩ .f32 :=
  Host.dotGeneral (DotDims.plain R M N) none x w

theorem written {R M N : ℕ} (x : FVec Ideal ⟨2, ![R, M]⟩ .f32) (w : FVec Ideal ⟨2, ![M, N]⟩ .f32) (i : Fin R) (j : Fin N) :
    result x w (ix2 i j) = product x w i j := by
  unfold result
  rw [StackMember.dotGeneral_plain_apply]
  rfl

/-- The whole product. `outs` is what the grid points leave, in the result's block and in the sum they keep; `G` is put together
from the blocks that the last point of each tile leaves. -/
theorem whole {n I J R M N T : ℕ} (hR : R = I * 512) (hM : M = (n + 1) * 512) (hN : N = J * 512) (hT : I * J * (n + 1) = T)
    {x : FVec Ideal ⟨2, ![R, M]⟩ .f32} {w : FVec Ideal ⟨2, ![M, N]⟩ .f32} {X W : Fin T → FVec Ideal Square .f32} {u v : Fin T → Fin 2 → ℕ}
    (hX : Shows u X x) (hW : Shows v W w)
    (hu : ∀ a b k, u (point hT a b k) 0 = a.val ∧ u (point hT a b k) 1 = k.val)
    (hv : ∀ a b k, v (point hT a b k) 0 = k.val ∧ v (point hT a b k) 1 = b.val)
    {outs : (t : ℕ) → t < T → FVec Ideal Square .f32 × FVec Ideal Square .f32}
    (first : ∀ t : Fin T, t.val % (n + 1) = 0 → (outs t.val t.isLt).2 = add zeros (X t) (W t))
    (next : ∀ t : Fin T, ¬t.val % (n + 1) = 0 → (outs t.val t.isLt).2 = add (outs (t.val - 1) (before t)).2 (X t) (W t))
    (last : ∀ t : Fin T, t.val % (n + 1) = n → (outs t.val t.isLt).1 = (outs t.val t.isLt).2)
    {G : FVec Ideal ⟨2, ![R, N]⟩ .f32} {pt : (⟨2, ![R, N]⟩ : Shape).Idx → ℕ} {loc : (⟨2, ![R, N]⟩ : Shape).Idx → Square.Idx}
    (hG : ∀ e (h : pt e < T), G e = (outs (pt e) h).1 (loc e))
    (hpt : ∀ e, pt e = (n + 1) * (J * ((e 0).val / 512 - 0) + 1 * ((e 1).val / 512 - 0)) + n)
    (hloc : ∀ e, (loc e 0).val = (e 0).val % 512 ∧ (loc e 1).val = (e 1).val % 512) : G = result x w := by
  funext e
  obtain ⟨i, j, rfl⟩ : ∃ (i : Fin R) (j : Fin N), e = ix2 i j := ⟨e 0, e 1, eq_ix2 e⟩
  obtain ⟨a, p, rfl⟩ := at_surjective hR i
  obtain ⟨b, q, rfl⟩ := at_surjective hN j
  have at_pt : pt (ix2 (at_ hR a p) (at_ hN b q)) = (point hT a b (Fin.last n)).val := by
    rw [hpt]
    show (n + 1) * (J * ((a.val * 512 + p.val) / 512 - 0) + 1 * ((b.val * 512 + q.val) / 512 - 0)) + n = (n + 1) * (J * a.val + b.val) + n
    rw [show (a.val * 512 + p.val) / 512 - 0 = a.val by omega, show (b.val * 512 + q.val) / 512 - 0 = b.val by omega, Nat.one_mul]
  have at_loc : loc (ix2 (at_ hR a p) (at_ hN b q)) = ix2 p q :=
    at_places _ _ _ ((hloc _).1.trans (by show (a.val * 512 + p.val) % 512 = p.val; omega))
      ((hloc _).2.trans (by show (b.val * 512 + q.val) % 512 = q.val; omega))
  have at_last := last (point hT a b (Fin.last n)) (point_stretch hT a b (Fin.last n))
  rw [hG _ (at_pt ▸ (point hT a b (Fin.last n)).isLt), at_loc, moved outs at_pt _ (point hT a b (Fin.last n)).isLt, at_last, written]
  exact tile hR hM hN x w a b (fun k => X (point hT a b k)) (fun k => W (point hT a b k)) (fun k => (outs _ (point hT a b k).isLt).2)
    (fun k => hX.at_ _ _ (hu a b k).1 (hu a b k).2) (fun k => hW.at_ _ _ (hv a b k).1 (hv a b k).2) (first _ (point_stretch hT a b 0))
    (fun k => (next _ (by rw [point_stretch]; exact Nat.succ_ne_zero _)).trans (congrArg (fun s => add (Prod.snd s) _ _) (moved outs rfl _ _))) p q

/-- The same with the matrix turned over, the gradient by the rows; and with the rows turned over, the gradient by the matrix. -/
theorem whole_right {n I J R M N T : ℕ} (hR : R = I * 512) (hM : M = (n + 1) * 512) (hN : N = J * 512) (hT : I * J * (n + 1) = T)
    {x : FVec Ideal ⟨2, ![R, M]⟩ .f32} {w : FVec Ideal ⟨2, ![N, M]⟩ .f32} {X W : Fin T → FVec Ideal Square .f32} {u v : Fin T → Fin 2 → ℕ}
    (hX : Shows u X x) (hW : Shows v W w)
    (hu : ∀ a b k, u (point hT a b k) 0 = a.val ∧ u (point hT a b k) 1 = k.val)
    (hv : ∀ a b k, v (point hT a b k) 1 = k.val ∧ v (point hT a b k) 0 = b.val)
    {outs : (t : ℕ) → t < T → FVec Ideal Square .f32 × FVec Ideal Square .f32}
    (first : ∀ t : Fin T, t.val % (n + 1) = 0 → (outs t.val t.isLt).2 = addRight zeros (X t) (W t))
    (next : ∀ t : Fin T, ¬t.val % (n + 1) = 0 → (outs t.val t.isLt).2 = addRight (outs (t.val - 1) (before t)).2 (X t) (W t))
    (last : ∀ t : Fin T, t.val % (n + 1) = n → (outs t.val t.isLt).1 = (outs t.val t.isLt).2)
    {G : FVec Ideal ⟨2, ![R, N]⟩ .f32} {pt : (⟨2, ![R, N]⟩ : Shape).Idx → ℕ} {loc : (⟨2, ![R, N]⟩ : Shape).Idx → Square.Idx}
    (hG : ∀ e (h : pt e < T), G e = (outs (pt e) h).1 (loc e))
    (hpt : ∀ e, pt e = (n + 1) * (J * ((e 0).val / 512 - 0) + 1 * ((e 1).val / 512 - 0)) + n)
    (hloc : ∀ e, (loc e 0).val = (e 0).val % 512 ∧ (loc e 1).val = (e 1).val % 512) : G = result x (turned w) :=
  whole hR hM hN hT (W := fun t => turned (W t)) (v := fun t => ![v t 1, v t 0]) hX hW.turned hu hv
    (fun t h => (first t h).trans (addRight_eq _ _ _)) (fun t h => (next t h).trans (addRight_eq _ _ _)) last hG hpt hloc

theorem whole_left {n I J R M N T : ℕ} (hR : R = I * 512) (hM : M = (n + 1) * 512) (hN : N = J * 512) (hT : I * J * (n + 1) = T)
    {x : FVec Ideal ⟨2, ![M, R]⟩ .f32} {w : FVec Ideal ⟨2, ![M, N]⟩ .f32} {X W : Fin T → FVec Ideal Square .f32} {u v : Fin T → Fin 2 → ℕ}
    (hX : Shows u X x) (hW : Shows v W w)
    (hu : ∀ a b k, u (point hT a b k) 1 = a.val ∧ u (point hT a b k) 0 = k.val)
    (hv : ∀ a b k, v (point hT a b k) 0 = k.val ∧ v (point hT a b k) 1 = b.val)
    {outs : (t : ℕ) → t < T → FVec Ideal Square .f32 × FVec Ideal Square .f32}
    (first : ∀ t : Fin T, t.val % (n + 1) = 0 → (outs t.val t.isLt).2 = addLeft zeros (X t) (W t))
    (next : ∀ t : Fin T, ¬t.val % (n + 1) = 0 → (outs t.val t.isLt).2 = addLeft (outs (t.val - 1) (before t)).2 (X t) (W t))
    (last : ∀ t : Fin T, t.val % (n + 1) = n → (outs t.val t.isLt).1 = (outs t.val t.isLt).2)
    {G : FVec Ideal ⟨2, ![R, N]⟩ .f32} {pt : (⟨2, ![R, N]⟩ : Shape).Idx → ℕ} {loc : (⟨2, ![R, N]⟩ : Shape).Idx → Square.Idx}
    (hG : ∀ e (h : pt e < T), G e = (outs (pt e) h).1 (loc e))
    (hpt : ∀ e, pt e = (n + 1) * (J * ((e 0).val / 512 - 0) + 1 * ((e 1).val / 512 - 0)) + n)
    (hloc : ∀ e, (loc e 0).val = (e 0).val % 512 ∧ (loc e 1).val = (e 1).val % 512) : G = result (turned x) w :=
  whole hR hM hN hT (X := fun t => turned (X t)) (u := fun t => ![u t 1, u t 0]) hX.turned hW hu hv
    (fun t h => (first t h).trans (addLeft_eq _ _ _)) (fun t h => (next t h).trans (addLeft_eq _ _ _)) last hG hpt hloc

/-- The same of a contracted axis of one stretch, where each point leaves a tile. -/
theorem whole_one {I J R N T : ℕ} (hR : R = I * 512) (hN : N = J * 512) (hT : I * J * (0 + 1) = T) {x : FVec Ideal ⟨2, ![R, 512]⟩ .f32} {w : FVec Ideal ⟨2, ![512, N]⟩ .f32}
    {X W : Fin T → FVec Ideal Square .f32} {u v : Fin T → Fin 2 → ℕ} (hX : Shows u X x) (hW : Shows v W w)
    (hu : ∀ a b k, u (point hT a b k) 0 = a.val ∧ u (point hT a b k) 1 = k.val)
    (hv : ∀ a b k, v (point hT a b k) 0 = k.val ∧ v (point hT a b k) 1 = b.val)
    {G : FVec Ideal ⟨2, ![R, N]⟩ .f32} {z : Fin T → Fin 2 → ℕ} (hG : Shows z (fun t => add zeros (X t) (W t)) G)
    (hz : ∀ a b k, z (point hT a b k) 0 = a.val ∧ z (point hT a b k) 1 = b.val) : G = result x w := by
  funext e
  obtain ⟨i, j, rfl⟩ : ∃ (i : Fin R) (j : Fin N), e = ix2 i j := ⟨e 0, e 1, eq_ix2 e⟩
  obtain ⟨a, p, rfl⟩ := at_surjective hR i
  obtain ⟨b, q, rfl⟩ := at_surjective hN j
  rw [← hG.at_ hR hN (hz a b 0).1 (hz a b 0).2 p q, written]
  exact tile (n := 0) hR (by decide) hN x w a b (fun k => X (point hT a b k)) (fun k => W (point hT a b k))
    (fun k => add zeros (X (point hT a b k)) (W (point hT a b k))) (fun k => hX.at_ _ _ (hu a b k).1 (hu a b k).2)
    (fun k => hW.at_ _ _ (hv a b k).1 (hv a b k).2) rfl (fun k => k.elim0) p q

end Cert.Product

end
-- ==== Proof.Linear.lean ====
/-
The linear maps of a device's rows: the MLP's two, the two around the time mixing and the short convolution, and the two around
the attention. Of each stand here where its windows lie and what its grid points leave; the rest is `Product`'s.
-/
module

public import proofs.«01_k».proof.Defs
public import proofs.«01_k».proof.Proof.Gen.MlpW1.Frame
public import proofs.«01_k».proof.Proof.Gen.MlpW1Ideal.Value
public import proofs.«01_k».proof.Proof.Gen.MlpW1ReferenceIdeal.Run
public import proofs.«01_k».proof.Proof.Gen.AbIn.Frame
public import proofs.«01_k».proof.Proof.Gen.AbInIdeal.Value
public import proofs.«01_k».proof.Proof.Gen.AbInReferenceIdeal.Run
public import proofs.«01_k».proof.Proof.Gen.AbOut.Frame
public import proofs.«01_k».proof.Proof.Gen.AbOutIdeal.Value
public import proofs.«01_k».proof.Proof.Gen.AbOutReferenceIdeal.Run
public import proofs.«01_k».proof.Proof.Gen.DilQkv.Frame
public import proofs.«01_k».proof.Proof.Gen.DilQkvIdeal.Value
public import proofs.«01_k».proof.Proof.Gen.DilQkvReferenceIdeal.Run
public import proofs.«01_k».proof.Proof.Gen.MlpW2.Frame
public import proofs.«01_k».proof.Proof.Gen.MlpW2Ideal.Value
public import proofs.«01_k».proof.Proof.Gen.MlpW2ReferenceIdeal.Run
public import proofs.«01_k».proof.Proof.Gen.DilOut.Frame
public import proofs.«01_k».proof.Proof.Gen.DilOutIdeal.Value
public import proofs.«01_k».proof.Proof.Gen.DilOutReferenceIdeal.Run
public import proofs.«01_k».proof.Proof.Product
public import Idealize.ShloMosaic.Lib.Quiescent

@[expose] public section

noncomputable section

namespace Cert.Linear

open Idealize.ShloMosaic Idealize.SL.Sem Idealize.ShloMosaic.ValueIdx Idealize.ShloMosaic.TcCoe Cert.Entries Cert.Product

namespace Inner

section Kernel

open Cert.MlpW1Ideal Cert.MlpW1Ideal.Gen

variable (m : (ℓ : Loc nD τ sig) → Buf (Elt Ideal) ℓ) (c : Dev nD)

theorem next (t : Fin cfg0.N) (h : ¬t.val % 2 = 0) :
    (outsAt0 m c t.val t.isLt).2 = add (outsAt0 m c (t.val - 1) (before t)).2 (iblk m c 0 t) (iblk m c 1 t) := by
  rw [outsAt0_B m c t h (by omega)]
  frame_out
  exact congrArg (fun acc => k0_pay2 acc (iblk m c 0 t) (iblk m c 1 t)) (Memref.IsWhole.read_unread _ _)

theorem left : Value.G2 m c = result (R := 2048) (M := 1024) (N := 4096) (m ((c : Thread nD τ).loc main_arg0)) (m ((c : Thread nD τ).loc main_arg1)) :=
  whole (n := 1) (I := 4) (J := 8) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_B m c t (by omega) h]; frame_out)
    (fun e h => (dif_pos h).trans (congrFun (congrArg Prod.fst (Value.outsAt0_sweep m c _ h).symm) _)) (fun _ => rfl) fun _ => ⟨rfl, rfl⟩

end Kernel

theorem frame : quiescent_MlpW1 := fun m g _ => Cert.MlpW1.Gen.frame m g

theorem frame_ideal : quiescent_MlpW1Ideal := fun m g _ => Cert.MlpW1Ideal.Gen.frame m g

theorem reference_frame : quiescent_MlpW1ReferenceIdeal := fun m g _ =>
  (θ_run Cert.MlpW1ReferenceIdeal.defs _ _).mono (fun r h => ⟨fun c => (h c).2, sem_eq_zero_of_no_sems rfl r.2⟩)
    (Cert.MlpW1ReferenceIdeal.Value.run (F := Ideal) m g)

theorem preserves : preserves_MlpW1_MlpW1Ideal := trivial

theorem value : algebraic_MlpW1Ideal_MlpW1ReferenceIdeal := fun m g m' g' _ hm =>
  ⟨_, Cert.MlpW1Ideal.Value.run (F := Ideal) m g,
    (θ_run Cert.MlpW1ReferenceIdeal.defs _ _).mono
      (fun r h c => ⟨(h c).1.trans (by rw [left m c, ← (hm c).1, ← (hm c).2]; rfl), (h c).2⟩)
      (Cert.MlpW1ReferenceIdeal.Value.run (F := Ideal) m' g')⟩

end Inner

namespace MixedIn

section Kernel

open Cert.AbInIdeal Cert.AbInIdeal.Gen

variable (m : (ℓ : Loc nD τ sig) → Buf (Elt Ideal) ℓ) (c : Dev nD)

theorem next (t : Fin cfg0.N) (h : ¬t.val % 2 = 0) :
    (outsAt0 m c t.val t.isLt).2 = add (outsAt0 m c (t.val - 1) (before t)).2 (iblk m c 0 t) (iblk m c 1 t) := by
  rw [outsAt0_B m c t h (by omega)]
  frame_out
  exact congrArg (fun acc => k0_pay2 acc (iblk m c 0 t) (iblk m c 1 t)) (Memref.IsWhole.read_unread _ _)

theorem left : Value.G2 m c = result (R := 2048) (M := 1024) (N := 3584) (m ((c : Thread nD τ).loc main_arg0)) (m ((c : Thread nD τ).loc main_arg1)) :=
  whole (n := 1) (I := 4) (J := 7) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_B m c t (by omega) h]; frame_out)
    (fun e h => (dif_pos h).trans (congrFun (congrArg Prod.fst (Value.outsAt0_sweep m c _ h).symm) _)) (fun _ => rfl) fun _ => ⟨rfl, rfl⟩

end Kernel

theorem frame : quiescent_AbIn := fun m g _ => Cert.AbIn.Gen.frame m g

theorem frame_ideal : quiescent_AbInIdeal := fun m g _ => Cert.AbInIdeal.Gen.frame m g

theorem reference_frame : quiescent_AbInReferenceIdeal := fun m g _ =>
  (θ_run Cert.AbInReferenceIdeal.defs _ _).mono (fun r h => ⟨fun c => (h c).2, sem_eq_zero_of_no_sems rfl r.2⟩)
    (Cert.AbInReferenceIdeal.Value.run (F := Ideal) m g)

theorem preserves : preserves_AbIn_AbInIdeal := trivial

theorem value : algebraic_AbInIdeal_AbInReferenceIdeal := fun m g m' g' _ hm =>
  ⟨_, Cert.AbInIdeal.Value.run (F := Ideal) m g,
    (θ_run Cert.AbInReferenceIdeal.defs _ _).mono
      (fun r h c => ⟨(h c).1.trans (by rw [left m c, ← (hm c).1, ← (hm c).2]; rfl), (h c).2⟩)
      (Cert.AbInReferenceIdeal.Value.run (F := Ideal) m' g')⟩

end MixedIn

namespace MixedOut

section Kernel

open Cert.AbOutIdeal Cert.AbOutIdeal.Gen

variable (m : (ℓ : Loc nD τ sig) → Buf (Elt Ideal) ℓ) (c : Dev nD)

theorem next (t : Fin cfg0.N) (h : ¬t.val % 2 = 0) :
    (outsAt0 m c t.val t.isLt).2 = add (outsAt0 m c (t.val - 1) (before t)).2 (iblk m c 0 t) (iblk m c 1 t) := by
  rw [outsAt0_B m c t h (by omega)]
  frame_out
  exact congrArg (fun acc => k0_pay2 acc (iblk m c 0 t) (iblk m c 1 t)) (Memref.IsWhole.read_unread _ _)

theorem left : Value.G2 m c = result (R := 2048) (M := 1024) (N := 1024) (m ((c : Thread nD τ).loc main_arg0)) (m ((c : Thread nD τ).loc main_arg1)) :=
  whole (n := 1) (I := 4) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_B m c t (by omega) h]; frame_out)
    (fun e h => (dif_pos h).trans (congrFun (congrArg Prod.fst (Value.outsAt0_sweep m c _ h).symm) _)) (fun _ => rfl) fun _ => ⟨rfl, rfl⟩

end Kernel

theorem frame : quiescent_AbOut := fun m g _ => Cert.AbOut.Gen.frame m g

theorem frame_ideal : quiescent_AbOutIdeal := fun m g _ => Cert.AbOutIdeal.Gen.frame m g

theorem reference_frame : quiescent_AbOutReferenceIdeal := fun m g _ =>
  (θ_run Cert.AbOutReferenceIdeal.defs _ _).mono (fun r h => ⟨fun c => (h c).2, sem_eq_zero_of_no_sems rfl r.2⟩)
    (Cert.AbOutReferenceIdeal.Value.run (F := Ideal) m g)

theorem preserves : preserves_AbOut_AbOutIdeal := trivial

theorem value : algebraic_AbOutIdeal_AbOutReferenceIdeal := fun m g m' g' _ hm =>
  ⟨_, Cert.AbOutIdeal.Value.run (F := Ideal) m g,
    (θ_run Cert.AbOutReferenceIdeal.defs _ _).mono
      (fun r h c => ⟨(h c).1.trans (by rw [left m c, ← (hm c).1, ← (hm c).2]; rfl), (h c).2⟩)
      (Cert.AbOutReferenceIdeal.Value.run (F := Ideal) m' g')⟩

end MixedOut

namespace Queries

section Kernel

open Cert.DilQkvIdeal Cert.DilQkvIdeal.Gen

variable (m : (ℓ : Loc nD τ sig) → Buf (Elt Ideal) ℓ) (c : Dev nD)

theorem next (t : Fin cfg0.N) (h : ¬t.val % 2 = 0) :
    (outsAt0 m c t.val t.isLt).2 = add (outsAt0 m c (t.val - 1) (before t)).2 (iblk m c 0 t) (iblk m c 1 t) := by
  rw [outsAt0_B m c t h (by omega)]
  frame_out
  exact congrArg (fun acc => k0_pay2 acc (iblk m c 0 t) (iblk m c 1 t)) (Memref.IsWhole.read_unread _ _)

theorem left : Value.G2 m c = result (R := 2048) (M := 1024) (N := 4608) (m ((c : Thread nD τ).loc main_arg0)) (m ((c : Thread nD τ).loc main_arg1)) :=
  whole (n := 1) (I := 4) (J := 9) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_B m c t (by omega) h]; frame_out)
    (fun e h => (dif_pos h).trans (congrFun (congrArg Prod.fst (Value.outsAt0_sweep m c _ h).symm) _)) (fun _ => rfl) fun _ => ⟨rfl, rfl⟩

end Kernel

theorem frame : quiescent_DilQkv := fun m g _ => Cert.DilQkv.Gen.frame m g

theorem frame_ideal : quiescent_DilQkvIdeal := fun m g _ => Cert.DilQkvIdeal.Gen.frame m g

theorem reference_frame : quiescent_DilQkvReferenceIdeal := fun m g _ =>
  (θ_run Cert.DilQkvReferenceIdeal.defs _ _).mono (fun r h => ⟨fun c => (h c).2, sem_eq_zero_of_no_sems rfl r.2⟩)
    (Cert.DilQkvReferenceIdeal.Value.run (F := Ideal) m g)

theorem preserves : preserves_DilQkv_DilQkvIdeal := trivial

theorem value : algebraic_DilQkvIdeal_DilQkvReferenceIdeal := fun m g m' g' _ hm =>
  ⟨_, Cert.DilQkvIdeal.Value.run (F := Ideal) m g,
    (θ_run Cert.DilQkvReferenceIdeal.defs _ _).mono
      (fun r h c => ⟨(h c).1.trans (by rw [left m c, ← (hm c).1, ← (hm c).2]; rfl), (h c).2⟩)
      (Cert.DilQkvReferenceIdeal.Value.run (F := Ideal) m' g')⟩

end Queries

namespace Outer

section Kernel

open Cert.MlpW2Ideal Cert.MlpW2Ideal.Gen

variable (m : (ℓ : Loc nD τ sig) → Buf (Elt Ideal) ℓ) (c : Dev nD)

theorem next (t : Fin cfg0.N) (h : ¬t.val % 8 = 0) :
    (outsAt0 m c t.val t.isLt).2 = add (outsAt0 m c (t.val - 1) (before t)).2 (iblk m c 0 t) (iblk m c 1 t) := by
  by_cases e : t.val % 8 = 7
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c = result (R := 2048) (M := 4096) (N := 1024) (m ((c : Thread nD τ).loc main_arg0)) (m ((c : Thread nD τ).loc main_arg1)) :=
  whole (n := 7) (I := 4) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_MlpW2 := fun m g _ => Cert.MlpW2.Gen.frame m g

theorem frame_ideal : quiescent_MlpW2Ideal := fun m g _ => Cert.MlpW2Ideal.Gen.frame m g

theorem reference_frame : quiescent_MlpW2ReferenceIdeal := fun m g _ =>
  (θ_run Cert.MlpW2ReferenceIdeal.defs _ _).mono (fun r h => ⟨fun c => (h c).2, sem_eq_zero_of_no_sems rfl r.2⟩)
    (Cert.MlpW2ReferenceIdeal.Value.run (F := Ideal) m g)

theorem preserves : preserves_MlpW2_MlpW2Ideal := trivial

theorem value : algebraic_MlpW2Ideal_MlpW2ReferenceIdeal := fun m g m' g' _ hm =>
  ⟨_, Cert.MlpW2Ideal.Value.run (F := Ideal) m g,
    (θ_run Cert.MlpW2ReferenceIdeal.defs _ _).mono
      (fun r h c => ⟨(h c).1.trans (by rw [left m c, ← (hm c).1, ← (hm c).2]; rfl), (h c).2⟩)
      (Cert.MlpW2ReferenceIdeal.Value.run (F := Ideal) m' g')⟩

end Outer

/-! One stretch: no sum is kept, and each grid point leaves a tile. -/

namespace Merged

section Kernel

open Cert.DilOutIdeal Cert.DilOutIdeal.Gen

variable (m : (ℓ : Loc nD τ sig) → Buf (Elt Ideal) ℓ) (c : Dev nD)

theorem point_leaves (t : Fin cfg0.N) : outsAt0 m c t = add zeros (iblk m c 0 t) (iblk m c 1 t) := by
  unfold outsAt0
  show _ = k0_pay2 (k0_pay1 (F := Ideal)) (iblk m c 0 t) (iblk m c 1 t)
  frame_out

theorem shows_left : Shows win0_2.index (fun t => add zeros (iblk m c 0 t) (iblk m c 1 t)) ((dats m 0 c).arrAt 2 cfg0.N) := fun t p q =>
  ⟨((cfg0.win 2).blk t).view.emb (ix2 p q : S512x512.Idx), by
    have h := congrFun (Value.blocks2 m c t (flush0_2 t)) (ix2 p q : S512x512.Idx)
    refine Eq.symm (h.trans ((congrFun (Value.flushed2 m c t) _).trans ?_))
    show outsAt0 m c t (ix2 p q) = _
    rw [point_leaves], rfl, rfl⟩

theorem left : (dats m 0 c).arrAt 2 cfg0.N
    = result (R := 2048) (M := 512) (N := 1024) (m ((c : Thread nD τ).loc main_arg0)) (m ((c : Thread nD τ).loc main_arg1)) :=
  whole_one (I := 4) (J := 2) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel) (shows_left m c) (by decide +kernel)

end Kernel

theorem frame : quiescent_DilOut := fun m g _ => Cert.DilOut.Gen.frame m g

theorem frame_ideal : quiescent_DilOutIdeal := fun m g _ => Cert.DilOutIdeal.Gen.frame m g

theorem reference_frame : quiescent_DilOutReferenceIdeal := fun m g _ =>
  (θ_run Cert.DilOutReferenceIdeal.defs _ _).mono (fun r h => ⟨fun c => (h c).2, sem_eq_zero_of_no_sems rfl r.2⟩)
    (Cert.DilOutReferenceIdeal.Value.run (F := Ideal) m g)

theorem preserves : preserves_DilOut_DilOutIdeal := trivial

theorem value : algebraic_DilOutIdeal_DilOutReferenceIdeal := fun m g m' g' _ hm =>
  ⟨_, Cert.DilOutIdeal.Value.run_blocks (F := Ideal) m g,
    (θ_run Cert.DilOutReferenceIdeal.defs _ _).mono
      (fun r h c => ⟨(h c).1.trans (by rw [left m c, ← (hm c).1, ← (hm c).2]; rfl), (h c).2⟩)
      (Cert.DilOutReferenceIdeal.Value.run (F := Ideal) m' g')⟩

end Merged

end Cert.Linear

end
-- ==== Proof.LinearBack.lean ====
/-
The gradients of the linear maps: by the rows, where the matrix is turned over, and by the matrix, where the rows are. Of each
stand here where its windows lie and what its grid points leave; the rest is `Product`'s.
-/
module

public import proofs.«01_k».proof.Defs
public import proofs.«01_k».proof.Proof.Gen.MlpW1Dx.Frame
public import proofs.«01_k».proof.Proof.Gen.MlpW1DxIdeal.Value
public import proofs.«01_k».proof.Proof.Gen.MlpW1DxReferenceIdeal.Run
public import proofs.«01_k».proof.Proof.Gen.MlpW1Dw.Frame
public import proofs.«01_k».proof.Proof.Gen.MlpW1DwIdeal.Value
public import proofs.«01_k».proof.Proof.Gen.MlpW1DwReferenceIdeal.Run
public import proofs.«01_k».proof.Proof.Gen.MlpW2Dx.Frame
public import proofs.«01_k».proof.Proof.Gen.MlpW2DxIdeal.Value
public import proofs.«01_k».proof.Proof.Gen.MlpW2DxReferenceIdeal.Run
public import proofs.«01_k».proof.Proof.Gen.MlpW2Dw.Frame
public import proofs.«01_k».proof.Proof.Gen.MlpW2DwIdeal.Value
public import proofs.«01_k».proof.Proof.Gen.MlpW2DwReferenceIdeal.Run
public import proofs.«01_k».proof.Proof.Gen.AbInDx.Frame
public import proofs.«01_k».proof.Proof.Gen.AbInDxIdeal.Value
public import proofs.«01_k».proof.Proof.Gen.AbInDxReferenceIdeal.Run
public import proofs.«01_k».proof.Proof.Gen.AbInDw.Frame
public import proofs.«01_k».proof.Proof.Gen.AbInDwIdeal.Value
public import proofs.«01_k».proof.Proof.Gen.AbInDwReferenceIdeal.Run
public import proofs.«01_k».proof.Proof.Gen.AbOutDx.Frame
public import proofs.«01_k».proof.Proof.Gen.AbOutDxIdeal.Value
public import proofs.«01_k».proof.Proof.Gen.AbOutDxReferenceIdeal.Run
public import proofs.«01_k».proof.Proof.Gen.AbOutDw.Frame
public import proofs.«01_k».proof.Proof.Gen.AbOutDwIdeal.Value
public import proofs.«01_k».proof.Proof.Gen.AbOutDwReferenceIdeal.Run
public import proofs.«01_k».proof.Proof.Gen.DilQkvDx.Frame
public import proofs.«01_k».proof.Proof.Gen.DilQkvDxIdeal.Value
public import proofs.«01_k».proof.Proof.Gen.DilQkvDxReferenceIdeal.Run
public import proofs.«01_k».proof.Proof.Gen.DilQkvDw.Frame
public import proofs.«01_k».proof.Proof.Gen.DilQkvDwIdeal.Value
public import proofs.«01_k».proof.Proof.Gen.DilQkvDwReferenceIdeal.Run
public import proofs.«01_k».proof.Proof.Gen.DilOutDx.Frame
public import proofs.«01_k».proof.Proof.Gen.DilOutDxIdeal.Value
public import proofs.«01_k».proof.Proof.Gen.DilOutDxReferenceIdeal.Run
public import proofs.«01_k».proof.Proof.Gen.DilOutDw.Frame
public import proofs.«01_k».proof.Proof.Gen.DilOutDwIdeal.Value
public import proofs.«01_k».proof.Proof.Gen.DilOutDwReferenceIdeal.Run
public import proofs.«01_k».proof.Proof.Product
public import Idealize.ShloMosaic.Lib.Quiescent

@[expose] public section

noncomputable section

namespace Cert.LinearBack

open Idealize.ShloMosaic Idealize.SL.Sem Idealize.ShloMosaic.ValueIdx Idealize.ShloMosaic.TcCoe Cert.Entries Cert.Product

/-! ## By the rows -/

namespace InnerRows

section Kernel

open Cert.MlpW1DxIdeal Cert.MlpW1DxIdeal.Gen

variable (m : (ℓ : Loc nD τ sig) → Buf (Elt Ideal) ℓ) (c : Dev nD)

theorem next (t : Fin cfg0.N) (h : ¬t.val % 8 = 0) :
    (outsAt0 m c t.val t.isLt).2 = addRight (outsAt0 m c (t.val - 1) (before t)).2 (iblk m c 0 t) (iblk m c 1 t) := by
  by_cases e : t.val % 8 = 7
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 2048) (M := 4096) (N := 1024) (m ((c : Thread nD τ).loc main_arg0)) (turned (m ((c : Thread nD τ).loc main_arg1))) :=
  whole_right (n := 7) (I := 4) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_MlpW1Dx := fun m g _ => Cert.MlpW1Dx.Gen.frame m g

theorem frame_ideal : quiescent_MlpW1DxIdeal := fun m g _ => Cert.MlpW1DxIdeal.Gen.frame m g

theorem reference_frame : quiescent_MlpW1DxReferenceIdeal := fun m g _ =>
  (θ_run Cert.MlpW1DxReferenceIdeal.defs _ _).mono (fun r h => ⟨fun c => (h c).2, sem_eq_zero_of_no_sems rfl r.2⟩)
    (Cert.MlpW1DxReferenceIdeal.Value.run (F := Ideal) m g)

theorem preserves : preserves_MlpW1Dx_MlpW1DxIdeal := trivial

theorem value : algebraic_MlpW1DxIdeal_MlpW1DxReferenceIdeal := fun m g m' g' _ hm =>
  ⟨_, Cert.MlpW1DxIdeal.Value.run (F := Ideal) m g,
    (θ_run Cert.MlpW1DxReferenceIdeal.defs _ _).mono
      (fun r h c => ⟨(h c).1.trans (by rw [left m c, ← (hm c).1, ← (hm c).2, transpose_turned]; rfl), (h c).2⟩)
      (Cert.MlpW1DxReferenceIdeal.Value.run (F := Ideal) m' g')⟩

end InnerRows

namespace OuterRows

section Kernel

open Cert.MlpW2DxIdeal Cert.MlpW2DxIdeal.Gen

variable (m : (ℓ : Loc nD τ sig) → Buf (Elt Ideal) ℓ) (c : Dev nD)

theorem next (t : Fin cfg0.N) (h : ¬t.val % 2 = 0) :
    (outsAt0 m c t.val t.isLt).2 = addRight (outsAt0 m c (t.val - 1) (before t)).2 (iblk m c 0 t) (iblk m c 1 t) := by
  rw [outsAt0_B m c t h (by omega)]
  frame_out
  exact congrArg (fun acc => k0_pay2 acc (iblk m c 0 t) (iblk m c 1 t)) (Memref.IsWhole.read_unread _ _)

theorem left : Value.G2 m c
    = result (R := 2048) (M := 1024) (N := 4096) (m ((c : Thread nD τ).loc main_arg0)) (turned (m ((c : Thread nD τ).loc main_arg1))) :=
  whole_right (n := 1) (I := 4) (J := 8) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_B m c t (by omega) h]; frame_out)
    (fun e h => (dif_pos h).trans (congrFun (congrArg Prod.fst (Value.outsAt0_sweep m c _ h).symm) _)) (fun _ => rfl) fun _ => ⟨rfl, rfl⟩

end Kernel

theorem frame : quiescent_MlpW2Dx := fun m g _ => Cert.MlpW2Dx.Gen.frame m g

theorem frame_ideal : quiescent_MlpW2DxIdeal := fun m g _ => Cert.MlpW2DxIdeal.Gen.frame m g

theorem reference_frame : quiescent_MlpW2DxReferenceIdeal := fun m g _ =>
  (θ_run Cert.MlpW2DxReferenceIdeal.defs _ _).mono (fun r h => ⟨fun c => (h c).2, sem_eq_zero_of_no_sems rfl r.2⟩)
    (Cert.MlpW2DxReferenceIdeal.Value.run (F := Ideal) m g)

theorem preserves : preserves_MlpW2Dx_MlpW2DxIdeal := trivial

theorem value : algebraic_MlpW2DxIdeal_MlpW2DxReferenceIdeal := fun m g m' g' _ hm =>
  ⟨_, Cert.MlpW2DxIdeal.Value.run (F := Ideal) m g,
    (θ_run Cert.MlpW2DxReferenceIdeal.defs _ _).mono
      (fun r h c => ⟨(h c).1.trans (by rw [left m c, ← (hm c).1, ← (hm c).2, transpose_turned]; rfl), (h c).2⟩)
      (Cert.MlpW2DxReferenceIdeal.Value.run (F := Ideal) m' g')⟩

end OuterRows

namespace MixedInRows

section Kernel

open Cert.AbInDxIdeal Cert.AbInDxIdeal.Gen

variable (m : (ℓ : Loc nD τ sig) → Buf (Elt Ideal) ℓ) (c : Dev nD)

theorem next (t : Fin cfg0.N) (h : ¬t.val % 7 = 0) :
    (outsAt0 m c t.val t.isLt).2 = addRight (outsAt0 m c (t.val - 1) (before t)).2 (iblk m c 0 t) (iblk m c 1 t) := by
  by_cases e : t.val % 7 = 6
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 2048) (M := 3584) (N := 1024) (m ((c : Thread nD τ).loc main_arg0)) (turned (m ((c : Thread nD τ).loc main_arg1))) :=
  whole_right (n := 6) (I := 4) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_AbInDx := fun m g _ => Cert.AbInDx.Gen.frame m g

theorem frame_ideal : quiescent_AbInDxIdeal := fun m g _ => Cert.AbInDxIdeal.Gen.frame m g

theorem reference_frame : quiescent_AbInDxReferenceIdeal := fun m g _ =>
  (θ_run Cert.AbInDxReferenceIdeal.defs _ _).mono (fun r h => ⟨fun c => (h c).2, sem_eq_zero_of_no_sems rfl r.2⟩)
    (Cert.AbInDxReferenceIdeal.Value.run (F := Ideal) m g)

theorem preserves : preserves_AbInDx_AbInDxIdeal := trivial

theorem value : algebraic_AbInDxIdeal_AbInDxReferenceIdeal := fun m g m' g' _ hm =>
  ⟨_, Cert.AbInDxIdeal.Value.run (F := Ideal) m g,
    (θ_run Cert.AbInDxReferenceIdeal.defs _ _).mono
      (fun r h c => ⟨(h c).1.trans (by rw [left m c, ← (hm c).1, ← (hm c).2, transpose_turned]; rfl), (h c).2⟩)
      (Cert.AbInDxReferenceIdeal.Value.run (F := Ideal) m' g')⟩

end MixedInRows

namespace MixedOutRows

section Kernel

open Cert.AbOutDxIdeal Cert.AbOutDxIdeal.Gen

variable (m : (ℓ : Loc nD τ sig) → Buf (Elt Ideal) ℓ) (c : Dev nD)

theorem next (t : Fin cfg0.N) (h : ¬t.val % 2 = 0) :
    (outsAt0 m c t.val t.isLt).2 = addRight (outsAt0 m c (t.val - 1) (before t)).2 (iblk m c 0 t) (iblk m c 1 t) := by
  rw [outsAt0_B m c t h (by omega)]
  frame_out
  exact congrArg (fun acc => k0_pay2 acc (iblk m c 0 t) (iblk m c 1 t)) (Memref.IsWhole.read_unread _ _)

theorem left : Value.G2 m c
    = result (R := 2048) (M := 1024) (N := 1024) (m ((c : Thread nD τ).loc main_arg0)) (turned (m ((c : Thread nD τ).loc main_arg1))) :=
  whole_right (n := 1) (I := 4) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_B m c t (by omega) h]; frame_out)
    (fun e h => (dif_pos h).trans (congrFun (congrArg Prod.fst (Value.outsAt0_sweep m c _ h).symm) _)) (fun _ => rfl) fun _ => ⟨rfl, rfl⟩

end Kernel

theorem frame : quiescent_AbOutDx := fun m g _ => Cert.AbOutDx.Gen.frame m g

theorem frame_ideal : quiescent_AbOutDxIdeal := fun m g _ => Cert.AbOutDxIdeal.Gen.frame m g

theorem reference_frame : quiescent_AbOutDxReferenceIdeal := fun m g _ =>
  (θ_run Cert.AbOutDxReferenceIdeal.defs _ _).mono (fun r h => ⟨fun c => (h c).2, sem_eq_zero_of_no_sems rfl r.2⟩)
    (Cert.AbOutDxReferenceIdeal.Value.run (F := Ideal) m g)

theorem preserves : preserves_AbOutDx_AbOutDxIdeal := trivial

theorem value : algebraic_AbOutDxIdeal_AbOutDxReferenceIdeal := fun m g m' g' _ hm =>
  ⟨_, Cert.AbOutDxIdeal.Value.run (F := Ideal) m g,
    (θ_run Cert.AbOutDxReferenceIdeal.defs _ _).mono
      (fun r h c => ⟨(h c).1.trans (by rw [left m c, ← (hm c).1, ← (hm c).2, transpose_turned]; rfl), (h c).2⟩)
      (Cert.AbOutDxReferenceIdeal.Value.run (F := Ideal) m' g')⟩

end MixedOutRows

namespace QueriesRows

section Kernel

open Cert.DilQkvDxIdeal Cert.DilQkvDxIdeal.Gen

variable (m : (ℓ : Loc nD τ sig) → Buf (Elt Ideal) ℓ) (c : Dev nD)

theorem next (t : Fin cfg0.N) (h : ¬t.val % 9 = 0) :
    (outsAt0 m c t.val t.isLt).2 = addRight (outsAt0 m c (t.val - 1) (before t)).2 (iblk m c 0 t) (iblk m c 1 t) := by
  by_cases e : t.val % 9 = 8
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 2048) (M := 4608) (N := 1024) (m ((c : Thread nD τ).loc main_arg0)) (turned (m ((c : Thread nD τ).loc main_arg1))) :=
  whole_right (n := 8) (I := 4) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_DilQkvDx := fun m g _ => Cert.DilQkvDx.Gen.frame m g

theorem frame_ideal : quiescent_DilQkvDxIdeal := fun m g _ => Cert.DilQkvDxIdeal.Gen.frame m g

theorem reference_frame : quiescent_DilQkvDxReferenceIdeal := fun m g _ =>
  (θ_run Cert.DilQkvDxReferenceIdeal.defs _ _).mono (fun r h => ⟨fun c => (h c).2, sem_eq_zero_of_no_sems rfl r.2⟩)
    (Cert.DilQkvDxReferenceIdeal.Value.run (F := Ideal) m g)

theorem preserves : preserves_DilQkvDx_DilQkvDxIdeal := trivial

theorem value : algebraic_DilQkvDxIdeal_DilQkvDxReferenceIdeal := fun m g m' g' _ hm =>
  ⟨_, Cert.DilQkvDxIdeal.Value.run (F := Ideal) m g,
    (θ_run Cert.DilQkvDxReferenceIdeal.defs _ _).mono
      (fun r h c => ⟨(h c).1.trans (by rw [left m c, ← (hm c).1, ← (hm c).2, transpose_turned]; rfl), (h c).2⟩)
      (Cert.DilQkvDxReferenceIdeal.Value.run (F := Ideal) m' g')⟩

end QueriesRows

namespace MergedRows

section Kernel

open Cert.DilOutDxIdeal Cert.DilOutDxIdeal.Gen

variable (m : (ℓ : Loc nD τ sig) → Buf (Elt Ideal) ℓ) (c : Dev nD)

theorem next (t : Fin cfg0.N) (h : ¬t.val % 2 = 0) :
    (outsAt0 m c t.val t.isLt).2 = addRight (outsAt0 m c (t.val - 1) (before t)).2 (iblk m c 0 t) (iblk m c 1 t) := by
  rw [outsAt0_B m c t h (by omega)]
  frame_out
  exact congrArg (fun acc => k0_pay2 acc (iblk m c 0 t) (iblk m c 1 t)) (Memref.IsWhole.read_unread _ _)

theorem left : Value.G2 m c
    = result (R := 2048) (M := 1024) (N := 512) (m ((c : Thread nD τ).loc main_arg0)) (turned (m ((c : Thread nD τ).loc main_arg1))) :=
  whole_right (n := 1) (I := 4) (J := 1) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_B m c t (by omega) h]; frame_out)
    (fun e h => (dif_pos h).trans (congrFun (congrArg Prod.fst (Value.outsAt0_sweep m c _ h).symm) _)) (fun _ => rfl) fun _ => ⟨rfl, rfl⟩

end Kernel

theorem frame : quiescent_DilOutDx := fun m g _ => Cert.DilOutDx.Gen.frame m g

theorem frame_ideal : quiescent_DilOutDxIdeal := fun m g _ => Cert.DilOutDxIdeal.Gen.frame m g

theorem reference_frame : quiescent_DilOutDxReferenceIdeal := fun m g _ =>
  (θ_run Cert.DilOutDxReferenceIdeal.defs _ _).mono (fun r h => ⟨fun c => (h c).2, sem_eq_zero_of_no_sems rfl r.2⟩)
    (Cert.DilOutDxReferenceIdeal.Value.run (F := Ideal) m g)

theorem preserves : preserves_DilOutDx_DilOutDxIdeal := trivial

theorem value : algebraic_DilOutDxIdeal_DilOutDxReferenceIdeal := fun m g m' g' _ hm =>
  ⟨_, Cert.DilOutDxIdeal.Value.run (F := Ideal) m g,
    (θ_run Cert.DilOutDxReferenceIdeal.defs _ _).mono
      (fun r h c => ⟨(h c).1.trans (by rw [left m c, ← (hm c).1, ← (hm c).2, transpose_turned]; rfl), (h c).2⟩)
      (Cert.DilOutDxReferenceIdeal.Value.run (F := Ideal) m' g')⟩

end MergedRows

/-! ## By the matrix: the 2048 rows are four stretches -/

namespace InnerMatrix

section Kernel

open Cert.MlpW1DwIdeal Cert.MlpW1DwIdeal.Gen

variable (m : (ℓ : Loc nD τ sig) → Buf (Elt Ideal) ℓ) (c : Dev nD)

theorem next (t : Fin cfg0.N) (h : ¬t.val % 4 = 0) :
    (outsAt0 m c t.val t.isLt).2 = addLeft (outsAt0 m c (t.val - 1) (before t)).2 (iblk m c 0 t) (iblk m c 1 t) := by
  by_cases e : t.val % 4 = 3
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 1024) (M := 2048) (N := 4096) (turned (m ((c : Thread nD τ).loc main_arg0))) (m ((c : Thread nD τ).loc main_arg1)) :=
  whole_left (n := 3) (I := 2) (J := 8) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_MlpW1Dw := fun m g _ => Cert.MlpW1Dw.Gen.frame m g

theorem frame_ideal : quiescent_MlpW1DwIdeal := fun m g _ => Cert.MlpW1DwIdeal.Gen.frame m g

theorem reference_frame : quiescent_MlpW1DwReferenceIdeal := fun m g _ =>
  (θ_run Cert.MlpW1DwReferenceIdeal.defs _ _).mono (fun r h => ⟨fun c => (h c).2, sem_eq_zero_of_no_sems rfl r.2⟩)
    (Cert.MlpW1DwReferenceIdeal.Value.run (F := Ideal) m g)

theorem preserves : preserves_MlpW1Dw_MlpW1DwIdeal := trivial

theorem value : algebraic_MlpW1DwIdeal_MlpW1DwReferenceIdeal := fun m g m' g' _ hm =>
  ⟨_, Cert.MlpW1DwIdeal.Value.run (F := Ideal) m g,
    (θ_run Cert.MlpW1DwReferenceIdeal.defs _ _).mono
      (fun r h c => ⟨(h c).1.trans (by rw [left m c, ← (hm c).1, ← (hm c).2, transpose_turned]; rfl), (h c).2⟩)
      (Cert.MlpW1DwReferenceIdeal.Value.run (F := Ideal) m' g')⟩

end InnerMatrix

namespace OuterMatrix

section Kernel

open Cert.MlpW2DwIdeal Cert.MlpW2DwIdeal.Gen

variable (m : (ℓ : Loc nD τ sig) → Buf (Elt Ideal) ℓ) (c : Dev nD)

theorem next (t : Fin cfg0.N) (h : ¬t.val % 4 = 0) :
    (outsAt0 m c t.val t.isLt).2 = addLeft (outsAt0 m c (t.val - 1) (before t)).2 (iblk m c 0 t) (iblk m c 1 t) := by
  by_cases e : t.val % 4 = 3
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 4096) (M := 2048) (N := 1024) (turned (m ((c : Thread nD τ).loc main_arg0))) (m ((c : Thread nD τ).loc main_arg1)) :=
  whole_left (n := 3) (I := 8) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_MlpW2Dw := fun m g _ => Cert.MlpW2Dw.Gen.frame m g

theorem frame_ideal : quiescent_MlpW2DwIdeal := fun m g _ => Cert.MlpW2DwIdeal.Gen.frame m g

theorem reference_frame : quiescent_MlpW2DwReferenceIdeal := fun m g _ =>
  (θ_run Cert.MlpW2DwReferenceIdeal.defs _ _).mono (fun r h => ⟨fun c => (h c).2, sem_eq_zero_of_no_sems rfl r.2⟩)
    (Cert.MlpW2DwReferenceIdeal.Value.run (F := Ideal) m g)

theorem preserves : preserves_MlpW2Dw_MlpW2DwIdeal := trivial

theorem value : algebraic_MlpW2DwIdeal_MlpW2DwReferenceIdeal := fun m g m' g' _ hm =>
  ⟨_, Cert.MlpW2DwIdeal.Value.run (F := Ideal) m g,
    (θ_run Cert.MlpW2DwReferenceIdeal.defs _ _).mono
      (fun r h c => ⟨(h c).1.trans (by rw [left m c, ← (hm c).1, ← (hm c).2, transpose_turned]; rfl), (h c).2⟩)
      (Cert.MlpW2DwReferenceIdeal.Value.run (F := Ideal) m' g')⟩

end OuterMatrix

namespace MixedInMatrix

section Kernel

open Cert.AbInDwIdeal Cert.AbInDwIdeal.Gen

variable (m : (ℓ : Loc nD τ sig) → Buf (Elt Ideal) ℓ) (c : Dev nD)

theorem next (t : Fin cfg0.N) (h : ¬t.val % 4 = 0) :
    (outsAt0 m c t.val t.isLt).2 = addLeft (outsAt0 m c (t.val - 1) (before t)).2 (iblk m c 0 t) (iblk m c 1 t) := by
  by_cases e : t.val % 4 = 3
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 1024) (M := 2048) (N := 3584) (turned (m ((c : Thread nD τ).loc main_arg0))) (m ((c : Thread nD τ).loc main_arg1)) :=
  whole_left (n := 3) (I := 2) (J := 7) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_AbInDw := fun m g _ => Cert.AbInDw.Gen.frame m g

theorem frame_ideal : quiescent_AbInDwIdeal := fun m g _ => Cert.AbInDwIdeal.Gen.frame m g

theorem reference_frame : quiescent_AbInDwReferenceIdeal := fun m g _ =>
  (θ_run Cert.AbInDwReferenceIdeal.defs _ _).mono (fun r h => ⟨fun c => (h c).2, sem_eq_zero_of_no_sems rfl r.2⟩)
    (Cert.AbInDwReferenceIdeal.Value.run (F := Ideal) m g)

theorem preserves : preserves_AbInDw_AbInDwIdeal := trivial

theorem value : algebraic_AbInDwIdeal_AbInDwReferenceIdeal := fun m g m' g' _ hm =>
  ⟨_, Cert.AbInDwIdeal.Value.run (F := Ideal) m g,
    (θ_run Cert.AbInDwReferenceIdeal.defs _ _).mono
      (fun r h c => ⟨(h c).1.trans (by rw [left m c, ← (hm c).1, ← (hm c).2, transpose_turned]; rfl), (h c).2⟩)
      (Cert.AbInDwReferenceIdeal.Value.run (F := Ideal) m' g')⟩

end MixedInMatrix

namespace MixedOutMatrix

section Kernel

open Cert.AbOutDwIdeal Cert.AbOutDwIdeal.Gen

variable (m : (ℓ : Loc nD τ sig) → Buf (Elt Ideal) ℓ) (c : Dev nD)

theorem next (t : Fin cfg0.N) (h : ¬t.val % 4 = 0) :
    (outsAt0 m c t.val t.isLt).2 = addLeft (outsAt0 m c (t.val - 1) (before t)).2 (iblk m c 0 t) (iblk m c 1 t) := by
  by_cases e : t.val % 4 = 3
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 1024) (M := 2048) (N := 1024) (turned (m ((c : Thread nD τ).loc main_arg0))) (m ((c : Thread nD τ).loc main_arg1)) :=
  whole_left (n := 3) (I := 2) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_AbOutDw := fun m g _ => Cert.AbOutDw.Gen.frame m g

theorem frame_ideal : quiescent_AbOutDwIdeal := fun m g _ => Cert.AbOutDwIdeal.Gen.frame m g

theorem reference_frame : quiescent_AbOutDwReferenceIdeal := fun m g _ =>
  (θ_run Cert.AbOutDwReferenceIdeal.defs _ _).mono (fun r h => ⟨fun c => (h c).2, sem_eq_zero_of_no_sems rfl r.2⟩)
    (Cert.AbOutDwReferenceIdeal.Value.run (F := Ideal) m g)

theorem preserves : preserves_AbOutDw_AbOutDwIdeal := trivial

theorem value : algebraic_AbOutDwIdeal_AbOutDwReferenceIdeal := fun m g m' g' _ hm =>
  ⟨_, Cert.AbOutDwIdeal.Value.run (F := Ideal) m g,
    (θ_run Cert.AbOutDwReferenceIdeal.defs _ _).mono
      (fun r h c => ⟨(h c).1.trans (by rw [left m c, ← (hm c).1, ← (hm c).2, transpose_turned]; rfl), (h c).2⟩)
      (Cert.AbOutDwReferenceIdeal.Value.run (F := Ideal) m' g')⟩

end MixedOutMatrix

namespace QueriesMatrix

section Kernel

open Cert.DilQkvDwIdeal Cert.DilQkvDwIdeal.Gen

variable (m : (ℓ : Loc nD τ sig) → Buf (Elt Ideal) ℓ) (c : Dev nD)

theorem next (t : Fin cfg0.N) (h : ¬t.val % 4 = 0) :
    (outsAt0 m c t.val t.isLt).2 = addLeft (outsAt0 m c (t.val - 1) (before t)).2 (iblk m c 0 t) (iblk m c 1 t) := by
  by_cases e : t.val % 4 = 3
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 1024) (M := 2048) (N := 4608) (turned (m ((c : Thread nD τ).loc main_arg0))) (m ((c : Thread nD τ).loc main_arg1)) :=
  whole_left (n := 3) (I := 2) (J := 9) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_DilQkvDw := fun m g _ => Cert.DilQkvDw.Gen.frame m g

theorem frame_ideal : quiescent_DilQkvDwIdeal := fun m g _ => Cert.DilQkvDwIdeal.Gen.frame m g

theorem reference_frame : quiescent_DilQkvDwReferenceIdeal := fun m g _ =>
  (θ_run Cert.DilQkvDwReferenceIdeal.defs _ _).mono (fun r h => ⟨fun c => (h c).2, sem_eq_zero_of_no_sems rfl r.2⟩)
    (Cert.DilQkvDwReferenceIdeal.Value.run (F := Ideal) m g)

theorem preserves : preserves_DilQkvDw_DilQkvDwIdeal := trivial

theorem value : algebraic_DilQkvDwIdeal_DilQkvDwReferenceIdeal := fun m g m' g' _ hm =>
  ⟨_, Cert.DilQkvDwIdeal.Value.run (F := Ideal) m g,
    (θ_run Cert.DilQkvDwReferenceIdeal.defs _ _).mono
      (fun r h c => ⟨(h c).1.trans (by rw [left m c, ← (hm c).1, ← (hm c).2, transpose_turned]; rfl), (h c).2⟩)
      (Cert.DilQkvDwReferenceIdeal.Value.run (F := Ideal) m' g')⟩

end QueriesMatrix

namespace MergedMatrix

section Kernel

open Cert.DilOutDwIdeal Cert.DilOutDwIdeal.Gen

variable (m : (ℓ : Loc nD τ sig) → Buf (Elt Ideal) ℓ) (c : Dev nD)

theorem next (t : Fin cfg0.N) (h : ¬t.val % 4 = 0) :
    (outsAt0 m c t.val t.isLt).2 = addLeft (outsAt0 m c (t.val - 1) (before t)).2 (iblk m c 0 t) (iblk m c 1 t) := by
  by_cases e : t.val % 4 = 3
  on_goal 1 => rw [outsAt0_C m c t h e]
  on_goal 2 => rw [outsAt0_B m c t h e]
  all_goals
    frame_out
    exact congrArg (fun acc => k0_pay2 acc (iblk m c 0 t) (iblk m c 1 t)) (Memref.IsWhole.read_unread _ _)

theorem left : Value.G2 m c
    = result (R := 512) (M := 2048) (N := 1024) (turned (m ((c : Thread nD τ).loc main_arg0))) (m ((c : Thread nD τ).loc main_arg1)) :=
  whole_left (n := 3) (I := 1) (J := 2) (by decide) (by decide) (by decide) rfl (X := iblk m c 0) (W := iblk m c 1) (u := win0_0.index) (v := win0_1.index)
    (fun _ _ _ => ⟨_, rfl, rfl, rfl⟩) (fun _ _ _ => ⟨_, rfl, rfl, rfl⟩) (by decide +kernel) (by decide +kernel)
    (fun t h => by rw [outsAt0_A m c t h (by omega)]; frame_out; rfl) (next m c)
    (fun t h => by rw [outsAt0_C m c t (by omega) h]; frame_out)
    (fun e h => (dif_pos h).trans (congrFun (congrArg Prod.fst (Value.outsAt0_sweep m c _ h).symm) _)) (fun _ => rfl) fun _ => ⟨rfl, rfl⟩

end Kernel

theorem frame : quiescent_DilOutDw := fun m g _ => Cert.DilOutDw.Gen.frame m g

theorem frame_ideal : quiescent_DilOutDwIdeal := fun m g _ => Cert.DilOutDwIdeal.Gen.frame m g

theorem reference_frame : quiescent_DilOutDwReferenceIdeal := fun m g _ =>
  (θ_run Cert.DilOutDwReferenceIdeal.defs _ _).mono (fun r h => ⟨fun c => (h c).2, sem_eq_zero_of_no_sems rfl r.2⟩)
    (Cert.DilOutDwReferenceIdeal.Value.run (F := Ideal) m g)

theorem preserves : preserves_DilOutDw_DilOutDwIdeal := trivial

theorem value : algebraic_DilOutDwIdeal_DilOutDwReferenceIdeal := fun m g m' g' _ hm =>
  ⟨_, Cert.DilOutDwIdeal.Value.run (F := Ideal) m g,
    (θ_run Cert.DilOutDwReferenceIdeal.defs _ _).mono
      (fun r h c => ⟨(h c).1.trans (by rw [left m c, ← (hm c).1, ← (hm c).2, transpose_turned]; rfl), (h c).2⟩)
      (Cert.DilOutDwReferenceIdeal.Value.run (F := Ideal) m' g')⟩

end MergedMatrix

end Cert.LinearBack

end
-- ==== Proof.LnLoss.lean ====
/-
The loss of a device's rows: half the sum over the rows of the mean square error of the normalized residual, which the
kernel sums tile by tile and the reference in one go.
-/
module

public import proofs.«01_k».proof.Defs
public import proofs.«01_k».proof.Proof.Gen.LnLoss.Frame
public import proofs.«01_k».proof.Proof.Gen.LnLossIdeal.Value
public import proofs.«01_k».proof.Proof.Gen.LnLossReferenceIdeal.Run
public import proofs.«01_k».proof.Proof.LayerNorm
public import Idealize.ShloMosaic.Lib.Pipeline.ValueKit.Acc
public import Idealize.ShloMosaic.Lib.Quiescent

@[expose] public section

noncomputable section

namespace Cert.Loss

open Idealize.ShloMosaic Idealize.SL.Sem Idealize.ShloMosaic.ValueIdx Idealize.ShloMosaic.TcCoe Cert.Entries Cert.LayerNorm

/-- One half. -/
def half : EReal := Ideal.ofBits .f32 0x3F000000#32

theorem half_eq : half = ((1 / 2 : ℝ) : EReal) := by
  unfold half
  simp [Ideal.ofBits, Ideal.ieee, -EReal.coe_mul]; norm_num

/-- One half of a sum is the sum of the halves. -/
theorem half_sum {ι : Type} (s : Finset ι) (f : ι → EReal) : half * ∑ i ∈ s, f i = ∑ i ∈ s, half * f i := by
  classical
  induction s using Finset.induction_on with
  | empty => simp
  | insert a s ha ih =>
    rw [Finset.sum_insert ha, Finset.sum_insert ha, ← ih]
    refine EReal.left_distrib_of_nonneg_of_ne_top ?_ ?_ _ _ <;> rw [half_eq]
    · exact EReal.coe_nonneg.2 (by norm_num)
    · exact EReal.coe_ne_top _

/-- The mean square error of a row. -/
def error (x y gate g b target : Fin 1024 → EReal) : EReal :=
  mean fun k => (normal (residual x y gate) g b k - target k) * (normal (residual x y gate) g b k - target k)

/-- The mean square error of row `i` of the arrays. -/
def rowError (x y : FVec Ideal ⟨2, ![2048, 1024]⟩ .f32) (gate g b : FVec Ideal ⟨2, ![1, 1024]⟩ .f32) (target : FVec Ideal ⟨2, ![2048, 1024]⟩ .f32)
    (i : Fin 2048) : EReal :=
  error (fun l => x (ix2 i l)) (fun l => y (ix2 i l)) (fun l => gate (ix2 0 l)) (fun l => g (ix2 0 l)) (fun l => b (ix2 0 l)) (fun l => target (ix2 i l))

section Kernel

open Cert.LnLossIdeal Cert.LnLossIdeal.Gen

/-- What a grid point computes of its blocks, row by row. -/
theorem point (x y : Vec Ideal S256x1024 .f32) (gate g b : Vec Ideal S1x1024 .f32) (target : Vec Ideal S256x1024 .f32) (p : Fin 256) :
    divf (k0_pay3 x y gate g b target) (k0_pay4 (F := Ideal)) (ix2 p 0)
      = error (fun l => x (ix2 p l)) (fun l => y (ix2 p l)) (fun l => gate (ix2 0 l)) (fun l => g (ix2 0 l)) (fun l => b (ix2 0 l)) (fun l => target (ix2 p l)) := by
  let v := subf (tile reduces_S256x1024_S256 shapeCasts_S256_S256x1 broadcasts_S256x1_S256x1024 broadcasts_S1x1024_S256x1024
    (tileResidual broadcasts_S1x1024_S256x1024 x y gate) g b) target
  have at_ : ∀ l : Fin 1024, v (ix2 p l) = normal (residual (fun l => x (ix2 p l)) (fun l => y (ix2 p l)) (fun l => gate (ix2 0 l)))
      (fun l => g (ix2 0 l)) (fun l => b (ix2 0 l)) l - target (ix2 p l) := fun l =>
    congrArg (· - target (ix2 p l)) ((tile_apply _ _ _ _ _ _ _ p l).trans
      (congrArg (normal · _ _ l) (funext fun n => tileResidual_apply _ x y gate p n)))
  refine Eq.trans (show _ = means reduces_S256x1024_S256 shapeCasts_S256_S256x1 (mulf v v) (ix2 p 0) from rfl) ((means_apply _ _ _ p).trans ?_)
  exact congrArg mean (funext fun l => congrArg₂ (· * ·) (at_ l) (at_ l))

/-- What a grid point adds to what it finds. -/
theorem adds (e n : FVec Ideal S256x1 .f32) (acc : Vec Ideal S1x1 .f32) :
    k0_pay2 e n acc (ix2 0 0) = acc (ix2 0 0) + half * ∑ p : Fin 256, divf e n (ix2 p 0) := by
  unfold k0_pay2
  refine congrArg₂ (· + ·) (congrFun (shapeCast_self _ _) _) (congrArg (half * ·) ?_)
  refine (shapeCast_apply _ _ _ (ix1 0) ?_).trans ((Ideal.multiReduction_add_single _ _ _ _ _ _).trans ?_)
  · rw [Shape.rowMajor_val_one, Shape.rowMajor_val_two]
    rfl
  · refine Finset.sum_congr rfl fun p _ => congrArg (divf e n) ?_
    funext a
    match a with
    | ⟨0, _⟩ => rfl
    | ⟨1, _⟩ => rfl

/-- Which blocks a grid point holds. -/
theorem windows : ∀ t : Fin cfg0.N,
    (win0_0.index t 0 = t.val ∧ win0_0.index t 1 = 0) ∧ (win0_1.index t 0 = t.val ∧ win0_1.index t 1 = 0)
      ∧ (win0_2.index t 0 = 0 ∧ win0_2.index t 1 = 0) ∧ (win0_3.index t 0 = 0 ∧ win0_3.index t 1 = 0)
      ∧ (win0_4.index t 0 = 0 ∧ win0_4.index t 1 = 0) ∧ (win0_5.index t 0 = t.val ∧ win0_5.index t 1 = 0) :=
  (by decide +kernel : ∀ t : Fin grid0.N, _)

section Blocks

variable (m : (ℓ : Loc nD τ sig) → Buf (Elt Ideal) ℓ) (c : Dev nD) (t : Fin cfg0.N)

theorem rows0 (i : Fin 2048) (p : Fin 256) (j : Fin 1024) (h : i.val = t.val * 256 + p.val) :
    ((cfg0.win 0).blk t).view.emb (ix2 p j : S256x1024.Idx) = ix2 i j := by
  have e0 : win0_0.index t 0 = t.val := (windows t).1.1
  have e1 : win0_0.index t 1 = 0 := (windows t).1.2
  funext a; apply Fin.ext
  match a with
  | ⟨0, _⟩ => show win0_0.index t 0 * 256 + 1 * p.val = i.val; omega
  | ⟨1, _⟩ => show win0_0.index t 1 * 1024 + 1 * j.val = j.val; omega

theorem rows1 (i : Fin 2048) (p : Fin 256) (j : Fin 1024) (h : i.val = t.val * 256 + p.val) :
    ((cfg0.win 1).blk t).view.emb (ix2 p j : S256x1024.Idx) = ix2 i j := by
  have e0 : win0_1.index t 0 = t.val := (windows t).2.1.1
  have e1 : win0_1.index t 1 = 0 := (windows t).2.1.2
  funext a; apply Fin.ext
  match a with
  | ⟨0, _⟩ => show win0_1.index t 0 * 256 + 1 * p.val = i.val; omega
  | ⟨1, _⟩ => show win0_1.index t 1 * 1024 + 1 * j.val = j.val; omega

theorem rows5 (i : Fin 2048) (p : Fin 256) (j : Fin 1024) (h : i.val = t.val * 256 + p.val) :
    ((cfg0.win 5).blk t).view.emb (ix2 p j : S256x1024.Idx) = ix2 i j := by
  have e0 : win0_5.index t 0 = t.val := (windows t).2.2.2.2.2.1
  have e1 : win0_5.index t 1 = 0 := (windows t).2.2.2.2.2.2
  funext a; apply Fin.ext
  match a with
  | ⟨0, _⟩ => show win0_5.index t 0 * 256 + 1 * p.val = i.val; omega
  | ⟨1, _⟩ => show win0_5.index t 1 * 1024 + 1 * j.val = j.val; omega

theorem row2 (j : Fin 1024) : ((cfg0.win 2).blk t).view.emb (ix2 0 j : S1x1024.Idx) = ix2 0 j := by
  have e0 : win0_2.index t 0 = 0 := (windows t).2.2.1.1
  have e1 : win0_2.index t 1 = 0 := (windows t).2.2.1.2
  funext a; apply Fin.ext
  match a with
  | ⟨0, _⟩ => show win0_2.index t 0 * 1 + 1 * 0 = 0; omega
  | ⟨1, _⟩ => show win0_2.index t 1 * 1024 + 1 * j.val = j.val; omega

theorem row3 (j : Fin 1024) : ((cfg0.win 3).blk t).view.emb (ix2 0 j : S1x1024.Idx) = ix2 0 j := by
  have e0 : win0_3.index t 0 = 0 := (windows t).2.2.2.1.1
  have e1 : win0_3.index t 1 = 0 := (windows t).2.2.2.1.2
  funext a; apply Fin.ext
  match a with
  | ⟨0, _⟩ => show win0_3.index t 0 * 1 + 1 * 0 = 0; omega
  | ⟨1, _⟩ => show win0_3.index t 1 * 1024 + 1 * j.val = j.val; omega

theorem row4 (j : Fin 1024) : ((cfg0.win 4).blk t).view.emb (ix2 0 j : S1x1024.Idx) = ix2 0 j := by
  have e0 : win0_4.index t 0 = 0 := (windows t).2.2.2.2.1.1
  have e1 : win0_4.index t 1 = 0 := (windows t).2.2.2.2.1.2
  funext a; apply Fin.ext
  match a with
  | ⟨0, _⟩ => show win0_4.index t 0 * 1 + 1 * 0 = 0; omega
  | ⟨1, _⟩ => show win0_4.index t 1 * 1024 + 1 * j.val = j.val; omega

/-- The error of a row of a grid point's blocks is that of the arrays' row. -/
theorem block_error (i : Fin 2048) (p : Fin 256) (h : i.val = t.val * 256 + p.val) :
    divf (k0_pay3 (iblk m c 0 t) (iblk m c 1 t) (iblk m c 2 t) (iblk m c 3 t) (iblk m c 4 t) (iblk m c 5 t)) (k0_pay4 (F := Ideal)) (ix2 p 0)
      = rowError (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := by
  refine (point _ _ _ _ _ _ p).trans ?_
  have stream : (fun l => iblk m c 0 t (ix2 p l : S256x1024.Idx)) = fun l => m ((c : Thread nD τ).loc main_arg0) (ix2 i l) :=
    funext fun l => congrArg (m ((c : Thread nD τ).loc main_arg0)) (rows0 t i p l h)
  have branch : (fun l => iblk m c 1 t (ix2 p l : S256x1024.Idx)) = fun l => m ((c : Thread nD τ).loc main_arg1) (ix2 i l) :=
    funext fun l => congrArg (m ((c : Thread nD τ).loc main_arg1)) (rows1 t i p l h)
  have gates : (fun l => iblk m c 2 t (ix2 0 l : S1x1024.Idx)) = fun l => m ((c : Thread nD τ).loc main_arg2) (ix2 0 l) :=
    funext fun l => congrArg (m ((c : Thread nD τ).loc main_arg2)) (row2 t l)
  have scales : (fun l => iblk m c 3 t (ix2 0 l : S1x1024.Idx)) = fun l => m ((c : Thread nD τ).loc main_arg3) (ix2 0 l) :=
    funext fun l => congrArg (m ((c : Thread nD τ).loc main_arg3)) (row3 t l)
  have shifts : (fun l => iblk m c 4 t (ix2 0 l : S1x1024.Idx)) = fun l => m ((c : Thread nD τ).loc main_arg4) (ix2 0 l) :=
    funext fun l => congrArg (m ((c : Thread nD τ).loc main_arg4)) (row4 t l)
  have targets : (fun l => iblk m c 5 t (ix2 p l : S256x1024.Idx)) = fun l => m ((c : Thread nD τ).loc main_arg5) (ix2 i l) :=
    funext fun l => congrArg (m ((c : Thread nD τ).loc main_arg5)) (rows5 t i p l h)
  unfold rowError
  rw [← stream, ← branch, ← gates, ← scales, ← shifts, ← targets]

end Blocks

/-- What grid point `n` adds: half its rows' errors. -/
def part (m : (ℓ : Loc nD τ sig) → Buf (Elt Ideal) ℓ) (c : Dev nD) (n : ℕ) : EReal :=
  half * ∑ p : Fin 256, rowError (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨(n * 256 + p.val) % 2048, Nat.mod_lt _ (by decide)⟩

theorem adds_part (m : (ℓ : Loc nD τ sig) → Buf (Elt Ideal) ℓ) (c : Dev nD) (n : ℕ) (h : n < cfg0.N) (acc : Vec Ideal S1x1 .f32) (i : S1x1.Idx) :
    Value.step6 m c n h acc i = acc i + part m c n := by
  obtain rfl : i = ix2 0 0 := by
    have h0 : (i 0).val < 1 := (i 0).isLt
    have h1 : (i 1).val < 1 := (i 1).isLt
    funext a; apply Fin.ext
    match a with
    | ⟨0, _⟩ => show (i 0).val = 0; omega
    | ⟨1, _⟩ => show (i 1).val = 0; omega
  unfold Value.step6 part
  refine (adds _ _ acc).trans (congrArg (fun e => acc (ix2 0 0) + half * e) (Finset.sum_congr rfl fun p _ => ?_))
  refine block_error m c ⟨n, h⟩ _ p ?_
  have : n < 8 := h
  have := p.isLt
  show (n * 256 + p.val) % 2048 = n * 256 + p.val
  omega

/-- What the kernel leaves in its result. -/
theorem left (m : (ℓ : Loc nD τ sig) → Buf (Elt Ideal) ℓ) (c : Dev nD) (i : S1x1.Idx) :
    Value.G6 m c i = half * ∑ r : Fin 2048, rowError (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r := by
  have first : Value.run6Of i = 0 := by
    have h0 : (i 0).val < 1 := (i 0).isLt
    have h1 : (i 1).val < 1 := (i 1).isLt
    show 1 * ((i 0).val / 1 - 0) + 1 * ((i 1).val / 1 - 0) = 0
    omega
  unfold Value.G6
  rw [dif_pos (show 8 * Value.run6Of i + 7 < cfg0.N by rw [first]; decide)]
  refine (Pipeline.accAt_add_apply (Value.reset6 m c) (Value.step6 m c) (fun _ => 0) (fun n _ => part m c n) _ 7
    (fun h j => ?_) (fun n h acc j _ _ => adds_part m c n h acc j) 7 (le_refl _) _ _).trans ?_
  · exact (adds_part m c _ h (k0_pay1 (F := Ideal)) j).trans (congrArg (· + _) Ideal.ofBits_zero_f32)
  · rw [first, zero_add]
    unfold part
    rw [← half_sum, Finset.sum_range]
    refine congrArg (half * ·) (Fin.sum_mul_add_congr fun s p h => ?_)
    refine congrArg (rowError (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Fin.ext ?_)
    show ((8 * 0 + s.val) * 256 + p.val) % 2048 = s.val * 256 + p.val
    omega

end Kernel

section Reference

open Cert.LnLossReferenceIdeal Cert.LnLossReferenceIdeal.Gen

/-- The sum of 2048 numbers as the reference writes it. -/
theorem total (v : FVec Ideal S2048 .f32) (j : S_.Idx) :
    Host.reduceAdd v (constant S_ .f32 0x00000000#32) reducesTo_S2048_S_d0 h_S_ j = ∑ i : Fin 2048, v (ix1 i) := by
  refine Eq.trans (show _ = Ideal.hostReduceAdd reducesTo_S2048_S_d0 v (Ideal.ofBits .f32 0x00000000#32) j from rfl)
    ((Ideal.hostReduceAdd_total _ (fun b => b.elim0) _ _ _).trans ?_)
  rw [Ideal.ofBits_zero_f32, zero_add]
  exact Fintype.sum_equiv ⟨fun i => (i 0 : Fin 2048), fun r => ix1 r, fun i => (eq_ix1 i).symm, fun _ => rfl⟩ _ _ fun i => congrArg v (eq_ix1 i)

/-- The loss as the reference writes it. -/
theorem written (x y : FVec Ideal S2048x1024 .f32) (gate g b : FVec Ideal S1x1024 .f32) (target : FVec Ideal S2048x1024 .f32)
    (e : FVec Ideal S2048x1024 .f32)
    (he : e = subf (whole reducesTo_S2048x1024_S2048_d1 h_S_ bcast_S2048_S2048x1_0 bcast_S_S2048x1 bcast_S2048x1_S2048x1024_0_1
      bcast_S1x1024_S2048x1024_0_1 (wholeResidual bcast_S_S2048x1024 bcast_S_S1x1024 bcast_S1x1024_S2048x1024_0_1 x y gate) g b) target) (i : S1x1.Idx) :
    mulf (broadcastInDim S1x1 ![] bcast_S_S1x1 (constant S_ .f32 0x3F000000#32))
      (broadcastInDim S1x1 ![] bcast_S_S1x1 (Host.reduceAdd (Host.divf
          (Host.reduceAdd (mulf e e) (constant S_ .f32 0x00000000#32) reducesTo_S2048x1024_S2048_d1 h_S_)
          (broadcastInDim S2048 ![] bcast_S_S2048 (constant S_ .f32 0x44800000#32)))
        (constant S_ .f32 0x00000000#32) reducesTo_S2048_S_d0 h_S_)) i
      = half * ∑ r : Fin 2048, rowError x y gate g b target r := by
  refine congrArg (half * ·) ((total _ _).trans (Finset.sum_congr rfl fun r _ => ?_))
  refine (congrArg (Ideal.div · (Ideal.ofBits .f32 0x44800000#32)) (host_sums (mulf e e) _ _ r)).trans ?_
  have at_ : ∀ l : Fin 1024, e (ix2 r l) = normal (residual (fun l => x (ix2 r l)) (fun l => y (ix2 r l)) (fun l => gate (ix2 0 l)))
      (fun l => g (ix2 0 l)) (fun l => b (ix2 0 l)) l - target (ix2 r l) := fun l => by
    rw [he]
    exact congrArg (· - target (ix2 r l)) ((whole_apply _ _ _ _ _ _ _ _ _ r l).trans
      (congrArg (normal · _ _ l) (funext fun n => wholeResidual_apply _ _ _ x y gate r n)))
  exact congrArg mean (funext fun l => congrArg₂ (· * ·) (at_ l) (at_ l))

end Reference

theorem frame : quiescent_LnLoss := fun m g _ => Cert.LnLoss.Gen.frame m g

theorem frame_ideal : quiescent_LnLossIdeal := fun m g _ => Cert.LnLossIdeal.Gen.frame m g

theorem reference_frame : quiescent_LnLossReferenceIdeal := fun m g _ =>
  (θ_run Cert.LnLossReferenceIdeal.defs _ _).mono (fun r h => ⟨fun c => (h c).2, sem_eq_zero_of_no_sems rfl r.2⟩)
    (Cert.LnLossReferenceIdeal.Value.run (F := Ideal) m g)

theorem preserves : preserves_LnLoss_LnLossIdeal := trivial

theorem value : algebraic_LnLossIdeal_LnLossReferenceIdeal := fun m g m' g' _ hm =>
  ⟨_, Cert.LnLossIdeal.Value.run (F := Ideal) m g,
    (θ_run Cert.LnLossReferenceIdeal.defs _ _).mono
      (fun r h c => by
        obtain ⟨streams, branches, gates, scales, shifts, targets⟩ := hm c
        refine ⟨(h c).1.trans ?_, (h c).2⟩
        funext i
        rw [left m c i, ← streams, ← branches, ← gates, ← scales, ← shifts, ← targets]
        unfold Cert.LnLossReferenceIdeal.Value.res_main_v37
        exact written _ _ _ _ _ _ _ rfl i)
      (Cert.LnLossReferenceIdeal.Value.run (F := Ideal) m' g')⟩

end Cert.Loss

end
-- ==== Proof.Attend.lean ====
/-
Attention of one query to a block of keys and the block before it: as a formula in numbers, and as a kernel writes it over
tiles of 128 queries, 128 keys and the lanes of two heads.
-/
module

public import proofs.«01_k».proof.Proof.Entries
public import Idealize.ShloMosaic.Lib.Pipeline.ValueKit.Acc
public import Idealize.ShloMosaic.Lib.Pipeline.ValueKit.Tiles

@[expose] public section

noncomputable section

namespace Cert.Attend

open Idealize.ShloMosaic Idealize.ShloMosaic.ValueIdx Cert.Entries

/-- The largest of the scores of a block of keys and of the block before it. -/
def top (s t : Fin 128 → EReal) : EReal := max (Finset.univ.sup s) (Finset.univ.sup t)

/-- The denominator of the softmax. -/
def den (s t : Fin 128 → EReal) : EReal := ∑ k, Ideal.exp (s k - top s t) + ∑ k, Ideal.exp (t k - top s t)

/-- The logarithm of the sum of the exponentials of the scores. -/
def lse (s t : Fin 128 → EReal) : EReal := top s t + Ideal.log (den s t)

/-- A value of the keys weighed by the softmax of the scores. -/
def mix (s t v w : Fin 128 → EReal) : EReal :=
  ∑ k, Ideal.div (Ideal.exp (s k - top s t)) (den s t) * v k + ∑ k, Ideal.div (Ideal.exp (t k - top s t)) (den s t) * w k

/-- A query's score of a key. -/
def score (q k : Fin 64 → EReal) (b : EReal) : EReal := (∑ d, q d * k d) * Ideal.ofBits .f32 0x3E000000#32 + b

/-- The scores of the keys of the query's own block: those not after it. -/
def own (q : Fin 64 → EReal) (k : Fin 128 → Fin 64 → EReal) (b : Fin 128 → EReal) (i : Fin 128) : Fin 128 → EReal :=
  fun j => if j ≤ i then score q (k j) (b j) else ⊥

/-- The scores of the keys of the block before: those at most 128 back, where there is such a block. -/
def before (later : Prop) [Decidable later] (q : Fin 64 → EReal) (k : Fin 128 → Fin 64 → EReal) (b : Fin 128 → EReal) (i : Fin 128) :
    Fin 128 → EReal :=
  fun j => if i ≤ j ∧ later then score q (k j) (b j) else ⊥

theorem exp_nonneg (x : EReal) : 0 ≤ Ideal.exp x := by
  induction x with
  | bot => exact le_refl _
  | top => exact le_top
  | coe r => exact EReal.coe_nonneg.mpr (Real.exp_pos r).le

/-- A product with −∞ added to itself is itself. -/
theorem twice (x : EReal) : (⊥ : EReal) * x + ⊥ * x = ⊥ * x := by
  rcases lt_trichotomy x 0 with h | rfl | h
  · rw [EReal.bot_mul_of_neg h]; rfl
  · rw [mul_zero, add_zero]
  · rw [EReal.bot_mul_of_pos h]; rfl

/-- Where no key of the block before has a score, its values do not count: they may be the query's own block's. -/
theorem mix_first (s v : Fin 128 → EReal) : mix s (fun _ => ⊥) v v = mix s (fun _ => ⊥) v fun _ => 0 := by
  unfold mix
  have none : ∀ k : Fin 128, Ideal.exp ((⊥ : EReal) - top s fun _ => ⊥) = 0 := fun _ => by
    rw [EReal.bot_sub, Ideal.exp_bot]
  simp only [none 0, mul_zero, Finset.sum_const_zero, add_zero]
  by_cases h : den s (fun _ => ⊥) = 0
  · have each : ∀ k, Ideal.exp (s k - top s fun _ => ⊥) = 0 := by
      have zero : ∑ k, Ideal.exp (s k - top s fun _ => ⊥) = 0 := by
        have e := h
        unfold den at e
        simp only [none 0, Finset.sum_const_zero, add_zero] at e
        exact e
      exact fun k => (Finset.sum_eq_zero_iff_of_nonneg fun k _ => exp_nonneg _).mp zero k (Finset.mem_univ k)
    simp only [each, h]
    have bot : Ideal.div 0 0 = ⊥ := by unfold Ideal.div; rw [if_pos rfl, if_neg (lt_irrefl _)]
    rw [bot, ← Finset.sum_add_distrib]
    exact Finset.sum_congr rfl fun k _ => twice (v k)
  · have nought : Ideal.div 0 (den s fun _ => ⊥) = 0 := by unfold Ideal.div; rw [if_neg h, zero_mul]
    simp only [nought, zero_mul, Finset.sum_const_zero, add_zero]

section Kernel

abbrev Tile : Shape := ⟨2, ![128, 128]⟩
abbrev Column : Shape := ⟨2, ![128, 1]⟩
abbrev Lanes : Shape := ⟨2, ![1, 128]⟩
abbrev Layer : Shape := ⟨3, ![1, 128, 128]⟩

theorem tile_column : Tile.Reduces [1] ⟨1, ![128]⟩ := by decide
theorem casts_column : (⟨1, ![128]⟩ : Shape).ShapeCasts Column := by decide
theorem casts_self : Column.ShapeCasts Column := by decide
theorem casts_lanes : Lanes.ShapeCasts Lanes := by decide
theorem casts_layer : Tile.ShapeCasts Layer := by decide
theorem casts_tile : Layer.ShapeCasts Tile := by decide
theorem spreads_column : Column.Broadcasts Tile := by decide
theorem narrower : FTy.bits .bf16 < FTy.bits .f32 := by decide
theorem spreads_lanes : Lanes.Broadcasts Tile := by decide

/-- One head's lanes of a tile, the other head's at zero. -/
def lanes (mine : IVec Lanes 1) (q : FVec Ideal Tile .bf16) : FVec Ideal Tile .bf16 :=
  select (broadcastTo Tile (shapeCast Lanes mine casts_lanes) spreads_lanes) q (broadcast Tile (Scalar.ofBits .bf16 0x0000#16))

/-- The scores of a tile of queries and a tile of keys. -/
def scores (z : Ideal .f32) (mine : IVec Lanes 1) (ok : IVec Tile 1) (q k : FVec Ideal Tile .bf16) (b : FVec Ideal Layer .f32) : FVec Ideal Tile .f32 :=
  select ok (addf (mulf (matmul (DotDims.transposedRhs 128 128 128) none (lanes mine q) k (constant Tile .f32 0x00000000#32))
    (broadcast Tile (Scalar.ofBits .f32 0x3E000000#32))) (shapeCast Tile b casts_tile)) (broadcast Tile z)

/-- The largest score of each query. -/
def tops (s t : FVec Ideal Tile .f32) : FVec Ideal Column .f32 :=
  maximumf (shapeCast Column (multiReduction .maximumf [1] ⟨1, ![128]⟩ s 0xFF800000#32 tile_column (.inl rfl) rfl) casts_column)
    (shapeCast Column (multiReduction .maximumf [1] ⟨1, ![128]⟩ t 0xFF800000#32 tile_column (.inl rfl) rfl) casts_column)

/-- The exponentials of the scores less a column. -/
def exps (s : FVec Ideal Tile .f32) (u : FVec Ideal Column .f32) : FVec Ideal Tile .f32 := exp (subf s (broadcastTo Tile u spreads_column))

/-- The sum of each query's exponentials. -/
def dens (s t : FVec Ideal Tile .f32) : FVec Ideal Column .f32 :=
  addf (shapeCast Column (multiReduction .add [1] ⟨1, ![128]⟩ (exps s (tops s t)) 0x00000000#32 tile_column (.inl rfl) rfl) casts_column)
    (shapeCast Column (multiReduction .add [1] ⟨1, ![128]⟩ (exps t (tops s t)) 0x00000000#32 tile_column (.inl rfl) rfl) casts_column)

/-- The logarithms of the sums, over the lanes. -/
def lses (s t : FVec Ideal Tile .f32) : FVec Ideal Layer .f32 :=
  shapeCast Layer (broadcastTo Tile (shapeCast Column (addf (tops s t) (log (dens s t))) casts_self) spreads_column) casts_layer

/-- The values of the keys weighed by the softmax, on one head's lanes. -/
def mixes (mine : IVec Lanes 1) (s t : FVec Ideal Tile .f32) (v w : FVec Ideal Tile .bf16) : FVec Ideal Tile .f32 :=
  select (broadcastTo Tile (shapeCast Lanes mine casts_lanes) spreads_lanes)
    (addf
      (matmul (DotDims.plain 128 128 128) none (truncf .bf16 (divf (exps s (tops s t)) (broadcastTo Tile (dens s t) spreads_column)) narrower) v
        (constant Tile .f32 0x00000000#32))
      (matmul (DotDims.plain 128 128 128) none (truncf .bf16 (divf (exps t (tops s t)) (broadcastTo Tile (dens s t) spreads_column)) narrower) w
        (constant Tile .f32 0x00000000#32)))
    (broadcast Tile (Scalar.ofBits .f32 0x00000000#32))

/-- Lane `d` of head `e` of the two. -/
def lane (e : Fin 2) (d : Fin 64) : Fin 128 := ⟨64 * e.val + d.val, by have := e.isLt; have := d.isLt; omega⟩

/-- A sum over the lanes of both heads whose terms are zero off one head. -/
theorem one_head (e : Fin 2) (f : Fin 128 → EReal) (h : ∀ l, l.val / 64 ≠ e.val → f l = 0) : ∑ l, f l = ∑ d, f (lane e d) := by
  rw [← Fin.sum_mul_add_fin 2 64 f, Fin.sum_univ_two]
  match e, h with
  | 0, h =>
    refine (congrArg₂ (· + ·) (Finset.sum_congr rfl fun d _ => congrArg f (Fin.ext ?_)) (Finset.sum_eq_zero fun d _ => h _ ?_)).trans (add_zero _)
    · show 0 * 64 + d.val = 64 * 0 + d.val; omega
    · have := d.isLt; show (1 * 64 + d.val) / 64 ≠ 0; omega
  | 1, h =>
    refine (congrArg₂ (· + ·) (Finset.sum_eq_zero fun d _ => h _ ?_) (Finset.sum_congr rfl fun d _ => congrArg f (Fin.ext ?_))).trans (zero_add _)
    · have := d.isLt; show (0 * 64 + d.val) / 64 ≠ 1; omega
    · show 1 * 64 + d.val = 64 * 1 + d.val; omega

/-- A bit that says whether a lane is one head's. -/
def Mine (mine : IVec Lanes 1) (e : Fin 2) : Prop := ∀ l : Fin 128, mine (ix2 0 l) = if l.val / 64 = e.val then 1#1 else 0#1

theorem spread_lanes {α : Type} (v : Lanes.Idx → α) (i l : Fin 128) :
    broadcastTo Tile (shapeCast Lanes v casts_lanes) spreads_lanes (ix2 i l) = v (ix2 0 l) := by
  rw [shapeCast_self]
  exact broadcastTo_apply _ _ _ (ix2 0 l) (fun a => by match a with | ⟨0, _⟩ => rfl | ⟨1, _⟩ => rfl)

theorem spread_column {α : Type} (v : Column.Idx → α) (i l : Fin 128) : broadcastTo Tile v spreads_column (ix2 i l) = v (ix2 i 0) :=
  broadcastTo_apply _ _ _ (ix2 i 0) (fun a => by match a with | ⟨0, _⟩ => rfl | ⟨1, _⟩ => rfl)

theorem lanes_apply {mine : IVec Lanes 1} {e : Fin 2} (hm : Mine mine e) (q : FVec Ideal Tile .bf16) (i l : Fin 128) :
    lanes mine q (ix2 i l) = if l.val / 64 = e.val then q (ix2 i l) else (0 : EReal) := by
  show Scalar.select (broadcastTo Tile (shapeCast Lanes mine casts_lanes) spreads_lanes (ix2 i l)) (q (ix2 i l)) (Ideal.ofBits .bf16 0x0000#16) = _
  rw [spread_lanes, hm l]
  unfold Scalar.select
  split
  · rfl
  · exact Ideal.ofBits_zero_bf16

/-- A score of a tile. -/
theorem scores_apply {mine : IVec Lanes 1} {e : Fin 2} (hm : Mine mine e) (z : Ideal .f32) (ok : IVec Tile 1) (q k : FVec Ideal Tile .bf16)
    (b : FVec Ideal Layer .f32) (i j : Fin 128) :
    scores z mine ok q k b (ix2 i j)
      = if ok (ix2 i j) = 1 then score (fun d => q (ix2 i (lane e d))) (fun d => k (ix2 j (lane e d))) (b (ix3 0 i j)) else z := by
  show (if ok (ix2 i j) = 1 then (_ : EReal) else z) = _
  refine congrArg (fun x : EReal => if ok (ix2 i j) = 1 then x else z) ?_
  refine congrArg₂ (· + ·) (congrArg (· * Ideal.ofBits .f32 0x3E000000#32) ?_) (drop_apply b casts_tile i j)
  show FloatOps.matmul (DotDims.transposedRhs 128 128 128) none _ _ _ (ix2 i j) = _
  rw [Ideal.matmul_transposedRhs_apply]
  show (Ideal.ofBits .f32 0x00000000#32 : EReal) + _ = _
  rw [Ideal.ofBits_zero_f32, zero_add]
  refine (one_head e _ fun l hl => ?_).trans (Finset.sum_congr rfl fun d _ => ?_)
  · rw [lanes_apply hm, if_neg hl, zero_mul]
  · have inside : (lane e d).val / 64 = e.val := by have := d.isLt; show (64 * e.val + d.val) / 64 = _; omega
    rw [lanes_apply hm, if_pos inside]

theorem column_apply (v : FVec Ideal ⟨1, ![128]⟩ .f32) (i : Fin 128) : shapeCast Column v casts_column (ix2 i 0) = v (ix1 i) :=
  shapeCast_apply _ _ _ (ix1 i) (by rw [Shape.rowMajor_val_one, Shape.rowMajor_val_two]; show i.val = i.val * 1 + 0; omega)

theorem row_lift (i k : Fin 128) : tile_column.lift (ix1 i) k = ix2 i k := by
  funext a
  match a with
  | ⟨0, _⟩ => rfl
  | ⟨1, _⟩ => rfl

theorem largest_apply (s : FVec Ideal Tile .f32) (i : Fin 128) :
    shapeCast Column (multiReduction .maximumf [1] ⟨1, ![128]⟩ s 0xFF800000#32 tile_column (.inl rfl) rfl) casts_column (ix2 i 0)
      = Finset.univ.sup fun k => (s (ix2 i k) : EReal) := by
  refine (column_apply _ i).trans ((Ideal.multiReduction_maximumf_single _ _ _ _ _ _).trans ?_)
  have low : (FloatOps.ofBits (F := Ideal) .f32 0xFF800000#32 : EReal) = ⊥ := by
    show Ideal.ofBits .f32 0xFF800000#32 = ⊥
    simp [Ideal.ofBits, Ideal.ieee]
  rw [low]
  exact congrArg (Finset.fold max (⊥ : EReal) · Finset.univ) (funext fun k => congrArg s (row_lift i k))

theorem sum_apply (s : FVec Ideal Tile .f32) (i : Fin 128) :
    shapeCast Column (multiReduction .add [1] ⟨1, ![128]⟩ s 0x00000000#32 tile_column (.inl rfl) rfl) casts_column (ix2 i 0)
      = ∑ k, (s (ix2 i k) : EReal) := by
  refine (column_apply _ i).trans ((Ideal.multiReduction_add_single _ _ _ _ _ _).trans ?_)
  exact Finset.sum_congr rfl fun k _ => congrArg s (row_lift i k)

theorem tops_apply (s t : FVec Ideal Tile .f32) (i : Fin 128) : tops s t (ix2 i 0) = top (fun k => s (ix2 i k)) fun k => t (ix2 i k) :=
  congrArg₂ max (largest_apply s i) (largest_apply t i)

theorem exps_apply (s : FVec Ideal Tile .f32) (u : FVec Ideal Column .f32) (i k : Fin 128) :
    exps s u (ix2 i k) = Ideal.exp ((s (ix2 i k) : EReal) - u (ix2 i 0)) :=
  congrArg (fun x : EReal => Ideal.exp ((s (ix2 i k) : EReal) - x)) (spread_column u i k)

theorem dens_apply (s t : FVec Ideal Tile .f32) (i : Fin 128) : dens s t (ix2 i 0) = den (fun k => s (ix2 i k)) fun k => t (ix2 i k) := by
  refine congrArg₂ (· + ·) ((sum_apply _ i).trans (Finset.sum_congr rfl fun k _ => ?_)) ((sum_apply _ i).trans (Finset.sum_congr rfl fun k _ => ?_))
  · rw [exps_apply, tops_apply]
  · rw [exps_apply, tops_apply]

/-- A logarithm of a tile. -/
theorem lses_apply (s t : FVec Ideal Tile .f32) (i l : Fin 128) : lses s t (ix3 0 i l) = lse (fun k => s (ix2 i k)) fun k => t (ix2 i k) := by
  refine (lift_apply _ casts_layer i l).trans ((spread_column _ i l).trans ?_)
  rw [shapeCast_self]
  exact congrArg₂ (fun x y : EReal => x + Ideal.log y) (tops_apply s t i) (dens_apply s t i)

/-- A weighed value of a tile. -/
theorem mixes_apply {mine : IVec Lanes 1} {e : Fin 2} (hm : Mine mine e) (s t : FVec Ideal Tile .f32) (v w : FVec Ideal Tile .bf16) (i l : Fin 128) :
    mixes mine s t v w (ix2 i l)
      = if l.val / 64 = e.val then mix (fun k => s (ix2 i k)) (fun k => t (ix2 i k)) (fun k => v (ix2 k l)) (fun k => w (ix2 k l)) else (0 : EReal) := by
  have weighed : ∀ (x : FVec Ideal Tile .f32) (y : FVec Ideal Tile .bf16),
      matmul (DotDims.plain 128 128 128) none (truncf .bf16 (divf (exps x (tops s t)) (broadcastTo Tile (dens s t) spreads_column)) narrower) y
        (constant Tile .f32 0x00000000#32) (ix2 i l)
        = ∑ k, Ideal.div (Ideal.exp ((x (ix2 i k) : EReal) - top (fun k => s (ix2 i k)) fun k => t (ix2 i k)))
            (den (fun k => s (ix2 i k)) fun k => t (ix2 i k)) * y (ix2 k l) := fun x y => by
    show FloatOps.matmul (DotDims.plain 128 128 128) none _ _ _ (ix2 i l) = _
    rw [Ideal.matmul_plain_apply]
    show (Ideal.ofBits .f32 0x00000000#32 : EReal) + _ = _
    rw [Ideal.ofBits_zero_f32, zero_add]
    refine Finset.sum_congr rfl fun k _ => congrArg (· * (y (ix2 k l) : EReal)) ?_
    refine congrArg₂ Ideal.div ?_ ?_
    · rw [exps_apply, tops_apply]
    · rw [spread_column, dens_apply]
  show Scalar.select (broadcastTo Tile (shapeCast Lanes mine casts_lanes) spreads_lanes (ix2 i l)) _ (Ideal.ofBits .f32 0x00000000#32) = _
  rw [spread_lanes, hm l, Ideal.ofBits_zero_f32]
  unfold Scalar.select
  split
  · exact congrArg₂ (· + ·) (weighed s v) (weighed t w)
  · rfl

/-! ## A block of rows: four tiles side by side, two heads to a tile -/

abbrev Block : Shape := ⟨2, ![128, 512]⟩
abbrev Bias : Shape := ⟨3, ![8, 128, 256]⟩
abbrev Layers : Shape := ⟨3, ![8, 128, 128]⟩

/-- Head `e` of the two of tile `g`. -/
def head (g : Fin 4) (e : Fin 2) : Fin 8 := ⟨2 * g.val + e.val, by have := g.isLt; have := e.isLt; omega⟩

/-- Lane `d` of head `h` in a block. -/
def col (h : Fin 8) (d : Fin 64) : Fin 512 := ⟨64 * h.val + d.val, by have := h.isLt; have := d.isLt; omega⟩

/-- Key `k` of the block before, and of the query's own, in a row of biases. -/
def key (c : Fin 2) (k : Fin 128) : Fin 256 := ⟨128 * c.val + k.val, by have := c.isLt; have := k.isLt; omega⟩

theorem part_inside (g : Fin 4) : ∀ a : Fin Block.rank, (![0, 128 * g.val] : Fin 2 → ℕ) a + Tile.size a ≤ Block.size a := by
  have := g.isLt
  intro a
  match a with
  | ⟨0, _⟩ => show 0 + 128 ≤ 128; omega
  | ⟨1, _⟩ => show 128 * g.val + 128 ≤ 512; omega

theorem over_inside (h : Fin 8) (c : Fin 2) :
    ∀ a : Fin Bias.rank, (![h.val, 0, 128 * c.val] : Fin 3 → ℕ) a + Layer.size a ≤ Bias.size a := by
  have := h.isLt
  have := c.isLt
  intro a
  match a with
  | ⟨0, _⟩ => show h.val + 1 ≤ 8; omega
  | ⟨1, _⟩ => show 0 + 128 ≤ 128; omega
  | ⟨2, _⟩ => show 128 * c.val + 128 ≤ 256; omega

/-- Tile `g` of a block. -/
def cut (g : Fin 4) (x : Vec Ideal Block .f32) : FVec Ideal Tile .bf16 :=
  truncf .bf16 (View.ld x (Rect.unit (s := Block) ![0, 128 * g.val] Tile.size (part_inside g)) : FVec Ideal Tile .f32) narrower

/-- A head's biases of one of the two blocks of keys. -/
def over (h : Fin 8) (c : Fin 2) (x : Vec Ideal Bias .f32) : FVec Ideal Layer .f32 :=
  View.ld x (Rect.unit (s := Bias) ![h.val, 0, 128 * c.val] Layer.size (over_inside h c))

theorem cut_apply (g : Fin 4) (e : Fin 2) (x : Vec Ideal Block .f32) (i : Fin 128) (d : Fin 64) :
    cut g x (ix2 i (lane e d)) = x (ix2 i (col (head g e) d)) := by
  refine congrArg x (funext fun a => Fin.ext ?_)
  match a with
  | ⟨0, _⟩ => show 0 + 1 * i.val = i.val; omega
  | ⟨1, _⟩ => show 128 * g.val + 1 * (64 * e.val + d.val) = 64 * (2 * g.val + e.val) + d.val; omega

theorem over_apply (h : Fin 8) (c : Fin 2) (x : Vec Ideal Bias .f32) (i j : Fin 128) : over h c x (ix3 0 i j) = x (ix3 h i (key c j)) := by
  refine congrArg x (funext fun a => Fin.ext ?_)
  match a with
  | ⟨0, _⟩ => show h.val + 1 * 0 = h.val; omega
  | ⟨1, _⟩ => show 0 + 1 * i.val = i.val; omega
  | ⟨2, _⟩ => show 128 * c.val + 1 * j.val = 128 * c.val + j.val; omega

section Pieces

variable (z : Ideal .f32) (mine : Fin 2 → IVec Lanes 1) (ok ok' : IVec Tile 1) (x0 x1 x2 x3 x4 : Vec Ideal Block .f32) (x5 : Vec Ideal Bias .f32)

/-- The scores of head `e` of tile `g`: of its own block of keys, and of the block before. -/
def ownTile (g : Fin 4) (e : Fin 2) : FVec Ideal Tile .f32 := scores z (mine e) ok (cut g x0) (cut g x1) (over (head g e) 1 x5)
def beforeTile (g : Fin 4) (e : Fin 2) : FVec Ideal Tile .f32 := scores z (mine e) ok' (cut g x0) (cut g x2) (over (head g e) 0 x5)

/-- The logarithms of head `e` of tile `g`. -/
def layerOf (g : Fin 4) (e : Fin 2) : FVec Ideal Layer .f32 :=
  lses (ownTile z mine ok x0 x1 x5 g e) (beforeTile z mine ok' x0 x2 x5 g e)

/-- The weighed values of head `e` of tile `g`. -/
def mixOf (g : Fin 4) (e : Fin 2) : FVec Ideal Tile .f32 :=
  mixes (mine e) (ownTile z mine ok x0 x1 x5 g e) (beforeTile z mine ok' x0 x2 x5 g e) (cut g x3) (cut g x4)

/-- The weighed values of tile `g`. -/
def tileOf (g : Fin 4) : FVec Ideal Tile .f32 :=
  addf (addf (broadcast Tile (Scalar.ofBits .f32 0x00000000#32)) (mixOf z mine ok ok' x0 x1 x2 x3 x4 x5 g 0))
    (mixOf z mine ok ok' x0 x1 x2 x3 x4 x5 g 1)

variable {z mine ok ok'} {later : Prop} [Decidable later]

/-- Head `h`'s scores of the query's own block of keys, and of the block before, from the blocks of rows. -/
def ownRow (h : Fin 8) (i : Fin 128) : Fin 128 → EReal :=
  own (fun d => x0 (ix2 i (col h d))) (fun k d => x1 (ix2 k (col h d))) (fun k => x5 (ix3 h i (key 1 k))) i
def beforeRow (later : Prop) [Decidable later] (h : Fin 8) (i : Fin 128) : Fin 128 → EReal :=
  before later (fun d => x0 (ix2 i (col h d))) (fun k d => x2 (ix2 k (col h d))) (fun k => x5 (ix3 h i (key 0 k))) i

variable (hz : z = (⊥ : EReal)) (hm : ∀ e, Mine (mine e) e) (hok : ∀ i j : Fin 128, ok (ix2 i j) = 1 ↔ j ≤ i)
  (hok' : ∀ i j : Fin 128, ok' (ix2 i j) = 1 ↔ (i ≤ j ∧ later))

include hz hm hok in
theorem ownTile_apply (g : Fin 4) (e : Fin 2) (i : Fin 128) :
    (fun j => ownTile z mine ok x0 x1 x5 g e (ix2 i j)) = ownRow x0 x1 x5 (head g e) i := by
  funext j
  refine (scores_apply (hm e) _ _ _ _ _ i j).trans ?_
  rw [over_apply, hz]
  simp only [cut_apply]
  exact if_congr (hok i j) rfl rfl

include hz hm hok' in
theorem beforeTile_apply (g : Fin 4) (e : Fin 2) (i : Fin 128) :
    (fun j => beforeTile z mine ok' x0 x2 x5 g e (ix2 i j)) = beforeRow x0 x2 x5 later (head g e) i := by
  funext j
  refine (scores_apply (hm e) _ _ _ _ _ i j).trans ?_
  rw [over_apply, hz]
  simp only [cut_apply]
  exact if_congr (hok' i j) rfl rfl

include hz hm hok hok' in
theorem layerOf_apply (g : Fin 4) (e : Fin 2) (i l : Fin 128) :
    layerOf z mine ok ok' x0 x1 x2 x5 g e (ix3 0 i l) = lse (ownRow x0 x1 x5 (head g e) i) (beforeRow x0 x2 x5 later (head g e) i) := by
  refine (lses_apply _ _ i l).trans ?_
  rw [ownTile_apply x0 x1 x5 hz hm hok, beforeTile_apply x0 x2 x5 hz hm hok']

include hz hm hok hok' in
theorem tileOf_apply (g : Fin 4) (e : Fin 2) (i : Fin 128) (d : Fin 64) :
    tileOf z mine ok ok' x0 x1 x2 x3 x4 x5 g (ix2 i (lane e d))
      = mix (ownRow x0 x1 x5 (head g e) i) (beforeRow x0 x2 x5 later (head g e) i) (fun k => x3 (ix2 k (col (head g e) d)))
          fun k => x4 (ix2 k (col (head g e) d)) := by
  have each : ∀ f : Fin 2, mixOf z mine ok ok' x0 x1 x2 x3 x4 x5 g f (ix2 i (lane e d))
      = if e = f then mix (ownRow x0 x1 x5 (head g e) i) (beforeRow x0 x2 x5 later (head g e) i) (fun k => x3 (ix2 k (col (head g e) d)))
          (fun k => x4 (ix2 k (col (head g e) d))) else (0 : EReal) := fun f => by
    refine (mixes_apply (hm f) _ _ _ _ i _).trans ?_
    have inside : (lane e d).val / 64 = e.val := by have := d.isLt; show (64 * e.val + d.val) / 64 = _; omega
    rw [inside, ownTile_apply x0 x1 x5 hz hm hok, beforeTile_apply x0 x2 x5 hz hm hok']
    simp only [cut_apply]
    by_cases h : e = f
    · rw [if_pos h, if_pos (congrArg Fin.val h), h]
    · rw [if_neg h, if_neg (fun x => h (Fin.ext x))]
  show (Ideal.ofBits .f32 0x00000000#32 : EReal) + mixOf z mine ok ok' x0 x1 x2 x3 x4 x5 g 0 (ix2 i (lane e d)) + mixOf z mine ok ok' x0 x1 x2 x3 x4 x5 g 1 (ix2 i (lane e d)) = _
  rw [each 0, each 1, Ideal.ofBits_zero_f32, zero_add]
  match e with
  | 0 => exact add_zero _
  | 1 => exact zero_add _

end Pieces

/-- A head's layer, where it is laid. -/
theorem layer_at (g : Fin 4) (e : Fin 2) (w : Layer.Idx → EReal) (h : Fin 8) (i l : Fin 128) (v : EReal) (eq : h = head g e → w (ix3 0 i l) = v) :
    View.TileAt (Val := Elt Ideal) (S := Layers) (e := .f32) (ix3 h i l) ![2 * g.val + e.val, 0, 0] Layer.size w v := by
  intro x hx
  have h0 : h.val = 2 * g.val + e.val + (x 0).val := hx 0
  have h1 : i.val = 0 + (x 1).val := hx 1
  have h2 : l.val = 0 + (x 2).val := hx 2
  have none : (x 0).val < 1 := (x 0).isLt
  have place : x = ix3 0 i l := by
    funext a; apply Fin.ext
    match a with
    | ⟨0, _⟩ => show (x 0).val = 0; omega
    | ⟨1, _⟩ => show (x 1).val = i.val; omega
    | ⟨2, _⟩ => show (x 2).val = l.val; omega
  rw [place]
  exact eq (Fin.ext (by show h.val = 2 * g.val + e.val; omega))

/-- A tile, where it is laid. -/
theorem tile_at (g : Fin 4) (w : Tile.Idx → EReal) (h : Fin 8) (i : Fin 128) (d : Fin 64) (v : EReal)
    (eq : ∀ e, h = head g e → w (ix2 i (lane e d)) = v) :
    View.TileAt (Val := Elt Ideal) (S := Block) (e := .f32) (ix2 i (col h d)) ![0, 128 * g.val] Tile.size w v := by
  intro x hx
  have h0 : i.val = 0 + (x 0).val := hx 0
  have h1 : 64 * h.val + d.val = 128 * g.val + (x 1).val := hx 1
  have hd := d.isLt
  have within : (x 1).val < 128 := (x 1).isLt
  have he : h.val - 2 * g.val < 2 := by omega
  have place : x = ix2 i (lane ⟨h.val - 2 * g.val, he⟩ d) := by
    funext a; apply Fin.ext
    match a with
    | ⟨0, _⟩ => show (x 0).val = i.val; omega
    | ⟨1, _⟩ => show (x 1).val = 64 * (h.val - 2 * g.val) + d.val; omega
  rw [place]
  exact eq _ (Fin.ext (by show h.val = 2 * g.val + (h.val - 2 * g.val); omega))

end Kernel

end Cert.Attend

end
-- ==== Proof.AttentionTile.lean ====
/-
Attention over rows next to each other: what a grid point leaves of its blocks, entry by entry.
-/
module

public import proofs.«01_k».proof.Proof.Gen.Attention0Ideal.Value
public import proofs.«01_k».proof.Proof.Attend

@[expose] public section

noncomputable section

namespace Cert.AttentionNear

open Idealize.ShloMosaic Idealize.SL.Sem Idealize.ShloMosaic.ValueIdx Idealize.ShloMosaic.TcCoe Cert.Entries Cert.Attend

section Kernel

open Cert.Attention0Ideal Cert.Attention0Ideal.Gen

/-- The bit of a head's lanes, as the kernel works it out. -/
def bit (e : Fin 2) : IVec Lanes 1 := match e with
  | 0 => k0_pay73 (iota .tc S1x128 32 [1] iota_S1x128_d1_w32)
  | 1 => k0_pay85 (iota .tc S1x128 32 [1] iota_S1x128_d1_w32)

theorem bit_mine : ∀ e, Mine (bit e) e := by
  intro e
  match e with
  | 0 => exact (by decide +kernel : ∀ l : Fin 128, bit 0 (ix2 0 l) = if l.val / 64 = (0 : Fin 2).val then 1#1 else 0#1)
  | 1 => exact (by decide +kernel : ∀ l : Fin 128, bit 1 (ix2 0 l) = if l.val / 64 = (1 : Fin 2).val then 1#1 else 0#1)

theorem own_bit : ∀ i j : Fin 128, (k0_pay2 : IVec Tile 1) (ix2 i j) = 1 ↔ j ≤ i := by decide +kernel

abbrev low : Ideal .f32 := Named.named κ "mask" 0xF149F2CA#32

section Leaves

variable (i : grid0.Coords) (x0 x1 x2 x3 x4 : Vec Ideal Block .f32) (x5 : Vec Ideal Bias .f32)

/-- What a grid point leaves of its blocks in the second result. -/
theorem leaves_lse : out0_7 i x0 x1 x2 x3 x4 x5 = View.canon [
    ⟨r0_27, layerOf low bit k0_pay2 (k0_pay3 i) x0 x1 x2 x5 3 1⟩, ⟨r0_24, layerOf low bit k0_pay2 (k0_pay3 i) x0 x1 x2 x5 3 0⟩,
    ⟨r0_20, layerOf low bit k0_pay2 (k0_pay3 i) x0 x1 x2 x5 2 1⟩, ⟨r0_17, layerOf low bit k0_pay2 (k0_pay3 i) x0 x1 x2 x5 2 0⟩,
    ⟨r0_13, layerOf low bit k0_pay2 (k0_pay3 i) x0 x1 x2 x5 1 1⟩, ⟨r0_10, layerOf low bit k0_pay2 (k0_pay3 i) x0 x1 x2 x5 1 0⟩,
    ⟨r0_6, layerOf low bit k0_pay2 (k0_pay3 i) x0 x1 x2 x5 0 1⟩, ⟨r0_3, layerOf low bit k0_pay2 (k0_pay3 i) x0 x1 x2 x5 0 0⟩] := by
  rfl

/-- And in the first. -/
theorem leaves_mix : out0_6 i x0 x1 x2 x3 x4 x5 = View.canon [
    ⟨r0_21, tileOf low bit k0_pay2 (k0_pay3 i) x0 x1 x2 x3 x4 x5 3⟩, ⟨r0_14, tileOf low bit k0_pay2 (k0_pay3 i) x0 x1 x2 x3 x4 x5 2⟩,
    ⟨r0_7, tileOf low bit k0_pay2 (k0_pay3 i) x0 x1 x2 x3 x4 x5 1⟩, ⟨r0_0, tileOf low bit k0_pay2 (k0_pay3 i) x0 x1 x2 x3 x4 x5 0⟩] := by
  rfl

section Entry

variable {later : Prop} [Decidable later] (hl : ∀ a b : Fin 128, (k0_pay3 i : IVec Tile 1) (ix2 a b) = 1 ↔ (a ≤ b ∧ later))

include hl in
theorem leaves_lse_at (h : Fin 8) (a l : Fin 128) :
    out0_7 i x0 x1 x2 x3 x4 x5 (ix3 h a l) = lse (ownRow x0 x1 x5 h a) (beforeRow x0 x2 x5 later h a) := by
  have layer : ∀ (g : Fin 4) (e : Fin 2), h = head g e →
      layerOf low bit k0_pay2 (k0_pay3 i) x0 x1 x2 x5 g e (ix3 0 a l) = lse (ownRow x0 x1 x5 h a) (beforeRow x0 x2 x5 later h a) := fun g e hh => by
    rw [hh]
    exact layerOf_apply x0 x1 x2 x5 rfl bit_mine own_bit hl g e a l
  refine (congrFun (leaves_lse i x0 x1 x2 x3 x4 x5) _).trans (View.canon_eq_of_allAt _ _ _ (cover0_7 _ _ _ _ _ _ _ _ _) ?_)
  refine View.allAt_cons_unit _ _ _ _ _ (layer_at 3 1 _ h a l _ (layer 3 1)) ?_
  refine View.allAt_cons_unit _ _ _ _ _ (layer_at 3 0 _ h a l _ (layer 3 0)) ?_
  refine View.allAt_cons_unit _ _ _ _ _ (layer_at 2 1 _ h a l _ (layer 2 1)) ?_
  refine View.allAt_cons_unit _ _ _ _ _ (layer_at 2 0 _ h a l _ (layer 2 0)) ?_
  refine View.allAt_cons_unit _ _ _ _ _ (layer_at 1 1 _ h a l _ (layer 1 1)) ?_
  refine View.allAt_cons_unit _ _ _ _ _ (layer_at 1 0 _ h a l _ (layer 1 0)) ?_
  refine View.allAt_cons_unit _ _ _ _ _ (layer_at 0 1 _ h a l _ (layer 0 1)) ?_
  exact View.allAt_cons_unit _ _ _ _ _ (layer_at 0 0 _ h a l _ (layer 0 0)) (View.allAt_nil _ _)

include hl in
theorem leaves_mix_at (h : Fin 8) (a : Fin 128) (d : Fin 64) :
    out0_6 i x0 x1 x2 x3 x4 x5 (ix2 a (col h d))
      = mix (ownRow x0 x1 x5 h a) (beforeRow x0 x2 x5 later h a) (fun k => x3 (ix2 k (col h d))) fun k => x4 (ix2 k (col h d)) := by
  have tile : ∀ (g : Fin 4) (e : Fin 2), h = head g e → tileOf low bit k0_pay2 (k0_pay3 i) x0 x1 x2 x3 x4 x5 g (ix2 a (lane e d))
      = mix (ownRow x0 x1 x5 h a) (beforeRow x0 x2 x5 later h a) (fun k => x3 (ix2 k (col h d))) fun k => x4 (ix2 k (col h d)) := fun g e hh => by
    rw [hh]
    exact tileOf_apply x0 x1 x2 x3 x4 x5 rfl bit_mine own_bit hl g e a d
  refine (congrFun (leaves_mix i x0 x1 x2 x3 x4 x5) _).trans (View.canon_eq_of_allAt _ _ _ (cover0_6 _ _ _ _ _) ?_)
  refine View.allAt_cons_unit _ _ _ _ _ (tile_at 3 _ h a d _ (tile 3)) ?_
  refine View.allAt_cons_unit _ _ _ _ _ (tile_at 2 _ h a d _ (tile 2)) ?_
  refine View.allAt_cons_unit _ _ _ _ _ (tile_at 1 _ h a d _ (tile 1)) ?_
  exact View.allAt_cons_unit _ _ _ _ _ (tile_at 0 _ h a d _ (tile 0)) (View.allAt_nil _ _)

end Entry

end Leaves

/-- The keys at most 128 back. -/
def back : IVec Tile 1 := cmpi .sge (iota .tc S128x128 32 [1] iota_S128x128_d1_w32) (iota .tc S128x128 32 [0] iota_S128x128_d0_w32)

theorem back_bit : ∀ a b : Fin 128, back (ix2 a b) = if a ≤ b then 1#1 else 0#1 := by decide +kernel

theorem later_point : ∀ t : Fin cfg0.N, Scalar.cmpi .sgt (BitVec.ofNat 32 ((grid0.coords t) 1).val) 0#32 = if 0 < t.val then 1#1 else 0#1 :=
  (by decide +kernel : ∀ t : Fin grid0.N, _)

theorem before_bit (t : Fin cfg0.N) (a b : Fin 128) : (k0_pay3 (grid0.coords t) : IVec Tile 1) (ix2 a b) = 1 ↔ (a ≤ b ∧ 0 < t.val) := by
  rw [show (k0_pay3 (grid0.coords t) : IVec Tile 1) (ix2 a b) = back (ix2 a b) &&& Scalar.cmpi .sgt (BitVec.ofNat 32 ((grid0.coords t) 1).val) 0#32 from rfl,
    back_bit, later_point]
  by_cases h : a ≤ b <;> by_cases h' : 0 < t.val <;> simp [h, h']

end Kernel

end Cert.AttentionNear

end
-- ==== Proof.AttendSeen.lean ====
/-
Which keys a query sees, as the reference of the attention writes it.
-/
module

public import proofs.«01_k».proof.Proof.Gen.Attention0ReferenceIdeal.Run
public import proofs.«01_k».proof.Proof.Attend

@[expose] public section

noncomputable section

namespace Cert.Attend

open Idealize.ShloMosaic Idealize.ShloMosaic.ValueIdx Idealize.ShloMosaic.TcCoe
open Cert.Attention0ReferenceIdeal Cert.Attention0ReferenceIdeal.Gen

/-- The keys at most 128 back and none ahead. -/
def band : IVec S128x256 1 :=
  andi (cmpi .sge (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32)))
    (cmpi .sle (subi (broadcastInDim S128x256 ![0, 1] bcast_S128x1_S128x256_0_1 (addi (broadcastInDim S128x1 ![] bcast_S_S128x1 (constantI S_ 32 128#32)) (broadcastInDim S128x1 ![0] bcast_S128_S128x1_0 (iotaInDim S128 32 0)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))

/-- The keys that there are: all, but those before the first block. -/
def there : IVec S16x1x256 1 :=
  ori (broadcastInDim S16x1x256 ![0, 1, 2] bcast_S16x1x1_S16x1x256_0_1_2 (broadcastInDim S16x1x1 ![0] bcast_S16_S16x1x1_0 (cmpi .sgt (iotaInDim S16 32 0) (broadcastInDim S16 ![] bcast_S_S16 (constantI S_ 32 0#32)))))
    (broadcastInDim S16x1x256 ![0, 1, 2] bcast_S1x1x256_S16x1x256_0_1_2 (broadcastInDim S1x1x256 ![2] bcast_S256_S1x1x256_2 (cmpi .sge (iotaInDim S256 32 0) (broadcastInDim S256 ![] bcast_S_S256 (constantI S_ 32 128#32)))))

/-- Both, of every head. -/
def seen : IVec S16x8x128x256 1 :=
  broadcastInDim S16x8x128x256 ![0, 1, 2, 3] bcast_S16x1x128x256_S16x8x128x256_0_1_2_3
    (broadcastInDim S16x1x128x256 ![0, 2, 3] bcast_S16x128x256_S16x1x128x256_0_2_3
      (andi (broadcastInDim S16x128x256 ![0, 1, 2] bcast_S1x128x256_S16x128x256_0_1_2 (broadcastInDim S1x128x256 ![1, 2] bcast_S128x256_S1x128x256_1_2 band))
        (broadcastInDim S16x128x256 ![0, 1, 2] bcast_S16x1x256_S16x128x256_0_1_2 there)))

def far (q k : ℕ) : BitVec 32 := 128#32 + BitVec.ofNat 32 q - BitVec.ofNat 32 k

theorem band_apply (q : Fin 128) (k : Fin 256) :
    band (ix2 q k) = BitVec.ofBool ((0#32).sle (far q.val k.val)) &&& BitVec.ofBool ((far q.val k.val).sle 128#32) := rfl

theorem band_own : ∀ q k : Fin 128, BitVec.ofBool ((0#32).sle (far q.val (key 1 k).val)) &&& BitVec.ofBool ((far q.val (key 1 k).val).sle 128#32)
    = if k ≤ q then 1#1 else 0#1 := by decide +kernel

theorem band_before : ∀ q k : Fin 128, BitVec.ofBool ((0#32).sle (far q.val (key 0 k).val)) &&& BitVec.ofBool ((far q.val (key 0 k).val).sle 128#32)
    = if q ≤ k then 1#1 else 0#1 := by decide +kernel

theorem there_apply (n : Fin 16) (k : Fin 256) :
    there (ix3 n 0 k) = BitVec.ofBool ((0#32).slt (BitVec.ofNat 32 n.val)) ||| BitVec.ofBool ((128#32).sle (BitVec.ofNat 32 k.val)) := rfl

theorem later_bit : ∀ n : Fin 16, BitVec.ofBool ((0#32).slt (BitVec.ofNat 32 n.val)) = if 0 < n.val then 1#1 else 0#1 := by decide +kernel

theorem half_bit : ∀ (c : Fin 2) (k : Fin 128), BitVec.ofBool ((128#32).sle (BitVec.ofNat 32 (key c k).val)) = if c = 1 then 1#1 else 0#1 := by decide +kernel

theorem seen_apply (n : Fin 16) (h : Fin 8) (q : Fin 128) (k : Fin 256) : seen (ix4 n h q k) = band (ix2 q k) &&& there (ix3 n 0 k) := by
  refine (broadcastInDim_apply _ _ _ _ (ix4 n 0 q k) fun a => ?_).trans ((broadcastInDim_apply _ _ _ _ (ix3 n q k) fun a => ?_).trans ?_)
  · match a with | ⟨0, _⟩ => rfl | ⟨1, _⟩ => rfl | ⟨2, _⟩ => rfl | ⟨3, _⟩ => rfl
  · match a with | ⟨0, _⟩ => rfl | ⟨1, _⟩ => rfl | ⟨2, _⟩ => rfl
  refine congrArg₂ (· &&& ·) ((broadcastInDim_apply _ _ _ _ (ix3 0 q k) fun a => ?_).trans (broadcastInDim_apply _ _ _ _ (ix2 q k) fun a => ?_))
    (broadcastInDim_apply _ _ _ _ (ix3 n 0 k) fun a => ?_)
  · match a with | ⟨0, _⟩ => rfl | ⟨1, _⟩ => rfl | ⟨2, _⟩ => rfl
  · match a with | ⟨0, _⟩ => rfl | ⟨1, _⟩ => rfl
  · match a with | ⟨0, _⟩ => rfl | ⟨1, _⟩ => rfl | ⟨2, _⟩ => rfl

theorem seen_own (n : Fin 16) (h : Fin 8) (q k : Fin 128) : seen (ix4 n h q (key 1 k)) = 1 ↔ k ≤ q := by
  rw [seen_apply, band_apply, band_own, there_apply, later_bit, half_bit]
  by_cases hk : k ≤ q <;> by_cases hn : 0 < n.val <;> simp [hk, hn]

theorem seen_before (n : Fin 16) (h : Fin 8) (q k : Fin 128) : seen (ix4 n h q (key 0 k)) = 1 ↔ (q ≤ k ∧ 0 < n.val) := by
  rw [seen_apply, band_apply, band_before, there_apply, later_bit, half_bit]
  by_cases hk : q ≤ k <;> by_cases hn : 0 < n.val <;> simp [hk, hn]

end Cert.Attend

end
-- ==== Proof.AttendHost.lean ====
/-
Attention as the reference writes it, over all blocks and all heads, entry by entry.
-/
module

public import proofs.«01_k».proof.Proof.AttendSeen
public import Idealize.ShloMosaic.Lib.KernelVsHost

@[expose] public section

noncomputable section

namespace Cert.Attend

open Idealize.ShloMosaic Idealize.ShloMosaic.ValueIdx Idealize.ShloMosaic.TcCoe Cert.Entries

/-! ## The keys of two blocks as one row -/

/-- A sum over the row is the sums over its two blocks. -/
theorem sum_keys (f : Fin 256 → EReal) : ∑ k, f k = ∑ k, f (key 1 k) + ∑ k, f (key 0 k) := by
  rw [← Fin.sum_mul_add_fin 2 128 f, Fin.sum_univ_two, add_comm]
  refine congrArg₂ (· + ·) (Finset.sum_congr rfl fun d _ => congrArg f (Fin.ext ?_)) (Finset.sum_congr rfl fun d _ => congrArg f (Fin.ext ?_))
  · show 1 * 128 + d.val = 128 * 1 + d.val; omega
  · show 0 * 128 + d.val = 128 * 0 + d.val; omega

theorem key_surjective (k : Fin 256) : ∃ (c : Fin 2) (j : Fin 128), k = key c j := by
  have := k.isLt
  refine ⟨⟨k.val / 128, by omega⟩, ⟨k.val % 128, by omega⟩, Fin.ext ?_⟩
  show k.val = 128 * (k.val / 128) + k.val % 128; omega

/-- The largest of the row is the larger of its two blocks' largest. -/
theorem sup_keys (f : Fin 256 → EReal) : Finset.univ.sup f = max (Finset.univ.sup fun k => f (key 1 k)) (Finset.univ.sup fun k => f (key 0 k)) := by
  refine le_antisymm (Finset.sup_le fun k _ => ?_) (max_le ?_ ?_)
  · obtain ⟨c, j, rfl⟩ := key_surjective k
    match c with
    | 0 => exact le_max_of_le_right (Finset.le_sup (f := fun k => f (key 0 k)) (Finset.mem_univ j))
    | 1 => exact le_max_of_le_left (Finset.le_sup (f := fun k => f (key 1 k)) (Finset.mem_univ j))
  · exact Finset.sup_le fun k _ => Finset.le_sup (f := f) (Finset.mem_univ _)
  · exact Finset.sup_le fun k _ => Finset.le_sup (f := f) (Finset.mem_univ _)

section Reference

open Cert.Attention0ReferenceIdeal Cert.Attention0ReferenceIdeal.Gen

/-- Row `k` of block `n`. -/
def row (n : Fin 16) (k : Fin 128) : Fin 2048 := ⟨128 * n.val + k.val, by have := n.isLt; have := k.isLt; omega⟩

/-- The rows as blocks and the columns as heads. -/
def heads (x : FVec Ideal S2048x512 .f32) : FVec Ideal S16x128x8x64 .f32 := shapeCast _ x shapeCasts_S2048x512_S16x128x8x64

/-- The blocks, each after the block before it. -/
def pairs (x : FVec Ideal S16x128x8x64 .f32) : FVec Ideal S16x256x8x64 .f32 :=
  concatenate S16x256x8x64 1 [⟨S16x128x8x64, extractStridedSlice S16x128x8x64 ![0, 0, 0, 0]
    (pad S17x128x8x64 ![1, 0, 0, 0] ![0, 0, 0, 0] ![0, 0, 0, 0] x (sitofp .f32 (constantI S_ 32 0#32)) pads_S16x128x8x64_S17x128x8x64_100_000_000_000 h_S_)
    slices_S17x128x8x64_S16x128x8x64_0_0_0_0⟩, ⟨S16x128x8x64, x⟩] concatenates_S16x128x8x64_S16x128x8x64_S16x256x8x64_d1

theorem heads_apply (x : FVec Ideal S2048x512 .f32) (n : Fin 16) (k : Fin 128) (h : Fin 8) (d : Fin 64) :
    heads x (ix4 n k h d) = x (ix2 (row n k) (col h d)) :=
  shapeCast_apply _ _ _ (ix2 (row n k) (col h d)) (by
    rw [Shape.rowMajor_val_two, Shape.rowMajor_val_four]
    show (128 * n.val + k.val) * 512 + (64 * h.val + d.val) = ((n.val * 128 + k.val) * 8 + h.val) * 64 + d.val
    omega)

theorem pairs_own (x : FVec Ideal S16x128x8x64 .f32) (n : Fin 16) (k : Fin 128) (h : Fin 8) (d : Fin 64) :
    pairs x (ix4 n (key 1 k) h d) = x (ix4 n k h d) := by
  unfold pairs
  exact concatenate_pair_apply_right (t := S16x256x8x64) (s₁ := S16x128x8x64) (s₂ := S16x128x8x64) (1 : Fin 4) _ _ _ _ rfl rfl (ix4 n k h d)
    (fun b hb => by
      match b, hb with
      | ⟨0, _⟩, _ => rfl
      | ⟨1, _⟩, hb => exact absurd rfl hb
      | ⟨2, _⟩, _ => rfl
      | ⟨3, _⟩, _ => rfl)
    (by show k.val + 128 = 128 * 1 + k.val; omega)

theorem pairs_before (x : FVec Ideal S16x128x8x64 .f32) (n n' : Fin 16) (hn : n.val = n'.val + 1) (k : Fin 128) (h : Fin 8) (d : Fin 64) :
    pairs x (ix4 n (key 0 k) h d) = x (ix4 n' k h d) := by
  unfold pairs
  refine (concatenate_pair_apply_left (t := S16x256x8x64) (s₁ := S16x128x8x64) (s₂ := S16x128x8x64) (1 : Fin 4) _ _ _ _ rfl (ix4 n k h d) fun b => ?_).trans ?_
  · match b with
    | ⟨0, _⟩ => rfl
    | ⟨1, _⟩ => show k.val = 128 * 0 + k.val; omega
    | ⟨2, _⟩ => rfl
    | ⟨3, _⟩ => rfl
  refine (extractStridedSlice_apply _ _ _ _ (ix4 (⟨n.val, by have := n.isLt; omega⟩ : Fin 17) k h d) fun a => ?_).trans ?_
  · match a with
    | ⟨0, _⟩ => show n.val = 0 + n.val; omega
    | ⟨1, _⟩ => show k.val = 0 + k.val; omega
    | ⟨2, _⟩ => show h.val = 0 + h.val; omega
    | ⟨3, _⟩ => show d.val = 0 + d.val; omega
  exact pad_apply_of_inside _ _ _ _ _ _ _ _ (ix4 n' k h d) fun a => by
    match a with
    | ⟨0, _⟩ => show n.val = 1 + n'.val * (0 + 1); omega
    | ⟨1, _⟩ => show k.val = 0 + k.val * (0 + 1); omega
    | ⟨2, _⟩ => show h.val = 0 + h.val * (0 + 1); omega
    | ⟨3, _⟩ => show d.val = 0 + d.val * (0 + 1); omega

theorem pairs_first (x : FVec Ideal S16x128x8x64 .f32) (n : Fin 16) (hn : n.val = 0) (k : Fin 128) (h : Fin 8) (d : Fin 64) :
    pairs x (ix4 n (key 0 k) h d) = (0 : EReal) := by
  unfold pairs
  refine (concatenate_pair_apply_left (t := S16x256x8x64) (s₁ := S16x128x8x64) (s₂ := S16x128x8x64) (1 : Fin 4) _ _ _ _ rfl (ix4 n k h d) fun b => ?_).trans ?_
  · match b with
    | ⟨0, _⟩ => rfl
    | ⟨1, _⟩ => show k.val = 128 * 0 + k.val; omega
    | ⟨2, _⟩ => rfl
    | ⟨3, _⟩ => rfl
  refine (extractStridedSlice_apply _ _ _ _ (ix4 (⟨n.val, by have := n.isLt; omega⟩ : Fin 17) k h d) fun a => ?_).trans ?_
  · match a with
    | ⟨0, _⟩ => show n.val = 0 + n.val; omega
    | ⟨1, _⟩ => show k.val = 0 + k.val; omega
    | ⟨2, _⟩ => show h.val = 0 + h.val; omega
    | ⟨3, _⟩ => show d.val = 0 + d.val; omega
  refine (pad_apply_of_not_inside _ _ _ _ _ _ _ _ (0 : Fin 4) fun h => ?_).trans Idealize.ShloMosaic.sitofp_zero
  have : 1 ≤ n.val := h.1
  omega

/-! ## Scores, softmax and results -/

/-- The scores of all queries. -/
def scored (q : FVec Ideal S16x128x8x64 .f32) (k : FVec Ideal S16x256x8x64 .f32) (b : FVec Ideal S8x128x256 .f32) : FVec Ideal S16x8x128x256 .f32 :=
  select seen
    (addf (mulf (Host.dotGeneral dot_S16x128x8x64_S16x256x8x64_S16x8x128x256_3_3_1_1_02_02 none q k)
        (broadcastInDim S16x8x128x256 ![] bcast_S_S16x8x128x256 (constant S_ .f32 0x3E000000#32)))
      (broadcastInDim S16x8x128x256 ![0, 1, 2, 3] bcast_S1x8x128x256_S16x8x128x256_0_1_2_3 (broadcastInDim S1x8x128x256 ![1, 2, 3] bcast_S8x128x256_S1x8x128x256_1_2_3 b)))
    (broadcastInDim S16x8x128x256 ![] bcast_S_S16x8x128x256 (constant S_ .f32 0xFF800000#32))

def largest (s : FVec Ideal S16x8x128x256 .f32) : FVec Ideal S16x8x128x1 .f32 :=
  broadcastInDim S16x8x128x1 ![0, 1, 2] bcast_S16x8x128_S16x8x128x1_0_1_2
    (Host.reduce FloatOps.maximumf s (constant S_ .f32 0xFF800000#32) reducesTo_S16x8x128x256_S16x8x128_d3 h_S_)

def exped (s : FVec Ideal S16x8x128x256 .f32) : FVec Ideal S16x8x128x256 .f32 :=
  Host.exp (subf s (broadcastInDim S16x8x128x256 ![0, 1, 2, 3] bcast_S16x8x128x1_S16x8x128x256_0_1_2_3 (largest s)))

def summed (s : FVec Ideal S16x8x128x256 .f32) : FVec Ideal S16x8x128x1 .f32 :=
  broadcastInDim S16x8x128x1 ![0, 1, 2] bcast_S16x8x128_S16x8x128x1_0_1_2
    (Host.reduceAdd (exped s) (constant S_ .f32 0x00000000#32) reducesTo_S16x8x128x256_S16x8x128_d3 h_S_)

def weighed (v : FVec Ideal S16x256x8x64 .f32) (s : FVec Ideal S16x8x128x256 .f32) : FVec Ideal S2048x512 .f32 :=
  shapeCast _ (transpose S16x128x8x64 [0, 3, 1, 2]
    (Host.dotGeneral dot_S16x256x8x64_S16x8x128x256_S16x8x64x128_1_3_3_2_02_01 none v
      (Host.divf (exped s) (broadcastInDim S16x8x128x256 ![0, 1, 2, 3] bcast_S16x8x128x1_S16x8x128x256_0_1_2_3 (summed s))))
    transposes_S16x8x64x128_S16x128x8x64_0_3_1_2) shapeCasts_S16x128x8x64_S2048x512

def logs (s : FVec Ideal S16x8x128x256 .f32) : FVec Ideal S8x2048x128 .f32 :=
  broadcastInDim S8x2048x128 ![0, 1, 2] bcast_S8x2048x1_S8x2048x128_0_1_2 (broadcastInDim S8x2048x1 ![0, 1] bcast_S8x2048_S8x2048x1_0_1
    (shapeCast _ (transpose S8x16x128 [1, 0, 2] (shapeCast _ (addf (largest s) (Host.log (summed s))) shapeCasts_S16x8x128x1_S16x8x128)
      transposes_S16x8x128_S8x16x128_1_0_2) shapeCasts_S8x16x128_S8x2048))

theorem minus_infinity : Ideal.ofBits .f32 0xFF800000#32 = (⊥ : EReal) := by simp [Ideal.ofBits, Ideal.ieee]

theorem product_scores (q : FVec Ideal S16x128x8x64 .f32) (k : FVec Ideal S16x256x8x64 .f32) (n : Fin 16) (h : Fin 8) (i : Fin 128) (j : Fin 256) :
    Host.dotGeneral dot_S16x128x8x64_S16x256x8x64_S16x8x128x256_3_3_1_1_02_02 none q k (ix4 n h i j)
      = ∑ d : Fin 64, (q (ix4 n i h d) : EReal) * k (ix4 n j h d) := by
  let D := dot_S16x128x8x64_S16x256x8x64_S16x8x128x256_3_3_1_1_02_02
  have hr : D.contr.rank = 1 := rfl
  have hs : D.contr.size ⟨0, by rw [hr]; omega⟩ = 64 := rfl
  refine (Ideal.dotGeneral_apply D _ _ q k (ix4 n h i j)).trans ?_
  rw [← Equiv.sum_comp (contrEquiv1 D 64 hr hs).symm]
  refine Finset.sum_congr rfl fun d _ => ?_
  have hk := contrEquiv1_symm_val D 64 hr hs d
  have el : D.lhsIdx (ix4 n h i j) ((contrEquiv1 D 64 hr hs).symm d) = ix4 n i h d := by
    funext a; apply Fin.ext
    match a with
    | ⟨0, _⟩ => rfl
    | ⟨1, _⟩ => rfl
    | ⟨2, _⟩ => rfl
    | ⟨3, _⟩ => exact hk
  have er : D.rhsIdx (ix4 n h i j) ((contrEquiv1 D 64 hr hs).symm d) = ix4 n j h d := by
    funext a; apply Fin.ext
    match a with
    | ⟨0, _⟩ => rfl
    | ⟨1, _⟩ => rfl
    | ⟨2, _⟩ => rfl
    | ⟨3, _⟩ => exact hk
  rw [el, er]

theorem product_values (v : FVec Ideal S16x256x8x64 .f32) (w : FVec Ideal S16x8x128x256 .f32) (n : Fin 16) (h : Fin 8) (d : Fin 64) (i : Fin 128) :
    Host.dotGeneral dot_S16x256x8x64_S16x8x128x256_S16x8x64x128_1_3_3_2_02_01 none v w (ix4 n h d i)
      = ∑ k : Fin 256, (v (ix4 n k h d) : EReal) * w (ix4 n h i k) := by
  let D := dot_S16x256x8x64_S16x8x128x256_S16x8x64x128_1_3_3_2_02_01
  have hr : D.contr.rank = 1 := rfl
  have hs : D.contr.size ⟨0, by rw [hr]; omega⟩ = 256 := rfl
  refine (Ideal.dotGeneral_apply D _ _ v w (ix4 n h d i)).trans ?_
  rw [← Equiv.sum_comp (contrEquiv1 D 256 hr hs).symm]
  refine Finset.sum_congr rfl fun k _ => ?_
  have hk := contrEquiv1_symm_val D 256 hr hs k
  have el : D.lhsIdx (ix4 n h d i) ((contrEquiv1 D 256 hr hs).symm k) = ix4 n k h d := by
    funext a; apply Fin.ext
    match a with
    | ⟨0, _⟩ => rfl
    | ⟨1, _⟩ => exact hk
    | ⟨2, _⟩ => rfl
    | ⟨3, _⟩ => rfl
  have er : D.rhsIdx (ix4 n h d i) ((contrEquiv1 D 256 hr hs).symm k) = ix4 n h i k := by
    funext a; apply Fin.ext
    match a with
    | ⟨0, _⟩ => rfl
    | ⟨1, _⟩ => rfl
    | ⟨2, _⟩ => rfl
    | ⟨3, _⟩ => exact hk
  rw [el, er]

theorem scored_apply (q : FVec Ideal S16x128x8x64 .f32) (k : FVec Ideal S16x256x8x64 .f32) (b : FVec Ideal S8x128x256 .f32)
    (n : Fin 16) (h : Fin 8) (i : Fin 128) (j : Fin 256) :
    scored q k b (ix4 n h i j)
      = if seen (ix4 n h i j) = 1 then score (fun d => q (ix4 n i h d)) (fun d => k (ix4 n j h d)) (b (ix3 h i j)) else (⊥ : EReal) := by
  show (if seen (ix4 n h i j) = 1 then (_ : EReal) else Ideal.ofBits .f32 0xFF800000#32) = _
  rw [minus_infinity]
  refine congrArg (fun x : EReal => if seen (ix4 n h i j) = 1 then x else ⊥) ?_
  refine congrArg₂ (· + ·) (congrArg (· * Ideal.ofBits .f32 0x3E000000#32) (product_scores q k n h i j)) ?_
  refine (broadcastInDim_apply _ _ _ _ (ix4 0 h i j) fun a => ?_).trans (broadcastInDim_apply _ _ _ _ (ix3 h i j) fun a => ?_)
  · match a with | ⟨0, _⟩ => rfl | ⟨1, _⟩ => rfl | ⟨2, _⟩ => rfl | ⟨3, _⟩ => rfl
  · match a with | ⟨0, _⟩ => rfl | ⟨1, _⟩ => rfl | ⟨2, _⟩ => rfl

theorem last_axis : (S16x8x128x256 : Shape).Reduces [3] S16x8x128 := by decide

theorem last_lift (n : Fin 16) (h : Fin 8) (i : Fin 128) (k : Fin 256) : last_axis.lift (ix3 n h i) k = ix4 n h i k := by
  funext a
  match a with | ⟨0, _⟩ => rfl | ⟨1, _⟩ => rfl | ⟨2, _⟩ => rfl | ⟨3, _⟩ => rfl

theorem unit_axis {α : Type} (v : S16x8x128.Idx → α) (n : Fin 16) (h : Fin 8) (i : Fin 128) :
    broadcastInDim S16x8x128x1 ![0, 1, 2] bcast_S16x8x128_S16x8x128x1_0_1_2 v (ix4 n h i 0) = v (ix3 n h i) :=
  broadcastInDim_apply _ _ _ _ (ix3 n h i) fun a => by match a with | ⟨0, _⟩ => rfl | ⟨1, _⟩ => rfl | ⟨2, _⟩ => rfl

theorem along_keys {α : Type} (v : S16x8x128x1.Idx → α) (n : Fin 16) (h : Fin 8) (i : Fin 128) (k : Fin 256) :
    broadcastInDim S16x8x128x256 ![0, 1, 2, 3] bcast_S16x8x128x1_S16x8x128x256_0_1_2_3 v (ix4 n h i k) = v (ix4 n h i 0) :=
  broadcastInDim_apply _ _ _ _ (ix4 n h i 0) fun a => by match a with | ⟨0, _⟩ => rfl | ⟨1, _⟩ => rfl | ⟨2, _⟩ => rfl | ⟨3, _⟩ => rfl

section Softmax

variable (s : FVec Ideal S16x8x128x256 .f32) (n : Fin 16) (h : Fin 8) (i : Fin 128)

/-- A query's scores of one of the two blocks of keys. -/
def half (c : Fin 2) : Fin 128 → EReal := fun k => s (ix4 n h i (key c k))

theorem largest_at : largest s (ix4 n h i 0) = top (half s n h i 1) (half s n h i 0) := by
  refine (unit_axis _ n h i).trans ?_
  refine (congrFun (hostReduce_maximumf_eq_multiReduction s 0xFF800000#32 reducesTo_S16x8x128x256_S16x8x128_d3 h_S_ last_axis (.inl rfl) rfl) _).trans ?_
  refine (Ideal.multiReduction_maximumf_single _ _ _ _ _ _).trans ?_
  have low : (FloatOps.ofBits (F := Ideal) .f32 0xFF800000#32 : EReal) = ⊥ := minus_infinity
  rw [low]
  refine Eq.trans (show _ = Finset.univ.sup fun k : Fin 256 => (s (ix4 n h i k) : EReal) from ?_) (sup_keys _)
  exact congrArg (Finset.fold max (⊥ : EReal) · Finset.univ) (funext fun k => congrArg s (last_lift n h i k))

theorem exped_at (c : Fin 2) (k : Fin 128) :
    exped s (ix4 n h i (key c k)) = Ideal.exp (half s n h i c k - top (half s n h i 1) (half s n h i 0)) := by
  refine congrArg (fun x : EReal => Ideal.exp ((s (ix4 n h i (key c k)) : EReal) - x)) ?_
  exact (along_keys _ n h i _).trans (largest_at s n h i)

theorem summed_at : summed s (ix4 n h i 0) = den (half s n h i 1) (half s n h i 0) := by
  refine (unit_axis _ n h i).trans ((Ideal.hostReduceAdd_single _ last_axis _ _ _).trans ?_)
  show (Ideal.ofBits .f32 0x00000000#32 : EReal) + ∑ k : Fin 256, (exped s (last_axis.lift (ix3 n h i) k) : EReal) = _
  rw [Ideal.ofBits_zero_f32, zero_add]
  simp only [last_lift]
  rw [sum_keys]
  simp only [exped_at]
  rfl

theorem along_lanes {α : Type} (v : S8x2048.Idx → α) (r : Fin 2048) (l : Fin 128) :
    broadcastInDim S8x2048x128 ![0, 1, 2] bcast_S8x2048x1_S8x2048x128_0_1_2 (broadcastInDim S8x2048x1 ![0, 1] bcast_S8x2048_S8x2048x1_0_1 v) (ix3 h r l)
      = v (ix2 h r) := by
  refine (broadcastInDim_apply _ _ _ _ (ix3 h r 0) fun a => ?_).trans (broadcastInDim_apply _ _ _ _ (ix2 h r) fun a => ?_)
  · match a with | ⟨0, _⟩ => rfl | ⟨1, _⟩ => rfl | ⟨2, _⟩ => rfl
  · match a with | ⟨0, _⟩ => rfl | ⟨1, _⟩ => rfl

theorem of_blocks {α : Type} (v : S8x16x128.Idx → α) : shapeCast S8x2048 v shapeCasts_S8x16x128_S8x2048 (ix2 h (row n i)) = v (ix3 h n i) :=
  shapeCast_apply _ _ _ (ix3 h n i) (by
    rw [Shape.rowMajor_val_three, Shape.rowMajor_val_two]
    show (h.val * 16 + n.val) * 128 + i.val = h.val * 2048 + (128 * n.val + i.val)
    omega)

theorem of_heads {α : Type} (v : S16x8x128.Idx → α) : transpose S8x16x128 [1, 0, 2] v transposes_S16x8x128_S8x16x128_1_0_2 (ix3 h n i) = v (ix3 n h i) :=
  transpose_apply _ _ _ _ (ix3 n h i) fun b => by match b with | ⟨0, _⟩ => rfl | ⟨1, _⟩ => rfl | ⟨2, _⟩ => rfl

theorem of_unit {α : Type} (v : S16x8x128x1.Idx → α) : shapeCast S16x8x128 v shapeCasts_S16x8x128x1_S16x8x128 (ix3 n h i) = v (ix4 n h i 0) :=
  shapeCast_apply _ _ _ (ix4 n h i 0) (by
    rw [Shape.rowMajor_val_three, Shape.rowMajor_val_four]
    show ((n.val * 8 + h.val) * 128 + i.val) * 1 + 0 = (n.val * 8 + h.val) * 128 + i.val
    omega)

theorem plus_log {S : Shape} (a b : FVec Ideal S .f32) (j : S.Idx) : addf a (Host.log b) j = (a j : EReal) + Ideal.log (b j) := rfl

theorem logs_at (l : Fin 128) : logs s (ix3 h (row n i) l) = lse (half s n h i 1) (half s n h i 0) := by
  unfold logs
  rw [along_lanes, of_blocks, of_heads, of_unit, plus_log, largest_at, summed_at, lse]

theorem weighed_at (v : FVec Ideal S16x256x8x64 .f32) (d : Fin 64) :
    weighed v s (ix2 (row n i) (col h d))
      = mix (half s n h i 1) (half s n h i 0) (fun k => v (ix4 n (key 1 k) h d)) fun k => v (ix4 n (key 0 k) h d) := by
  unfold weighed
  refine (shapeCast_apply _ _ _ (ix4 n i h d) ?_).trans ((transpose_apply _ _ _ _ (ix4 n h d i) fun b => ?_).trans ((product_values _ _ n h d i).trans ?_))
  · rw [Shape.rowMajor_val_four, Shape.rowMajor_val_two]
    show ((n.val * 128 + i.val) * 8 + h.val) * 64 + d.val = (128 * n.val + i.val) * 512 + (64 * h.val + d.val)
    omega
  · match b with | ⟨0, _⟩ => rfl | ⟨1, _⟩ => rfl | ⟨2, _⟩ => rfl | ⟨3, _⟩ => rfl
  rw [sum_keys]
  have each : ∀ (c : Fin 2) (k : Fin 128),
      (v (ix4 n (key c k) h d) : EReal) * Host.divf (exped s) (broadcastInDim S16x8x128x256 ![0, 1, 2, 3] bcast_S16x8x128x1_S16x8x128x256_0_1_2_3 (summed s)) (ix4 n h i (key c k))
        = Ideal.div (Ideal.exp (half s n h i c k - top (half s n h i 1) (half s n h i 0))) (den (half s n h i 1) (half s n h i 0)) * v (ix4 n (key c k) h d) :=
    fun c k => by
      rw [mul_comm]
      refine congrArg (· * (v (ix4 n (key c k) h d) : EReal)) (congrArg₂ Ideal.div (exped_at s n h i c k) ?_)
      exact (along_keys _ n h i _).trans (summed_at s n h i)
  exact congrArg₂ (· + ·) (Finset.sum_congr rfl fun k _ => each 1 k) (Finset.sum_congr rfl fun k _ => each 0 k)

end Softmax

end Reference

end Cert.Attend

end
-- ==== Proof.Attention0.lean ====
/-
Attention over rows next to each other: both results, entry by entry.
-/
module

public import proofs.«01_k».proof.Defs
public import proofs.«01_k».proof.Proof.Gen.Attention0.Frame
public import proofs.«01_k».proof.Proof.AttentionTile
public import proofs.«01_k».proof.Proof.AttendHost
public import Idealize.ShloMosaic.Lib.Quiescent

@[expose] public section

noncomputable section

namespace Cert.AttentionNear

open Idealize.ShloMosaic Idealize.SL.Sem Idealize.ShloMosaic.ValueIdx Idealize.ShloMosaic.TcCoe Cert.Entries Cert.Attend

/-- Column `c` of the queries, of the keys or of the values. -/
def place (j : Fin 3) (c : Fin 512) : Fin 4608 := ⟨512 * j.val + c.val, by have := j.isLt; have := c.isLt; omega⟩

/-- The block before. -/
def prev (n : Fin 16) : Fin 16 := ⟨n.val - 1, by have := n.isLt; omega⟩

section Formulas

variable (P : FVec Ideal ⟨2, ![2048, 4608]⟩ .f32) (B : FVec Ideal Bias .f32) (n : Fin 16) (h : Fin 8) (i : Fin 128)

/-- A query's scores of the keys of its own block, and of the block before. -/
def ownScores : Fin 128 → EReal :=
  own (fun d => P (ix2 (row n i) (place 0 (col h d)))) (fun k d => P (ix2 (row n k) (place 1 (col h d)))) (fun k => B (ix3 h i (key 1 k))) i
def beforeScores : Fin 128 → EReal :=
  before (0 < n.val) (fun d => P (ix2 (row n i) (place 0 (col h d)))) (fun k d => P (ix2 (row (prev n) k) (place 1 (col h d))))
    (fun k => B (ix3 h i (key 0 k))) i

/-- The logarithm of the sum of the exponentials of a query's scores. -/
def logged : EReal := lse (ownScores P B n h i) (beforeScores P B n h i)

/-- The values weighed by the softmax of a query's scores. -/
def mixed (d : Fin 64) : EReal :=
  mix (ownScores P B n h i) (beforeScores P B n h i) (fun k => P (ix2 (row n k) (place 2 (col h d)))) fun k => P (ix2 (row (prev n) k) (place 2 (col h d)))

end Formulas

section Kernel

open Cert.Attention0Ideal Cert.Attention0Ideal.Gen

/-- Which blocks a grid point holds. -/
theorem windows : ∀ t : Fin cfg0.N,
    (win0_0.index t 0 = t.val ∧ win0_0.index t 1 = 0) ∧ (win0_1.index t 0 = t.val ∧ win0_1.index t 1 = 1)
      ∧ (win0_2.index t 0 = t.val - 1 ∧ win0_2.index t 1 = 1) ∧ (win0_3.index t 0 = t.val ∧ win0_3.index t 1 = 2)
      ∧ (win0_4.index t 0 = t.val - 1 ∧ win0_4.index t 1 = 2)
      ∧ (win0_5.index t 0 = 0 ∧ win0_5.index t 1 = 0 ∧ win0_5.index t 2 = 0)
      ∧ (win0_6.index t 0 = t.val ∧ win0_6.index t 1 = 0)
      ∧ (win0_7.index t 0 = 0 ∧ win0_7.index t 1 = t.val ∧ win0_7.index t 2 = 0) :=
  (by decide +kernel : ∀ t : Fin grid0.N, _)

section Blocks

variable (m : (ℓ : Loc nD τ sig) → Buf (Elt Ideal) ℓ) (c : Dev nD) (t : Fin cfg0.N) (n : Fin 16) (hn : t.val = n.val)

include hn

/-- Row `p` of a block of queries, of keys or of values is row `128 n + p` of the array. -/
theorem rows0 (p : Fin 128) (j : Fin 512) : ((cfg0.win 0).blk t).view.emb (ix2 p j : S128x512.Idx) = ix2 (row n p) (place 0 j) := by
  have e0 : win0_0.index t 0 = t.val := (windows t).1.1
  have e1 : win0_0.index t 1 = 0 := (windows t).1.2
  funext a; apply Fin.ext
  match a with
  | ⟨0, _⟩ => show win0_0.index t 0 * 128 + 1 * p.val = 128 * n.val + p.val; omega
  | ⟨1, _⟩ => show win0_0.index t 1 * 512 + 1 * j.val = 512 * 0 + j.val; omega

theorem rows1 (p : Fin 128) (j : Fin 512) : ((cfg0.win 1).blk t).view.emb (ix2 p j : S128x512.Idx) = ix2 (row n p) (place 1 j) := by
  have e0 : win0_1.index t 0 = t.val := (windows t).2.1.1
  have e1 : win0_1.index t 1 = 1 := (windows t).2.1.2
  funext a; apply Fin.ext
  match a with
  | ⟨0, _⟩ => show win0_1.index t 0 * 128 + 1 * p.val = 128 * n.val + p.val; omega
  | ⟨1, _⟩ => show win0_1.index t 1 * 512 + 1 * j.val = 512 * 1 + j.val; omega

theorem rows2 (p : Fin 128) (j : Fin 512) : ((cfg0.win 2).blk t).view.emb (ix2 p j : S128x512.Idx) = ix2 (row (prev n) p) (place 1 j) := by
  have e0 : win0_2.index t 0 = t.val - 1 := (windows t).2.2.1.1
  have e1 : win0_2.index t 1 = 1 := (windows t).2.2.1.2
  funext a; apply Fin.ext
  match a with
  | ⟨0, _⟩ => show win0_2.index t 0 * 128 + 1 * p.val = 128 * (n.val - 1) + p.val; omega
  | ⟨1, _⟩ => show win0_2.index t 1 * 512 + 1 * j.val = 512 * 1 + j.val; omega

theorem rows3 (p : Fin 128) (j : Fin 512) : ((cfg0.win 3).blk t).view.emb (ix2 p j : S128x512.Idx) = ix2 (row n p) (place 2 j) := by
  have e0 : win0_3.index t 0 = t.val := (windows t).2.2.2.1.1
  have e1 : win0_3.index t 1 = 2 := (windows t).2.2.2.1.2
  funext a; apply Fin.ext
  match a with
  | ⟨0, _⟩ => show win0_3.index t 0 * 128 + 1 * p.val = 128 * n.val + p.val; omega
  | ⟨1, _⟩ => show win0_3.index t 1 * 512 + 1 * j.val = 512 * 2 + j.val; omega

theorem rows4 (p : Fin 128) (j : Fin 512) : ((cfg0.win 4).blk t).view.emb (ix2 p j : S128x512.Idx) = ix2 (row (prev n) p) (place 2 j) := by
  have e0 : win0_4.index t 0 = t.val - 1 := (windows t).2.2.2.2.1.1
  have e1 : win0_4.index t 1 = 2 := (windows t).2.2.2.2.1.2
  funext a; apply Fin.ext
  match a with
  | ⟨0, _⟩ => show win0_4.index t 0 * 128 + 1 * p.val = 128 * (n.val - 1) + p.val; omega
  | ⟨1, _⟩ => show win0_4.index t 1 * 512 + 1 * j.val = 512 * 2 + j.val; omega

omit hn in
theorem rows5 (h : Fin 8) (p : Fin 128) (k : Fin 256) : ((cfg0.win 5).blk t).view.emb (ix3 h p k : S8x128x256.Idx) = ix3 h p k := by
  have e0 : win0_5.index t 0 = 0 := (windows t).2.2.2.2.2.1.1
  have e1 : win0_5.index t 1 = 0 := (windows t).2.2.2.2.2.1.2.1
  have e2 : win0_5.index t 2 = 0 := (windows t).2.2.2.2.2.1.2.2
  funext a; apply Fin.ext
  match a with
  | ⟨0, _⟩ => show win0_5.index t 0 * 8 + 1 * h.val = h.val; omega
  | ⟨1, _⟩ => show win0_5.index t 1 * 128 + 1 * p.val = p.val; omega
  | ⟨2, _⟩ => show win0_5.index t 2 * 256 + 1 * k.val = k.val; omega

theorem rows6 (p : Fin 128) (j : Fin 512) : ((cfg0.win 6).blk t).view.emb (ix2 p j : S128x512.Idx) = ix2 (row n p) j := by
  have e0 : win0_6.index t 0 = t.val := (windows t).2.2.2.2.2.2.1.1
  have e1 : win0_6.index t 1 = 0 := (windows t).2.2.2.2.2.2.1.2
  funext a; apply Fin.ext
  match a with
  | ⟨0, _⟩ => show win0_6.index t 0 * 128 + 1 * p.val = 128 * n.val + p.val; omega
  | ⟨1, _⟩ => show win0_6.index t 1 * 512 + 1 * j.val = j.val; omega

theorem rows7 (h : Fin 8) (p l : Fin 128) : ((cfg0.win 7).blk t).view.emb (ix3 h p l : S8x128x128.Idx) = ix3 h (row n p) l := by
  have e0 : win0_7.index t 0 = 0 := (windows t).2.2.2.2.2.2.2.1
  have e1 : win0_7.index t 1 = t.val := (windows t).2.2.2.2.2.2.2.2.1
  have e2 : win0_7.index t 2 = 0 := (windows t).2.2.2.2.2.2.2.2.2
  funext a; apply Fin.ext
  match a with
  | ⟨0, _⟩ => show win0_7.index t 0 * 8 + 1 * h.val = h.val; omega
  | ⟨1, _⟩ => show win0_7.index t 1 * 128 + 1 * p.val = 128 * n.val + p.val; omega
  | ⟨2, _⟩ => show win0_7.index t 2 * 128 + 1 * l.val = l.val; omega

/-- The scores of a grid point's blocks are those of the arrays. -/
theorem block_own (h : Fin 8) (i : Fin 128) :
    ownRow (iblk m c 0 t) (iblk m c 1 t) (iblk m c 5 t) h i
      = ownScores (m ((c : Thread nD τ).loc main_arg0)) (m ((c : Thread nD τ).loc main_arg1)) n h i := by
  have q : (fun d => iblk m c 0 t (ix2 i (col h d) : S128x512.Idx)) = fun d => m ((c : Thread nD τ).loc main_arg0) (ix2 (row n i) (place 0 (col h d))) :=
    funext fun d => congrArg (m ((c : Thread nD τ).loc main_arg0)) (rows0 t n hn i _)
  have k : (fun k d => iblk m c 1 t (ix2 k (col h d) : S128x512.Idx)) = fun k d => m ((c : Thread nD τ).loc main_arg0) (ix2 (row n k) (place 1 (col h d))) :=
    funext fun k => funext fun d => congrArg (m ((c : Thread nD τ).loc main_arg0)) (rows1 t n hn k _)
  have b : (fun k => iblk m c 5 t (ix3 h i (key 1 k) : S8x128x256.Idx)) = fun k => m ((c : Thread nD τ).loc main_arg1) (ix3 h i (key 1 k)) :=
    funext fun k => congrArg (m ((c : Thread nD τ).loc main_arg1)) (rows5 t h i _)
  unfold ownRow ownScores
  rw [← q, ← k, ← b]

theorem block_before (h : Fin 8) (i : Fin 128) :
    beforeRow (iblk m c 0 t) (iblk m c 2 t) (iblk m c 5 t) (0 < n.val) h i
      = beforeScores (m ((c : Thread nD τ).loc main_arg0)) (m ((c : Thread nD τ).loc main_arg1)) n h i := by
  have q : (fun d => iblk m c 0 t (ix2 i (col h d) : S128x512.Idx)) = fun d => m ((c : Thread nD τ).loc main_arg0) (ix2 (row n i) (place 0 (col h d))) :=
    funext fun d => congrArg (m ((c : Thread nD τ).loc main_arg0)) (rows0 t n hn i _)
  have k : (fun k d => iblk m c 2 t (ix2 k (col h d) : S128x512.Idx)) = fun k d => m ((c : Thread nD τ).loc main_arg0) (ix2 (row (prev n) k) (place 1 (col h d))) :=
    funext fun k => funext fun d => congrArg (m ((c : Thread nD τ).loc main_arg0)) (rows2 t n hn k _)
  have b : (fun k => iblk m c 5 t (ix3 h i (key 0 k) : S8x128x256.Idx)) = fun k => m ((c : Thread nD τ).loc main_arg1) (ix3 h i (key 0 k)) :=
    funext fun k => congrArg (m ((c : Thread nD τ).loc main_arg1)) (rows5 t h i _)
  unfold beforeRow beforeScores
  rw [← q, ← k, ← b]

end Blocks

variable (m : (ℓ : Loc nD τ sig) → Buf (Elt Ideal) ℓ) (c : Dev nD) (n : Fin 16) (h : Fin 8) (i : Fin 128)

/-- What the kernel leaves in its second result. -/
theorem left_logged (l : Fin 128) :
    (dats m 0 c).arrAt 7 cfg0.N (ix3 h (row n i) l)
      = logged (m ((c : Thread nD τ).loc main_arg0)) (m ((c : Thread nD τ).loc main_arg1)) n h i := by
  obtain ⟨t, hn⟩ : ∃ t : Fin cfg0.N, t.val = n.val := ⟨⟨n.val, (n.isLt : n.val < 16)⟩, rfl⟩
  have e := congrFun (Value.blocks7 m c t (flush0_7 t)) (ix3 h i l : S8x128x128.Idx)
  refine (congrArg _ (rows7 t n hn h i l).symm).trans (e.trans ((congrFun (Value.flushed7 m c t) _).trans ?_))
  show out0_7 (grid0.coords t) (iblk m c 0 t) (iblk m c 1 t) (iblk m c 2 t) (iblk m c 3 t) (iblk m c 4 t) (iblk m c 5 t) (ix3 h i l) = _
  refine (leaves_lse_at _ _ _ _ _ _ _ (later := 0 < n.val) (fun a b => by rw [before_bit, hn]) h i l).trans ?_
  rw [block_own m c t n hn, block_before m c t n hn, logged]

/-- What the kernel leaves in its first. -/
theorem left_mixed (d : Fin 64) :
    (dats m 0 c).arrAt 6 cfg0.N (ix2 (row n i) (col h d))
      = mixed (m ((c : Thread nD τ).loc main_arg0)) (m ((c : Thread nD τ).loc main_arg1)) n h i d := by
  obtain ⟨t, hn⟩ : ∃ t : Fin cfg0.N, t.val = n.val := ⟨⟨n.val, (n.isLt : n.val < 16)⟩, rfl⟩
  have e := congrFun (Value.blocks6 m c t (flush0_6 t)) (ix2 i (col h d) : S128x512.Idx)
  refine (congrArg _ (rows6 t n hn i (col h d)).symm).trans (e.trans ((congrFun (Value.flushed6 m c t) _).trans ?_))
  show out0_6 (grid0.coords t) (iblk m c 0 t) (iblk m c 1 t) (iblk m c 2 t) (iblk m c 3 t) (iblk m c 4 t) (iblk m c 5 t) (ix2 i (col h d)) = _
  refine (leaves_mix_at _ _ _ _ _ _ _ (later := 0 < n.val) (fun a b => by rw [before_bit, hn]) h i d).trans ?_
  have v : (fun k => iblk m c 3 t (ix2 k (col h d) : S128x512.Idx)) = fun k => m ((c : Thread nD τ).loc main_arg0) (ix2 (row n k) (place 2 (col h d))) :=
    funext fun k => congrArg (m ((c : Thread nD τ).loc main_arg0)) (rows3 t n hn k _)
  have w : (fun k => iblk m c 4 t (ix2 k (col h d) : S128x512.Idx)) = fun k => m ((c : Thread nD τ).loc main_arg0) (ix2 (row (prev n) k) (place 2 (col h d))) :=
    funext fun k => congrArg (m ((c : Thread nD τ).loc main_arg0)) (rows4 t n hn k _)
  rw [block_own m c t n hn, block_before m c t n hn, mixed, ← v, ← w]

end Kernel

section Reference

open Cert.Attention0ReferenceIdeal Cert.Attention0ReferenceIdeal.Gen

/-- The columns of the queries, of the keys or of the values, block by block and head by head. -/
def part0 (P : FVec Ideal S2048x4608 .f32) : FVec Ideal S16x128x8x64 .f32 :=
  heads (extractStridedSlice S2048x512 ![0, 0] P slices_S2048x4608_S2048x512_0_0)
def part1 (P : FVec Ideal S2048x4608 .f32) : FVec Ideal S16x128x8x64 .f32 :=
  heads (extractStridedSlice S2048x512 ![0, 512] P slices_S2048x4608_S2048x512_0_512)
def part2 (P : FVec Ideal S2048x4608 .f32) : FVec Ideal S16x128x8x64 .f32 :=
  heads (extractStridedSlice S2048x512 ![0, 1024] P slices_S2048x4608_S2048x512_0_1024)

variable (P : FVec Ideal S2048x4608 .f32) (B : FVec Ideal S8x128x256 .f32) (n : Fin 16) (h : Fin 8) (i : Fin 128)

theorem part0_apply (d : Fin 64) : part0 P (ix4 n i h d) = P (ix2 (row n i) (place 0 (col h d))) :=
  (heads_apply _ n i h d).trans (extractStridedSlice_apply _ _ _ _ (ix2 (row n i) (place 0 (col h d))) fun a => by
    match a with
    | ⟨0, _⟩ => exact (Nat.zero_add _).symm
    | ⟨1, _⟩ => rfl)

theorem part1_apply (d : Fin 64) : part1 P (ix4 n i h d) = P (ix2 (row n i) (place 1 (col h d))) :=
  (heads_apply _ n i h d).trans (extractStridedSlice_apply _ _ _ _ (ix2 (row n i) (place 1 (col h d))) fun a => by
    match a with
    | ⟨0, _⟩ => exact (Nat.zero_add _).symm
    | ⟨1, _⟩ => rfl)

theorem part2_apply (d : Fin 64) : part2 P (ix4 n i h d) = P (ix2 (row n i) (place 2 (col h d))) :=
  (heads_apply _ n i h d).trans (extractStridedSlice_apply _ _ _ _ (ix2 (row n i) (place 2 (col h d))) fun a => by
    match a with
    | ⟨0, _⟩ => exact (Nat.zero_add _).symm
    | ⟨1, _⟩ => rfl)

/-- All scores. -/
def all : FVec Ideal S16x8x128x256 .f32 := scored (part0 P) (pairs (part1 P)) B

theorem half_own : half (all P B) n h i 1 = ownScores P B n h i := by
  funext k
  refine (scored_apply _ _ _ n h i (key 1 k)).trans ?_
  simp only [pairs_own, part0_apply, part1_apply]
  exact if_congr (seen_own n h i k) rfl rfl

theorem half_before : half (all P B) n h i 0 = beforeScores P B n h i := by
  funext k
  refine (scored_apply _ _ _ n h i (key 0 k)).trans ?_
  by_cases first : 0 < n.val
  · have hp : n.val = (prev n).val + 1 := by show n.val = n.val - 1 + 1; omega
    simp only [pairs_before _ n (prev n) hp, part0_apply, part1_apply]
    exact if_congr (seen_before n h i k) rfl rfl
  · unfold beforeScores before
    rw [if_neg (fun x => first ((seen_before n h i k).mp x).2), if_neg (fun x => first x.2)]

theorem written_logged (l : Fin 128) : logs (all P B) (ix3 h (row n i) l) = logged P B n h i := by
  rw [logs_at, half_own, half_before, logged]

theorem written_mixed (d : Fin 64) : weighed (pairs (part2 P)) (all P B) (ix2 (row n i) (col h d)) = mixed P B n h i d := by
  rw [weighed_at, half_own, half_before, mixed]
  simp only [pairs_own, part2_apply]
  by_cases first : 0 < n.val
  · have hp : n.val = (prev n).val + 1 := by show n.val = n.val - 1 + 1; omega
    simp only [pairs_before _ n (prev n) hp, part2_apply]
  · have none : beforeScores P B n h i = fun _ => ⊥ := funext fun k => if_neg fun x => first x.2
    have same : prev n = n := Fin.ext (by show n.val - 1 = n.val; omega)
    simp only [pairs_first _ n (by omega), none, same]
    exact (mix_first _ _).symm

theorem row_surjective (r : Fin 2048) : ∃ (n : Fin 16) (i : Fin 128), r = row n i := by
  have := r.isLt
  refine ⟨⟨r.val / 128, by omega⟩, ⟨r.val % 128, by omega⟩, Fin.ext ?_⟩
  show r.val = 128 * (r.val / 128) + r.val % 128; omega

theorem col_surjective (j : Fin 512) : ∃ (h : Fin 8) (d : Fin 64), j = col h d := by
  have := j.isLt
  refine ⟨⟨j.val / 64, by omega⟩, ⟨j.val % 64, by omega⟩, Fin.ext ?_⟩
  show j.val = 64 * (j.val / 64) + j.val % 64; omega

theorem result_logs (m : (ℓ : Loc nD τ sig) → Buf (Elt Ideal) ℓ) (c : Dev nD) :
    Cert.Attention0ReferenceIdeal.Value.res_out1 m c = logs (all (m ((c.tc : Thread nD τ).loc main_arg0)) (m ((c.tc : Thread nD τ).loc main_arg1))) := rfl

theorem result_mix (m : (ℓ : Loc nD τ sig) → Buf (Elt Ideal) ℓ) (c : Dev nD) :
    Cert.Attention0ReferenceIdeal.Value.res_out0 m c
      = weighed (pairs (part2 (m ((c.tc : Thread nD τ).loc main_arg0)))) (all (m ((c.tc : Thread nD τ).loc main_arg0)) (m ((c.tc : Thread nD τ).loc main_arg1))) := rfl

end Reference

theorem frame : quiescent_Attention0 := fun m g _ => Cert.Attention0.Gen.frame m g

theorem frame_ideal : quiescent_Attention0Ideal := fun m g _ => Cert.Attention0Ideal.Gen.frame m g

theorem reference_frame : quiescent_Attention0ReferenceIdeal := fun m g _ =>
  (θ_run Cert.Attention0ReferenceIdeal.defs _ _).mono (fun r h => ⟨fun c => (h c).2.2, sem_eq_zero_of_no_sems rfl r.2⟩)
    (Cert.Attention0ReferenceIdeal.Value.run (F := Ideal) m g)

theorem preserves : preserves_Attention0_Attention0Ideal :=
  IdealRules.named_const.statement Cert.Attention0Ideal.κ "mask" .f32 0xF149F2CA#32 (⊥ : EReal) rfl

theorem value : algebraic_Attention0Ideal_Attention0ReferenceIdeal := fun m g m' g' _ hm =>
  ⟨_, _, Cert.Attention0Ideal.Value.run_blocks (F := Ideal) m g,
    (θ_run Cert.Attention0ReferenceIdeal.defs _ _).mono
      (fun r h c => by
        obtain ⟨rows, biases⟩ := hm c
        refine ⟨(h c).1.trans ((result_mix m' c).trans ?_), (h c).2.1.trans ((result_logs m' c).trans ?_), (h c).2.2⟩
        · funext a
          obtain ⟨r, j, rfl⟩ : ∃ (r : Fin 2048) (j : Fin 512), a = ix2 r j := ⟨a 0, a 1, eq_ix2 a⟩
          obtain ⟨n, i, rfl⟩ := row_surjective r
          obtain ⟨k, d, rfl⟩ := col_surjective j
          rw [left_mixed m c n k i d, ← rows, ← biases]
          exact written_mixed _ _ n k i d
        · funext a
          obtain ⟨k, r, l, rfl⟩ : ∃ (k : Fin 8) (r : Fin 2048) (l : Fin 128), a = ix3 k r l := ⟨a 0, a 1, a 2, eq_ix3 a⟩
          obtain ⟨n, i, rfl⟩ := row_surjective r
          rw [left_logged m c n k i l, ← rows, ← biases]
          exact written_logged _ _ n k i l)
      (Cert.Attention0ReferenceIdeal.Value.run (F := Ideal) m' g')⟩

end Cert.AttentionNear

end
-- ==== Proof.lean ====
/-
The claims. A program's run says of any float values what its sources and results are at the end; the frames and the values are
read off it.
-/
module

public import proofs.«01_k».proof.Defs
public import proofs.«01_k».proof.Proof.Gen.SumChipsIdeal
public import proofs.«01_k».proof.Proof.Gen.SumChipsIdeal.Skeleton
public import proofs.«01_k».proof.Proof.Gen.SumChipsIdeal.Launch
public import proofs.«01_k».proof.Proof.Gen.SumChipsIdeal.Points
public import proofs.«01_k».proof.Proof.Gen.SumChips
public import proofs.«01_k».proof.Proof.Gen.SumChipsReferenceIdeal
public import proofs.«01_k».proof.Proof.Gen.SumChipsReferenceIdeal.Run
public import proofs.«01_k».proof.Proof.Gen.SumChipsReference
public import proofs.«01_k».proof.Proof.Gen.SumCoresIdeal
public import proofs.«01_k».proof.Proof.Gen.SumCoresIdeal.Skeleton
public import proofs.«01_k».proof.Proof.Gen.SumCoresIdeal.Launch
public import proofs.«01_k».proof.Proof.Gen.SumCoresIdeal.Points
public import proofs.«01_k».proof.Proof.Gen.SumCores
public import proofs.«01_k».proof.Proof.Gen.SumCoresReferenceIdeal
public import proofs.«01_k».proof.Proof.Gen.SumCoresReferenceIdeal.Run
public import proofs.«01_k».proof.Proof.Gen.SumCoresReference
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmall
public import proofs.«01_k».proof.Proof.Gen.SumSmallReferenceIdeal
public import proofs.«01_k».proof.Proof.Gen.SumSmallReferenceIdeal.Run
public import proofs.«01_k».proof.Proof.Gen.SumSmallReference
public import proofs.«01_k».proof.Proof.Gen.GatherBigIdeal
public import proofs.«01_k».proof.Proof.Gen.GatherBigIdeal.Skeleton
public import proofs.«01_k».proof.Proof.Gen.GatherBigIdeal.Launch
public import proofs.«01_k».proof.Proof.Gen.GatherBigIdeal.Points
public import proofs.«01_k».proof.Proof.Gen.GatherBig
public import proofs.«01_k».proof.Proof.Gen.GatherBigReferenceIdeal
public import proofs.«01_k».proof.Proof.Gen.GatherBigReference
public import proofs.«01_k».proof.Proof.Gen.GatherSmallIdeal
public import proofs.«01_k».proof.Proof.Gen.GatherSmallIdeal.Skeleton
public import proofs.«01_k».proof.Proof.Gen.GatherSmallIdeal.Launch
public import proofs.«01_k».proof.Proof.Gen.GatherSmallIdeal.Points
public import proofs.«01_k».proof.Proof.Gen.GatherSmall
public import proofs.«01_k».proof.Proof.Gen.GatherSmallReferenceIdeal
public import proofs.«01_k».proof.Proof.Gen.GatherSmallReference
public import proofs.«01_k».proof.Proof.Gen.GatherCIdeal
public import proofs.«01_k».proof.Proof.Gen.GatherCIdeal.Skeleton
public import proofs.«01_k».proof.Proof.Gen.GatherCIdeal.Launch
public import proofs.«01_k».proof.Proof.Gen.GatherCIdeal.Points
public import proofs.«01_k».proof.Proof.Gen.GatherC
public import proofs.«01_k».proof.Proof.Gen.GatherCReferenceIdeal
public import proofs.«01_k».proof.Proof.Gen.GatherCReference
public import proofs.«01_k».proof.Proof.Totals
public import proofs.«01_k».proof.Proof.Wholes
public import proofs.«01_k».proof.Proof.Updates
public import proofs.«01_k».proof.Proof.AdaFwd
public import proofs.«01_k».proof.Proof.AdaGrad
public import proofs.«01_k».proof.Proof.Pointwise
public import proofs.«01_k».proof.Proof.LnMix
public import proofs.«01_k».proof.Proof.Linear
public import proofs.«01_k».proof.Proof.LinearBack
public import proofs.«01_k».proof.Proof.LnLoss
public import proofs.«01_k».proof.Proof.Attention0
public import Idealize.ShloMosaic.Adequacy
public import Idealize.ShloMosaic.Init

@[expose] public section

noncomputable section

namespace Cert.Proof

open Idealize.ShloMosaic Idealize.SL.Sem Cert Cert.Exchange Cert.Update

/-! ## The gradients summed over the chips -/

/-- The two printed texts' bodies are the same at either pallas_call. -/
theorem chips_bodies : Cert.SumChips.defs₀ (F := Bits) = Cert.SumChipsIdeal.defs₀ (F := Bits) := by
  refine congrArg Defs.onTc (funext fun p => ?_)
  match p with
  | 0 => rfl
  | 1 => rfl

theorem chips_defs : Cert.SumChips.defs (F := Bits) = Cert.SumChipsIdeal.defs (F := Bits) :=
  congrArg (Pipeline.defs Cert.SumChipsIdeal.pcfgs) chips_bodies

theorem chips_frame : quiescent_SumChips := fun m g _ => by
  rw [chips_defs]
  exact (θ_run Cert.SumChipsIdeal.defs _ _).mono (fun _ h => ⟨fun c => (h.1 c).1, h.2⟩) (Chips.run_main (F := Bits) m g)

theorem chips_frame_ideal : quiescent_SumChipsIdeal := fun m g _ =>
  (θ_run Cert.SumChipsIdeal.defs _ _).mono (fun _ h => ⟨fun c => (h.1 c).1, h.2⟩) (Chips.run_main (F := Ideal) m g)

theorem chips_reference_frame : quiescent_SumChipsReferenceIdeal := fun m g _ =>
  (θ_run Cert.SumChipsReferenceIdeal.defs _ _).mono (fun r h => ⟨fun c => (h c).2, sem_eq_zero_of_no_sems rfl r.2⟩) (Chips.run_reference (F := Ideal) m g)

theorem chips_reference_frame_bits : quiescent_SumChipsReference := fun m g _ =>
  (θ_run Cert.SumChipsReferenceIdeal.defs _ _).mono (fun r h => ⟨fun c => (h c).2, sem_eq_zero_of_no_sems rfl r.2⟩) (Chips.run_reference (F := Bits) m g)

theorem chips_value : algebraic_SumChipsIdeal_SumChipsReferenceIdeal := fun m g m' g' _ hm =>
  ⟨_, (θ_run Cert.SumChipsIdeal.defs _ _).mono (fun _ h c => ⟨(h.1 c).2.trans (Chips.result_block _ _ (by decide) hm (by decide) c), (h.1 c).1⟩) (Chips.run_main (F := Ideal) m g),
    (θ_run Cert.SumChipsReferenceIdeal.defs _ _).mono (fun _ h => h 0) (Chips.run_reference (F := Ideal) m' g')⟩

theorem chips_bits : bitexact_SumChips_SumChipsReference := fun m g m' g' _ hm =>
  ⟨_, by rw [chips_defs]; exact (θ_run Cert.SumChipsIdeal.defs _ _).mono (fun _ h c => ⟨(h.1 c).2.trans (Chips.result_block _ _ (by decide) hm (by decide) c), (h.1 c).1⟩) (Chips.run_main (F := Bits) m g),
    (θ_run Cert.SumChipsReferenceIdeal.defs _ _).mono (fun _ h => h 0) (Chips.run_reference (F := Bits) m' g')⟩

/-! ## The gradients summed over the cores of every chip -/

theorem cell : ∀ c : Fin 8, ((Layout.meshBlock [2, 2, 2] ![[0, 1], []] c) 0).val = c.val / 2 := by decide

theorem edge : ∀ c : Fin 8, ((Layout.meshBlock [2, 2, 2] ![[0, 1], []] c) 1).val = 0 := by decide

/-- The two printed texts' bodies are the same at either pallas_call. -/
theorem cores_bodies : Cert.SumCores.defs₀ (F := Bits) = Cert.SumCoresIdeal.defs₀ (F := Bits) := by
  refine congrArg Defs.onTc (funext fun p => ?_)
  match p with
  | 0 => rfl
  | 1 => rfl

theorem cores_defs : Cert.SumCores.defs (F := Bits) = Cert.SumCoresIdeal.defs (F := Bits) :=
  congrArg (Pipeline.defs Cert.SumCoresIdeal.pcfgs) cores_bodies

theorem cores_frame : quiescent_SumCores := fun m g _ => by
  rw [cores_defs]
  exact (θ_run Cert.SumCoresIdeal.defs _ _).mono (fun _ h => ⟨fun c => (h.1 c).1, h.2⟩) (Cores.run_main (F := Bits) m g)

theorem cores_frame_ideal : quiescent_SumCoresIdeal := fun m g _ =>
  (θ_run Cert.SumCoresIdeal.defs _ _).mono (fun _ h => ⟨fun c => (h.1 c).1, h.2⟩) (Cores.run_main (F := Ideal) m g)

theorem cores_reference_frame : quiescent_SumCoresReferenceIdeal := fun m g _ =>
  (θ_run Cert.SumCoresReferenceIdeal.defs _ _).mono (fun r h => ⟨fun c => (h c).2, sem_eq_zero_of_no_sems rfl r.2⟩) (Cores.run_reference (F := Ideal) m g)

theorem cores_reference_frame_bits : quiescent_SumCoresReference := fun m g _ =>
  (θ_run Cert.SumCoresReferenceIdeal.defs _ _).mono (fun r h => ⟨fun c => (h c).2, sem_eq_zero_of_no_sems rfl r.2⟩) (Cores.run_reference (F := Bits) m g)

theorem cores_value : algebraic_SumCoresIdeal_SumCoresReferenceIdeal := fun m g m' g' _ hm =>
  ⟨_, (θ_run Cert.SumCoresIdeal.defs _ _).mono (fun _ h c => ⟨(h.1 c).2.trans (Cores.result_block _ _ (by decide) hm _ (by decide) c (cell c) (edge c)), (h.1 c).1⟩) (Cores.run_main (F := Ideal) m g),
    (θ_run Cert.SumCoresReferenceIdeal.defs _ _).mono (fun _ h => h 0) (Cores.run_reference (F := Ideal) m' g')⟩

theorem cores_bits : bitexact_SumCores_SumCoresReference := fun m g m' g' _ hm =>
  ⟨_, by rw [cores_defs]; exact (θ_run Cert.SumCoresIdeal.defs _ _).mono (fun _ h c => ⟨(h.1 c).2.trans (Cores.result_block _ _ (by decide) hm _ (by decide) c (cell c) (edge c)), (h.1 c).1⟩) (Cores.run_main (F := Bits) m g),
    (θ_run Cert.SumCoresReferenceIdeal.defs _ _).mono (fun _ h => h 0) (Cores.run_reference (F := Bits) m' g')⟩

/-! ## The small gradients summed over the devices -/

/-- The two printed texts' bodies are the same at either pallas_call. -/
theorem devices_bodies : Cert.SumSmall.defs₀ (F := Bits) = Cert.SumSmallIdeal.defs₀ (F := Bits) := by
  refine congrArg Defs.onTc (funext fun p => ?_)
  match p with
  | 0 => rfl
  | 1 => rfl

theorem devices_defs : Cert.SumSmall.defs (F := Bits) = Cert.SumSmallIdeal.defs (F := Bits) :=
  congrArg (Pipeline.defs Cert.SumSmallIdeal.pcfgs) devices_bodies

theorem devices_frame : quiescent_SumSmall := fun m g _ => by
  rw [devices_defs]
  exact (θ_run Cert.SumSmallIdeal.defs _ _).mono (fun _ h => ⟨fun c => (h.1 c).1, h.2⟩) (Devices.run_main (F := Bits) m g)

theorem devices_frame_ideal : quiescent_SumSmallIdeal := fun m g _ =>
  (θ_run Cert.SumSmallIdeal.defs _ _).mono (fun _ h => ⟨fun c => (h.1 c).1, h.2⟩) (Devices.run_main (F := Ideal) m g)

theorem devices_reference_frame : quiescent_SumSmallReferenceIdeal := fun m g _ =>
  (θ_run Cert.SumSmallReferenceIdeal.defs _ _).mono (fun r h => ⟨fun c => (h c).2, sem_eq_zero_of_no_sems rfl r.2⟩) (Devices.run_reference (F := Ideal) m g)

theorem devices_reference_frame_bits : quiescent_SumSmallReference := fun m g _ =>
  (θ_run Cert.SumSmallReferenceIdeal.defs _ _).mono (fun r h => ⟨fun c => (h c).2, sem_eq_zero_of_no_sems rfl r.2⟩) (Devices.run_reference (F := Bits) m g)

theorem devices_value : algebraic_SumSmallIdeal_SumSmallReferenceIdeal := fun m g m' g' _ hm =>
  ⟨_, (θ_run Cert.SumSmallIdeal.defs _ _).mono (fun _ h c => ⟨(h.1 c).2.trans (Devices.result_whole _ _ (by decide) hm c), (h.1 c).1⟩) (Devices.run_main (F := Ideal) m g),
    (θ_run Cert.SumSmallReferenceIdeal.defs _ _).mono (fun _ h => h 0) (Devices.run_reference (F := Ideal) m' g')⟩

theorem devices_bits : bitexact_SumSmall_SumSmallReference := fun m g m' g' _ hm =>
  ⟨_, by rw [devices_defs]; exact (θ_run Cert.SumSmallIdeal.defs _ _).mono (fun _ h c => ⟨(h.1 c).2.trans (Devices.result_whole _ _ (by decide) hm c), (h.1 c).1⟩) (Devices.run_main (F := Bits) m g),
    (θ_run Cert.SumSmallReferenceIdeal.defs _ _).mono (fun _ h => h 0) (Devices.run_reference (F := Bits) m' g')⟩

/-! ## The gather of the large panels -/

theorem big_frame : quiescent_GatherBig := fun m g _ =>
  (θ_run Cert.GatherBigIdeal.defs _ _).mono (fun _ h => ⟨fun c => (h.1 c).1, h.2⟩) (Big.run_main (F := Bits) m g)

theorem big_frame_ideal : quiescent_GatherBigIdeal := fun m g _ =>
  (θ_run Cert.GatherBigIdeal.defs _ _).mono (fun _ h => ⟨fun c => (h.1 c).1, h.2⟩) (Big.run_main (F := Ideal) m g)

theorem big_reference_frame : quiescent_GatherBigReferenceIdeal := fun m g _ =>
  (θ_run Cert.GatherBigReferenceIdeal.defs _ _).mono (fun r h => ⟨fun c => h c, sem_eq_zero_of_no_sems rfl r.2⟩) (Big.run_reference (F := Ideal) m g)

theorem big_reference_frame_bits : quiescent_GatherBigReference := fun m g _ =>
  (θ_run Cert.GatherBigReferenceIdeal.defs _ _).mono (fun r h => ⟨fun c => h c, sem_eq_zero_of_no_sems rfl r.2⟩) (Big.run_reference (F := Bits) m g)

theorem big_value : algebraic_GatherBigIdeal_GatherBigReferenceIdeal := fun m g m' g' _ hm =>
  ⟨_, (θ_run Cert.GatherBigIdeal.defs _ _).mono (fun _ h c => ⟨(h.1 c).2.trans (Big.result_whole _ _ hm c), (h.1 c).1⟩) (Big.run_main (F := Ideal) m g),
    (θ_run Cert.GatherBigReferenceIdeal.defs _ _).mono (fun _ h => ⟨h 0, h 0⟩) (Big.run_reference (F := Ideal) m' g')⟩

theorem big_bits : bitexact_GatherBig_GatherBigReference := fun m g m' g' _ hm =>
  ⟨_, (θ_run Cert.GatherBigIdeal.defs _ _).mono (fun _ h c => ⟨(h.1 c).2.trans (Big.result_whole _ _ hm c), (h.1 c).1⟩) (Big.run_main (F := Bits) m g),
    (θ_run Cert.GatherBigReferenceIdeal.defs _ _).mono (fun _ h => ⟨h 0, h 0⟩) (Big.run_reference (F := Bits) m' g')⟩

/-! ## The gather of the small panels -/

theorem small_frame : quiescent_GatherSmall := fun m g _ =>
  (θ_run Cert.GatherSmallIdeal.defs _ _).mono (fun _ h => ⟨fun c => (h.1 c).1, h.2⟩) (Small.run_main (F := Bits) m g)

theorem small_frame_ideal : quiescent_GatherSmallIdeal := fun m g _ =>
  (θ_run Cert.GatherSmallIdeal.defs _ _).mono (fun _ h => ⟨fun c => (h.1 c).1, h.2⟩) (Small.run_main (F := Ideal) m g)

theorem small_reference_frame : quiescent_GatherSmallReferenceIdeal := fun m g _ =>
  (θ_run Cert.GatherSmallReferenceIdeal.defs _ _).mono (fun r h => ⟨fun c => h c, sem_eq_zero_of_no_sems rfl r.2⟩) (Small.run_reference (F := Ideal) m g)

theorem small_reference_frame_bits : quiescent_GatherSmallReference := fun m g _ =>
  (θ_run Cert.GatherSmallReferenceIdeal.defs _ _).mono (fun r h => ⟨fun c => h c, sem_eq_zero_of_no_sems rfl r.2⟩) (Small.run_reference (F := Bits) m g)

theorem small_value : algebraic_GatherSmallIdeal_GatherSmallReferenceIdeal := fun m g m' g' _ hm =>
  ⟨_, (θ_run Cert.GatherSmallIdeal.defs _ _).mono (fun _ h c => ⟨(h.1 c).2.trans (Small.result_whole _ _ hm c), (h.1 c).1⟩) (Small.run_main (F := Ideal) m g),
    (θ_run Cert.GatherSmallReferenceIdeal.defs _ _).mono (fun _ h => ⟨h 0, h 0⟩) (Small.run_reference (F := Ideal) m' g')⟩

theorem small_bits : bitexact_GatherSmall_GatherSmallReference := fun m g m' g' _ hm =>
  ⟨_, (θ_run Cert.GatherSmallIdeal.defs _ _).mono (fun _ h c => ⟨(h.1 c).2.trans (Small.result_whole _ _ hm c), (h.1 c).1⟩) (Small.run_main (F := Bits) m g),
    (θ_run Cert.GatherSmallReferenceIdeal.defs _ _).mono (fun _ h => ⟨h 0, h 0⟩) (Small.run_reference (F := Bits) m' g')⟩

/-! ## The gather of the rows -/

theorem rows_frame : quiescent_GatherC := fun m g _ =>
  (θ_run Cert.GatherCIdeal.defs _ _).mono (fun _ h => ⟨fun c => (h.1 c).1, h.2⟩) (Rows.run_main (F := Bits) m g)

theorem rows_frame_ideal : quiescent_GatherCIdeal := fun m g _ =>
  (θ_run Cert.GatherCIdeal.defs _ _).mono (fun _ h => ⟨fun c => (h.1 c).1, h.2⟩) (Rows.run_main (F := Ideal) m g)

theorem rows_reference_frame : quiescent_GatherCReferenceIdeal := fun m g _ =>
  (θ_run Cert.GatherCReferenceIdeal.defs _ _).mono (fun r h => ⟨fun c => h c, sem_eq_zero_of_no_sems rfl r.2⟩) (Rows.run_reference (F := Ideal) m g)

theorem rows_reference_frame_bits : quiescent_GatherCReference := fun m g _ =>
  (θ_run Cert.GatherCReferenceIdeal.defs _ _).mono (fun r h => ⟨fun c => h c, sem_eq_zero_of_no_sems rfl r.2⟩) (Rows.run_reference (F := Bits) m g)

theorem rows_value : algebraic_GatherCIdeal_GatherCReferenceIdeal := fun m g m' g' _ hm =>
  ⟨_, (θ_run Cert.GatherCIdeal.defs _ _).mono (fun _ h c => ⟨(h.1 c).2.trans (Rows.result_whole _ _ (by decide) hm c), (h.1 c).1⟩) (Rows.run_main (F := Ideal) m g),
    (θ_run Cert.GatherCReferenceIdeal.defs _ _).mono (fun _ h => ⟨h 0, h 0⟩) (Rows.run_reference (F := Ideal) m' g')⟩

theorem rows_bits : bitexact_GatherC_GatherCReference := fun m g m' g' _ hm =>
  ⟨_, (θ_run Cert.GatherCIdeal.defs _ _).mono (fun _ h c => ⟨(h.1 c).2.trans (Rows.result_whole _ _ (by decide) hm c), (h.1 c).1⟩) (Rows.run_main (F := Bits) m g),
    (θ_run Cert.GatherCReferenceIdeal.defs _ _).mono (fun _ h => ⟨h 0, h 0⟩) (Rows.run_reference (F := Bits) m' g')⟩

theorem claim : Cert.Claim := ⟨
  Cert.SumChips.Gen.facts, Cert.SumChipsIdeal.Gen.facts, Cert.SumChipsReferenceIdeal.Gen.facts, Cert.SumChipsReference.Gen.facts,
  Cert.SumCores.Gen.facts, Cert.SumCoresIdeal.Gen.facts, Cert.SumCoresReferenceIdeal.Gen.facts, Cert.SumCoresReference.Gen.facts,
  Cert.SumSmall.Gen.facts, Cert.SumSmallIdeal.Gen.facts, Cert.SumSmallReferenceIdeal.Gen.facts, Cert.SumSmallReference.Gen.facts,
  Cert.GatherBig.Gen.facts, Cert.GatherBigIdeal.Gen.facts, Cert.GatherBigReferenceIdeal.Gen.facts, Cert.GatherBigReference.Gen.facts,
  Cert.GatherSmall.Gen.facts, Cert.GatherSmallIdeal.Gen.facts, Cert.GatherSmallReferenceIdeal.Gen.facts, Cert.GatherSmallReference.Gen.facts,
  Cert.GatherC.Gen.facts, Cert.GatherCIdeal.Gen.facts, Cert.GatherCReferenceIdeal.Gen.facts, Cert.GatherCReference.Gen.facts,
  Cert.AdamwAdaW.Gen.facts, Cert.AdamwAdaWIdeal.Gen.facts, Cert.AdamwAdaWReferenceIdeal.Gen.facts,
  Cert.AdamwAdaB.Gen.facts, Cert.AdamwAdaBIdeal.Gen.facts, Cert.AdamwAdaBReferenceIdeal.Gen.facts,
  Cert.AdamwLnG.Gen.facts, Cert.AdamwLnGIdeal.Gen.facts, Cert.AdamwLnGReferenceIdeal.Gen.facts,
  Cert.AdamwAbWIn.Gen.facts, Cert.AdamwAbWInIdeal.Gen.facts, Cert.AdamwAbWInReferenceIdeal.Gen.facts,
  Cert.AdamwRwMu.Gen.facts, Cert.AdamwRwMuIdeal.Gen.facts, Cert.AdamwRwMuReferenceIdeal.Gen.facts,
  Cert.AdamwRwW0.Gen.facts, Cert.AdamwRwW0Ideal.Gen.facts, Cert.AdamwRwW0ReferenceIdeal.Gen.facts,
  Cert.AdamwRwWUp.Gen.facts, Cert.AdamwRwWUpIdeal.Gen.facts, Cert.AdamwRwWUpReferenceIdeal.Gen.facts,
  Cert.AdamwRwGUp.Gen.facts, Cert.AdamwRwGUpIdeal.Gen.facts, Cert.AdamwRwGUpReferenceIdeal.Gen.facts,
  Cert.AdamwRwRK.Gen.facts, Cert.AdamwRwRKIdeal.Gen.facts, Cert.AdamwRwRKReferenceIdeal.Gen.facts,
  Cert.AdamwScConvW.Gen.facts, Cert.AdamwScConvWIdeal.Gen.facts, Cert.AdamwScConvWReferenceIdeal.Gen.facts,
  Cert.AdamwAbWOut.Gen.facts, Cert.AdamwAbWOutIdeal.Gen.facts, Cert.AdamwAbWOutReferenceIdeal.Gen.facts,
  Cert.AdamwDilWQkv.Gen.facts, Cert.AdamwDilWQkvIdeal.Gen.facts, Cert.AdamwDilWQkvReferenceIdeal.Gen.facts,
  Cert.AdamwDilWOut.Gen.facts, Cert.AdamwDilWOutIdeal.Gen.facts, Cert.AdamwDilWOutReferenceIdeal.Gen.facts,
  Cert.AdamwRelBias.Gen.facts, Cert.AdamwRelBiasIdeal.Gen.facts, Cert.AdamwRelBiasReferenceIdeal.Gen.facts,
  Cert.AdamwMlpW1.Gen.facts, Cert.AdamwMlpW1Ideal.Gen.facts, Cert.AdamwMlpW1ReferenceIdeal.Gen.facts,
  Cert.AdaFwd.Gen.facts, Cert.AdaFwdIdeal.Gen.facts, Cert.AdaFwdReferenceIdeal.Gen.facts,
  Cert.AdaGrad.Gen.facts, Cert.AdaGradIdeal.Gen.facts, Cert.AdaGradReferenceIdeal.Gen.facts,
  Cert.ModIn.Gen.facts, Cert.ModInIdeal.Gen.facts, Cert.ModInReferenceIdeal.Gen.facts,
  Cert.LnMix.Gen.facts, Cert.LnMixIdeal.Gen.facts, Cert.LnMixReferenceIdeal.Gen.facts,
  Cert.MlpAct.Gen.facts, Cert.MlpActIdeal.Gen.facts, Cert.MlpActReferenceIdeal.Gen.facts,
  Cert.MlpW1.Gen.facts, Cert.MlpW1Ideal.Gen.facts, Cert.MlpW1ReferenceIdeal.Gen.facts,
  Cert.MlpW1Dx.Gen.facts, Cert.MlpW1DxIdeal.Gen.facts, Cert.MlpW1DxReferenceIdeal.Gen.facts,
  Cert.MlpW1Dw.Gen.facts, Cert.MlpW1DwIdeal.Gen.facts, Cert.MlpW1DwReferenceIdeal.Gen.facts,
  Cert.MlpW2.Gen.facts, Cert.MlpW2Ideal.Gen.facts, Cert.MlpW2ReferenceIdeal.Gen.facts,
  Cert.MlpW2Dx.Gen.facts, Cert.MlpW2DxIdeal.Gen.facts, Cert.MlpW2DxReferenceIdeal.Gen.facts,
  Cert.MlpW2Dw.Gen.facts, Cert.MlpW2DwIdeal.Gen.facts, Cert.MlpW2DwReferenceIdeal.Gen.facts,
  Cert.AbIn.Gen.facts, Cert.AbInIdeal.Gen.facts, Cert.AbInReferenceIdeal.Gen.facts,
  Cert.AbInDx.Gen.facts, Cert.AbInDxIdeal.Gen.facts, Cert.AbInDxReferenceIdeal.Gen.facts,
  Cert.AbInDw.Gen.facts, Cert.AbInDwIdeal.Gen.facts, Cert.AbInDwReferenceIdeal.Gen.facts,
  Cert.AbOut.Gen.facts, Cert.AbOutIdeal.Gen.facts, Cert.AbOutReferenceIdeal.Gen.facts,
  Cert.AbOutDx.Gen.facts, Cert.AbOutDxIdeal.Gen.facts, Cert.AbOutDxReferenceIdeal.Gen.facts,
  Cert.AbOutDw.Gen.facts, Cert.AbOutDwIdeal.Gen.facts, Cert.AbOutDwReferenceIdeal.Gen.facts,
  Cert.DilQkv.Gen.facts, Cert.DilQkvIdeal.Gen.facts, Cert.DilQkvReferenceIdeal.Gen.facts,
  Cert.DilQkvDx.Gen.facts, Cert.DilQkvDxIdeal.Gen.facts, Cert.DilQkvDxReferenceIdeal.Gen.facts,
  Cert.DilQkvDw.Gen.facts, Cert.DilQkvDwIdeal.Gen.facts, Cert.DilQkvDwReferenceIdeal.Gen.facts,
  Cert.DilOut.Gen.facts, Cert.DilOutIdeal.Gen.facts, Cert.DilOutReferenceIdeal.Gen.facts,
  Cert.DilOutDx.Gen.facts, Cert.DilOutDxIdeal.Gen.facts, Cert.DilOutDxReferenceIdeal.Gen.facts,
  Cert.DilOutDw.Gen.facts, Cert.DilOutDwIdeal.Gen.facts, Cert.DilOutDwReferenceIdeal.Gen.facts,
  Cert.LnLoss.Gen.facts, Cert.LnLossIdeal.Gen.facts, Cert.LnLossReferenceIdeal.Gen.facts,
  Cert.Attention0.Gen.facts, Cert.Attention0Ideal.Gen.facts, Cert.Attention0ReferenceIdeal.Gen.facts,
  chips_frame, chips_frame_ideal, chips_reference_frame, chips_reference_frame_bits,
  cores_frame, cores_frame_ideal, cores_reference_frame, cores_reference_frame_bits,
  devices_frame, devices_frame_ideal, devices_reference_frame, devices_reference_frame_bits,
  big_frame, big_frame_ideal, big_reference_frame, big_reference_frame_bits,
  small_frame, small_frame_ideal, small_reference_frame, small_reference_frame_bits,
  rows_frame, rows_frame_ideal, rows_reference_frame, rows_reference_frame_bits,
  adaW_frame, adaW_frame_ideal, adaW_reference_frame,
  adaB_frame, adaB_frame_ideal, adaB_reference_frame,
  lnG_frame, lnG_frame_ideal, lnG_reference_frame,
  abWIn_frame, abWIn_frame_ideal, abWIn_reference_frame,
  rwMu_frame, rwMu_frame_ideal, rwMu_reference_frame,
  rwW0_frame, rwW0_frame_ideal, rwW0_reference_frame,
  rwWUp_frame, rwWUp_frame_ideal, rwWUp_reference_frame,
  rwGUp_frame, rwGUp_frame_ideal, rwGUp_reference_frame,
  rwRK_frame, rwRK_frame_ideal, rwRK_reference_frame,
  scConvW_frame, scConvW_frame_ideal, scConvW_reference_frame,
  abWOut_frame, abWOut_frame_ideal, abWOut_reference_frame,
  dilWQkv_frame, dilWQkv_frame_ideal, dilWQkv_reference_frame,
  dilWOut_frame, dilWOut_frame_ideal, dilWOut_reference_frame,
  relBias_frame, relBias_frame_ideal, relBias_reference_frame,
  mlpW1_frame, mlpW1_frame_ideal, mlpW1_reference_frame,
  Modulation.frame, Modulation.frame_ideal, Modulation.reference_frame,
  WeightGradient.frame, WeightGradient.frame_ideal, WeightGradient.reference_frame,
  ModulatedInput.frame, ModulatedInput.frame_ideal, ModulatedInput.reference_frame,
  NormedResidual.frame, NormedResidual.frame_ideal, NormedResidual.reference_frame,
  Rectifier.frame, Rectifier.frame_ideal, Rectifier.reference_frame,
  Linear.Inner.frame, Linear.Inner.frame_ideal, Linear.Inner.reference_frame,
  LinearBack.InnerRows.frame, LinearBack.InnerRows.frame_ideal, LinearBack.InnerRows.reference_frame,
  LinearBack.InnerMatrix.frame, LinearBack.InnerMatrix.frame_ideal, LinearBack.InnerMatrix.reference_frame,
  Linear.Outer.frame, Linear.Outer.frame_ideal, Linear.Outer.reference_frame,
  LinearBack.OuterRows.frame, LinearBack.OuterRows.frame_ideal, LinearBack.OuterRows.reference_frame,
  LinearBack.OuterMatrix.frame, LinearBack.OuterMatrix.frame_ideal, LinearBack.OuterMatrix.reference_frame,
  Linear.MixedIn.frame, Linear.MixedIn.frame_ideal, Linear.MixedIn.reference_frame,
  LinearBack.MixedInRows.frame, LinearBack.MixedInRows.frame_ideal, LinearBack.MixedInRows.reference_frame,
  LinearBack.MixedInMatrix.frame, LinearBack.MixedInMatrix.frame_ideal, LinearBack.MixedInMatrix.reference_frame,
  Linear.MixedOut.frame, Linear.MixedOut.frame_ideal, Linear.MixedOut.reference_frame,
  LinearBack.MixedOutRows.frame, LinearBack.MixedOutRows.frame_ideal, LinearBack.MixedOutRows.reference_frame,
  LinearBack.MixedOutMatrix.frame, LinearBack.MixedOutMatrix.frame_ideal, LinearBack.MixedOutMatrix.reference_frame,
  Linear.Queries.frame, Linear.Queries.frame_ideal, Linear.Queries.reference_frame,
  LinearBack.QueriesRows.frame, LinearBack.QueriesRows.frame_ideal, LinearBack.QueriesRows.reference_frame,
  LinearBack.QueriesMatrix.frame, LinearBack.QueriesMatrix.frame_ideal, LinearBack.QueriesMatrix.reference_frame,
  Linear.Merged.frame, Linear.Merged.frame_ideal, Linear.Merged.reference_frame,
  LinearBack.MergedRows.frame, LinearBack.MergedRows.frame_ideal, LinearBack.MergedRows.reference_frame,
  LinearBack.MergedMatrix.frame, LinearBack.MergedMatrix.frame_ideal, LinearBack.MergedMatrix.reference_frame,
  Loss.frame, Loss.frame_ideal, Loss.reference_frame,
  AttentionNear.frame, AttentionNear.frame_ideal, AttentionNear.reference_frame,
  trivial, chips_value, chips_bits,
  trivial, cores_value, cores_bits,
  trivial, devices_value, devices_bits,
  trivial, big_value, big_bits,
  trivial, small_value, small_bits,
  trivial, rows_value, rows_bits,
  adaW_preserves, adaW_value,
  adaB_preserves, adaB_value,
  lnG_preserves, lnG_value,
  abWIn_preserves, abWIn_value,
  rwMu_preserves, rwMu_value,
  rwW0_preserves, rwW0_value,
  rwWUp_preserves, rwWUp_value,
  rwGUp_preserves, rwGUp_value,
  rwRK_preserves, rwRK_value,
  scConvW_preserves, scConvW_value,
  abWOut_preserves, abWOut_value,
  dilWQkv_preserves, dilWQkv_value,
  dilWOut_preserves, dilWOut_value,
  relBias_preserves, relBias_value,
  mlpW1_preserves, mlpW1_value,
  Modulation.preserves, Modulation.value,
  WeightGradient.preserves, WeightGradient.value,
  ModulatedInput.preserves, ModulatedInput.value,
  NormedResidual.preserves, NormedResidual.value,
  Rectifier.preserves, Rectifier.value,
  Linear.Inner.preserves, Linear.Inner.value,
  LinearBack.InnerRows.preserves, LinearBack.InnerRows.value,
  LinearBack.InnerMatrix.preserves, LinearBack.InnerMatrix.value,
  Linear.Outer.preserves, Linear.Outer.value,
  LinearBack.OuterRows.preserves, LinearBack.OuterRows.value,
  LinearBack.OuterMatrix.preserves, LinearBack.OuterMatrix.value,
  Linear.MixedIn.preserves, Linear.MixedIn.value,
  LinearBack.MixedInRows.preserves, LinearBack.MixedInRows.value,
  LinearBack.MixedInMatrix.preserves, LinearBack.MixedInMatrix.value,
  Linear.MixedOut.preserves, Linear.MixedOut.value,
  LinearBack.MixedOutRows.preserves, LinearBack.MixedOutRows.value,
  LinearBack.MixedOutMatrix.preserves, LinearBack.MixedOutMatrix.value,
  Linear.Queries.preserves, Linear.Queries.value,
  LinearBack.QueriesRows.preserves, LinearBack.QueriesRows.value,
  LinearBack.QueriesMatrix.preserves, LinearBack.QueriesMatrix.value,
  Linear.Merged.preserves, Linear.Merged.value,
  LinearBack.MergedRows.preserves, LinearBack.MergedRows.value,
  LinearBack.MergedMatrix.preserves, LinearBack.MergedMatrix.value,
  Loss.preserves, Loss.value,
  AttentionNear.preserves, AttentionNear.value⟩

end Cert.Proof

end
